-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DUp (m : (ℓ : Loc Cert.DUp.nD Cert.DUp.τ Cert.DUp.sig) → Buf (Elt Bits) ℓ) : Prop :=
  True

def Pre_DUpIdeal (m : (ℓ : Loc Cert.DUpIdeal.nD Cert.DUpIdeal.τ Cert.DUpIdeal.sig) → Buf (Elt Ideal) ℓ) : Prop :=
  True

def Pre_DUpRefIdeal (m : (ℓ : Loc Cert.DUpRefIdeal.nD Cert.DUpRefIdeal.τ Cert.DUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Linear (m : (ℓ : Loc Cert.Linear.nD Cert.Linear.τ Cert.Linear.sig) → Buf (Elt Bits) ℓ) : Prop :=
  True

def Pre_LinearIdeal (m : (ℓ : Loc Cert.LinearIdeal.nD Cert.LinearIdeal.τ Cert.LinearIdeal.sig) → Buf (Elt Ideal) ℓ) : Prop :=
  True

def Pre_LinearRefIdeal (m : (ℓ : Loc Cert.LinearRefIdeal.nD Cert.LinearRefIdeal.τ Cert.LinearRefIdeal.sig) → Buf (Elt Ideal) ℓ) : Prop :=
  True

def Pre_LinearDx (m : (ℓ : Loc Cert.LinearDx.nD Cert.LinearDx.τ Cert.LinearDx.sig) → Buf (Elt Bits) ℓ) : Prop :=
  True

def Pre_LinearDxIdeal (m : (ℓ : Loc Cert.LinearDxIdeal.nD Cert.LinearDxIdeal.τ Cert.LinearDxIdeal.sig) → Buf (Elt Ideal) ℓ) : Prop :=
  True

def Pre_LinearDxRefIdeal (m : (ℓ : Loc Cert.LinearDxRefIdeal.nD Cert.LinearDxRefIdeal.τ Cert.LinearDxRefIdeal.sig) → Buf (Elt Ideal) ℓ) : Prop :=
  True

def Pre_LinearDw (m : (ℓ : Loc Cert.LinearDw.nD Cert.LinearDw.τ Cert.LinearDw.sig) → Buf (Elt Bits) ℓ) : Prop :=
  True

def Pre_LinearDwIdeal (m : (ℓ : Loc Cert.LinearDwIdeal.nD Cert.LinearDwIdeal.τ Cert.LinearDwIdeal.sig) → Buf (Elt Ideal) ℓ) : Prop :=
  True

def Pre_LinearDwRefIdeal (m : (ℓ : Loc Cert.LinearDwRefIdeal.nD Cert.LinearDwRefIdeal.τ Cert.LinearDwRefIdeal.sig) → Buf (Elt Ideal) ℓ) : Prop :=
  True

def Pre_LinearA (m : (ℓ : Loc Cert.LinearA.nD Cert.LinearA.τ Cert.LinearA.sig) → Buf (Elt Bits) ℓ) : Prop :=
  True

def Pre_LinearAIdeal (m : (ℓ : Loc Cert.LinearAIdeal.nD Cert.LinearAIdeal.τ Cert.LinearAIdeal.sig) → Buf (Elt Ideal) ℓ) : Prop :=
  True

def Pre_LinearARefIdeal (m : (ℓ : Loc Cert.LinearARefIdeal.nD Cert.LinearARefIdeal.τ Cert.LinearARefIdeal.sig) → Buf (Elt Ideal) ℓ) : Prop :=
  True

def Pre_LinearADx (m : (ℓ : Loc Cert.LinearADx.nD Cert.LinearADx.τ Cert.LinearADx.sig) → Buf (Elt Bits) ℓ) : Prop :=
  True

def Pre_LinearADxIdeal (m : (ℓ : Loc Cert.LinearADxIdeal.nD Cert.LinearADxIdeal.τ Cert.LinearADxIdeal.sig) → Buf (Elt Ideal) ℓ) : Prop :=
  True

def Pre_LinearADxRefIdeal (m : (ℓ : Loc Cert.LinearADxRefIdeal.nD Cert.LinearADxRefIdeal.τ Cert.LinearADxRefIdeal.sig) → Buf (Elt Ideal) ℓ) : Prop :=
  True

def Pre_LinearADw (m : (ℓ : Loc Cert.LinearADw.nD Cert.LinearADw.τ Cert.LinearADw.sig) → Buf (Elt Bits) ℓ) : Prop :=
  True

def Pre_LinearADwIdeal (m : (ℓ : Loc Cert.LinearADwIdeal.nD Cert.LinearADwIdeal.τ Cert.LinearADwIdeal.sig) → Buf (Elt Ideal) ℓ) : Prop :=
  True

def Pre_LinearADwRefIdeal (m : (ℓ : Loc Cert.LinearADwRefIdeal.nD Cert.LinearADwRefIdeal.τ Cert.LinearADwRefIdeal.sig) → Buf (Elt Ideal) ℓ) : Prop :=
  True

def Pre_LinearKv (m : (ℓ : Loc Cert.LinearKv.nD Cert.LinearKv.τ Cert.LinearKv.sig) → Buf (Elt Bits) ℓ) : Prop :=
  True

def Pre_LinearKvIdeal (m : (ℓ : Loc Cert.LinearKvIdeal.nD Cert.LinearKvIdeal.τ Cert.LinearKvIdeal.sig) → Buf (Elt Ideal) ℓ) : Prop :=
  True

def Pre_LinearKvRefIdeal (m : (ℓ : Loc Cert.LinearKvRefIdeal.nD Cert.LinearKvRefIdeal.τ Cert.LinearKvRefIdeal.sig) → Buf (Elt Ideal) ℓ) : Prop :=
  True

def Pre_LinearKvDx (m : (ℓ : Loc Cert.LinearKvDx.nD Cert.LinearKvDx.τ Cert.LinearKvDx.sig) → Buf (Elt Bits) ℓ) : Prop :=
  True

def Pre_LinearKvDxIdeal (m : (ℓ : Loc Cert.LinearKvDxIdeal.nD Cert.LinearKvDxIdeal.τ Cert.LinearKvDxIdeal.sig) → Buf (Elt Ideal) ℓ) : Prop :=
  True

def Pre_LinearKvDxRefIdeal (m : (ℓ : Loc Cert.LinearKvDxRefIdeal.nD Cert.LinearKvDxRefIdeal.τ Cert.LinearKvDxRefIdeal.sig) → Buf (Elt Ideal) ℓ) : Prop :=
  True

def Pre_LinearKvDw (m : (ℓ : Loc Cert.LinearKvDw.nD Cert.LinearKvDw.τ Cert.LinearKvDw.sig) → Buf (Elt Bits) ℓ) : Prop :=
  True

def Pre_LinearKvDwIdeal (m : (ℓ : Loc Cert.LinearKvDwIdeal.nD Cert.LinearKvDwIdeal.τ Cert.LinearKvDwIdeal.sig) → Buf (Elt Ideal) ℓ) : Prop :=
  True

def Pre_LinearKvDwRefIdeal (m : (ℓ : Loc Cert.LinearKvDwRefIdeal.nD Cert.LinearKvDwRefIdeal.τ Cert.LinearKvDwRefIdeal.sig) → Buf (Elt Ideal) ℓ) : Prop :=
  True

def Pre_LinearMem (m : (ℓ : Loc Cert.LinearMem.nD Cert.LinearMem.τ Cert.LinearMem.sig) → Buf (Elt Bits) ℓ) : Prop :=
  True

def Pre_LinearMemIdeal (m : (ℓ : Loc Cert.LinearMemIdeal.nD Cert.LinearMemIdeal.τ Cert.LinearMemIdeal.sig) → Buf (Elt Ideal) ℓ) : Prop :=
  True

def Pre_LinearMemRefIdeal (m : (ℓ : Loc Cert.LinearMemRefIdeal.nD Cert.LinearMemRefIdeal.τ Cert.LinearMemRefIdeal.sig) → Buf (Elt Ideal) ℓ) : Prop :=
  True

def Pre_LinearMemDw (m : (ℓ : Loc Cert.LinearMemDw.nD Cert.LinearMemDw.τ Cert.LinearMemDw.sig) → Buf (Elt Bits) ℓ) : Prop :=
  True

def Pre_LinearMemDwIdeal (m : (ℓ : Loc Cert.LinearMemDwIdeal.nD Cert.LinearMemDwIdeal.τ Cert.LinearMemDwIdeal.sig) → Buf (Elt Ideal) ℓ) : Prop :=
  True

def Pre_LinearMemDwRefIdeal (m : (ℓ : Loc Cert.LinearMemDwRefIdeal.nD Cert.LinearMemDwRefIdeal.τ Cert.LinearMemDwRefIdeal.sig) → Buf (Elt Ideal) ℓ) : Prop :=
  True

def Pre_SumChips (m : (ℓ : Loc Cert.SumChips.nD Cert.SumChips.τ Cert.SumChips.sig) → Buf (Elt Bits) ℓ) : Prop :=
  True

def Pre_SumChipsIdeal (m : (ℓ : Loc Cert.SumChipsIdeal.nD Cert.SumChipsIdeal.τ Cert.SumChipsIdeal.sig) → Buf (Elt Ideal) ℓ) : Prop :=
  True

def Pre_SumChipsRefIdeal (m : (ℓ : Loc Cert.SumChipsRefIdeal.nD Cert.SumChipsRefIdeal.τ Cert.SumChipsRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_AdamA (m : (ℓ : Loc Cert.AdamA.nD Cert.AdamA.τ Cert.AdamA.sig) → Buf (Elt Bits) ℓ) : Prop :=
  True

def Pre_AdamAIdeal (m : (ℓ : Loc Cert.AdamAIdeal.nD Cert.AdamAIdeal.τ Cert.AdamAIdeal.sig) → Buf (Elt Ideal) ℓ) : Prop :=
  True

def Pre_AdamARefIdeal (m : (ℓ : Loc Cert.AdamARefIdeal.nD Cert.AdamARefIdeal.τ Cert.AdamARefIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_ln_finite [hPre_ln_finite : Cert.Pre_ln_finite.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_ln_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4))).1 = (fun _ => 1#1)
    ∧ (Cert.Pre_ln_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4))).2 = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_ln_finite [hPre_ln_finite : Cert.Pre_ln_finite.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_ln_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4))).1 = (fun _ => 1#1)
    ∧ (Cert.Pre_ln_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4))).2 = (fun _ => 1#1)

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_gate_finite [hPre_gate_finite : Cert.Pre_gate_finite.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_gate_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).1 = (fun _ => 1#1)
    ∧ (Cert.Pre_gate_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2 = (fun _ => 1#1)

def Pre_GateBwdRefIdeal (m : (ℓ : Loc Cert.GateBwdRefIdeal.nD Cert.GateBwdRefIdeal.τ Cert.GateBwdRefIdeal.sig) → Buf (Elt Ideal) ℓ) : Prop :=
  True

def Pre_GateBwdRefIdeal_gate_finite [hPre_gate_finite : Cert.Pre_gate_finite.Facts] (m : (ℓ : Loc Cert.GateBwdRefIdeal.nD Cert.GateBwdRefIdeal.τ Cert.GateBwdRefIdeal.sig) → Buf (Elt Ideal) ℓ) : Prop :=
  ∀ c : Dev Cert.GateBwdRefIdeal.nD,
    (Cert.Pre_gate_finite.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3))).1 = (fun _ => 1#1)
    ∧ (Cert.Pre_gate_finite.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DUp [hDUp : Cert.DUp.Facts] : Prop :=
  ∀ (m : (ℓ : Loc Cert.DUp.nD Cert.DUp.τ Cert.DUp.sig) → Buf (Elt Bits) ℓ) (g : Dev Cert.DUp.nD → PrngReg), Pre_DUp m →
    θ_run (Cert.DUp.defs (F := Bits)) (onTc (τ := Cert.DUp.τ) (Cert.DUp.main (F := Bits))) ⟨m, fun _ => 0, g⟩ (fun r => (∀ c : Dev Cert.DUp.nD,
      r.2.mem ((c.tc : Thread Cert.DUp.nD Cert.DUp.τ).loc Cert.DUp.main_arg0) = m ((c.tc : Thread Cert.DUp.nD Cert.DUp.τ).loc Cert.DUp.main_arg0)
      ∧ r.2.mem ((c.tc : Thread Cert.DUp.nD Cert.DUp.τ).loc Cert.DUp.main_arg1) = m ((c.tc : Thread Cert.DUp.nD Cert.DUp.τ).loc Cert.DUp.main_arg1)
      ∧ r.2.mem ((c.tc : Thread Cert.DUp.nD Cert.DUp.τ).loc Cert.DUp.main_arg2) = m ((c.tc : Thread Cert.DUp.nD Cert.DUp.τ).loc Cert.DUp.main_arg2)
      ∧ r.2.mem ((c.tc : Thread Cert.DUp.nD Cert.DUp.τ).loc Cert.DUp.main_arg3) = m ((c.tc : Thread Cert.DUp.nD Cert.DUp.τ).loc Cert.DUp.main_arg3))
      ∧ r.2.sem = fun _ => 0)

def quiescent_DUpIdeal [hDUpIdeal : Cert.DUpIdeal.Facts] : Prop :=
  ∀ (m : (ℓ : Loc Cert.DUpIdeal.nD Cert.DUpIdeal.τ Cert.DUpIdeal.sig) → Buf (Elt Ideal) ℓ) (g : Dev Cert.DUpIdeal.nD → PrngReg), Pre_DUpIdeal m →
    θ_run (Cert.DUpIdeal.defs (F := Ideal)) (onTc (τ := Cert.DUpIdeal.τ) (Cert.DUpIdeal.main (F := Ideal))) ⟨m, fun _ => 0, g⟩ (fun r => (∀ c : Dev Cert.DUpIdeal.nD,
      r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
      ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1)
      ∧ r.2.mem ((c.tc : Thread Cert.DUpIdeal.nD Cert.DUpIdeal.τ).loc Cert.DUpIdeal.main_arg2) = m ((c.tc : Thread Cert.DUpIdeal.nD Cert.DUpIdeal.τ).loc Cert.DUpIdeal.main_arg2)
      ∧ r.2.mem ((c.tc : Thread Cert.DUpIdeal.nD Cert.DUpIdeal.τ).loc Cert.DUpIdeal.main_arg3) = m ((c.tc : Thread Cert.DUpIdeal.nD Cert.DUpIdeal.τ).loc Cert.DUpIdeal.main_arg3))
      ∧ r.2.sem = fun _ => 0)

def quiescent_DUpRefIdeal [hDUpRefIdeal : Cert.DUpRefIdeal.Facts] : Prop :=
  ∀ (m : (ℓ : Loc Cert.DUpRefIdeal.nD Cert.DUpRefIdeal.τ Cert.DUpRefIdeal.sig) → Buf (Elt Ideal) ℓ) (g : Dev Cert.DUpRefIdeal.nD → PrngReg), Pre_DUpRefIdeal m →
    θ_run (Cert.DUpRefIdeal.defs (F := Ideal)) (onTc (τ := Cert.DUpRefIdeal.τ) (Cert.DUpRefIdeal.main (F := Ideal))) ⟨m, fun _ => 0, g⟩ (fun r => (∀ c : Dev Cert.DUpRefIdeal.nD,
      r.2.mem ((c.tc : Thread Cert.DUpRefIdeal.nD Cert.DUpRefIdeal.τ).loc Cert.DUpRefIdeal.main_arg0) = m ((c.tc : Thread Cert.DUpRefIdeal.nD Cert.DUpRefIdeal.τ).loc Cert.DUpRefIdeal.main_arg0)
      ∧ r.2.mem ((c.tc : Thread Cert.DUpRefIdeal.nD Cert.DUpRefIdeal.τ).loc Cert.DUpRefIdeal.main_arg1) = m ((c.tc : Thread Cert.DUpRefIdeal.nD Cert.DUpRefIdeal.τ).loc Cert.DUpRefIdeal.main_arg1)
      ∧ r.2.mem ((c.tc : Thread Cert.DUpRefIdeal.nD Cert.DUpRefIdeal.τ).loc Cert.DUpRefIdeal.main_arg2) = m ((c.tc : Thread Cert.DUpRefIdeal.nD Cert.DUpRefIdeal.τ).loc Cert.DUpRefIdeal.main_arg2)
      ∧ r.2.mem ((c.tc : Thread Cert.DUpRefIdeal.nD Cert.DUpRefIdeal.τ).loc Cert.DUpRefIdeal.main_arg3) = m ((c.tc : Thread Cert.DUpRefIdeal.nD Cert.DUpRefIdeal.τ).loc Cert.DUpRefIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2)
      ∧ r.2.mem ((c.tc : Thread Cert.DwDown.nD Cert.DwDown.τ).loc Cert.DwDown.main_arg3) = m ((c.tc : Thread Cert.DwDown.nD Cert.DwDown.τ).loc Cert.DwDown.main_arg3))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
      ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1)
      ∧ r.2.mem ((c.tc : Thread Cert.DwDownRefIdeal.nD Cert.DwDownRefIdeal.τ).loc Cert.DwDownRefIdeal.main_arg2) = m ((c.tc : Thread Cert.DwDownRefIdeal.nD Cert.DwDownRefIdeal.τ).loc Cert.DwDownRefIdeal.main_arg2)
      ∧ r.2.mem ((c.tc : Thread Cert.DwDownRefIdeal.nD Cert.DwDownRefIdeal.τ).loc Cert.DwDownRefIdeal.main_arg3) = m ((c.tc : Thread Cert.DwDownRefIdeal.nD Cert.DwDownRefIdeal.τ).loc Cert.DwDownRefIdeal.main_arg3))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2)
      ∧ r.2.mem ((c.tc : Thread Cert.DwUp.nD Cert.DwUp.τ).loc Cert.DwUp.main_arg3) = m ((c.tc : Thread Cert.DwUp.nD Cert.DwUp.τ).loc Cert.DwUp.main_arg3))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2)
      ∧ r.2.mem ((c.tc : Thread Cert.DwUpIdeal.nD Cert.DwUpIdeal.τ).loc Cert.DwUpIdeal.main_arg3) = m ((c.tc : Thread Cert.DwUpIdeal.nD Cert.DwUpIdeal.τ).loc Cert.DwUpIdeal.main_arg3))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2)
      ∧ r.2.mem ((c.tc : Thread Cert.DwUpRefIdeal.nD Cert.DwUpRefIdeal.τ).loc Cert.DwUpRefIdeal.main_arg3) = m ((c.tc : Thread Cert.DwUpRefIdeal.nD Cert.DwUpRefIdeal.τ).loc Cert.DwUpRefIdeal.main_arg3))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3))
      ∧ r.2.sem = fun _ => 0)

def quiescent_Linear [hLinear : Cert.Linear.Facts] : Prop :=
  ∀ (m : (ℓ : Loc Cert.Linear.nD Cert.Linear.τ Cert.Linear.sig) → Buf (Elt Bits) ℓ) (g : Dev Cert.Linear.nD → PrngReg), Pre_Linear m →
    θ_run (Cert.Linear.defs (F := Bits)) (onTc (τ := Cert.Linear.τ) (Cert.Linear.main (F := Bits))) ⟨m, fun _ => 0, g⟩ (fun r => (∀ c : Dev Cert.Linear.nD,
      r.2.mem ((c.tc : Thread Cert.Linear.nD Cert.Linear.τ).loc Cert.Linear.main_arg0) = m ((c.tc : Thread Cert.Linear.nD Cert.Linear.τ).loc Cert.Linear.main_arg0)
      ∧ r.2.mem ((c.tc : Thread Cert.Linear.nD Cert.Linear.τ).loc Cert.Linear.main_arg1) = m ((c.tc : Thread Cert.Linear.nD Cert.Linear.τ).loc Cert.Linear.main_arg1))
      ∧ r.2.sem = fun _ => 0)

def quiescent_LinearIdeal [hLinearIdeal : Cert.LinearIdeal.Facts] : Prop :=
  ∀ (m : (ℓ : Loc Cert.LinearIdeal.nD Cert.LinearIdeal.τ Cert.LinearIdeal.sig) → Buf (Elt Ideal) ℓ) (g : Dev Cert.LinearIdeal.nD → PrngReg), Pre_LinearIdeal m →
    θ_run (Cert.LinearIdeal.defs (F := Ideal)) (onTc (τ := Cert.LinearIdeal.τ) (Cert.LinearIdeal.main (F := Ideal))) ⟨m, fun _ => 0, g⟩ (fun r => (∀ c : Dev Cert.LinearIdeal.nD,
      r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
      ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1))
      ∧ r.2.sem = fun _ => 0)

def quiescent_LinearRefIdeal [hLinearRefIdeal : Cert.LinearRefIdeal.Facts] : Prop :=
  ∀ (m : (ℓ : Loc Cert.LinearRefIdeal.nD Cert.LinearRefIdeal.τ Cert.LinearRefIdeal.sig) → Buf (Elt Ideal) ℓ) (g : Dev Cert.LinearRefIdeal.nD → PrngReg), Pre_LinearRefIdeal m →
    θ_run (Cert.LinearRefIdeal.defs (F := Ideal)) (onTc (τ := Cert.LinearRefIdeal.τ) (Cert.LinearRefIdeal.main (F := Ideal))) ⟨m, fun _ => 0, g⟩ (fun r => (∀ c : Dev Cert.LinearRefIdeal.nD,
      r.2.mem ((c.tc : Thread Cert.LinearRefIdeal.nD Cert.LinearRefIdeal.τ).loc Cert.LinearRefIdeal.main_arg0) = m ((c.tc : Thread Cert.LinearRefIdeal.nD Cert.LinearRefIdeal.τ).loc Cert.LinearRefIdeal.main_arg0)
      ∧ r.2.mem ((c.tc : Thread Cert.LinearRefIdeal.nD Cert.LinearRefIdeal.τ).loc Cert.LinearRefIdeal.main_arg1) = m ((c.tc : Thread Cert.LinearRefIdeal.nD Cert.LinearRefIdeal.τ).loc Cert.LinearRefIdeal.main_arg1))
      ∧ r.2.sem = fun _ => 0)

def quiescent_LinearDx [hLinearDx : Cert.LinearDx.Facts] : Prop :=
  ∀ (m : (ℓ : Loc Cert.LinearDx.nD Cert.LinearDx.τ Cert.LinearDx.sig) → Buf (Elt Bits) ℓ) (g : Dev Cert.LinearDx.nD → PrngReg), Pre_LinearDx m →
    θ_run (Cert.LinearDx.defs (F := Bits)) (onTc (τ := Cert.LinearDx.τ) (Cert.LinearDx.main (F := Bits))) ⟨m, fun _ => 0, g⟩ (fun r => (∀ c : Dev Cert.LinearDx.nD,
      r.2.mem ((c.tc : Thread Cert.LinearDx.nD Cert.LinearDx.τ).loc Cert.LinearDx.main_arg0) = m ((c.tc : Thread Cert.LinearDx.nD Cert.LinearDx.τ).loc Cert.LinearDx.main_arg0)
      ∧ r.2.mem ((c.tc : Thread Cert.LinearDx.nD Cert.LinearDx.τ).loc Cert.LinearDx.main_arg1) = m ((c.tc : Thread Cert.LinearDx.nD Cert.LinearDx.τ).loc Cert.LinearDx.main_arg1)
      ∧ r.2.mem ((c.tc : Thread Cert.LinearDx.nD Cert.LinearDx.τ).loc Cert.LinearDx.main_arg2) = m ((c.tc : Thread Cert.LinearDx.nD Cert.LinearDx.τ).loc Cert.LinearDx.main_arg2))
      ∧ r.2.sem = fun _ => 0)

def quiescent_LinearDxIdeal [hLinearDxIdeal : Cert.LinearDxIdeal.Facts] : Prop :=
  ∀ (m : (ℓ : Loc Cert.LinearDxIdeal.nD Cert.LinearDxIdeal.τ Cert.LinearDxIdeal.sig) → Buf (Elt Ideal) ℓ) (g : Dev Cert.LinearDxIdeal.nD → PrngReg), Pre_LinearDxIdeal m →
    θ_run (Cert.LinearDxIdeal.defs (F := Ideal)) (onTc (τ := Cert.LinearDxIdeal.τ) (Cert.LinearDxIdeal.main (F := Ideal))) ⟨m, fun _ => 0, g⟩ (fun r => (∀ c : Dev Cert.LinearDxIdeal.nD,
      r.2.mem ((c.tc : Thread Cert.LinearDxIdeal.nD Cert.LinearDxIdeal.τ).loc Cert.LinearDxIdeal.main_arg0) = m ((c.tc : Thread Cert.LinearDxIdeal.nD Cert.LinearDxIdeal.τ).loc Cert.LinearDxIdeal.main_arg0)
      ∧ r.2.mem ((c.tc : Thread Cert.LinearDxIdeal.nD Cert.LinearDxIdeal.τ).loc Cert.LinearDxIdeal.main_arg1) = m ((c.tc : Thread Cert.LinearDxIdeal.nD Cert.LinearDxIdeal.τ).loc Cert.LinearDxIdeal.main_arg1)
      ∧ r.2.mem ((c.tc : Thread Cert.LinearDxIdeal.nD Cert.LinearDxIdeal.τ).loc Cert.LinearDxIdeal.main_arg2) = m ((c.tc : Thread Cert.LinearDxIdeal.nD Cert.LinearDxIdeal.τ).loc Cert.LinearDxIdeal.main_arg2))
      ∧ r.2.sem = fun _ => 0)

def quiescent_LinearDxRefIdeal [hLinearDxRefIdeal : Cert.LinearDxRefIdeal.Facts] : Prop :=
  ∀ (m : (ℓ : Loc Cert.LinearDxRefIdeal.nD Cert.LinearDxRefIdeal.τ Cert.LinearDxRefIdeal.sig) → Buf (Elt Ideal) ℓ) (g : Dev Cert.LinearDxRefIdeal.nD → PrngReg), Pre_LinearDxRefIdeal m →
    θ_run (Cert.LinearDxRefIdeal.defs (F := Ideal)) (onTc (τ := Cert.LinearDxRefIdeal.τ) (Cert.LinearDxRefIdeal.main (F := Ideal))) ⟨m, fun _ => 0, g⟩ (fun r => (∀ c : Dev Cert.LinearDxRefIdeal.nD,
      r.2.mem ((c.tc : Thread Cert.LinearDxRefIdeal.nD Cert.LinearDxRefIdeal.τ).loc Cert.LinearDxRefIdeal.main_arg0) = m ((c.tc : Thread Cert.LinearDxRefIdeal.nD Cert.LinearDxRefIdeal.τ).loc Cert.LinearDxRefIdeal.main_arg0)
      ∧ r.2.mem ((c.tc : Thread Cert.LinearDxRefIdeal.nD Cert.LinearDxRefIdeal.τ).loc Cert.LinearDxRefIdeal.main_arg1) = m ((c.tc : Thread Cert.LinearDxRefIdeal.nD Cert.LinearDxRefIdeal.τ).loc Cert.LinearDxRefIdeal.main_arg1)
      ∧ r.2.mem ((c.tc : Thread Cert.LinearDxRefIdeal.nD Cert.LinearDxRefIdeal.τ).loc Cert.LinearDxRefIdeal.main_arg2) = m ((c.tc : Thread Cert.LinearDxRefIdeal.nD Cert.LinearDxRefIdeal.τ).loc Cert.LinearDxRefIdeal.main_arg2))
      ∧ r.2.sem = fun _ => 0)

def quiescent_LinearDw [hLinearDw : Cert.LinearDw.Facts] : Prop :=
  ∀ (m : (ℓ : Loc Cert.LinearDw.nD Cert.LinearDw.τ Cert.LinearDw.sig) → Buf (Elt Bits) ℓ) (g : Dev Cert.LinearDw.nD → PrngReg), Pre_LinearDw m →
    θ_run (Cert.LinearDw.defs (F := Bits)) (onTc (τ := Cert.LinearDw.τ) (Cert.LinearDw.main (F := Bits))) ⟨m, fun _ => 0, g⟩ (fun r => (∀ c : Dev Cert.LinearDw.nD,
      r.2.mem ((c.tc : Thread Cert.LinearDw.nD Cert.LinearDw.τ).loc Cert.LinearDw.main_arg0) = m ((c.tc : Thread Cert.LinearDw.nD Cert.LinearDw.τ).loc Cert.LinearDw.main_arg0)
      ∧ r.2.mem ((c.tc : Thread Cert.LinearDw.nD Cert.LinearDw.τ).loc Cert.LinearDw.main_arg1) = m ((c.tc : Thread Cert.LinearDw.nD Cert.LinearDw.τ).loc Cert.LinearDw.main_arg1)
      ∧ r.2.mem ((c.tc : Thread Cert.LinearDw.nD Cert.LinearDw.τ).loc Cert.LinearDw.main_arg2) = m ((c.tc : Thread Cert.LinearDw.nD Cert.LinearDw.τ).loc Cert.LinearDw.main_arg2))
      ∧ r.2.sem = fun _ => 0)

def quiescent_LinearDwIdeal [hLinearDwIdeal : Cert.LinearDwIdeal.Facts] : Prop :=
  ∀ (m : (ℓ : Loc Cert.LinearDwIdeal.nD Cert.LinearDwIdeal.τ Cert.LinearDwIdeal.sig) → Buf (Elt Ideal) ℓ) (g : Dev Cert.LinearDwIdeal.nD → PrngReg), Pre_LinearDwIdeal m →
    θ_run (Cert.LinearDwIdeal.defs (F := Ideal)) (onTc (τ := Cert.LinearDwIdeal.τ) (Cert.LinearDwIdeal.main (F := Ideal))) ⟨m, fun _ => 0, g⟩ (fun r => (∀ c : Dev Cert.LinearDwIdeal.nD,
      r.2.mem ((c.tc : Thread Cert.LinearDwIdeal.nD Cert.LinearDwIdeal.τ).loc Cert.LinearDwIdeal.main_arg0) = m ((c.tc : Thread Cert.LinearDwIdeal.nD Cert.LinearDwIdeal.τ).loc Cert.LinearDwIdeal.main_arg0)
      ∧ r.2.mem ((c.tc : Thread Cert.LinearDwIdeal.nD Cert.LinearDwIdeal.τ).loc Cert.LinearDwIdeal.main_arg1) = m ((c.tc : Thread Cert.LinearDwIdeal.nD Cert.LinearDwIdeal.τ).loc Cert.LinearDwIdeal.main_arg1)
      ∧ r.2.mem ((c.tc : Thread Cert.LinearDwIdeal.nD Cert.LinearDwIdeal.τ).loc Cert.LinearDwIdeal.main_arg2) = m ((c.tc : Thread Cert.LinearDwIdeal.nD Cert.LinearDwIdeal.τ).loc Cert.LinearDwIdeal.main_arg2))
      ∧ r.2.sem = fun _ => 0)

def quiescent_LinearDwRefIdeal [hLinearDwRefIdeal : Cert.LinearDwRefIdeal.Facts] : Prop :=
  ∀ (m : (ℓ : Loc Cert.LinearDwRefIdeal.nD Cert.LinearDwRefIdeal.τ Cert.LinearDwRefIdeal.sig) → Buf (Elt Ideal) ℓ) (g : Dev Cert.LinearDwRefIdeal.nD → PrngReg), Pre_LinearDwRefIdeal m →
    θ_run (Cert.LinearDwRefIdeal.defs (F := Ideal)) (onTc (τ := Cert.LinearDwRefIdeal.τ) (Cert.LinearDwRefIdeal.main (F := Ideal))) ⟨m, fun _ => 0, g⟩ (fun r => (∀ c : Dev Cert.LinearDwRefIdeal.nD,
      r.2.mem ((c.tc : Thread Cert.LinearDwRefIdeal.nD Cert.LinearDwRefIdeal.τ).loc Cert.LinearDwRefIdeal.main_arg0) = m ((c.tc : Thread Cert.LinearDwRefIdeal.nD Cert.LinearDwRefIdeal.τ).loc Cert.LinearDwRefIdeal.main_arg0)
      ∧ r.2.mem ((c.tc : Thread Cert.LinearDwRefIdeal.nD Cert.LinearDwRefIdeal.τ).loc Cert.LinearDwRefIdeal.main_arg1) = m ((c.tc : Thread Cert.LinearDwRefIdeal.nD Cert.LinearDwRefIdeal.τ).loc Cert.LinearDwRefIdeal.main_arg1)
      ∧ r.2.mem ((c.tc : Thread Cert.LinearDwRefIdeal.nD Cert.LinearDwRefIdeal.τ).loc Cert.LinearDwRefIdeal.main_arg2) = m ((c.tc : Thread Cert.LinearDwRefIdeal.nD Cert.LinearDwRefIdeal.τ).loc Cert.LinearDwRefIdeal.main_arg2))
      ∧ r.2.sem = fun _ => 0)

def quiescent_LinearA [hLinearA : Cert.LinearA.Facts] : Prop :=
  ∀ (m : (ℓ : Loc Cert.LinearA.nD Cert.LinearA.τ Cert.LinearA.sig) → Buf (Elt Bits) ℓ) (g : Dev Cert.LinearA.nD → PrngReg), Pre_LinearA m →
    θ_run (Cert.LinearA.defs (F := Bits)) (onTc (τ := Cert.LinearA.τ) (Cert.LinearA.main (F := Bits))) ⟨m, fun _ => 0, g⟩ (fun r => (∀ c : Dev Cert.LinearA.nD,
      r.2.mem ((c.tc : Thread Cert.LinearA.nD Cert.LinearA.τ).loc Cert.LinearA.main_arg0) = m ((c.tc : Thread Cert.LinearA.nD Cert.LinearA.τ).loc Cert.LinearA.main_arg0)
      ∧ r.2.mem ((c.tc : Thread Cert.LinearA.nD Cert.LinearA.τ).loc Cert.LinearA.main_arg1) = m ((c.tc : Thread Cert.LinearA.nD Cert.LinearA.τ).loc Cert.LinearA.main_arg1))
      ∧ r.2.sem = fun _ => 0)

def quiescent_LinearAIdeal [hLinearAIdeal : Cert.LinearAIdeal.Facts] : Prop :=
  ∀ (m : (ℓ : Loc Cert.LinearAIdeal.nD Cert.LinearAIdeal.τ Cert.LinearAIdeal.sig) → Buf (Elt Ideal) ℓ) (g : Dev Cert.LinearAIdeal.nD → PrngReg), Pre_LinearAIdeal m →
    θ_run (Cert.LinearAIdeal.defs (F := Ideal)) (onTc (τ := Cert.LinearAIdeal.τ) (Cert.LinearAIdeal.main (F := Ideal))) ⟨m, fun _ => 0, g⟩ (fun r => (∀ c : Dev Cert.LinearAIdeal.nD,
      r.2.mem ((c.tc : Thread Cert.LinearAIdeal.nD Cert.LinearAIdeal.τ).loc Cert.LinearAIdeal.main_arg0) = m ((c.tc : Thread Cert.LinearAIdeal.nD Cert.LinearAIdeal.τ).loc Cert.LinearAIdeal.main_arg0)
      ∧ r.2.mem ((c.tc : Thread Cert.LinearAIdeal.nD Cert.LinearAIdeal.τ).loc Cert.LinearAIdeal.main_arg1) = m ((c.tc : Thread Cert.LinearAIdeal.nD Cert.LinearAIdeal.τ).loc Cert.LinearAIdeal.main_arg1))
      ∧ r.2.sem = fun _ => 0)

def quiescent_LinearARefIdeal [hLinearARefIdeal : Cert.LinearARefIdeal.Facts] : Prop :=
  ∀ (m : (ℓ : Loc Cert.LinearARefIdeal.nD Cert.LinearARefIdeal.τ Cert.LinearARefIdeal.sig) → Buf (Elt Ideal) ℓ) (g : Dev Cert.LinearARefIdeal.nD → PrngReg), Pre_LinearARefIdeal m →
    θ_run (Cert.LinearARefIdeal.defs (F := Ideal)) (onTc (τ := Cert.LinearARefIdeal.τ) (Cert.LinearARefIdeal.main (F := Ideal))) ⟨m, fun _ => 0, g⟩ (fun r => (∀ c : Dev Cert.LinearARefIdeal.nD,
      r.2.mem ((c.tc : Thread Cert.LinearARefIdeal.nD Cert.LinearARefIdeal.τ).loc Cert.LinearARefIdeal.main_arg0) = m ((c.tc : Thread Cert.LinearARefIdeal.nD Cert.LinearARefIdeal.τ).loc Cert.LinearARefIdeal.main_arg0)
      ∧ r.2.mem ((c.tc : Thread Cert.LinearARefIdeal.nD Cert.LinearARefIdeal.τ).loc Cert.LinearARefIdeal.main_arg1) = m ((c.tc : Thread Cert.LinearARefIdeal.nD Cert.LinearARefIdeal.τ).loc Cert.LinearARefIdeal.main_arg1))
      ∧ r.2.sem = fun _ => 0)

def quiescent_LinearADx [hLinearADx : Cert.LinearADx.Facts] : Prop :=
  ∀ (m : (ℓ : Loc Cert.LinearADx.nD Cert.LinearADx.τ Cert.LinearADx.sig) → Buf (Elt Bits) ℓ) (g : Dev Cert.LinearADx.nD → PrngReg), Pre_LinearADx m →
    θ_run (Cert.LinearADx.defs (F := Bits)) (onTc (τ := Cert.LinearADx.τ) (Cert.LinearADx.main (F := Bits))) ⟨m, fun _ => 0, g⟩ (fun r => (∀ c : Dev Cert.LinearADx.nD,
      r.2.mem ((c.tc : Thread Cert.LinearADx.nD Cert.LinearADx.τ).loc Cert.LinearADx.main_arg0) = m ((c.tc : Thread Cert.LinearADx.nD Cert.LinearADx.τ).loc Cert.LinearADx.main_arg0)
      ∧ r.2.mem ((c.tc : Thread Cert.LinearADx.nD Cert.LinearADx.τ).loc Cert.LinearADx.main_arg1) = m ((c.tc : Thread Cert.LinearADx.nD Cert.LinearADx.τ).loc Cert.LinearADx.main_arg1)
      ∧ r.2.mem ((c.tc : Thread Cert.LinearADx.nD Cert.LinearADx.τ).loc Cert.LinearADx.main_arg2) = m ((c.tc : Thread Cert.LinearADx.nD Cert.LinearADx.τ).loc Cert.LinearADx.main_arg2))
      ∧ r.2.sem = fun _ => 0)

def quiescent_LinearADxIdeal [hLinearADxIdeal : Cert.LinearADxIdeal.Facts] : Prop :=
  ∀ (m : (ℓ : Loc Cert.LinearADxIdeal.nD Cert.LinearADxIdeal.τ Cert.LinearADxIdeal.sig) → Buf (Elt Ideal) ℓ) (g : Dev Cert.LinearADxIdeal.nD → PrngReg), Pre_LinearADxIdeal m →
    θ_run (Cert.LinearADxIdeal.defs (F := Ideal)) (onTc (τ := Cert.LinearADxIdeal.τ) (Cert.LinearADxIdeal.main (F := Ideal))) ⟨m, fun _ => 0, g⟩ (fun r => (∀ c : Dev Cert.LinearADxIdeal.nD,
      r.2.mem ((c.tc : Thread Cert.LinearADxIdeal.nD Cert.LinearADxIdeal.τ).loc Cert.LinearADxIdeal.main_arg0) = m ((c.tc : Thread Cert.LinearADxIdeal.nD Cert.LinearADxIdeal.τ).loc Cert.LinearADxIdeal.main_arg0)
      ∧ r.2.mem ((c.tc : Thread Cert.LinearADxIdeal.nD Cert.LinearADxIdeal.τ).loc Cert.LinearADxIdeal.main_arg1) = m ((c.tc : Thread Cert.LinearADxIdeal.nD Cert.LinearADxIdeal.τ).loc Cert.LinearADxIdeal.main_arg1)
      ∧ r.2.mem ((c.tc : Thread Cert.LinearADxIdeal.nD Cert.LinearADxIdeal.τ).loc Cert.LinearADxIdeal.main_arg2) = m ((c.tc : Thread Cert.LinearADxIdeal.nD Cert.LinearADxIdeal.τ).loc Cert.LinearADxIdeal.main_arg2))
      ∧ r.2.sem = fun _ => 0)

def quiescent_LinearADxRefIdeal [hLinearADxRefIdeal : Cert.LinearADxRefIdeal.Facts] : Prop :=
  ∀ (m : (ℓ : Loc Cert.LinearADxRefIdeal.nD Cert.LinearADxRefIdeal.τ Cert.LinearADxRefIdeal.sig) → Buf (Elt Ideal) ℓ) (g : Dev Cert.LinearADxRefIdeal.nD → PrngReg), Pre_LinearADxRefIdeal m →
    θ_run (Cert.LinearADxRefIdeal.defs (F := Ideal)) (onTc (τ := Cert.LinearADxRefIdeal.τ) (Cert.LinearADxRefIdeal.main (F := Ideal))) ⟨m, fun _ => 0, g⟩ (fun r => (∀ c : Dev Cert.LinearADxRefIdeal.nD,
      r.2.mem ((c.tc : Thread Cert.LinearADxRefIdeal.nD Cert.LinearADxRefIdeal.τ).loc Cert.LinearADxRefIdeal.main_arg0) = m ((c.tc : Thread Cert.LinearADxRefIdeal.nD Cert.LinearADxRefIdeal.τ).loc Cert.LinearADxRefIdeal.main_arg0)
      ∧ r.2.mem ((c.tc : Thread Cert.LinearADxRefIdeal.nD Cert.LinearADxRefIdeal.τ).loc Cert.LinearADxRefIdeal.main_arg1) = m ((c.tc : Thread Cert.LinearADxRefIdeal.nD Cert.LinearADxRefIdeal.τ).loc Cert.LinearADxRefIdeal.main_arg1)
      ∧ r.2.mem ((c.tc : Thread Cert.LinearADxRefIdeal.nD Cert.LinearADxRefIdeal.τ).loc Cert.LinearADxRefIdeal.main_arg2) = m ((c.tc : Thread Cert.LinearADxRefIdeal.nD Cert.LinearADxRefIdeal.τ).loc Cert.LinearADxRefIdeal.main_arg2))
      ∧ r.2.sem = fun _ => 0)

def quiescent_LinearADw [hLinearADw : Cert.LinearADw.Facts] : Prop :=
  ∀ (m : (ℓ : Loc Cert.LinearADw.nD Cert.LinearADw.τ Cert.LinearADw.sig) → Buf (Elt Bits) ℓ) (g : Dev Cert.LinearADw.nD → PrngReg), Pre_LinearADw m →
    θ_run (Cert.LinearADw.defs (F := Bits)) (onTc (τ := Cert.LinearADw.τ) (Cert.LinearADw.main (F := Bits))) ⟨m, fun _ => 0, g⟩ (fun r => (∀ c : Dev Cert.LinearADw.nD,
      r.2.mem ((c.tc : Thread Cert.LinearADw.nD Cert.LinearADw.τ).loc Cert.LinearADw.main_arg0) = m ((c.tc : Thread Cert.LinearADw.nD Cert.LinearADw.τ).loc Cert.LinearADw.main_arg0)
      ∧ r.2.mem ((c.tc : Thread Cert.LinearADw.nD Cert.LinearADw.τ).loc Cert.LinearADw.main_arg1) = m ((c.tc : Thread Cert.LinearADw.nD Cert.LinearADw.τ).loc Cert.LinearADw.main_arg1)
      ∧ r.2.mem ((c.tc : Thread Cert.LinearADw.nD Cert.LinearADw.τ).loc Cert.LinearADw.main_arg2) = m ((c.tc : Thread Cert.LinearADw.nD Cert.LinearADw.τ).loc Cert.LinearADw.main_arg2))
      ∧ r.2.sem = fun _ => 0)

def quiescent_LinearADwIdeal [hLinearADwIdeal : Cert.LinearADwIdeal.Facts] : Prop :=
  ∀ (m : (ℓ : Loc Cert.LinearADwIdeal.nD Cert.LinearADwIdeal.τ Cert.LinearADwIdeal.sig) → Buf (Elt Ideal) ℓ) (g : Dev Cert.LinearADwIdeal.nD → PrngReg), Pre_LinearADwIdeal m →
    θ_run (Cert.LinearADwIdeal.defs (F := Ideal)) (onTc (τ := Cert.LinearADwIdeal.τ) (Cert.LinearADwIdeal.main (F := Ideal))) ⟨m, fun _ => 0, g⟩ (fun r => (∀ c : Dev Cert.LinearADwIdeal.nD,
      r.2.mem ((c.tc : Thread Cert.LinearADwIdeal.nD Cert.LinearADwIdeal.τ).loc Cert.LinearADwIdeal.main_arg0) = m ((c.tc : Thread Cert.LinearADwIdeal.nD Cert.LinearADwIdeal.τ).loc Cert.LinearADwIdeal.main_arg0)
      ∧ r.2.mem ((c.tc : Thread Cert.LinearADwIdeal.nD Cert.LinearADwIdeal.τ).loc Cert.LinearADwIdeal.main_arg1) = m ((c.tc : Thread Cert.LinearADwIdeal.nD Cert.LinearADwIdeal.τ).loc Cert.LinearADwIdeal.main_arg1)
      ∧ r.2.mem ((c.tc : Thread Cert.LinearADwIdeal.nD Cert.LinearADwIdeal.τ).loc Cert.LinearADwIdeal.main_arg2) = m ((c.tc : Thread Cert.LinearADwIdeal.nD Cert.LinearADwIdeal.τ).loc Cert.LinearADwIdeal.main_arg2))
      ∧ r.2.sem = fun _ => 0)

def quiescent_LinearADwRefIdeal [hLinearADwRefIdeal : Cert.LinearADwRefIdeal.Facts] : Prop :=
  ∀ (m : (ℓ : Loc Cert.LinearADwRefIdeal.nD Cert.LinearADwRefIdeal.τ Cert.LinearADwRefIdeal.sig) → Buf (Elt Ideal) ℓ) (g : Dev Cert.LinearADwRefIdeal.nD → PrngReg), Pre_LinearADwRefIdeal m →
    θ_run (Cert.LinearADwRefIdeal.defs (F := Ideal)) (onTc (τ := Cert.LinearADwRefIdeal.τ) (Cert.LinearADwRefIdeal.main (F := Ideal))) ⟨m, fun _ => 0, g⟩ (fun r => (∀ c : Dev Cert.LinearADwRefIdeal.nD,
      r.2.mem ((c.tc : Thread Cert.LinearADwRefIdeal.nD Cert.LinearADwRefIdeal.τ).loc Cert.LinearADwRefIdeal.main_arg0) = m ((c.tc : Thread Cert.LinearADwRefIdeal.nD Cert.LinearADwRefIdeal.τ).loc Cert.LinearADwRefIdeal.main_arg0)
      ∧ r.2.mem ((c.tc : Thread Cert.LinearADwRefIdeal.nD Cert.LinearADwRefIdeal.τ).loc Cert.LinearADwRefIdeal.main_arg1) = m ((c.tc : Thread Cert.LinearADwRefIdeal.nD Cert.LinearADwRefIdeal.τ).loc Cert.LinearADwRefIdeal.main_arg1)
      ∧ r.2.mem ((c.tc : Thread Cert.LinearADwRefIdeal.nD Cert.LinearADwRefIdeal.τ).loc Cert.LinearADwRefIdeal.main_arg2) = m ((c.tc : Thread Cert.LinearADwRefIdeal.nD Cert.LinearADwRefIdeal.τ).loc Cert.LinearADwRefIdeal.main_arg2))
      ∧ r.2.sem = fun _ => 0)

def quiescent_LinearKv [hLinearKv : Cert.LinearKv.Facts] : Prop :=
  ∀ (m : (ℓ : Loc Cert.LinearKv.nD Cert.LinearKv.τ Cert.LinearKv.sig) → Buf (Elt Bits) ℓ) (g : Dev Cert.LinearKv.nD → PrngReg), Pre_LinearKv m →
    θ_run (Cert.LinearKv.defs (F := Bits)) (onTc (τ := Cert.LinearKv.τ) (Cert.LinearKv.main (F := Bits))) ⟨m, fun _ => 0, g⟩ (fun r => (∀ c : Dev Cert.LinearKv.nD,
      r.2.mem ((c.tc : Thread Cert.LinearKv.nD Cert.LinearKv.τ).loc Cert.LinearKv.main_arg0) = m ((c.tc : Thread Cert.LinearKv.nD Cert.LinearKv.τ).loc Cert.LinearKv.main_arg0)
      ∧ r.2.mem ((c.tc : Thread Cert.LinearKv.nD Cert.LinearKv.τ).loc Cert.LinearKv.main_arg1) = m ((c.tc : Thread Cert.LinearKv.nD Cert.LinearKv.τ).loc Cert.LinearKv.main_arg1))
      ∧ r.2.sem = fun _ => 0)

def quiescent_LinearKvIdeal [hLinearKvIdeal : Cert.LinearKvIdeal.Facts] : Prop :=
  ∀ (m : (ℓ : Loc Cert.LinearKvIdeal.nD Cert.LinearKvIdeal.τ Cert.LinearKvIdeal.sig) → Buf (Elt Ideal) ℓ) (g : Dev Cert.LinearKvIdeal.nD → PrngReg), Pre_LinearKvIdeal m →
    θ_run (Cert.LinearKvIdeal.defs (F := Ideal)) (onTc (τ := Cert.LinearKvIdeal.τ) (Cert.LinearKvIdeal.main (F := Ideal))) ⟨m, fun _ => 0, g⟩ (fun r => (∀ c : Dev Cert.LinearKvIdeal.nD,
      r.2.mem ((c.tc : Thread Cert.LinearKvIdeal.nD Cert.LinearKvIdeal.τ).loc Cert.LinearKvIdeal.main_arg0) = m ((c.tc : Thread Cert.LinearKvIdeal.nD Cert.LinearKvIdeal.τ).loc Cert.LinearKvIdeal.main_arg0)
      ∧ r.2.mem ((c.tc : Thread Cert.LinearKvIdeal.nD Cert.LinearKvIdeal.τ).loc Cert.LinearKvIdeal.main_arg1) = m ((c.tc : Thread Cert.LinearKvIdeal.nD Cert.LinearKvIdeal.τ).loc Cert.LinearKvIdeal.main_arg1))
      ∧ r.2.sem = fun _ => 0)

def quiescent_LinearKvRefIdeal [hLinearKvRefIdeal : Cert.LinearKvRefIdeal.Facts] : Prop :=
  ∀ (m : (ℓ : Loc Cert.LinearKvRefIdeal.nD Cert.LinearKvRefIdeal.τ Cert.LinearKvRefIdeal.sig) → Buf (Elt Ideal) ℓ) (g : Dev Cert.LinearKvRefIdeal.nD → PrngReg), Pre_LinearKvRefIdeal m →
    θ_run (Cert.LinearKvRefIdeal.defs (F := Ideal)) (onTc (τ := Cert.LinearKvRefIdeal.τ) (Cert.LinearKvRefIdeal.main (F := Ideal))) ⟨m, fun _ => 0, g⟩ (fun r => (∀ c : Dev Cert.LinearKvRefIdeal.nD,
      r.2.mem ((c.tc : Thread Cert.LinearKvRefIdeal.nD Cert.LinearKvRefIdeal.τ).loc Cert.LinearKvRefIdeal.main_arg0) = m ((c.tc : Thread Cert.LinearKvRefIdeal.nD Cert.LinearKvRefIdeal.τ).loc Cert.LinearKvRefIdeal.main_arg0)
      ∧ r.2.mem ((c.tc : Thread Cert.LinearKvRefIdeal.nD Cert.LinearKvRefIdeal.τ).loc Cert.LinearKvRefIdeal.main_arg1) = m ((c.tc : Thread Cert.LinearKvRefIdeal.nD Cert.LinearKvRefIdeal.τ).loc Cert.LinearKvRefIdeal.main_arg1))
      ∧ r.2.sem = fun _ => 0)

def quiescent_LinearKvDx [hLinearKvDx : Cert.LinearKvDx.Facts] : Prop :=
  ∀ (m : (ℓ : Loc Cert.LinearKvDx.nD Cert.LinearKvDx.τ Cert.LinearKvDx.sig) → Buf (Elt Bits) ℓ) (g : Dev Cert.LinearKvDx.nD → PrngReg), Pre_LinearKvDx m →
    θ_run (Cert.LinearKvDx.defs (F := Bits)) (onTc (τ := Cert.LinearKvDx.τ) (Cert.LinearKvDx.main (F := Bits))) ⟨m, fun _ => 0, g⟩ (fun r => (∀ c : Dev Cert.LinearKvDx.nD,
      r.2.mem ((c.tc : Thread Cert.LinearKvDx.nD Cert.LinearKvDx.τ).loc Cert.LinearKvDx.main_arg0) = m ((c.tc : Thread Cert.LinearKvDx.nD Cert.LinearKvDx.τ).loc Cert.LinearKvDx.main_arg0)
      ∧ r.2.mem ((c.tc : Thread Cert.LinearKvDx.nD Cert.LinearKvDx.τ).loc Cert.LinearKvDx.main_arg1) = m ((c.tc : Thread Cert.LinearKvDx.nD Cert.LinearKvDx.τ).loc Cert.LinearKvDx.main_arg1)
      ∧ r.2.mem ((c.tc : Thread Cert.LinearKvDx.nD Cert.LinearKvDx.τ).loc Cert.LinearKvDx.main_arg2) = m ((c.tc : Thread Cert.LinearKvDx.nD Cert.LinearKvDx.τ).loc Cert.LinearKvDx.main_arg2))
      ∧ r.2.sem = fun _ => 0)

def quiescent_LinearKvDxIdeal [hLinearKvDxIdeal : Cert.LinearKvDxIdeal.Facts] : Prop :=
  ∀ (m : (ℓ : Loc Cert.LinearKvDxIdeal.nD Cert.LinearKvDxIdeal.τ Cert.LinearKvDxIdeal.sig) → Buf (Elt Ideal) ℓ) (g : Dev Cert.LinearKvDxIdeal.nD → PrngReg), Pre_LinearKvDxIdeal m →
    θ_run (Cert.LinearKvDxIdeal.defs (F := Ideal)) (onTc (τ := Cert.LinearKvDxIdeal.τ) (Cert.LinearKvDxIdeal.main (F := Ideal))) ⟨m, fun _ => 0, g⟩ (fun r => (∀ c : Dev Cert.LinearKvDxIdeal.nD,
      r.2.mem ((c.tc : Thread Cert.LinearKvDxIdeal.nD Cert.LinearKvDxIdeal.τ).loc Cert.LinearKvDxIdeal.main_arg0) = m ((c.tc : Thread Cert.LinearKvDxIdeal.nD Cert.LinearKvDxIdeal.τ).loc Cert.LinearKvDxIdeal.main_arg0)
      ∧ r.2.mem ((c.tc : Thread Cert.LinearKvDxIdeal.nD Cert.LinearKvDxIdeal.τ).loc Cert.LinearKvDxIdeal.main_arg1) = m ((c.tc : Thread Cert.LinearKvDxIdeal.nD Cert.LinearKvDxIdeal.τ).loc Cert.LinearKvDxIdeal.main_arg1)
      ∧ r.2.mem ((c.tc : Thread Cert.LinearKvDxIdeal.nD Cert.LinearKvDxIdeal.τ).loc Cert.LinearKvDxIdeal.main_arg2) = m ((c.tc : Thread Cert.LinearKvDxIdeal.nD Cert.LinearKvDxIdeal.τ).loc Cert.LinearKvDxIdeal.main_arg2))
      ∧ r.2.sem = fun _ => 0)

def quiescent_LinearKvDxRefIdeal [hLinearKvDxRefIdeal : Cert.LinearKvDxRefIdeal.Facts] : Prop :=
  ∀ (m : (ℓ : Loc Cert.LinearKvDxRefIdeal.nD Cert.LinearKvDxRefIdeal.τ Cert.LinearKvDxRefIdeal.sig) → Buf (Elt Ideal) ℓ) (g : Dev Cert.LinearKvDxRefIdeal.nD → PrngReg), Pre_LinearKvDxRefIdeal m →
    θ_run (Cert.LinearKvDxRefIdeal.defs (F := Ideal)) (onTc (τ := Cert.LinearKvDxRefIdeal.τ) (Cert.LinearKvDxRefIdeal.main (F := Ideal))) ⟨m, fun _ => 0, g⟩ (fun r => (∀ c : Dev Cert.LinearKvDxRefIdeal.nD,
      r.2.mem ((c.tc : Thread Cert.LinearKvDxRefIdeal.nD Cert.LinearKvDxRefIdeal.τ).loc Cert.LinearKvDxRefIdeal.main_arg0) = m ((c.tc : Thread Cert.LinearKvDxRefIdeal.nD Cert.LinearKvDxRefIdeal.τ).loc Cert.LinearKvDxRefIdeal.main_arg0)
      ∧ r.2.mem ((c.tc : Thread Cert.LinearKvDxRefIdeal.nD Cert.LinearKvDxRefIdeal.τ).loc Cert.LinearKvDxRefIdeal.main_arg1) = m ((c.tc : Thread Cert.LinearKvDxRefIdeal.nD Cert.LinearKvDxRefIdeal.τ).loc Cert.LinearKvDxRefIdeal.main_arg1)
      ∧ r.2.mem ((c.tc : Thread Cert.LinearKvDxRefIdeal.nD Cert.LinearKvDxRefIdeal.τ).loc Cert.LinearKvDxRefIdeal.main_arg2) = m ((c.tc : Thread Cert.LinearKvDxRefIdeal.nD Cert.LinearKvDxRefIdeal.τ).loc Cert.LinearKvDxRefIdeal.main_arg2))
      ∧ r.2.sem = fun _ => 0)

def quiescent_LinearKvDw [hLinearKvDw : Cert.LinearKvDw.Facts] : Prop :=
  ∀ (m : (ℓ : Loc Cert.LinearKvDw.nD Cert.LinearKvDw.τ Cert.LinearKvDw.sig) → Buf (Elt Bits) ℓ) (g : Dev Cert.LinearKvDw.nD → PrngReg), Pre_LinearKvDw m →
    θ_run (Cert.LinearKvDw.defs (F := Bits)) (onTc (τ := Cert.LinearKvDw.τ) (Cert.LinearKvDw.main (F := Bits))) ⟨m, fun _ => 0, g⟩ (fun r => (∀ c : Dev Cert.LinearKvDw.nD,
      r.2.mem ((c.tc : Thread Cert.LinearKvDw.nD Cert.LinearKvDw.τ).loc Cert.LinearKvDw.main_arg0) = m ((c.tc : Thread Cert.LinearKvDw.nD Cert.LinearKvDw.τ).loc Cert.LinearKvDw.main_arg0)
      ∧ r.2.mem ((c.tc : Thread Cert.LinearKvDw.nD Cert.LinearKvDw.τ).loc Cert.LinearKvDw.main_arg1) = m ((c.tc : Thread Cert.LinearKvDw.nD Cert.LinearKvDw.τ).loc Cert.LinearKvDw.main_arg1)
      ∧ r.2.mem ((c.tc : Thread Cert.LinearKvDw.nD Cert.LinearKvDw.τ).loc Cert.LinearKvDw.main_arg2) = m ((c.tc : Thread Cert.LinearKvDw.nD Cert.LinearKvDw.τ).loc Cert.LinearKvDw.main_arg2))
      ∧ r.2.sem = fun _ => 0)

def quiescent_LinearKvDwIdeal [hLinearKvDwIdeal : Cert.LinearKvDwIdeal.Facts] : Prop :=
  ∀ (m : (ℓ : Loc Cert.LinearKvDwIdeal.nD Cert.LinearKvDwIdeal.τ Cert.LinearKvDwIdeal.sig) → Buf (Elt Ideal) ℓ) (g : Dev Cert.LinearKvDwIdeal.nD → PrngReg), Pre_LinearKvDwIdeal m →
    θ_run (Cert.LinearKvDwIdeal.defs (F := Ideal)) (onTc (τ := Cert.LinearKvDwIdeal.τ) (Cert.LinearKvDwIdeal.main (F := Ideal))) ⟨m, fun _ => 0, g⟩ (fun r => (∀ c : Dev Cert.LinearKvDwIdeal.nD,
      r.2.mem ((c.tc : Thread Cert.LinearKvDwIdeal.nD Cert.LinearKvDwIdeal.τ).loc Cert.LinearKvDwIdeal.main_arg0) = m ((c.tc : Thread Cert.LinearKvDwIdeal.nD Cert.LinearKvDwIdeal.τ).loc Cert.LinearKvDwIdeal.main_arg0)
      ∧ r.2.mem ((c.tc : Thread Cert.LinearKvDwIdeal.nD Cert.LinearKvDwIdeal.τ).loc Cert.LinearKvDwIdeal.main_arg1) = m ((c.tc : Thread Cert.LinearKvDwIdeal.nD Cert.LinearKvDwIdeal.τ).loc Cert.LinearKvDwIdeal.main_arg1)
      ∧ r.2.mem ((c.tc : Thread Cert.LinearKvDwIdeal.nD Cert.LinearKvDwIdeal.τ).loc Cert.LinearKvDwIdeal.main_arg2) = m ((c.tc : Thread Cert.LinearKvDwIdeal.nD Cert.LinearKvDwIdeal.τ).loc Cert.LinearKvDwIdeal.main_arg2))
      ∧ r.2.sem = fun _ => 0)

def quiescent_LinearKvDwRefIdeal [hLinearKvDwRefIdeal : Cert.LinearKvDwRefIdeal.Facts] : Prop :=
  ∀ (m : (ℓ : Loc Cert.LinearKvDwRefIdeal.nD Cert.LinearKvDwRefIdeal.τ Cert.LinearKvDwRefIdeal.sig) → Buf (Elt Ideal) ℓ) (g : Dev Cert.LinearKvDwRefIdeal.nD → PrngReg), Pre_LinearKvDwRefIdeal m →
    θ_run (Cert.LinearKvDwRefIdeal.defs (F := Ideal)) (onTc (τ := Cert.LinearKvDwRefIdeal.τ) (Cert.LinearKvDwRefIdeal.main (F := Ideal))) ⟨m, fun _ => 0, g⟩ (fun r => (∀ c : Dev Cert.LinearKvDwRefIdeal.nD,
      r.2.mem ((c.tc : Thread Cert.LinearKvDwRefIdeal.nD Cert.LinearKvDwRefIdeal.τ).loc Cert.LinearKvDwRefIdeal.main_arg0) = m ((c.tc : Thread Cert.LinearKvDwRefIdeal.nD Cert.LinearKvDwRefIdeal.τ).loc Cert.LinearKvDwRefIdeal.main_arg0)
      ∧ r.2.mem ((c.tc : Thread Cert.LinearKvDwRefIdeal.nD Cert.LinearKvDwRefIdeal.τ).loc Cert.LinearKvDwRefIdeal.main_arg1) = m ((c.tc : Thread Cert.LinearKvDwRefIdeal.nD Cert.LinearKvDwRefIdeal.τ).loc Cert.LinearKvDwRefIdeal.main_arg1)
      ∧ r.2.mem ((c.tc : Thread Cert.LinearKvDwRefIdeal.nD Cert.LinearKvDwRefIdeal.τ).loc Cert.LinearKvDwRefIdeal.main_arg2) = m ((c.tc : Thread Cert.LinearKvDwRefIdeal.nD Cert.LinearKvDwRefIdeal.τ).loc Cert.LinearKvDwRefIdeal.main_arg2))
      ∧ r.2.sem = fun _ => 0)

def quiescent_LinearMem [hLinearMem : Cert.LinearMem.Facts] : Prop :=
  ∀ (m : (ℓ : Loc Cert.LinearMem.nD Cert.LinearMem.τ Cert.LinearMem.sig) → Buf (Elt Bits) ℓ) (g : Dev Cert.LinearMem.nD → PrngReg), Pre_LinearMem m →
    θ_run (Cert.LinearMem.defs (F := Bits)) (onTc (τ := Cert.LinearMem.τ) (Cert.LinearMem.main (F := Bits))) ⟨m, fun _ => 0, g⟩ (fun r => (∀ c : Dev Cert.LinearMem.nD,
      r.2.mem ((c.tc : Thread Cert.LinearMem.nD Cert.LinearMem.τ).loc Cert.LinearMem.main_arg0) = m ((c.tc : Thread Cert.LinearMem.nD Cert.LinearMem.τ).loc Cert.LinearMem.main_arg0)
      ∧ r.2.mem ((c.tc : Thread Cert.LinearMem.nD Cert.LinearMem.τ).loc Cert.LinearMem.main_arg1) = m ((c.tc : Thread Cert.LinearMem.nD Cert.LinearMem.τ).loc Cert.LinearMem.main_arg1))
      ∧ r.2.sem = fun _ => 0)

def quiescent_LinearMemIdeal [hLinearMemIdeal : Cert.LinearMemIdeal.Facts] : Prop :=
  ∀ (m : (ℓ : Loc Cert.LinearMemIdeal.nD Cert.LinearMemIdeal.τ Cert.LinearMemIdeal.sig) → Buf (Elt Ideal) ℓ) (g : Dev Cert.LinearMemIdeal.nD → PrngReg), Pre_LinearMemIdeal m →
    θ_run (Cert.LinearMemIdeal.defs (F := Ideal)) (onTc (τ := Cert.LinearMemIdeal.τ) (Cert.LinearMemIdeal.main (F := Ideal))) ⟨m, fun _ => 0, g⟩ (fun r => (∀ c : Dev Cert.LinearMemIdeal.nD,
      r.2.mem ((c.tc : Thread Cert.LinearMemIdeal.nD Cert.LinearMemIdeal.τ).loc Cert.LinearMemIdeal.main_arg0) = m ((c.tc : Thread Cert.LinearMemIdeal.nD Cert.LinearMemIdeal.τ).loc Cert.LinearMemIdeal.main_arg0)
      ∧ r.2.mem ((c.tc : Thread Cert.LinearMemIdeal.nD Cert.LinearMemIdeal.τ).loc Cert.LinearMemIdeal.main_arg1) = m ((c.tc : Thread Cert.LinearMemIdeal.nD Cert.LinearMemIdeal.τ).loc Cert.LinearMemIdeal.main_arg1))
      ∧ r.2.sem = fun _ => 0)

def quiescent_LinearMemRefIdeal [hLinearMemRefIdeal : Cert.LinearMemRefIdeal.Facts] : Prop :=
  ∀ (m : (ℓ : Loc Cert.LinearMemRefIdeal.nD Cert.LinearMemRefIdeal.τ Cert.LinearMemRefIdeal.sig) → Buf (Elt Ideal) ℓ) (g : Dev Cert.LinearMemRefIdeal.nD → PrngReg), Pre_LinearMemRefIdeal m →
    θ_run (Cert.LinearMemRefIdeal.defs (F := Ideal)) (onTc (τ := Cert.LinearMemRefIdeal.τ) (Cert.LinearMemRefIdeal.main (F := Ideal))) ⟨m, fun _ => 0, g⟩ (fun r => (∀ c : Dev Cert.LinearMemRefIdeal.nD,
      r.2.mem ((c.tc : Thread Cert.LinearMemRefIdeal.nD Cert.LinearMemRefIdeal.τ).loc Cert.LinearMemRefIdeal.main_arg0) = m ((c.tc : Thread Cert.LinearMemRefIdeal.nD Cert.LinearMemRefIdeal.τ).loc Cert.LinearMemRefIdeal.main_arg0)
      ∧ r.2.mem ((c.tc : Thread Cert.LinearMemRefIdeal.nD Cert.LinearMemRefIdeal.τ).loc Cert.LinearMemRefIdeal.main_arg1) = m ((c.tc : Thread Cert.LinearMemRefIdeal.nD Cert.LinearMemRefIdeal.τ).loc Cert.LinearMemRefIdeal.main_arg1))
      ∧ r.2.sem = fun _ => 0)

def quiescent_LinearMemDw [hLinearMemDw : Cert.LinearMemDw.Facts] : Prop :=
  ∀ (m : (ℓ : Loc Cert.LinearMemDw.nD Cert.LinearMemDw.τ Cert.LinearMemDw.sig) → Buf (Elt Bits) ℓ) (g : Dev Cert.LinearMemDw.nD → PrngReg), Pre_LinearMemDw m →
    θ_run (Cert.LinearMemDw.defs (F := Bits)) (onTc (τ := Cert.LinearMemDw.τ) (Cert.LinearMemDw.main (F := Bits))) ⟨m, fun _ => 0, g⟩ (fun r => (∀ c : Dev Cert.LinearMemDw.nD,
      r.2.mem ((c.tc : Thread Cert.LinearMemDw.nD Cert.LinearMemDw.τ).loc Cert.LinearMemDw.main_arg0) = m ((c.tc : Thread Cert.LinearMemDw.nD Cert.LinearMemDw.τ).loc Cert.LinearMemDw.main_arg0)
      ∧ r.2.mem ((c.tc : Thread Cert.LinearMemDw.nD Cert.LinearMemDw.τ).loc Cert.LinearMemDw.main_arg1) = m ((c.tc : Thread Cert.LinearMemDw.nD Cert.LinearMemDw.τ).loc Cert.LinearMemDw.main_arg1)
      ∧ r.2.mem ((c.tc : Thread Cert.LinearMemDw.nD Cert.LinearMemDw.τ).loc Cert.LinearMemDw.main_arg2) = m ((c.tc : Thread Cert.LinearMemDw.nD Cert.LinearMemDw.τ).loc Cert.LinearMemDw.main_arg2))
      ∧ r.2.sem = fun _ => 0)

def quiescent_LinearMemDwIdeal [hLinearMemDwIdeal : Cert.LinearMemDwIdeal.Facts] : Prop :=
  ∀ (m : (ℓ : Loc Cert.LinearMemDwIdeal.nD Cert.LinearMemDwIdeal.τ Cert.LinearMemDwIdeal.sig) → Buf (Elt Ideal) ℓ) (g : Dev Cert.LinearMemDwIdeal.nD → PrngReg), Pre_LinearMemDwIdeal m →
    θ_run (Cert.LinearMemDwIdeal.defs (F := Ideal)) (onTc (τ := Cert.LinearMemDwIdeal.τ) (Cert.LinearMemDwIdeal.main (F := Ideal))) ⟨m, fun _ => 0, g⟩ (fun r => (∀ c : Dev Cert.LinearMemDwIdeal.nD,
      r.2.mem ((c.tc : Thread Cert.LinearMemDwIdeal.nD Cert.LinearMemDwIdeal.τ).loc Cert.LinearMemDwIdeal.main_arg0) = m ((c.tc : Thread Cert.LinearMemDwIdeal.nD Cert.LinearMemDwIdeal.τ).loc Cert.LinearMemDwIdeal.main_arg0)
      ∧ r.2.mem ((c.tc : Thread Cert.LinearMemDwIdeal.nD Cert.LinearMemDwIdeal.τ).loc Cert.LinearMemDwIdeal.main_arg1) = m ((c.tc : Thread Cert.LinearMemDwIdeal.nD Cert.LinearMemDwIdeal.τ).loc Cert.LinearMemDwIdeal.main_arg1)
      ∧ r.2.mem ((c.tc : Thread Cert.LinearMemDwIdeal.nD Cert.LinearMemDwIdeal.τ).loc Cert.LinearMemDwIdeal.main_arg2) = m ((c.tc : Thread Cert.LinearMemDwIdeal.nD Cert.LinearMemDwIdeal.τ).loc Cert.LinearMemDwIdeal.main_arg2))
      ∧ r.2.sem = fun _ => 0)

def quiescent_LinearMemDwRefIdeal [hLinearMemDwRefIdeal : Cert.LinearMemDwRefIdeal.Facts] : Prop :=
  ∀ (m : (ℓ : Loc Cert.LinearMemDwRefIdeal.nD Cert.LinearMemDwRefIdeal.τ Cert.LinearMemDwRefIdeal.sig) → Buf (Elt Ideal) ℓ) (g : Dev Cert.LinearMemDwRefIdeal.nD → PrngReg), Pre_LinearMemDwRefIdeal m →
    θ_run (Cert.LinearMemDwRefIdeal.defs (F := Ideal)) (onTc (τ := Cert.LinearMemDwRefIdeal.τ) (Cert.LinearMemDwRefIdeal.main (F := Ideal))) ⟨m, fun _ => 0, g⟩ (fun r => (∀ c : Dev Cert.LinearMemDwRefIdeal.nD,
      r.2.mem ((c.tc : Thread Cert.LinearMemDwRefIdeal.nD Cert.LinearMemDwRefIdeal.τ).loc Cert.LinearMemDwRefIdeal.main_arg0) = m ((c.tc : Thread Cert.LinearMemDwRefIdeal.nD Cert.LinearMemDwRefIdeal.τ).loc Cert.LinearMemDwRefIdeal.main_arg0)
      ∧ r.2.mem ((c.tc : Thread Cert.LinearMemDwRefIdeal.nD Cert.LinearMemDwRefIdeal.τ).loc Cert.LinearMemDwRefIdeal.main_arg1) = m ((c.tc : Thread Cert.LinearMemDwRefIdeal.nD Cert.LinearMemDwRefIdeal.τ).loc Cert.LinearMemDwRefIdeal.main_arg1)
      ∧ r.2.mem ((c.tc : Thread Cert.LinearMemDwRefIdeal.nD Cert.LinearMemDwRefIdeal.τ).loc Cert.LinearMemDwRefIdeal.main_arg2) = m ((c.tc : Thread Cert.LinearMemDwRefIdeal.nD Cert.LinearMemDwRefIdeal.τ).loc Cert.LinearMemDwRefIdeal.main_arg2))
      ∧ r.2.sem = fun _ => 0)

def quiescent_SumChips [hSumChips : Cert.SumChips.Facts] : Prop :=
  ∀ (m : (ℓ : Loc Cert.SumChips.nD Cert.SumChips.τ Cert.SumChips.sig) → Buf (Elt Bits) ℓ) (g : Dev Cert.SumChips.nD → PrngReg), Pre_SumChips m →
    θ_run (Cert.SumChips.defs (F := Bits)) (onTc (τ := Cert.SumChips.τ) (Cert.SumChips.main (F := Bits))) ⟨m, fun _ => 0, g⟩ (fun r => (∀ c : Dev Cert.SumChips.nD,
      r.2.mem ((c.tc : Thread Cert.SumChips.nD Cert.SumChips.τ).loc Cert.SumChips.main_arg0) = m ((c.tc : Thread Cert.SumChips.nD Cert.SumChips.τ).loc Cert.SumChips.main_arg0))
      ∧ r.2.sem = fun _ => 0)

def quiescent_SumChipsIdeal [hSumChipsIdeal : Cert.SumChipsIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg), Pre_SumChipsIdeal m →
    θ_run (Cert.SumChipsIdeal.defs (F := Ideal)) (onTc (τ := Cert.SumChipsIdeal.τ) (Cert.SumChipsIdeal.main (F := Ideal))) ⟨m, fun _ => 0, g⟩ (fun r => (∀ c : Dev Cert.SumChipsIdeal.nD,
      r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0))
      ∧ r.2.sem = fun _ => 0)

def quiescent_SumChipsRefIdeal [hSumChipsRefIdeal : Cert.SumChipsRefIdeal.Facts] : Prop :=
  ∀ (m : (ℓ : Loc Cert.SumChipsRefIdeal.nD Cert.SumChipsRefIdeal.τ Cert.SumChipsRefIdeal.sig) → Buf (Elt Ideal) ℓ) (g : Dev Cert.SumChipsRefIdeal.nD → PrngReg), Pre_SumChipsRefIdeal m →
    θ_run (Cert.SumChipsRefIdeal.defs (F := Ideal)) (onTc (τ := Cert.SumChipsRefIdeal.τ) (Cert.SumChipsRefIdeal.main (F := Ideal))) ⟨m, fun _ => 0, g⟩ (fun r => (∀ c : Dev Cert.SumChipsRefIdeal.nD,
      r.2.mem ((c.tc : Thread Cert.SumChipsRefIdeal.nD Cert.SumChipsRefIdeal.τ).loc Cert.SumChipsRefIdeal.main_arg0) = m ((c.tc : Thread Cert.SumChipsRefIdeal.nD Cert.SumChipsRefIdeal.τ).loc Cert.SumChipsRefIdeal.main_arg0))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_AdamA [hAdamA : Cert.AdamA.Facts] : Prop :=
  ∀ (m : (ℓ : Loc Cert.AdamA.nD Cert.AdamA.τ Cert.AdamA.sig) → Buf (Elt Bits) ℓ) (g : Dev Cert.AdamA.nD → PrngReg), Pre_AdamA m →
    θ_run (Cert.AdamA.defs (F := Bits)) (onTc (τ := Cert.AdamA.τ) (Cert.AdamA.main (F := Bits))) ⟨m, fun _ => 0, g⟩ (fun r => (∀ c : Dev Cert.AdamA.nD,
      r.2.mem ((c.tc : Thread Cert.AdamA.nD Cert.AdamA.τ).loc Cert.AdamA.main_arg0) = m ((c.tc : Thread Cert.AdamA.nD Cert.AdamA.τ).loc Cert.AdamA.main_arg0)
      ∧ r.2.mem ((c.tc : Thread Cert.AdamA.nD Cert.AdamA.τ).loc Cert.AdamA.main_arg1) = m ((c.tc : Thread Cert.AdamA.nD Cert.AdamA.τ).loc Cert.AdamA.main_arg1)
      ∧ r.2.mem ((c.tc : Thread Cert.AdamA.nD Cert.AdamA.τ).loc Cert.AdamA.main_arg2) = m ((c.tc : Thread Cert.AdamA.nD Cert.AdamA.τ).loc Cert.AdamA.main_arg2)
      ∧ r.2.mem ((c.tc : Thread Cert.AdamA.nD Cert.AdamA.τ).loc Cert.AdamA.main_arg3) = m ((c.tc : Thread Cert.AdamA.nD Cert.AdamA.τ).loc Cert.AdamA.main_arg3))
      ∧ r.2.sem = fun _ => 0)

def quiescent_AdamAIdeal [hAdamAIdeal : Cert.AdamAIdeal.Facts] : Prop :=
  ∀ (m : (ℓ : Loc Cert.AdamAIdeal.nD Cert.AdamAIdeal.τ Cert.AdamAIdeal.sig) → Buf (Elt Ideal) ℓ) (g : Dev Cert.AdamAIdeal.nD → PrngReg), Pre_AdamAIdeal m →
    θ_run (Cert.AdamAIdeal.defs (F := Ideal)) (onTc (τ := Cert.AdamAIdeal.τ) (Cert.AdamAIdeal.main (F := Ideal))) ⟨m, fun _ => 0, g⟩ (fun r => (∀ c : Dev Cert.AdamAIdeal.nD,
      r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
      ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
      ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
      ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ r.2.sem = fun _ => 0)

def quiescent_AdamARefIdeal [hAdamARefIdeal : Cert.AdamARefIdeal.Facts] : Prop :=
  ∀ (m : (ℓ : Loc Cert.AdamARefIdeal.nD Cert.AdamARefIdeal.τ Cert.AdamARefIdeal.sig) → Buf (Elt Ideal) ℓ) (g : Dev Cert.AdamARefIdeal.nD → PrngReg), Pre_AdamARefIdeal m →
    θ_run (Cert.AdamARefIdeal.defs (F := Ideal)) (onTc (τ := Cert.AdamARefIdeal.τ) (Cert.AdamARefIdeal.main (F := Ideal))) ⟨m, fun _ => 0, g⟩ (fun r => (∀ c : Dev Cert.AdamARefIdeal.nD,
      r.2.mem ((c.tc : Thread Cert.AdamARefIdeal.nD Cert.AdamARefIdeal.τ).loc Cert.AdamARefIdeal.main_arg0) = m ((c.tc : Thread Cert.AdamARefIdeal.nD Cert.AdamARefIdeal.τ).loc Cert.AdamARefIdeal.main_arg0)
      ∧ r.2.mem ((c.tc : Thread Cert.AdamARefIdeal.nD Cert.AdamARefIdeal.τ).loc Cert.AdamARefIdeal.main_arg1) = m ((c.tc : Thread Cert.AdamARefIdeal.nD Cert.AdamARefIdeal.τ).loc Cert.AdamARefIdeal.main_arg1)
      ∧ r.2.mem ((c.tc : Thread Cert.AdamARefIdeal.nD Cert.AdamARefIdeal.τ).loc Cert.AdamARefIdeal.main_arg2) = m ((c.tc : Thread Cert.AdamARefIdeal.nD Cert.AdamARefIdeal.τ).loc Cert.AdamARefIdeal.main_arg2)
      ∧ r.2.mem ((c.tc : Thread Cert.AdamARefIdeal.nD Cert.AdamARefIdeal.τ).loc Cert.AdamARefIdeal.main_arg3) = m ((c.tc : Thread Cert.AdamARefIdeal.nD Cert.AdamARefIdeal.τ).loc Cert.AdamARefIdeal.main_arg3))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2)
      ∧ r.2.mem ((c.tc : Thread Cert.LnFwd.nD Cert.LnFwd.τ).loc Cert.LnFwd.main_arg3) = m ((c.tc : Thread Cert.LnFwd.nD Cert.LnFwd.τ).loc Cert.LnFwd.main_arg3))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
      ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1)
      ∧ r.2.mem ((c.tc : Thread Cert.LnFwdRefIdeal.nD Cert.LnFwdRefIdeal.τ).loc Cert.LnFwdRefIdeal.main_arg2) = m ((c.tc : Thread Cert.LnFwdRefIdeal.nD Cert.LnFwdRefIdeal.τ).loc Cert.LnFwdRefIdeal.main_arg2)
      ∧ r.2.mem ((c.tc : Thread Cert.LnFwdRefIdeal.nD Cert.LnFwdRefIdeal.τ).loc Cert.LnFwdRefIdeal.main_arg3) = m ((c.tc : Thread Cert.LnFwdRefIdeal.nD Cert.LnFwdRefIdeal.τ).loc Cert.LnFwdRefIdeal.main_arg3))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ r.2.sem = fun _ => 0)

def quiescent_LnBwdIdeal_pre_ln_finite [hLnBwdIdeal : Cert.LnBwdIdeal.Facts] [hPre_ln_finite : Cert.Pre_ln_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_ln_finite m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4))
      ∧ r.2.sem = fun _ => 0)

def quiescent_LnBwdRefIdeal_pre_ln_finite [hLnBwdRefIdeal : Cert.LnBwdRefIdeal.Facts] [hPre_ln_finite : Cert.Pre_ln_finite.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_ln_finite m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdIdeal_pre_gate_finite [hGateBwdIdeal : Cert.GateBwdIdeal.Facts] [hPre_gate_finite : Cert.Pre_gate_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_gate_finite m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def quiescent_GateBwdRefIdeal_pre_gate_finite [hGateBwdRefIdeal : Cert.GateBwdRefIdeal.Facts] [hPre_gate_finite : Cert.Pre_gate_finite.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal_gate_finite m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)) (v5 : (c : Dev Cert.KernelIdeal.nD) → Buf (Elt Ideal) ((c.tc : Thread Cert.KernelIdeal.nD Cert.KernelIdeal.τ).loc Cert.KernelIdeal.main_v15_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_v15_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_v34) = v4 c
          ∧ r.2.mem ((c.tc : Thread Cert.ReferenceIdeal.nD Cert.ReferenceIdeal.τ).loc Cert.ReferenceIdeal.main_v37) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v1) = v0 c
          ∧ r.2.mem ((c.tc : Thread Cert.UpRefIdeal.nD Cert.UpRefIdeal.τ).loc Cert.UpRefIdeal.main_v4) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DUp_DUpIdeal : Prop :=
  True

def algebraic_DUpIdeal_DUpRefIdeal [hDUpIdeal : Cert.DUpIdeal.Facts] [hDUpRefIdeal : Cert.DUpRefIdeal.Facts] : Prop :=
  ∀ (m : (ℓ : Loc Cert.DUpIdeal.nD Cert.DUpIdeal.τ Cert.DUpIdeal.sig) → Buf (Elt Ideal) ℓ) (g : Dev Cert.DUpIdeal.nD → PrngReg)
    (m' : (ℓ : Loc Cert.DUpRefIdeal.nD Cert.DUpRefIdeal.τ Cert.DUpRefIdeal.sig) → Buf (Elt Ideal) ℓ) (g' : Dev Cert.DUpRefIdeal.nD → PrngReg), Pre_DUpIdeal m →
    (∀ c : Dev Cert.DUpIdeal.nD,
      m' ((c.tc : Thread Cert.DUpRefIdeal.nD Cert.DUpRefIdeal.τ).loc Cert.DUpRefIdeal.main_arg0) = m ((c.tc : Thread Cert.DUpIdeal.nD Cert.DUpIdeal.τ).loc Cert.DUpIdeal.main_arg0)
      ∧ m' ((c.tc : Thread Cert.DUpRefIdeal.nD Cert.DUpRefIdeal.τ).loc Cert.DUpRefIdeal.main_arg1) = m ((c.tc : Thread Cert.DUpIdeal.nD Cert.DUpIdeal.τ).loc Cert.DUpIdeal.main_arg1)
      ∧ m' ((c.tc : Thread Cert.DUpRefIdeal.nD Cert.DUpRefIdeal.τ).loc Cert.DUpRefIdeal.main_arg2) = m ((c.tc : Thread Cert.DUpIdeal.nD Cert.DUpIdeal.τ).loc Cert.DUpIdeal.main_arg2)
      ∧ m' ((c.tc : Thread Cert.DUpRefIdeal.nD Cert.DUpRefIdeal.τ).loc Cert.DUpRefIdeal.main_arg3) = m ((c.tc : Thread Cert.DUpIdeal.nD Cert.DUpIdeal.τ).loc Cert.DUpIdeal.main_arg3)) →
    ∃ (v0 : (c : Dev Cert.DUpIdeal.nD) → Buf (Elt Ideal) ((c.tc : Thread Cert.DUpIdeal.nD Cert.DUpIdeal.τ).loc Cert.DUpIdeal.main_v4)),
      θ_run (Cert.DUpIdeal.defs (F := Ideal)) (onTc (τ := Cert.DUpIdeal.τ) (Cert.DUpIdeal.main (F := Ideal))) ⟨m, fun _ => 0, g⟩ (fun r => ∀ c : Dev Cert.DUpIdeal.nD,
          r.2.mem ((c.tc : Thread Cert.DUpIdeal.nD Cert.DUpIdeal.τ).loc Cert.DUpIdeal.main_v4) = v0 c
          ∧ r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
          ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1)
          ∧ r.2.mem ((c.tc : Thread Cert.DUpIdeal.nD Cert.DUpIdeal.τ).loc Cert.DUpIdeal.main_arg2) = m ((c.tc : Thread Cert.DUpIdeal.nD Cert.DUpIdeal.τ).loc Cert.DUpIdeal.main_arg2)
          ∧ r.2.mem ((c.tc : Thread Cert.DUpIdeal.nD Cert.DUpIdeal.τ).loc Cert.DUpIdeal.main_arg3) = m ((c.tc : Thread Cert.DUpIdeal.nD Cert.DUpIdeal.τ).loc Cert.DUpIdeal.main_arg3))
      ∧ θ_run (Cert.DUpRefIdeal.defs (F := Ideal)) (onTc (τ := Cert.DUpRefIdeal.τ) (Cert.DUpRefIdeal.main (F := Ideal))) ⟨m', fun _ => 0, g'⟩ (fun r => ∀ c : Dev Cert.DUpRefIdeal.nD,
          r.2.mem ((c.tc : Thread Cert.DUpRefIdeal.nD Cert.DUpRefIdeal.τ).loc Cert.DUpRefIdeal.main_v13) = v0 c
          ∧ r.2.mem ((c.tc : Thread Cert.DUpRefIdeal.nD Cert.DUpRefIdeal.τ).loc Cert.DUpRefIdeal.main_arg0) = m' ((c.tc : Thread Cert.DUpRefIdeal.nD Cert.DUpRefIdeal.τ).loc Cert.DUpRefIdeal.main_arg0)
          ∧ r.2.mem ((c.tc : Thread Cert.DUpRefIdeal.nD Cert.DUpRefIdeal.τ).loc Cert.DUpRefIdeal.main_arg1) = m' ((c.tc : Thread Cert.DUpRefIdeal.nD Cert.DUpRefIdeal.τ).loc Cert.DUpRefIdeal.main_arg1)
          ∧ r.2.mem ((c.tc : Thread Cert.DUpRefIdeal.nD Cert.DUpRefIdeal.τ).loc Cert.DUpRefIdeal.main_arg2) = m' ((c.tc : Thread Cert.DUpRefIdeal.nD Cert.DUpRefIdeal.τ).loc Cert.DUpRefIdeal.main_arg2)
          ∧ r.2.mem ((c.tc : Thread Cert.DUpRefIdeal.nD Cert.DUpRefIdeal.τ).loc Cert.DUpRefIdeal.main_arg3) = m' ((c.tc : Thread Cert.DUpRefIdeal.nD Cert.DUpRefIdeal.τ).loc Cert.DUpRefIdeal.main_arg3))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)
      ∧ m' ((c.tc : Thread Cert.DwDownRefIdeal.nD Cert.DwDownRefIdeal.τ).loc Cert.DwDownRefIdeal.main_arg2) = m ((c.tc : Thread Cert.DwDownIdeal.nD Cert.DwDownIdeal.τ).loc Cert.DwDownIdeal.main_arg2)
      ∧ m' ((c.tc : Thread Cert.DwDownRefIdeal.nD Cert.DwDownRefIdeal.τ).loc Cert.DwDownRefIdeal.main_arg3) = m ((c.tc : Thread Cert.DwDownIdeal.nD Cert.DwDownIdeal.τ).loc Cert.DwDownIdeal.main_arg3)) →
    ∃ (v0 : (c : Dev Cert.DwDownIdeal.nD) → Buf (Elt Ideal) ((c.tc : Thread Cert.DwDownIdeal.nD Cert.DwDownIdeal.τ).loc Cert.DwDownIdeal.main_v5)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v5) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
          ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v10) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1)
          ∧ r.2.mem ((c.tc : Thread Cert.DwDownRefIdeal.nD Cert.DwDownRefIdeal.τ).loc Cert.DwDownRefIdeal.main_arg2) = m' ((c.tc : Thread Cert.DwDownRefIdeal.nD Cert.DwDownRefIdeal.τ).loc Cert.DwDownRefIdeal.main_arg2)
          ∧ r.2.mem ((c.tc : Thread Cert.DwDownRefIdeal.nD Cert.DwDownRefIdeal.τ).loc Cert.DwDownRefIdeal.main_arg3) = m' ((c.tc : Thread Cert.DwDownRefIdeal.nD Cert.DwDownRefIdeal.τ).loc Cert.DwDownRefIdeal.main_arg3))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)
      ∧ m' ((c.tc : Thread Cert.DwUpRefIdeal.nD Cert.DwUpRefIdeal.τ).loc Cert.DwUpRefIdeal.main_arg3) = m ((c.tc : Thread Cert.DwUpIdeal.nD Cert.DwUpIdeal.τ).loc Cert.DwUpIdeal.main_arg3)) →
    ∃ (v0 : (c : Dev Cert.DwUpIdeal.nD) → Buf (Elt Ideal) ((c.tc : Thread Cert.DwUpIdeal.nD Cert.DwUpIdeal.τ).loc Cert.DwUpIdeal.main_v15)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v15) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2)
          ∧ r.2.mem ((c.tc : Thread Cert.DwUpIdeal.nD Cert.DwUpIdeal.τ).loc Cert.DwUpIdeal.main_arg3) = m ((c.tc : Thread Cert.DwUpIdeal.nD Cert.DwUpIdeal.τ).loc Cert.DwUpIdeal.main_arg3))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v16) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2)
          ∧ r.2.mem ((c.tc : Thread Cert.DwUpRefIdeal.nD Cert.DwUpRefIdeal.τ).loc Cert.DwUpRefIdeal.main_arg3) = m' ((c.tc : Thread Cert.DwUpRefIdeal.nD Cert.DwUpRefIdeal.τ).loc Cert.DwUpRefIdeal.main_arg3))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)) →
    ∃ (v0 : (c : Dev Cert.DhIdeal.nD) → Buf (Elt Ideal) ((c.tc : Thread Cert.DhIdeal.nD Cert.DhIdeal.τ).loc Cert.DhIdeal.main_v15)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v15) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v17) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3))

def preserves_Linear_LinearIdeal : Prop :=
  True

def algebraic_LinearIdeal_LinearRefIdeal [hLinearIdeal : Cert.LinearIdeal.Facts] [hLinearRefIdeal : Cert.LinearRefIdeal.Facts] : Prop :=
  ∀ (m : (ℓ : Loc Cert.LinearIdeal.nD Cert.LinearIdeal.τ Cert.LinearIdeal.sig) → Buf (Elt Ideal) ℓ) (g : Dev Cert.LinearIdeal.nD → PrngReg)
    (m' : (ℓ : Loc Cert.LinearRefIdeal.nD Cert.LinearRefIdeal.τ Cert.LinearRefIdeal.sig) → Buf (Elt Ideal) ℓ) (g' : Dev Cert.LinearRefIdeal.nD → PrngReg), Pre_LinearIdeal m →
    (∀ c : Dev Cert.LinearIdeal.nD,
      m' ((c.tc : Thread Cert.LinearRefIdeal.nD Cert.LinearRefIdeal.τ).loc Cert.LinearRefIdeal.main_arg0) = m ((c.tc : Thread Cert.LinearIdeal.nD Cert.LinearIdeal.τ).loc Cert.LinearIdeal.main_arg0)
      ∧ m' ((c.tc : Thread Cert.LinearRefIdeal.nD Cert.LinearRefIdeal.τ).loc Cert.LinearRefIdeal.main_arg1) = m ((c.tc : Thread Cert.LinearIdeal.nD Cert.LinearIdeal.τ).loc Cert.LinearIdeal.main_arg1)) →
    ∃ (v0 : (c : Dev Cert.LinearIdeal.nD) → Buf (Elt Ideal) ((c.tc : Thread Cert.LinearIdeal.nD Cert.LinearIdeal.τ).loc Cert.LinearIdeal.main_v2)),
      θ_run (Cert.LinearIdeal.defs (F := Ideal)) (onTc (τ := Cert.LinearIdeal.τ) (Cert.LinearIdeal.main (F := Ideal))) ⟨m, fun _ => 0, g⟩ (fun r => ∀ c : Dev Cert.LinearIdeal.nD,
          r.2.mem ((c.tc : Thread Cert.LinearIdeal.nD Cert.LinearIdeal.τ).loc Cert.LinearIdeal.main_v2) = v0 c
          ∧ r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
          ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1))
      ∧ θ_run (Cert.LinearRefIdeal.defs (F := Ideal)) (onTc (τ := Cert.LinearRefIdeal.τ) (Cert.LinearRefIdeal.main (F := Ideal))) ⟨m', fun _ => 0, g'⟩ (fun r => ∀ c : Dev Cert.LinearRefIdeal.nD,
          r.2.mem ((c.tc : Thread Cert.LinearRefIdeal.nD Cert.LinearRefIdeal.τ).loc Cert.LinearRefIdeal.main_v0) = v0 c
          ∧ r.2.mem ((c.tc : Thread Cert.LinearRefIdeal.nD Cert.LinearRefIdeal.τ).loc Cert.LinearRefIdeal.main_arg0) = m' ((c.tc : Thread Cert.LinearRefIdeal.nD Cert.LinearRefIdeal.τ).loc Cert.LinearRefIdeal.main_arg0)
          ∧ r.2.mem ((c.tc : Thread Cert.LinearRefIdeal.nD Cert.LinearRefIdeal.τ).loc Cert.LinearRefIdeal.main_arg1) = m' ((c.tc : Thread Cert.LinearRefIdeal.nD Cert.LinearRefIdeal.τ).loc Cert.LinearRefIdeal.main_arg1))

def preserves_LinearDx_LinearDxIdeal : Prop :=
  True

def algebraic_LinearDxIdeal_LinearDxRefIdeal [hLinearDxIdeal : Cert.LinearDxIdeal.Facts] [hLinearDxRefIdeal : Cert.LinearDxRefIdeal.Facts] : Prop :=
  ∀ (m : (ℓ : Loc Cert.LinearDxIdeal.nD Cert.LinearDxIdeal.τ Cert.LinearDxIdeal.sig) → Buf (Elt Ideal) ℓ) (g : Dev Cert.LinearDxIdeal.nD → PrngReg)
    (m' : (ℓ : Loc Cert.LinearDxRefIdeal.nD Cert.LinearDxRefIdeal.τ Cert.LinearDxRefIdeal.sig) → Buf (Elt Ideal) ℓ) (g' : Dev Cert.LinearDxRefIdeal.nD → PrngReg), Pre_LinearDxIdeal m →
    (∀ c : Dev Cert.LinearDxIdeal.nD,
      m' ((c.tc : Thread Cert.LinearDxRefIdeal.nD Cert.LinearDxRefIdeal.τ).loc Cert.LinearDxRefIdeal.main_arg0) = m ((c.tc : Thread Cert.LinearDxIdeal.nD Cert.LinearDxIdeal.τ).loc Cert.LinearDxIdeal.main_arg0)
      ∧ m' ((c.tc : Thread Cert.LinearDxRefIdeal.nD Cert.LinearDxRefIdeal.τ).loc Cert.LinearDxRefIdeal.main_arg1) = m ((c.tc : Thread Cert.LinearDxIdeal.nD Cert.LinearDxIdeal.τ).loc Cert.LinearDxIdeal.main_arg1)
      ∧ m' ((c.tc : Thread Cert.LinearDxRefIdeal.nD Cert.LinearDxRefIdeal.τ).loc Cert.LinearDxRefIdeal.main_arg2) = m ((c.tc : Thread Cert.LinearDxIdeal.nD Cert.LinearDxIdeal.τ).loc Cert.LinearDxIdeal.main_arg2)) →
    ∃ (v0 : (c : Dev Cert.LinearDxIdeal.nD) → Buf (Elt Ideal) ((c.tc : Thread Cert.LinearDxIdeal.nD Cert.LinearDxIdeal.τ).loc Cert.LinearDxIdeal.main_v2)),
      θ_run (Cert.LinearDxIdeal.defs (F := Ideal)) (onTc (τ := Cert.LinearDxIdeal.τ) (Cert.LinearDxIdeal.main (F := Ideal))) ⟨m, fun _ => 0, g⟩ (fun r => ∀ c : Dev Cert.LinearDxIdeal.nD,
          r.2.mem ((c.tc : Thread Cert.LinearDxIdeal.nD Cert.LinearDxIdeal.τ).loc Cert.LinearDxIdeal.main_v2) = v0 c
          ∧ r.2.mem ((c.tc : Thread Cert.LinearDxIdeal.nD Cert.LinearDxIdeal.τ).loc Cert.LinearDxIdeal.main_arg0) = m ((c.tc : Thread Cert.LinearDxIdeal.nD Cert.LinearDxIdeal.τ).loc Cert.LinearDxIdeal.main_arg0)
          ∧ r.2.mem ((c.tc : Thread Cert.LinearDxIdeal.nD Cert.LinearDxIdeal.τ).loc Cert.LinearDxIdeal.main_arg1) = m ((c.tc : Thread Cert.LinearDxIdeal.nD Cert.LinearDxIdeal.τ).loc Cert.LinearDxIdeal.main_arg1)
          ∧ r.2.mem ((c.tc : Thread Cert.LinearDxIdeal.nD Cert.LinearDxIdeal.τ).loc Cert.LinearDxIdeal.main_arg2) = m ((c.tc : Thread Cert.LinearDxIdeal.nD Cert.LinearDxIdeal.τ).loc Cert.LinearDxIdeal.main_arg2))
      ∧ θ_run (Cert.LinearDxRefIdeal.defs (F := Ideal)) (onTc (τ := Cert.LinearDxRefIdeal.τ) (Cert.LinearDxRefIdeal.main (F := Ideal))) ⟨m', fun _ => 0, g'⟩ (fun r => ∀ c : Dev Cert.LinearDxRefIdeal.nD,
          r.2.mem ((c.tc : Thread Cert.LinearDxRefIdeal.nD Cert.LinearDxRefIdeal.τ).loc Cert.LinearDxRefIdeal.main_v3) = v0 c
          ∧ r.2.mem ((c.tc : Thread Cert.LinearDxRefIdeal.nD Cert.LinearDxRefIdeal.τ).loc Cert.LinearDxRefIdeal.main_arg0) = m' ((c.tc : Thread Cert.LinearDxRefIdeal.nD Cert.LinearDxRefIdeal.τ).loc Cert.LinearDxRefIdeal.main_arg0)
          ∧ r.2.mem ((c.tc : Thread Cert.LinearDxRefIdeal.nD Cert.LinearDxRefIdeal.τ).loc Cert.LinearDxRefIdeal.main_arg1) = m' ((c.tc : Thread Cert.LinearDxRefIdeal.nD Cert.LinearDxRefIdeal.τ).loc Cert.LinearDxRefIdeal.main_arg1)
          ∧ r.2.mem ((c.tc : Thread Cert.LinearDxRefIdeal.nD Cert.LinearDxRefIdeal.τ).loc Cert.LinearDxRefIdeal.main_arg2) = m' ((c.tc : Thread Cert.LinearDxRefIdeal.nD Cert.LinearDxRefIdeal.τ).loc Cert.LinearDxRefIdeal.main_arg2))

def preserves_LinearDw_LinearDwIdeal : Prop :=
  True

def algebraic_LinearDwIdeal_LinearDwRefIdeal [hLinearDwIdeal : Cert.LinearDwIdeal.Facts] [hLinearDwRefIdeal : Cert.LinearDwRefIdeal.Facts] : Prop :=
  ∀ (m : (ℓ : Loc Cert.LinearDwIdeal.nD Cert.LinearDwIdeal.τ Cert.LinearDwIdeal.sig) → Buf (Elt Ideal) ℓ) (g : Dev Cert.LinearDwIdeal.nD → PrngReg)
    (m' : (ℓ : Loc Cert.LinearDwRefIdeal.nD Cert.LinearDwRefIdeal.τ Cert.LinearDwRefIdeal.sig) → Buf (Elt Ideal) ℓ) (g' : Dev Cert.LinearDwRefIdeal.nD → PrngReg), Pre_LinearDwIdeal m →
    (∀ c : Dev Cert.LinearDwIdeal.nD,
      m' ((c.tc : Thread Cert.LinearDwRefIdeal.nD Cert.LinearDwRefIdeal.τ).loc Cert.LinearDwRefIdeal.main_arg0) = m ((c.tc : Thread Cert.LinearDwIdeal.nD Cert.LinearDwIdeal.τ).loc Cert.LinearDwIdeal.main_arg0)
      ∧ m' ((c.tc : Thread Cert.LinearDwRefIdeal.nD Cert.LinearDwRefIdeal.τ).loc Cert.LinearDwRefIdeal.main_arg1) = m ((c.tc : Thread Cert.LinearDwIdeal.nD Cert.LinearDwIdeal.τ).loc Cert.LinearDwIdeal.main_arg1)
      ∧ m' ((c.tc : Thread Cert.LinearDwRefIdeal.nD Cert.LinearDwRefIdeal.τ).loc Cert.LinearDwRefIdeal.main_arg2) = m ((c.tc : Thread Cert.LinearDwIdeal.nD Cert.LinearDwIdeal.τ).loc Cert.LinearDwIdeal.main_arg2)) →
    ∃ (v0 : (c : Dev Cert.LinearDwIdeal.nD) → Buf (Elt Ideal) ((c.tc : Thread Cert.LinearDwIdeal.nD Cert.LinearDwIdeal.τ).loc Cert.LinearDwIdeal.main_v2)),
      θ_run (Cert.LinearDwIdeal.defs (F := Ideal)) (onTc (τ := Cert.LinearDwIdeal.τ) (Cert.LinearDwIdeal.main (F := Ideal))) ⟨m, fun _ => 0, g⟩ (fun r => ∀ c : Dev Cert.LinearDwIdeal.nD,
          r.2.mem ((c.tc : Thread Cert.LinearDwIdeal.nD Cert.LinearDwIdeal.τ).loc Cert.LinearDwIdeal.main_v2) = v0 c
          ∧ r.2.mem ((c.tc : Thread Cert.LinearDwIdeal.nD Cert.LinearDwIdeal.τ).loc Cert.LinearDwIdeal.main_arg0) = m ((c.tc : Thread Cert.LinearDwIdeal.nD Cert.LinearDwIdeal.τ).loc Cert.LinearDwIdeal.main_arg0)
          ∧ r.2.mem ((c.tc : Thread Cert.LinearDwIdeal.nD Cert.LinearDwIdeal.τ).loc Cert.LinearDwIdeal.main_arg1) = m ((c.tc : Thread Cert.LinearDwIdeal.nD Cert.LinearDwIdeal.τ).loc Cert.LinearDwIdeal.main_arg1)
          ∧ r.2.mem ((c.tc : Thread Cert.LinearDwIdeal.nD Cert.LinearDwIdeal.τ).loc Cert.LinearDwIdeal.main_arg2) = m ((c.tc : Thread Cert.LinearDwIdeal.nD Cert.LinearDwIdeal.τ).loc Cert.LinearDwIdeal.main_arg2))
      ∧ θ_run (Cert.LinearDwRefIdeal.defs (F := Ideal)) (onTc (τ := Cert.LinearDwRefIdeal.τ) (Cert.LinearDwRefIdeal.main (F := Ideal))) ⟨m', fun _ => 0, g'⟩ (fun r => ∀ c : Dev Cert.LinearDwRefIdeal.nD,
          r.2.mem ((c.tc : Thread Cert.LinearDwRefIdeal.nD Cert.LinearDwRefIdeal.τ).loc Cert.LinearDwRefIdeal.main_v2) = v0 c
          ∧ r.2.mem ((c.tc : Thread Cert.LinearDwRefIdeal.nD Cert.LinearDwRefIdeal.τ).loc Cert.LinearDwRefIdeal.main_arg0) = m' ((c.tc : Thread Cert.LinearDwRefIdeal.nD Cert.LinearDwRefIdeal.τ).loc Cert.LinearDwRefIdeal.main_arg0)
          ∧ r.2.mem ((c.tc : Thread Cert.LinearDwRefIdeal.nD Cert.LinearDwRefIdeal.τ).loc Cert.LinearDwRefIdeal.main_arg1) = m' ((c.tc : Thread Cert.LinearDwRefIdeal.nD Cert.LinearDwRefIdeal.τ).loc Cert.LinearDwRefIdeal.main_arg1)
          ∧ r.2.mem ((c.tc : Thread Cert.LinearDwRefIdeal.nD Cert.LinearDwRefIdeal.τ).loc Cert.LinearDwRefIdeal.main_arg2) = m' ((c.tc : Thread Cert.LinearDwRefIdeal.nD Cert.LinearDwRefIdeal.τ).loc Cert.LinearDwRefIdeal.main_arg2))

def preserves_LinearA_LinearAIdeal : Prop :=
  True

def algebraic_LinearAIdeal_LinearARefIdeal [hLinearAIdeal : Cert.LinearAIdeal.Facts] [hLinearARefIdeal : Cert.LinearARefIdeal.Facts] : Prop :=
  ∀ (m : (ℓ : Loc Cert.LinearAIdeal.nD Cert.LinearAIdeal.τ Cert.LinearAIdeal.sig) → Buf (Elt Ideal) ℓ) (g : Dev Cert.LinearAIdeal.nD → PrngReg)
    (m' : (ℓ : Loc Cert.LinearARefIdeal.nD Cert.LinearARefIdeal.τ Cert.LinearARefIdeal.sig) → Buf (Elt Ideal) ℓ) (g' : Dev Cert.LinearARefIdeal.nD → PrngReg), Pre_LinearAIdeal m →
    (∀ c : Dev Cert.LinearAIdeal.nD,
      m' ((c.tc : Thread Cert.LinearARefIdeal.nD Cert.LinearARefIdeal.τ).loc Cert.LinearARefIdeal.main_arg0) = m ((c.tc : Thread Cert.LinearAIdeal.nD Cert.LinearAIdeal.τ).loc Cert.LinearAIdeal.main_arg0)
      ∧ m' ((c.tc : Thread Cert.LinearARefIdeal.nD Cert.LinearARefIdeal.τ).loc Cert.LinearARefIdeal.main_arg1) = m ((c.tc : Thread Cert.LinearAIdeal.nD Cert.LinearAIdeal.τ).loc Cert.LinearAIdeal.main_arg1)) →
    ∃ (v0 : (c : Dev Cert.LinearAIdeal.nD) → Buf (Elt Ideal) ((c.tc : Thread Cert.LinearAIdeal.nD Cert.LinearAIdeal.τ).loc Cert.LinearAIdeal.main_v2)),
      θ_run (Cert.LinearAIdeal.defs (F := Ideal)) (onTc (τ := Cert.LinearAIdeal.τ) (Cert.LinearAIdeal.main (F := Ideal))) ⟨m, fun _ => 0, g⟩ (fun r => ∀ c : Dev Cert.LinearAIdeal.nD,
          r.2.mem ((c.tc : Thread Cert.LinearAIdeal.nD Cert.LinearAIdeal.τ).loc Cert.LinearAIdeal.main_v2) = v0 c
          ∧ r.2.mem ((c.tc : Thread Cert.LinearAIdeal.nD Cert.LinearAIdeal.τ).loc Cert.LinearAIdeal.main_arg0) = m ((c.tc : Thread Cert.LinearAIdeal.nD Cert.LinearAIdeal.τ).loc Cert.LinearAIdeal.main_arg0)
          ∧ r.2.mem ((c.tc : Thread Cert.LinearAIdeal.nD Cert.LinearAIdeal.τ).loc Cert.LinearAIdeal.main_arg1) = m ((c.tc : Thread Cert.LinearAIdeal.nD Cert.LinearAIdeal.τ).loc Cert.LinearAIdeal.main_arg1))
      ∧ θ_run (Cert.LinearARefIdeal.defs (F := Ideal)) (onTc (τ := Cert.LinearARefIdeal.τ) (Cert.LinearARefIdeal.main (F := Ideal))) ⟨m', fun _ => 0, g'⟩ (fun r => ∀ c : Dev Cert.LinearARefIdeal.nD,
          r.2.mem ((c.tc : Thread Cert.LinearARefIdeal.nD Cert.LinearARefIdeal.τ).loc Cert.LinearARefIdeal.main_v0) = v0 c
          ∧ r.2.mem ((c.tc : Thread Cert.LinearARefIdeal.nD Cert.LinearARefIdeal.τ).loc Cert.LinearARefIdeal.main_arg0) = m' ((c.tc : Thread Cert.LinearARefIdeal.nD Cert.LinearARefIdeal.τ).loc Cert.LinearARefIdeal.main_arg0)
          ∧ r.2.mem ((c.tc : Thread Cert.LinearARefIdeal.nD Cert.LinearARefIdeal.τ).loc Cert.LinearARefIdeal.main_arg1) = m' ((c.tc : Thread Cert.LinearARefIdeal.nD Cert.LinearARefIdeal.τ).loc Cert.LinearARefIdeal.main_arg1))

def preserves_LinearADx_LinearADxIdeal : Prop :=
  True

def algebraic_LinearADxIdeal_LinearADxRefIdeal [hLinearADxIdeal : Cert.LinearADxIdeal.Facts] [hLinearADxRefIdeal : Cert.LinearADxRefIdeal.Facts] : Prop :=
  ∀ (m : (ℓ : Loc Cert.LinearADxIdeal.nD Cert.LinearADxIdeal.τ Cert.LinearADxIdeal.sig) → Buf (Elt Ideal) ℓ) (g : Dev Cert.LinearADxIdeal.nD → PrngReg)
    (m' : (ℓ : Loc Cert.LinearADxRefIdeal.nD Cert.LinearADxRefIdeal.τ Cert.LinearADxRefIdeal.sig) → Buf (Elt Ideal) ℓ) (g' : Dev Cert.LinearADxRefIdeal.nD → PrngReg), Pre_LinearADxIdeal m →
    (∀ c : Dev Cert.LinearADxIdeal.nD,
      m' ((c.tc : Thread Cert.LinearADxRefIdeal.nD Cert.LinearADxRefIdeal.τ).loc Cert.LinearADxRefIdeal.main_arg0) = m ((c.tc : Thread Cert.LinearADxIdeal.nD Cert.LinearADxIdeal.τ).loc Cert.LinearADxIdeal.main_arg0)
      ∧ m' ((c.tc : Thread Cert.LinearADxRefIdeal.nD Cert.LinearADxRefIdeal.τ).loc Cert.LinearADxRefIdeal.main_arg1) = m ((c.tc : Thread Cert.LinearADxIdeal.nD Cert.LinearADxIdeal.τ).loc Cert.LinearADxIdeal.main_arg1)
      ∧ m' ((c.tc : Thread Cert.LinearADxRefIdeal.nD Cert.LinearADxRefIdeal.τ).loc Cert.LinearADxRefIdeal.main_arg2) = m ((c.tc : Thread Cert.LinearADxIdeal.nD Cert.LinearADxIdeal.τ).loc Cert.LinearADxIdeal.main_arg2)) →
    ∃ (v0 : (c : Dev Cert.LinearADxIdeal.nD) → Buf (Elt Ideal) ((c.tc : Thread Cert.LinearADxIdeal.nD Cert.LinearADxIdeal.τ).loc Cert.LinearADxIdeal.main_v2)),
      θ_run (Cert.LinearADxIdeal.defs (F := Ideal)) (onTc (τ := Cert.LinearADxIdeal.τ) (Cert.LinearADxIdeal.main (F := Ideal))) ⟨m, fun _ => 0, g⟩ (fun r => ∀ c : Dev Cert.LinearADxIdeal.nD,
          r.2.mem ((c.tc : Thread Cert.LinearADxIdeal.nD Cert.LinearADxIdeal.τ).loc Cert.LinearADxIdeal.main_v2) = v0 c
          ∧ r.2.mem ((c.tc : Thread Cert.LinearADxIdeal.nD Cert.LinearADxIdeal.τ).loc Cert.LinearADxIdeal.main_arg0) = m ((c.tc : Thread Cert.LinearADxIdeal.nD Cert.LinearADxIdeal.τ).loc Cert.LinearADxIdeal.main_arg0)
          ∧ r.2.mem ((c.tc : Thread Cert.LinearADxIdeal.nD Cert.LinearADxIdeal.τ).loc Cert.LinearADxIdeal.main_arg1) = m ((c.tc : Thread Cert.LinearADxIdeal.nD Cert.LinearADxIdeal.τ).loc Cert.LinearADxIdeal.main_arg1)
          ∧ r.2.mem ((c.tc : Thread Cert.LinearADxIdeal.nD Cert.LinearADxIdeal.τ).loc Cert.LinearADxIdeal.main_arg2) = m ((c.tc : Thread Cert.LinearADxIdeal.nD Cert.LinearADxIdeal.τ).loc Cert.LinearADxIdeal.main_arg2))
      ∧ θ_run (Cert.LinearADxRefIdeal.defs (F := Ideal)) (onTc (τ := Cert.LinearADxRefIdeal.τ) (Cert.LinearADxRefIdeal.main (F := Ideal))) ⟨m', fun _ => 0, g'⟩ (fun r => ∀ c : Dev Cert.LinearADxRefIdeal.nD,
          r.2.mem ((c.tc : Thread Cert.LinearADxRefIdeal.nD Cert.LinearADxRefIdeal.τ).loc Cert.LinearADxRefIdeal.main_v3) = v0 c
          ∧ r.2.mem ((c.tc : Thread Cert.LinearADxRefIdeal.nD Cert.LinearADxRefIdeal.τ).loc Cert.LinearADxRefIdeal.main_arg0) = m' ((c.tc : Thread Cert.LinearADxRefIdeal.nD Cert.LinearADxRefIdeal.τ).loc Cert.LinearADxRefIdeal.main_arg0)
          ∧ r.2.mem ((c.tc : Thread Cert.LinearADxRefIdeal.nD Cert.LinearADxRefIdeal.τ).loc Cert.LinearADxRefIdeal.main_arg1) = m' ((c.tc : Thread Cert.LinearADxRefIdeal.nD Cert.LinearADxRefIdeal.τ).loc Cert.LinearADxRefIdeal.main_arg1)
          ∧ r.2.mem ((c.tc : Thread Cert.LinearADxRefIdeal.nD Cert.LinearADxRefIdeal.τ).loc Cert.LinearADxRefIdeal.main_arg2) = m' ((c.tc : Thread Cert.LinearADxRefIdeal.nD Cert.LinearADxRefIdeal.τ).loc Cert.LinearADxRefIdeal.main_arg2))

def preserves_LinearADw_LinearADwIdeal : Prop :=
  True

def algebraic_LinearADwIdeal_LinearADwRefIdeal [hLinearADwIdeal : Cert.LinearADwIdeal.Facts] [hLinearADwRefIdeal : Cert.LinearADwRefIdeal.Facts] : Prop :=
  ∀ (m : (ℓ : Loc Cert.LinearADwIdeal.nD Cert.LinearADwIdeal.τ Cert.LinearADwIdeal.sig) → Buf (Elt Ideal) ℓ) (g : Dev Cert.LinearADwIdeal.nD → PrngReg)
    (m' : (ℓ : Loc Cert.LinearADwRefIdeal.nD Cert.LinearADwRefIdeal.τ Cert.LinearADwRefIdeal.sig) → Buf (Elt Ideal) ℓ) (g' : Dev Cert.LinearADwRefIdeal.nD → PrngReg), Pre_LinearADwIdeal m →
    (∀ c : Dev Cert.LinearADwIdeal.nD,
      m' ((c.tc : Thread Cert.LinearADwRefIdeal.nD Cert.LinearADwRefIdeal.τ).loc Cert.LinearADwRefIdeal.main_arg0) = m ((c.tc : Thread Cert.LinearADwIdeal.nD Cert.LinearADwIdeal.τ).loc Cert.LinearADwIdeal.main_arg0)
      ∧ m' ((c.tc : Thread Cert.LinearADwRefIdeal.nD Cert.LinearADwRefIdeal.τ).loc Cert.LinearADwRefIdeal.main_arg1) = m ((c.tc : Thread Cert.LinearADwIdeal.nD Cert.LinearADwIdeal.τ).loc Cert.LinearADwIdeal.main_arg1)
      ∧ m' ((c.tc : Thread Cert.LinearADwRefIdeal.nD Cert.LinearADwRefIdeal.τ).loc Cert.LinearADwRefIdeal.main_arg2) = m ((c.tc : Thread Cert.LinearADwIdeal.nD Cert.LinearADwIdeal.τ).loc Cert.LinearADwIdeal.main_arg2)) →
    ∃ (v0 : (c : Dev Cert.LinearADwIdeal.nD) → Buf (Elt Ideal) ((c.tc : Thread Cert.LinearADwIdeal.nD Cert.LinearADwIdeal.τ).loc Cert.LinearADwIdeal.main_v2)),
      θ_run (Cert.LinearADwIdeal.defs (F := Ideal)) (onTc (τ := Cert.LinearADwIdeal.τ) (Cert.LinearADwIdeal.main (F := Ideal))) ⟨m, fun _ => 0, g⟩ (fun r => ∀ c : Dev Cert.LinearADwIdeal.nD,
          r.2.mem ((c.tc : Thread Cert.LinearADwIdeal.nD Cert.LinearADwIdeal.τ).loc Cert.LinearADwIdeal.main_v2) = v0 c
          ∧ r.2.mem ((c.tc : Thread Cert.LinearADwIdeal.nD Cert.LinearADwIdeal.τ).loc Cert.LinearADwIdeal.main_arg0) = m ((c.tc : Thread Cert.LinearADwIdeal.nD Cert.LinearADwIdeal.τ).loc Cert.LinearADwIdeal.main_arg0)
          ∧ r.2.mem ((c.tc : Thread Cert.LinearADwIdeal.nD Cert.LinearADwIdeal.τ).loc Cert.LinearADwIdeal.main_arg1) = m ((c.tc : Thread Cert.LinearADwIdeal.nD Cert.LinearADwIdeal.τ).loc Cert.LinearADwIdeal.main_arg1)
          ∧ r.2.mem ((c.tc : Thread Cert.LinearADwIdeal.nD Cert.LinearADwIdeal.τ).loc Cert.LinearADwIdeal.main_arg2) = m ((c.tc : Thread Cert.LinearADwIdeal.nD Cert.LinearADwIdeal.τ).loc Cert.LinearADwIdeal.main_arg2))
      ∧ θ_run (Cert.LinearADwRefIdeal.defs (F := Ideal)) (onTc (τ := Cert.LinearADwRefIdeal.τ) (Cert.LinearADwRefIdeal.main (F := Ideal))) ⟨m', fun _ => 0, g'⟩ (fun r => ∀ c : Dev Cert.LinearADwRefIdeal.nD,
          r.2.mem ((c.tc : Thread Cert.LinearADwRefIdeal.nD Cert.LinearADwRefIdeal.τ).loc Cert.LinearADwRefIdeal.main_v2) = v0 c
          ∧ r.2.mem ((c.tc : Thread Cert.LinearADwRefIdeal.nD Cert.LinearADwRefIdeal.τ).loc Cert.LinearADwRefIdeal.main_arg0) = m' ((c.tc : Thread Cert.LinearADwRefIdeal.nD Cert.LinearADwRefIdeal.τ).loc Cert.LinearADwRefIdeal.main_arg0)
          ∧ r.2.mem ((c.tc : Thread Cert.LinearADwRefIdeal.nD Cert.LinearADwRefIdeal.τ).loc Cert.LinearADwRefIdeal.main_arg1) = m' ((c.tc : Thread Cert.LinearADwRefIdeal.nD Cert.LinearADwRefIdeal.τ).loc Cert.LinearADwRefIdeal.main_arg1)
          ∧ r.2.mem ((c.tc : Thread Cert.LinearADwRefIdeal.nD Cert.LinearADwRefIdeal.τ).loc Cert.LinearADwRefIdeal.main_arg2) = m' ((c.tc : Thread Cert.LinearADwRefIdeal.nD Cert.LinearADwRefIdeal.τ).loc Cert.LinearADwRefIdeal.main_arg2))

def preserves_LinearKv_LinearKvIdeal : Prop :=
  True

def algebraic_LinearKvIdeal_LinearKvRefIdeal [hLinearKvIdeal : Cert.LinearKvIdeal.Facts] [hLinearKvRefIdeal : Cert.LinearKvRefIdeal.Facts] : Prop :=
  ∀ (m : (ℓ : Loc Cert.LinearKvIdeal.nD Cert.LinearKvIdeal.τ Cert.LinearKvIdeal.sig) → Buf (Elt Ideal) ℓ) (g : Dev Cert.LinearKvIdeal.nD → PrngReg)
    (m' : (ℓ : Loc Cert.LinearKvRefIdeal.nD Cert.LinearKvRefIdeal.τ Cert.LinearKvRefIdeal.sig) → Buf (Elt Ideal) ℓ) (g' : Dev Cert.LinearKvRefIdeal.nD → PrngReg), Pre_LinearKvIdeal m →
    (∀ c : Dev Cert.LinearKvIdeal.nD,
      m' ((c.tc : Thread Cert.LinearKvRefIdeal.nD Cert.LinearKvRefIdeal.τ).loc Cert.LinearKvRefIdeal.main_arg0) = m ((c.tc : Thread Cert.LinearKvIdeal.nD Cert.LinearKvIdeal.τ).loc Cert.LinearKvIdeal.main_arg0)
      ∧ m' ((c.tc : Thread Cert.LinearKvRefIdeal.nD Cert.LinearKvRefIdeal.τ).loc Cert.LinearKvRefIdeal.main_arg1) = m ((c.tc : Thread Cert.LinearKvIdeal.nD Cert.LinearKvIdeal.τ).loc Cert.LinearKvIdeal.main_arg1)) →
    ∃ (v0 : (c : Dev Cert.LinearKvIdeal.nD) → Buf (Elt Ideal) ((c.tc : Thread Cert.LinearKvIdeal.nD Cert.LinearKvIdeal.τ).loc Cert.LinearKvIdeal.main_v2)),
      θ_run (Cert.LinearKvIdeal.defs (F := Ideal)) (onTc (τ := Cert.LinearKvIdeal.τ) (Cert.LinearKvIdeal.main (F := Ideal))) ⟨m, fun _ => 0, g⟩ (fun r => ∀ c : Dev Cert.LinearKvIdeal.nD,
          r.2.mem ((c.tc : Thread Cert.LinearKvIdeal.nD Cert.LinearKvIdeal.τ).loc Cert.LinearKvIdeal.main_v2) = v0 c
          ∧ r.2.mem ((c.tc : Thread Cert.LinearKvIdeal.nD Cert.LinearKvIdeal.τ).loc Cert.LinearKvIdeal.main_arg0) = m ((c.tc : Thread Cert.LinearKvIdeal.nD Cert.LinearKvIdeal.τ).loc Cert.LinearKvIdeal.main_arg0)
          ∧ r.2.mem ((c.tc : Thread Cert.LinearKvIdeal.nD Cert.LinearKvIdeal.τ).loc Cert.LinearKvIdeal.main_arg1) = m ((c.tc : Thread Cert.LinearKvIdeal.nD Cert.LinearKvIdeal.τ).loc Cert.LinearKvIdeal.main_arg1))
      ∧ θ_run (Cert.LinearKvRefIdeal.defs (F := Ideal)) (onTc (τ := Cert.LinearKvRefIdeal.τ) (Cert.LinearKvRefIdeal.main (F := Ideal))) ⟨m', fun _ => 0, g'⟩ (fun r => ∀ c : Dev Cert.LinearKvRefIdeal.nD,
          r.2.mem ((c.tc : Thread Cert.LinearKvRefIdeal.nD Cert.LinearKvRefIdeal.τ).loc Cert.LinearKvRefIdeal.main_v0) = v0 c
          ∧ r.2.mem ((c.tc : Thread Cert.LinearKvRefIdeal.nD Cert.LinearKvRefIdeal.τ).loc Cert.LinearKvRefIdeal.main_arg0) = m' ((c.tc : Thread Cert.LinearKvRefIdeal.nD Cert.LinearKvRefIdeal.τ).loc Cert.LinearKvRefIdeal.main_arg0)
          ∧ r.2.mem ((c.tc : Thread Cert.LinearKvRefIdeal.nD Cert.LinearKvRefIdeal.τ).loc Cert.LinearKvRefIdeal.main_arg1) = m' ((c.tc : Thread Cert.LinearKvRefIdeal.nD Cert.LinearKvRefIdeal.τ).loc Cert.LinearKvRefIdeal.main_arg1))

def preserves_LinearKvDx_LinearKvDxIdeal : Prop :=
  True

def algebraic_LinearKvDxIdeal_LinearKvDxRefIdeal [hLinearKvDxIdeal : Cert.LinearKvDxIdeal.Facts] [hLinearKvDxRefIdeal : Cert.LinearKvDxRefIdeal.Facts] : Prop :=
  ∀ (m : (ℓ : Loc Cert.LinearKvDxIdeal.nD Cert.LinearKvDxIdeal.τ Cert.LinearKvDxIdeal.sig) → Buf (Elt Ideal) ℓ) (g : Dev Cert.LinearKvDxIdeal.nD → PrngReg)
    (m' : (ℓ : Loc Cert.LinearKvDxRefIdeal.nD Cert.LinearKvDxRefIdeal.τ Cert.LinearKvDxRefIdeal.sig) → Buf (Elt Ideal) ℓ) (g' : Dev Cert.LinearKvDxRefIdeal.nD → PrngReg), Pre_LinearKvDxIdeal m →
    (∀ c : Dev Cert.LinearKvDxIdeal.nD,
      m' ((c.tc : Thread Cert.LinearKvDxRefIdeal.nD Cert.LinearKvDxRefIdeal.τ).loc Cert.LinearKvDxRefIdeal.main_arg0) = m ((c.tc : Thread Cert.LinearKvDxIdeal.nD Cert.LinearKvDxIdeal.τ).loc Cert.LinearKvDxIdeal.main_arg0)
      ∧ m' ((c.tc : Thread Cert.LinearKvDxRefIdeal.nD Cert.LinearKvDxRefIdeal.τ).loc Cert.LinearKvDxRefIdeal.main_arg1) = m ((c.tc : Thread Cert.LinearKvDxIdeal.nD Cert.LinearKvDxIdeal.τ).loc Cert.LinearKvDxIdeal.main_arg1)
      ∧ m' ((c.tc : Thread Cert.LinearKvDxRefIdeal.nD Cert.LinearKvDxRefIdeal.τ).loc Cert.LinearKvDxRefIdeal.main_arg2) = m ((c.tc : Thread Cert.LinearKvDxIdeal.nD Cert.LinearKvDxIdeal.τ).loc Cert.LinearKvDxIdeal.main_arg2)) →
    ∃ (v0 : (c : Dev Cert.LinearKvDxIdeal.nD) → Buf (Elt Ideal) ((c.tc : Thread Cert.LinearKvDxIdeal.nD Cert.LinearKvDxIdeal.τ).loc Cert.LinearKvDxIdeal.main_v2)),
      θ_run (Cert.LinearKvDxIdeal.defs (F := Ideal)) (onTc (τ := Cert.LinearKvDxIdeal.τ) (Cert.LinearKvDxIdeal.main (F := Ideal))) ⟨m, fun _ => 0, g⟩ (fun r => ∀ c : Dev Cert.LinearKvDxIdeal.nD,
          r.2.mem ((c.tc : Thread Cert.LinearKvDxIdeal.nD Cert.LinearKvDxIdeal.τ).loc Cert.LinearKvDxIdeal.main_v2) = v0 c
          ∧ r.2.mem ((c.tc : Thread Cert.LinearKvDxIdeal.nD Cert.LinearKvDxIdeal.τ).loc Cert.LinearKvDxIdeal.main_arg0) = m ((c.tc : Thread Cert.LinearKvDxIdeal.nD Cert.LinearKvDxIdeal.τ).loc Cert.LinearKvDxIdeal.main_arg0)
          ∧ r.2.mem ((c.tc : Thread Cert.LinearKvDxIdeal.nD Cert.LinearKvDxIdeal.τ).loc Cert.LinearKvDxIdeal.main_arg1) = m ((c.tc : Thread Cert.LinearKvDxIdeal.nD Cert.LinearKvDxIdeal.τ).loc Cert.LinearKvDxIdeal.main_arg1)
          ∧ r.2.mem ((c.tc : Thread Cert.LinearKvDxIdeal.nD Cert.LinearKvDxIdeal.τ).loc Cert.LinearKvDxIdeal.main_arg2) = m ((c.tc : Thread Cert.LinearKvDxIdeal.nD Cert.LinearKvDxIdeal.τ).loc Cert.LinearKvDxIdeal.main_arg2))
      ∧ θ_run (Cert.LinearKvDxRefIdeal.defs (F := Ideal)) (onTc (τ := Cert.LinearKvDxRefIdeal.τ) (Cert.LinearKvDxRefIdeal.main (F := Ideal))) ⟨m', fun _ => 0, g'⟩ (fun r => ∀ c : Dev Cert.LinearKvDxRefIdeal.nD,
          r.2.mem ((c.tc : Thread Cert.LinearKvDxRefIdeal.nD Cert.LinearKvDxRefIdeal.τ).loc Cert.LinearKvDxRefIdeal.main_v3) = v0 c
          ∧ r.2.mem ((c.tc : Thread Cert.LinearKvDxRefIdeal.nD Cert.LinearKvDxRefIdeal.τ).loc Cert.LinearKvDxRefIdeal.main_arg0) = m' ((c.tc : Thread Cert.LinearKvDxRefIdeal.nD Cert.LinearKvDxRefIdeal.τ).loc Cert.LinearKvDxRefIdeal.main_arg0)
          ∧ r.2.mem ((c.tc : Thread Cert.LinearKvDxRefIdeal.nD Cert.LinearKvDxRefIdeal.τ).loc Cert.LinearKvDxRefIdeal.main_arg1) = m' ((c.tc : Thread Cert.LinearKvDxRefIdeal.nD Cert.LinearKvDxRefIdeal.τ).loc Cert.LinearKvDxRefIdeal.main_arg1)
          ∧ r.2.mem ((c.tc : Thread Cert.LinearKvDxRefIdeal.nD Cert.LinearKvDxRefIdeal.τ).loc Cert.LinearKvDxRefIdeal.main_arg2) = m' ((c.tc : Thread Cert.LinearKvDxRefIdeal.nD Cert.LinearKvDxRefIdeal.τ).loc Cert.LinearKvDxRefIdeal.main_arg2))

def preserves_LinearKvDw_LinearKvDwIdeal : Prop :=
  True

def algebraic_LinearKvDwIdeal_LinearKvDwRefIdeal [hLinearKvDwIdeal : Cert.LinearKvDwIdeal.Facts] [hLinearKvDwRefIdeal : Cert.LinearKvDwRefIdeal.Facts] : Prop :=
  ∀ (m : (ℓ : Loc Cert.LinearKvDwIdeal.nD Cert.LinearKvDwIdeal.τ Cert.LinearKvDwIdeal.sig) → Buf (Elt Ideal) ℓ) (g : Dev Cert.LinearKvDwIdeal.nD → PrngReg)
    (m' : (ℓ : Loc Cert.LinearKvDwRefIdeal.nD Cert.LinearKvDwRefIdeal.τ Cert.LinearKvDwRefIdeal.sig) → Buf (Elt Ideal) ℓ) (g' : Dev Cert.LinearKvDwRefIdeal.nD → PrngReg), Pre_LinearKvDwIdeal m →
    (∀ c : Dev Cert.LinearKvDwIdeal.nD,
      m' ((c.tc : Thread Cert.LinearKvDwRefIdeal.nD Cert.LinearKvDwRefIdeal.τ).loc Cert.LinearKvDwRefIdeal.main_arg0) = m ((c.tc : Thread Cert.LinearKvDwIdeal.nD Cert.LinearKvDwIdeal.τ).loc Cert.LinearKvDwIdeal.main_arg0)
      ∧ m' ((c.tc : Thread Cert.LinearKvDwRefIdeal.nD Cert.LinearKvDwRefIdeal.τ).loc Cert.LinearKvDwRefIdeal.main_arg1) = m ((c.tc : Thread Cert.LinearKvDwIdeal.nD Cert.LinearKvDwIdeal.τ).loc Cert.LinearKvDwIdeal.main_arg1)
      ∧ m' ((c.tc : Thread Cert.LinearKvDwRefIdeal.nD Cert.LinearKvDwRefIdeal.τ).loc Cert.LinearKvDwRefIdeal.main_arg2) = m ((c.tc : Thread Cert.LinearKvDwIdeal.nD Cert.LinearKvDwIdeal.τ).loc Cert.LinearKvDwIdeal.main_arg2)) →
    ∃ (v0 : (c : Dev Cert.LinearKvDwIdeal.nD) → Buf (Elt Ideal) ((c.tc : Thread Cert.LinearKvDwIdeal.nD Cert.LinearKvDwIdeal.τ).loc Cert.LinearKvDwIdeal.main_v2)),
      θ_run (Cert.LinearKvDwIdeal.defs (F := Ideal)) (onTc (τ := Cert.LinearKvDwIdeal.τ) (Cert.LinearKvDwIdeal.main (F := Ideal))) ⟨m, fun _ => 0, g⟩ (fun r => ∀ c : Dev Cert.LinearKvDwIdeal.nD,
          r.2.mem ((c.tc : Thread Cert.LinearKvDwIdeal.nD Cert.LinearKvDwIdeal.τ).loc Cert.LinearKvDwIdeal.main_v2) = v0 c
          ∧ r.2.mem ((c.tc : Thread Cert.LinearKvDwIdeal.nD Cert.LinearKvDwIdeal.τ).loc Cert.LinearKvDwIdeal.main_arg0) = m ((c.tc : Thread Cert.LinearKvDwIdeal.nD Cert.LinearKvDwIdeal.τ).loc Cert.LinearKvDwIdeal.main_arg0)
          ∧ r.2.mem ((c.tc : Thread Cert.LinearKvDwIdeal.nD Cert.LinearKvDwIdeal.τ).loc Cert.LinearKvDwIdeal.main_arg1) = m ((c.tc : Thread Cert.LinearKvDwIdeal.nD Cert.LinearKvDwIdeal.τ).loc Cert.LinearKvDwIdeal.main_arg1)
          ∧ r.2.mem ((c.tc : Thread Cert.LinearKvDwIdeal.nD Cert.LinearKvDwIdeal.τ).loc Cert.LinearKvDwIdeal.main_arg2) = m ((c.tc : Thread Cert.LinearKvDwIdeal.nD Cert.LinearKvDwIdeal.τ).loc Cert.LinearKvDwIdeal.main_arg2))
      ∧ θ_run (Cert.LinearKvDwRefIdeal.defs (F := Ideal)) (onTc (τ := Cert.LinearKvDwRefIdeal.τ) (Cert.LinearKvDwRefIdeal.main (F := Ideal))) ⟨m', fun _ => 0, g'⟩ (fun r => ∀ c : Dev Cert.LinearKvDwRefIdeal.nD,
          r.2.mem ((c.tc : Thread Cert.LinearKvDwRefIdeal.nD Cert.LinearKvDwRefIdeal.τ).loc Cert.LinearKvDwRefIdeal.main_v2) = v0 c
          ∧ r.2.mem ((c.tc : Thread Cert.LinearKvDwRefIdeal.nD Cert.LinearKvDwRefIdeal.τ).loc Cert.LinearKvDwRefIdeal.main_arg0) = m' ((c.tc : Thread Cert.LinearKvDwRefIdeal.nD Cert.LinearKvDwRefIdeal.τ).loc Cert.LinearKvDwRefIdeal.main_arg0)
          ∧ r.2.mem ((c.tc : Thread Cert.LinearKvDwRefIdeal.nD Cert.LinearKvDwRefIdeal.τ).loc Cert.LinearKvDwRefIdeal.main_arg1) = m' ((c.tc : Thread Cert.LinearKvDwRefIdeal.nD Cert.LinearKvDwRefIdeal.τ).loc Cert.LinearKvDwRefIdeal.main_arg1)
          ∧ r.2.mem ((c.tc : Thread Cert.LinearKvDwRefIdeal.nD Cert.LinearKvDwRefIdeal.τ).loc Cert.LinearKvDwRefIdeal.main_arg2) = m' ((c.tc : Thread Cert.LinearKvDwRefIdeal.nD Cert.LinearKvDwRefIdeal.τ).loc Cert.LinearKvDwRefIdeal.main_arg2))

def preserves_LinearMem_LinearMemIdeal : Prop :=
  True

def algebraic_LinearMemIdeal_LinearMemRefIdeal [hLinearMemIdeal : Cert.LinearMemIdeal.Facts] [hLinearMemRefIdeal : Cert.LinearMemRefIdeal.Facts] : Prop :=
  ∀ (m : (ℓ : Loc Cert.LinearMemIdeal.nD Cert.LinearMemIdeal.τ Cert.LinearMemIdeal.sig) → Buf (Elt Ideal) ℓ) (g : Dev Cert.LinearMemIdeal.nD → PrngReg)
    (m' : (ℓ : Loc Cert.LinearMemRefIdeal.nD Cert.LinearMemRefIdeal.τ Cert.LinearMemRefIdeal.sig) → Buf (Elt Ideal) ℓ) (g' : Dev Cert.LinearMemRefIdeal.nD → PrngReg), Pre_LinearMemIdeal m →
    (∀ c : Dev Cert.LinearMemIdeal.nD,
      m' ((c.tc : Thread Cert.LinearMemRefIdeal.nD Cert.LinearMemRefIdeal.τ).loc Cert.LinearMemRefIdeal.main_arg0) = m ((c.tc : Thread Cert.LinearMemIdeal.nD Cert.LinearMemIdeal.τ).loc Cert.LinearMemIdeal.main_arg0)
      ∧ m' ((c.tc : Thread Cert.LinearMemRefIdeal.nD Cert.LinearMemRefIdeal.τ).loc Cert.LinearMemRefIdeal.main_arg1) = m ((c.tc : Thread Cert.LinearMemIdeal.nD Cert.LinearMemIdeal.τ).loc Cert.LinearMemIdeal.main_arg1)) →
    ∃ (v0 : (c : Dev Cert.LinearMemIdeal.nD) → Buf (Elt Ideal) ((c.tc : Thread Cert.LinearMemIdeal.nD Cert.LinearMemIdeal.τ).loc Cert.LinearMemIdeal.main_v2)),
      θ_run (Cert.LinearMemIdeal.defs (F := Ideal)) (onTc (τ := Cert.LinearMemIdeal.τ) (Cert.LinearMemIdeal.main (F := Ideal))) ⟨m, fun _ => 0, g⟩ (fun r => ∀ c : Dev Cert.LinearMemIdeal.nD,
          r.2.mem ((c.tc : Thread Cert.LinearMemIdeal.nD Cert.LinearMemIdeal.τ).loc Cert.LinearMemIdeal.main_v2) = v0 c
          ∧ r.2.mem ((c.tc : Thread Cert.LinearMemIdeal.nD Cert.LinearMemIdeal.τ).loc Cert.LinearMemIdeal.main_arg0) = m ((c.tc : Thread Cert.LinearMemIdeal.nD Cert.LinearMemIdeal.τ).loc Cert.LinearMemIdeal.main_arg0)
          ∧ r.2.mem ((c.tc : Thread Cert.LinearMemIdeal.nD Cert.LinearMemIdeal.τ).loc Cert.LinearMemIdeal.main_arg1) = m ((c.tc : Thread Cert.LinearMemIdeal.nD Cert.LinearMemIdeal.τ).loc Cert.LinearMemIdeal.main_arg1))
      ∧ θ_run (Cert.LinearMemRefIdeal.defs (F := Ideal)) (onTc (τ := Cert.LinearMemRefIdeal.τ) (Cert.LinearMemRefIdeal.main (F := Ideal))) ⟨m', fun _ => 0, g'⟩ (fun r => ∀ c : Dev Cert.LinearMemRefIdeal.nD,
          r.2.mem ((c.tc : Thread Cert.LinearMemRefIdeal.nD Cert.LinearMemRefIdeal.τ).loc Cert.LinearMemRefIdeal.main_v0) = v0 c
          ∧ r.2.mem ((c.tc : Thread Cert.LinearMemRefIdeal.nD Cert.LinearMemRefIdeal.τ).loc Cert.LinearMemRefIdeal.main_arg0) = m' ((c.tc : Thread Cert.LinearMemRefIdeal.nD Cert.LinearMemRefIdeal.τ).loc Cert.LinearMemRefIdeal.main_arg0)
          ∧ r.2.mem ((c.tc : Thread Cert.LinearMemRefIdeal.nD Cert.LinearMemRefIdeal.τ).loc Cert.LinearMemRefIdeal.main_arg1) = m' ((c.tc : Thread Cert.LinearMemRefIdeal.nD Cert.LinearMemRefIdeal.τ).loc Cert.LinearMemRefIdeal.main_arg1))

def preserves_LinearMemDw_LinearMemDwIdeal : Prop :=
  True

def algebraic_LinearMemDwIdeal_LinearMemDwRefIdeal [hLinearMemDwIdeal : Cert.LinearMemDwIdeal.Facts] [hLinearMemDwRefIdeal : Cert.LinearMemDwRefIdeal.Facts] : Prop :=
  ∀ (m : (ℓ : Loc Cert.LinearMemDwIdeal.nD Cert.LinearMemDwIdeal.τ Cert.LinearMemDwIdeal.sig) → Buf (Elt Ideal) ℓ) (g : Dev Cert.LinearMemDwIdeal.nD → PrngReg)
    (m' : (ℓ : Loc Cert.LinearMemDwRefIdeal.nD Cert.LinearMemDwRefIdeal.τ Cert.LinearMemDwRefIdeal.sig) → Buf (Elt Ideal) ℓ) (g' : Dev Cert.LinearMemDwRefIdeal.nD → PrngReg), Pre_LinearMemDwIdeal m →
    (∀ c : Dev Cert.LinearMemDwIdeal.nD,
      m' ((c.tc : Thread Cert.LinearMemDwRefIdeal.nD Cert.LinearMemDwRefIdeal.τ).loc Cert.LinearMemDwRefIdeal.main_arg0) = m ((c.tc : Thread Cert.LinearMemDwIdeal.nD Cert.LinearMemDwIdeal.τ).loc Cert.LinearMemDwIdeal.main_arg0)
      ∧ m' ((c.tc : Thread Cert.LinearMemDwRefIdeal.nD Cert.LinearMemDwRefIdeal.τ).loc Cert.LinearMemDwRefIdeal.main_arg1) = m ((c.tc : Thread Cert.LinearMemDwIdeal.nD Cert.LinearMemDwIdeal.τ).loc Cert.LinearMemDwIdeal.main_arg1)
      ∧ m' ((c.tc : Thread Cert.LinearMemDwRefIdeal.nD Cert.LinearMemDwRefIdeal.τ).loc Cert.LinearMemDwRefIdeal.main_arg2) = m ((c.tc : Thread Cert.LinearMemDwIdeal.nD Cert.LinearMemDwIdeal.τ).loc Cert.LinearMemDwIdeal.main_arg2)) →
    ∃ (v0 : (c : Dev Cert.LinearMemDwIdeal.nD) → Buf (Elt Ideal) ((c.tc : Thread Cert.LinearMemDwIdeal.nD Cert.LinearMemDwIdeal.τ).loc Cert.LinearMemDwIdeal.main_v2)),
      θ_run (Cert.LinearMemDwIdeal.defs (F := Ideal)) (onTc (τ := Cert.LinearMemDwIdeal.τ) (Cert.LinearMemDwIdeal.main (F := Ideal))) ⟨m, fun _ => 0, g⟩ (fun r => ∀ c : Dev Cert.LinearMemDwIdeal.nD,
          r.2.mem ((c.tc : Thread Cert.LinearMemDwIdeal.nD Cert.LinearMemDwIdeal.τ).loc Cert.LinearMemDwIdeal.main_v2) = v0 c
          ∧ r.2.mem ((c.tc : Thread Cert.LinearMemDwIdeal.nD Cert.LinearMemDwIdeal.τ).loc Cert.LinearMemDwIdeal.main_arg0) = m ((c.tc : Thread Cert.LinearMemDwIdeal.nD Cert.LinearMemDwIdeal.τ).loc Cert.LinearMemDwIdeal.main_arg0)
          ∧ r.2.mem ((c.tc : Thread Cert.LinearMemDwIdeal.nD Cert.LinearMemDwIdeal.τ).loc Cert.LinearMemDwIdeal.main_arg1) = m ((c.tc : Thread Cert.LinearMemDwIdeal.nD Cert.LinearMemDwIdeal.τ).loc Cert.LinearMemDwIdeal.main_arg1)
          ∧ r.2.mem ((c.tc : Thread Cert.LinearMemDwIdeal.nD Cert.LinearMemDwIdeal.τ).loc Cert.LinearMemDwIdeal.main_arg2) = m ((c.tc : Thread Cert.LinearMemDwIdeal.nD Cert.LinearMemDwIdeal.τ).loc Cert.LinearMemDwIdeal.main_arg2))
      ∧ θ_run (Cert.LinearMemDwRefIdeal.defs (F := Ideal)) (onTc (τ := Cert.LinearMemDwRefIdeal.τ) (Cert.LinearMemDwRefIdeal.main (F := Ideal))) ⟨m', fun _ => 0, g'⟩ (fun r => ∀ c : Dev Cert.LinearMemDwRefIdeal.nD,
          r.2.mem ((c.tc : Thread Cert.LinearMemDwRefIdeal.nD Cert.LinearMemDwRefIdeal.τ).loc Cert.LinearMemDwRefIdeal.main_v2) = v0 c
          ∧ r.2.mem ((c.tc : Thread Cert.LinearMemDwRefIdeal.nD Cert.LinearMemDwRefIdeal.τ).loc Cert.LinearMemDwRefIdeal.main_arg0) = m' ((c.tc : Thread Cert.LinearMemDwRefIdeal.nD Cert.LinearMemDwRefIdeal.τ).loc Cert.LinearMemDwRefIdeal.main_arg0)
          ∧ r.2.mem ((c.tc : Thread Cert.LinearMemDwRefIdeal.nD Cert.LinearMemDwRefIdeal.τ).loc Cert.LinearMemDwRefIdeal.main_arg1) = m' ((c.tc : Thread Cert.LinearMemDwRefIdeal.nD Cert.LinearMemDwRefIdeal.τ).loc Cert.LinearMemDwRefIdeal.main_arg1)
          ∧ r.2.mem ((c.tc : Thread Cert.LinearMemDwRefIdeal.nD Cert.LinearMemDwRefIdeal.τ).loc Cert.LinearMemDwRefIdeal.main_arg2) = m' ((c.tc : Thread Cert.LinearMemDwRefIdeal.nD Cert.LinearMemDwRefIdeal.τ).loc Cert.LinearMemDwRefIdeal.main_arg2))

def preserves_SumChips_SumChipsIdeal : Prop :=
  True

def algebraic_SumChipsIdeal_SumChipsRefIdeal [hSumChipsIdeal : Cert.SumChipsIdeal.Facts] [hSumChipsRefIdeal : Cert.SumChipsRefIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg)
    (m' : (ℓ : Loc Cert.SumChipsRefIdeal.nD Cert.SumChipsRefIdeal.τ Cert.SumChipsRefIdeal.sig) → Buf (Elt Ideal) ℓ) (g' : Dev Cert.SumChipsRefIdeal.nD → PrngReg), Pre_SumChipsIdeal m →
    (∀ c : Dev Cert.SumChipsIdeal.nD,
      m' ((c.tc : Thread Cert.SumChipsRefIdeal.nD Cert.SumChipsRefIdeal.τ).loc Cert.SumChipsRefIdeal.main_arg0) = m ((c.tc : Thread Cert.SumChipsIdeal.nD Cert.SumChipsIdeal.τ).loc Cert.SumChipsIdeal.main_arg0)) →
    ∃ (v0 : (c : Dev Cert.SumChipsIdeal.nD) → Buf (Elt Ideal) ((c.tc : Thread Cert.SumChipsIdeal.nD Cert.SumChipsIdeal.τ).loc Cert.SumChipsIdeal.main_v0)),
      θ_run (Cert.SumChipsIdeal.defs (F := Ideal)) (onTc (τ := Cert.SumChipsIdeal.τ) (Cert.SumChipsIdeal.main (F := Ideal))) ⟨m, fun _ => 0, g⟩ (fun r => ∀ c : Dev Cert.SumChipsIdeal.nD,
          r.2.mem ((c.tc : Thread Cert.SumChipsIdeal.nD Cert.SumChipsIdeal.τ).loc Cert.SumChipsIdeal.main_v0) = v0 c
          ∧ r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0))
      ∧ θ_run (Cert.SumChipsRefIdeal.defs (F := Ideal)) (onTc (τ := Cert.SumChipsRefIdeal.τ) (Cert.SumChipsRefIdeal.main (F := Ideal))) ⟨m', fun _ => 0, g'⟩ (fun r => ∀ c : Dev Cert.SumChipsRefIdeal.nD,
          r.2.mem ((c.tc : Thread Cert.SumChipsRefIdeal.nD Cert.SumChipsRefIdeal.τ).loc Cert.SumChipsRefIdeal.main_v1) = v0 c
          ∧ r.2.mem ((c.tc : Thread Cert.SumChipsRefIdeal.nD Cert.SumChipsRefIdeal.τ).loc Cert.SumChipsRefIdeal.main_arg0) = m' ((c.tc : Thread Cert.SumChipsRefIdeal.nD Cert.SumChipsRefIdeal.τ).loc Cert.SumChipsRefIdeal.main_arg0))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_AdamA_AdamAIdeal : Prop :=
  True

def algebraic_AdamAIdeal_AdamARefIdeal [hAdamAIdeal : Cert.AdamAIdeal.Facts] [hAdamARefIdeal : Cert.AdamARefIdeal.Facts] : Prop :=
  ∀ (m : (ℓ : Loc Cert.AdamAIdeal.nD Cert.AdamAIdeal.τ Cert.AdamAIdeal.sig) → Buf (Elt Ideal) ℓ) (g : Dev Cert.AdamAIdeal.nD → PrngReg)
    (m' : (ℓ : Loc Cert.AdamARefIdeal.nD Cert.AdamARefIdeal.τ Cert.AdamARefIdeal.sig) → Buf (Elt Ideal) ℓ) (g' : Dev Cert.AdamARefIdeal.nD → PrngReg), Pre_AdamAIdeal m →
    (∀ c : Dev Cert.AdamAIdeal.nD,
      m' ((c.tc : Thread Cert.AdamARefIdeal.nD Cert.AdamARefIdeal.τ).loc Cert.AdamARefIdeal.main_arg0) = m ((c.tc : Thread Cert.AdamAIdeal.nD Cert.AdamAIdeal.τ).loc Cert.AdamAIdeal.main_arg0)
      ∧ m' ((c.tc : Thread Cert.AdamARefIdeal.nD Cert.AdamARefIdeal.τ).loc Cert.AdamARefIdeal.main_arg1) = m ((c.tc : Thread Cert.AdamAIdeal.nD Cert.AdamAIdeal.τ).loc Cert.AdamAIdeal.main_arg1)
      ∧ m' ((c.tc : Thread Cert.AdamARefIdeal.nD Cert.AdamARefIdeal.τ).loc Cert.AdamARefIdeal.main_arg2) = m ((c.tc : Thread Cert.AdamAIdeal.nD Cert.AdamAIdeal.τ).loc Cert.AdamAIdeal.main_arg2)
      ∧ m' ((c.tc : Thread Cert.AdamARefIdeal.nD Cert.AdamARefIdeal.τ).loc Cert.AdamARefIdeal.main_arg3) = m ((c.tc : Thread Cert.AdamAIdeal.nD Cert.AdamAIdeal.τ).loc Cert.AdamAIdeal.main_arg3)) →
    ∃ (v0 : (c : Dev Cert.AdamAIdeal.nD) → Buf (Elt Ideal) ((c.tc : Thread Cert.AdamAIdeal.nD Cert.AdamAIdeal.τ).loc Cert.AdamAIdeal.main_v4_0)) (v1 : (c : Dev Cert.AdamAIdeal.nD) → Buf (Elt Ideal) ((c.tc : Thread Cert.AdamAIdeal.nD Cert.AdamAIdeal.τ).loc Cert.AdamAIdeal.main_v4_1)) (v2 : (c : Dev Cert.AdamAIdeal.nD) → Buf (Elt Ideal) ((c.tc : Thread Cert.AdamAIdeal.nD Cert.AdamAIdeal.τ).loc Cert.AdamAIdeal.main_v4_2)),
      θ_run (Cert.AdamAIdeal.defs (F := Ideal)) (onTc (τ := Cert.AdamAIdeal.τ) (Cert.AdamAIdeal.main (F := Ideal))) ⟨m, fun _ => 0, g⟩ (fun r => ∀ c : Dev Cert.AdamAIdeal.nD,
          r.2.mem ((c.tc : Thread Cert.AdamAIdeal.nD Cert.AdamAIdeal.τ).loc Cert.AdamAIdeal.main_v4_0) = v0 c
          ∧ r.2.mem ((c.tc : Thread Cert.AdamAIdeal.nD Cert.AdamAIdeal.τ).loc Cert.AdamAIdeal.main_v4_1) = v1 c
          ∧ r.2.mem ((c.tc : Thread Cert.AdamAIdeal.nD Cert.AdamAIdeal.τ).loc Cert.AdamAIdeal.main_v4_2) = v2 c
          ∧ r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
          ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
          ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
          ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ θ_run (Cert.AdamARefIdeal.defs (F := Ideal)) (onTc (τ := Cert.AdamARefIdeal.τ) (Cert.AdamARefIdeal.main (F := Ideal))) ⟨m', fun _ => 0, g'⟩ (fun r => ∀ c : Dev Cert.AdamARefIdeal.nD,
          r.2.mem ((c.tc : Thread Cert.AdamARefIdeal.nD Cert.AdamARefIdeal.τ).loc Cert.AdamARefIdeal.main_v24) = v0 c
          ∧ r.2.mem ((c.tc : Thread Cert.AdamARefIdeal.nD Cert.AdamARefIdeal.τ).loc Cert.AdamARefIdeal.main_v25) = v1 c
          ∧ r.2.mem ((c.tc : Thread Cert.AdamARefIdeal.nD Cert.AdamARefIdeal.τ).loc Cert.AdamARefIdeal.main_v26) = v2 c
          ∧ r.2.mem ((c.tc : Thread Cert.AdamARefIdeal.nD Cert.AdamARefIdeal.τ).loc Cert.AdamARefIdeal.main_arg0) = m' ((c.tc : Thread Cert.AdamARefIdeal.nD Cert.AdamARefIdeal.τ).loc Cert.AdamARefIdeal.main_arg0)
          ∧ r.2.mem ((c.tc : Thread Cert.AdamARefIdeal.nD Cert.AdamARefIdeal.τ).loc Cert.AdamARefIdeal.main_arg1) = m' ((c.tc : Thread Cert.AdamARefIdeal.nD Cert.AdamARefIdeal.τ).loc Cert.AdamARefIdeal.main_arg1)
          ∧ r.2.mem ((c.tc : Thread Cert.AdamARefIdeal.nD Cert.AdamARefIdeal.τ).loc Cert.AdamARefIdeal.main_arg2) = m' ((c.tc : Thread Cert.AdamARefIdeal.nD Cert.AdamARefIdeal.τ).loc Cert.AdamARefIdeal.main_arg2)
          ∧ r.2.mem ((c.tc : Thread Cert.AdamARefIdeal.nD Cert.AdamARefIdeal.τ).loc Cert.AdamARefIdeal.main_arg3) = m' ((c.tc : Thread Cert.AdamARefIdeal.nD Cert.AdamARefIdeal.τ).loc Cert.AdamARefIdeal.main_arg3))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)
      ∧ m' ((c.tc : Thread Cert.LnFwdRefIdeal.nD Cert.LnFwdRefIdeal.τ).loc Cert.LnFwdRefIdeal.main_arg2) = m ((c.tc : Thread Cert.LnFwdIdeal.nD Cert.LnFwdIdeal.τ).loc Cert.LnFwdIdeal.main_arg2)
      ∧ m' ((c.tc : Thread Cert.LnFwdRefIdeal.nD Cert.LnFwdRefIdeal.τ).loc Cert.LnFwdRefIdeal.main_arg3) = m ((c.tc : Thread Cert.LnFwdIdeal.nD Cert.LnFwdIdeal.τ).loc Cert.LnFwdIdeal.main_arg3)) →
    ∃ (v0 : (c : Dev Cert.LnFwdIdeal.nD) → Buf (Elt Ideal) ((c.tc : Thread Cert.LnFwdIdeal.nD Cert.LnFwdIdeal.τ).loc Cert.LnFwdIdeal.main_v2_0)) (v1 : (c : Dev Cert.LnFwdIdeal.nD) → Buf (Elt Ideal) ((c.tc : Thread Cert.LnFwdIdeal.nD Cert.LnFwdIdeal.τ).loc Cert.LnFwdIdeal.main_v2_1)) (v2 : (c : Dev Cert.LnFwdIdeal.nD) → Buf (Elt Ideal) ((c.tc : Thread Cert.LnFwdIdeal.nD Cert.LnFwdIdeal.τ).loc Cert.LnFwdIdeal.main_v2_2)) (v3 : (c : Dev Cert.LnFwdIdeal.nD) → Buf (Elt Ideal) ((c.tc : Thread Cert.LnFwdIdeal.nD Cert.LnFwdIdeal.τ).loc Cert.LnFwdIdeal.main_v2_3)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v2_0) = v0 c
          ∧ r.2.mem ((c.tc : Thread Cert.LnFwdIdeal.nD Cert.LnFwdIdeal.τ).loc Cert.LnFwdIdeal.main_v2_1) = v1 c
          ∧ r.2.mem ((c.tc : Thread Cert.LnFwdIdeal.nD Cert.LnFwdIdeal.τ).loc Cert.LnFwdIdeal.main_v2_2) = v2 c
          ∧ r.2.mem ((c.tc : Thread Cert.LnFwdIdeal.nD Cert.LnFwdIdeal.τ).loc Cert.LnFwdIdeal.main_v2_3) = v3 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
          ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v26) = v0 c
          ∧ r.2.mem ((c.tc : Thread Cert.LnFwdRefIdeal.nD Cert.LnFwdRefIdeal.τ).loc Cert.LnFwdRefIdeal.main_v27) = v1 c
          ∧ r.2.mem ((c.tc : Thread Cert.LnFwdRefIdeal.nD Cert.LnFwdRefIdeal.τ).loc Cert.LnFwdRefIdeal.main_v45) = v2 c
          ∧ r.2.mem ((c.tc : Thread Cert.LnFwdRefIdeal.nD Cert.LnFwdRefIdeal.τ).loc Cert.LnFwdRefIdeal.main_v41) = v3 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1)
          ∧ r.2.mem ((c.tc : Thread Cert.LnFwdRefIdeal.nD Cert.LnFwdRefIdeal.τ).loc Cert.LnFwdRefIdeal.main_arg2) = m' ((c.tc : Thread Cert.LnFwdRefIdeal.nD Cert.LnFwdRefIdeal.τ).loc Cert.LnFwdRefIdeal.main_arg2)
          ∧ r.2.mem ((c.tc : Thread Cert.LnFwdRefIdeal.nD Cert.LnFwdRefIdeal.τ).loc Cert.LnFwdRefIdeal.main_arg3) = m' ((c.tc : Thread Cert.LnFwdRefIdeal.nD Cert.LnFwdRefIdeal.τ).loc Cert.LnFwdRefIdeal.main_arg3))

def preserves_LnBwd_LnBwdIdeal : Prop :=
  True

def algebraic_LnBwdIdeal_LnBwdRefIdeal_pre_ln_finite [hLnBwdIdeal : Cert.LnBwdIdeal.Facts] [hLnBwdRefIdeal : Cert.LnBwdRefIdeal.Facts] [hPre_ln_finite : Cert.Pre_ln_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_ln_finite m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)
      ∧ m' ((c.tc : Thread Cert.LnBwdRefIdeal.nD Cert.LnBwdRefIdeal.τ).loc Cert.LnBwdRefIdeal.main_arg4) = m ((c.tc : Thread Cert.LnBwdIdeal.nD Cert.LnBwdIdeal.τ).loc Cert.LnBwdIdeal.main_arg4)) →
    ∃ (v0 : (c : Dev Cert.LnBwdIdeal.nD) → Buf (Elt Ideal) ((c.tc : Thread Cert.LnBwdIdeal.nD Cert.LnBwdIdeal.τ).loc Cert.LnBwdIdeal.main_v22_0)) (v1 : (c : Dev Cert.LnBwdIdeal.nD) → Buf (Elt Ideal) ((c.tc : Thread Cert.LnBwdIdeal.nD Cert.LnBwdIdeal.τ).loc Cert.LnBwdIdeal.main_v22_1)) (v2 : (c : Dev Cert.LnBwdIdeal.nD) → Buf (Elt Ideal) ((c.tc : Thread Cert.LnBwdIdeal.nD Cert.LnBwdIdeal.τ).loc Cert.LnBwdIdeal.main_v22_2)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v22_0) = v0 c
          ∧ r.2.mem ((c.tc : Thread Cert.LnBwdIdeal.nD Cert.LnBwdIdeal.τ).loc Cert.LnBwdIdeal.main_v22_1) = v1 c
          ∧ r.2.mem ((c.tc : Thread Cert.LnBwdIdeal.nD Cert.LnBwdIdeal.τ).loc Cert.LnBwdIdeal.main_v22_2) = v2 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v65) = v0 c
          ∧ r.2.mem ((c.tc : Thread Cert.LnBwdRefIdeal.nD Cert.LnBwdRefIdeal.τ).loc Cert.LnBwdRefIdeal.main_v66) = v1 c
          ∧ r.2.mem ((c.tc : Thread Cert.LnBwdRefIdeal.nD Cert.LnBwdRefIdeal.τ).loc Cert.LnBwdRefIdeal.main_v67) = v2 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3)
          ∧ r.2.mem ((c.tc : Thread Cert.LnBwdRefIdeal.nD Cert.LnBwdRefIdeal.τ).loc Cert.LnBwdRefIdeal.main_arg4) = m' ((c.tc : Thread Cert.LnBwdRefIdeal.nD Cert.LnBwdRefIdeal.τ).loc Cert.LnBwdRefIdeal.main_arg4))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)) →
    ∃ (v0 : (c : Dev Cert.GateFwdIdeal.nD) → Buf (Elt Ideal) ((c.tc : Thread Cert.GateFwdIdeal.nD Cert.GateFwdIdeal.τ).loc Cert.GateFwdIdeal.main_v1)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v1) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v17) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2))

def preserves_GateBwd_GateBwdIdeal : Prop :=
  True

def algebraic_GateBwdIdeal_GateBwdRefIdeal_pre_gate_finite [hGateBwdIdeal : Cert.GateBwdIdeal.Facts] [hGateBwdRefIdeal : Cert.GateBwdRefIdeal.Facts] [hPre_gate_finite : Cert.Pre_gate_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal_gate_finite m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)) →
    ∃ (v0 : (c : Dev Cert.GateBwdIdeal.nD) → Buf (Elt Ideal) ((c.tc : Thread Cert.GateBwdIdeal.nD Cert.GateBwdIdeal.τ).loc Cert.GateBwdIdeal.main_v1_0)) (v1 : (c : Dev Cert.GateBwdIdeal.nD) → Buf (Elt Ideal) ((c.tc : Thread Cert.GateBwdIdeal.nD Cert.GateBwdIdeal.τ).loc Cert.GateBwdIdeal.main_v1_1)) (v2 : (c : Dev Cert.GateBwdIdeal.nD) → Buf (Elt Ideal) ((c.tc : Thread Cert.GateBwdIdeal.nD Cert.GateBwdIdeal.τ).loc Cert.GateBwdIdeal.main_v1_2)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v1_0) = v0 c
          ∧ r.2.mem ((c.tc : Thread Cert.GateBwdIdeal.nD Cert.GateBwdIdeal.τ).loc Cert.GateBwdIdeal.main_v1_1) = v1 c
          ∧ r.2.mem ((c.tc : Thread Cert.GateBwdIdeal.nD Cert.GateBwdIdeal.τ).loc Cert.GateBwdIdeal.main_v1_2) = v2 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v46) = v0 c
          ∧ r.2.mem ((c.tc : Thread Cert.GateBwdRefIdeal.nD Cert.GateBwdRefIdeal.τ).loc Cert.GateBwdRefIdeal.main_v45) = v1 c
          ∧ r.2.mem ((c.tc : Thread Cert.GateBwdRefIdeal.nD Cert.GateBwdRefIdeal.τ).loc Cert.GateBwdRefIdeal.main_v47) = v2 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDUp : Cert.DUp.Facts) (hDUpIdeal : Cert.DUpIdeal.Facts) (hDUpRefIdeal : Cert.DUpRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDh : Cert.Dh.Facts) (hDhIdeal : Cert.DhIdeal.Facts) (hDhRefIdeal : Cert.DhRefIdeal.Facts) (hLinear : Cert.Linear.Facts) (hLinearIdeal : Cert.LinearIdeal.Facts) (hLinearRefIdeal : Cert.LinearRefIdeal.Facts) (hLinearDx : Cert.LinearDx.Facts) (hLinearDxIdeal : Cert.LinearDxIdeal.Facts) (hLinearDxRefIdeal : Cert.LinearDxRefIdeal.Facts) (hLinearDw : Cert.LinearDw.Facts) (hLinearDwIdeal : Cert.LinearDwIdeal.Facts) (hLinearDwRefIdeal : Cert.LinearDwRefIdeal.Facts) (hLinearA : Cert.LinearA.Facts) (hLinearAIdeal : Cert.LinearAIdeal.Facts) (hLinearARefIdeal : Cert.LinearARefIdeal.Facts) (hLinearADx : Cert.LinearADx.Facts) (hLinearADxIdeal : Cert.LinearADxIdeal.Facts) (hLinearADxRefIdeal : Cert.LinearADxRefIdeal.Facts) (hLinearADw : Cert.LinearADw.Facts) (hLinearADwIdeal : Cert.LinearADwIdeal.Facts) (hLinearADwRefIdeal : Cert.LinearADwRefIdeal.Facts) (hLinearKv : Cert.LinearKv.Facts) (hLinearKvIdeal : Cert.LinearKvIdeal.Facts) (hLinearKvRefIdeal : Cert.LinearKvRefIdeal.Facts) (hLinearKvDx : Cert.LinearKvDx.Facts) (hLinearKvDxIdeal : Cert.LinearKvDxIdeal.Facts) (hLinearKvDxRefIdeal : Cert.LinearKvDxRefIdeal.Facts) (hLinearKvDw : Cert.LinearKvDw.Facts) (hLinearKvDwIdeal : Cert.LinearKvDwIdeal.Facts) (hLinearKvDwRefIdeal : Cert.LinearKvDwRefIdeal.Facts) (hLinearMem : Cert.LinearMem.Facts) (hLinearMemIdeal : Cert.LinearMemIdeal.Facts) (hLinearMemRefIdeal : Cert.LinearMemRefIdeal.Facts) (hLinearMemDw : Cert.LinearMemDw.Facts) (hLinearMemDwIdeal : Cert.LinearMemDwIdeal.Facts) (hLinearMemDwRefIdeal : Cert.LinearMemDwRefIdeal.Facts) (hSumChips : Cert.SumChips.Facts) (hSumChipsIdeal : Cert.SumChipsIdeal.Facts) (hSumChipsRefIdeal : Cert.SumChipsRefIdeal.Facts) (hAdam : Cert.Adam.Facts) (hAdamIdeal : Cert.AdamIdeal.Facts) (hAdamRefIdeal : Cert.AdamRefIdeal.Facts) (hAdamA : Cert.AdamA.Facts) (hAdamAIdeal : Cert.AdamAIdeal.Facts) (hAdamARefIdeal : Cert.AdamARefIdeal.Facts) (hLnFwd : Cert.LnFwd.Facts) (hLnFwdIdeal : Cert.LnFwdIdeal.Facts) (hLnFwdRefIdeal : Cert.LnFwdRefIdeal.Facts) (hLnBwd : Cert.LnBwd.Facts) (hLnBwdIdeal : Cert.LnBwdIdeal.Facts) (hLnBwdRefIdeal : Cert.LnBwdRefIdeal.Facts) (hGateFwd : Cert.GateFwd.Facts) (hGateFwdIdeal : Cert.GateFwdIdeal.Facts) (hGateFwdRefIdeal : Cert.GateFwdRefIdeal.Facts) (hGateBwd : Cert.GateBwd.Facts) (hGateBwdIdeal : Cert.GateBwdIdeal.Facts) (hGateBwdRefIdeal : Cert.GateBwdRefIdeal.Facts) (hPre_finite : Cert.Pre_finite.Facts) (hPre_ln_finite : Cert.Pre_ln_finite.Facts) (hPre_gate_finite : Cert.Pre_gate_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_DUp (hDUp := hDUp)
    ∧ quiescent_DUpIdeal (hDUpIdeal := hDUpIdeal)
    ∧ quiescent_DUpRefIdeal (hDUpRefIdeal := hDUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_Dh (hDh := hDh)
    ∧ quiescent_DhIdeal (hDhIdeal := hDhIdeal)
    ∧ quiescent_DhRefIdeal (hDhRefIdeal := hDhRefIdeal)
    ∧ quiescent_Linear (hLinear := hLinear)
    ∧ quiescent_LinearIdeal (hLinearIdeal := hLinearIdeal)
    ∧ quiescent_LinearRefIdeal (hLinearRefIdeal := hLinearRefIdeal)
    ∧ quiescent_LinearDx (hLinearDx := hLinearDx)
    ∧ quiescent_LinearDxIdeal (hLinearDxIdeal := hLinearDxIdeal)
    ∧ quiescent_LinearDxRefIdeal (hLinearDxRefIdeal := hLinearDxRefIdeal)
    ∧ quiescent_LinearDw (hLinearDw := hLinearDw)
    ∧ quiescent_LinearDwIdeal (hLinearDwIdeal := hLinearDwIdeal)
    ∧ quiescent_LinearDwRefIdeal (hLinearDwRefIdeal := hLinearDwRefIdeal)
    ∧ quiescent_LinearA (hLinearA := hLinearA)
    ∧ quiescent_LinearAIdeal (hLinearAIdeal := hLinearAIdeal)
    ∧ quiescent_LinearARefIdeal (hLinearARefIdeal := hLinearARefIdeal)
    ∧ quiescent_LinearADx (hLinearADx := hLinearADx)
    ∧ quiescent_LinearADxIdeal (hLinearADxIdeal := hLinearADxIdeal)
    ∧ quiescent_LinearADxRefIdeal (hLinearADxRefIdeal := hLinearADxRefIdeal)
    ∧ quiescent_LinearADw (hLinearADw := hLinearADw)
    ∧ quiescent_LinearADwIdeal (hLinearADwIdeal := hLinearADwIdeal)
    ∧ quiescent_LinearADwRefIdeal (hLinearADwRefIdeal := hLinearADwRefIdeal)
    ∧ quiescent_LinearKv (hLinearKv := hLinearKv)
    ∧ quiescent_LinearKvIdeal (hLinearKvIdeal := hLinearKvIdeal)
    ∧ quiescent_LinearKvRefIdeal (hLinearKvRefIdeal := hLinearKvRefIdeal)
    ∧ quiescent_LinearKvDx (hLinearKvDx := hLinearKvDx)
    ∧ quiescent_LinearKvDxIdeal (hLinearKvDxIdeal := hLinearKvDxIdeal)
    ∧ quiescent_LinearKvDxRefIdeal (hLinearKvDxRefIdeal := hLinearKvDxRefIdeal)
    ∧ quiescent_LinearKvDw (hLinearKvDw := hLinearKvDw)
    ∧ quiescent_LinearKvDwIdeal (hLinearKvDwIdeal := hLinearKvDwIdeal)
    ∧ quiescent_LinearKvDwRefIdeal (hLinearKvDwRefIdeal := hLinearKvDwRefIdeal)
    ∧ quiescent_LinearMem (hLinearMem := hLinearMem)
    ∧ quiescent_LinearMemIdeal (hLinearMemIdeal := hLinearMemIdeal)
    ∧ quiescent_LinearMemRefIdeal (hLinearMemRefIdeal := hLinearMemRefIdeal)
    ∧ quiescent_LinearMemDw (hLinearMemDw := hLinearMemDw)
    ∧ quiescent_LinearMemDwIdeal (hLinearMemDwIdeal := hLinearMemDwIdeal)
    ∧ quiescent_LinearMemDwRefIdeal (hLinearMemDwRefIdeal := hLinearMemDwRefIdeal)
    ∧ quiescent_SumChips (hSumChips := hSumChips)
    ∧ quiescent_SumChipsIdeal (hSumChipsIdeal := hSumChipsIdeal)
    ∧ quiescent_SumChipsRefIdeal (hSumChipsRefIdeal := hSumChipsRefIdeal)
    ∧ quiescent_Adam (hAdam := hAdam)
    ∧ quiescent_AdamIdeal (hAdamIdeal := hAdamIdeal)
    ∧ quiescent_AdamRefIdeal (hAdamRefIdeal := hAdamRefIdeal)
    ∧ quiescent_AdamA (hAdamA := hAdamA)
    ∧ quiescent_AdamAIdeal (hAdamAIdeal := hAdamAIdeal)
    ∧ quiescent_AdamARefIdeal (hAdamARefIdeal := hAdamARefIdeal)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_LnBwd (hLnBwd := hLnBwd)
    ∧ quiescent_LnBwdIdeal (hLnBwdIdeal := hLnBwdIdeal)
    ∧ quiescent_LnBwdIdeal_pre_ln_finite (hLnBwdIdeal := hLnBwdIdeal) (hPre_ln_finite := hPre_ln_finite)
    ∧ quiescent_LnBwdRefIdeal (hLnBwdRefIdeal := hLnBwdRefIdeal)
    ∧ quiescent_LnBwdRefIdeal_pre_ln_finite (hLnBwdRefIdeal := hLnBwdRefIdeal) (hPre_ln_finite := hPre_ln_finite)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_GateBwd (hGateBwd := hGateBwd)
    ∧ quiescent_GateBwdIdeal (hGateBwdIdeal := hGateBwdIdeal)
    ∧ quiescent_GateBwdIdeal_pre_gate_finite (hGateBwdIdeal := hGateBwdIdeal) (hPre_gate_finite := hPre_gate_finite)
    ∧ quiescent_GateBwdRefIdeal (hGateBwdRefIdeal := hGateBwdRefIdeal)
    ∧ quiescent_GateBwdRefIdeal_pre_gate_finite (hGateBwdRefIdeal := hGateBwdRefIdeal) (hPre_gate_finite := hPre_gate_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_DUp_DUpIdeal
    ∧ algebraic_DUpIdeal_DUpRefIdeal (hDUpIdeal := hDUpIdeal) (hDUpRefIdeal := hDUpRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_Dh_DhIdeal
    ∧ algebraic_DhIdeal_DhRefIdeal (hDhIdeal := hDhIdeal) (hDhRefIdeal := hDhRefIdeal)
    ∧ preserves_Linear_LinearIdeal
    ∧ algebraic_LinearIdeal_LinearRefIdeal (hLinearIdeal := hLinearIdeal) (hLinearRefIdeal := hLinearRefIdeal)
    ∧ preserves_LinearDx_LinearDxIdeal
    ∧ algebraic_LinearDxIdeal_LinearDxRefIdeal (hLinearDxIdeal := hLinearDxIdeal) (hLinearDxRefIdeal := hLinearDxRefIdeal)
    ∧ preserves_LinearDw_LinearDwIdeal
    ∧ algebraic_LinearDwIdeal_LinearDwRefIdeal (hLinearDwIdeal := hLinearDwIdeal) (hLinearDwRefIdeal := hLinearDwRefIdeal)
    ∧ preserves_LinearA_LinearAIdeal
    ∧ algebraic_LinearAIdeal_LinearARefIdeal (hLinearAIdeal := hLinearAIdeal) (hLinearARefIdeal := hLinearARefIdeal)
    ∧ preserves_LinearADx_LinearADxIdeal
    ∧ algebraic_LinearADxIdeal_LinearADxRefIdeal (hLinearADxIdeal := hLinearADxIdeal) (hLinearADxRefIdeal := hLinearADxRefIdeal)
    ∧ preserves_LinearADw_LinearADwIdeal
    ∧ algebraic_LinearADwIdeal_LinearADwRefIdeal (hLinearADwIdeal := hLinearADwIdeal) (hLinearADwRefIdeal := hLinearADwRefIdeal)
    ∧ preserves_LinearKv_LinearKvIdeal
    ∧ algebraic_LinearKvIdeal_LinearKvRefIdeal (hLinearKvIdeal := hLinearKvIdeal) (hLinearKvRefIdeal := hLinearKvRefIdeal)
    ∧ preserves_LinearKvDx_LinearKvDxIdeal
    ∧ algebraic_LinearKvDxIdeal_LinearKvDxRefIdeal (hLinearKvDxIdeal := hLinearKvDxIdeal) (hLinearKvDxRefIdeal := hLinearKvDxRefIdeal)
    ∧ preserves_LinearKvDw_LinearKvDwIdeal
    ∧ algebraic_LinearKvDwIdeal_LinearKvDwRefIdeal (hLinearKvDwIdeal := hLinearKvDwIdeal) (hLinearKvDwRefIdeal := hLinearKvDwRefIdeal)
    ∧ preserves_LinearMem_LinearMemIdeal
    ∧ algebraic_LinearMemIdeal_LinearMemRefIdeal (hLinearMemIdeal := hLinearMemIdeal) (hLinearMemRefIdeal := hLinearMemRefIdeal)
    ∧ preserves_LinearMemDw_LinearMemDwIdeal
    ∧ algebraic_LinearMemDwIdeal_LinearMemDwRefIdeal (hLinearMemDwIdeal := hLinearMemDwIdeal) (hLinearMemDwRefIdeal := hLinearMemDwRefIdeal)
    ∧ preserves_SumChips_SumChipsIdeal
    ∧ algebraic_SumChipsIdeal_SumChipsRefIdeal (hSumChipsIdeal := hSumChipsIdeal) (hSumChipsRefIdeal := hSumChipsRefIdeal)
    ∧ preserves_Adam_AdamIdeal
    ∧ algebraic_AdamIdeal_AdamRefIdeal (hAdamIdeal := hAdamIdeal) (hAdamRefIdeal := hAdamRefIdeal)
    ∧ preserves_AdamA_AdamAIdeal
    ∧ algebraic_AdamAIdeal_AdamARefIdeal (hAdamAIdeal := hAdamAIdeal) (hAdamARefIdeal := hAdamARefIdeal)
    ∧ preserves_LnFwd_LnFwdIdeal
    ∧ algebraic_LnFwdIdeal_LnFwdRefIdeal (hLnFwdIdeal := hLnFwdIdeal) (hLnFwdRefIdeal := hLnFwdRefIdeal)
    ∧ preserves_LnBwd_LnBwdIdeal
    ∧ algebraic_LnBwdIdeal_LnBwdRefIdeal_pre_ln_finite (hLnBwdIdeal := hLnBwdIdeal) (hLnBwdRefIdeal := hLnBwdRefIdeal) (hPre_ln_finite := hPre_ln_finite)
    ∧ preserves_GateFwd_GateFwdIdeal
    ∧ algebraic_GateFwdIdeal_GateFwdRefIdeal (hGateFwdIdeal := hGateFwdIdeal) (hGateFwdRefIdeal := hGateFwdRefIdeal)
    ∧ preserves_GateBwd_GateBwdIdeal
    ∧ algebraic_GateBwdIdeal_GateBwdRefIdeal_pre_gate_finite (hGateBwdIdeal := hGateBwdIdeal) (hGateBwdRefIdeal := hGateBwdRefIdeal) (hPre_gate_finite := hPre_gate_finite)
-- ==== Pre_finite.lean ====
abbrev S16384x768 : Shape := ⟨2, ![16384, 768]⟩
abbrev S6x256x64x64 : Shape := ⟨4, ![6, 256, 64, 64]⟩
abbrev S6x256 : Shape := ⟨2, ![6, 256]⟩
abbrev S6x256x128x128 : Shape := ⟨4, ![6, 256, 128, 128]⟩
abbrev S_ : Shape := ⟨0, ![]⟩

class Facts : Prop where
  bcast_S_S16384x768 : S_.BroadcastsInDim S16384x768 (![] : Fin 0 → Fin S16384x768.rank)
  bitsLt_bf16_f32 : FTy.bits .bf16 < FTy.bits .f32
  bcast_S_S6x256x64x64 : S_.BroadcastsInDim S6x256x64x64 (![] : Fin 0 → Fin S6x256x64x64.rank)
  bcast_S_S6x256 : S_.BroadcastsInDim S6x256 (![] : Fin 0 → Fin S6x256.rank)
  bcast_S_S6x256x128x128 : S_.BroadcastsInDim S6x256x128x128 (![] : Fin 0 → Fin S6x256x128x128.rank)

variable [Facts]

def fn_part1 {F : FTy → Type} [FloatOps F] (main_arg6 : FVec F S6x256 .f32) (main_arg7 : FVec F S6x256x128x128 .bf16) (main_v2 : IVec S16384x768 1) (main_v5 : IVec S16384x768 1) (main_v9 : IVec S16384x768 1) (main_v13 : IVec S16384x768 1) (main_v17 : IVec S16384x768 1) (main_v18 : FVec F S6x256x64x64 .f32) : IVec S16384x768 1 × IVec S16384x768 1 × IVec S16384x768 1 × IVec S16384x768 1 × IVec S16384x768 1 × IVec S6x256x64x64 1 × IVec S6x256 1 × IVec S6x256x128x128 1 :=
  let main_v19 : FVec F S6x256x64x64 .f32 := Host.absf main_v18
  let main_cst_4 : FVec F S_ .f32 := constant S_ .f32 0x7F800000#32
  let main_v20 : FVec F S6x256x64x64 .f32 := broadcastInDim S6x256x64x64 ![] bcast_S_S6x256x64x64 main_cst_4
  let main_v21 : IVec S6x256x64x64 1 := cmpf .olt main_v19 main_v20
  let main_v22 : FVec F S6x256 .f32 := Host.absf main_arg6
  let main_cst_5 : FVec F S_ .f32 := constant S_ .f32 0x7F800000#32
  let main_v23 : FVec F S6x256 .f32 := broadcastInDim S6x256 ![] bcast_S_S6x256 main_cst_5
  let main_v24 : IVec S6x256 1 := cmpf .olt main_v22 main_v23
  let main_v25 : FVec F S6x256x128x128 .f32 := (extf .f32 · bitsLt_bf16_f32) main_arg7
  let main_v26 : FVec F S6x256x128x128 .f32 := Host.absf main_v25
  let main_cst_6 : FVec F S_ .f32 := constant S_ .f32 0x7F800000#32
  let main_v27 : FVec F S6x256x128x128 .f32 := broadcastInDim S6x256x128x128 ![] bcast_S_S6x256x128x128 main_cst_6
  let main_v28 : IVec S6x256x128x128 1 := cmpf .olt main_v26 main_v27
  (main_v2, main_v5, main_v9, main_v13, main_v17, main_v21, main_v24, main_v28)

def fn {F : FTy → Type} [FloatOps F] (main_arg0 : FVec F S16384x768 .f32) (main_arg1 : FVec F S16384x768 .f32) (main_arg2 : FVec F S16384x768 .bf16) (main_arg3 : FVec F S16384x768 .bf16) (main_arg4 : FVec F S16384x768 .bf16) (main_arg5 : FVec F S6x256x64x64 .bf16) (main_arg6 : FVec F S6x256 .f32) (main_arg7 : FVec F S6x256x128x128 .bf16) : IVec S16384x768 1 × IVec S16384x768 1 × IVec S16384x768 1 × IVec S16384x768 1 × IVec S16384x768 1 × IVec S6x256x64x64 1 × IVec S6x256 1 × IVec S6x256x128x128 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_v3 : FVec F S16384x768 .f32 := Host.absf main_arg1
  let main_cst_0 : FVec F S_ .f32 := constant S_ .f32 0x7F800000#32
  let main_v4 : FVec F S16384x768 .f32 := broadcastInDim S16384x768 ![] bcast_S_S16384x768 main_cst_0
  let main_v5 : IVec S16384x768 1 := cmpf .olt main_v3 main_v4
  let main_v6 : FVec F S16384x768 .f32 := (extf .f32 · bitsLt_bf16_f32) main_arg2
  let main_v7 : FVec F S16384x768 .f32 := Host.absf main_v6
  let main_cst_1 : FVec F S_ .f32 := constant S_ .f32 0x7F800000#32
  let main_v8 : FVec F S16384x768 .f32 := broadcastInDim S16384x768 ![] bcast_S_S16384x768 main_cst_1
  let main_v9 : IVec S16384x768 1 := cmpf .olt main_v7 main_v8
  let main_v10 : FVec F S16384x768 .f32 := (extf .f32 · bitsLt_bf16_f32) main_arg3
  let main_v11 : FVec F S16384x768 .f32 := Host.absf main_v10
  let main_cst_2 : FVec F S_ .f32 := constant S_ .f32 0x7F800000#32
  let main_v12 : FVec F S16384x768 .f32 := broadcastInDim S16384x768 ![] bcast_S_S16384x768 main_cst_2
  let main_v13 : IVec S16384x768 1 := cmpf .olt main_v11 main_v12
  let main_v14 : FVec F S16384x768 .f32 := (extf .f32 · bitsLt_bf16_f32) main_arg4
  let main_v15 : FVec F S16384x768 .f32 := Host.absf main_v14
  let main_cst_3 : FVec F S_ .f32 := constant S_ .f32 0x7F800000#32
  let main_v16 : FVec F S16384x768 .f32 := broadcastInDim S16384x768 ![] bcast_S_S16384x768 main_cst_3
  let main_v17 : IVec S16384x768 1 := cmpf .olt main_v15 main_v16
  let main_v18 : FVec F S6x256x64x64 .f32 := (extf .f32 · bitsLt_bf16_f32) main_arg5
  fn_part1 (F := F) main_arg6 main_arg7 main_v2 main_v5 main_v9 main_v13 main_v17 main_v18
-- ==== Pre_gate_finite.lean ====
abbrev S16384x768 : Shape := ⟨2, ![16384, 768]⟩
abbrev S128 : Shape := ⟨1, ![128]⟩
abbrev S_ : Shape := ⟨0, ![]⟩

class Facts : Prop where
  bcast_S_S128 : S_.BroadcastsInDim S128 (![] : Fin 0 → Fin S128.rank)
  bcast_S_S16384x768 : S_.BroadcastsInDim S16384x768 (![] : Fin 0 → Fin S16384x768.rank)

variable [Facts]

def fn {F : FTy → Type} [FloatOps F] (main_arg0 : FVec F S16384x768 .f32) (main_arg1 : FVec F S16384x768 .f32) (main_arg2 : FVec F S128 .f32) (main_arg3 : FVec F S16384x768 .f32) : IVec S128 1 × IVec S16384x768 1 :=
  let main_v0 : FVec F S128 .f32 := Host.absf main_arg2
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S16384x768 .f32 := Host.absf main_arg3
  let main_cst_0 : FVec F S_ .f32 := constant S_ .f32 0x7F800000#32
  let main_v4 : FVec F S16384x768 .f32 := broadcastInDim S16384x768 ![] bcast_S_S16384x768 main_cst_0
  let main_v5 : IVec S16384x768 1 := cmpf .olt main_v3 main_v4
  (main_v2, main_v5)
-- ==== Pre_ln_finite.lean ====
abbrev S16384x1024 : Shape := ⟨2, ![16384, 1024]⟩
abbrev S1024 : Shape := ⟨1, ![1024]⟩
abbrev S_ : Shape := ⟨0, ![]⟩

class Facts : Prop where
  bcast_S_S1024 : S_.BroadcastsInDim S1024 (![] : Fin 0 → Fin S1024.rank)
  bcast_S_S16384x1024 : S_.BroadcastsInDim S16384x1024 (![] : Fin 0 → Fin S16384x1024.rank)

variable [Facts]

def fn {F : FTy → Type} [FloatOps F] (main_arg0 : FVec F S16384x1024 .f32) (main_arg1 : FVec F S16384x1024 .f32) (main_arg2 : FVec F S1024 .f32) (main_arg3 : FVec F S1024 .f32) (main_arg4 : FVec F S16384x1024 .f32) : IVec S1024 1 × IVec S16384x1024 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S16384x1024 .f32 := Host.absf main_arg4
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  (main_v2, main_v5)
-- ==== Kernel.lean ====
abbrev S16384x768 : Shape := ⟨2, ![16384, 768]⟩
abbrev S6x256x64x64 : Shape := ⟨4, ![6, 256, 64, 64]⟩
abbrev S6x256 : Shape := ⟨2, ![6, 256]⟩
abbrev S6x256x128x128 : Shape := ⟨4, ![6, 256, 128, 128]⟩
abbrev S6x256x1x1 : Shape := ⟨4, ![6, 256, 1, 1]⟩
abbrev S6x256x1x128 : Shape := ⟨4, ![6, 256, 1, 128]⟩
abbrev S256x6x128x128 : Shape := ⟨4, ![256, 6, 128, 128]⟩
abbrev S256x64x6x128 : Shape := ⟨4, ![256, 64, 6, 128]⟩
abbrev S256x6x64x128 : Shape := ⟨4, ![256, 6, 64, 128]⟩
abbrev S256x768 : Shape := ⟨2, ![256, 768]⟩
abbrev S6x4x64x64 : Shape := ⟨4, ![6, 4, 64, 64]⟩
abbrev S6x4x1x128 : Shape := ⟨4, ![6, 4, 1, 128]⟩
abbrev S6x4x128x128 : Shape := ⟨4, ![6, 4, 128, 128]⟩
abbrev S6x128x128 : Shape := ⟨3, ![6, 128, 128]⟩
abbrev S1x128x128 : Shape := ⟨3, ![1, 128, 128]⟩
abbrev S128x128 : Shape := ⟨2, ![128, 128]⟩
abbrev S64x128 : Shape := ⟨2, ![64, 128]⟩
abbrev S1x1x64x64 : Shape := ⟨4, ![1, 1, 64, 64]⟩
abbrev S64x64 : Shape := ⟨2, ![64, 64]⟩
abbrev S1x1x128x128 : Shape := ⟨4, ![1, 1, 128, 128]⟩
abbrev S1x1x1x128 : Shape := ⟨4, ![1, 1, 1, 128]⟩
abbrev S1x128 : Shape := ⟨2, ![1, 128]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 29
  | .vmem => 29
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S16384x768, .bf16⟩
  | .hbm, ⟨3, _⟩ => ⟨S16384x768, .bf16⟩
  | .hbm, ⟨4, _⟩ => ⟨S16384x768, .bf16⟩
  | .hbm, ⟨5, _⟩ => ⟨S6x256x64x64, .bf16⟩
  | .hbm, ⟨6, _⟩ => ⟨S6x256, .f32⟩
  | .hbm, ⟨7, _⟩ => ⟨S6x256x128x128, .bf16⟩
  | .hbm, ⟨8, _⟩ => ⟨S6x256, .f32⟩
  | .hbm, ⟨9, _⟩ => ⟨S6x256x1x1, .f32⟩
  | .hbm, ⟨10, _⟩ => ⟨S6x256x1x128, .f32⟩
  | .hbm, ⟨11, _⟩ => ⟨S6x256x128x128, .f32⟩
  | .hbm, ⟨12, _⟩ => ⟨S256x6x128x128, .f32⟩
  | .hbm, ⟨13, _⟩ => ⟨S256x64x6x128, .f32⟩
  | .hbm, ⟨14, _⟩ => ⟨S256x6x64x128, .f32⟩
  | .hbm, ⟨15, _⟩ => ⟨S16384x768, .f32⟩
  | .hbm, ⟨16, _⟩ => ⟨S256x64x6x128, .f32⟩
  | .hbm, ⟨17, _⟩ => ⟨S256x6x64x128, .f32⟩
  | .hbm, ⟨18, _⟩ => ⟨S256x6x64x128, .f32⟩
  | .hbm, ⟨19, _⟩ => ⟨S256x6x64x128, .f32⟩
  | .hbm, ⟨20, _⟩ => ⟨S256x64x6x128, .f32⟩
  | .hbm, ⟨21, _⟩ => ⟨S16384x768, .f32⟩
  | .hbm, ⟨22, _⟩ => ⟨S16384x768, .bf16⟩
  | .hbm, ⟨23, _⟩ => ⟨S16384x768, .f32⟩
  | .hbm, ⟨24, _⟩ => ⟨S16384x768, .f32⟩
  | .hbm, ⟨25, _⟩ => ⟨S16384x768, .f32⟩
  | .hbm, ⟨26, _⟩ => ⟨S16384x768, .f32⟩
  | .hbm, ⟨27, _⟩ => ⟨S6x256x64x64, .f32⟩
  | .hbm, ⟨28, _⟩ => ⟨S6x256x1x128, .f32⟩
  | .local _ .vmem, ⟨0, _⟩ => ⟨S256x768, .f32⟩
  | .local _ .vmem, ⟨1, _⟩ => ⟨S256x768, .f32⟩
  | .local _ .vmem, ⟨2, _⟩ => ⟨S256x768, .bf16⟩
  | .local _ .vmem, ⟨3, _⟩ => ⟨S256x768, .bf16⟩
  | .local _ .vmem, ⟨4, _⟩ => ⟨S256x768, .bf16⟩
  | .local _ .vmem, ⟨5, _⟩ => ⟨S256x768, .bf16⟩
  | .local _ .vmem, ⟨6, _⟩ => ⟨S256x768, .bf16⟩
  | .local _ .vmem, ⟨7, _⟩ => ⟨S256x768, .bf16⟩
  | .local _ .vmem, ⟨8, _⟩ => ⟨S6x4x64x64, .bf16⟩
  | .local _ .vmem, ⟨9, _⟩ => ⟨S6x4x64x64, .bf16⟩
  | .local _ .vmem, ⟨10, _⟩ => ⟨S6x4x1x128, .f32⟩
  | .local _ .vmem, ⟨11, _⟩ => ⟨S6x4x1x128, .f32⟩
  | .local _ .vmem, ⟨12, _⟩ => ⟨S256x768, .bf16⟩
  | .local _ .vmem, ⟨13, _⟩ => ⟨S256x768, .bf16⟩
  | .local _ .vmem, ⟨14, _⟩ => ⟨S6x4x128x128, .bf16⟩
  | .local _ .vmem, ⟨15, _⟩ => ⟨S6x4x128x128, .bf16⟩
  | .local _ .vmem, ⟨16, _⟩ => ⟨S256x768, .f32⟩
  | .local _ .vmem, ⟨17, _⟩ => ⟨S256x768, .f32⟩
  | .local _ .vmem, ⟨18, _⟩ => ⟨S256x768, .f32⟩
  | .local _ .vmem, ⟨19, _⟩ => ⟨S256x768, .f32⟩
  | .local _ .vmem, ⟨20, _⟩ => ⟨S256x768, .f32⟩
  | .local _ .vmem, ⟨21, _⟩ => ⟨S256x768, .f32⟩
  | .local _ .vmem, ⟨22, _⟩ => ⟨S256x768, .f32⟩
  | .local _ .vmem, ⟨23, _⟩ => ⟨S256x768, .f32⟩
  | .local _ .vmem, ⟨24, _⟩ => ⟨S6x4x64x64, .f32⟩
  | .local _ .vmem, ⟨25, _⟩ => ⟨S6x4x64x64, .f32⟩
  | .local _ .vmem, ⟨26, _⟩ => ⟨S6x4x1x128, .f32⟩
  | .local _ .vmem, ⟨27, _⟩ => ⟨S6x4x1x128, .f32⟩
  | .local _ .vmem, ⟨28, _⟩ => ⟨S6x128x128, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev main_v15_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_5 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_7 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_12 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_13 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x4x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6x4x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S6x4x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S6x4x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S16384x768 : Shape := ⟨2, ![16384, 768]⟩
abbrev S6x256x64x64 : Shape := ⟨4, ![6, 256, 64, 64]⟩
abbrev S6x256 : Shape := ⟨2, ![6, 256]⟩
abbrev S6x256x128x128 : Shape := ⟨4, ![6, 256, 128, 128]⟩
abbrev S256x6x128x128 : Shape := ⟨4, ![256, 6, 128, 128]⟩
abbrev S256x64x6x128 : Shape := ⟨4, ![256, 64, 6, 128]⟩
abbrev S256x6x64x128 : Shape := ⟨4, ![256, 6, 64, 128]⟩
abbrev S256x6x64x64 : Shape := ⟨4, ![256, 6, 64, 64]⟩
abbrev S256x6 : Shape := ⟨2, ![256, 6]⟩
abbrev S_ : Shape := ⟨0, ![]⟩
abbrev S6x128x128 : Shape := ⟨3, ![6, 128, 128]⟩
abbrev S1x6x128x128 : Shape := ⟨4, ![1, 6, 128, 128]⟩
abbrev S1x6x64x128 : Shape := ⟨4, ![1, 6, 64, 128]⟩
abbrev S6x64x128 : Shape := ⟨3, ![6, 64, 128]⟩
abbrev S1x6x64x64 : Shape := ⟨4, ![1, 6, 64, 64]⟩
abbrev S6x64x64 : Shape := ⟨3, ![6, 64, 64]⟩
abbrev S1x6 : Shape := ⟨2, ![1, 6]⟩
abbrev S6 : Shape := ⟨1, ![6]⟩
abbrev S6x1x1 : Shape := ⟨3, ![6, 1, 1]⟩
abbrev S6x128x64 : Shape := ⟨3, ![6, 128, 64]⟩
abbrev S6x256x1x1 : Shape := ⟨4, ![6, 256, 1, 1]⟩
abbrev S6x256x1x128 : Shape := ⟨4, ![6, 256, 1, 128]⟩

abbrev nBuf : Space → Nat
  | .hbm => 180
  | .vmem => 0
  | .smem => 0
  | _ => 0

abbrev hbmTy0_0 (i : Nat) : BufTy := match i % 128 with
  | 0 => ⟨S16384x768, .f32⟩
  | 1 => ⟨S16384x768, .f32⟩
  | 2 => ⟨S16384x768, .bf16⟩
  | 3 => ⟨S16384x768, .bf16⟩
  | 4 => ⟨S16384x768, .bf16⟩
  | 5 => ⟨S6x256x64x64, .bf16⟩
  | 6 => ⟨S6x256, .f32⟩
  | 7 => ⟨S6x256x128x128, .bf16⟩
  | 8 => ⟨S6x256x128x128, .f32⟩
  | 9 => ⟨S256x6x128x128, .f32⟩
  | 10 => ⟨S256x64x6x128, .f32⟩
  | 11 => ⟨S256x6x64x128, .f32⟩
  | 12 => ⟨S16384x768, .f32⟩
  | 13 => ⟨S256x64x6x128, .f32⟩
  | 14 => ⟨S256x6x64x128, .f32⟩
  | 15 => ⟨S16384x768, .f32⟩
  | 16 => ⟨S256x64x6x128, .f32⟩
  | 17 => ⟨S256x6x64x128, .f32⟩
  | 18 => ⟨S256x64x6x128, .f32⟩
  | 19 => ⟨S256x6x64x128, .f32⟩
  | 20 => ⟨S16384x768, .f32⟩
  | 21 => ⟨S256x64x6x128, .f32⟩
  | 22 => ⟨S256x6x64x128, .f32⟩
  | 23 => ⟨S6x256x64x64, .f32⟩
  | 24 => ⟨S256x6x64x64, .f32⟩
  | 25 => ⟨S256x6, .f32⟩
  | 26 => ⟨S_, .f32⟩
  | 27 => ⟨S6x128x128, .f32⟩
  | 28 => ⟨S_, .f32⟩
  | 29 => ⟨S256x6x64x128, .f32⟩
  | 30 => ⟨S_, .f32⟩
  | 31 => ⟨S256x6x64x128, .f32⟩
  | 32 => ⟨S_, .f32⟩
  | 33 => ⟨S256x6x64x128, .f32⟩
  | 34 => ⟨S_, .f32⟩
  | 35 => ⟨S256x6x64x128, .f32⟩
  | 36 => ⟨S_, .f32⟩
  | 37 => ⟨S256x6x64x64, .f32⟩
  | 38 => ⟨S_, .f32⟩
  | 39 => ⟨S256x6, .f32⟩
  | 40 => ⟨S_, .i32⟩
  | 41 => ⟨S256x6x128x128, .f32⟩
  | 42 => ⟨S256x6x64x128, .f32⟩
  | 43 => ⟨S256x6x64x128, .f32⟩
  | 44 => ⟨S256x6x64x128, .f32⟩
  | 45 => ⟨S256x6x64x128, .f32⟩
  | 46 => ⟨S256x6x64x128, .f32⟩
  | 47 => ⟨S256x6x64x64, .f32⟩
  | 48 => ⟨S256x6, .f32⟩
  | 49 => ⟨S_, .i32⟩
  | 50 => ⟨S6x128x128, .f32⟩
  | 51 => ⟨S256x6x64x128, .f32⟩
  | 52 => ⟨S256x6x64x128, .f32⟩
  | 53 => ⟨S256x6x64x128, .f32⟩
  | 54 => ⟨S256x6x64x128, .f32⟩
  | 55 => ⟨S256x6x64x64, .f32⟩
  | 56 => ⟨S256x6, .f32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S1x6x128x128, .f32⟩
  | 67 => ⟨S6x128x128, .f32⟩
  | 68 => ⟨S_, .i32⟩
  | 69 => ⟨S_, .i32⟩
  | 70 => ⟨S_, .i32⟩
  | 71 => ⟨S1x6x64x128, .f32⟩
  | 72 => ⟨S6x64x128, .f32⟩
  | 73 => ⟨S_, .i32⟩
  | 74 => ⟨S_, .i32⟩
  | 75 => ⟨S_, .i32⟩
  | 76 => ⟨S1x6x64x128, .f32⟩
  | 77 => ⟨S6x64x128, .f32⟩
  | 78 => ⟨S_, .i32⟩
  | 79 => ⟨S_, .i32⟩
  | 80 => ⟨S_, .i32⟩
  | 81 => ⟨S1x6x64x128, .f32⟩
  | 82 => ⟨S6x64x128, .f32⟩
  | 83 => ⟨S_, .i32⟩
  | 84 => ⟨S_, .i32⟩
  | 85 => ⟨S_, .i32⟩
  | 86 => ⟨S1x6x64x128, .f32⟩
  | 87 => ⟨S6x64x128, .f32⟩
  | 88 => ⟨S_, .i32⟩
  | 89 => ⟨S_, .i32⟩
  | 90 => ⟨S_, .i32⟩
  | 91 => ⟨S1x6x64x128, .f32⟩
  | 92 => ⟨S6x64x128, .f32⟩
  | 93 => ⟨S_, .i32⟩
  | 94 => ⟨S_, .i32⟩
  | 95 => ⟨S_, .i32⟩
  | 96 => ⟨S1x6x64x64, .f32⟩
  | 97 => ⟨S6x64x64, .f32⟩
  | 98 => ⟨S_, .i32⟩
  | 99 => ⟨S1x6, .f32⟩
  | 100 => ⟨S6, .f32⟩
  | 101 => ⟨S6, .f32⟩
  | 102 => ⟨S6x64x128, .f32⟩
  | 103 => ⟨S6x64x128, .f32⟩
  | 104 => ⟨S6x64x128, .f32⟩
  | 105 => ⟨S6x64x128, .f32⟩
  | 106 => ⟨S6x64x128, .f32⟩
  | 107 => ⟨S6x1x1, .f32⟩
  | 108 => ⟨S6x128x128, .f32⟩
  | 109 => ⟨S6x128x128, .f32⟩
  | 110 => ⟨S6x128x128, .f32⟩
  | 111 => ⟨S6x128x128, .f32⟩
  | 112 => ⟨S6x128x64, .f32⟩
  | 113 => ⟨S6x64x128, .f32⟩
  | 114 => ⟨S6x128x64, .f32⟩
  | 115 => ⟨S6x64x128, .f32⟩
  | 116 => ⟨S6x128x128, .f32⟩
  | 117 => ⟨S_, .f32⟩
  | 118 => ⟨S6, .f32⟩
  | 119 => ⟨S6x1x1, .f32⟩
  | 120 => ⟨S6x128x128, .f32⟩
  | 121 => ⟨S6x128x128, .f32⟩
  | 122 => ⟨S_, .f32⟩
  | 123 => ⟨S6, .f32⟩
  | 124 => ⟨S6x128x64, .f32⟩
  | 125 => ⟨S6x64x128, .f32⟩
  | 126 => ⟨S6x64x128, .f32⟩
  | 127 => ⟨S6x64x64, .f32⟩
  | _ => ⟨S16384x768, .f32⟩

abbrev hbmTy0_1 (i : Nat) : BufTy := match i % 128 with
  | 0 => ⟨S6x128x128, .f32⟩
  | 1 => ⟨S6x128x128, .f32⟩
  | 2 => ⟨S6x128x128, .f32⟩
  | 3 => ⟨S6x64x128, .f32⟩
  | 4 => ⟨S6x64x128, .f32⟩
  | 5 => ⟨S6x128x128, .f32⟩
  | 6 => ⟨S6x128x128, .f32⟩
  | 7 => ⟨S6x128x128, .f32⟩
  | 8 => ⟨S6x64x128, .f32⟩
  | 9 => ⟨S6, .f32⟩
  | 10 => ⟨S1x6x64x128, .f32⟩
  | 11 => ⟨S_, .i32⟩
  | 12 => ⟨S_, .i32⟩
  | 13 => ⟨S_, .i32⟩
  | 14 => ⟨S256x6x64x128, .f32⟩
  | 15 => ⟨S1x6x64x128, .f32⟩
  | 16 => ⟨S_, .i32⟩
  | 17 => ⟨S_, .i32⟩
  | 18 => ⟨S_, .i32⟩
  | 19 => ⟨S256x6x64x128, .f32⟩
  | 20 => ⟨S1x6x64x128, .f32⟩
  | 21 => ⟨S_, .i32⟩
  | 22 => ⟨S_, .i32⟩
  | 23 => ⟨S_, .i32⟩
  | 24 => ⟨S256x6x64x128, .f32⟩
  | 25 => ⟨S1x6x64x128, .f32⟩
  | 26 => ⟨S_, .i32⟩
  | 27 => ⟨S_, .i32⟩
  | 28 => ⟨S_, .i32⟩
  | 29 => ⟨S256x6x64x128, .f32⟩
  | 30 => ⟨S1x6x64x64, .f32⟩
  | 31 => ⟨S_, .i32⟩
  | 32 => ⟨S_, .i32⟩
  | 33 => ⟨S_, .i32⟩
  | 34 => ⟨S256x6x64x64, .f32⟩
  | 35 => ⟨S1x6, .f32⟩
  | 36 => ⟨S_, .i32⟩
  | 37 => ⟨S256x6, .f32⟩
  | 38 => ⟨S_, .i32⟩
  | 39 => ⟨S_, .i32⟩
  | 40 => ⟨S256x64x6x128, .f32⟩
  | 41 => ⟨S16384x768, .f32⟩
  | 42 => ⟨S256x64x6x128, .f32⟩
  | 43 => ⟨S16384x768, .f32⟩
  | 44 => ⟨S256x64x6x128, .f32⟩
  | 45 => ⟨S16384x768, .f32⟩
  | 46 => ⟨S256x64x6x128, .f32⟩
  | 47 => ⟨S16384x768, .f32⟩
  | 48 => ⟨S6x256x64x64, .f32⟩
  | 49 => ⟨S6x256, .f32⟩
  | 50 => ⟨S6x256x1x1, .f32⟩
  | 51 => ⟨S6x256x1x128, .f32⟩
  | _ => ⟨S16384x768, .f32⟩

abbrev hbmTy (i : Nat) : BufTy := match i / 128 with
  | 0 => hbmTy0_0 i
  | 1 => hbmTy0_1 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_c : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev main_v25_3 : Ref sig .tc := ⟨.hbm, 44, rfl⟩
abbrev main_v25_4 : Ref sig .tc := ⟨.hbm, 45, rfl⟩
abbrev main_v25_5 : Ref sig .tc := ⟨.hbm, 46, rfl⟩
abbrev main_v25_6 : Ref sig .tc := ⟨.hbm, 47, rfl⟩
abbrev main_v25_7 : Ref sig .tc := ⟨.hbm, 48, rfl⟩
abbrev main_v25_8 : Ref sig .tc := ⟨.hbm, 49, rfl⟩
abbrev main_v25_9 : Ref sig .tc := ⟨.hbm, 50, rfl⟩
abbrev main_v25_10 : Ref sig .tc := ⟨.hbm, 51, rfl⟩
abbrev main_v25_11 : Ref sig .tc := ⟨.hbm, 52, rfl⟩
abbrev main_v25_12 : Ref sig .tc := ⟨.hbm, 53, rfl⟩
abbrev main_v25_13 : Ref sig .tc := ⟨.hbm, 54, rfl⟩
abbrev main_v25_14 : Ref sig .tc := ⟨.hbm, 55, rfl⟩
abbrev main_v25_15 : Ref sig .tc := ⟨.hbm, 56, rfl⟩
abbrev main_while0c_c_21 : Ref sig .tc := ⟨.hbm, 57, rfl⟩
abbrev main_while0c_v38 : Ref sig .tc := ⟨.hbm, 58, rfl⟩
abbrev main_while0b_c_21 : Ref sig .tc := ⟨.hbm, 59, rfl⟩
abbrev main_while0b_v38 : Ref sig .tc := ⟨.hbm, 60, rfl⟩
abbrev main_while0b_c_22 : Ref sig .tc := ⟨.hbm, 61, rfl⟩
abbrev main_while0b_v39 : Ref sig .tc := ⟨.hbm, 62, rfl⟩
abbrev main_while0b_call0_c : Ref sig .tc := ⟨.hbm, 63, rfl⟩
abbrev main_while0b_call0_c_0 : Ref sig .tc := ⟨.hbm, 64, rfl⟩
abbrev main_while0b_call0_c_1 : Ref sig .tc := ⟨.hbm, 65, rfl⟩
abbrev main_while0b_call0_v0 : Ref sig .tc := ⟨.hbm, 66, rfl⟩
abbrev main_while0b_v40 : Ref sig .tc := ⟨.hbm, 67, rfl⟩
abbrev main_while0b_call1_c : Ref sig .tc := ⟨.hbm, 68, rfl⟩
abbrev main_while0b_call1_c_0 : Ref sig .tc := ⟨.hbm, 69, rfl⟩
abbrev main_while0b_call1_c_1 : Ref sig .tc := ⟨.hbm, 70, rfl⟩
abbrev main_while0b_call1_v0 : Ref sig .tc := ⟨.hbm, 71, rfl⟩
abbrev main_while0b_v41 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_c_1 : Ref sig .tc := ⟨.hbm, 75, rfl⟩
abbrev main_while0b_call2_v0 : Ref sig .tc := ⟨.hbm, 76, rfl⟩
abbrev main_while0b_v42 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_c_1 : Ref sig .tc := ⟨.hbm, 80, rfl⟩
abbrev main_while0b_call3_v0 : Ref sig .tc := ⟨.hbm, 81, rfl⟩
abbrev main_while0b_v43 : Ref sig .tc := ⟨.hbm, 82, rfl⟩
abbrev main_while0b_call4_c : Ref sig .tc := ⟨.hbm, 83, rfl⟩
abbrev main_while0b_call4_c_0 : Ref sig .tc := ⟨.hbm, 84, rfl⟩
abbrev main_while0b_call4_c_1 : Ref sig .tc := ⟨.hbm, 85, rfl⟩
abbrev main_while0b_call4_v0 : Ref sig .tc := ⟨.hbm, 86, rfl⟩
abbrev main_while0b_v44 : Ref sig .tc := ⟨.hbm, 87, rfl⟩
abbrev main_while0b_call5_c : Ref sig .tc := ⟨.hbm, 88, rfl⟩
abbrev main_while0b_call5_c_0 : Ref sig .tc := ⟨.hbm, 89, rfl⟩
abbrev main_while0b_call5_c_1 : Ref sig .tc := ⟨.hbm, 90, rfl⟩
abbrev main_while0b_call5_v0 : Ref sig .tc := ⟨.hbm, 91, rfl⟩
abbrev main_while0b_v45 : Ref sig .tc := ⟨.hbm, 92, rfl⟩
abbrev main_while0b_call6_c : Ref sig .tc := ⟨.hbm, 93, rfl⟩
abbrev main_while0b_call6_c_0 : Ref sig .tc := ⟨.hbm, 94, rfl⟩
abbrev main_while0b_call6_c_1 : Ref sig .tc := ⟨.hbm, 95, rfl⟩
abbrev main_while0b_call6_v0 : Ref sig .tc := ⟨.hbm, 96, rfl⟩
abbrev main_while0b_v46 : Ref sig .tc := ⟨.hbm, 97, rfl⟩
abbrev main_while0b_call7_c : Ref sig .tc := ⟨.hbm, 98, rfl⟩
abbrev main_while0b_call7_v0 : Ref sig .tc := ⟨.hbm, 99, rfl⟩
abbrev main_while0b_v47 : Ref sig .tc := ⟨.hbm, 100, rfl⟩
abbrev main_while0b_v48 : Ref sig .tc := ⟨.hbm, 101, rfl⟩
abbrev main_while0b_v49 : Ref sig .tc := ⟨.hbm, 102, rfl⟩
abbrev main_while0b_v50 : Ref sig .tc := ⟨.hbm, 103, rfl⟩
abbrev main_while0b_v51 : Ref sig .tc := ⟨.hbm, 104, rfl⟩
abbrev main_while0b_v52 : Ref sig .tc := ⟨.hbm, 105, rfl⟩
abbrev main_while0b_v53 : Ref sig .tc := ⟨.hbm, 106, rfl⟩
abbrev main_while0b_v54 : Ref sig .tc := ⟨.hbm, 107, rfl⟩
abbrev main_while0b_v55 : Ref sig .tc := ⟨.hbm, 108, rfl⟩
abbrev main_while0b_v56 : Ref sig .tc := ⟨.hbm, 109, rfl⟩
abbrev main_while0b_v57 : Ref sig .tc := ⟨.hbm, 110, rfl⟩
abbrev main_while0b_v58 : Ref sig .tc := ⟨.hbm, 111, rfl⟩
abbrev main_while0b_v59 : Ref sig .tc := ⟨.hbm, 112, rfl⟩
abbrev main_while0b_v60 : Ref sig .tc := ⟨.hbm, 113, rfl⟩
abbrev main_while0b_v61 : Ref sig .tc := ⟨.hbm, 114, rfl⟩
abbrev main_while0b_v62 : Ref sig .tc := ⟨.hbm, 115, rfl⟩
abbrev main_while0b_v63 : Ref sig .tc := ⟨.hbm, 116, rfl⟩
abbrev main_while0b_cst_23 : Ref sig .tc := ⟨.hbm, 117, rfl⟩
abbrev main_while0b_v64 : Ref sig .tc := ⟨.hbm, 118, rfl⟩
abbrev main_while0b_v65 : Ref sig .tc := ⟨.hbm, 119, rfl⟩
abbrev main_while0b_v66 : Ref sig .tc := ⟨.hbm, 120, rfl⟩
abbrev main_while0b_v67 : Ref sig .tc := ⟨.hbm, 121, rfl⟩
abbrev main_while0b_cst_24 : Ref sig .tc := ⟨.hbm, 122, rfl⟩
abbrev main_while0b_v68 : Ref sig .tc := ⟨.hbm, 123, rfl⟩
abbrev main_while0b_v69 : Ref sig .tc := ⟨.hbm, 124, rfl⟩
abbrev main_while0b_v70 : Ref sig .tc := ⟨.hbm, 125, rfl⟩
abbrev main_while0b_v71 : Ref sig .tc := ⟨.hbm, 126, rfl⟩
abbrev main_while0b_v72 : Ref sig .tc := ⟨.hbm, 127, rfl⟩
abbrev main_while0b_v73 : Ref sig .tc := ⟨.hbm, 128, rfl⟩
abbrev main_while0b_v74 : Ref sig .tc := ⟨.hbm, 129, rfl⟩
abbrev main_while0b_v75 : Ref sig .tc := ⟨.hbm, 130, rfl⟩
abbrev main_while0b_v76 : Ref sig .tc := ⟨.hbm, 131, rfl⟩
abbrev main_while0b_v77 : Ref sig .tc := ⟨.hbm, 132, rfl⟩
abbrev main_while0b_v78 : Ref sig .tc := ⟨.hbm, 133, rfl⟩
abbrev main_while0b_v79 : Ref sig .tc := ⟨.hbm, 134, rfl⟩
abbrev main_while0b_v80 : Ref sig .tc := ⟨.hbm, 135, rfl⟩
abbrev main_while0b_v81 : Ref sig .tc := ⟨.hbm, 136, rfl⟩
abbrev main_while0b_v82 : Ref sig .tc := ⟨.hbm, 137, rfl⟩
abbrev main_while0b_call8_v0 : Ref sig .tc := ⟨.hbm, 138, rfl⟩
abbrev main_while0b_call8_c : Ref sig .tc := ⟨.hbm, 139, rfl⟩
abbrev main_while0b_call8_c_0 : Ref sig .tc := ⟨.hbm, 140, rfl⟩
abbrev main_while0b_call8_c_1 : Ref sig .tc := ⟨.hbm, 141, rfl⟩
abbrev main_while0b_v83 : Ref sig .tc := ⟨.hbm, 142, rfl⟩
abbrev main_while0b_call9_v0 : Ref sig .tc := ⟨.hbm, 143, rfl⟩
abbrev main_while0b_call9_c : Ref sig .tc := ⟨.hbm, 144, rfl⟩
abbrev main_while0b_call9_c_0 : Ref sig .tc := ⟨.hbm, 145, rfl⟩
abbrev main_while0b_call9_c_1 : Ref sig .tc := ⟨.hbm, 146, rfl⟩
abbrev main_while0b_v84 : Ref sig .tc := ⟨.hbm, 147, rfl⟩
abbrev main_while0b_call10_v0 : Ref sig .tc := ⟨.hbm, 148, rfl⟩
abbrev main_while0b_call10_c : Ref sig .tc := ⟨.hbm, 149, rfl⟩
abbrev main_while0b_call10_c_0 : Ref sig .tc := ⟨.hbm, 150, rfl⟩
abbrev main_while0b_call10_c_1 : Ref sig .tc := ⟨.hbm, 151, rfl⟩
abbrev main_while0b_v85 : Ref sig .tc := ⟨.hbm, 152, rfl⟩
abbrev main_while0b_call11_v0 : Ref sig .tc := ⟨.hbm, 153, rfl⟩
abbrev main_while0b_call11_c : Ref sig .tc := ⟨.hbm, 154, rfl⟩
abbrev main_while0b_call11_c_0 : Ref sig .tc := ⟨.hbm, 155, rfl⟩
abbrev main_while0b_call11_c_1 : Ref sig .tc := ⟨.hbm, 156, rfl⟩
abbrev main_while0b_v86 : Ref sig .tc := ⟨.hbm, 157, rfl⟩
abbrev main_while0b_call12_v0 : Ref sig .tc := ⟨.hbm, 158, rfl⟩
abbrev main_while0b_call12_c : Ref sig .tc := ⟨.hbm, 159, rfl⟩
abbrev main_while0b_call12_c_0 : Ref sig .tc := ⟨.hbm, 160, rfl⟩
abbrev main_while0b_call12_c_1 : Ref sig .tc := ⟨.hbm, 161, rfl⟩
abbrev main_while0b_v87 : Ref sig .tc := ⟨.hbm, 162, rfl⟩
abbrev main_while0b_call13_v0 : Ref sig .tc := ⟨.hbm, 163, rfl⟩
abbrev main_while0b_call13_c : Ref sig .tc := ⟨.hbm, 164, rfl⟩
abbrev main_while0b_v88 : Ref sig .tc := ⟨.hbm, 165, rfl⟩
abbrev main_while0b_c_25 : Ref sig .tc := ⟨.hbm, 166, rfl⟩
abbrev main_while0b_v89 : Ref sig .tc := ⟨.hbm, 167, rfl⟩
abbrev main_v26 : Ref sig .tc := ⟨.hbm, 168, rfl⟩
abbrev main_v27 : Ref sig .tc := ⟨.hbm, 169, rfl⟩
abbrev main_v28 : Ref sig .tc := ⟨.hbm, 170, rfl⟩
abbrev main_v29 : Ref sig .tc := ⟨.hbm, 171, rfl⟩
abbrev main_v30 : Ref sig .tc := ⟨.hbm, 172, rfl⟩
abbrev main_v31 : Ref sig .tc := ⟨.hbm, 173, rfl⟩
abbrev main_v32 : Ref sig .tc := ⟨.hbm, 174, rfl⟩
abbrev main_v33 : Ref sig .tc := ⟨.hbm, 175, rfl⟩
abbrev main_v34 : Ref sig .tc := ⟨.hbm, 176, rfl⟩
abbrev main_v35 : Ref sig .tc := ⟨.hbm, 177, rfl⟩
abbrev main_v36 : Ref sig .tc := ⟨.hbm, 178, rfl⟩
abbrev main_v37 : Ref sig .tc := ⟨.hbm, 179, rfl⟩

abbrev nD : Nat := 1
abbrev τ : Topo := Topo.v7x

variable {F : FTy → Type} [FloatOps F]

abbrev main_while0_count : Scf.Loop 32 := ⟨0#32, 256#32, 1#32⟩
-- ==== Up.lean ====
abbrev S16384x1024 : Shape := ⟨2, ![16384, 1024]⟩
abbrev S1024x4096 : Shape := ⟨2, ![1024, 4096]⟩
abbrev S16384x4096 : Shape := ⟨2, ![16384, 4096]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x1024, .bf16⟩
  | .hbm, ⟨3, _⟩ => ⟨S1024x4096, .bf16⟩
  | .hbm, ⟨4, _⟩ => ⟨S16384x4096, .bf16⟩
  | .hbm, ⟨5, _⟩ => ⟨S16384x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S16384x1024 : Shape := ⟨2, ![16384, 1024]⟩
abbrev S1024x4096 : Shape := ⟨2, ![1024, 4096]⟩
abbrev S16384x4096 : Shape := ⟨2, ![16384, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x4096, .f32⟩
  | .hbm, ⟨3, _⟩ => ⟨S16384x4096, .bf16⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Down.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩
abbrev S2048x1024 : Shape := ⟨2, ![2048, 1024]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x4096, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .bf16⟩
  | .hbm, ⟨9, _⟩ => ⟨S4096x1024, .bf16⟩
  | .hbm, ⟨10, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x4096, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== DUp.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S2048x1024 : Shape := ⟨2, ![2048, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x1024, .bf16⟩
  | .hbm, ⟨5, _⟩ => ⟨S4096x1024, .bf16⟩
  | .hbm, ⟨6, _⟩ => ⟨S16384x4096, .f32⟩
  | .hbm, ⟨7, _⟩ => ⟨S16384x4096, .bf16⟩
  | .hbm, ⟨8, _⟩ => ⟨S16384x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DUpRefIdeal.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .i1⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x1024, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== DwDown.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .bf16⟩
  | .hbm, ⟨10, _⟩ => ⟨S16384x1024, .bf16⟩
  | .hbm, ⟨11, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond3 (i : grid0.Coords) : BitVec 1 :=
  let arg2 : BitVec 32 := BitVec.ofNat 32 (i 2).val
  let c15_i32_6 : BitVec 32 := 15#32
  let v13 : BitVec 1 := Scalar.cmpi .eq arg2 c15_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .i1⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x1024, .f32⟩
  | .hbm, ⟨18, _⟩ => ⟨S1024x4096, .f32⟩
  | .hbm, ⟨19, _⟩ => ⟨S4096x1024, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S4096x1024, .f32⟩
  | .hbm, ⟨26, _⟩ => ⟨S1024x4096, .f32⟩
  | .hbm, ⟨27, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== DwUp.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩
abbrev S1024x1024 : Shape := ⟨2, ![1024, 1024]⟩
abbrev S1024x2048 : Shape := ⟨2, ![1024, 2048]⟩

abbrev nBuf : Space → Nat
  | .hbm => 26
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x1024, .bf16⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .i1⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x1024, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .bf16⟩
  | .hbm, ⟨25, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond3 (i : grid0.Coords) : BitVec 1 :=
  let arg2 : BitVec 32 := BitVec.ofNat 32 (i 2).val
  let c15_i32_6 : BitVec 32 := 15#32
  let v13 : BitVec 1 := Scalar.cmpi .eq arg2 c15_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .i1⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x1024, .f32⟩
  | .hbm, ⟨18, _⟩ => ⟨S1024x4096, .f32⟩
  | .hbm, ⟨19, _⟩ => ⟨S4096x1024, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S4096x1024, .f32⟩
  | .hbm, ⟨26, _⟩ => ⟨S1024x4096, .f32⟩
  | .hbm, ⟨27, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Dh.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩
abbrev S2048x1024 : Shape := ⟨2, ![2048, 1024]⟩
abbrev S1024x1024 : Shape := ⟨2, ![1024, 1024]⟩

abbrev nBuf : Space → Nat
  | .hbm => 26
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .i1⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x1024, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x4096, .bf16⟩
  | .hbm, ⟨24, _⟩ => ⟨S1024x4096, .bf16⟩
  | .hbm, ⟨25, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .i1⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x1024, .f32⟩
  | .hbm, ⟨18, _⟩ => ⟨S1024x4096, .f32⟩
  | .hbm, ⟨19, _⟩ => ⟨S4096x1024, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S4096x1024, .f32⟩
  | .hbm, ⟨26, _⟩ => ⟨S1024x4096, .f32⟩
  | .hbm, ⟨27, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Linear.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LinearIdeal.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LinearRefIdeal.lean ====
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LinearDx.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1024x1024, .bf16⟩
  | .hbm, ⟨5, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LinearDxIdeal.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1024x1024, .bf16⟩
  | .hbm, ⟨5, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LinearDxRefIdeal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LinearDw.lean ====
abbrev S16384x1024 : Shape := ⟨2, ![16384, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S16384x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32_6 : BitVec 32 := 15#32
  let v13 : BitVec 1 := Scalar.cmpi .eq arg2 c15_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LinearDwIdeal.lean ====
abbrev S16384x1024 : Shape := ⟨2, ![16384, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S16384x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32_6 : BitVec 32 := 15#32
  let v13 : BitVec 1 := Scalar.cmpi .eq arg2 c15_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LinearDwRefIdeal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LinearA.lean ====
abbrev S16384x1024 : Shape := ⟨2, ![16384, 1024]⟩
abbrev S1024x3456 : Shape := ⟨2, ![1024, 3456]⟩
abbrev S16384x3456 : Shape := ⟨2, ![16384, 3456]⟩
abbrev S2048x1024 : Shape := ⟨2, ![2048, 1024]⟩
abbrev S1024x1152 : Shape := ⟨2, ![1024, 1152]⟩
abbrev S2048x1152 : Shape := ⟨2, ![2048, 1152]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x3456, .f32⟩
  | .hbm, ⟨2, _⟩ => ⟨S16384x1024, .bf16⟩
  | .hbm, ⟨3, _⟩ => ⟨S1024x3456, .bf16⟩
  | .hbm, ⟨4, _⟩ => ⟨S16384x3456, .f32⟩
  | .local _ .vmem, ⟨0, _⟩ => ⟨S2048x1024, .bf16⟩
  | .local _ .vmem, ⟨1, _⟩ => ⟨S2048x1024, .bf16⟩
  | .local _ .vmem, ⟨2, _⟩ => ⟨S1024x1152, .bf16⟩
  | .local _ .vmem, ⟨3, _⟩ => ⟨S1024x1152, .bf16⟩
  | .local _ .vmem, ⟨4, _⟩ => ⟨S2048x1152, .f32⟩
  | .local _ .vmem, ⟨5, _⟩ => ⟨S2048x1152, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LinearAIdeal.lean ====
abbrev S16384x1024 : Shape := ⟨2, ![16384, 1024]⟩
abbrev S1024x3456 : Shape := ⟨2, ![1024, 3456]⟩
abbrev S16384x3456 : Shape := ⟨2, ![16384, 3456]⟩
abbrev S2048x1024 : Shape := ⟨2, ![2048, 1024]⟩
abbrev S1024x1152 : Shape := ⟨2, ![1024, 1152]⟩
abbrev S2048x1152 : Shape := ⟨2, ![2048, 1152]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x3456, .f32⟩
  | .hbm, ⟨2, _⟩ => ⟨S16384x1024, .bf16⟩
  | .hbm, ⟨3, _⟩ => ⟨S1024x3456, .bf16⟩
  | .hbm, ⟨4, _⟩ => ⟨S16384x3456, .f32⟩
  | .local _ .vmem, ⟨0, _⟩ => ⟨S2048x1024, .bf16⟩
  | .local _ .vmem, ⟨1, _⟩ => ⟨S2048x1024, .bf16⟩
  | .local _ .vmem, ⟨2, _⟩ => ⟨S1024x1152, .bf16⟩
  | .local _ .vmem, ⟨3, _⟩ => ⟨S1024x1152, .bf16⟩
  | .local _ .vmem, ⟨4, _⟩ => ⟨S2048x1152, .f32⟩
  | .local _ .vmem, ⟨5, _⟩ => ⟨S2048x1152, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LinearARefIdeal.lean ====
abbrev S16384x1024 : Shape := ⟨2, ![16384, 1024]⟩
abbrev S1024x3456 : Shape := ⟨2, ![1024, 3456]⟩
abbrev S16384x3456 : Shape := ⟨2, ![16384, 3456]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3456, .f32⟩
  | .hbm, ⟨2, _⟩ => ⟨S16384x3456, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LinearADx.lean ====
abbrev S16384x1024 : Shape := ⟨2, ![16384, 1024]⟩
abbrev S1024x3456 : Shape := ⟨2, ![1024, 3456]⟩
abbrev S16384x3456 : Shape := ⟨2, ![16384, 3456]⟩
abbrev S2048x1152 : Shape := ⟨2, ![2048, 1152]⟩
abbrev S1024x1152 : Shape := ⟨2, ![1024, 1152]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x3456, .f32⟩
  | .hbm, ⟨2, _⟩ => ⟨S16384x3456, .f32⟩
  | .hbm, ⟨3, _⟩ => ⟨S16384x3456, .bf16⟩
  | .hbm, ⟨4, _⟩ => ⟨S1024x3456, .bf16⟩
  | .hbm, ⟨5, _⟩ => ⟨S16384x1024, .f32⟩
  | .local _ .vmem, ⟨0, _⟩ => ⟨S2048x1152, .bf16⟩
  | .local _ .vmem, ⟨1, _⟩ => ⟨S2048x1152, .bf16⟩
  | .local _ .vmem, ⟨2, _⟩ => ⟨S1024x1152, .bf16⟩
  | .local _ .vmem, ⟨3, _⟩ => ⟨S1024x1152, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LinearADxIdeal.lean ====
abbrev S16384x1024 : Shape := ⟨2, ![16384, 1024]⟩
abbrev S1024x3456 : Shape := ⟨2, ![1024, 3456]⟩
abbrev S16384x3456 : Shape := ⟨2, ![16384, 3456]⟩
abbrev S2048x1152 : Shape := ⟨2, ![2048, 1152]⟩
abbrev S1024x1152 : Shape := ⟨2, ![1024, 1152]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x3456, .f32⟩
  | .hbm, ⟨2, _⟩ => ⟨S16384x3456, .f32⟩
  | .hbm, ⟨3, _⟩ => ⟨S16384x3456, .bf16⟩
  | .hbm, ⟨4, _⟩ => ⟨S1024x3456, .bf16⟩
  | .hbm, ⟨5, _⟩ => ⟨S16384x1024, .f32⟩
  | .local _ .vmem, ⟨0, _⟩ => ⟨S2048x1152, .bf16⟩
  | .local _ .vmem, ⟨1, _⟩ => ⟨S2048x1152, .bf16⟩
  | .local _ .vmem, ⟨2, _⟩ => ⟨S1024x1152, .bf16⟩
  | .local _ .vmem, ⟨3, _⟩ => ⟨S1024x1152, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LinearADxRefIdeal.lean ====
abbrev S16384x1024 : Shape := ⟨2, ![16384, 1024]⟩
abbrev S1024x3456 : Shape := ⟨2, ![1024, 3456]⟩
abbrev S16384x3456 : Shape := ⟨2, ![16384, 3456]⟩
abbrev S3456x1024 : Shape := ⟨2, ![3456, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3456, .f32⟩
  | .hbm, ⟨2, _⟩ => ⟨S16384x3456, .f32⟩
  | .hbm, ⟨3, _⟩ => ⟨S16384x3456, .f32⟩
  | .hbm, ⟨4, _⟩ => ⟨S3456x1024, .f32⟩
  | .hbm, ⟨5, _⟩ => ⟨S1024x3456, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LinearADw.lean ====
abbrev S16384x1024 : Shape := ⟨2, ![16384, 1024]⟩
abbrev S1024x3456 : Shape := ⟨2, ![1024, 3456]⟩
abbrev S16384x3456 : Shape := ⟨2, ![16384, 3456]⟩
abbrev S1024x1024 : Shape := ⟨2, ![1024, 1024]⟩
abbrev S1024x1152 : Shape := ⟨2, ![1024, 1152]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x3456, .f32⟩
  | .hbm, ⟨2, _⟩ => ⟨S16384x3456, .f32⟩
  | .hbm, ⟨3, _⟩ => ⟨S16384x1024, .bf16⟩
  | .hbm, ⟨4, _⟩ => ⟨S16384x3456, .bf16⟩
  | .hbm, ⟨5, _⟩ => ⟨S1024x3456, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def k0_cond3 (i : grid0.Coords) : BitVec 1 :=
  let arg2 : BitVec 32 := BitVec.ofNat 32 (i 2).val
  let c15_i32_6 : BitVec 32 := 15#32
  let v13 : BitVec 1 := Scalar.cmpi .eq arg2 c15_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LinearADwIdeal.lean ====
abbrev S16384x1024 : Shape := ⟨2, ![16384, 1024]⟩
abbrev S1024x3456 : Shape := ⟨2, ![1024, 3456]⟩
abbrev S16384x3456 : Shape := ⟨2, ![16384, 3456]⟩
abbrev S1024x1024 : Shape := ⟨2, ![1024, 1024]⟩
abbrev S1024x1152 : Shape := ⟨2, ![1024, 1152]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x3456, .f32⟩
  | .hbm, ⟨2, _⟩ => ⟨S16384x3456, .f32⟩
  | .hbm, ⟨3, _⟩ => ⟨S16384x1024, .bf16⟩
  | .hbm, ⟨4, _⟩ => ⟨S16384x3456, .bf16⟩
  | .hbm, ⟨5, _⟩ => ⟨S1024x3456, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def k0_cond3 (i : grid0.Coords) : BitVec 1 :=
  let arg2 : BitVec 32 := BitVec.ofNat 32 (i 2).val
  let c15_i32_6 : BitVec 32 := 15#32
  let v13 : BitVec 1 := Scalar.cmpi .eq arg2 c15_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LinearADwRefIdeal.lean ====
abbrev S16384x1024 : Shape := ⟨2, ![16384, 1024]⟩
abbrev S1024x3456 : Shape := ⟨2, ![1024, 3456]⟩
abbrev S16384x3456 : Shape := ⟨2, ![16384, 3456]⟩
abbrev S3456x1024 : Shape := ⟨2, ![3456, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3456, .f32⟩
  | .hbm, ⟨2, _⟩ => ⟨S16384x3456, .f32⟩
  | .hbm, ⟨3, _⟩ => ⟨S16384x3456, .f32⟩
  | .hbm, ⟨4, _⟩ => ⟨S3456x1024, .f32⟩
  | .hbm, ⟨5, _⟩ => ⟨S1024x3456, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LinearKv.lean ====
abbrev S16384x1024 : Shape := ⟨2, ![16384, 1024]⟩
abbrev S1024x256 : Shape := ⟨2, ![1024, 256]⟩
abbrev S16384x256 : Shape := ⟨2, ![16384, 256]⟩
abbrev S2048x1024 : Shape := ⟨2, ![2048, 1024]⟩
abbrev S2048x256 : Shape := ⟨2, ![2048, 256]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x256, .f32⟩
  | .hbm, ⟨2, _⟩ => ⟨S16384x1024, .bf16⟩
  | .hbm, ⟨3, _⟩ => ⟨S1024x256, .bf16⟩
  | .hbm, ⟨4, _⟩ => ⟨S16384x256, .f32⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S2048x256, .f32⟩
  | .local _ .vmem, ⟨4, _⟩ => ⟨S2048x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LinearKvIdeal.lean ====
abbrev S16384x1024 : Shape := ⟨2, ![16384, 1024]⟩
abbrev S1024x256 : Shape := ⟨2, ![1024, 256]⟩
abbrev S16384x256 : Shape := ⟨2, ![16384, 256]⟩
abbrev S2048x1024 : Shape := ⟨2, ![2048, 1024]⟩
abbrev S2048x256 : Shape := ⟨2, ![2048, 256]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x256, .f32⟩
  | .hbm, ⟨2, _⟩ => ⟨S16384x1024, .bf16⟩
  | .hbm, ⟨3, _⟩ => ⟨S1024x256, .bf16⟩
  | .hbm, ⟨4, _⟩ => ⟨S16384x256, .f32⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S2048x256, .f32⟩
  | .local _ .vmem, ⟨4, _⟩ => ⟨S2048x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LinearKvRefIdeal.lean ====
abbrev S16384x1024 : Shape := ⟨2, ![16384, 1024]⟩
abbrev S1024x256 : Shape := ⟨2, ![1024, 256]⟩
abbrev S16384x256 : Shape := ⟨2, ![16384, 256]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x256, .f32⟩
  | .hbm, ⟨2, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LinearKvDx.lean ====
abbrev S16384x1024 : Shape := ⟨2, ![16384, 1024]⟩
abbrev S1024x256 : Shape := ⟨2, ![1024, 256]⟩
abbrev S16384x256 : Shape := ⟨2, ![16384, 256]⟩
abbrev S2048x256 : Shape := ⟨2, ![2048, 256]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x256, .f32⟩
  | .hbm, ⟨2, _⟩ => ⟨S16384x256, .f32⟩
  | .hbm, ⟨3, _⟩ => ⟨S16384x256, .bf16⟩
  | .hbm, ⟨4, _⟩ => ⟨S1024x256, .bf16⟩
  | .hbm, ⟨5, _⟩ => ⟨S16384x1024, .f32⟩
  | .local _ .vmem, ⟨0, _⟩ => ⟨S2048x256, .bf16⟩
  | .local _ .vmem, ⟨1, _⟩ => ⟨S2048x256, .bf16⟩
  | .local _ .vmem, ⟨2, _⟩ => ⟨S1024x256, .bf16⟩
  | .local _ .vmem, ⟨3, _⟩ => ⟨S2048x1024, .f32⟩
  | .local _ .vmem, ⟨4, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LinearKvDxRefIdeal.lean ====
abbrev S16384x1024 : Shape := ⟨2, ![16384, 1024]⟩
abbrev S1024x256 : Shape := ⟨2, ![1024, 256]⟩
abbrev S16384x256 : Shape := ⟨2, ![16384, 256]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x256, .f32⟩
  | .hbm, ⟨2, _⟩ => ⟨S16384x256, .f32⟩
  | .hbm, ⟨3, _⟩ => ⟨S16384x256, .f32⟩
  | .hbm, ⟨4, _⟩ => ⟨S256x1024, .f32⟩
  | .hbm, ⟨5, _⟩ => ⟨S1024x256, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LinearKvDw.lean ====
abbrev S16384x1024 : Shape := ⟨2, ![16384, 1024]⟩
abbrev S1024x256 : Shape := ⟨2, ![1024, 256]⟩
abbrev S16384x256 : Shape := ⟨2, ![16384, 256]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x256, .f32⟩
  | .hbm, ⟨2, _⟩ => ⟨S16384x256, .f32⟩
  | .hbm, ⟨3, _⟩ => ⟨S16384x1024, .bf16⟩
  | .hbm, ⟨4, _⟩ => ⟨S16384x256, .bf16⟩
  | .hbm, ⟨5, _⟩ => ⟨S1024x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32_6 : BitVec 32 := 15#32
  let v13 : BitVec 1 := Scalar.cmpi .eq arg2 c15_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LinearKvDwIdeal.lean ====
abbrev S16384x1024 : Shape := ⟨2, ![16384, 1024]⟩
abbrev S1024x256 : Shape := ⟨2, ![1024, 256]⟩
abbrev S16384x256 : Shape := ⟨2, ![16384, 256]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x256, .f32⟩
  | .hbm, ⟨2, _⟩ => ⟨S16384x256, .f32⟩
  | .hbm, ⟨3, _⟩ => ⟨S16384x1024, .bf16⟩
  | .hbm, ⟨4, _⟩ => ⟨S16384x256, .bf16⟩
  | .hbm, ⟨5, _⟩ => ⟨S1024x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32_6 : BitVec 32 := 15#32
  let v13 : BitVec 1 := Scalar.cmpi .eq arg2 c15_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LinearKvDwRefIdeal.lean ====
abbrev S16384x1024 : Shape := ⟨2, ![16384, 1024]⟩
abbrev S1024x256 : Shape := ⟨2, ![1024, 256]⟩
abbrev S16384x256 : Shape := ⟨2, ![16384, 256]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x256, .f32⟩
  | .hbm, ⟨2, _⟩ => ⟨S16384x256, .f32⟩
  | .hbm, ⟨3, _⟩ => ⟨S16384x256, .f32⟩
  | .hbm, ⟨4, _⟩ => ⟨S256x1024, .f32⟩
  | .hbm, ⟨5, _⟩ => ⟨S1024x256, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LinearMem.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 5
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x512, .f32⟩
  | .hbm, ⟨2, _⟩ => ⟨S256x1024, .bf16⟩
  | .hbm, ⟨3, _⟩ => ⟨S1024x512, .bf16⟩
  | .hbm, ⟨4, _⟩ => ⟨S256x512, .f32⟩
  | .local _ .vmem, ⟨0, _⟩ => ⟨S256x1024, .bf16⟩
  | .local _ .vmem, ⟨1, _⟩ => ⟨S1024x512, .bf16⟩
  | .local _ .vmem, ⟨2, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LinearMemRefIdeal.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 3
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x512, .f32⟩
  | .hbm, ⟨2, _⟩ => ⟨S256x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LinearMemDw.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 6
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x512, .f32⟩
  | .hbm, ⟨2, _⟩ => ⟨S256x512, .f32⟩
  | .hbm, ⟨3, _⟩ => ⟨S256x1024, .bf16⟩
  | .hbm, ⟨4, _⟩ => ⟨S256x512, .bf16⟩
  | .hbm, ⟨5, _⟩ => ⟨S1024x512, .f32⟩
  | .local _ .vmem, ⟨0, _⟩ => ⟨S256x1024, .bf16⟩
  | .local _ .vmem, ⟨1, _⟩ => ⟨S256x512, .bf16⟩
  | .local _ .vmem, ⟨2, _⟩ => ⟨S1024x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LinearMemDwRefIdeal.lean ====
abbrev S256x1024 : Shape := ⟨2, ![256, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x512, .f32⟩
  | .hbm, ⟨2, _⟩ => ⟨S256x512, .f32⟩
  | .hbm, ⟨3, _⟩ => ⟨S256x512, .f32⟩
  | .hbm, ⟨4, _⟩ => ⟨S512x1024, .f32⟩
  | .hbm, ⟨5, _⟩ => ⟨S1024x512, .f32⟩
  | .hbm, ⟨6, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SumChips.lean ====
abbrev S4x6144x1024 : Shape := ⟨3, ![4, 6144, 1024]⟩
abbrev S6144x1024 : Shape := ⟨2, ![6144, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x6144x1024, .bf16⟩
  | .hbm, ⟨1, _⟩ => ⟨S6144x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | _, _ => ⟨S4x6144x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumChipsRefIdeal.lean ====
abbrev S4x6144x1024 : Shape := ⟨3, ![4, 6144, 1024]⟩
abbrev S_ : Shape := ⟨0, ![]⟩
abbrev S6144x1024 : Shape := ⟨2, ![6144, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x6144x1024, .bf16⟩
  | .hbm, ⟨1, _⟩ => ⟨S4x6144x1024, .f32⟩
  | .hbm, ⟨2, _⟩ => ⟨S_, .f32⟩
  | .hbm, ⟨3, _⟩ => ⟨S6144x1024, .f32⟩
  | _, _ => ⟨S4x6144x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Adam.lean ====
abbrev S12288x1024 : Shape := ⟨2, ![12288, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S12288x1024, .f32⟩
  | .hbm, ⟨1, _⟩ => ⟨S12288x1024, .f32⟩
  | .hbm, ⟨2, _⟩ => ⟨S12288x1024, .f32⟩
  | .hbm, ⟨3, _⟩ => ⟨S12288x1024, .f32⟩
  | .hbm, ⟨4, _⟩ => ⟨S12288x1024, .f32⟩
  | .hbm, ⟨5, _⟩ => ⟨S12288x1024, .f32⟩
  | .hbm, ⟨6, _⟩ => ⟨S12288x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S12288x1024 : Shape := ⟨2, ![12288, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S12288x1024, .f32⟩
  | .hbm, ⟨2, _⟩ => ⟨S12288x1024, .f32⟩
  | .hbm, ⟨3, _⟩ => ⟨S12288x1024, .f32⟩
  | .hbm, ⟨4, _⟩ => ⟨S_, .f32⟩
  | .hbm, ⟨5, _⟩ => ⟨S12288x1024, .f32⟩
  | .hbm, ⟨6, _⟩ => ⟨S12288x1024, .f32⟩
  | .hbm, ⟨7, _⟩ => ⟨S_, .f32⟩
  | .hbm, ⟨8, _⟩ => ⟨S12288x1024, .f32⟩
  | .hbm, ⟨9, _⟩ => ⟨S12288x1024, .f32⟩
  | .hbm, ⟨10, _⟩ => ⟨S12288x1024, .f32⟩
  | .hbm, ⟨11, _⟩ => ⟨S_, .f32⟩
  | .hbm, ⟨12, _⟩ => ⟨S12288x1024, .f32⟩
  | .hbm, ⟨13, _⟩ => ⟨S12288x1024, .f32⟩
  | .hbm, ⟨14, _⟩ => ⟨S12288x1024, .f32⟩
  | .hbm, ⟨15, _⟩ => ⟨S_, .f32⟩
  | .hbm, ⟨16, _⟩ => ⟨S12288x1024, .f32⟩
  | .hbm, ⟨17, _⟩ => ⟨S12288x1024, .f32⟩
  | .hbm, ⟨18, _⟩ => ⟨S12288x1024, .f32⟩
  | .hbm, ⟨19, _⟩ => ⟨S_, .f32⟩
  | .hbm, ⟨20, _⟩ => ⟨S12288x1024, .f32⟩
  | .hbm, ⟨21, _⟩ => ⟨S12288x1024, .f32⟩
  | .hbm, ⟨22, _⟩ => ⟨S_, .f32⟩
  | .hbm, ⟨23, _⟩ => ⟨S12288x1024, .f32⟩
  | .hbm, ⟨24, _⟩ => ⟨S12288x1024, .f32⟩
  | .hbm, ⟨25, _⟩ => ⟨S12288x1024, .f32⟩
  | .hbm, ⟨26, _⟩ => ⟨S_, .f32⟩
  | .hbm, ⟨27, _⟩ => ⟨S12288x1024, .f32⟩
  | .hbm, ⟨28, _⟩ => ⟨S12288x1024, .f32⟩
  | .hbm, ⟨29, _⟩ => ⟨S12288x1024, .f32⟩
  | .hbm, ⟨30, _⟩ => ⟨S_, .f32⟩
  | .hbm, ⟨31, _⟩ => ⟨S12288x1024, .f32⟩
  | .hbm, ⟨32, _⟩ => ⟨S12288x1024, .f32⟩
  | .hbm, ⟨33, _⟩ => ⟨S12288x1024, .f32⟩
  | .hbm, ⟨34, _⟩ => ⟨S_, .f32⟩
  | .hbm, ⟨35, _⟩ => ⟨S12288x1024, .f32⟩
  | .hbm, ⟨36, _⟩ => ⟨S12288x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamA.lean ====
abbrev S2x1024x835 : Shape := ⟨3, ![2, 1024, 835]⟩
abbrev S2048x835 : Shape := ⟨2, ![2048, 835]⟩
abbrev S128x835 : Shape := ⟨2, ![128, 835]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x835, .f32⟩
  | .hbm, ⟨1, _⟩ => ⟨S2x1024x835, .f32⟩
  | .hbm, ⟨2, _⟩ => ⟨S2x1024x835, .f32⟩
  | .hbm, ⟨3, _⟩ => ⟨S2x1024x835, .f32⟩
  | .hbm, ⟨4, _⟩ => ⟨S2048x835, .f32⟩
  | .hbm, ⟨5, _⟩ => ⟨S2048x835, .f32⟩
  | .hbm, ⟨6, _⟩ => ⟨S2048x835, .f32⟩
  | .hbm, ⟨7, _⟩ => ⟨S2048x835, .f32⟩
  | .hbm, ⟨8, _⟩ => ⟨S2048x835, .f32⟩
  | .hbm, ⟨9, _⟩ => ⟨S2048x835, .f32⟩
  | .hbm, ⟨10, _⟩ => ⟨S2048x835, .f32⟩
  | .local _ .vmem, ⟨0, _⟩ => ⟨S128x835, .f32⟩
  | .local _ .vmem, ⟨1, _⟩ => ⟨S128x835, .f32⟩
  | .local _ .vmem, ⟨2, _⟩ => ⟨S128x835, .f32⟩
  | .local _ .vmem, ⟨3, _⟩ => ⟨S128x835, .f32⟩
  | .local _ .vmem, ⟨4, _⟩ => ⟨S128x835, .f32⟩
  | .local _ .vmem, ⟨5, _⟩ => ⟨S128x835, .f32⟩
  | .local _ .vmem, ⟨6, _⟩ => ⟨S128x835, .f32⟩
  | .local _ .vmem, ⟨7, _⟩ => ⟨S128x835, .f32⟩
  | .local _ .vmem, ⟨8, _⟩ => ⟨S128x835, .f32⟩
  | .local _ .vmem, ⟨9, _⟩ => ⟨S128x835, .f32⟩
  | .local _ .vmem, ⟨10, _⟩ => ⟨S128x835, .f32⟩
  | .local _ .vmem, ⟨11, _⟩ => ⟨S128x835, .f32⟩
  | .local _ .vmem, ⟨12, _⟩ => ⟨S128x835, .f32⟩
  | .local _ .vmem, ⟨13, _⟩ => ⟨S128x835, .f32⟩
  | _, _ => ⟨S2x1024x835, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x835 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x835 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x835 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x835 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x835 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x835 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x835 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamARefIdeal.lean ====
abbrev S2x1024x835 : Shape := ⟨3, ![2, 1024, 835]⟩
abbrev S_ : Shape := ⟨0, ![]⟩
abbrev S2048x835 : Shape := ⟨2, ![2048, 835]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x835, .f32⟩
  | .hbm, ⟨1, _⟩ => ⟨S2x1024x835, .f32⟩
  | .hbm, ⟨2, _⟩ => ⟨S2x1024x835, .f32⟩
  | .hbm, ⟨3, _⟩ => ⟨S2x1024x835, .f32⟩
  | .hbm, ⟨4, _⟩ => ⟨S_, .f32⟩
  | .hbm, ⟨5, _⟩ => ⟨S2x1024x835, .f32⟩
  | .hbm, ⟨6, _⟩ => ⟨S2x1024x835, .f32⟩
  | .hbm, ⟨7, _⟩ => ⟨S_, .f32⟩
  | .hbm, ⟨8, _⟩ => ⟨S2x1024x835, .f32⟩
  | .hbm, ⟨9, _⟩ => ⟨S2x1024x835, .f32⟩
  | .hbm, ⟨10, _⟩ => ⟨S2x1024x835, .f32⟩
  | .hbm, ⟨11, _⟩ => ⟨S_, .f32⟩
  | .hbm, ⟨12, _⟩ => ⟨S2x1024x835, .f32⟩
  | .hbm, ⟨13, _⟩ => ⟨S2x1024x835, .f32⟩
  | .hbm, ⟨14, _⟩ => ⟨S2x1024x835, .f32⟩
  | .hbm, ⟨15, _⟩ => ⟨S_, .f32⟩
  | .hbm, ⟨16, _⟩ => ⟨S2x1024x835, .f32⟩
  | .hbm, ⟨17, _⟩ => ⟨S2x1024x835, .f32⟩
  | .hbm, ⟨18, _⟩ => ⟨S2x1024x835, .f32⟩
  | .hbm, ⟨19, _⟩ => ⟨S_, .f32⟩
  | .hbm, ⟨20, _⟩ => ⟨S2x1024x835, .f32⟩
  | .hbm, ⟨21, _⟩ => ⟨S2x1024x835, .f32⟩
  | .hbm, ⟨22, _⟩ => ⟨S_, .f32⟩
  | .hbm, ⟨23, _⟩ => ⟨S2x1024x835, .f32⟩
  | .hbm, ⟨24, _⟩ => ⟨S2x1024x835, .f32⟩
  | .hbm, ⟨25, _⟩ => ⟨S2x1024x835, .f32⟩
  | .hbm, ⟨26, _⟩ => ⟨S_, .f32⟩
  | .hbm, ⟨27, _⟩ => ⟨S2x1024x835, .f32⟩
  | .hbm, ⟨28, _⟩ => ⟨S2x1024x835, .f32⟩
  | .hbm, ⟨29, _⟩ => ⟨S2x1024x835, .f32⟩
  | .hbm, ⟨30, _⟩ => ⟨S_, .f32⟩
  | .hbm, ⟨31, _⟩ => ⟨S2x1024x835, .f32⟩
  | .hbm, ⟨32, _⟩ => ⟨S2x1024x835, .f32⟩
  | .hbm, ⟨33, _⟩ => ⟨S2x1024x835, .f32⟩
  | .hbm, ⟨34, _⟩ => ⟨S_, .f32⟩
  | .hbm, ⟨35, _⟩ => ⟨S2x1024x835, .f32⟩
  | .hbm, ⟨36, _⟩ => ⟨S2x1024x835, .f32⟩
  | .hbm, ⟨37, _⟩ => ⟨S2048x835, .f32⟩
  | .hbm, ⟨38, _⟩ => ⟨S2048x835, .f32⟩
  | .hbm, ⟨39, _⟩ => ⟨S2048x835, .f32⟩
  | _, _ => ⟨S2x1024x835, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== LnFwd.lean ====
abbrev S16384x1024 : Shape := ⟨2, ![16384, 1024]⟩
abbrev S1024 : Shape := ⟨1, ![1024]⟩
abbrev S1x1024 : Shape := ⟨2, ![1, 1024]⟩
abbrev S16384x1 : Shape := ⟨2, ![16384, 1]⟩
abbrev S512x1024 : Shape := ⟨2, ![512, 1024]⟩
abbrev S512x1 : Shape := ⟨2, ![512, 1]⟩
abbrev S512 : Shape := ⟨1, ![512]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .hbm, ⟨8, _⟩ => ⟨S16384x1024, .f32⟩
  | .hbm, ⟨9, _⟩ => ⟨S16384x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LnFwdRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x1024, .bf16⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== LnBwd.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S512x1024 : Shape := ⟨2, ![512, 1024]⟩
abbrev S512x1 : Shape := ⟨2, ![512, 1]⟩
abbrev S512 : Shape := ⟨1, ![512]⟩

abbrev nBuf : Space → Nat
  | .hbm => 36
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S1x1024, .f32⟩
  | .hbm, ⟨35, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBwdRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S_, .f32⟩
  | .hbm, ⟨74, _⟩ => ⟨S16384, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S16384x1024, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S_, .f32⟩
  | .hbm, ⟨87, _⟩ => ⟨S16384, .f32⟩
  | .hbm, ⟨88, _⟩ => ⟨S16384x1024, .f32⟩
  | .hbm, ⟨89, _⟩ => ⟨S16384x1024, .f32⟩
  | .hbm, ⟨90, _⟩ => ⟨S1x1024, .f32⟩
  | .hbm, ⟨91, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== GateFwd.lean ====
abbrev S16384x768 : Shape := ⟨2, ![16384, 768]⟩
abbrev S128 : Shape := ⟨1, ![128]⟩
abbrev S1x128 : Shape := ⟨2, ![1, 128]⟩
abbrev S1024x768 : Shape := ⟨2, ![1024, 768]⟩
abbrev S1024x128 : Shape := ⟨2, ![1024, 128]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S128, .f32⟩
  | .hbm, ⟨3, _⟩ => ⟨S1x128, .f32⟩
  | .hbm, ⟨4, _⟩ => ⟨S16384x768, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1x128, .f32⟩
  | .local _ .vmem, ⟨5, _⟩ => ⟨S1024x768, .f32⟩
  | .local _ .vmem, ⟨6, _⟩ => ⟨S1024x768, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateFwdRefIdeal.lean ====
abbrev S16384x768 : Shape := ⟨2, ![16384, 768]⟩
abbrev S128 : Shape := ⟨1, ![128]⟩
abbrev S16384x6x128 : Shape := ⟨3, ![16384, 6, 128]⟩
abbrev S_ : Shape := ⟨0, ![]⟩
abbrev S16384x6 : Shape := ⟨2, ![16384, 6]⟩
abbrev S16384x6x1 : Shape := ⟨3, ![16384, 6, 1]⟩
abbrev S1x1x128 : Shape := ⟨3, ![1, 1, 128]⟩

abbrev nBuf : Space → Nat
  | .hbm => 32
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S128, .f32⟩
  | .hbm, ⟨3, _⟩ => ⟨S16384x6x128, .f32⟩
  | .hbm, ⟨4, _⟩ => ⟨S16384x6x128, .f32⟩
  | .hbm, ⟨5, _⟩ => ⟨S16384x6x128, .f32⟩
  | .hbm, ⟨6, _⟩ => ⟨S_, .f32⟩
  | .hbm, ⟨7, _⟩ => ⟨S16384x6, .f32⟩
  | .hbm, ⟨8, _⟩ => ⟨S16384x6x1, .f32⟩
  | .hbm, ⟨9, _⟩ => ⟨S_, .f32⟩
  | .hbm, ⟨10, _⟩ => ⟨S16384x6x1, .f32⟩
  | .hbm, ⟨11, _⟩ => ⟨S16384x6x1, .f32⟩
  | .hbm, ⟨12, _⟩ => ⟨S_, .f32⟩
  | .hbm, ⟨13, _⟩ => ⟨S16384x6x1, .f32⟩
  | .hbm, ⟨14, _⟩ => ⟨S16384x6x1, .f32⟩
  | .hbm, ⟨15, _⟩ => ⟨S16384x6x1, .f32⟩
  | .hbm, ⟨16, _⟩ => ⟨S16384x6x128, .f32⟩
  | .hbm, ⟨17, _⟩ => ⟨S16384x6x128, .f32⟩
  | .hbm, ⟨18, _⟩ => ⟨S1x1x128, .f32⟩
  | .hbm, ⟨19, _⟩ => ⟨S16384x6x128, .f32⟩
  | .hbm, ⟨20, _⟩ => ⟨S16384x6x128, .f32⟩
  | .hbm, ⟨21, _⟩ => ⟨S16384x6x128, .f32⟩
  | .hbm, ⟨22, _⟩ => ⟨S16384x6x128, .f32⟩
  | .hbm, ⟨23, _⟩ => ⟨S_, .f32⟩
  | .hbm, ⟨24, _⟩ => ⟨S16384x6x128, .f32⟩
  | .hbm, ⟨25, _⟩ => ⟨S16384x6x128, .f32⟩
  | .hbm, ⟨26, _⟩ => ⟨S_, .f32⟩
  | .hbm, ⟨27, _⟩ => ⟨S16384x6x128, .f32⟩
  | .hbm, ⟨28, _⟩ => ⟨S16384x6x128, .f32⟩
  | .hbm, ⟨29, _⟩ => ⟨S16384x6x128, .f32⟩
  | .hbm, ⟨30, _⟩ => ⟨S16384x6x128, .f32⟩
  | .hbm, ⟨31, _⟩ => ⟨S16384x768, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== GateBwd.lean ====
abbrev S16384x768 : Shape := ⟨2, ![16384, 768]⟩
abbrev S128 : Shape := ⟨1, ![128]⟩
abbrev S1x128 : Shape := ⟨2, ![1, 128]⟩
abbrev S1024x768 : Shape := ⟨2, ![1024, 768]⟩
abbrev S1024x128 : Shape := ⟨2, ![1024, 128]⟩
abbrev S1024 : Shape := ⟨1, ![1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S128, .f32⟩
  | .hbm, ⟨3, _⟩ => ⟨S16384x768, .f32⟩
  | .hbm, ⟨4, _⟩ => ⟨S1x128, .f32⟩
  | .hbm, ⟨5, _⟩ => ⟨S16384x768, .f32⟩
  | .hbm, ⟨6, _⟩ => ⟨S16384x768, .f32⟩
  | .hbm, ⟨7, _⟩ => ⟨S1x128, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1x128, .f32⟩
  | .local _ .vmem, ⟨5, _⟩ => ⟨S1024x768, .f32⟩
  | .local _ .vmem, ⟨6, _⟩ => ⟨S1024x768, .f32⟩
  | .local _ .vmem, ⟨7, _⟩ => ⟨S1024x768, .f32⟩
  | .local _ .vmem, ⟨8, _⟩ => ⟨S1024x768, .f32⟩
  | .local _ .vmem, ⟨9, _⟩ => ⟨S1024x768, .f32⟩
  | .local _ .vmem, ⟨10, _⟩ => ⟨S1024x768, .f32⟩
  | .local _ .vmem, ⟨11, _⟩ => ⟨S1x128, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateBwdRefIdeal.lean ====
abbrev S16384x768 : Shape := ⟨2, ![16384, 768]⟩
abbrev S128 : Shape := ⟨1, ![128]⟩
abbrev S16384x6x128 : Shape := ⟨3, ![16384, 6, 128]⟩
abbrev S_ : Shape := ⟨0, ![]⟩
abbrev S16384x6 : Shape := ⟨2, ![16384, 6]⟩
abbrev S16384x6x1 : Shape := ⟨3, ![16384, 6, 1]⟩
abbrev S1x1x128 : Shape := ⟨3, ![1, 1, 128]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S128, .f32⟩
  | .hbm, ⟨3, _⟩ => ⟨S16384x768, .f32⟩
  | .hbm, ⟨4, _⟩ => ⟨S16384x6x128, .f32⟩
  | .hbm, ⟨5, _⟩ => ⟨S16384x6x128, .f32⟩
  | .hbm, ⟨6, _⟩ => ⟨S16384x6x128, .f32⟩
  | .hbm, ⟨7, _⟩ => ⟨S_, .f32⟩
  | .hbm, ⟨8, _⟩ => ⟨S16384x6, .f32⟩
  | .hbm, ⟨9, _⟩ => ⟨S16384x6x1, .f32⟩
  | .hbm, ⟨10, _⟩ => ⟨S_, .f32⟩
  | .hbm, ⟨11, _⟩ => ⟨S16384x6x1, .f32⟩
  | .hbm, ⟨12, _⟩ => ⟨S16384x6x1, .f32⟩
  | .hbm, ⟨13, _⟩ => ⟨S_, .f32⟩
  | .hbm, ⟨14, _⟩ => ⟨S16384x6x1, .f32⟩
  | .hbm, ⟨15, _⟩ => ⟨S16384x6x1, .f32⟩
  | .hbm, ⟨16, _⟩ => ⟨S16384x6x1, .f32⟩
  | .hbm, ⟨17, _⟩ => ⟨S16384x6x1, .f32⟩
  | .hbm, ⟨18, _⟩ => ⟨S_, .f32⟩
  | .hbm, ⟨19, _⟩ => ⟨S16384x6x1, .f32⟩
  | .hbm, ⟨20, _⟩ => ⟨S16384x6x1, .f32⟩
  | .hbm, ⟨21, _⟩ => ⟨S16384x6x128, .f32⟩
  | .hbm, ⟨22, _⟩ => ⟨S16384x6x128, .f32⟩
  | .hbm, ⟨23, _⟩ => ⟨S1x1x128, .f32⟩
  | .hbm, ⟨24, _⟩ => ⟨S16384x6x128, .f32⟩
  | .hbm, ⟨25, _⟩ => ⟨S16384x6x128, .f32⟩
  | .hbm, ⟨26, _⟩ => ⟨S16384x6x128, .f32⟩
  | .hbm, ⟨27, _⟩ => ⟨S16384x6x128, .f32⟩
  | .hbm, ⟨28, _⟩ => ⟨S_, .f32⟩
  | .hbm, ⟨29, _⟩ => ⟨S16384x6x128, .f32⟩
  | .hbm, ⟨30, _⟩ => ⟨S16384x6x128, .f32⟩
  | .hbm, ⟨31, _⟩ => ⟨S_, .f32⟩
  | .hbm, ⟨32, _⟩ => ⟨S16384x6x128, .f32⟩
  | .hbm, ⟨33, _⟩ => ⟨S16384x6x128, .f32⟩
  | .hbm, ⟨34, _⟩ => ⟨S_, .f32⟩
  | .hbm, ⟨35, _⟩ => ⟨S16384x6x128, .f32⟩
  | .hbm, ⟨36, _⟩ => ⟨S16384x6x128, .f32⟩
  | .hbm, ⟨37, _⟩ => ⟨S16384x6x128, .f32⟩
  | .hbm, ⟨38, _⟩ => ⟨S16384x6x128, .f32⟩
  | .hbm, ⟨39, _⟩ => ⟨S16384x6x128, .f32⟩
  | .hbm, ⟨40, _⟩ => ⟨S16384x768, .f32⟩
  | .hbm, ⟨41, _⟩ => ⟨S16384x6x128, .f32⟩
  | .hbm, ⟨42, _⟩ => ⟨S16384x6x128, .f32⟩
  | .hbm, ⟨43, _⟩ => ⟨S16384x6x128, .f32⟩
  | .hbm, ⟨44, _⟩ => ⟨S16384x6x128, .f32⟩
  | .hbm, ⟨45, _⟩ => ⟨S16384x6x128, .f32⟩
  | .hbm, ⟨46, _⟩ => ⟨S16384x6x128, .f32⟩
  | .hbm, ⟨47, _⟩ => ⟨S16384x6x128, .f32⟩
  | .hbm, ⟨48, _⟩ => ⟨S16384x6x128, .f32⟩
  | .hbm, ⟨49, _⟩ => ⟨S_, .f32⟩
  | .hbm, ⟨50, _⟩ => ⟨S128, .f32⟩
  | .hbm, ⟨51, _⟩ => ⟨S1x1x128, .f32⟩
  | .hbm, ⟨52, _⟩ => ⟨S16384x6x128, .f32⟩
  | .hbm, ⟨53, _⟩ => ⟨S16384x6x128, .f32⟩
  | .hbm, ⟨54, _⟩ => ⟨S_, .f32⟩
  | .hbm, ⟨55, _⟩ => ⟨S128, .f32⟩
  | .hbm, ⟨56, _⟩ => ⟨S16384x6x128, .f32⟩
  | .hbm, ⟨57, _⟩ => ⟨S_, .f32⟩
  | .hbm, ⟨58, _⟩ => ⟨S16384x6, .f32⟩
  | .hbm, ⟨59, _⟩ => ⟨S16384x6x1, .f32⟩
  | .hbm, ⟨60, _⟩ => ⟨S16384x6x128, .f32⟩
  | .hbm, ⟨61, _⟩ => ⟨S16384x6x128, .f32⟩
  | .hbm, ⟨62, _⟩ => ⟨S16384x6x1, .f32⟩
  | .hbm, ⟨63, _⟩ => ⟨S_, .f32⟩
  | .hbm, ⟨64, _⟩ => ⟨S16384x6x1, .f32⟩
  | .hbm, ⟨65, _⟩ => ⟨S16384x6x1, .f32⟩
  | .hbm, ⟨66, _⟩ => ⟨S_, .f32⟩
  | .hbm, ⟨67, _⟩ => ⟨S16384x6, .f32⟩
  | .hbm, ⟨68, _⟩ => ⟨S16384x6x128, .f32⟩
  | .hbm, ⟨69, _⟩ => ⟨S16384x6x128, .f32⟩
  | .hbm, ⟨70, _⟩ => ⟨S16384x6x128, .f32⟩
  | .hbm, ⟨71, _⟩ => ⟨S16384x6x128, .f32⟩
  | .hbm, ⟨72, _⟩ => ⟨S16384x6x128, .f32⟩
  | .hbm, ⟨73, _⟩ => ⟨S16384x768, .f32⟩
  | .hbm, ⟨74, _⟩ => ⟨S16384x768, .f32⟩
  | .hbm, ⟨75, _⟩ => ⟨S1x128, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v18_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v18_1 : Ref sig .tc := ⟨.hbm, 37, rfl⟩
abbrev main_v18_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== Proof.Recurrence.lean ====
/- The backward recurrence of the gated delta rule over the extended reals, as functions of indices: the shared
   statement of what both programs compute. -/
module

public import Idealize.ShloMosaic.PureOps.Ideal

@[expose] public section

namespace Cert.Proof

/-- A matrix per head. -/
abbrev State := Fin 6 → Fin 128 → Fin 128 → EReal

/-- The arrays of the backward pass by chunk, head and position: the saved states, the cotangent of the output, the decayed
    queries and keys, the `u` and `w` of the delta rule, the attention inside a chunk and the logarithm of its decay. -/
structure Inputs where
  st : Fin 256 → State
  dout : Fin 256 → Fin 6 → Fin 64 → Fin 128 → EReal
  qd : Fin 256 → Fin 6 → Fin 64 → Fin 128 → EReal
  kd : Fin 256 → Fin 6 → Fin 64 → Fin 128 → EReal
  u : Fin 256 → Fin 6 → Fin 64 → Fin 128 → EReal
  w : Fin 256 → Fin 6 → Fin 64 → Fin 128 → EReal
  intra : Fin 256 → Fin 6 → Fin 64 → Fin 64 → EReal
  g : Fin 256 → Fin 6 → EReal

/-- The chunk that step `k` of the backward pass handles: the last one first. -/
def chunk (k : ℕ) : Fin 256 := ⟨255 - k, by omega⟩

namespace Inputs

variable (I : Inputs)

/-- `v_new` of a chunk. -/
noncomputable def vnew (n : Fin 256) (h : Fin 6) (i : Fin 64) (v : Fin 128) : EReal :=
  I.u n h i v - ∑ k : Fin 128, I.w n h i k * I.st n h k v

/-- The decay of a chunk. -/
noncomputable def cd (n : Fin 256) (h : Fin 6) : EReal := Idealize.ShloMosaic.Ideal.exp (I.g n h)

/-- The cotangent of `v_new`, of the cotangent `D` of the state after the chunk. -/
noncomputable def dv (D : State) (n : Fin 256) (h : Fin 6) (i : Fin 64) (v : Fin 128) : EReal :=
  (∑ k : Fin 128, D h k v * I.kd n h i k) + ∑ j : Fin 64, I.dout n h j v * I.intra n h j i

/-- The cotangent of the state before the chunk. -/
noncomputable def next (D : State) (n : Fin 256) : State := fun h k v =>
  D h k v * I.cd n h + (∑ i : Fin 64, I.dout n h i v * I.qd n h i k) + ∑ i : Fin 64, -I.dv D n h i v * I.w n h i k

/-- The cotangent of the state after `k` steps of the backward pass. -/
noncomputable def D : ℕ → State
  | 0 => fun _ _ _ => 0
  | k + 1 => I.next (D k) (chunk k)

/-- The cotangent of the state after chunk `n`. -/
noncomputable def after (n : Fin 256) : State := I.D (255 - n.val)

/-- The six gradients at a chunk. -/
noncomputable def du (n : Fin 256) (h : Fin 6) (i : Fin 64) (v : Fin 128) : EReal := I.dv (I.after n) n h i v
noncomputable def dw (n : Fin 256) (h : Fin 6) (i : Fin 64) (k : Fin 128) : EReal :=
  ∑ v : Fin 128, -I.dv (I.after n) n h i v * I.st n h k v
noncomputable def dqd (n : Fin 256) (h : Fin 6) (i : Fin 64) (k : Fin 128) : EReal := ∑ v : Fin 128, I.dout n h i v * I.st n h k v
noncomputable def dkd (n : Fin 256) (h : Fin 6) (i : Fin 64) (k : Fin 128) : EReal :=
  ∑ v : Fin 128, I.after n h k v * I.vnew n h i v
noncomputable def dintra (n : Fin 256) (h : Fin 6) (i j : Fin 64) : EReal := ∑ v : Fin 128, I.dout n h i v * I.vnew n h j v
noncomputable def dg (n : Fin 256) (h : Fin 6) : EReal :=
  (∑ k : Fin 128, ∑ v : Fin 128, I.st n h k v * I.after n h k v) * I.cd n h

end Inputs

end Cert.Proof

end
-- ==== Proof.RefValue.lean ====
/- The reference's loop, read: after `k` steps the carried state is the recurrence's after `k` steps and the gradients of the
   chunks passed are the recurrence's. -/
module

public import proofs.«01_k».proof.Proof.Gen.ReferenceIdeal.Run
public import proofs.«01_k».proof.Proof.Recurrence
public import Idealize.ShloMosaic.Lib.Pointwise
public import Idealize.ShloMosaic.Lib.DynamicIndex
public import Idealize.ShloMosaic.Lib.WordCmp

@[expose] public section

set_option maxRecDepth 16384

namespace Cert.Proof

open Cert.ReferenceIdeal Cert.ReferenceIdeal.Value Cert.ReferenceIdeal.Gen
open Idealize.ShloMosaic Idealize.ShloMosaic.TcCoe Idealize.ShloMosaic.Pointwise Idealize.ShloMosaic.StableHlo

/-! ## A slice and an update at the loop's index -/

section Slices

variable {α : Type} {A B C : ℕ}

theorem fits4 (n : Fin 256) : (⟨4, ![256, A, B, C]⟩ : Shape).Slices ![n.val, 0, 0, 0] ⟨4, ![1, A, B, C]⟩ :=
  ⟨rfl, fun x => match x with
    | ⟨0, _⟩ => show n.val + 1 ≤ 256 by omega
    | ⟨1, _⟩ => show 0 + A ≤ A by omega
    | ⟨2, _⟩ => show 0 + B ≤ B by omega
    | ⟨3, _⟩ => show 0 + C ≤ C by omega⟩

theorem fits2 (n : Fin 256) : (⟨2, ![256, A]⟩ : Shape).Slices ![n.val, 0] ⟨2, ![1, A]⟩ :=
  ⟨rfl, fun x => match x with
    | ⟨0, _⟩ => show n.val + 1 ≤ 256 by omega
    | ⟨1, _⟩ => show 0 + A ≤ A by omega⟩

theorem starts4 (start : Fin 4 → Int) (n : Fin 256) (h0 : start 0 = (n.val : Int)) (h1 : start 1 = 0) (h2 : start 2 = 0)
    (h3 : start 3 = 0) : ∀ a, start a = ((![n.val, 0, 0, 0] a : ℕ) : Int)
  | ⟨0, _⟩ => h0
  | ⟨1, _⟩ => h1
  | ⟨2, _⟩ => h2
  | ⟨3, _⟩ => h3

theorem starts2 (start : Fin 2 → Int) (n : Fin 256) (h0 : start 0 = (n.val : Int)) (h1 : start 1 = 0) :
    ∀ a, start a = ((![n.val, 0] a : ℕ) : Int)
  | ⟨0, _⟩ => h0
  | ⟨1, _⟩ => h1

theorem slice4 (X : (⟨4, ![256, A, B, C]⟩ : Shape).Idx → α) (start : Fin 4 → Int) (n : Fin 256)
    (h0 : start 0 = (n.val : Int)) (h1 : start 1 = 0) (h2 : start 2 = 0) (h3 : start 3 = 0)
    (hf : (⟨4, ![256, A, B, C]⟩ : Shape).Slices (fun _ => 0) ⟨4, ![1, A, B, C]⟩) (a : Fin A) (b : Fin B) (c : Fin C) :
    Host.dynamicSlice ⟨4, ![1, A, B, C]⟩ X start hf (ix4 (0 : Fin 1) a b c) = X (ix4 n a b c) := by
  rw [WordCmp.dynamicSlice_eq_extract _ X start hf _ (fits4 n) (starts4 start n h0 h1 h2 h3)]
  refine congrArg X (funext fun x => Fin.ext ?_)
  match x with
  | ⟨0, _⟩ => show n.val + 0 = n.val; omega
  | ⟨1, _⟩ => show 0 + a.val = a.val; omega
  | ⟨2, _⟩ => show 0 + b.val = b.val; omega
  | ⟨3, _⟩ => show 0 + c.val = c.val; omega

theorem slice2 (X : (⟨2, ![256, A]⟩ : Shape).Idx → α) (start : Fin 2 → Int) (n : Fin 256)
    (h0 : start 0 = (n.val : Int)) (h1 : start 1 = 0)
    (hf : (⟨2, ![256, A]⟩ : Shape).Slices (fun _ => 0) ⟨2, ![1, A]⟩) (a : Fin A) :
    Host.dynamicSlice ⟨2, ![1, A]⟩ X start hf (ix2 (0 : Fin 1) a) = X (ix2 n a) := by
  rw [WordCmp.dynamicSlice_eq_extract _ X start hf _ (fits2 n) (starts2 start n h0 h1)]
  refine congrArg X (funext fun x => Fin.ext ?_)
  match x with
  | ⟨0, _⟩ => show n.val + 0 = n.val; omega
  | ⟨1, _⟩ => show 0 + a.val = a.val; omega

theorem update4 (X : (⟨4, ![256, A, B, C]⟩ : Shape).Idx → α) (U : (⟨4, ![1, A, B, C]⟩ : Shape).Idx → α) (start : Fin 4 → Int)
    (n : Fin 256) (h0 : start 0 = (n.val : Int)) (h1 : start 1 = 0) (h2 : start 2 = 0) (h3 : start 3 = 0)
    (hf : (⟨4, ![256, A, B, C]⟩ : Shape).Slices (fun _ => 0) ⟨4, ![1, A, B, C]⟩) (m : Fin 256) (a : Fin A) (b : Fin B) (c : Fin C) :
    Host.dynamicUpdateSlice X U start hf (ix4 m a b c) = if m = n then U (ix4 (0 : Fin 1) a b c) else X (ix4 m a b c) := by
  rw [WordCmp.dynamicUpdateSlice_eq_update X U start hf _ (fits4 n) (starts4 start n h0 h1 h2 h3)]
  unfold updateSlice
  by_cases hm : m = n
  · subst hm
    rw [if_pos rfl, dif_pos]
    · refine congrArg U (funext fun x => Fin.ext ?_)
      match x with
      | ⟨0, _⟩ => show m.val - m.val = 0; omega
      | ⟨1, _⟩ => show a.val - 0 = a.val; omega
      | ⟨2, _⟩ => show b.val - 0 = b.val; omega
      | ⟨3, _⟩ => show c.val - 0 = c.val; omega
    · intro x
      match x with
      | ⟨0, _⟩ => show m.val ≤ m.val ∧ m.val < m.val + 1; omega
      | ⟨1, _⟩ => show 0 ≤ a.val ∧ a.val < 0 + A; have := a.isLt; omega
      | ⟨2, _⟩ => show 0 ≤ b.val ∧ b.val < 0 + B; have := b.isLt; omega
      | ⟨3, _⟩ => show 0 ≤ c.val ∧ c.val < 0 + C; have := c.isLt; omega
  · rw [if_neg hm, dif_neg]
    intro h
    have e := h (0 : Fin 4)
    replace e : n.val ≤ m.val ∧ m.val < n.val + 1 := e
    exact hm (Fin.ext (by omega))

theorem update2 (X : (⟨2, ![256, A]⟩ : Shape).Idx → α) (U : (⟨2, ![1, A]⟩ : Shape).Idx → α) (start : Fin 2 → Int)
    (n : Fin 256) (h0 : start 0 = (n.val : Int)) (h1 : start 1 = 0)
    (hf : (⟨2, ![256, A]⟩ : Shape).Slices (fun _ => 0) ⟨2, ![1, A]⟩) (m : Fin 256) (a : Fin A) :
    Host.dynamicUpdateSlice X U start hf (ix2 m a) = if m = n then U (ix2 (0 : Fin 1) a) else X (ix2 m a) := by
  rw [WordCmp.dynamicUpdateSlice_eq_update X U start hf _ (fits2 n) (starts2 start n h0 h1)]
  unfold updateSlice
  by_cases hm : m = n
  · subst hm
    rw [if_pos rfl, dif_pos]
    · refine congrArg U (funext fun x => Fin.ext ?_)
      match x with
      | ⟨0, _⟩ => show m.val - m.val = 0; omega
      | ⟨1, _⟩ => show a.val - 0 = a.val; omega
    · intro x
      match x with
      | ⟨0, _⟩ => show m.val ≤ m.val ∧ m.val < m.val + 1; omega
      | ⟨1, _⟩ => show 0 ≤ a.val ∧ a.val < 0 + A; have := a.isLt; omega
  · rw [if_neg hm, dif_neg]
    intro h
    have e := h (0 : Fin 2)
    replace e : n.val ≤ m.val ∧ m.val < n.val + 1 := e
    exact hm (Fin.ext (by omega))

end Slices

/-! ## One step of the loop -/

variable (V : Valuation τ sig (Elt Ideal))

abbrev R0 : Vec Ideal S256x6x128x128 .f32 := V (Proc.devRef .tc main_v25_0)
abbrev R1 : Vec Ideal S256x6x64x128 .f32 := V (Proc.devRef .tc main_v25_1)
abbrev R2 : Vec Ideal S256x6x64x128 .f32 := V (Proc.devRef .tc main_v25_2)
abbrev R3 : Vec Ideal S256x6x64x128 .f32 := V (Proc.devRef .tc main_v25_3)
abbrev R4 : Vec Ideal S256x6x64x128 .f32 := V (Proc.devRef .tc main_v25_4)
abbrev R5 : Vec Ideal S256x6x64x128 .f32 := V (Proc.devRef .tc main_v25_5)
abbrev R6 : Vec Ideal S256x6x64x64 .f32 := V (Proc.devRef .tc main_v25_6)
abbrev R7 : Vec Ideal S256x6 .f32 := V (Proc.devRef .tc main_v25_7)
abbrev R9 : Vec Ideal S6x128x128 .f32 := V (Proc.devRef .tc main_v25_9)
abbrev R10 : Vec Ideal S256x6x64x128 .f32 := V (Proc.devRef .tc main_v25_10)
abbrev R11 : Vec Ideal S256x6x64x128 .f32 := V (Proc.devRef .tc main_v25_11)
abbrev R12 : Vec Ideal S256x6x64x128 .f32 := V (Proc.devRef .tc main_v25_12)
abbrev R13 : Vec Ideal S256x6x64x128 .f32 := V (Proc.devRef .tc main_v25_13)
abbrev R14 : Vec Ideal S256x6x64x64 .f32 := V (Proc.devRef .tc main_v25_14)
abbrev R15 : Vec Ideal S256x6 .f32 := V (Proc.devRef .tc main_v25_15)

/-- Arrays with the chunk axis leading as the recurrence's. -/
def inputsOf (x0 : Vec Ideal S256x6x128x128 .f32) (x1 x2 x3 x4 x5 : Vec Ideal S256x6x64x128 .f32)
    (x6 : Vec Ideal S256x6x64x64 .f32) (x7 : Vec Ideal S256x6 .f32) : Inputs where
  st n h k v := x0 (ix4 n h k v)
  dout n h i v := x1 (ix4 n h i v)
  qd n h i v := x2 (ix4 n h i v)
  kd n h i v := x3 (ix4 n h i v)
  u n h i v := x4 (ix4 n h i v)
  w n h i v := x5 (ix4 n h i v)
  intra n h i j := x6 (ix4 n h i j)
  g n h := x7 (ix2 n h)

/-- The loop's arrays as the recurrence's. -/
def inputs : Inputs :=
  inputsOf (V (Proc.devRef .tc main_v25_0)) (V (Proc.devRef .tc main_v25_1)) (V (Proc.devRef .tc main_v25_2))
    (V (Proc.devRef .tc main_v25_3)) (V (Proc.devRef .tc main_v25_4)) (V (Proc.devRef .tc main_v25_5))
    (V (Proc.devRef .tc main_v25_6)) (V (Proc.devRef .tc main_v25_7))

/-- The state as a matrix per head. -/
def dS : State := fun h k v => R9 V (ix3 h k v)

/-- The loop's index, and the starts of its slices. -/
abbrev index : Vec Ideal S_ .i32 := res_main_while0b_v39 V
abbrev start4 : Fin 4 → ℤ := fun k =>
  BitVec.toInt (n := 32) (((![index V, constantI S_ 32 0#32, constantI S_ 32 0#32, constantI S_ 32 0#32] :
    Fin 4 → (⟨S_, .i32⟩ : BufTy).Contents (Elt Ideal))) k (Shape.Idx.first h_S_))
abbrev start2 : Fin 2 → ℤ := fun k =>
  BitVec.toInt (n := 32) (((![index V, constantI S_ 32 0#32] : Fin 2 → (⟨S_, .i32⟩ : BufTy).Contents (Elt Ideal))) k (Shape.Idx.first h_S_))

/-- The counter is at `k`. -/
def At (k : ℕ) : Prop := V (Proc.devRef .tc main_v25_8) = fun _ => BitVec.ofNat 32 k

section Step

variable {V} {k : ℕ} (hk : k < 256) (hc : At V k)
include hk hc

theorem start_at (j) : BitVec.toInt (n := 32) (index V j) = ((chunk k).val : ℤ) := by
  unfold index res_main_while0b_v39
  rw [show V (Proc.devRef .tc main_v25_8) = fun _ => BitVec.ofNat 32 k from hc]
  have h1 : 256#32 - BitVec.ofNat 32 k - 1#32 = BitVec.ofNat 32 (255 - k) := by
    apply BitVec.eq_of_toNat_eq
    simp only [BitVec.toNat_sub, BitVec.toNat_ofNat]
    omega
  have e : (256#32 - BitVec.ofNat 32 k - 1#32).toInt = ((255 - k : ℕ) : ℤ) := by
    rw [h1, toInt_ofNat_of_lt (by omega)]
  exact e

theorem v40_at (h : Fin 6) (a b : Fin 128) : (res_main_while0b_v40 V : Vec Ideal S6x128x128 .f32) (ix3 h a b) = (inputs V).st (chunk k) h a b := by
  have e := slice4 (R0 V) (start4 V) (chunk k) (start_at hk hc (Shape.Idx.first h_S_)) rfl rfl rfl sliceFits_S256x6x128x128_S1x6x128x128 h a b
  unfold res_main_while0b_v40
  refine Eq.trans ?_ e
  generalize Host.dynamicSlice S1x6x128x128 _ _ _ = Y
  pointwise

theorem v41_at (h : Fin 6) (a : Fin 64) (b : Fin 128) : (res_main_while0b_v41 V : Vec Ideal S6x64x128 .f32) (ix3 h a b) = (inputs V).dout (chunk k) h a b := by
  have e := slice4 (R1 V) (start4 V) (chunk k) (start_at hk hc (Shape.Idx.first h_S_)) rfl rfl rfl sliceFits_S256x6x64x128_S1x6x64x128 h a b
  unfold res_main_while0b_v41
  refine Eq.trans ?_ e
  generalize Host.dynamicSlice S1x6x64x128 _ _ _ = Y
  pointwise

theorem v42_at (h : Fin 6) (a : Fin 64) (b : Fin 128) : (res_main_while0b_v42 V : Vec Ideal S6x64x128 .f32) (ix3 h a b) = (inputs V).qd (chunk k) h a b := by
  have e := slice4 (R2 V) (start4 V) (chunk k) (start_at hk hc (Shape.Idx.first h_S_)) rfl rfl rfl sliceFits_S256x6x64x128_S1x6x64x128 h a b
  unfold res_main_while0b_v42
  refine Eq.trans ?_ e
  generalize Host.dynamicSlice S1x6x64x128 _ _ _ = Y
  pointwise

theorem v43_at (h : Fin 6) (a : Fin 64) (b : Fin 128) : (res_main_while0b_v43 V : Vec Ideal S6x64x128 .f32) (ix3 h a b) = (inputs V).kd (chunk k) h a b := by
  have e := slice4 (R3 V) (start4 V) (chunk k) (start_at hk hc (Shape.Idx.first h_S_)) rfl rfl rfl sliceFits_S256x6x64x128_S1x6x64x128 h a b
  unfold res_main_while0b_v43
  refine Eq.trans ?_ e
  generalize Host.dynamicSlice S1x6x64x128 _ _ _ = Y
  pointwise

theorem v45_at (h : Fin 6) (a : Fin 64) (b : Fin 128) : (res_main_while0b_v45 V : Vec Ideal S6x64x128 .f32) (ix3 h a b) = (inputs V).w (chunk k) h a b := by
  have e := slice4 (R5 V) (start4 V) (chunk k) (start_at hk hc (Shape.Idx.first h_S_)) rfl rfl rfl sliceFits_S256x6x64x128_S1x6x64x128 h a b
  unfold res_main_while0b_v45
  refine Eq.trans ?_ e
  generalize Host.dynamicSlice S1x6x64x128 _ _ _ = Y
  pointwise

theorem v46_at (h : Fin 6) (a b : Fin 64) : (res_main_while0b_v46 V : Vec Ideal S6x64x64 .f32) (ix3 h a b) = (inputs V).intra (chunk k) h a b := by
  have e := slice4 (R6 V) (start4 V) (chunk k) (start_at hk hc (Shape.Idx.first h_S_)) rfl rfl rfl sliceFits_S256x6x64x64_S1x6x64x64 h a b
  unfold res_main_while0b_v46
  refine Eq.trans ?_ e
  generalize Host.dynamicSlice S1x6x64x64 _ _ _ = Y
  pointwise

theorem v48_at (h : Fin 6) : (res_main_while0b_v48 V : Vec Ideal S6 .f32) (ix1 h) = (inputs V).cd (chunk k) h := by
  have e := slice2 (R7 V) (start2 V) (chunk k) (start_at hk hc (Shape.Idx.first h_S_)) rfl sliceFits_S256x6_S1x6 h
  unfold res_main_while0b_v48
  refine Eq.trans ?_ (congrArg Ideal.exp e)
  generalize Host.dynamicSlice S1x6 _ _ _ = Y
  pointwise

theorem v50_at (h : Fin 6) (a : Fin 64) (b : Fin 128) : (res_main_while0b_v50 V : Vec Ideal S6x64x128 .f32) (ix3 h a b) = (inputs V).vnew (chunk k) h a b := by
  have e := slice4 (R4 V) (start4 V) (chunk k) (start_at hk hc (Shape.Idx.first h_S_)) rfl rfl rfl sliceFits_S256x6x64x128_S1x6x64x128 h a b
  unfold res_main_while0b_v50
  refine Eq.trans ?_ (congrArg₂ (· - ·) e (Finset.sum_congr rfl fun j _ => congrArg₂ (· * ·) (v45_at hk hc h a j) (v40_at hk hc h j b)))
  generalize Host.dynamicSlice S1x6x64x128 _ _ _ = Y
  pointwise

theorem v71_at (h : Fin 6) (a : Fin 64) (b : Fin 128) : (res_main_while0b_v71 V : Vec Ideal S6x64x128 .f32) (ix3 h a b) = (inputs V).dv (dS V) (chunk k) h a b := by
  unfold res_main_while0b_v71
  refine Eq.trans ?_ (congrArg₂ (· + ·) (Finset.sum_congr rfl fun j _ => congrArg₂ (· * ·) (rfl : dS V h j b = dS V h j b) (v43_at hk hc h a j))
    (Finset.sum_congr rfl fun j _ => congrArg₂ (· * ·) (v41_at hk hc h j b) (v46_at hk hc h j a)))
  pointwise
  rfl

theorem v77_at (h : Fin 6) (a : Fin 64) (b : Fin 128) : (show EReal from (res_main_while0b_v77 V : Vec Ideal S6x64x128 .f32) (ix3 h a b)) = -(inputs V).dv (dS V) (chunk k) h a b := by
  unfold res_main_while0b_v77
  refine Eq.trans ?_ (congrArg (- ·) (v71_at hk hc h a b))
  pointwise

theorem dS_STEP : dS (STEP V) = (inputs V).next (dS V) (chunk k) := by
  funext h a b
  have e : dS (STEP V) h a b = (step_main_v25_9 V : Vec Ideal S6x128x128 .f32) (ix3 h a b) :=
    congrFun (STEP_main_v25_9 V) (ix3 h a b)
  rw [e]
  unfold step_main_v25_9
  refine Eq.trans ?_ (congrArg₂ (· + ·) (congrArg₂ (· + ·) (congrArg (dS V h a b * ·) (v48_at hk hc h))
    (Finset.sum_congr rfl fun j _ => congrArg₂ (· * ·) (v41_at hk hc h j b) (v42_at hk hc h j a)))
    (Finset.sum_congr rfl fun j _ => congrArg₂ (· * ·) (v77_at hk hc h j b) (v45_at hk hc h j a)))
  unfold res_main_while0b_v54
  pointwise [id]
  rfl

theorem R10_STEP (n : Fin 256) (h : Fin 6) (a : Fin 64) (b : Fin 128) : R10 (STEP V) (ix4 n h a b) =
    if n = chunk k then ∑ v : Fin 128, (inputs V).dout n h a v * (inputs V).st n h b v else R10 V (ix4 n h a b) := by
  refine (congrFun (STEP_main_v25_10 V) (ix4 n h a b)).trans ?_
  unfold step_main_v25_10
  refine (update4 (R10 V) _ (start4 V) (chunk k) (start_at hk hc (Shape.Idx.first h_S_)) rfl rfl rfl updateFits_S256x6x64x128_S1x6x64x128 n h a b).trans ?_
  split
  · rename_i hn; subst hn
    refine Eq.trans ?_ (Finset.sum_congr rfl fun v _ => congrArg₂ (· * ·) (v41_at hk hc h a v) (v40_at hk hc h b v))
    pointwise
  · rfl

theorem R11_STEP (n : Fin 256) (h : Fin 6) (a : Fin 64) (b : Fin 128) : R11 (STEP V) (ix4 n h a b) =
    if n = chunk k then ∑ v : Fin 128, dS V h b v * (inputs V).vnew n h a v else R11 V (ix4 n h a b) := by
  refine (congrFun (STEP_main_v25_11 V) (ix4 n h a b)).trans ?_
  unfold step_main_v25_11
  refine (update4 (R11 V) _ (start4 V) (chunk k) (start_at hk hc (Shape.Idx.first h_S_)) rfl rfl rfl updateFits_S256x6x64x128_S1x6x64x128 n h a b).trans ?_
  split
  · rename_i hn; subst hn
    refine Eq.trans ?_ (Finset.sum_congr rfl fun v _ => congrArg (dS V h b v * ·) (v50_at hk hc h a v))
    pointwise
    rfl
  · rfl

theorem R12_STEP (n : Fin 256) (h : Fin 6) (a : Fin 64) (b : Fin 128) : R12 (STEP V) (ix4 n h a b) =
    if n = chunk k then (inputs V).dv (dS V) n h a b else R12 V (ix4 n h a b) := by
  refine (congrFun (STEP_main_v25_12 V) (ix4 n h a b)).trans ?_
  unfold step_main_v25_12
  refine (update4 (R12 V) _ (start4 V) (chunk k) (start_at hk hc (Shape.Idx.first h_S_)) rfl rfl rfl updateFits_S256x6x64x128_S1x6x64x128 n h a b).trans ?_
  split
  · rename_i hn; subst hn
    refine Eq.trans ?_ (v71_at hk hc h a b)
    pointwise
  · rfl

theorem R13_STEP (n : Fin 256) (h : Fin 6) (a : Fin 64) (b : Fin 128) : R13 (STEP V) (ix4 n h a b) =
    if n = chunk k then ∑ v : Fin 128, -(inputs V).dv (dS V) n h a v * (inputs V).st n h b v else R13 V (ix4 n h a b) := by
  refine (congrFun (STEP_main_v25_13 V) (ix4 n h a b)).trans ?_
  unfold step_main_v25_13
  refine (update4 (R13 V) _ (start4 V) (chunk k) (start_at hk hc (Shape.Idx.first h_S_)) rfl rfl rfl updateFits_S256x6x64x128_S1x6x64x128 n h a b).trans ?_
  split
  · rename_i hn; subst hn
    refine Eq.trans ?_ (Finset.sum_congr rfl fun v _ => congrArg₂ (· * ·) (v77_at hk hc h a v) (v40_at hk hc h b v))
    pointwise
  · rfl

theorem R14_STEP (n : Fin 256) (h : Fin 6) (a b : Fin 64) : R14 (STEP V) (ix4 n h a b) =
    if n = chunk k then (inputs V).dintra n h a b else R14 V (ix4 n h a b) := by
  refine (congrFun (STEP_main_v25_14 V) (ix4 n h a b)).trans ?_
  unfold step_main_v25_14
  refine (update4 (R14 V) _ (start4 V) (chunk k) (start_at hk hc (Shape.Idx.first h_S_)) rfl rfl rfl updateFits_S256x6x64x64_S1x6x64x64 n h a b).trans ?_
  split
  · rename_i hn; subst hn
    refine Eq.trans ?_ (Finset.sum_congr rfl fun v _ => congrArg₂ (· * ·) (v41_at hk hc h a v) (v50_at hk hc h b v))
    pointwise
  · rfl

theorem R15_STEP (n : Fin 256) (h : Fin 6) : R15 (STEP V) (ix2 n h) =
    if n = chunk k then (∑ a : Fin 128, ∑ b : Fin 128, (inputs V).st n h a b * dS V h a b) * (inputs V).cd n h else R15 V (ix2 n h) := by
  refine (congrFun (STEP_main_v25_15 V) (ix2 n h)).trans ?_
  unfold step_main_v25_15
  refine (update2 (R15 V) _ (start2 V) (chunk k) (start_at hk hc (Shape.Idx.first h_S_)) rfl updateFits_S256x6_S1x6 n h).trans ?_
  split
  · rename_i hn; subst hn
    refine Eq.trans ?_ (congrArg₂ (· * ·) (Finset.sum_congr rfl fun a _ => Finset.sum_congr rfl fun b _ =>
      congrArg (· * dS V h a b) (v40_at hk hc h a b)) (v48_at hk hc h))
    pointwise
    simp only [Fin.sum_univ_one]
    rfl
  · rfl

end Step

theorem inputs_STEP : inputs (STEP V) = inputs V := by
  unfold inputs
  rw [STEP_main_v25_0, STEP_main_v25_1, STEP_main_v25_2, STEP_main_v25_3, STEP_main_v25_4, STEP_main_v25_5, STEP_main_v25_6,
    STEP_main_v25_7]

theorem At_STEP {k : ℕ} (hc : At V k) : At (STEP V) (k + 1) := by
  refine (STEP_main_v25_8 V).trans ?_
  unfold step_main_v25_8
  rw [show V (Proc.devRef .tc main_v25_8) = fun _ => BitVec.ofNat 32 k from hc]
  funext j
  show BitVec.ofNat 32 k + 1#32 = _
  rw [BitVec.ofNat_add]

/-- After `k` steps. -/
structure Inv (I : Inputs) (k : ℕ) (V : Valuation τ sig (Elt Ideal)) : Prop where
  inp : inputs V = I
  ctr : At V k
  dS : dS V = I.D k
  dqd : ∀ n h a b, 256 ≤ n.val + k → R10 V (ix4 n h a b) = I.dqd n h a b
  dkd : ∀ n h a b, 256 ≤ n.val + k → R11 V (ix4 n h a b) = I.dkd n h a b
  du : ∀ n h a b, 256 ≤ n.val + k → R12 V (ix4 n h a b) = I.du n h a b
  dw : ∀ n h a b, 256 ≤ n.val + k → R13 V (ix4 n h a b) = I.dw n h a b
  dintra : ∀ n h a b, 256 ≤ n.val + k → R14 V (ix4 n h a b) = I.dintra n h a b
  dg : ∀ n h, 256 ≤ n.val + k → R15 V (ix2 n h) = I.dg n h

theorem after_chunk (I : Inputs) {k : ℕ} (hk : k < 256) : I.after (chunk k) = I.D k := by
  show I.D (255 - (255 - k)) = I.D k
  rw [show 255 - (255 - k) = k by omega]

theorem not_chunk {k : ℕ} {n : Fin 256} (hk : k < 256) (hn : 256 ≤ n.val + (k + 1)) (h : ¬n = chunk k) : 256 ≤ n.val + k := by
  by_contra hlt
  exact h (Fin.ext (show n.val = 255 - k by omega))

theorem Inv.step {I : Inputs} {k : ℕ} {V : Valuation τ sig (Elt Ideal)} (hk : k < 256) (H : Inv I k V) : Inv I (k + 1) (STEP V) := by
  obtain ⟨inp, ctr, hD, h10, h11, h12, h13, h14, h15⟩ := H
  refine ⟨(inputs_STEP V).trans inp, At_STEP V ctr, ?_, ?_, ?_, ?_, ?_, ?_, ?_⟩
  · rw [dS_STEP hk ctr, inp, hD]; rfl
  all_goals
    intro n h
  · intro a b hn
    rw [R10_STEP hk ctr, inp]
    split
    · rfl
    · rename_i h'; exact h10 _ _ _ _ (not_chunk hk hn h')
  · intro a b hn
    rw [R11_STEP hk ctr, inp]
    split
    · rename_i h'; subst h'; rw [hD, ← after_chunk I hk]; rfl
    · rename_i h'; exact h11 _ _ _ _ (not_chunk hk hn h')
  · intro a b hn
    rw [R12_STEP hk ctr, inp]
    split
    · rename_i h'; subst h'; rw [hD, ← after_chunk I hk]; rfl
    · rename_i h'; exact h12 _ _ _ _ (not_chunk hk hn h')
  · intro a b hn
    rw [R13_STEP hk ctr, inp]
    split
    · rename_i h'; subst h'; rw [hD, ← after_chunk I hk]; rfl
    · rename_i h'; exact h13 _ _ _ _ (not_chunk hk hn h')
  · intro a b hn
    rw [R14_STEP hk ctr, inp]
    split
    · rfl
    · rename_i h'; exact h14 _ _ _ _ (not_chunk hk hn h')
  · intro hn
    rw [R15_STEP hk ctr, inp]
    split
    · rename_i h'; subst h'; rw [hD, ← after_chunk I hk]; rfl
    · rename_i h'; exact h15 _ _ (not_chunk hk hn h')

theorem inv_iterate {I : Inputs} (H : Inv I 0 V) : ∀ k, k ≤ 256 → Inv I k (STEP^[k] V)
  | 0, _ => H
  | k + 1, hk => by
    rw [Function.iterate_succ_apply']
    exact (inv_iterate H k (by omega)).step (by omega)

end Cert.Proof
-- ==== Proof.KernelBlock.lean ====
/- What the kernel's body writes at a grid point, in the operations of the body and for any floats: four chunks, the last first, of
   six heads each; the cotangent of the state passes from chunk to chunk. -/
module

public import proofs.«01_k».proof.Proof.Gen.KernelIdeal.Frame
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe Idealize.ShloMosaic.Pointwise Idealize.ShloMosaic.StableHlo

variable {F : FTy → Type} [FloatOps F]

/-- The blocks a grid point reads: `s` is the cotangent of the state it starts from. -/
structure Blocks (F : FTy → Type) where
  dout : Vec F S256x768 .f32
  w : Vec F S256x768 .bf16
  qd : Vec F S256x768 .bf16
  kd : Vec F S256x768 .bf16
  intra : Vec F S6x4x64x64 .bf16
  cd : Vec F S6x4x1x128 .f32
  vn : Vec F S256x768 .bf16
  st : Vec F S6x4x128x128 .bf16
  s : Vec F S6x128x128 .f32

theorem inbT (c : Fin 4) (h : Fin 6) : ∀ a, (![64 * c.val, 128 * h.val] : Fin 2 → ℕ) a + S64x128.size a ≤ S256x768.size a :=
  fun x => match x with
    | ⟨0, _⟩ => show 64 * c.val + 64 ≤ 256 by omega
    | ⟨1, _⟩ => show 128 * h.val + 128 ≤ 768 by omega

theorem inbQ (c : Fin 4) (h : Fin 6) :
    ∀ a, (![h.val, c.val, 0, 0] : Fin 4 → ℕ) a + S1x1x64x64.size a ≤ S6x4x64x64.size a :=
  fun x => match x with
    | ⟨0, _⟩ => show h.val + 1 ≤ 6 by omega
    | ⟨1, _⟩ => show c.val + 1 ≤ 4 by omega
    | ⟨2, _⟩ => show 0 + 64 ≤ 64 by omega
    | ⟨3, _⟩ => show 0 + 64 ≤ 64 by omega

theorem inbL (c : Fin 4) (h : Fin 6) :
    ∀ a, (![h.val, c.val, 0, 0] : Fin 4 → ℕ) a + S1x1x1x128.size a ≤ S6x4x1x128.size a :=
  fun x => match x with
    | ⟨0, _⟩ => show h.val + 1 ≤ 6 by omega
    | ⟨1, _⟩ => show c.val + 1 ≤ 4 by omega
    | ⟨2, _⟩ => show 0 + 1 ≤ 1 by omega
    | ⟨3, _⟩ => show 0 + 128 ≤ 128 by omega

theorem inbS (c : Fin 4) (h : Fin 6) :
    ∀ a, (![h.val, c.val, 0, 0] : Fin 4 → ℕ) a + S1x1x128x128.size a ≤ S6x4x128x128.size a :=
  fun x => match x with
    | ⟨0, _⟩ => show h.val + 1 ≤ 6 by omega
    | ⟨1, _⟩ => show c.val + 1 ≤ 4 by omega
    | ⟨2, _⟩ => show 0 + 128 ≤ 128 by omega
    | ⟨3, _⟩ => show 0 + 128 ≤ 128 by omega

theorem inbD (h : Fin 6) : ∀ a, (![h.val, 0, 0] : Fin 3 → ℕ) a + S1x128x128.size a ≤ S6x128x128.size a :=
  fun x => match x with
    | ⟨0, _⟩ => show h.val + 1 ≤ 6 by omega
    | ⟨1, _⟩ => show 0 + 128 ≤ 128 by omega
    | ⟨2, _⟩ => show 0 + 128 ≤ 128 by omega

namespace Blocks

/-- The rectangle of chunk `c` and head `h` in a block of tokens, of chunk matrices, of rows, and of states. -/
abbrev rT (c : Fin 4) (h : Fin 6) : Rect S256x768 := .unit ![64 * c.val, 128 * h.val] S64x128.size (inbT c h)
abbrev rQ (c : Fin 4) (h : Fin 6) : Rect S6x4x64x64 := .unit ![h.val, c.val, 0, 0] S1x1x64x64.size (inbQ c h)
abbrev rL (c : Fin 4) (h : Fin 6) : Rect S6x4x1x128 := .unit ![h.val, c.val, 0, 0] S1x1x1x128.size (inbL c h)
abbrev rS (c : Fin 4) (h : Fin 6) : Rect S6x4x128x128 := .unit ![h.val, c.val, 0, 0] S1x1x128x128.size (inbS c h)
abbrev rD (h : Fin 6) : Rect S6x128x128 := .unit ![h.val, 0, 0] S1x128x128.size (inbD h)

variable (b : Blocks F) (c : Fin 4) (h : Fin 6) (D : Vec F S128x128 .f32)

def doV : Vec F S64x128 .bf16 := truncf .bf16 (View.ld b.dout (rT c h)) bitsLt_bf16_f32
def stV : Vec F S128x128 .bf16 := shapeCast S128x128 (View.ld b.st (rS c h)) shapeCasts_S1x1x128x128_S128x128
def vnV : Vec F S64x128 .bf16 := shapeCast S64x128 (View.ld b.vn (rT c h)) shapeCasts_S64x128_S64x128
def intraV : Vec F S64x64 .bf16 := shapeCast S64x64 (View.ld b.intra (rQ c h)) shapeCasts_S1x1x64x64_S64x64
def cdV : Vec F S1x128 .f32 := shapeCast S1x128 (View.ld b.cd (rL c h)) shapeCasts_S1x1x1x128_S1x128

/-- The cotangent of the new values. -/
def dvV : Vec F S64x128 .f32 :=
  addf
    (matmul dot_S64x64_S64x128_S64x128_0_0_1_1_n_n none (b.intraV c h) (b.doV c h) (constant S64x128 .f32 0x00000000#32))
    (matmul dot_S64x128_S128x128_S64x128_1_0_0_1_n_n none (View.ld b.kd (rT c h)) (truncf .bf16 D bitsLt_bf16_f32)
      (constant S64x128 .f32 0x00000000#32))

def dvB : Vec F S64x128 .bf16 := truncf .bf16 (b.dvV c h D) bitsLt_bf16_f32

/-- The cotangent of the state before the chunk, of the state's after it. -/
def nextV : Vec F S128x128 .f32 :=
  subf
    (addf
      (matmul dot_S64x128_S64x128_S128x128_0_0_1_1_n_n none (View.ld b.qd (rT c h)) (b.doV c h)
        (constant S128x128 .f32 0x00000000#32))
      (mulf D (broadcastTo S128x128 (b.cdV c h) broadcasts_S1x128_S128x128)))
    (matmul dot_S64x128_S64x128_S128x128_0_0_1_1_n_n none (View.ld b.w (rT c h)) (b.dvB c h D)
      (constant S128x128 .f32 0x00000000#32))

def dwV : Vec F S64x128 .f32 :=
  subf (broadcast S64x128 (Scalar.ofBits .f32 0x00000000#32))
    (matmul dot_S64x128_S128x128_S64x128_1_1_0_0_n_n none (b.dvB c h D) (b.stV c h) (constant S64x128 .f32 0x00000000#32))

def dqdV : Vec F S64x128 .f32 :=
  matmul dot_S64x128_S128x128_S64x128_1_1_0_0_n_n none (b.doV c h) (b.stV c h) (constant S64x128 .f32 0x00000000#32)

def dkdV : Vec F S64x128 .f32 :=
  matmul dot_S64x128_S128x128_S64x128_1_1_0_0_n_n none (b.vnV c h) (truncf .bf16 D bitsLt_bf16_f32)
    (constant S64x128 .f32 0x00000000#32)

def dintraV : Vec F S1x1x64x64 .f32 :=
  shapeCast S1x1x64x64
    (matmul dot_S64x128_S64x128_S64x64_1_1_0_0_n_n none (b.doV c h) (b.vnV c h) (constant S64x64 .f32 0x00000000#32))
    shapeCasts_S64x64_S1x1x64x64

def dglV : Vec F S1x1x1x128 .f32 :=
  shapeCast S1x1x1x128
    (mulf
      (broadcastTo S1x128
        (shapeCast S1x1
          (multiReduction .add [0] S1
            (shapeCast S128x1
              (multiReduction .add [1] S128 (mulf (extf .f32 (b.stV c h) bitsLt_bf16_f32) D) 0x00000000#32 reduces_S128x128_S128
                (.inl rfl) rfl)
              shapeCasts_S128_S128x1)
            0x00000000#32 reduces_S128x1_S1 (.inl rfl) rfl)
          shapeCasts_S1_S1x1)
        broadcasts_S1x1_S1x128)
      (b.cdV c h))
    shapeCasts_S1x128_S1x1x1x128

/-- The cotangent of head `h`'s state after `k` of the block's chunks, the last chunk first. -/
def stateV : ℕ → Fin 6 → Vec F S128x128 .f32
  | 0, h => shapeCast S128x128 (View.ld b.s (rD h)) shapeCasts_S1x128x128_S128x128
  | k + 1, h => b.nextV (Fin.ofNat 4 (3 - k)) h (stateV k h)

/-- The cotangent of the state after chunk `c`. -/
def afterV (c : Fin 4) (h : Fin 6) : Vec F S128x128 .f32 := b.stateV (3 - c.val) h

end Blocks

/-- Chunks and heads in the order of their stores, the last store first. -/
def order : List (Fin 4 × Fin 6) :=
  [(0, 5), (0, 4), (0, 3), (0, 2), (0, 1), (0, 0), (1, 5), (1, 4), (1, 3), (1, 2), (1, 1), (1, 0),
   (2, 5), (2, 4), (2, 3), (2, 2), (2, 1), (2, 0), (3, 5), (3, 4), (3, 3), (3, 2), (3, 1), (3, 0)]

/-- A load of what one store of the whole array left reads what was stored. -/
theorem readCov_whole {sp : Space} (v : View sig .tc sp S6x128x128 .f32) (x : Vec F S6x128x128 .f32)
    (inb : ∀ a, (![0, 0, 0] : Fin 3 → ℕ) a + (![6, 128, 128] : Fin 3 → ℕ) a ≤ S6x128x128.size a)
    (off : Fin 3 → ℕ) (hr : ∀ a, off a + (![1, 128, 128] : Fin 3 → ℕ) a ≤ S6x128x128.size a) :
    v.readCov [(⟨.unit ![0, 0, 0] ![6, 128, 128] inb, x⟩ : View.Piece (Elt F) S6x128x128 .f32)]
      (Rect.unit (s := S6x128x128) off ![1, 128, 128] hr).toLoadRect =
      View.ld x (Rect.unit (s := S6x128x128) off ![1, 128, 128] hr) := by
  have h0 : (![0, 0, 0] : Fin S6x128x128.rank → ℕ) = fun _ => 0 := by
    funext x
    match x with
    | ⟨0, _⟩ => rfl
    | ⟨1, _⟩ => rfl
    | ⟨2, _⟩ => rfl
  rw [View.readCov_eq_canon_ld _ _ _ fun y => ⟨_, List.mem_singleton_self _, View.mem_set_unit_zero h0 inb y⟩]
  exact congrArg (fun z => View.ld z (Rect.unit (s := S6x128x128) off ![1, 128, 128] hr)) (View.canon_unit_zero h0 inb x)

/-! ## Pieces over the chunks and heads of a block -/

/-- Row `i` of chunk `c` among the tokens of a block, and column `v` of head `h`. -/
def row (c : Fin 4) (i : Fin 64) : Fin 256 := ⟨64 * c.val + i.val, by omega⟩
def col (h : Fin 6) (v : Fin 128) : Fin 768 := ⟨128 * h.val + v.val, by omega⟩

theorem mem_order (c : Fin 4) (h : Fin 6) : (c, h) ∈ order := by
  revert c h
  decide

theorem embT (c : Fin 4) (h : Fin 6) (i : Fin 64) (v : Fin 128) : (Blocks.rT c h).emb (ix2 i v) = ix2 (row c i) (col h v) := by
  refine funext fun x => Fin.ext ?_
  match x with
  | ⟨0, _⟩ => show 64 * c.val + 1 * i.val = 64 * c.val + i.val; omega
  | ⟨1, _⟩ => show 128 * h.val + 1 * v.val = 128 * h.val + v.val; omega

theorem embQ (c : Fin 4) (h : Fin 6) (i j : Fin 64) :
    (Blocks.rQ c h).emb (ix4 (0 : Fin 1) (0 : Fin 1) i j) = ix4 h c i j := by
  refine funext fun x => Fin.ext ?_
  match x with
  | ⟨0, _⟩ => show h.val + 1 * 0 = h.val; omega
  | ⟨1, _⟩ => show c.val + 1 * 0 = c.val; omega
  | ⟨2, _⟩ => show 0 + 1 * i.val = i.val; omega
  | ⟨3, _⟩ => show 0 + 1 * j.val = j.val; omega

theorem embL (c : Fin 4) (h : Fin 6) (v : Fin 128) :
    (Blocks.rL c h).emb (ix4 (0 : Fin 1) (0 : Fin 1) (0 : Fin 1) v) = ix4 h c (0 : Fin 1) v := by
  refine funext fun x => Fin.ext ?_
  match x with
  | ⟨0, _⟩ => show h.val + 1 * 0 = h.val; omega
  | ⟨1, _⟩ => show c.val + 1 * 0 = c.val; omega
  | ⟨2, _⟩ => show 0 + 1 * 0 = 0; omega
  | ⟨3, _⟩ => show 0 + 1 * v.val = v.val; omega

theorem embS (c : Fin 4) (h : Fin 6) (k v : Fin 128) :
    (Blocks.rS c h).emb (ix4 (0 : Fin 1) (0 : Fin 1) k v) = ix4 h c k v := by
  refine funext fun x => Fin.ext ?_
  match x with
  | ⟨0, _⟩ => show h.val + 1 * 0 = h.val; omega
  | ⟨1, _⟩ => show c.val + 1 * 0 = c.val; omega
  | ⟨2, _⟩ => show 0 + 1 * k.val = k.val; omega
  | ⟨3, _⟩ => show 0 + 1 * v.val = v.val; omega

theorem embD (h : Fin 6) (k v : Fin 128) : (Blocks.rD h).emb (ix3 (0 : Fin 1) k v) = ix3 h k v := by
  refine funext fun x => Fin.ext ?_
  match x with
  | ⟨0, _⟩ => show h.val + 1 * 0 = h.val; omega
  | ⟨1, _⟩ => show 0 + 1 * k.val = k.val; omega
  | ⟨2, _⟩ => show 0 + 1 * v.val = v.val; omega

variable {φ : EltTy}

/-- Pieces that agree with one function on a cover are that function. -/
theorem canon_pieces {ι : Type} {S : Shape} (L : List ι) (r : ι → Rect S) (f : ∀ p : ι, (r p).shape.Idx → Elt F φ)
    (G : S.Idx → Elt F φ) (hG : ∀ p x, f p x = G ((r p).emb x)) (hc : ∀ y, ∃ p ∈ L, ∃ x, (r p).emb x = y) :
    View.canon (L.map fun p => (⟨r p, f p⟩ : View.Piece (Elt F) S φ)) = G := by
  funext y
  refine View.canon_apply_of_pieces G _ ?_ y ?_
  · intro p hp x
    obtain ⟨q, _, rfl⟩ := List.mem_map.mp hp
    exact hG q x
  · obtain ⟨p, hp, x, rfl⟩ := hc y
    exact ⟨_, List.mem_map.mpr ⟨p, hp, rfl⟩, (r p).idx_mem x⟩

theorem canonT (f : Fin 4 → Fin 6 → S64x128.Idx → Elt F φ) (G : S256x768.Idx → Elt F φ)
    (hG : ∀ c h i v, f c h (ix2 i v) = G (ix2 (row c i) (col h v))) :
    View.canon (order.map fun p => (⟨Blocks.rT p.1 p.2, f p.1 p.2⟩ : View.Piece (Elt F) S256x768 φ)) = G := by
  refine canon_pieces order (fun p => Blocks.rT p.1 p.2) (fun p => f p.1 p.2) G (fun p x => ?_) fun y => ?_
  · obtain ⟨i, v, rfl⟩ : ∃ i v, x = ix2 i v := ⟨x 0, x 1, (ix2_eta x).symm⟩
    exact (hG _ _ i v).trans (congrArg G (embT _ _ i v).symm)
  · obtain ⟨r, l, rfl⟩ : ∃ r l, y = ix2 r l := ⟨y 0, y 1, (ix2_eta y).symm⟩
    refine ⟨(⟨r.val / 64, by omega⟩, ⟨l.val / 128, by omega⟩), mem_order _ _,
      ix2 ⟨r.val % 64, by omega⟩ ⟨l.val % 128, by omega⟩, (embT _ _ _ _).trans ?_⟩
    exact congrArg₂ ix2 (Fin.ext (show 64 * (r.val / 64) + r.val % 64 = r.val by omega))
      (Fin.ext (show 128 * (l.val / 128) + l.val % 128 = l.val by omega))

theorem canonQ (f : Fin 4 → Fin 6 → S1x1x64x64.Idx → Elt F φ) (G : S6x4x64x64.Idx → Elt F φ)
    (hG : ∀ c h i j, f c h (ix4 (0 : Fin 1) (0 : Fin 1) i j) = G (ix4 h c i j)) :
    View.canon (order.map fun p => (⟨Blocks.rQ p.1 p.2, f p.1 p.2⟩ : View.Piece (Elt F) S6x4x64x64 φ)) = G := by
  refine canon_pieces order (fun p => Blocks.rQ p.1 p.2) (fun p => f p.1 p.2) G (fun p x => ?_) fun y => ?_
  · obtain ⟨a, b, i, j, rfl⟩ : ∃ a b i j, x = ix4 a b i j := ⟨x 0, x 1, x 2, x 3, (ix4_eta x).symm⟩
    obtain rfl : a = (0 : Fin 1) := Subsingleton.elim _ _
    obtain rfl : b = (0 : Fin 1) := Subsingleton.elim _ _
    exact (hG _ _ i j).trans (congrArg G (embQ _ _ i j).symm)
  · obtain ⟨h, c, i, j, rfl⟩ : ∃ h c i j, y = ix4 h c i j := ⟨y 0, y 1, y 2, y 3, (ix4_eta y).symm⟩
    exact ⟨(c, h), mem_order _ _, ix4 (0 : Fin 1) (0 : Fin 1) i j, embQ _ _ _ _⟩

theorem canonL (f : Fin 4 → Fin 6 → S1x1x1x128.Idx → Elt F φ) (G : S6x4x1x128.Idx → Elt F φ)
    (hG : ∀ c h v, f c h (ix4 (0 : Fin 1) (0 : Fin 1) (0 : Fin 1) v) = G (ix4 h c (0 : Fin 1) v)) :
    View.canon (order.map fun p => (⟨Blocks.rL p.1 p.2, f p.1 p.2⟩ : View.Piece (Elt F) S6x4x1x128 φ)) = G := by
  refine canon_pieces order (fun p => Blocks.rL p.1 p.2) (fun p => f p.1 p.2) G (fun p x => ?_) fun y => ?_
  · obtain ⟨a, b, i, v, rfl⟩ : ∃ a b i j, x = ix4 a b i j := ⟨x 0, x 1, x 2, x 3, (ix4_eta x).symm⟩
    obtain rfl : a = (0 : Fin 1) := Subsingleton.elim _ _
    obtain rfl : b = (0 : Fin 1) := Subsingleton.elim _ _
    obtain rfl : i = (0 : Fin 1) := Subsingleton.elim _ _
    exact (hG _ _ v).trans (congrArg G (embL _ _ v).symm)
  · obtain ⟨h, c, i, v, rfl⟩ : ∃ h c i j, y = ix4 h c i j := ⟨y 0, y 1, y 2, y 3, (ix4_eta y).symm⟩
    obtain rfl : i = (0 : Fin 1) := Subsingleton.elim _ _
    exact ⟨(c, h), mem_order _ _, ix4 (0 : Fin 1) (0 : Fin 1) (0 : Fin 1) v, embL _ _ _⟩

/-- Pieces stored later that cover the array leave nothing of the earlier ones. -/
theorem canon_append {S : Shape} (L L' : List (View.Piece (Elt F) S φ)) (y : S.Idx) (hy : ∃ p ∈ L, y ∈ p.1.set) :
    View.canon (L ++ L') y = View.canon L y := by
  induction L with
  | nil => obtain ⟨p, hp, _⟩ := hy; simp at hp
  | cons p L ih =>
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem p _ hm, View.canon_cons_of_not_mem p _ hm]
      refine ih ?_
      obtain ⟨q, hq, hyq⟩ := hy
      rcases List.mem_cons.mp hq with rfl | hq
      · exact absurd hyq hm
      · exact ⟨q, hq, hyq⟩

theorem canonD (f : Fin 6 → S1x128x128.Idx → Elt F φ) (G : S6x128x128.Idx → Elt F φ) (L' : List (View.Piece (Elt F) S6x128x128 φ))
    (hG : ∀ h k v, f h (ix3 (0 : Fin 1) k v) = G (ix3 h k v)) :
    View.canon (([5, 4, 3, 2, 1, 0].map fun h : Fin 6 =>
      (⟨Blocks.rD h, f h⟩ : View.Piece (Elt F) S6x128x128 φ)) ++ L') = G := by
  have hc : ∀ y : S6x128x128.Idx, ∃ h ∈ ([5, 4, 3, 2, 1, 0] : List (Fin 6)), ∃ x, (Blocks.rD h).emb x = y := by
    intro y
    obtain ⟨h, k, v, rfl⟩ : ∃ h k v, y = ix3 h k v := ⟨y 0, y 1, y 2, (ix3_eta y).symm⟩
    refine ⟨h, ?_, ix3 (0 : Fin 1) k v, embD _ _ _⟩
    revert h
    decide
  funext y
  refine (canon_append _ L' y ?_).trans (congrFun (canon_pieces _ (fun h => Blocks.rD h) f G (fun p x => ?_) hc) y)
  · obtain ⟨h, hh, x, rfl⟩ := hc y
    exact ⟨_, List.mem_map.mpr ⟨h, hh, rfl⟩, (Blocks.rD h).idx_mem x⟩
  · obtain ⟨a, k, v, rfl⟩ : ∃ a k v, x = ix3 a k v := ⟨x 0, x 1, x 2, (ix3_eta x).symm⟩
    obtain rfl : a = (0 : Fin 1) := Subsingleton.elim _ _
    exact (hG _ k v).trans (congrArg G (embD _ k v).symm)

end Cert.Proof
-- ==== Proof.KernelIndex.lean ====
/- A grid point's block of results at an index, over the extended reals. -/
module

public import proofs.«01_k».proof.Proof.KernelBlock

@[expose] public section

set_option maxRecDepth 16384

noncomputable section

namespace Cert.Proof

open Cert.KernelIdeal Cert.KernelIdeal.Gen
open Idealize.ShloMosaic Idealize.ShloMosaic.TcCoe Idealize.ShloMosaic.Pointwise Idealize.ShloMosaic.StableHlo

namespace Blocks

variable (b : Blocks Ideal) (c : Fin 4) (h : Fin 6) (D : Vec Ideal S128x128 .f32)

theorem ldT_at {φ : EltTy} (x : Vec Ideal S256x768 φ) (i : Fin 64) (v : Fin 128) :
    View.ld x (rT c h) (ix2 i v) = x (ix2 (row c i) (col h v)) := congrArg x (embT c h i v)

theorem ldQ_at {φ : EltTy} (x : Vec Ideal S6x4x64x64 φ) (i j : Fin 64) :
    View.ld x (rQ c h) (ix4 (0 : Fin 1) (0 : Fin 1) i j) = x (ix4 h c i j) := congrArg x (embQ c h i j)

theorem ldL_at {φ : EltTy} (x : Vec Ideal S6x4x1x128 φ) (v : Fin 128) :
    View.ld x (rL c h) (ix4 (0 : Fin 1) (0 : Fin 1) (0 : Fin 1) v) = x (ix4 h c (0 : Fin 1) v) := congrArg x (embL c h v)

theorem ldS_at {φ : EltTy} (x : Vec Ideal S6x4x128x128 φ) (k v : Fin 128) :
    View.ld x (rS c h) (ix4 (0 : Fin 1) (0 : Fin 1) k v) = x (ix4 h c k v) := congrArg x (embS c h k v)

theorem ldD_at {φ : EltTy} (x : Vec Ideal S6x128x128 φ) (k v : Fin 128) :
    View.ld x (rD h) (ix3 (0 : Fin 1) k v) = x (ix3 h k v) := congrArg x (embD h k v)

theorem doV_at (i : Fin 64) (v : Fin 128) : b.doV c h (ix2 i v) = b.dout (ix2 (row c i) (col h v)) := by
  unfold doV
  pointwise! [ldT_at]

theorem stV_at (k v : Fin 128) : b.stV c h (ix2 k v) = b.st (ix4 h c k v) := by
  have e (x : Vec Ideal S1x1x128x128 .bf16) :
      shapeCast S128x128 x shapeCasts_S1x1x128x128_S128x128 (ix2 k v) = x (ix4 (0 : Fin 1) (0 : Fin 1) k v) := by pointwise!
  exact (e _).trans (ldS_at c h b.st k v)

theorem intraV_at (i j : Fin 64) : b.intraV c h (ix2 i j) = b.intra (ix4 h c i j) := by
  have e (x : Vec Ideal S1x1x64x64 .bf16) :
      shapeCast S64x64 x shapeCasts_S1x1x64x64_S64x64 (ix2 i j) = x (ix4 (0 : Fin 1) (0 : Fin 1) i j) := by pointwise!
  exact (e _).trans (ldQ_at c h b.intra i j)

theorem cdV_at (v : Fin 128) : b.cdV c h (ix2 (0 : Fin 1) v) = b.cd (ix4 h c (0 : Fin 1) v) := by
  have e (x : Vec Ideal S1x1x1x128 .f32) :
      shapeCast S1x128 x shapeCasts_S1x1x1x128_S1x128 (ix2 (0 : Fin 1) v) = x (ix4 (0 : Fin 1) (0 : Fin 1) (0 : Fin 1) v) := by
    pointwise!
  exact (e _).trans (ldL_at c h b.cd v)

theorem vnV_at (i : Fin 64) (v : Fin 128) : b.vnV c h (ix2 i v) = b.vn (ix2 (row c i) (col h v)) := by
  unfold vnV
  pointwise! [ldT_at]

theorem dvV_at (i : Fin 64) (v : Fin 128) : b.dvV c h D (ix2 i v) =
    (∑ j : Fin 64, b.intra (ix4 h c j i) * b.dout (ix2 (row c j) (col h v)))
      + ∑ k : Fin 128, b.kd (ix2 (row c i) (col h k)) * D (ix2 k v) := by
  unfold dvV
  pointwise! [ldT_at, intraV_at, doV_at]

theorem dvB_at (i : Fin 64) (v : Fin 128) : b.dvB c h D (ix2 i v) = b.dvV c h D (ix2 i v) := by
  unfold dvB
  pointwise!

theorem nextV_at (k v : Fin 128) : b.nextV c h D (ix2 k v) =
    (∑ i : Fin 64, b.qd (ix2 (row c i) (col h k)) * b.dout (ix2 (row c i) (col h v))) + D (ix2 k v) * b.cd (ix4 h c (0 : Fin 1) v)
      - ∑ i : Fin 64, b.w (ix2 (row c i) (col h k)) * b.dvV c h D (ix2 i v) := by
  unfold nextV
  pointwise! [ldT_at, doV_at, cdV_at, dvB_at]

theorem dwV_at (i : Fin 64) (k : Fin 128) : b.dwV c h D (ix2 i k) =
    0 - ∑ v : Fin 128, b.dvV c h D (ix2 i v) * b.st (ix4 h c k v) := by
  unfold dwV
  pointwise! [stV_at, dvB_at]

theorem dqdV_at (i : Fin 64) (k : Fin 128) : b.dqdV c h (ix2 i k) =
    ∑ v : Fin 128, b.dout (ix2 (row c i) (col h v)) * b.st (ix4 h c k v) := by
  unfold dqdV
  pointwise! [doV_at, stV_at]

theorem dkdV_at (i : Fin 64) (k : Fin 128) : b.dkdV c h D (ix2 i k) =
    ∑ v : Fin 128, b.vn (ix2 (row c i) (col h v)) * D (ix2 k v) := by
  unfold dkdV
  pointwise! [vnV_at]

theorem dintraV_at (i j : Fin 64) : b.dintraV c h (ix4 (0 : Fin 1) (0 : Fin 1) i j) =
    ∑ v : Fin 128, b.dout (ix2 (row c i) (col h v)) * b.vn (ix2 (row c j) (col h v)) := by
  unfold dintraV
  pointwise! [doV_at, vnV_at]

theorem dglV_at (l : Fin 128) : b.dglV c h D (ix4 (0 : Fin 1) (0 : Fin 1) (0 : Fin 1) l) =
    (∑ k : Fin 128, ∑ v : Fin 128, b.st (ix4 h c k v) * D (ix2 k v)) * b.cd (ix4 h c (0 : Fin 1) l) := by
  unfold dglV
  pointwise! [stV_at, cdV_at]

theorem stateV_zero_at (k v : Fin 128) : b.stateV 0 h (ix2 k v) = b.s (ix3 h k v) := by
  have e (x : Vec Ideal S1x128x128 .f32) :
      shapeCast S128x128 x shapeCasts_S1x128x128_S128x128 (ix2 k v) = x (ix3 (0 : Fin 1) k v) := by pointwise!
  exact (e _).trans (ldD_at h b.s k v)

end Blocks

theorem zeros_at (h : Fin 6) (k v : Fin 128) : (k0_pay7 (F := Ideal)) (ix3 h k v) = 0 := by
  unfold k0_pay7
  pointwise!

theorem stored_at (x : Vec Ideal S128x128 .f32) (k v : Fin 128) :
    shapeCast S1x128x128 x shapeCasts_S128x128_S1x128x128 (ix3 (0 : Fin 1) k v) = x (ix2 k v) := by
  pointwise!

end Cert.Proof
-- ==== Proof.Real.lean ====
/- With finite arguments the recurrence stays finite, and then the two ways to subtract a product agree. -/
module

public import proofs.«01_k».proof.Proof.Recurrence

@[expose] public section

namespace Cert.Proof

open Idealize.ShloMosaic

/-- A finite extended real. -/
def IsReal (x : EReal) : Prop := ∃ r : ℝ, x = (r : EReal)

theorem coe_sum {ι : Type} (s : Finset ι) (r : ι → ℝ) : ((∑ i ∈ s, r i : ℝ) : EReal) = ∑ i ∈ s, (r i : EReal) := by
  classical
  induction s using Finset.induction_on with
  | empty => rfl
  | insert a s ha ih => rw [Finset.sum_insert ha, Finset.sum_insert ha, EReal.coe_add, ih]

namespace IsReal

variable {x y : EReal}

theorem zero : IsReal 0 := ⟨0, rfl⟩
theorem add (hx : IsReal x) (hy : IsReal y) : IsReal (x + y) := by
  obtain ⟨r, rfl⟩ := hx; obtain ⟨s, rfl⟩ := hy; exact ⟨r + s, (EReal.coe_add r s).symm⟩
theorem mul (hx : IsReal x) (hy : IsReal y) : IsReal (x * y) := by
  obtain ⟨r, rfl⟩ := hx; obtain ⟨s, rfl⟩ := hy; exact ⟨r * s, (EReal.coe_mul r s).symm⟩
theorem neg (hx : IsReal x) : IsReal (-x) := by
  obtain ⟨r, rfl⟩ := hx; exact ⟨-r, (EReal.coe_neg r).symm⟩
theorem sum {ι : Type} (s : Finset ι) (f : ι → EReal) (hf : ∀ i, IsReal (f i)) : IsReal (∑ i ∈ s, f i) := by
  choose r hr using hf
  exact ⟨∑ i ∈ s, r i, by rw [coe_sum]; exact Finset.sum_congr rfl fun i _ => hr i⟩
theorem neg_sum {ι : Type} (s : Finset ι) (f : ι → EReal) (hf : ∀ i, IsReal (f i)) : -(∑ i ∈ s, f i) = ∑ i ∈ s, -f i := by
  choose r hr using hf
  obtain rfl : f = fun i => (r i : EReal) := funext hr
  simp only [← EReal.coe_neg, ← coe_sum, Finset.sum_neg_distrib]
theorem exp (hx : IsReal x) : IsReal (Ideal.exp x) := by
  obtain ⟨r, rfl⟩ := hx
  exact ⟨Real.exp r, rfl⟩

end IsReal

/-- All the arrays of the backward pass are finite. -/
structure Inputs.Finite (I : Inputs) : Prop where
  st : ∀ n h k v, IsReal (I.st n h k v)
  dout : ∀ n h i v, IsReal (I.dout n h i v)
  qd : ∀ n h i v, IsReal (I.qd n h i v)
  kd : ∀ n h i v, IsReal (I.kd n h i v)
  w : ∀ n h i v, IsReal (I.w n h i v)
  intra : ∀ n h i j, IsReal (I.intra n h i j)
  g : ∀ n h, IsReal (I.g n h)

namespace Inputs

variable {I : Inputs} (hI : I.Finite)
include hI

theorem real_dv (D : State) (hD : ∀ h k v, IsReal (D h k v)) (n : Fin 256) (h : Fin 6) (i : Fin 64) (v : Fin 128) :
    IsReal (I.dv D n h i v) :=
  .add (.sum _ _ fun _ => .mul (hD _ _ _) (hI.kd _ _ _ _)) (.sum _ _ fun _ => .mul (hI.dout _ _ _ _) (hI.intra _ _ _ _))

theorem real_next (D : State) (hD : ∀ h k v, IsReal (D h k v)) (n : Fin 256) (h : Fin 6) (k v : Fin 128) :
    IsReal (I.next D n h k v) :=
  .add (.add (.mul (hD _ _ _) (hI.g n h).exp) (.sum _ _ fun _ => .mul (hI.dout _ _ _ _) (hI.qd _ _ _ _)))
    (.sum _ _ fun _ => .mul (real_dv hI D hD _ _ _ _).neg (hI.w _ _ _ _))

theorem real_D : ∀ (j : ℕ) (h : Fin 6) (k v : Fin 128), IsReal (I.D j h k v)
  | 0, _, _, _ => .zero
  | j + 1, _, _, _ => real_next hI _ (real_D j) _ _ _ _

/-- The step with the product over `w` subtracted. -/
theorem next_sub (D : State) (hD : ∀ h k v, IsReal (D h k v)) (n : Fin 256) (h : Fin 6) (k v : Fin 128) :
    I.next D n h k v =
      (∑ i : Fin 64, I.qd n h i k * I.dout n h i v) + D h k v * I.cd n h - ∑ i : Fin 64, I.w n h i k * I.dv D n h i v := by
  have e : -(∑ i : Fin 64, I.w n h i k * I.dv D n h i v) = ∑ i : Fin 64, -I.dv D n h i v * I.w n h i k := by
    rw [IsReal.neg_sum _ _ fun i => .mul (hI.w _ _ _ _) (real_dv hI D hD _ _ _ _)]
    exact Finset.sum_congr rfl fun i _ => by rw [EReal.neg_mul, mul_comm]
  rw [sub_eq_add_neg, e, add_comm (∑ i : Fin 64, I.qd n h i k * I.dout n h i v)]
  simp only [mul_comm (I.qd n h _ k)]
  rfl

theorem dw_sub (n : Fin 256) (h : Fin 6) (i : Fin 64) (k : Fin 128) :
    I.dw n h i k = 0 - ∑ v : Fin 128, I.dv (I.after n) n h i v * I.st n h k v := by
  rw [zero_sub, IsReal.neg_sum _ _ fun v => .mul (real_dv hI (I.after n) (real_D hI _) n h i v) (hI.st n h k v)]
  exact Finset.sum_congr rfl fun v _ => EReal.neg_mul _ _

omit hI in
theorem dv_comm (D : State) (n : Fin 256) (h : Fin 6) (i : Fin 64) (v : Fin 128) :
    I.dv D n h i v = (∑ j : Fin 64, I.intra n h j i * I.dout n h j v) + ∑ k : Fin 128, I.kd n h i k * D h k v := by
  rw [add_comm]
  simp only [mul_comm (I.intra n h _ i), mul_comm (I.kd n h i _)]
  rfl

end Inputs

end Cert.Proof

end
-- ==== Proof.KernelPoint.lean ====
/- A grid point's block holds the recurrence's values at its four chunks, if what the point reads does. -/
module

public import proofs.«01_k».proof.Proof.KernelIndex
public import proofs.«01_k».proof.Proof.Real

@[expose] public section

set_option maxRecDepth 16384

noncomputable section

namespace Cert.Proof

open Cert.KernelIdeal Cert.KernelIdeal.Gen
open Idealize.ShloMosaic Idealize.ShloMosaic.TcCoe Idealize.ShloMosaic.Pointwise Idealize.ShloMosaic.StableHlo

/-- Chunk `c` of the block of grid point `t`: the points take the blocks from the last to the first. -/
def nOf (t : Fin 64) (c : Fin 4) : Fin 256 := ⟨4 * (63 - t.val) + c.val, by omega⟩

/-- What grid point `t` reads: the arrays at its chunks, and the cotangent of the state after the last of them. -/
structure Reads (I : Inputs) (t : Fin 64) (b : Blocks Ideal) : Prop where
  dout : ∀ c h i v, b.dout (ix2 (row c i) (col h v)) = I.dout (nOf t c) h i v
  w : ∀ c h i v, b.w (ix2 (row c i) (col h v)) = I.w (nOf t c) h i v
  qd : ∀ c h i v, b.qd (ix2 (row c i) (col h v)) = I.qd (nOf t c) h i v
  kd : ∀ c h i v, b.kd (ix2 (row c i) (col h v)) = I.kd (nOf t c) h i v
  intra : ∀ c h i j, b.intra (ix4 h c i j) = I.intra (nOf t c) h i j
  cd : ∀ c h v, b.cd (ix4 h c (0 : Fin 1) v) = I.cd (nOf t c) h
  vn : ∀ c h i v, b.vn (ix2 (row c i) (col h v)) = I.vnew (nOf t c) h i v
  st : ∀ c h k v, b.st (ix4 h c k v) = I.st (nOf t c) h k v
  s : ∀ h k v, b.s (ix3 h k v) = I.D (4 * t.val) h k v

namespace Reads

variable {I : Inputs} {t : Fin 64} {b : Blocks Ideal} (R : Reads I t b)
include R

theorem dv (c : Fin 4) (h : Fin 6) (D : Vec Ideal S128x128 .f32) (E : State) (hD : ∀ k v, D (ix2 k v) = E h k v) (i : Fin 64)
    (v : Fin 128) : b.dvV c h D (ix2 i v) = I.dv E (nOf t c) h i v := by
  rw [Blocks.dvV_at, Inputs.dv_comm]
  simp only [R.dout, R.kd, R.intra, hD]

variable (hI : I.Finite)
include hI

theorem next (c : Fin 4) (h : Fin 6) (D : Vec Ideal S128x128 .f32) (E : State) (hE : ∀ h k v, IsReal (E h k v))
    (hD : ∀ k v, D (ix2 k v) = E h k v) (k v : Fin 128) : b.nextV c h D (ix2 k v) = I.next E (nOf t c) h k v := by
  rw [Blocks.nextV_at, Inputs.next_sub hI E hE]
  simp only [R.dout, R.qd, R.w, R.cd, hD, R.dv c h D E hD]

theorem state : ∀ (j : ℕ), j ≤ 4 → ∀ h k v, b.stateV j h (ix2 k v) = I.D (4 * t.val + j) h k v
  | 0, _, h, k, v => (b.stateV_zero_at h k v).trans (R.s h k v)
  | j + 1, hj, h, k, v => by
    refine (R.next hI (Fin.ofNat 4 (3 - j)) h (b.stateV j h) (I.D (4 * t.val + j)) (Inputs.real_D hI _)
      (state j (by omega) h) k v).trans ?_
    have e : nOf t (Fin.ofNat 4 (3 - j)) = chunk (4 * t.val + j) := by
      refine Fin.ext ?_
      show 4 * (63 - t.val) + (3 - j) % 4 = 255 - (4 * t.val + j)
      have := t.isLt
      rw [Nat.mod_eq_of_lt (by omega)]
      omega
    rw [e]
    rfl

theorem after (c : Fin 4) (h : Fin 6) (k v : Fin 128) : b.afterV c h (ix2 k v) = I.after (nOf t c) h k v := by
  refine (R.state hI (3 - c.val) (by omega) h k v).trans ?_
  have e : 4 * t.val + (3 - c.val) = 255 - (nOf t c).val := by
    show 4 * t.val + (3 - c.val) = 255 - (4 * (63 - t.val) + c.val)
    have := t.isLt
    have := c.isLt
    omega
  rw [e]
  rfl

theorem du (c : Fin 4) (h : Fin 6) (i : Fin 64) (v : Fin 128) :
    b.dvV c h (b.afterV c h) (ix2 i v) = I.du (nOf t c) h i v := R.dv c h _ _ (R.after hI c h) i v

theorem dw (c : Fin 4) (h : Fin 6) (i : Fin 64) (k : Fin 128) :
    b.dwV c h (b.afterV c h) (ix2 i k) = I.dw (nOf t c) h i k := by
  rw [Blocks.dwV_at, Inputs.dw_sub hI]
  simp only [R.dv c h _ _ (R.after hI c h), R.st]

omit hI in
theorem dqd (c : Fin 4) (h : Fin 6) (i : Fin 64) (k : Fin 128) : b.dqdV c h (ix2 i k) = I.dqd (nOf t c) h i k := by
  rw [Blocks.dqdV_at]
  simp only [R.dout, R.st]
  rfl

theorem dkd (c : Fin 4) (h : Fin 6) (i : Fin 64) (k : Fin 128) :
    b.dkdV c h (b.afterV c h) (ix2 i k) = I.dkd (nOf t c) h i k := by
  rw [Blocks.dkdV_at]
  simp only [R.vn, R.after hI, mul_comm (I.vnew _ _ _ _)]
  rfl

omit hI in
theorem dintra (c : Fin 4) (h : Fin 6) (i j : Fin 64) :
    b.dintraV c h (ix4 (0 : Fin 1) (0 : Fin 1) i j) = I.dintra (nOf t c) h i j := by
  rw [Blocks.dintraV_at]
  simp only [R.dout, R.vn]
  rfl

theorem dg (c : Fin 4) (h : Fin 6) (l : Fin 128) :
    b.dglV c h (b.afterV c h) (ix4 (0 : Fin 1) (0 : Fin 1) (0 : Fin 1) l) = I.dg (nOf t c) h := by
  rw [Blocks.dglV_at]
  simp only [R.st, R.cd, R.after hI]
  rfl

end Reads

end Cert.Proof
-- ==== Proof.KernelHost.lean ====
/- What a grid point reads of the program's arguments: the decay and the new values, which the host computes, and the blocks. -/
module

public import proofs.«01_k».proof.Proof.KernelPoint
public import proofs.«01_k».proof.Proof.Gen.KernelIdeal.Value

@[expose] public section

set_option maxRecDepth 16384

noncomputable section

namespace Cert.Proof

open Cert.KernelIdeal Cert.KernelIdeal.Gen
open Idealize.ShloMosaic Idealize.ShloMosaic.TcCoe Idealize.ShloMosaic.Pointwise Idealize.ShloMosaic.StableHlo

/-- Token `i` of chunk `n`. -/
def tok (n : Fin 256) (i : Fin 64) : Fin 16384 := ⟨64 * n.val + i.val, by omega⟩

/-- The programs' arguments as the recurrence's arrays. -/
def ofArgs (dout u : Vec Ideal S16384x768 .f32) (w qd kd : Vec Ideal S16384x768 .bf16) (intra : Vec Ideal S6x256x64x64 .bf16)
    (g : Vec Ideal S6x256 .f32) (st : Vec Ideal S6x256x128x128 .bf16) : Inputs where
  st n h k v := st (ix4 h n k v)
  dout n h i v := dout (ix2 (tok n i) (col h v))
  qd n h i v := qd (ix2 (tok n i) (col h v))
  kd n h i v := kd (ix2 (tok n i) (col h v))
  u n h i v := u (ix2 (tok n i) (col h v))
  w n h i v := w (ix2 (tok n i) (col h v))
  intra n h i j := intra (ix4 h n i j)
  g n h := g (ix2 h n)

variable (m : (ℓ : Loc nD τ sig) → Buf (Elt Ideal) ℓ) (c : Dev nD)

/-- The kernel's program's arguments as the recurrence's arrays. -/
def argsOf : Inputs :=
  ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

section Host

variable {F : FTy → Type} [FloatOps F]

/-- The decay as the host prepares it. -/
def hostDecay (g : Vec F S6x256 .f32) : Vec F S6x256x1x128 .f32 :=
  broadcastInDim S6x256x1x128 ![0, 1, 2, 3] bcast_S6x256x1x1_S6x256x1x128_0_1_2_3
    (broadcastInDim S6x256x1x1 ![0, 1] bcast_S6x256_S6x256x1x1_0_1 (Host.exp g))

/-- Tokens by columns as chunk, head and position. -/
def hostChunks (x : Vec F S16384x768 .f32) : Vec F S256x6x64x128 .f32 :=
  transpose S256x6x64x128 [0, 2, 1, 3] (shapeCast S256x64x6x128 x shapeCasts_S16384x768_S256x64x6x128)
    transposes_S256x64x6x128_S256x6x64x128_0_2_1_3

/-- The new values as the host prepares them. -/
def hostNew (u : Vec F S16384x768 .f32) (w : Vec F S16384x768 .bf16) (st : Vec F S6x256x128x128 .bf16) :
    Vec F S16384x768 .bf16 :=
  truncf .bf16
    (shapeCast S16384x768
      (transpose S256x64x6x128 [0, 2, 1, 3]
        (subf (hostChunks u)
          (Host.dotGeneral dot_S256x6x64x128_S256x6x128x128_S256x6x64x128_3_2_2_3_01_01 none (hostChunks (extf .f32 w bitsLt_bf16_f32))
            (transpose S256x6x128x128 [1, 0, 2, 3] (extf .f32 st bitsLt_bf16_f32) transposes_S6x256x128x128_S256x6x128x128_1_0_2_3)))
        transposes_S256x6x64x128_S256x64x6x128_0_2_1_3)
      shapeCasts_S256x64x6x128_S16384x768)
    bitsLt_bf16_f32

end Host

theorem V_decay : V m c main_v2 = hostDecay (m ((c : Thread nD τ).loc main_arg6)) := by
  unfold_abbrev_sides
  after_results
  rfl

theorem V_new : V m c main_v14 = hostNew (m ((c : Thread nD τ).loc main_arg1)) (m ((c : Thread nD τ).loc main_arg2))
    (m ((c : Thread nD τ).loc main_arg7)) := by
  unfold_abbrev_sides
  after_results
  rfl

theorem hostDecay_at (g : Vec Ideal S6x256 .f32) (h : Fin 6) (n : Fin 256) (v : Fin 128) :
    hostDecay g (ix4 h n (0 : Fin 1) v) = Ideal.exp (g (ix2 h n)) := by
  unfold hostDecay
  pointwise

theorem hostChunks_at (x : Vec Ideal S16384x768 .f32) (n : Fin 256) (h : Fin 6) (i : Fin 64) (v : Fin 128) :
    hostChunks x (ix4 n h i v) = x (ix2 (tok n i) (col h v)) := by
  unfold hostChunks
  pointwise
  refine congrArg x (congrArg₂ ix2 (Fin.ext ?_) (Fin.ext ?_))
  · show n.val * 64 + i.val = 64 * n.val + i.val; omega
  · show h.val * 128 + v.val = 128 * h.val + v.val; omega

theorem hostNew_at (u : Vec Ideal S16384x768 .f32) (w : Vec Ideal S16384x768 .bf16) (st : Vec Ideal S6x256x128x128 .bf16)
    (n : Fin 256) (h : Fin 6) (i : Fin 64) (v : Fin 128) :
    hostNew u w st (ix2 (tok n i) (col h v)) =
      u (ix2 (tok n i) (col h v)) - ∑ k : Fin 128, w (ix2 (tok n i) (col h k)) * st (ix4 h n k v) := by
  unfold hostNew
  pointwise [hostChunks_at]
  have e1 : (⟨(tok n i).val / 64, by omega⟩ : Fin 256) = n := Fin.ext (by show (64 * n.val + i.val) / 64 = n.val; omega)
  have e2 : (⟨(tok n i).val % 64, by omega⟩ : Fin 64) = i := Fin.ext (by show (64 * n.val + i.val) % 64 = i.val; omega)
  have e3 : (⟨(col h v).val / 128, by omega⟩ : Fin 6) = h := Fin.ext (by show (128 * h.val + v.val) / 128 = h.val; omega)
  have e4 : (⟨(col h v).val % 128, by omega⟩ : Fin 128) = v := Fin.ext (by show (128 * h.val + v.val) % 128 = v.val; omega)
  simp only [e1, e2, e3, e4]

/-! ## The blocks -/

theorem idx_in : ∀ t : Fin cfg0.N,
    (win0_0.index t (0 : Fin 2) = 63 - t.val ∧ win0_0.index t (1 : Fin 2) = 0)
    ∧ (win0_1.index t (0 : Fin 2) = 63 - t.val ∧ win0_1.index t (1 : Fin 2) = 0)
    ∧ (win0_2.index t (0 : Fin 2) = 63 - t.val ∧ win0_2.index t (1 : Fin 2) = 0)
    ∧ (win0_3.index t (0 : Fin 2) = 63 - t.val ∧ win0_3.index t (1 : Fin 2) = 0)
    ∧ (win0_4.index t (0 : Fin 4) = 0 ∧ win0_4.index t (1 : Fin 4) = 63 - t.val ∧ win0_4.index t (2 : Fin 4) = 0 ∧ win0_4.index t (3 : Fin 4) = 0)
    ∧ (win0_5.index t (0 : Fin 4) = 0 ∧ win0_5.index t (1 : Fin 4) = 63 - t.val ∧ win0_5.index t (2 : Fin 4) = 0 ∧ win0_5.index t (3 : Fin 4) = 0)
    ∧ (win0_6.index t (0 : Fin 2) = 63 - t.val ∧ win0_6.index t (1 : Fin 2) = 0)
    ∧ (win0_7.index t (0 : Fin 4) = 0 ∧ win0_7.index t (1 : Fin 4) = 63 - t.val ∧ win0_7.index t (2 : Fin 4) = 0 ∧ win0_7.index t (3 : Fin 4) = 0) :=
  (by decide +kernel : ∀ t : Fin grid0.N, _)

theorem idx_out : ∀ t : Fin cfg0.N,
    (win0_8.index t (0 : Fin 2) = 63 - t.val ∧ win0_8.index t (1 : Fin 2) = 0)
    ∧ (win0_9.index t (0 : Fin 2) = 63 - t.val ∧ win0_9.index t (1 : Fin 2) = 0)
    ∧ (win0_10.index t (0 : Fin 2) = 63 - t.val ∧ win0_10.index t (1 : Fin 2) = 0)
    ∧ (win0_11.index t (0 : Fin 2) = 63 - t.val ∧ win0_11.index t (1 : Fin 2) = 0)
    ∧ (win0_12.index t (0 : Fin 4) = 0 ∧ win0_12.index t (1 : Fin 4) = 63 - t.val ∧ win0_12.index t (2 : Fin 4) = 0 ∧ win0_12.index t (3 : Fin 4) = 0)
    ∧ (win0_13.index t (0 : Fin 4) = 0 ∧ win0_13.index t (1 : Fin 4) = 63 - t.val ∧ win0_13.index t (2 : Fin 4) = 0 ∧ win0_13.index t (3 : Fin 4) = 0) :=
  (by decide +kernel : ∀ t : Fin grid0.N, _)

/-- A grid point as a number below 64. -/
def pt (t : Fin cfg0.N) : Fin 64 := ⟨t.val, lt_of_lt_of_eq t.isLt N_0⟩

theorem emb0 (t : Fin cfg0.N) (q : Fin 4) (h : Fin 6) (i : Fin 64) (v : Fin 128) :
    ((cfg0.win 0).blk t).view.emb (ix2 (row q i) (col h v)) = ix2 (tok (nOf (pt t) q) i) (col h v) := by
  obtain ⟨⟨e0, e1⟩, _, _, _, _, _, _, _⟩ := idx_in t
  have := (pt t).isLt
  refine funext fun x => Fin.ext ?_
  match x with
  | ⟨0, _⟩ =>
    show win0_0.index t (0 : Fin 2) * 256 + 1 * (64 * q.val + i.val) = 64 * (4 * (63 - t.val) + q.val) + i.val
    rw [e0]
    omega
  | ⟨1, _⟩ =>
    show win0_0.index t (1 : Fin 2) * 768 + 1 * (128 * h.val + v.val) = 128 * h.val + v.val
    rw [e1]
    omega

theorem emb1 (t : Fin cfg0.N) (q : Fin 4) (h : Fin 6) (i : Fin 64) (v : Fin 128) :
    ((cfg0.win 1).blk t).view.emb (ix2 (row q i) (col h v)) = ix2 (tok (nOf (pt t) q) i) (col h v) := by
  obtain ⟨_, ⟨e0, e1⟩, _, _, _, _, _, _⟩ := idx_in t
  have := (pt t).isLt
  refine funext fun x => Fin.ext ?_
  match x with
  | ⟨0, _⟩ =>
    show win0_1.index t (0 : Fin 2) * 256 + 1 * (64 * q.val + i.val) = 64 * (4 * (63 - t.val) + q.val) + i.val
    rw [e0]
    omega
  | ⟨1, _⟩ =>
    show win0_1.index t (1 : Fin 2) * 768 + 1 * (128 * h.val + v.val) = 128 * h.val + v.val
    rw [e1]
    omega

theorem emb2 (t : Fin cfg0.N) (q : Fin 4) (h : Fin 6) (i : Fin 64) (v : Fin 128) :
    ((cfg0.win 2).blk t).view.emb (ix2 (row q i) (col h v)) = ix2 (tok (nOf (pt t) q) i) (col h v) := by
  obtain ⟨_, _, ⟨e0, e1⟩, _, _, _, _, _⟩ := idx_in t
  have := (pt t).isLt
  refine funext fun x => Fin.ext ?_
  match x with
  | ⟨0, _⟩ =>
    show win0_2.index t (0 : Fin 2) * 256 + 1 * (64 * q.val + i.val) = 64 * (4 * (63 - t.val) + q.val) + i.val
    rw [e0]
    omega
  | ⟨1, _⟩ =>
    show win0_2.index t (1 : Fin 2) * 768 + 1 * (128 * h.val + v.val) = 128 * h.val + v.val
    rw [e1]
    omega

theorem emb3 (t : Fin cfg0.N) (q : Fin 4) (h : Fin 6) (i : Fin 64) (v : Fin 128) :
    ((cfg0.win 3).blk t).view.emb (ix2 (row q i) (col h v)) = ix2 (tok (nOf (pt t) q) i) (col h v) := by
  obtain ⟨_, _, _, ⟨e0, e1⟩, _, _, _, _⟩ := idx_in t
  have := (pt t).isLt
  refine funext fun x => Fin.ext ?_
  match x with
  | ⟨0, _⟩ =>
    show win0_3.index t (0 : Fin 2) * 256 + 1 * (64 * q.val + i.val) = 64 * (4 * (63 - t.val) + q.val) + i.val
    rw [e0]
    omega
  | ⟨1, _⟩ =>
    show win0_3.index t (1 : Fin 2) * 768 + 1 * (128 * h.val + v.val) = 128 * h.val + v.val
    rw [e1]
    omega

theorem emb4 (t : Fin cfg0.N) (q : Fin 4) (h : Fin 6) (i j : Fin 64) :
    ((cfg0.win 4).blk t).view.emb (ix4 h q i j) = ix4 h (nOf (pt t) q) i j := by
  obtain ⟨_, _, _, _, ⟨e0, e1, e2, e3⟩, _, _, _⟩ := idx_in t
  refine funext fun x => Fin.ext ?_
  match x with
  | ⟨0, _⟩ => show win0_4.index t (0 : Fin 4) * 6 + 1 * h.val = h.val; rw [e0]; omega
  | ⟨1, _⟩ => show win0_4.index t (1 : Fin 4) * 4 + 1 * q.val = 4 * (63 - t.val) + q.val; rw [e1]; omega
  | ⟨2, _⟩ => show win0_4.index t (2 : Fin 4) * 64 + 1 * i.val = i.val; rw [e2]; omega
  | ⟨3, _⟩ => show win0_4.index t (3 : Fin 4) * 64 + 1 * j.val = j.val; rw [e3]; omega

theorem emb5 (t : Fin cfg0.N) (q : Fin 4) (h : Fin 6) (v : Fin 128) :
    ((cfg0.win 5).blk t).view.emb (ix4 h q (0 : Fin 1) v) = ix4 h (nOf (pt t) q) (0 : Fin 1) v := by
  obtain ⟨_, _, _, _, _, ⟨e0, e1, e2, e3⟩, _, _⟩ := idx_in t
  refine funext fun x => Fin.ext ?_
  match x with
  | ⟨0, _⟩ => show win0_5.index t (0 : Fin 4) * 6 + 1 * h.val = h.val; rw [e0]; omega
  | ⟨1, _⟩ => show win0_5.index t (1 : Fin 4) * 4 + 1 * q.val = 4 * (63 - t.val) + q.val; rw [e1]; omega
  | ⟨2, _⟩ => show win0_5.index t (2 : Fin 4) * 1 + 1 * 0 = 0; rw [e2]
  | ⟨3, _⟩ => show win0_5.index t (3 : Fin 4) * 128 + 1 * v.val = v.val; rw [e3]; omega

theorem emb6 (t : Fin cfg0.N) (q : Fin 4) (h : Fin 6) (i : Fin 64) (v : Fin 128) :
    ((cfg0.win 6).blk t).view.emb (ix2 (row q i) (col h v)) = ix2 (tok (nOf (pt t) q) i) (col h v) := by
  obtain ⟨_, _, _, _, _, _, ⟨e0, e1⟩, _⟩ := idx_in t
  have := (pt t).isLt
  refine funext fun x => Fin.ext ?_
  match x with
  | ⟨0, _⟩ =>
    show win0_6.index t (0 : Fin 2) * 256 + 1 * (64 * q.val + i.val) = 64 * (4 * (63 - t.val) + q.val) + i.val
    rw [e0]
    omega
  | ⟨1, _⟩ =>
    show win0_6.index t (1 : Fin 2) * 768 + 1 * (128 * h.val + v.val) = 128 * h.val + v.val
    rw [e1]
    omega

theorem emb7 (t : Fin cfg0.N) (q : Fin 4) (h : Fin 6) (k v : Fin 128) :
    ((cfg0.win 7).blk t).view.emb (ix4 h q k v) = ix4 h (nOf (pt t) q) k v := by
  obtain ⟨_, _, _, _, _, _, _, ⟨e0, e1, e2, e3⟩⟩ := idx_in t
  refine funext fun x => Fin.ext ?_
  match x with
  | ⟨0, _⟩ => show win0_7.index t (0 : Fin 4) * 6 + 1 * h.val = h.val; rw [e0]; omega
  | ⟨1, _⟩ => show win0_7.index t (1 : Fin 4) * 4 + 1 * q.val = 4 * (63 - t.val) + q.val; rw [e1]; omega
  | ⟨2, _⟩ => show win0_7.index t (2 : Fin 4) * 128 + 1 * k.val = k.val; rw [e2]; omega
  | ⟨3, _⟩ => show win0_7.index t (3 : Fin 4) * 128 + 1 * v.val = v.val; rw [e3]; omega

theorem emb8 (t : Fin cfg0.N) (q : Fin 4) (h : Fin 6) (i : Fin 64) (v : Fin 128) :
    ((cfg0.win 8).blk t).view.emb (ix2 (row q i) (col h v)) = ix2 (tok (nOf (pt t) q) i) (col h v) := by
  obtain ⟨⟨e0, e1⟩, _, _, _, _, _⟩ := idx_out t
  have := (pt t).isLt
  refine funext fun x => Fin.ext ?_
  match x with
  | ⟨0, _⟩ =>
    show win0_8.index t (0 : Fin 2) * 256 + 1 * (64 * q.val + i.val) = 64 * (4 * (63 - t.val) + q.val) + i.val
    rw [e0]
    omega
  | ⟨1, _⟩ =>
    show win0_8.index t (1 : Fin 2) * 768 + 1 * (128 * h.val + v.val) = 128 * h.val + v.val
    rw [e1]
    omega

theorem emb9 (t : Fin cfg0.N) (q : Fin 4) (h : Fin 6) (i : Fin 64) (v : Fin 128) :
    ((cfg0.win 9).blk t).view.emb (ix2 (row q i) (col h v)) = ix2 (tok (nOf (pt t) q) i) (col h v) := by
  obtain ⟨_, ⟨e0, e1⟩, _, _, _, _⟩ := idx_out t
  have := (pt t).isLt
  refine funext fun x => Fin.ext ?_
  match x with
  | ⟨0, _⟩ =>
    show win0_9.index t (0 : Fin 2) * 256 + 1 * (64 * q.val + i.val) = 64 * (4 * (63 - t.val) + q.val) + i.val
    rw [e0]
    omega
  | ⟨1, _⟩ =>
    show win0_9.index t (1 : Fin 2) * 768 + 1 * (128 * h.val + v.val) = 128 * h.val + v.val
    rw [e1]
    omega

theorem emb10 (t : Fin cfg0.N) (q : Fin 4) (h : Fin 6) (i : Fin 64) (v : Fin 128) :
    ((cfg0.win 10).blk t).view.emb (ix2 (row q i) (col h v)) = ix2 (tok (nOf (pt t) q) i) (col h v) := by
  obtain ⟨_, _, ⟨e0, e1⟩, _, _, _⟩ := idx_out t
  have := (pt t).isLt
  refine funext fun x => Fin.ext ?_
  match x with
  | ⟨0, _⟩ =>
    show win0_10.index t (0 : Fin 2) * 256 + 1 * (64 * q.val + i.val) = 64 * (4 * (63 - t.val) + q.val) + i.val
    rw [e0]
    omega
  | ⟨1, _⟩ =>
    show win0_10.index t (1 : Fin 2) * 768 + 1 * (128 * h.val + v.val) = 128 * h.val + v.val
    rw [e1]
    omega

theorem emb11 (t : Fin cfg0.N) (q : Fin 4) (h : Fin 6) (i : Fin 64) (v : Fin 128) :
    ((cfg0.win 11).blk t).view.emb (ix2 (row q i) (col h v)) = ix2 (tok (nOf (pt t) q) i) (col h v) := by
  obtain ⟨_, _, _, ⟨e0, e1⟩, _, _⟩ := idx_out t
  have := (pt t).isLt
  refine funext fun x => Fin.ext ?_
  match x with
  | ⟨0, _⟩ =>
    show win0_11.index t (0 : Fin 2) * 256 + 1 * (64 * q.val + i.val) = 64 * (4 * (63 - t.val) + q.val) + i.val
    rw [e0]
    omega
  | ⟨1, _⟩ =>
    show win0_11.index t (1 : Fin 2) * 768 + 1 * (128 * h.val + v.val) = 128 * h.val + v.val
    rw [e1]
    omega

theorem emb12 (t : Fin cfg0.N) (q : Fin 4) (h : Fin 6) (i j : Fin 64) :
    ((cfg0.win 12).blk t).view.emb (ix4 h q i j) = ix4 h (nOf (pt t) q) i j := by
  obtain ⟨_, _, _, _, ⟨e0, e1, e2, e3⟩, _⟩ := idx_out t
  refine funext fun x => Fin.ext ?_
  match x with
  | ⟨0, _⟩ => show win0_12.index t (0 : Fin 4) * 6 + 1 * h.val = h.val; rw [e0]; omega
  | ⟨1, _⟩ => show win0_12.index t (1 : Fin 4) * 4 + 1 * q.val = 4 * (63 - t.val) + q.val; rw [e1]; omega
  | ⟨2, _⟩ => show win0_12.index t (2 : Fin 4) * 64 + 1 * i.val = i.val; rw [e2]; omega
  | ⟨3, _⟩ => show win0_12.index t (3 : Fin 4) * 64 + 1 * j.val = j.val; rw [e3]; omega

theorem emb13 (t : Fin cfg0.N) (q : Fin 4) (h : Fin 6) (v : Fin 128) :
    ((cfg0.win 13).blk t).view.emb (ix4 h q (0 : Fin 1) v) = ix4 h (nOf (pt t) q) (0 : Fin 1) v := by
  obtain ⟨_, _, _, _, _, ⟨e0, e1, e2, e3⟩⟩ := idx_out t
  refine funext fun x => Fin.ext ?_
  match x with
  | ⟨0, _⟩ => show win0_13.index t (0 : Fin 4) * 6 + 1 * h.val = h.val; rw [e0]; omega
  | ⟨1, _⟩ => show win0_13.index t (1 : Fin 4) * 4 + 1 * q.val = 4 * (63 - t.val) + q.val; rw [e1]; omega
  | ⟨2, _⟩ => show win0_13.index t (2 : Fin 4) * 1 + 1 * 0 = 0; rw [e2]
  | ⟨3, _⟩ => show win0_13.index t (3 : Fin 4) * 128 + 1 * v.val = v.val; rw [e3]; omega

/-- What grid point `t` reads, with the cotangent `s` that it starts from. -/
def blocksAt (t : Fin cfg0.N) (s : Vec Ideal S6x128x128 .f32) : Blocks Ideal :=
  ⟨iblk m c 0 t, iblk m c 1 t, iblk m c 2 t, iblk m c 3 t, iblk m c 4 t, iblk m c 5 t, iblk m c 6 t, iblk m c 7 t, s⟩

theorem reads (t : Fin cfg0.N) (s : Vec Ideal S6x128x128 .f32)
    (hs : ∀ h k v, s (ix3 h k v) = (argsOf m c).D (4 * t.val) h k v) : Reads (argsOf m c) (pt t) (blocksAt m c t s) where
  dout q h i v := by
    show V m c main_arg0 (((cfg0.win 0).blk t).view.emb _) = _
    rw [emb0, V_main_arg0]; rfl
  w q h i v := by
    show V m c main_arg2 (((cfg0.win 1).blk t).view.emb _) = _
    rw [emb1, V_main_arg2]; rfl
  qd q h i v := by
    show V m c main_arg3 (((cfg0.win 2).blk t).view.emb _) = _
    rw [emb2, V_main_arg3]; rfl
  kd q h i v := by
    show V m c main_arg4 (((cfg0.win 3).blk t).view.emb _) = _
    rw [emb3, V_main_arg4]; rfl
  intra q h i j := by
    show V m c main_arg5 (((cfg0.win 4).blk t).view.emb _) = _
    rw [emb4, V_main_arg5]; rfl
  cd q h v := by
    show V m c main_v2 (((cfg0.win 5).blk t).view.emb _) = _
    rw [emb5, V_decay]; exact hostDecay_at _ _ _ _
  vn q h i v := by
    show V m c main_v14 (((cfg0.win 6).blk t).view.emb _) = _
    rw [emb6, V_new]; exact hostNew_at _ _ _ _ _ _ _
  st q h k v := by
    show V m c main_arg7 (((cfg0.win 7).blk t).view.emb _) = _
    rw [emb7, V_main_arg7]; rfl
  s := hs

end Cert.Proof
-- ==== Proof.KernelRunA.lean ====
/- The pieces the kernel's body stores at the first grid point, where the carried cotangent is zeroed first, and the
   blocks they make up. -/
module

public import proofs.«01_k».proof.Proof.KernelBlock

@[expose] public section

set_option maxRecDepth 16384

noncomputable section

namespace Cert.Proof

open Cert.KernelIdeal Cert.KernelIdeal.Gen
open Idealize.ShloMosaic Idealize.ShloMosaic.TcCoe Idealize.ShloMosaic.Pointwise Idealize.ShloMosaic.StableHlo

variable {F : FTy → Type} [FloatOps F]

section Run

variable (c : Dev nD) (i : grid0.Coords) (arg1 : Memref sig .tc .vmem S256x768 .f32) (harg1 : arg1.IsWhole)
    (arg2 : Memref sig .tc .vmem S256x768 .bf16) (harg2 : arg2.IsWhole) (arg3 : Memref sig .tc .vmem S256x768 .bf16)
    (harg3 : arg3.IsWhole) (arg4 : Memref sig .tc .vmem S256x768 .bf16) (harg4 : arg4.IsWhole)
    (arg5 : Memref sig .tc .vmem S6x4x64x64 .bf16) (harg5 : arg5.IsWhole) (arg6 : Memref sig .tc .vmem S6x4x1x128 .f32)
    (harg6 : arg6.IsWhole) (arg7 : Memref sig .tc .vmem S256x768 .bf16) (harg7 : arg7.IsWhole)
    (arg8 : Memref sig .tc .vmem S6x4x128x128 .bf16) (harg8 : arg8.IsWhole) (arg9 : Memref sig .tc .vmem S256x768 .f32)
    (harg9 : arg9.IsWhole) (arg10 : Memref sig .tc .vmem S256x768 .f32) (harg10 : arg10.IsWhole)
    (arg11 : Memref sig .tc .vmem S256x768 .f32) (harg11 : arg11.IsWhole) (arg12 : Memref sig .tc .vmem S256x768 .f32)
    (harg12 : arg12.IsWhole) (arg13 : Memref sig .tc .vmem S6x4x64x64 .f32) (harg13 : arg13.IsWhole)
    (arg14 : Memref sig .tc .vmem S6x4x1x128 .f32) (harg14 : arg14.IsWhole) (arg15 : Memref sig .tc .vmem S6x128x128 .f32)
    (harg15 : arg15.IsWhole)
    (x0 : Vec F S256x768 .f32) (x1 : Vec F S256x768 .bf16) (x2 : Vec F S256x768 .bf16) (x3 : Vec F S256x768 .bf16)
    (x4 : Vec F S6x4x64x64 .bf16) (x5 : Vec F S6x4x1x128 .f32) (x6 : Vec F S256x768 .bf16) (x7 : Vec F S6x4x128x128 .bf16)
    (xs0 : Vec F S6x128x128 .f32)

set_option maxHeartbeats 4000000

theorem pieces8_A (hc0 : cond0_0 i) (b : Blocks F) (hb : b = ⟨x0, x1, x2, x3, x4, x5, x6, x7, k0_pay7⟩) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 =
      order.map fun p => ⟨Blocks.rT p.1 p.2, b.dvV p.1 p.2 (b.afterV p.1 p.2)⟩ := by
  subst hb
  unfold kernelRun0_A
  dsimp only
  sl_unfold_words
  simp only [View.readAt_eq_ld, readCov_whole, harg1.read_unread, harg2.read_unread, harg3.read_unread, harg4.read_unread, harg5.read_unread, harg6.read_unread, harg7.read_unread, harg8.read_unread, harg15.read_unread]
  rfl

theorem block8_A (hc0 : cond0_0 i) (b : Blocks F) (hb : b = ⟨x0, x1, x2, x3, x4, x5, x6, x7, k0_pay7⟩)
    (G : Vec F S256x768 .f32) (hG : ∀ c h i v, b.dvV c h (b.afterV c h) (ix2 i v) = G (ix2 (row c i) (col h v))) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = G := by
  unfold out0_A_8
  rw [View.read_writes_junk_eq_canon, pieces8_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0 b hb]
  exact canonT (fun c h => b.dvV c h (b.afterV c h)) G hG

theorem pieces9_A (hc0 : cond0_0 i) (b : Blocks F) (hb : b = ⟨x0, x1, x2, x3, x4, x5, x6, x7, k0_pay7⟩) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 =
      order.map fun p => ⟨Blocks.rT p.1 p.2, b.dwV p.1 p.2 (b.afterV p.1 p.2)⟩ := by
  subst hb
  unfold kernelRun0_A
  dsimp only
  sl_unfold_words
  simp only [View.readAt_eq_ld, readCov_whole, harg1.read_unread, harg2.read_unread, harg3.read_unread, harg4.read_unread, harg5.read_unread, harg6.read_unread, harg7.read_unread, harg8.read_unread, harg15.read_unread]
  rfl

theorem block9_A (hc0 : cond0_0 i) (b : Blocks F) (hb : b = ⟨x0, x1, x2, x3, x4, x5, x6, x7, k0_pay7⟩)
    (G : Vec F S256x768 .f32) (hG : ∀ c h i v, b.dwV c h (b.afterV c h) (ix2 i v) = G (ix2 (row c i) (col h v))) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = G := by
  unfold out0_A_9
  rw [View.read_writes_junk_eq_canon, pieces9_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0 b hb]
  exact canonT (fun c h => b.dwV c h (b.afterV c h)) G hG

theorem pieces10_A (hc0 : cond0_0 i) (b : Blocks F) (hb : b = ⟨x0, x1, x2, x3, x4, x5, x6, x7, k0_pay7⟩) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 =
      order.map fun p => ⟨Blocks.rT p.1 p.2, b.dqdV p.1 p.2⟩ := by
  subst hb
  unfold kernelRun0_A
  dsimp only
  sl_unfold_words
  simp only [View.readAt_eq_ld, readCov_whole, harg1.read_unread, harg2.read_unread, harg3.read_unread, harg4.read_unread, harg5.read_unread, harg6.read_unread, harg7.read_unread, harg8.read_unread, harg15.read_unread]
  rfl

theorem block10_A (hc0 : cond0_0 i) (b : Blocks F) (hb : b = ⟨x0, x1, x2, x3, x4, x5, x6, x7, k0_pay7⟩)
    (G : Vec F S256x768 .f32) (hG : ∀ c h i v, b.dqdV c h (ix2 i v) = G (ix2 (row c i) (col h v))) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = G := by
  unfold out0_A_10
  rw [View.read_writes_junk_eq_canon, pieces10_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0 b hb]
  exact canonT (fun c h => b.dqdV c h) G hG

theorem pieces11_A (hc0 : cond0_0 i) (b : Blocks F) (hb : b = ⟨x0, x1, x2, x3, x4, x5, x6, x7, k0_pay7⟩) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1 =
      order.map fun p => ⟨Blocks.rT p.1 p.2, b.dkdV p.1 p.2 (b.afterV p.1 p.2)⟩ := by
  subst hb
  unfold kernelRun0_A
  dsimp only
  sl_unfold_words
  simp only [View.readAt_eq_ld, readCov_whole, harg1.read_unread, harg2.read_unread, harg3.read_unread, harg4.read_unread, harg5.read_unread, harg6.read_unread, harg7.read_unread, harg8.read_unread, harg15.read_unread]
  rfl

theorem block11_A (hc0 : cond0_0 i) (b : Blocks F) (hb : b = ⟨x0, x1, x2, x3, x4, x5, x6, x7, k0_pay7⟩)
    (G : Vec F S256x768 .f32) (hG : ∀ c h i v, b.dkdV c h (b.afterV c h) (ix2 i v) = G (ix2 (row c i) (col h v))) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = G := by
  unfold out0_A_11
  rw [View.read_writes_junk_eq_canon, pieces11_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0 b hb]
  exact canonT (fun c h => b.dkdV c h (b.afterV c h)) G hG

theorem pieces12_A (hc0 : cond0_0 i) (b : Blocks F) (hb : b = ⟨x0, x1, x2, x3, x4, x5, x6, x7, k0_pay7⟩) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1 =
      order.map fun p => ⟨Blocks.rQ p.1 p.2, b.dintraV p.1 p.2⟩ := by
  subst hb
  unfold kernelRun0_A
  dsimp only
  sl_unfold_words
  simp only [View.readAt_eq_ld, readCov_whole, harg1.read_unread, harg2.read_unread, harg3.read_unread, harg4.read_unread, harg5.read_unread, harg6.read_unread, harg7.read_unread, harg8.read_unread, harg15.read_unread]
  rfl

theorem block12_A (hc0 : cond0_0 i) (b : Blocks F) (hb : b = ⟨x0, x1, x2, x3, x4, x5, x6, x7, k0_pay7⟩)
    (G : Vec F S6x4x64x64 .f32) (hG : ∀ c h i j, b.dintraV c h (ix4 (0 : Fin 1) (0 : Fin 1) i j) = G (ix4 h c i j)) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = G := by
  unfold out0_A_12
  rw [View.read_writes_junk_eq_canon, pieces12_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0 b hb]
  exact canonQ (fun c h => b.dintraV c h) G hG

theorem pieces13_A (hc0 : cond0_0 i) (b : Blocks F) (hb : b = ⟨x0, x1, x2, x3, x4, x5, x6, x7, k0_pay7⟩) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1 =
      order.map fun p => ⟨Blocks.rL p.1 p.2, b.dglV p.1 p.2 (b.afterV p.1 p.2)⟩ := by
  subst hb
  unfold kernelRun0_A
  dsimp only
  sl_unfold_words
  simp only [View.readAt_eq_ld, readCov_whole, harg1.read_unread, harg2.read_unread, harg3.read_unread, harg4.read_unread, harg5.read_unread, harg6.read_unread, harg7.read_unread, harg8.read_unread, harg15.read_unread]
  rfl

theorem block13_A (hc0 : cond0_0 i) (b : Blocks F) (hb : b = ⟨x0, x1, x2, x3, x4, x5, x6, x7, k0_pay7⟩)
    (G : Vec F S6x4x1x128 .f32) (hG : ∀ c h v, b.dglV c h (b.afterV c h) (ix4 (0 : Fin 1) (0 : Fin 1) (0 : Fin 1) v) = G (ix4 h c (0 : Fin 1) v)) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = G := by
  unfold out0_A_13
  rw [View.read_writes_junk_eq_canon, pieces13_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0 b hb]
  exact canonL (fun c h => b.dglV c h (b.afterV c h)) G hG

theorem piecesS_A (hc0 : cond0_0 i) (b : Blocks F) (hb : b = ⟨x0, x1, x2, x3, x4, x5, x6, x7, k0_pay7⟩) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1 =
      ([5, 4, 3, 2, 1, 0].map fun h : Fin 6 =>
        ⟨Blocks.rD h, shapeCast S1x128x128 (b.stateV 4 h) shapeCasts_S128x128_S1x128x128⟩) ++ [⟨.unit ![0, 0, 0] S6x128x128.size inb_S6x128x128_S6x128x128_0_0_0, k0_pay7⟩] := by
  subst hb
  unfold kernelRun0_A
  dsimp only
  sl_unfold_words
  simp only [View.readAt_eq_ld, readCov_whole, harg1.read_unread, harg2.read_unread, harg3.read_unread, harg4.read_unread, harg5.read_unread, harg6.read_unread, harg7.read_unread, harg8.read_unread, harg15.read_unread]
  rfl

theorem blockS_A (hc0 : cond0_0 i) (b : Blocks F) (hb : b = ⟨x0, x1, x2, x3, x4, x5, x6, x7, k0_pay7⟩)
    (G : Vec F S6x128x128 .f32)
    (hG : ∀ h k v, shapeCast S1x128x128 (b.stateV 4 h) shapeCasts_S128x128_S1x128x128 (ix3 (0 : Fin 1) k v) = G (ix3 h k v)) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = G := by
  unfold sout0_A_0
  rw [View.read_writes_junk_eq_canon, piecesS_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0 b hb]
  exact canonD (fun h => shapeCast S1x128x128 (b.stateV 4 h) shapeCasts_S128x128_S1x128x128) G _ hG

end Run

end Cert.Proof
-- ==== Proof.KernelRunB.lean ====
/- The pieces the kernel's body stores at a grid point other than the first, and the
   blocks they make up. -/
module

public import proofs.«01_k».proof.Proof.KernelBlock

@[expose] public section

set_option maxRecDepth 16384

noncomputable section

namespace Cert.Proof

open Cert.KernelIdeal Cert.KernelIdeal.Gen
open Idealize.ShloMosaic Idealize.ShloMosaic.TcCoe Idealize.ShloMosaic.Pointwise Idealize.ShloMosaic.StableHlo

variable {F : FTy → Type} [FloatOps F]

section Run

variable (c : Dev nD) (i : grid0.Coords) (arg1 : Memref sig .tc .vmem S256x768 .f32) (harg1 : arg1.IsWhole)
    (arg2 : Memref sig .tc .vmem S256x768 .bf16) (harg2 : arg2.IsWhole) (arg3 : Memref sig .tc .vmem S256x768 .bf16)
    (harg3 : arg3.IsWhole) (arg4 : Memref sig .tc .vmem S256x768 .bf16) (harg4 : arg4.IsWhole)
    (arg5 : Memref sig .tc .vmem S6x4x64x64 .bf16) (harg5 : arg5.IsWhole) (arg6 : Memref sig .tc .vmem S6x4x1x128 .f32)
    (harg6 : arg6.IsWhole) (arg7 : Memref sig .tc .vmem S256x768 .bf16) (harg7 : arg7.IsWhole)
    (arg8 : Memref sig .tc .vmem S6x4x128x128 .bf16) (harg8 : arg8.IsWhole) (arg9 : Memref sig .tc .vmem S256x768 .f32)
    (harg9 : arg9.IsWhole) (arg10 : Memref sig .tc .vmem S256x768 .f32) (harg10 : arg10.IsWhole)
    (arg11 : Memref sig .tc .vmem S256x768 .f32) (harg11 : arg11.IsWhole) (arg12 : Memref sig .tc .vmem S256x768 .f32)
    (harg12 : arg12.IsWhole) (arg13 : Memref sig .tc .vmem S6x4x64x64 .f32) (harg13 : arg13.IsWhole)
    (arg14 : Memref sig .tc .vmem S6x4x1x128 .f32) (harg14 : arg14.IsWhole) (arg15 : Memref sig .tc .vmem S6x128x128 .f32)
    (harg15 : arg15.IsWhole)
    (x0 : Vec F S256x768 .f32) (x1 : Vec F S256x768 .bf16) (x2 : Vec F S256x768 .bf16) (x3 : Vec F S256x768 .bf16)
    (x4 : Vec F S6x4x64x64 .bf16) (x5 : Vec F S6x4x1x128 .f32) (x6 : Vec F S256x768 .bf16) (x7 : Vec F S6x4x128x128 .bf16)
    (xs0 : Vec F S6x128x128 .f32)

set_option maxHeartbeats 4000000

theorem pieces8_B (hc0 : ¬cond0_0 i) (b : Blocks F) (hb : b = ⟨x0, x1, x2, x3, x4, x5, x6, x7, xs0⟩) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1 =
      order.map fun p => ⟨Blocks.rT p.1 p.2, b.dvV p.1 p.2 (b.afterV p.1 p.2)⟩ := by
  subst hb
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  rfl

theorem block8_B (hc0 : ¬cond0_0 i) (b : Blocks F) (hb : b = ⟨x0, x1, x2, x3, x4, x5, x6, x7, xs0⟩)
    (G : Vec F S256x768 .f32) (hG : ∀ c h i v, b.dvV c h (b.afterV c h) (ix2 i v) = G (ix2 (row c i) (col h v))) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = G := by
  unfold out0_B_8
  rw [View.read_writes_junk_eq_canon, pieces8_B c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 hc0 b hb]
  exact canonT (fun c h => b.dvV c h (b.afterV c h)) G hG

theorem pieces9_B (hc0 : ¬cond0_0 i) (b : Blocks F) (hb : b = ⟨x0, x1, x2, x3, x4, x5, x6, x7, xs0⟩) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1 =
      order.map fun p => ⟨Blocks.rT p.1 p.2, b.dwV p.1 p.2 (b.afterV p.1 p.2)⟩ := by
  subst hb
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  rfl

theorem block9_B (hc0 : ¬cond0_0 i) (b : Blocks F) (hb : b = ⟨x0, x1, x2, x3, x4, x5, x6, x7, xs0⟩)
    (G : Vec F S256x768 .f32) (hG : ∀ c h i v, b.dwV c h (b.afterV c h) (ix2 i v) = G (ix2 (row c i) (col h v))) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = G := by
  unfold out0_B_9
  rw [View.read_writes_junk_eq_canon, pieces9_B c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 hc0 b hb]
  exact canonT (fun c h => b.dwV c h (b.afterV c h)) G hG

theorem pieces10_B (hc0 : ¬cond0_0 i) (b : Blocks F) (hb : b = ⟨x0, x1, x2, x3, x4, x5, x6, x7, xs0⟩) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1 =
      order.map fun p => ⟨Blocks.rT p.1 p.2, b.dqdV p.1 p.2⟩ := by
  subst hb
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  rfl

theorem block10_B (hc0 : ¬cond0_0 i) (b : Blocks F) (hb : b = ⟨x0, x1, x2, x3, x4, x5, x6, x7, xs0⟩)
    (G : Vec F S256x768 .f32) (hG : ∀ c h i v, b.dqdV c h (ix2 i v) = G (ix2 (row c i) (col h v))) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = G := by
  unfold out0_B_10
  rw [View.read_writes_junk_eq_canon, pieces10_B c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 hc0 b hb]
  exact canonT (fun c h => b.dqdV c h) G hG

theorem pieces11_B (hc0 : ¬cond0_0 i) (b : Blocks F) (hb : b = ⟨x0, x1, x2, x3, x4, x5, x6, x7, xs0⟩) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1 =
      order.map fun p => ⟨Blocks.rT p.1 p.2, b.dkdV p.1 p.2 (b.afterV p.1 p.2)⟩ := by
  subst hb
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  rfl

theorem block11_B (hc0 : ¬cond0_0 i) (b : Blocks F) (hb : b = ⟨x0, x1, x2, x3, x4, x5, x6, x7, xs0⟩)
    (G : Vec F S256x768 .f32) (hG : ∀ c h i v, b.dkdV c h (b.afterV c h) (ix2 i v) = G (ix2 (row c i) (col h v))) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = G := by
  unfold out0_B_11
  rw [View.read_writes_junk_eq_canon, pieces11_B c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 hc0 b hb]
  exact canonT (fun c h => b.dkdV c h (b.afterV c h)) G hG

theorem pieces12_B (hc0 : ¬cond0_0 i) (b : Blocks F) (hb : b = ⟨x0, x1, x2, x3, x4, x5, x6, x7, xs0⟩) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1 =
      order.map fun p => ⟨Blocks.rQ p.1 p.2, b.dintraV p.1 p.2⟩ := by
  subst hb
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  rfl

theorem block12_B (hc0 : ¬cond0_0 i) (b : Blocks F) (hb : b = ⟨x0, x1, x2, x3, x4, x5, x6, x7, xs0⟩)
    (G : Vec F S6x4x64x64 .f32) (hG : ∀ c h i j, b.dintraV c h (ix4 (0 : Fin 1) (0 : Fin 1) i j) = G (ix4 h c i j)) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = G := by
  unfold out0_B_12
  rw [View.read_writes_junk_eq_canon, pieces12_B c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 hc0 b hb]
  exact canonQ (fun c h => b.dintraV c h) G hG

theorem pieces13_B (hc0 : ¬cond0_0 i) (b : Blocks F) (hb : b = ⟨x0, x1, x2, x3, x4, x5, x6, x7, xs0⟩) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1 =
      order.map fun p => ⟨Blocks.rL p.1 p.2, b.dglV p.1 p.2 (b.afterV p.1 p.2)⟩ := by
  subst hb
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  rfl

theorem block13_B (hc0 : ¬cond0_0 i) (b : Blocks F) (hb : b = ⟨x0, x1, x2, x3, x4, x5, x6, x7, xs0⟩)
    (G : Vec F S6x4x1x128 .f32) (hG : ∀ c h v, b.dglV c h (b.afterV c h) (ix4 (0 : Fin 1) (0 : Fin 1) (0 : Fin 1) v) = G (ix4 h c (0 : Fin 1) v)) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = G := by
  unfold out0_B_13
  rw [View.read_writes_junk_eq_canon, pieces13_B c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 hc0 b hb]
  exact canonL (fun c h => b.dglV c h (b.afterV c h)) G hG

theorem piecesS_B (hc0 : ¬cond0_0 i) (b : Blocks F) (hb : b = ⟨x0, x1, x2, x3, x4, x5, x6, x7, xs0⟩) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.2.1 =
      ([5, 4, 3, 2, 1, 0].map fun h : Fin 6 =>
        ⟨Blocks.rD h, shapeCast S1x128x128 (b.stateV 4 h) shapeCasts_S128x128_S1x128x128⟩) := by
  subst hb
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  rfl

theorem blockS_B (hc0 : ¬cond0_0 i) (b : Blocks F) (hb : b = ⟨x0, x1, x2, x3, x4, x5, x6, x7, xs0⟩)
    (G : Vec F S6x128x128 .f32)
    (hG : ∀ h k v, shapeCast S1x128x128 (b.stateV 4 h) shapeCasts_S128x128_S1x128x128 (ix3 (0 : Fin 1) k v) = G (ix3 h k v)) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = G := by
  unfold sout0_B_0
  rw [View.read_writes_junk_eq_canon, piecesS_B c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0 hc0 b hb]
  exact canonD (fun h => shapeCast S1x128x128 (b.stateV 4 h) shapeCasts_S128x128_S1x128x128) G [] hG

end Run

end Cert.Proof
-- ==== Proof.KernelFinal.lean ====
/- The kernel's results: the recurrence's values, if the arguments are finite. -/
module

public import proofs.«01_k».proof.Proof.KernelHost
public import proofs.«01_k».proof.Proof.KernelRunA
public import proofs.«01_k».proof.Proof.KernelRunB

@[expose] public section

set_option maxRecDepth 16384

noncomputable section

namespace Cert.Proof

open Cert.KernelIdeal Cert.KernelIdeal.Gen Cert.KernelIdeal.Value
open Idealize.ShloMosaic Idealize.ShloMosaic.TcCoe Idealize.ShloMosaic.Pointwise Idealize.ShloMosaic.StableHlo

variable (m : (ℓ : Loc nD τ sig) → Buf (Elt Ideal) ℓ) (c : Dev nD) (hI : (argsOf m c).Finite)

/-- The cotangent of the state after `j` chunks as an array. -/
def stateArr (I : Inputs) (j : ℕ) : Vec Ideal S6x128x128 .f32 := fun y => I.D j (y 0) (y 1) (y 2)

/-- The gradients as arrays. -/
def tokArr (f : Fin 256 → Fin 6 → Fin 64 → Fin 128 → EReal) : Vec Ideal S16384x768 .f32 := fun y =>
  f ⟨(y 0).val / 64, by have := (y 0).isLt; replace this : (y 0).val < 16384 := this; omega⟩
    ⟨(y 1).val / 128, by have := (y 1).isLt; replace this : (y 1).val < 768 := this; omega⟩
    ⟨(y 0).val % 64, by omega⟩ ⟨(y 1).val % 128, by omega⟩
def sqArr (f : Fin 256 → Fin 6 → Fin 64 → Fin 64 → EReal) : Vec Ideal S6x256x64x64 .f32 := fun y => f (y 1) (y 0) (y 2) (y 3)
def laneArr (f : Fin 256 → Fin 6 → EReal) : Vec Ideal S6x256x1x128 .f32 := fun y => f (y 1) (y 0)

theorem tokArr_at (f : Fin 256 → Fin 6 → Fin 64 → Fin 128 → EReal) (n : Fin 256) (h : Fin 6) (i : Fin 64) (v : Fin 128) :
    tokArr f (ix2 (tok n i) (col h v)) = f n h i v := by
  have e1 : (⟨(tok n i).val / 64, by omega⟩ : Fin 256) = n := Fin.ext (by show (64 * n.val + i.val) / 64 = n.val; omega)
  have e2 : (⟨(tok n i).val % 64, by omega⟩ : Fin 64) = i := Fin.ext (by show (64 * n.val + i.val) % 64 = i.val; omega)
  have e3 : (⟨(col h v).val / 128, by omega⟩ : Fin 6) = h := Fin.ext (by show (128 * h.val + v.val) / 128 = h.val; omega)
  have e4 : (⟨(col h v).val % 128, by omega⟩ : Fin 128) = v := Fin.ext (by show (128 * h.val + v.val) % 128 = v.val; omega)
  show f ⟨(tok n i).val / 64, _⟩ ⟨(col h v).val / 128, _⟩ ⟨(tok n i).val % 64, _⟩ ⟨(col h v).val % 128, _⟩ = _
  simp only [e1, e2, e3, e4]

theorem sqArr_at (f : Fin 256 → Fin 6 → Fin 64 → Fin 64 → EReal) (n : Fin 256) (h : Fin 6) (i j : Fin 64) :
    sqArr f (ix4 h n i j) = f n h i j := rfl

theorem laneArr_at (f : Fin 256 → Fin 6 → EReal) (n : Fin 256) (h : Fin 6) (v : Fin 128) :
    laneArr f (ix4 h n (0 : Fin 1) v) = f n h := rfl

/-- Two arrays over the tokens that agree at each chunk, head and position are the same. -/
theorem tok_ext {f g : Vec Ideal S16384x768 .f32}
    (e : ∀ n h i v, f (ix2 (tok n i) (col h v)) = g (ix2 (tok n i) (col h v))) : f = g := by
  funext y
  obtain ⟨r, l, rfl⟩ : ∃ r l, y = ix2 r l := ⟨y 0, y 1, (ix2_eta y).symm⟩
  have e' : ix2 r l = ix2 (tok ⟨r.val / 64, by omega⟩ ⟨r.val % 64, by omega⟩) (col ⟨l.val / 128, by omega⟩ ⟨l.val % 128, by omega⟩) :=
    congrArg₂ ix2 (Fin.ext (show r.val = 64 * (r.val / 64) + r.val % 64 by omega))
      (Fin.ext (show l.val = 128 * (l.val / 128) + l.val % 128 by omega))
  rw [e']
  exact e _ _ _ _

theorem zero_reads (t : Fin cfg0.N) (h0 : t.val % 64 = 0) (h : Fin 6) (k v : Fin 128) :
    (k0_pay7 (F := Ideal)) (ix3 h k v) = (argsOf m c).D (4 * t.val) h k v := by
  have ht : t.val = 0 := by have := (pt t).isLt; replace this : t.val < 64 := this; omega
  rw [zeros_at, ht]
  rfl

section
include hI

/-- The cotangent that point `n` leaves. -/
theorem scratch_after : ∀ (n : ℕ) (hn : n < cfg0.N),
    (outsAt0 m c n hn).2.2.2.2.2.2 = stateArr (argsOf m c) (4 * (n + 1)) := by
  intro n
  induction n with
  | zero =>
    intro hn
    rw [outsAt0_A m c ⟨0, hn⟩ (Nat.zero_mod _)]
    dsimp only
    refine blockS_A _ _ _ _ _ _ _ _ _ _ _ _ _ _ _ _ _ _ _ _ _ _ _ _ _ _ _ _ _ _ _ _ _ _ _ _ _ _ _ _ _
      (blocksAt m c ⟨0, hn⟩ (k0_pay7 (F := Ideal))) ?_ _ fun h k v => ?_
    · rfl
    rw [stored_at]
    exact (reads m c ⟨0, hn⟩ (k0_pay7 (F := Ideal)) (zero_reads m c ⟨0, hn⟩ (Nat.zero_mod _))).state hI 4 (le_refl _) h k v
  | succ n ih =>
    intro hn
    have hn' : ¬(n + 1) % 64 = 0 := by have := lt_of_lt_of_eq hn N_0; omega
    rw [outsAt0_B m c ⟨n + 1, hn⟩ hn']
    dsimp only
    refine blockS_B _ _ _ _ _ _ _ _ _ _ _ _ _ _ _ _ _ _ _ _ _ _ _ _ _ _ _ _ _ _ _ _ _ _ _ _ _ _ _ _ _ _
      (blocksAt m c ⟨n + 1, hn⟩ (outsAt0 m c n (Nat.lt_of_succ_lt hn)).2.2.2.2.2.2) ?_ _ fun h k v => ?_
    · rfl
    rw [stored_at]
    exact (reads m c ⟨n + 1, hn⟩ _ fun h k v => congrFun (ih (Nat.lt_of_succ_lt hn)) (ix3 h k v)).state hI 4 (le_refl _) h k v

theorem before_reads (t : Fin cfg0.N) (h0 : ¬t.val % 64 = 0) (h : Fin 6) (k v : Fin 128) :
    (outsAt0 m c (t.val - 1) (Nat.lt_of_le_of_lt (Nat.sub_le _ _) t.isLt)).2.2.2.2.2.2 (ix3 h k v) =
      (argsOf m c).D (4 * t.val) h k v := by
  have ht : t.val - 1 + 1 = t.val := by omega
  rw [scratch_after m c hI, ht]
  rfl

/-- The point that handles chunk `n`, and the chunk's place in its block. -/
def ptOf (n : Fin 256) : Fin cfg0.N := ⟨63 - n.val / 4, by rw [show cfg0.N = 64 from N_0]; omega⟩
def place (n : Fin 256) : Fin 4 := ⟨n.val % 4, by omega⟩

omit hI in
theorem nOf_place (n : Fin 256) : nOf (pt (ptOf n)) (place n) = n :=
  Fin.ext (by show 4 * (63 - (63 - n.val / 4)) + n.val % 4 = n.val; omega)

theorem out8 (t : Fin cfg0.N) :
    (outsAt0 m c t.val t.isLt).1 = fun y => tokArr (argsOf m c).du (((cfg0.win 8).blk t).view.emb y) := by
  by_cases h0 : t.val % 64 = 0
  · rw [outsAt0_A m c t h0]
    dsimp only
    refine block8_A _ _ _ _ _ _ _ _ _ _ _ _ _ _ _ _ _ _ _ _ _ _ _ _ _ _ _ _ _ _ _ _ _ _ _ _ _ _ _ _ _
      (blocksAt m c t (k0_pay7 (F := Ideal))) ?_ _ fun q h i v => ?_
    · rfl
    exact ((reads m c t _ (zero_reads m c t h0)).du hI q h i v).trans ((tokArr_at _ _ _ _ _).symm.trans (congrArg (tokArr _) (emb8 t q h i v).symm))
  · rw [outsAt0_B m c t h0]
    dsimp only
    refine block8_B _ _ _ _ _ _ _ _ _ _ _ _ _ _ _ _ _ _ _ _ _ _ _ _ _ _ _ _ _ _ _ _ _ _ _ _ _ _ _ _ _ _
      (blocksAt m c t (outsAt0 m c (t.val - 1) (Nat.lt_of_le_of_lt (Nat.sub_le _ _) t.isLt)).2.2.2.2.2.2) ?_ _ fun q h i v => ?_
    · rfl
    exact ((reads m c t _ (before_reads m c hI t h0)).du hI q h i v).trans ((tokArr_at _ _ _ _ _).symm.trans (congrArg (tokArr _) (emb8 t q h i v).symm))

omit hI in
theorem flush_out8 : ∀ t : Fin cfg0.N, (cfg0.win 8).flush t = true := (by decide +kernel : ∀ t : Fin grid0.N, _)

omit hI in
theorem cover8 (y : S16384x768.Idx) :
    ∃ t : Fin cfg0.N, (cfg0.win 8).flush t = true ∧ y ∈ ((cfg0.win 8).blk t).view.set := by
  obtain ⟨r, l, rfl⟩ : ∃ r l, y = ix2 r l := ⟨y 0, y 1, (ix2_eta y).symm⟩
  have e := emb8 (ptOf ⟨r.val / 64, by omega⟩) (place ⟨r.val / 64, by omega⟩) ⟨l.val / 128, by omega⟩ ⟨r.val % 64, by omega⟩
    ⟨l.val % 128, by omega⟩
  rw [nOf_place] at e
  have e' : ix2 (tok ⟨r.val / 64, by omega⟩ ⟨r.val % 64, by omega⟩) (col ⟨l.val / 128, by omega⟩ ⟨l.val % 128, by omega⟩) = ix2 r l :=
    congrArg₂ ix2 (Fin.ext (show 64 * (r.val / 64) + r.val % 64 = r.val by omega))
      (Fin.ext (show 128 * (l.val / 128) + l.val % 128 = l.val by omega))
  refine ⟨ptOf ⟨r.val / 64, by omega⟩, flush_out8 _, ?_⟩
  rw [← e', ← e]
  exact View.emb_mem_set _ _

theorem final8 : (dats m 0 c).arrAt 8 cfg0.N = tokArr (argsOf m c).du := by
  refine (dats m 0 c).arrAt_eq_of_cover 8 _ (fun t _ => ?_) cover8
  rw [flushed8, out8 m c hI t]
  rfl

theorem out9 (t : Fin cfg0.N) :
    (outsAt0 m c t.val t.isLt).2.1 = fun y => tokArr (argsOf m c).dw (((cfg0.win 9).blk t).view.emb y) := by
  by_cases h0 : t.val % 64 = 0
  · rw [outsAt0_A m c t h0]
    dsimp only
    refine block9_A _ _ _ _ _ _ _ _ _ _ _ _ _ _ _ _ _ _ _ _ _ _ _ _ _ _ _ _ _ _ _ _ _ _ _ _ _ _ _ _ _
      (blocksAt m c t (k0_pay7 (F := Ideal))) ?_ _ fun q h i v => ?_
    · rfl
    exact ((reads m c t _ (zero_reads m c t h0)).dw hI q h i v).trans ((tokArr_at _ _ _ _ _).symm.trans (congrArg (tokArr _) (emb9 t q h i v).symm))
  · rw [outsAt0_B m c t h0]
    dsimp only
    refine block9_B _ _ _ _ _ _ _ _ _ _ _ _ _ _ _ _ _ _ _ _ _ _ _ _ _ _ _ _ _ _ _ _ _ _ _ _ _ _ _ _ _ _
      (blocksAt m c t (outsAt0 m c (t.val - 1) (Nat.lt_of_le_of_lt (Nat.sub_le _ _) t.isLt)).2.2.2.2.2.2) ?_ _ fun q h i v => ?_
    · rfl
    exact ((reads m c t _ (before_reads m c hI t h0)).dw hI q h i v).trans ((tokArr_at _ _ _ _ _).symm.trans (congrArg (tokArr _) (emb9 t q h i v).symm))

omit hI in
theorem flush_out9 : ∀ t : Fin cfg0.N, (cfg0.win 9).flush t = true := (by decide +kernel : ∀ t : Fin grid0.N, _)

omit hI in
theorem cover9 (y : S16384x768.Idx) :
    ∃ t : Fin cfg0.N, (cfg0.win 9).flush t = true ∧ y ∈ ((cfg0.win 9).blk t).view.set := by
  obtain ⟨r, l, rfl⟩ : ∃ r l, y = ix2 r l := ⟨y 0, y 1, (ix2_eta y).symm⟩
  have e := emb9 (ptOf ⟨r.val / 64, by omega⟩) (place ⟨r.val / 64, by omega⟩) ⟨l.val / 128, by omega⟩ ⟨r.val % 64, by omega⟩
    ⟨l.val % 128, by omega⟩
  rw [nOf_place] at e
  have e' : ix2 (tok ⟨r.val / 64, by omega⟩ ⟨r.val % 64, by omega⟩) (col ⟨l.val / 128, by omega⟩ ⟨l.val % 128, by omega⟩) = ix2 r l :=
    congrArg₂ ix2 (Fin.ext (show 64 * (r.val / 64) + r.val % 64 = r.val by omega))
      (Fin.ext (show 128 * (l.val / 128) + l.val % 128 = l.val by omega))
  refine ⟨ptOf ⟨r.val / 64, by omega⟩, flush_out9 _, ?_⟩
  rw [← e', ← e]
  exact View.emb_mem_set _ _

theorem final9 : (dats m 0 c).arrAt 9 cfg0.N = tokArr (argsOf m c).dw := by
  refine (dats m 0 c).arrAt_eq_of_cover 9 _ (fun t _ => ?_) cover9
  rw [flushed9, out9 m c hI t]
  rfl

theorem out10 (t : Fin cfg0.N) :
    (outsAt0 m c t.val t.isLt).2.2.1 = fun y => tokArr (argsOf m c).dqd (((cfg0.win 10).blk t).view.emb y) := by
  by_cases h0 : t.val % 64 = 0
  · rw [outsAt0_A m c t h0]
    dsimp only
    refine block10_A _ _ _ _ _ _ _ _ _ _ _ _ _ _ _ _ _ _ _ _ _ _ _ _ _ _ _ _ _ _ _ _ _ _ _ _ _ _ _ _ _
      (blocksAt m c t (k0_pay7 (F := Ideal))) ?_ _ fun q h i v => ?_
    · rfl
    exact ((reads m c t _ (zero_reads m c t h0)).dqd q h i v).trans ((tokArr_at _ _ _ _ _).symm.trans (congrArg (tokArr _) (emb10 t q h i v).symm))
  · rw [outsAt0_B m c t h0]
    dsimp only
    refine block10_B _ _ _ _ _ _ _ _ _ _ _ _ _ _ _ _ _ _ _ _ _ _ _ _ _ _ _ _ _ _ _ _ _ _ _ _ _ _ _ _ _ _
      (blocksAt m c t (outsAt0 m c (t.val - 1) (Nat.lt_of_le_of_lt (Nat.sub_le _ _) t.isLt)).2.2.2.2.2.2) ?_ _ fun q h i v => ?_
    · rfl
    exact ((reads m c t _ (before_reads m c hI t h0)).dqd q h i v).trans ((tokArr_at _ _ _ _ _).symm.trans (congrArg (tokArr _) (emb10 t q h i v).symm))

omit hI in
theorem flush_out10 : ∀ t : Fin cfg0.N, (cfg0.win 10).flush t = true := (by decide +kernel : ∀ t : Fin grid0.N, _)

omit hI in
theorem cover10 (y : S16384x768.Idx) :
    ∃ t : Fin cfg0.N, (cfg0.win 10).flush t = true ∧ y ∈ ((cfg0.win 10).blk t).view.set := by
  obtain ⟨r, l, rfl⟩ : ∃ r l, y = ix2 r l := ⟨y 0, y 1, (ix2_eta y).symm⟩
  have e := emb10 (ptOf ⟨r.val / 64, by omega⟩) (place ⟨r.val / 64, by omega⟩) ⟨l.val / 128, by omega⟩ ⟨r.val % 64, by omega⟩
    ⟨l.val % 128, by omega⟩
  rw [nOf_place] at e
  have e' : ix2 (tok ⟨r.val / 64, by omega⟩ ⟨r.val % 64, by omega⟩) (col ⟨l.val / 128, by omega⟩ ⟨l.val % 128, by omega⟩) = ix2 r l :=
    congrArg₂ ix2 (Fin.ext (show 64 * (r.val / 64) + r.val % 64 = r.val by omega))
      (Fin.ext (show 128 * (l.val / 128) + l.val % 128 = l.val by omega))
  refine ⟨ptOf ⟨r.val / 64, by omega⟩, flush_out10 _, ?_⟩
  rw [← e', ← e]
  exact View.emb_mem_set _ _

theorem final10 : (dats m 0 c).arrAt 10 cfg0.N = tokArr (argsOf m c).dqd := by
  refine (dats m 0 c).arrAt_eq_of_cover 10 _ (fun t _ => ?_) cover10
  rw [flushed10, out10 m c hI t]
  rfl

theorem out11 (t : Fin cfg0.N) :
    (outsAt0 m c t.val t.isLt).2.2.2.1 = fun y => tokArr (argsOf m c).dkd (((cfg0.win 11).blk t).view.emb y) := by
  by_cases h0 : t.val % 64 = 0
  · rw [outsAt0_A m c t h0]
    dsimp only
    refine block11_A _ _ _ _ _ _ _ _ _ _ _ _ _ _ _ _ _ _ _ _ _ _ _ _ _ _ _ _ _ _ _ _ _ _ _ _ _ _ _ _ _
      (blocksAt m c t (k0_pay7 (F := Ideal))) ?_ _ fun q h i v => ?_
    · rfl
    exact ((reads m c t _ (zero_reads m c t h0)).dkd hI q h i v).trans ((tokArr_at _ _ _ _ _).symm.trans (congrArg (tokArr _) (emb11 t q h i v).symm))
  · rw [outsAt0_B m c t h0]
    dsimp only
    refine block11_B _ _ _ _ _ _ _ _ _ _ _ _ _ _ _ _ _ _ _ _ _ _ _ _ _ _ _ _ _ _ _ _ _ _ _ _ _ _ _ _ _ _
      (blocksAt m c t (outsAt0 m c (t.val - 1) (Nat.lt_of_le_of_lt (Nat.sub_le _ _) t.isLt)).2.2.2.2.2.2) ?_ _ fun q h i v => ?_
    · rfl
    exact ((reads m c t _ (before_reads m c hI t h0)).dkd hI q h i v).trans ((tokArr_at _ _ _ _ _).symm.trans (congrArg (tokArr _) (emb11 t q h i v).symm))

omit hI in
theorem flush_out11 : ∀ t : Fin cfg0.N, (cfg0.win 11).flush t = true := (by decide +kernel : ∀ t : Fin grid0.N, _)

omit hI in
theorem cover11 (y : S16384x768.Idx) :
    ∃ t : Fin cfg0.N, (cfg0.win 11).flush t = true ∧ y ∈ ((cfg0.win 11).blk t).view.set := by
  obtain ⟨r, l, rfl⟩ : ∃ r l, y = ix2 r l := ⟨y 0, y 1, (ix2_eta y).symm⟩
  have e := emb11 (ptOf ⟨r.val / 64, by omega⟩) (place ⟨r.val / 64, by omega⟩) ⟨l.val / 128, by omega⟩ ⟨r.val % 64, by omega⟩
    ⟨l.val % 128, by omega⟩
  rw [nOf_place] at e
  have e' : ix2 (tok ⟨r.val / 64, by omega⟩ ⟨r.val % 64, by omega⟩) (col ⟨l.val / 128, by omega⟩ ⟨l.val % 128, by omega⟩) = ix2 r l :=
    congrArg₂ ix2 (Fin.ext (show 64 * (r.val / 64) + r.val % 64 = r.val by omega))
      (Fin.ext (show 128 * (l.val / 128) + l.val % 128 = l.val by omega))
  refine ⟨ptOf ⟨r.val / 64, by omega⟩, flush_out11 _, ?_⟩
  rw [← e', ← e]
  exact View.emb_mem_set _ _

theorem final11 : (dats m 0 c).arrAt 11 cfg0.N = tokArr (argsOf m c).dkd := by
  refine (dats m 0 c).arrAt_eq_of_cover 11 _ (fun t _ => ?_) cover11
  rw [flushed11, out11 m c hI t]
  rfl

theorem out12 (t : Fin cfg0.N) :
    (outsAt0 m c t.val t.isLt).2.2.2.2.1 = fun y => sqArr (argsOf m c).dintra (((cfg0.win 12).blk t).view.emb y) := by
  by_cases h0 : t.val % 64 = 0
  · rw [outsAt0_A m c t h0]
    dsimp only
    refine block12_A _ _ _ _ _ _ _ _ _ _ _ _ _ _ _ _ _ _ _ _ _ _ _ _ _ _ _ _ _ _ _ _ _ _ _ _ _ _ _ _ _
      (blocksAt m c t (k0_pay7 (F := Ideal))) ?_ _ fun q h i j => ?_
    · rfl
    exact ((reads m c t _ (zero_reads m c t h0)).dintra q h i j).trans ((sqArr_at _ _ _ _ _).symm.trans (congrArg (sqArr _) (emb12 t q h i j).symm))
  · rw [outsAt0_B m c t h0]
    dsimp only
    refine block12_B _ _ _ _ _ _ _ _ _ _ _ _ _ _ _ _ _ _ _ _ _ _ _ _ _ _ _ _ _ _ _ _ _ _ _ _ _ _ _ _ _ _
      (blocksAt m c t (outsAt0 m c (t.val - 1) (Nat.lt_of_le_of_lt (Nat.sub_le _ _) t.isLt)).2.2.2.2.2.2) ?_ _ fun q h i j => ?_
    · rfl
    exact ((reads m c t _ (before_reads m c hI t h0)).dintra q h i j).trans ((sqArr_at _ _ _ _ _).symm.trans (congrArg (sqArr _) (emb12 t q h i j).symm))

omit hI in
theorem flush_out12 : ∀ t : Fin cfg0.N, (cfg0.win 12).flush t = true := (by decide +kernel : ∀ t : Fin grid0.N, _)

omit hI in
theorem cover12 (y : S6x256x64x64.Idx) :
    ∃ t : Fin cfg0.N, (cfg0.win 12).flush t = true ∧ y ∈ ((cfg0.win 12).blk t).view.set := by
  obtain ⟨h, n, i, j, rfl⟩ : ∃ h n i j, y = ix4 h n i j := ⟨y 0, y 1, y 2, y 3, (ix4_eta y).symm⟩
  have e := emb12 (ptOf n) (place n) h i j
  rw [nOf_place] at e
  refine ⟨ptOf n, flush_out12 _, ?_⟩
  rw [← e]
  exact View.emb_mem_set _ _

theorem final12 : (dats m 0 c).arrAt 12 cfg0.N = sqArr (argsOf m c).dintra := by
  refine (dats m 0 c).arrAt_eq_of_cover 12 _ (fun t _ => ?_) cover12
  rw [flushed12, out12 m c hI t]
  rfl

theorem out13 (t : Fin cfg0.N) :
    (outsAt0 m c t.val t.isLt).2.2.2.2.2.1 = fun y => laneArr (argsOf m c).dg (((cfg0.win 13).blk t).view.emb y) := by
  by_cases h0 : t.val % 64 = 0
  · rw [outsAt0_A m c t h0]
    dsimp only
    refine block13_A _ _ _ _ _ _ _ _ _ _ _ _ _ _ _ _ _ _ _ _ _ _ _ _ _ _ _ _ _ _ _ _ _ _ _ _ _ _ _ _ _
      (blocksAt m c t (k0_pay7 (F := Ideal))) ?_ _ fun q h v => ?_
    · rfl
    exact ((reads m c t _ (zero_reads m c t h0)).dg hI q h v).trans ((laneArr_at _ _ _ v).symm.trans (congrArg (laneArr _) (emb13 t q h v).symm))
  · rw [outsAt0_B m c t h0]
    dsimp only
    refine block13_B _ _ _ _ _ _ _ _ _ _ _ _ _ _ _ _ _ _ _ _ _ _ _ _ _ _ _ _ _ _ _ _ _ _ _ _ _ _ _ _ _ _
      (blocksAt m c t (outsAt0 m c (t.val - 1) (Nat.lt_of_le_of_lt (Nat.sub_le _ _) t.isLt)).2.2.2.2.2.2) ?_ _ fun q h v => ?_
    · rfl
    exact ((reads m c t _ (before_reads m c hI t h0)).dg hI q h v).trans ((laneArr_at _ _ _ v).symm.trans (congrArg (laneArr _) (emb13 t q h v).symm))

omit hI in
theorem flush_out13 : ∀ t : Fin cfg0.N, (cfg0.win 13).flush t = true := (by decide +kernel : ∀ t : Fin grid0.N, _)

omit hI in
theorem cover13 (y : S6x256x1x128.Idx) :
    ∃ t : Fin cfg0.N, (cfg0.win 13).flush t = true ∧ y ∈ ((cfg0.win 13).blk t).view.set := by
  obtain ⟨h, n, i, v, rfl⟩ : ∃ h n i j, y = ix4 h n i j := ⟨y 0, y 1, y 2, y 3, (ix4_eta y).symm⟩
  obtain rfl : i = (0 : Fin 1) := Subsingleton.elim _ _
  have e := emb13 (ptOf n) (place n) h v
  rw [nOf_place] at e
  refine ⟨ptOf n, flush_out13 _, ?_⟩
  rw [← e]
  exact View.emb_mem_set _ _

theorem final13 : (dats m 0 c).arrAt 13 cfg0.N = laneArr (argsOf m c).dg := by
  refine (dats m 0 c).arrAt_eq_of_cover 13 _ (fun t _ => ?_) cover13
  rw [flushed13, out13 m c hI t]
  rfl

end

end Cert.Proof
-- ==== Proof.RefFinal.lean ====
/- The reference's results: the recurrence's values. -/
module

public import proofs.«01_k».proof.Proof.RefValue
public import proofs.«01_k».proof.Proof.KernelFinal

@[expose] public section

set_option maxRecDepth 16384

noncomputable section

namespace Cert.Proof

open Cert.ReferenceIdeal Cert.ReferenceIdeal.Value Cert.ReferenceIdeal.Gen
open Idealize.ShloMosaic Idealize.ShloMosaic.TcCoe Idealize.ShloMosaic.Pointwise Idealize.ShloMosaic.StableHlo
open Idealize.ShloMosaic.HostLoop

variable (m : (ℓ : Loc nD τ sig) → Buf (Elt Ideal) ℓ) (c : Dev nD)

/-- The reference's arguments as the recurrence's arrays. -/
def refArgs : Inputs :=
  ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## The loop's entry -/

theorem entry0 : R0 (entryContents preI m c) = transpose S256x6x128x128 [1, 0, 2, 3] (extf (F := Ideal) (φ := .bf16) .f32 (m ((c : Thread nD τ).loc main_arg7)) bitsLt_bf16_f32) transposes_S6x256x128x128_S256x6x128x128_1_0_2_3 := by
  show entryContents preI m c (Proc.devRef .tc main_v25_0) = _
  simp only [entryContents, afterL_cons, afterL_nil]
  after_reads_simp
  rfl

theorem entry1 : R1 (entryContents preI m c) = hostChunks (F := Ideal) (m ((c : Thread nD τ).loc main_arg0)) := by
  show entryContents preI m c (Proc.devRef .tc main_v25_1) = _
  simp only [entryContents, afterL_cons, afterL_nil]
  after_reads_simp
  rfl

theorem entry2 : R2 (entryContents preI m c) = hostChunks (F := Ideal) (extf (F := Ideal) (s := S16384x768) (φ := .bf16) .f32 (m ((c : Thread nD τ).loc main_arg3)) bitsLt_bf16_f32) := by
  show entryContents preI m c (Proc.devRef .tc main_v25_2) = _
  simp only [entryContents, afterL_cons, afterL_nil]
  after_reads_simp
  rfl

theorem entry3 : R3 (entryContents preI m c) = hostChunks (F := Ideal) (extf (F := Ideal) (s := S16384x768) (φ := .bf16) .f32 (m ((c : Thread nD τ).loc main_arg4)) bitsLt_bf16_f32) := by
  show entryContents preI m c (Proc.devRef .tc main_v25_3) = _
  simp only [entryContents, afterL_cons, afterL_nil]
  after_reads_simp
  rfl

theorem entry4 : R4 (entryContents preI m c) = hostChunks (F := Ideal) (m ((c : Thread nD τ).loc main_arg1)) := by
  show entryContents preI m c (Proc.devRef .tc main_v25_4) = _
  simp only [entryContents, afterL_cons, afterL_nil]
  after_reads_simp
  rfl

theorem entry5 : R5 (entryContents preI m c) = hostChunks (F := Ideal) (extf (F := Ideal) (s := S16384x768) (φ := .bf16) .f32 (m ((c : Thread nD τ).loc main_arg2)) bitsLt_bf16_f32) := by
  show entryContents preI m c (Proc.devRef .tc main_v25_5) = _
  simp only [entryContents, afterL_cons, afterL_nil]
  after_reads_simp
  rfl

theorem entry6 : R6 (entryContents preI m c) = transpose S256x6x64x64 [1, 0, 2, 3] (extf (F := Ideal) (φ := .bf16) .f32 (m ((c : Thread nD τ).loc main_arg5)) bitsLt_bf16_f32) transposes_S6x256x64x64_S256x6x64x64_1_0_2_3 := by
  show entryContents preI m c (Proc.devRef .tc main_v25_6) = _
  simp only [entryContents, afterL_cons, afterL_nil]
  after_reads_simp
  rfl

theorem entry7 : R7 (entryContents preI m c) = transpose S256x6 [1, 0] (m ((c : Thread nD τ).loc main_arg6)) transposes_S6x256_S256x6_1_0 := by
  show entryContents preI m c (Proc.devRef .tc main_v25_7) = _
  simp only [entryContents, afterL_cons, afterL_nil]
  after_reads_simp
  rfl

theorem entry9 : R9 (entryContents preI m c) = broadcastInDim S6x128x128 ![] bcast_S_S6x128x128 (constant (F := Ideal) S_ .f32 0x00000000#32) := by
  show entryContents preI m c (Proc.devRef .tc main_v25_9) = _
  simp only [entryContents, afterL_cons, afterL_nil]
  after_reads_simp
  rfl

theorem inputs_entry : inputs (entryContents preI m c) = refArgs m c := by
  unfold inputs
  rw [show entryContents preI m c (Proc.devRef .tc main_v25_0) = _ from entry0 m c,
    show entryContents preI m c (Proc.devRef .tc main_v25_1) = _ from entry1 m c,
    show entryContents preI m c (Proc.devRef .tc main_v25_2) = _ from entry2 m c,
    show entryContents preI m c (Proc.devRef .tc main_v25_3) = _ from entry3 m c,
    show entryContents preI m c (Proc.devRef .tc main_v25_4) = _ from entry4 m c,
    show entryContents preI m c (Proc.devRef .tc main_v25_5) = _ from entry5 m c,
    show entryContents preI m c (Proc.devRef .tc main_v25_6) = _ from entry6 m c,
    show entryContents preI m c (Proc.devRef .tc main_v25_7) = _ from entry7 m c]
  unfold inputsOf refArgs ofArgs
  congr 1
  · funext n h k v; pointwise
  · funext n h i v; exact hostChunks_at _ n h i v
  · funext n h i v; exact hostChunks_at _ n h i v
  · funext n h i v; exact hostChunks_at _ n h i v
  · funext n h i v; exact hostChunks_at _ n h i v
  · funext n h i v; exact hostChunks_at _ n h i v
  · funext n h i j; pointwise
  · funext n h; pointwise

theorem inv_entry : Inv (refArgs m c) 0 (entryContents preI m c) where
  inp := inputs_entry m c
  ctr := ctr_entry m c
  dS := by
    funext h k v
    show R9 (entryContents preI m c) (ix3 h k v) = 0
    rw [entry9]
    pointwise
  dqd n h a b hn := absurd n.isLt (by omega)
  dkd n h a b hn := absurd n.isLt (by omega)
  du n h a b hn := absurd n.isLt (by omega)
  dw n h a b hn := absurd n.isLt (by omega)
  dintra n h a b hn := absurd n.isLt (by omega)
  dg n h hn := absurd n.isLt (by omega)

theorem inv_exit : Inv (refArgs m c) 256 (STEP^[256] (entryContents preI m c)) := inv_iterate _ (inv_entry m c) 256 le_rfl

/-! ## The results -/

/-- Chunk, head and position as tokens by columns. -/
def hostTokens (x : Vec Ideal S256x6x64x128 .f32) : Vec Ideal S16384x768 .f32 :=
  shapeCast S16384x768 (transpose S256x64x6x128 [0, 2, 1, 3] x transposes_S256x6x64x128_S256x64x6x128_0_2_1_3)
    shapeCasts_S256x64x6x128_S16384x768

theorem hostTokens_at (x : Vec Ideal S256x6x64x128 .f32) (n : Fin 256) (h : Fin 6) (i : Fin 64) (v : Fin 128) :
    hostTokens x (ix2 (tok n i) (col h v)) = x (ix4 n h i v) := by
  unfold hostTokens
  pointwise
  have e1 : (⟨(tok n i).val / 64, by omega⟩ : Fin 256) = n := Fin.ext (by show (64 * n.val + i.val) / 64 = n.val; omega)
  have e2 : (⟨(tok n i).val % 64, by omega⟩ : Fin 64) = i := Fin.ext (by show (64 * n.val + i.val) % 64 = i.val; omega)
  have e3 : (⟨(col h v).val / 128, by omega⟩ : Fin 6) = h := Fin.ext (by show (128 * h.val + v.val) / 128 = h.val; omega)
  have e4 : (⟨(col h v).val % 128, by omega⟩ : Fin 128) = v := Fin.ext (by show (128 * h.val + v.val) % 128 = v.val; omega)
  simp only [e1, e2, e3, e4]

theorem result_du : out_main_v27 (STEP^[256] (entryContents preI m c)) = tokArr (refArgs m c).du := by
  refine tok_ext fun n h i v => ?_
  refine (hostTokens_at _ n h i v).trans ?_
  rw [tokArr_at]
  exact (inv_exit m c).du n h i v (Nat.le_add_left _ _)

theorem result_dw : out_main_v29 (STEP^[256] (entryContents preI m c)) = tokArr (refArgs m c).dw := by
  refine tok_ext fun n h i v => ?_
  refine (hostTokens_at _ n h i v).trans ?_
  rw [tokArr_at]
  exact (inv_exit m c).dw n h i v (Nat.le_add_left _ _)

theorem result_dqd : out_main_v31 (STEP^[256] (entryContents preI m c)) = tokArr (refArgs m c).dqd := by
  refine tok_ext fun n h i v => ?_
  refine (hostTokens_at _ n h i v).trans ?_
  rw [tokArr_at]
  exact (inv_exit m c).dqd n h i v (Nat.le_add_left _ _)

theorem result_dkd : out_main_v33 (STEP^[256] (entryContents preI m c)) = tokArr (refArgs m c).dkd := by
  refine tok_ext fun n h i v => ?_
  refine (hostTokens_at _ n h i v).trans ?_
  rw [tokArr_at]
  exact (inv_exit m c).dkd n h i v (Nat.le_add_left _ _)

theorem result_dintra : out_main_v34 (STEP^[256] (entryContents preI m c)) = sqArr (refArgs m c).dintra := by
  funext y
  obtain ⟨h, n, i, j, rfl⟩ : ∃ h n i j, y = ix4 h n i j := ⟨y 0, y 1, y 2, y 3, (ix4_eta y).symm⟩
  have e (x : Vec Ideal S256x6x64x64 .f32) :
      transpose S6x256x64x64 [1, 0, 2, 3] x transposes_S256x6x64x64_S6x256x64x64_1_0_2_3 (ix4 h n i j) = x (ix4 n h i j) := by
    pointwise
  exact (e _).trans ((inv_exit m c).dintra n h i j (Nat.le_add_left _ _))

theorem result_dg : out_main_v37 (STEP^[256] (entryContents preI m c)) = laneArr (refArgs m c).dg := by
  funext y
  obtain ⟨h, n, i, v, rfl⟩ : ∃ h n i v, y = ix4 h n i v := ⟨y 0, y 1, y 2, y 3, (ix4_eta y).symm⟩
  have e (x : Vec Ideal S256x6 .f32) :
      broadcastInDim S6x256x1x128 ![0, 1, 2, 3] bcast_S6x256x1x1_S6x256x1x128_0_1_2_3
        (broadcastInDim S6x256x1x1 ![0, 1] bcast_S6x256_S6x256x1x1_0_1 (transpose S6x256 [1, 0] x transposes_S256x6_S6x256_1_0))
        (ix4 h n i v) = x (ix2 n h) := by
    pointwise
  exact (e _).trans ((inv_exit m c).dg n h (Nat.le_add_left _ _))

end Cert.Proof
-- ==== Proof.Finite.lean ====
/- The precondition read: every number of the arguments is real. -/
module

public import proofs.«01_k».proof.Defs
public import proofs.«01_k».proof.Proof.Gen.Pre_finite
public import proofs.«01_k».proof.Proof.KernelHost
public import proofs.«01_k».proof.Proof.Real

@[expose] public section

noncomputable section

namespace Cert.Proof

open Idealize.ShloMosaic

theorem isReal_of_abs {x : EReal} (h : max x (-x) < ⊤) : IsReal x := by
  refine ⟨x.toReal, (EReal.coe_toReal ?_ ?_).symm⟩
  · rintro rfl; simp at h
  · rintro rfl; simp at h

theorem inf_pattern : Ideal.ofBits .f32 0x7F800000#32 = ⊤ := by simp [Ideal.ofBits, Ideal.ieee]

/-- A comparison with infinity that says one says the number is real. -/
theorem isReal_of_cmp {s : Shape} (x y : FVec Ideal s .f32) (h : cmpf .olt (Host.absf x) y = fun _ => 1#1) (i : s.Idx)
    (hy : y i = Ideal.ofBits .f32 0x7F800000#32) : IsReal (x i) := by
  have e := congrFun h i
  have e' : Ideal.cmp .olt (max (x i) (-(x i))) (y i) = 1#1 := e
  rw [hy, inf_pattern] at e'
  refine isReal_of_abs ?_
  by_contra hn
  simp [Ideal.cmp, hn] at e'

theorem finite_args (m : (ℓ : Loc Cert.KernelIdeal.nD Cert.KernelIdeal.τ Cert.KernelIdeal.sig) → Buf (Elt Ideal) ℓ)
    (hpre : Cert.Pre_KernelIdeal_finite m) (c : Dev Cert.KernelIdeal.nD) : (argsOf m c).Finite := by
  obtain ⟨h0, -, h2, h3, h4, h5, h6, h7⟩ := hpre c
  exact
    { st := fun n h k v => isReal_of_cmp _ _ h7 _ rfl
      dout := fun n h i v => isReal_of_cmp _ _ h0 _ rfl
      qd := fun n h i v => isReal_of_cmp _ _ h3 _ rfl
      kd := fun n h i v => isReal_of_cmp _ _ h4 _ rfl
      w := fun n h i v => isReal_of_cmp _ _ h2 _ rfl
      intra := fun n h i j => isReal_of_cmp _ _ h5 _ rfl
      g := fun n h => isReal_of_cmp _ _ h6 _ rfl }

end Cert.Proof
-- ==== Proof.Product.lean ====
/- Sums over a contracted dimension cut into blocks, and matrices read at natural-number positions. -/
module

public import Idealize.ShloMosaic.Lib.Pointwise
public import Mathlib.Algebra.BigOperators.Fin
public import Mathlib.Algebra.BigOperators.Intervals

@[expose] public section

noncomputable section

namespace Cert.Proof

open Idealize.ShloMosaic Idealize.ShloMosaic.Pointwise

theorem zeros : (![0, 0] : Fin 2 → Nat) = fun _ => 0 := funext fun a => by fin_cases a <;> rfl

/-- The number 2, as the programs write it. -/
def two : EReal := Ideal.ofBits FTy.f32 0x40000000#32

/-- A matrix read at natural-number positions, zero outside its extents. -/
def mat {M N : ℕ} (f : Fin M → Fin N → EReal) (i j : ℕ) : EReal :=
  if h : i < M ∧ j < N then f ⟨i, h.1⟩ ⟨j, h.2⟩ else 0

theorem mat_of {M N : ℕ} (f : Fin M → Fin N → EReal) {i j : ℕ} (hi : i < M) (hj : j < N) :
    mat f i j = f ⟨i, hi⟩ ⟨j, hj⟩ := dif_pos ⟨hi, hj⟩

/-- The array of a matrix. -/
def arr2 {M N : ℕ} {φ : EltTy} (f : Fin M → Fin N → Elt Ideal φ) : Vec Ideal ⟨2, ![M, N]⟩ φ := fun y => f (y 0) (y 1)

theorem arr2_at {M N : ℕ} {φ : EltTy} (f : Fin M → Fin N → Elt Ideal φ) (i : Fin M) (j : Fin N) :
    arr2 (φ := φ) f (ix2 i j) = f i j := rfl

/-- A sum to `tk` times one more, split at the last block. -/
theorem sum_last_block (tk q : ℕ) (f : ℕ → EReal) :
    (∑ k ∈ Finset.range (tk * q), f k) + ∑ κ : Fin tk, f (tk * q + κ.val) = ∑ k ∈ Finset.range (tk * (q + 1)), f k := by
  rw [Nat.mul_succ, Finset.sum_range_add, ← Fin.sum_univ_eq_sum_range fun x => f (tk * q + x)]

/-- What an accumulator holds that starts afresh every `nk` points and takes one block of the sum a point. -/
theorem accumulated (T nk tk : ℕ) (f : ℕ → ℕ → EReal) (s : (n : ℕ) → n < T → EReal)
    (hA : ∀ n h, n % nk = 0 → s n h = ∑ κ : Fin tk, f (n / nk) (tk * (n % nk) + κ.val))
    (hB : ∀ n h, 1 ≤ n % nk → n % nk + 1 < nk →
      s n h = s (n - 1) (Nat.lt_of_le_of_lt (Nat.sub_le _ _) h) + ∑ κ : Fin tk, f (n / nk) (tk * (n % nk) + κ.val)) :
    ∀ n h, n % nk + 1 < nk → s n h = ∑ k ∈ Finset.range (tk * (n % nk + 1)), f (n / nk) k := by
  intro n
  induction n with
  | zero =>
    intro h hq
    rw [hA 0 h (Nat.zero_mod _), ← sum_last_block]
    simp
  | succ n ih =>
    intro h hq
    by_cases h0 : (n + 1) % nk = 0
    · rw [hA _ h h0, ← sum_last_block, h0]
      simp
    · have hm : (n + 1) % nk = n % nk + 1 := by
        rcases Nat.lt_or_ge (n % nk + 1) nk with h' | h'
        · rw [Nat.add_mod, Nat.mod_eq_of_lt (show 1 < nk by omega), Nat.mod_eq_of_lt h']
        · have hl := Nat.mod_lt n (show 0 < nk by omega)
          have e : n % nk + 1 = nk := by omega
          exact absurd (by rw [Nat.add_mod, Nat.mod_eq_of_lt (show 1 < nk by omega), e, Nat.mod_self]) h0
      have hd : (n + 1) / nk = n / nk := by
        have a := Nat.div_add_mod (n + 1) nk
        have b := Nat.div_add_mod n nk
        rw [hm] at a
        exact Nat.eq_of_mul_eq_mul_left (show 0 < nk by omega) (by omega)
      rw [hB _ h (by omega) hq, ← sum_last_block tk]
      congr 1
      rw [show (s (n + 1 - 1) (Nat.lt_of_le_of_lt (Nat.sub_le _ _) h)) = s n (by omega) from rfl, ih (by omega) (by omega), hm, hd]

/-- A product summed to the whole extent at natural-number positions, as a sum over the extent's indices. -/
theorem sum_mat {M N K : ℕ} (A : Fin M → Fin K → EReal) (B : Fin K → Fin N → EReal) {i j : ℕ} (hi : i < M) (hj : j < N) :
    ∑ k ∈ Finset.range K, mat A i k * mat B k j = ∑ k : Fin K, A ⟨i, hi⟩ k * B k ⟨j, hj⟩ := by
  rw [Finset.sum_range]
  exact Finset.sum_congr rfl fun k _ => by rw [mat_of A hi k.isLt, mat_of B k.isLt hj]

end Cert.Proof
-- ==== Proof.Mlp.lean ====
/- Products of matrices and the feed-forward block's values and cotangents over the extended reals. -/
module

public import proofs.«01_k».proof.Proof.Product

@[expose] public section

noncomputable section

namespace Cert.Proof

open Idealize.ShloMosaic Idealize.ShloMosaic.Pointwise

/-- An array of two axes as a matrix. -/
def of2 {M N : ℕ} {φ : EltTy} (x : Vec Ideal ⟨2, ![M, N]⟩ φ) : Fin M → Fin N → Elt Ideal φ := fun i j => x (ix2 i j)

/-- The product of two matrices. -/
def mul2 {M K N : ℕ} (A : Fin M → Fin K → EReal) (B : Fin K → Fin N → EReal) : Fin M → Fin N → EReal :=
  fun i j => ∑ k : Fin K, A i k * B k j

/-- A matrix transposed. -/
def tr {M N : ℕ} (A : Fin M → Fin N → EReal) : Fin N → Fin M → EReal := fun j i => A i j

/-- The square of the positive part. -/
def sqRelu (x : EReal) : EReal := max x 0 * max x 0

/-- A cotangent through the square of the positive part. -/
def dSqRelu (x d : EReal) : EReal := d * (two * max x 0)

theorem dSqRelu_of_not_pos {x : EReal} (d : EReal) (h : ¬0 < x) : dSqRelu x d = 0 := by
  unfold dSqRelu
  rw [max_eq_right (not_lt.mp h), mul_zero, mul_zero]

/-- A cotangent taken where the value is positive is the cotangent through the square of the positive part. -/
theorem select_eq (x d : EReal) : (if 0 < x then d * (Ideal.ofBits FTy.f32 1073741824#32 * max x 0) else 0) = dSqRelu x d := by
  split_ifs with h
  · rfl
  · exact (dSqRelu_of_not_pos d h).symm

/-- The feed-forward block's activations. -/
def activation {S D H : ℕ} (h : Fin S → Fin D → EReal) (wu : Fin D → Fin H → EReal) : Fin S → Fin H → EReal :=
  fun i j => sqRelu (mul2 h wu i j)

/-- The cotangent of the feed-forward block's first product. -/
def dHidden {S D H : ℕ} (h : Fin S → Fin D → EReal) (wu : Fin D → Fin H → EReal) (wd : Fin H → Fin D → EReal)
    (dy : Fin S → Fin D → EReal) : Fin S → Fin H → EReal :=
  fun i j => dSqRelu (mul2 h wu i j) (mul2 dy (tr wd) i j)

/-- An array that reads as a matrix is the matrix's array. -/
theorem eq_arr2 {M N : ℕ} {φ : EltTy} (x : Vec Ideal ⟨2, ![M, N]⟩ φ) (f : Fin M → Fin N → Elt Ideal φ)
    (h : ∀ i j, x (ix2 i j) = f i j) : x = arr2 f :=
  funext fun y => (congrArg x (ix2_eta y).symm).trans (h _ _)

end Cert.Proof
-- ==== Proof.UpValue.lean ====
/- The first product of the feed-forward block and its activation: what the blocked product leaves in its result. -/
module

public import proofs.«01_k».proof.Proof.Product
public import proofs.«01_k».proof.Proof.Gen.UpIdeal.Value

@[expose] public section

set_option maxRecDepth 16384

noncomputable section

namespace Cert.Proof.Up

open Cert.UpIdeal Cert.UpIdeal.Gen
open Idealize.ShloMosaic Idealize.ShloMosaic.TcCoe Idealize.ShloMosaic.Pointwise Idealize.ShloMosaic.StableHlo

variable (m : (ℓ : Loc nD τ sig) → Buf (Elt Ideal) ℓ) (c : Dev nD)

/-- The left factor. -/
def lhs : Fin 16384 → Fin 1024 → EReal := fun i k => V m c main_v0 (ix2 i k)

/-- The right factor. -/
def rhs : Fin 1024 → Fin 4096 → EReal := fun k j => V m c main_v1 (ix2 k j)

/-- The product. -/
def prod : Fin 16384 → Fin 4096 → EReal := fun i j => ∑ k : Fin 1024, lhs m c i k * rhs m c k j

/-- Its activation. -/
def act : Fin 16384 → Fin 4096 → EReal := fun i j => max (prod m c i j) 0 * max (prod m c i j) 0

/-- Which blocks a grid point takes and writes. -/
theorem idx : ∀ t : Fin cfg0.N,
    (win0_0.index t (0 : Fin 2) = t.val / 4 ∧ win0_0.index t (1 : Fin 2) = 0)
    ∧ (win0_1.index t (0 : Fin 2) = 0 ∧ win0_1.index t (1 : Fin 2) = t.val % 4)
    ∧ (win0_2.index t (0 : Fin 2) = t.val / 4 ∧ win0_2.index t (1 : Fin 2) = t.val % 4)
    ∧ (win0_3.index t (0 : Fin 2) = t.val / 4 ∧ win0_3.index t (1 : Fin 2) = t.val % 4) :=
  (by decide +kernel : ∀ t : Fin grid0.N, _)

theorem lt_N (t : Fin cfg0.N) : t.val < 32 := lt_of_lt_of_eq t.isLt N_0

theorem lhs_block (t : Fin cfg0.N) (a : Fin 2048) (κ : Fin 1024) :
    iblk m c 0 t (ix2 a κ) = lhs m c (⟨2048 * (t.val / 4) + a.val, by have := lt_N t; omega⟩ : Fin 16384) κ := by
  refine congrArg (V m c main_v0) (funext fun x => Fin.ext ?_)
  match x with
  | ⟨0, _⟩ =>
    show win0_0.index t (0 : Fin 2) * 2048 + 1 * a.val = 2048 * (t.val / 4) + a.val
    rw [(idx t).1.1]; omega
  | ⟨1, _⟩ =>
    show win0_0.index t (1 : Fin 2) * 1024 + 1 * κ.val = κ.val
    rw [(idx t).1.2]; omega

theorem rhs_block (t : Fin cfg0.N) (κ : Fin 1024) (b : Fin 1024) :
    iblk m c 1 t (ix2 κ b) = rhs m c κ (⟨1024 * (t.val % 4) + b.val, by omega⟩ : Fin 4096) := by
  refine congrArg (V m c main_v1) (funext fun x => Fin.ext ?_)
  match x with
  | ⟨0, _⟩ =>
    show win0_1.index t (0 : Fin 2) * 1024 + 1 * κ.val = κ.val
    rw [(idx t).2.1.1]; omega
  | ⟨1, _⟩ =>
    show win0_1.index t (1 : Fin 2) * 1024 + 1 * b.val = 1024 * (t.val % 4) + b.val
    rw [(idx t).2.1.2]; omega

/-- A block's product at an element. -/
def dot (x0 : Vec Ideal S2048x1024 .bf16) (x1 : Vec Ideal S1024x1024 .bf16) (a : Fin 2048) (b : Fin 1024) : EReal :=
  ∑ κ : Fin 1024, x0 (ix2 a κ) * x1 (ix2 κ b)

theorem block_sum (t : Fin cfg0.N) (a : Fin 2048) (b : Fin 1024) :
    dot (iblk m c 0 t) (iblk m c 1 t) a b = prod m c (⟨2048 * (t.val / 4) + a.val, by have := lt_N t; omega⟩ : Fin 16384) (⟨1024 * (t.val % 4) + b.val, by omega⟩ : Fin 4096) :=
  Finset.sum_congr rfl fun κ _ => congrArg₂ (· * ·) (lhs_block m c t a κ) (rhs_block m c t κ b)

theorem emb2 (t : Fin cfg0.N) (a : Fin 2048) (b : Fin 1024) :
    ((cfg0.win 2).blk t).view.emb (ix2 a b) = ix2 (⟨2048 * (t.val / 4) + a.val, by have := lt_N t; omega⟩ : Fin 16384) (⟨1024 * (t.val % 4) + b.val, by omega⟩ : Fin 4096) := by
  refine funext fun x => Fin.ext ?_
  match x with
  | ⟨0, _⟩ =>
    show win0_2.index t (0 : Fin 2) * 2048 + 1 * a.val = 2048 * (t.val / 4) + a.val
    rw [(idx t).2.2.1.1]; omega
  | ⟨1, _⟩ =>
    show win0_2.index t (1 : Fin 2) * 1024 + 1 * b.val = 1024 * (t.val % 4) + b.val
    rw [(idx t).2.2.1.2]; omega

theorem emb3 (t : Fin cfg0.N) (a : Fin 2048) (b : Fin 1024) :
    ((cfg0.win 3).blk t).view.emb (ix2 a b) = ix2 (⟨2048 * (t.val / 4) + a.val, by have := lt_N t; omega⟩ : Fin 16384) (⟨1024 * (t.val % 4) + b.val, by omega⟩ : Fin 4096) := by
  refine funext fun x => Fin.ext ?_
  match x with
  | ⟨0, _⟩ =>
    show win0_3.index t (0 : Fin 2) * 2048 + 1 * a.val = 2048 * (t.val / 4) + a.val
    rw [(idx t).2.2.2.1]; omega
  | ⟨1, _⟩ =>
    show win0_3.index t (1 : Fin 2) * 1024 + 1 * b.val = 1024 * (t.val % 4) + b.val
    rw [(idx t).2.2.2.2]; omega

theorem part_at (x0 : Vec Ideal S2048x1024 .bf16) (x1 : Vec Ideal S1024x1024 .bf16) (a : Fin 2048) (b : Fin 1024) :
    k0_pay1 x0 x1 (ix2 a b) = dot x0 x1 a b := by
  unfold k0_pay1 dot
  pointwise!

theorem act_at (x0 : Vec Ideal S2048x1024 .bf16) (x1 : Vec Ideal S1024x1024 .bf16) (a : Fin 2048) (b : Fin 1024) :
    k0_pay3 x0 x1 (ix2 a b) = max (k0_pay1 x0 x1 (ix2 a b)) 0 * max (k0_pay1 x0 x1 (ix2 a b)) 0 := by
  unfold k0_pay3
  pointwise!

theorem whole2 (x0 : Vec Ideal S2048x1024 .bf16) (x1 : Vec Ideal S1024x1024 .bf16) : out0_2 x0 x1 = k0_pay2 x0 x1 := by
  unfold out0_2
  rw [View.canon_unit_zero zeros]
  simp only [View.ld_unit_zero (S := S2048x1024) zeros, View.ld_unit_zero (S := S1024x1024) zeros]

theorem flushes2 : ∀ t : Fin cfg0.N, (cfg0.win 2).flush t = true := (by decide +kernel : ∀ t : Fin grid0.N, _)

theorem out_block2 (t : Fin cfg0.N) :
    out0_2 (iblk m c 0 t) (iblk m c 1 t) = fun y => arr2 (φ := .bf16) (prod m c) (((cfg0.win 2).blk t).view.emb y) := by
  funext y
  obtain ⟨a, b, rfl⟩ : ∃ a b, y = ix2 a b := ⟨y 0, y 1, (ix2_eta y).symm⟩
  rw [emb2, arr2_at, whole2]
  exact (part_at _ _ a b).trans (block_sum m c t a b)

theorem cover2 (y : S16384x4096.Idx) : ∃ t : Fin cfg0.N, (cfg0.win 2).flush t = true ∧ y ∈ ((cfg0.win 2).blk t).view.set := by
  obtain ⟨i, j, rfl⟩ : ∃ i j, y = ix2 i j := ⟨y 0, y 1, (ix2_eta y).symm⟩
  have hN : cfg0.N = 32 := N_0
  refine ⟨⟨4 * (i.val / 2048) + j.val / 1024, by omega⟩, flushes2 _, ?_⟩
  have e := emb2 ⟨4 * (i.val / 2048) + j.val / 1024, by omega⟩ ⟨i.val % 2048, by omega⟩ ⟨j.val % 1024, by omega⟩
  have e' : ix2 i j = _ := (congrArg₂ ix2 (Fin.ext (by dsimp only; omega)) (Fin.ext (by dsimp only; omega))).trans e.symm
  rw [e']
  exact View.emb_mem_set _ _

theorem read_block2 (t : Fin cfg0.N) (G : Vec Ideal S16384x4096 .bf16) :
    (cfg0.win 2).cut (grid0.coords t) (fun y => G (((cfg0.win 2).blk t).view.emb y)) =
      ((cfg0.win 2).blk t).view.read (Elt Ideal) G := rfl

/-- The result after the run. -/
theorem final2 : (dats m 0 c).arrAt 2 cfg0.N = arr2 (φ := .bf16) (prod m c) := by
  refine (dats m 0 c).arrAt_eq_of_cover 2 _ (fun t _ => ?_) cover2
  rw [Value.flushed2, out_block2 m c t]
  exact read_block2 t _

theorem whole3 (x0 : Vec Ideal S2048x1024 .bf16) (x1 : Vec Ideal S1024x1024 .bf16) : out0_3 x0 x1 = k0_pay3 x0 x1 := by
  unfold out0_3
  rw [View.canon_unit_zero zeros]
  simp only [View.ld_unit_zero (S := S2048x1024) zeros, View.ld_unit_zero (S := S1024x1024) zeros]

theorem flushes3 : ∀ t : Fin cfg0.N, (cfg0.win 3).flush t = true := (by decide +kernel : ∀ t : Fin grid0.N, _)

theorem out_block3 (t : Fin cfg0.N) :
    out0_3 (iblk m c 0 t) (iblk m c 1 t) = fun y => arr2 (φ := .bf16) (act m c) (((cfg0.win 3).blk t).view.emb y) := by
  funext y
  obtain ⟨a, b, rfl⟩ : ∃ a b, y = ix2 a b := ⟨y 0, y 1, (ix2_eta y).symm⟩
  rw [emb3, arr2_at, whole3]
  exact (act_at _ _ a b).trans (by rw [part_at, block_sum]; rfl)

theorem cover3 (y : S16384x4096.Idx) : ∃ t : Fin cfg0.N, (cfg0.win 3).flush t = true ∧ y ∈ ((cfg0.win 3).blk t).view.set := by
  obtain ⟨i, j, rfl⟩ : ∃ i j, y = ix2 i j := ⟨y 0, y 1, (ix2_eta y).symm⟩
  have hN : cfg0.N = 32 := N_0
  refine ⟨⟨4 * (i.val / 2048) + j.val / 1024, by omega⟩, flushes3 _, ?_⟩
  have e := emb3 ⟨4 * (i.val / 2048) + j.val / 1024, by omega⟩ ⟨i.val % 2048, by omega⟩ ⟨j.val % 1024, by omega⟩
  have e' : ix2 i j = _ := (congrArg₂ ix2 (Fin.ext (by dsimp only; omega)) (Fin.ext (by dsimp only; omega))).trans e.symm
  rw [e']
  exact View.emb_mem_set _ _

theorem read_block3 (t : Fin cfg0.N) (G : Vec Ideal S16384x4096 .bf16) :
    (cfg0.win 3).cut (grid0.coords t) (fun y => G (((cfg0.win 3).blk t).view.emb y)) =
      ((cfg0.win 3).blk t).view.read (Elt Ideal) G := rfl

/-- The result after the run. -/
theorem final3 : (dats m 0 c).arrAt 3 cfg0.N = arr2 (φ := .bf16) (act m c) := by
  refine (dats m 0 c).arrAt_eq_of_cover 3 _ (fun t _ => ?_) cover3
  rw [Value.flushed3, out_block3 m c t]
  exact read_block3 t _

end Cert.Proof.Up
-- ==== Proof.UpFinal.lean ====
/- The first product of the feed-forward block and its activation: the programs' results beside each other. -/
module

public import proofs.«01_k».proof.Defs
public import proofs.«01_k».proof.Proof.Mlp
public import proofs.«01_k».proof.Proof.UpValue
public import proofs.«01_k».proof.Proof.Gen.UpRefIdeal.Run

@[expose] public section

set_option maxRecDepth 16384

noncomputable section

namespace Cert.Proof.Up

open Idealize.ShloMosaic Idealize.ShloMosaic.TcCoe Idealize.ShloMosaic.Pointwise Idealize.ShloMosaic.StableHlo Idealize.SL.Sem

section Kernel

open Cert.UpIdeal Cert.UpIdeal.Gen

section Host

variable {F : FTy → Type} [FloatOps F]

/-- The left factor as the host prepares it. -/
def host_lhs (x0 : Vec F S16384x1024 .f32) : Vec F S16384x1024 .bf16 :=
  truncf .bf16 x0 bitsLt_bf16_f32

/-- The right factor as the host prepares it. -/
def host_rhs (x1 : Vec F S1024x4096 .f32) : Vec F S1024x4096 .bf16 :=
  truncf .bf16 x1 bitsLt_bf16_f32

end Host

variable (m : (ℓ : Loc nD τ sig) → Buf (Elt Ideal) ℓ) (c : Dev nD)

theorem host_lhs_at (x0 : Vec Ideal S16384x1024 .f32) (i : Fin 16384) (j : Fin 1024) :
    host_lhs x0 (ix2 i j) = of2 x0 i j := by
  rfl

theorem V_lhs : V m c main_v0 = host_lhs (m ((c : Thread nD τ).loc main_arg0)) := by
  unfold_abbrev_sides
  after_results
  rfl

theorem lhs_eq : lhs m c = of2 (m ((c : Thread nD τ).loc main_arg0)) := by
  funext i j
  unfold lhs
  rw [V_lhs]
  exact host_lhs_at _ _ _

theorem host_rhs_at (x1 : Vec Ideal S1024x4096 .f32) (i : Fin 1024) (j : Fin 4096) :
    host_rhs x1 (ix2 i j) = of2 x1 i j := by
  rfl

theorem V_rhs : V m c main_v1 = host_rhs (m ((c : Thread nD τ).loc main_arg1)) := by
  unfold_abbrev_sides
  after_results
  rfl

theorem rhs_eq : rhs m c = of2 (m ((c : Thread nD τ).loc main_arg1)) := by
  funext i j
  unfold rhs
  rw [V_rhs]
  exact host_rhs_at _ _ _

theorem prod_eq : prod m c = mul2 (of2 (m ((c : Thread nD τ).loc main_arg0))) (of2 (m ((c : Thread nD τ).loc main_arg1))) := by
  show mul2 (lhs m c) (rhs m c) = _
  rw [lhs_eq, rhs_eq]

theorem act_eq : act m c = activation (of2 (m ((c : Thread nD τ).loc main_arg0))) (of2 (m ((c : Thread nD τ).loc main_arg1))) := by
  show (fun i j => sqRelu (mul2 (lhs m c) (rhs m c) i j)) = _
  rw [lhs_eq, rhs_eq]
  rfl

end Kernel

section Reference

open Cert.UpRefIdeal Cert.UpRefIdeal.Gen

variable (x0 : Vec Ideal S16384x1024 .f32) (x1 : Vec Ideal S1024x4096 .f32)

section Plain

variable {F : FTy → Type} [FloatOps F]

/-- The reference's value. -/
def plain_prod (x0 : Vec F S16384x1024 .f32) (x1 : Vec F S1024x4096 .f32) : Vec F S16384x4096 .bf16 :=
  truncf .bf16 (Host.dotGeneral dot_S16384x1024_S1024x4096_S16384x4096_1_0_0_1_n_n none x0 x1) bitsLt_bf16_f32

end Plain

set_option maxRecDepth 200000 in
theorem prod_ref : plain_prod x0 x1 =
    arr2 (φ := .bf16) (mul2 (of2 x0) (of2 x1)) := by
  refine eq_arr2 _ _ fun i j => ?_
  unfold plain_prod mul2 of2
  pointwise!

section Plain

variable {F : FTy → Type} [FloatOps F]

/-- The reference's value. -/
def plain_act (x0 : Vec F S16384x1024 .f32) (x1 : Vec F S1024x4096 .f32) : Vec F S16384x4096 .bf16 :=
  truncf .bf16 (mulf (maximumf (Host.dotGeneral dot_S16384x1024_S1024x4096_S16384x4096_1_0_0_1_n_n none x0 x1) (broadcastInDim S16384x4096 ![] bcast_S_S16384x4096 (constant S_ .f32 0x00000000#32))) (maximumf (Host.dotGeneral dot_S16384x1024_S1024x4096_S16384x4096_1_0_0_1_n_n none x0 x1) (broadcastInDim S16384x4096 ![] bcast_S_S16384x4096 (constant S_ .f32 0x00000000#32)))) bitsLt_bf16_f32

end Plain

set_option maxRecDepth 200000 in
theorem act_ref : plain_act x0 x1 =
    arr2 (φ := .bf16) (activation (of2 x0) (of2 x1)) := by
  refine eq_arr2 _ _ fun i j => ?_
  unfold plain_act activation sqRelu mul2 of2
  pointwise!

end Reference

theorem quiescent_ref : Cert.quiescent_UpRefIdeal := fun m ρ _ =>
  (θ_run Cert.UpRefIdeal.defs _ _).mono (fun r h =>
      ⟨fun c => (h c).2.2, Idealize.ShloMosaic.sem_eq_zero_of_no_sems (by decide) r.2⟩)
    (Cert.UpRefIdeal.Value.run (F := Ideal) m ρ)

theorem algebraic : Cert.algebraic_UpIdeal_UpRefIdeal := fun m ρ m' ρ' _ hag =>
  ⟨fun c => arr2 (φ := .bf16) (mul2 (of2 (m ((c : Thread Cert.UpIdeal.nD Cert.UpIdeal.τ).loc Cert.UpIdeal.main_arg0))) (of2 (m ((c : Thread Cert.UpIdeal.nD Cert.UpIdeal.τ).loc Cert.UpIdeal.main_arg1)))),
    fun c => arr2 (φ := .bf16) (activation (of2 (m ((c : Thread Cert.UpIdeal.nD Cert.UpIdeal.τ).loc Cert.UpIdeal.main_arg0))) (of2 (m ((c : Thread Cert.UpIdeal.nD Cert.UpIdeal.τ).loc Cert.UpIdeal.main_arg1)))),
    (θ_run Cert.UpIdeal.defs _ _).mono (fun _ h c => ⟨(h c).1.trans ((final2 m c).trans (congrArg _ (prod_eq m c))), (h c).2.1.trans ((final3 m c).trans (congrArg _ (act_eq m c))), (h c).2.2⟩)
      (Cert.UpIdeal.Value.run_blocks (F := Ideal) m ρ),
    (θ_run Cert.UpRefIdeal.defs _ _).mono (fun _ h c => by
        obtain ⟨h0, h1⟩ := hag c
        exact ⟨(h c).1.trans ((prod_ref (m' ((c : Thread Cert.UpRefIdeal.nD Cert.UpRefIdeal.τ).loc Cert.UpRefIdeal.main_arg0)) (m' ((c : Thread Cert.UpRefIdeal.nD Cert.UpRefIdeal.τ).loc Cert.UpRefIdeal.main_arg1))).trans (by rw [h0, h1])), (h c).2.1.trans ((act_ref (m' ((c : Thread Cert.UpRefIdeal.nD Cert.UpRefIdeal.τ).loc Cert.UpRefIdeal.main_arg0)) (m' ((c : Thread Cert.UpRefIdeal.nD Cert.UpRefIdeal.τ).loc Cert.UpRefIdeal.main_arg1))).trans (by rw [h0, h1])), (h c).2.2⟩)
      (Cert.UpRefIdeal.Value.run (F := Ideal) m' ρ')⟩

end Cert.Proof.Up
-- ==== Proof.DownValue.lean ====
/- The second product of the feed-forward block: what the blocked product leaves in its result. -/
module

public import proofs.«01_k».proof.Proof.Product
public import proofs.«01_k».proof.Proof.Gen.DownIdeal.Value

@[expose] public section

set_option maxRecDepth 16384

noncomputable section

namespace Cert.Proof.Down

open Cert.DownIdeal Cert.DownIdeal.Gen
open Idealize.ShloMosaic Idealize.ShloMosaic.TcCoe Idealize.ShloMosaic.Pointwise Idealize.ShloMosaic.StableHlo

section Pieces

variable {F : FTy → Type} [FloatOps F]
variable (c : Dev nD) (i : grid0.Coords) (arg3 : Memref sig .tc .vmem S2048x1024 .bf16) (harg3 : arg3.IsWhole)
    (arg4 : Memref sig .tc .vmem S1024x1024 .bf16) (harg4 : arg4.IsWhole) (arg5 : Memref sig .tc .vmem S2048x1024 .f32)
    (harg5 : arg5.IsWhole) (arg6 : Memref sig .tc .vmem S2048x1024 .f32) (harg6 : arg6.IsWhole)
    (x0 : Vec F S2048x1024 .bf16) (x1 : Vec F S1024x1024 .bf16) (xs0 : Vec F S2048x1024 .f32)

/-- A run's first point starts the sum. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_junk_eq_canon]
  unfold kernelRun0_A
  dsimp only
  sl_unfold_words
  simp only [View.readAt_eq_ld, harg3.read_unread, harg4.read_unread]
  rw [View.canon_unit_zero zeros]
  simp only [View.ld_unit_zero (S := S2048x1024) zeros, View.ld_unit_zero (S := S1024x1024) zeros]
  exact shapeCast_self _ _

/-- Its middle points add to it. -/
theorem middle (hc0 : ¬cond0_0 i) (hc1 : cond0_1 i) (hc2 : ¬cond0_2 i) :
    sout0_B_0 c i arg3 harg3 arg4 harg4 arg5 harg5 arg6 harg6 hc0 hc1 hc2 x0 x1 xs0 = k0_pay4 x0 x1 xs0 := by
  unfold sout0_B_0
  rw [View.read_writes_junk_eq_canon]
  unfold kernelRun0_B
  dsimp only
  sl_unfold_words
  simp only [View.readAt_eq_ld, harg3.read_unread, harg4.read_unread, harg6.read_unread]
  rw [View.canon_unit_zero zeros]
  simp only [View.ld_unit_zero (S := S2048x1024) zeros, View.ld_unit_zero (S := S1024x1024) zeros, View.ld_unit_zero (S := S2048x1024) zeros]
  exact shapeCast_self _ _

/-- Its last point writes the sum out. -/
theorem last (hc0 : ¬cond0_0 i) (hc1 : ¬cond0_1 i) (hc2 : cond0_2 i) :
    out0_C_2 c i arg3 harg3 arg4 harg4 arg5 harg5 arg6 harg6 hc0 hc1 hc2 x0 x1 xs0 = k0_pay4 x0 x1 xs0 := by
  unfold out0_C_2
  rw [View.read_writes_junk_eq_canon]
  unfold kernelRun0_C
  dsimp only
  sl_unfold_words
  simp only [View.readAt_eq_ld, harg3.read_unread, harg4.read_unread, harg6.read_unread]
  rw [View.canon_unit_zero zeros]
  simp only [View.ld_unit_zero (S := S2048x1024) zeros, View.ld_unit_zero (S := S1024x1024) zeros, View.ld_unit_zero (S := S2048x1024) zeros]

end Pieces

theorem part_at (x0 : Vec Ideal S2048x1024 .bf16) (x1 : Vec Ideal S1024x1024 .bf16) (a : Fin 2048) (b : Fin 1024) :
    k0_pay1 x0 x1 (ix2 a b) = ∑ κ : Fin 1024, x0 (ix2 a κ) * x1 (ix2 κ b) := by
  unfold k0_pay1
  pointwise!

theorem sum_at (x0 : Vec Ideal S2048x1024 .bf16) (x1 : Vec Ideal S1024x1024 .bf16) (x : Vec Ideal S2048x1024 .f32)
    (a : Fin 2048) (b : Fin 1024) : k0_pay4 x0 x1 x (ix2 a b) = x (ix2 a b) + k0_pay1 x0 x1 (ix2 a b) := rfl

variable (m : (ℓ : Loc nD τ sig) → Buf (Elt Ideal) ℓ) (c : Dev nD)

/-- The left factor. -/
def lhs : Fin 16384 → Fin 4096 → EReal := fun i k => V m c main_v3 (ix2 i k)

/-- The right factor. -/
def rhs : Fin 4096 → Fin 1024 → EReal := fun k j => V m c main_v4 (ix2 k j)

/-- Which blocks a grid point takes and writes. -/
theorem idx : ∀ t : Fin cfg0.N,
    (win0_0.index t (0 : Fin 2) = t.val / 4 ∧ win0_0.index t (1 : Fin 2) = t.val % 4)
    ∧ (win0_1.index t (0 : Fin 2) = t.val % 4 ∧ win0_1.index t (1 : Fin 2) = 0)
    ∧ (win0_2.index t (0 : Fin 2) = t.val / 4 ∧ win0_2.index t (1 : Fin 2) = 0) :=
  (by decide +kernel : ∀ t : Fin grid0.N, _)

theorem lt_N (t : Fin cfg0.N) : t.val < 32 := lt_of_lt_of_eq t.isLt N_0

theorem lhs_block (t : Fin cfg0.N) (a : Fin 2048) (κ : Fin 1024) :
    iblk m c 0 t (ix2 a κ) = mat (lhs m c) (2048 * (t.val / 4) + a.val) (1024 * (t.val % 4) + κ.val) := by
  have ht := lt_N t
  rw [mat_of (lhs m c) (by omega) (by omega)]
  refine congrArg (V m c main_v3) (funext fun x => Fin.ext ?_)
  match x with
  | ⟨0, _⟩ =>
    show win0_0.index t (0 : Fin 2) * 2048 + 1 * a.val = 2048 * (t.val / 4) + a.val
    rw [(idx t).1.1]; omega
  | ⟨1, _⟩ =>
    show win0_0.index t (1 : Fin 2) * 1024 + 1 * κ.val = 1024 * (t.val % 4) + κ.val
    rw [(idx t).1.2]; omega

theorem rhs_block (t : Fin cfg0.N) (κ : Fin 1024) (b : Fin 1024) :
    iblk m c 1 t (ix2 κ b) = mat (rhs m c) (1024 * (t.val % 4) + κ.val) (b.val) := by
  have ht := lt_N t
  rw [mat_of (rhs m c) (by omega) (by omega)]
  refine congrArg (V m c main_v4) (funext fun x => Fin.ext ?_)
  match x with
  | ⟨0, _⟩ =>
    show win0_1.index t (0 : Fin 2) * 1024 + 1 * κ.val = 1024 * (t.val % 4) + κ.val
    rw [(idx t).2.1.1]; omega
  | ⟨1, _⟩ =>
    show win0_1.index t (1 : Fin 2) * 1024 + 1 * b.val = b.val
    rw [(idx t).2.1.2]; omega

/-- The products summed at an element of a run's block. -/
def term (a : Fin 2048) (b : Fin 1024) (r k : ℕ) : EReal :=
  mat (lhs m c) (2048 * (r) + a.val) k * mat (rhs m c) k (b.val)

theorem part_eq (t : Fin cfg0.N) (a : Fin 2048) (b : Fin 1024) :
    k0_pay1 (iblk m c 0 t) (iblk m c 1 t) (ix2 a b) =
      ∑ κ : Fin 1024, term m c a b (t.val / 4) (1024 * (t.val % 4) + κ.val) :=
  (part_at _ _ a b).trans (Finset.sum_congr rfl fun κ _ => congrArg₂ (· * ·) (lhs_block m c t a κ) (rhs_block m c t κ b))

/-- What the accumulator holds before a run's last point. -/
theorem scratch (n : ℕ) (h : n < cfg0.N) (hq : n % 4 + 1 < 4) (a : Fin 2048) (b : Fin 1024) :
    (outsAt0 m c n h).2 (ix2 a b) = ∑ k ∈ Finset.range (1024 * (n % 4 + 1)), term m c a b (n / 4) k := by
  refine accumulated cfg0.N 4 1024 (term m c a b) (fun n h => (outsAt0 m c n h).2 (ix2 a b)) (fun n h h0 => ?_)
    (fun n h h0 h1 => ?_) n h hq
  · rw [outsAt0_A m c ⟨n, h⟩ h0 (by dsimp only; omega) (by dsimp only; omega)]
    dsimp only
    rw [first]
    exact part_eq m c ⟨n, h⟩ a b
  · rw [outsAt0_B m c ⟨n, h⟩ (by dsimp only; omega) (by dsimp only; omega) (by dsimp only; omega)]
    dsimp only
    rw [middle, sum_at]
    exact congrArg _ (part_eq m c ⟨n, h⟩ a b)

/-- The whole product. -/
def prod : Fin 16384 → Fin 1024 → EReal := fun i j => ∑ k : Fin 4096, lhs m c i k * rhs m c k j

theorem term_sum (a : Fin 2048) (b : Fin 1024) (r : ℕ) (hi : 2048 * (r) + a.val < 16384) (hj : b.val < 1024) :
    ∑ k ∈ Finset.range 4096, term m c a b r k = prod m c ⟨_, hi⟩ ⟨_, hj⟩ := sum_mat (lhs m c) (rhs m c) hi hj

theorem out_emb (t : Fin cfg0.N) (a : Fin 2048) (b : Fin 1024) :
    ((cfg0.win 2).blk t).view.emb (ix2 a b) =
      ix2 (⟨2048 * (t.val / 4) + a.val, by have := lt_N t; omega⟩ : Fin 16384) (⟨b.val, by omega⟩ : Fin 1024) := by
  refine funext fun x => Fin.ext ?_
  match x with
  | ⟨0, _⟩ =>
    show win0_2.index t (0 : Fin 2) * 2048 + 1 * a.val = 2048 * (t.val / 4) + a.val
    rw [(idx t).2.2.1]; omega
  | ⟨1, _⟩ =>
    show win0_2.index t (1 : Fin 2) * 1024 + 1 * b.val = b.val
    rw [(idx t).2.2.2]; omega

theorem flushes : ∀ t : Fin cfg0.N, ((cfg0.win 2).flush t = true ↔ t.val % 4 = 3) :=
  (by decide +kernel : ∀ t : Fin grid0.N, _)

theorem out_block (t : Fin cfg0.N) (ht : t.val % 4 = 3) :
    (outsAt0 m c t.val t.isLt).1 = fun y => arr2 (φ := .f32) (prod m c) (((cfg0.win 2).blk t).view.emb y) := by
  funext y
  obtain ⟨a, b, rfl⟩ : ∃ a b, y = ix2 a b := ⟨y 0, y 1, (ix2_eta y).symm⟩
  have hN := lt_N t
  rw [out_emb, arr2_at, outsAt0_C m c t (by omega) (by omega) ht]
  dsimp only
  rw [last, sum_at, scratch m c _ _ (by omega), part_eq, show (t.val - 1) / 4 = t.val / 4 by omega,
    show (t.val - 1) % 4 + 1 = t.val % 4 by omega, sum_last_block, ht, show 1024 * (3 + 1) = 4096 by norm_num]
  exact term_sum m c a b _ _ _

theorem cover (y : S16384x1024.Idx) : ∃ t : Fin cfg0.N, (cfg0.win 2).flush t = true ∧ y ∈ ((cfg0.win 2).blk t).view.set := by
  obtain ⟨i, j, rfl⟩ : ∃ i j, y = ix2 i j := ⟨y 0, y 1, (ix2_eta y).symm⟩
  have hN : cfg0.N = 32 := N_0
  refine ⟨⟨4 * (i.val / 2048) + 3, by omega⟩, (flushes _).mpr (by dsimp only; omega), ?_⟩
  have e := out_emb ⟨4 * (i.val / 2048) + 3, by omega⟩ ⟨i.val % 2048, by omega⟩ ⟨j.val % 1024, by omega⟩
  have e' : ix2 i j = _ := (congrArg₂ ix2 (Fin.ext (by dsimp only; omega)) (Fin.ext (by dsimp only; omega))).trans e.symm
  rw [e']
  exact View.emb_mem_set _ _

theorem read_block (t : Fin cfg0.N) (G : Vec Ideal S16384x1024 .f32) :
    (cfg0.win 2).cut (grid0.coords t) (fun y => G (((cfg0.win 2).blk t).view.emb y)) =
      ((cfg0.win 2).blk t).view.read (Elt Ideal) G := rfl

/-- The result after the run. -/
theorem final : (dats m 0 c).arrAt 2 cfg0.N = arr2 (φ := .f32) (prod m c) := by
  refine (dats m 0 c).arrAt_eq_of_cover 2 _ (fun t hf => ?_) cover
  rw [Value.flushed2, out_block m c t ((flushes t).mp hf)]
  exact read_block t _

end Cert.Proof.Down
-- ==== Proof.DownFinal.lean ====
/- The second product of the feed-forward block: the programs' results beside each other. -/
module

public import proofs.«01_k».proof.Defs
public import proofs.«01_k».proof.Proof.Mlp
public import proofs.«01_k».proof.Proof.DownValue
public import proofs.«01_k».proof.Proof.Gen.DownRefIdeal.Run

@[expose] public section

set_option maxRecDepth 16384

noncomputable section

namespace Cert.Proof.Down

open Idealize.ShloMosaic Idealize.ShloMosaic.TcCoe Idealize.ShloMosaic.Pointwise Idealize.ShloMosaic.StableHlo Idealize.SL.Sem

section Kernel

open Cert.DownIdeal Cert.DownIdeal.Gen

section Host

variable {F : FTy → Type} [FloatOps F]

/-- The left factor as the host prepares it. -/
def host_lhs (x0 : Vec F S16384x1024 .f32) (x1 : Vec F S1024x4096 .f32) : Vec F S16384x4096 .bf16 :=
  truncf .bf16 (mulf (maximumf (Host.dotGeneral dot_S16384x1024_S1024x4096_S16384x4096_1_0_0_1_n_n none x0 x1) (broadcastInDim S16384x4096 ![] bcast_S_S16384x4096 (constant S_ .f32 0x00000000#32))) (maximumf (Host.dotGeneral dot_S16384x1024_S1024x4096_S16384x4096_1_0_0_1_n_n none x0 x1) (broadcastInDim S16384x4096 ![] bcast_S_S16384x4096 (constant S_ .f32 0x00000000#32)))) bitsLt_bf16_f32

/-- The right factor as the host prepares it. -/
def host_rhs (x2 : Vec F S4096x1024 .f32) : Vec F S4096x1024 .bf16 :=
  truncf .bf16 x2 bitsLt_bf16_f32

end Host

variable (m : (ℓ : Loc nD τ sig) → Buf (Elt Ideal) ℓ) (c : Dev nD)

theorem host_lhs_at (x0 : Vec Ideal S16384x1024 .f32) (x1 : Vec Ideal S1024x4096 .f32) (i : Fin 16384) (j : Fin 4096) :
    host_lhs x0 x1 (ix2 i j) = (activation (of2 x0) (of2 x1)) i j := by
  unfold host_lhs activation sqRelu mul2 of2
  pointwise!

theorem V_lhs : V m c main_v3 = host_lhs (m ((c : Thread nD τ).loc main_arg0)) (m ((c : Thread nD τ).loc main_arg1)) := by
  unfold_abbrev_sides
  simp only [List.flatten_cons, List.flatten_nil, hostOps0, hostOps0_1, hostOps0_2, List.cons_append, List.nil_append, List.append_nil, TRef.binary, TRef.nullary, TRef.unary, TRef.toBuf, TRef.ofBuf, cast_eq]
  after_results
  rfl

theorem lhs_eq : lhs m c = (activation (of2 (m ((c : Thread nD τ).loc main_arg0))) (of2 (m ((c : Thread nD τ).loc main_arg1)))) := by
  funext i j
  unfold lhs
  rw [V_lhs]
  exact host_lhs_at _ _ _ _

theorem host_rhs_at (x2 : Vec Ideal S4096x1024 .f32) (i : Fin 4096) (j : Fin 1024) :
    host_rhs x2 (ix2 i j) = of2 x2 i j := by
  rfl

theorem V_rhs : V m c main_v4 = host_rhs (m ((c : Thread nD τ).loc main_arg2)) := by
  unfold_abbrev_sides
  simp only [List.flatten_cons, List.flatten_nil, hostOps0, hostOps0_1, hostOps0_2, List.cons_append, List.nil_append, List.append_nil, TRef.binary, TRef.nullary, TRef.unary, TRef.toBuf, TRef.ofBuf, cast_eq]
  after_results
  rfl

theorem rhs_eq : rhs m c = of2 (m ((c : Thread nD τ).loc main_arg2)) := by
  funext i j
  unfold rhs
  rw [V_rhs]
  exact host_rhs_at _ _ _

theorem prod_eq : prod m c = mul2 (activation (of2 (m ((c : Thread nD τ).loc main_arg0))) (of2 (m ((c : Thread nD τ).loc main_arg1)))) (of2 (m ((c : Thread nD τ).loc main_arg2))) := by
  show mul2 (lhs m c) (rhs m c) = _
  rw [lhs_eq, rhs_eq]

end Kernel

section Reference

open Cert.DownRefIdeal Cert.DownRefIdeal.Gen

variable (x0 : Vec Ideal S16384x1024 .f32) (x1 : Vec Ideal S1024x4096 .f32) (x2 : Vec Ideal S4096x1024 .f32)

section Plain

variable {F : FTy → Type} [FloatOps F]

/-- The reference's value. -/
def plain_prod (x0 : Vec F S16384x1024 .f32) (x1 : Vec F S1024x4096 .f32) (x2 : Vec F S4096x1024 .f32) : Vec F S16384x1024 .f32 :=
  Host.dotGeneral dot_S16384x4096_S4096x1024_S16384x1024_1_0_0_1_n_n none (mulf (maximumf (Host.dotGeneral dot_S16384x1024_S1024x4096_S16384x4096_1_0_0_1_n_n none x0 x1) (broadcastInDim S16384x4096 ![] bcast_S_S16384x4096 (constant S_ .f32 0x00000000#32))) (maximumf (Host.dotGeneral dot_S16384x1024_S1024x4096_S16384x4096_1_0_0_1_n_n none x0 x1) (broadcastInDim S16384x4096 ![] bcast_S_S16384x4096 (constant S_ .f32 0x00000000#32)))) x2

end Plain

set_option maxRecDepth 200000 in
theorem prod_ref : plain_prod x0 x1 x2 =
    arr2 (φ := .f32) (mul2 (activation (of2 x0) (of2 x1)) (of2 x2)) := by
  refine eq_arr2 _ _ fun i j => ?_
  unfold plain_prod activation sqRelu mul2 of2
  pointwise!

end Reference

theorem quiescent_ref : Cert.quiescent_DownRefIdeal := fun m ρ _ =>
  (θ_run Cert.DownRefIdeal.defs _ _).mono (fun r h =>
      ⟨fun c => (h c).2, Idealize.ShloMosaic.sem_eq_zero_of_no_sems (by decide) r.2⟩)
    (Cert.DownRefIdeal.Value.run (F := Ideal) m ρ)

theorem algebraic : Cert.algebraic_DownIdeal_DownRefIdeal := fun m ρ m' ρ' _ hag =>
  ⟨fun c => arr2 (φ := .f32) (mul2 (activation (of2 (m ((c : Thread Cert.DownIdeal.nD Cert.DownIdeal.τ).loc Cert.DownIdeal.main_arg0))) (of2 (m ((c : Thread Cert.DownIdeal.nD Cert.DownIdeal.τ).loc Cert.DownIdeal.main_arg1)))) (of2 (m ((c : Thread Cert.DownIdeal.nD Cert.DownIdeal.τ).loc Cert.DownIdeal.main_arg2)))),
    (θ_run Cert.DownIdeal.defs _ _).mono (fun _ h c => ⟨(h c).1.trans ((final m c).trans (congrArg _ (prod_eq m c))), (h c).2⟩)
      (Cert.DownIdeal.Value.run_blocks (F := Ideal) m ρ),
    (θ_run Cert.DownRefIdeal.defs _ _).mono (fun _ h c => by
        obtain ⟨h0, h1, h2⟩ := hag c
        exact ⟨(h c).1.trans ((prod_ref (m' ((c : Thread Cert.DownRefIdeal.nD Cert.DownRefIdeal.τ).loc Cert.DownRefIdeal.main_arg0)) (m' ((c : Thread Cert.DownRefIdeal.nD Cert.DownRefIdeal.τ).loc Cert.DownRefIdeal.main_arg1)) (m' ((c : Thread Cert.DownRefIdeal.nD Cert.DownRefIdeal.τ).loc Cert.DownRefIdeal.main_arg2))).trans (by rw [h0, h1, h2])), (h c).2⟩)
      (Cert.DownRefIdeal.Value.run (F := Ideal) m' ρ')⟩

end Cert.Proof.Down
-- ==== Proof.DUpValue.lean ====
/- The cotangent of the feed-forward block's first product: what the blocked product leaves in its result. -/
module

public import proofs.«01_k».proof.Proof.Product
public import proofs.«01_k».proof.Proof.Gen.DUpIdeal.Value

@[expose] public section

set_option maxRecDepth 16384

noncomputable section

namespace Cert.Proof.DUp

open Cert.DUpIdeal Cert.DUpIdeal.Gen
open Idealize.ShloMosaic Idealize.ShloMosaic.TcCoe Idealize.ShloMosaic.Pointwise Idealize.ShloMosaic.StableHlo

variable (m : (ℓ : Loc nD τ sig) → Buf (Elt Ideal) ℓ) (c : Dev nD)

/-- The left factor. -/
def lhs : Fin 16384 → Fin 1024 → EReal := fun i k => V m c main_v0 (ix2 i k)

/-- The right factor. -/
def rhs : Fin 1024 → Fin 4096 → EReal := fun k j => V m c main_v1 (ix2 j k)

/-- The product. -/
def prod : Fin 16384 → Fin 4096 → EReal := fun i j => ∑ k : Fin 1024, lhs m c i k * rhs m c k j

/-- The forward pass's first product. -/
def up : Fin 16384 → Fin 4096 → EReal := fun i j => V m c main_v3 (ix2 i j)

/-- The product times the activation's derivative. -/
def scaled : Fin 16384 → Fin 4096 → EReal := fun i j => prod m c i j * (two * max (up m c i j) 0)

/-- Which blocks a grid point takes and writes. -/
theorem idx : ∀ t : Fin cfg0.N,
    (win0_0.index t (0 : Fin 2) = t.val / 4 ∧ win0_0.index t (1 : Fin 2) = 0)
    ∧ (win0_1.index t (0 : Fin 2) = t.val % 4 ∧ win0_1.index t (1 : Fin 2) = 0)
    ∧ (win0_2.index t (0 : Fin 2) = t.val / 4 ∧ win0_2.index t (1 : Fin 2) = t.val % 4)
    ∧ (win0_3.index t (0 : Fin 2) = t.val / 4 ∧ win0_3.index t (1 : Fin 2) = t.val % 4) :=
  (by decide +kernel : ∀ t : Fin grid0.N, _)

theorem lt_N (t : Fin cfg0.N) : t.val < 32 := lt_of_lt_of_eq t.isLt N_0

theorem lhs_block (t : Fin cfg0.N) (a : Fin 2048) (κ : Fin 1024) :
    iblk m c 0 t (ix2 a κ) = lhs m c (⟨2048 * (t.val / 4) + a.val, by have := lt_N t; omega⟩ : Fin 16384) κ := by
  refine congrArg (V m c main_v0) (funext fun x => Fin.ext ?_)
  match x with
  | ⟨0, _⟩ =>
    show win0_0.index t (0 : Fin 2) * 2048 + 1 * a.val = 2048 * (t.val / 4) + a.val
    rw [(idx t).1.1]; omega
  | ⟨1, _⟩ =>
    show win0_0.index t (1 : Fin 2) * 1024 + 1 * κ.val = κ.val
    rw [(idx t).1.2]; omega

theorem rhs_block (t : Fin cfg0.N) (κ : Fin 1024) (b : Fin 1024) :
    iblk m c 1 t (ix2 b κ) = rhs m c κ (⟨1024 * (t.val % 4) + b.val, by omega⟩ : Fin 4096) := by
  refine congrArg (V m c main_v1) (funext fun x => Fin.ext ?_)
  match x with
  | ⟨0, _⟩ =>
    show win0_1.index t (0 : Fin 2) * 1024 + 1 * b.val = 1024 * (t.val % 4) + b.val
    rw [(idx t).2.1.1]; omega
  | ⟨1, _⟩ =>
    show win0_1.index t (1 : Fin 2) * 1024 + 1 * κ.val = κ.val
    rw [(idx t).2.1.2]; omega

/-- A block's product at an element. -/
def dot (x0 : Vec Ideal S2048x1024 .bf16) (x1 : Vec Ideal S1024x1024 .bf16) (a : Fin 2048) (b : Fin 1024) : EReal :=
  ∑ κ : Fin 1024, x0 (ix2 a κ) * x1 (ix2 b κ)

theorem block_sum (t : Fin cfg0.N) (a : Fin 2048) (b : Fin 1024) :
    dot (iblk m c 0 t) (iblk m c 1 t) a b = prod m c (⟨2048 * (t.val / 4) + a.val, by have := lt_N t; omega⟩ : Fin 16384) (⟨1024 * (t.val % 4) + b.val, by omega⟩ : Fin 4096) :=
  Finset.sum_congr rfl fun κ _ => congrArg₂ (· * ·) (lhs_block m c t a κ) (rhs_block m c t κ b)

theorem emb2 (t : Fin cfg0.N) (a : Fin 2048) (b : Fin 1024) :
    ((cfg0.win 2).blk t).view.emb (ix2 a b) = ix2 (⟨2048 * (t.val / 4) + a.val, by have := lt_N t; omega⟩ : Fin 16384) (⟨1024 * (t.val % 4) + b.val, by omega⟩ : Fin 4096) := by
  refine funext fun x => Fin.ext ?_
  match x with
  | ⟨0, _⟩ =>
    show win0_2.index t (0 : Fin 2) * 2048 + 1 * a.val = 2048 * (t.val / 4) + a.val
    rw [(idx t).2.2.1.1]; omega
  | ⟨1, _⟩ =>
    show win0_2.index t (1 : Fin 2) * 1024 + 1 * b.val = 1024 * (t.val % 4) + b.val
    rw [(idx t).2.2.1.2]; omega

theorem emb3 (t : Fin cfg0.N) (a : Fin 2048) (b : Fin 1024) :
    ((cfg0.win 3).blk t).view.emb (ix2 a b) = ix2 (⟨2048 * (t.val / 4) + a.val, by have := lt_N t; omega⟩ : Fin 16384) (⟨1024 * (t.val % 4) + b.val, by omega⟩ : Fin 4096) := by
  refine funext fun x => Fin.ext ?_
  match x with
  | ⟨0, _⟩ =>
    show win0_3.index t (0 : Fin 2) * 2048 + 1 * a.val = 2048 * (t.val / 4) + a.val
    rw [(idx t).2.2.2.1]; omega
  | ⟨1, _⟩ =>
    show win0_3.index t (1 : Fin 2) * 1024 + 1 * b.val = 1024 * (t.val % 4) + b.val
    rw [(idx t).2.2.2.2]; omega

theorem up_block (t : Fin cfg0.N) (a : Fin 2048) (b : Fin 1024) :
    iblk m c 2 t (ix2 a b) = up m c (⟨2048 * (t.val / 4) + a.val, by have := lt_N t; omega⟩ : Fin 16384) (⟨1024 * (t.val % 4) + b.val, by omega⟩ : Fin 4096) := congrArg (V m c main_v3) (emb2 t a b)

theorem part_at (x0 : Vec Ideal S2048x1024 .bf16) (x1 : Vec Ideal S1024x1024 .bf16) (x2 : Vec Ideal S2048x1024 .bf16) (a : Fin 2048) (b : Fin 1024) :
    k0_pay1 x0 x1 x2 (ix2 a b) = dot x0 x1 a b * (two * max (x2 (ix2 a b)) 0) := by
  unfold k0_pay1 dot two
  pointwise!

theorem whole3 (x0 : Vec Ideal S2048x1024 .bf16) (x1 : Vec Ideal S1024x1024 .bf16) (x2 : Vec Ideal S2048x1024 .bf16) : out0_3 x0 x1 x2 = k0_pay1 x0 x1 x2 := by
  unfold out0_3
  rw [View.canon_unit_zero zeros]
  simp only [View.ld_unit_zero (S := S2048x1024) zeros, View.ld_unit_zero (S := S1024x1024) zeros]

theorem flushes3 : ∀ t : Fin cfg0.N, (cfg0.win 3).flush t = true := (by decide +kernel : ∀ t : Fin grid0.N, _)

theorem out_block3 (t : Fin cfg0.N) :
    out0_3 (iblk m c 0 t) (iblk m c 1 t) (iblk m c 2 t) = fun y => arr2 (φ := .bf16) (scaled m c) (((cfg0.win 3).blk t).view.emb y) := by
  funext y
  obtain ⟨a, b, rfl⟩ : ∃ a b, y = ix2 a b := ⟨y 0, y 1, (ix2_eta y).symm⟩
  rw [emb3, arr2_at, whole3]
  exact (part_at _ _ _ a b).trans (by rw [block_sum, up_block]; rfl)

theorem cover3 (y : S16384x4096.Idx) : ∃ t : Fin cfg0.N, (cfg0.win 3).flush t = true ∧ y ∈ ((cfg0.win 3).blk t).view.set := by
  obtain ⟨i, j, rfl⟩ : ∃ i j, y = ix2 i j := ⟨y 0, y 1, (ix2_eta y).symm⟩
  have hN : cfg0.N = 32 := N_0
  refine ⟨⟨4 * (i.val / 2048) + j.val / 1024, by omega⟩, flushes3 _, ?_⟩
  have e := emb3 ⟨4 * (i.val / 2048) + j.val / 1024, by omega⟩ ⟨i.val % 2048, by omega⟩ ⟨j.val % 1024, by omega⟩
  have e' : ix2 i j = _ := (congrArg₂ ix2 (Fin.ext (by dsimp only; omega)) (Fin.ext (by dsimp only; omega))).trans e.symm
  rw [e']
  exact View.emb_mem_set _ _

theorem read_block3 (t : Fin cfg0.N) (G : Vec Ideal S16384x4096 .bf16) :
    (cfg0.win 3).cut (grid0.coords t) (fun y => G (((cfg0.win 3).blk t).view.emb y)) =
      ((cfg0.win 3).blk t).view.read (Elt Ideal) G := rfl

/-- The result after the run. -/
theorem final3 : (dats m 0 c).arrAt 3 cfg0.N = arr2 (φ := .bf16) (scaled m c) := by
  refine (dats m 0 c).arrAt_eq_of_cover 3 _ (fun t _ => ?_) cover3
  rw [Value.flushed3, out_block3 m c t]
  exact read_block3 t _

end Cert.Proof.DUp
-- ==== Proof.DUpFinal.lean ====
/- The cotangent of the feed-forward block's first product: the programs' results beside each other. -/
module

public import proofs.«01_k».proof.Defs
public import proofs.«01_k».proof.Proof.Mlp
public import proofs.«01_k».proof.Proof.DUpValue
public import proofs.«01_k».proof.Proof.Gen.DUpRefIdeal.Run

@[expose] public section

set_option maxRecDepth 16384

noncomputable section

namespace Cert.Proof.DUp

open Idealize.ShloMosaic Idealize.ShloMosaic.TcCoe Idealize.ShloMosaic.Pointwise Idealize.ShloMosaic.StableHlo Idealize.SL.Sem

section Kernel

open Cert.DUpIdeal Cert.DUpIdeal.Gen

section Host

variable {F : FTy → Type} [FloatOps F]

/-- The left factor as the host prepares it. -/
def host_lhs (x3 : Vec F S16384x1024 .f32) : Vec F S16384x1024 .bf16 :=
  truncf .bf16 x3 bitsLt_bf16_f32

/-- The right factor as the host prepares it. -/
def host_rhs (x2 : Vec F S4096x1024 .f32) : Vec F S4096x1024 .bf16 :=
  truncf .bf16 x2 bitsLt_bf16_f32

/-- The first product as the host prepares it. -/
def host_up (x0 : Vec F S16384x1024 .f32) (x1 : Vec F S1024x4096 .f32) : Vec F S16384x4096 .bf16 :=
  truncf .bf16 (Host.dotGeneral dot_S16384x1024_S1024x4096_S16384x4096_1_0_0_1_n_n none x0 x1) bitsLt_bf16_f32

end Host

variable (m : (ℓ : Loc nD τ sig) → Buf (Elt Ideal) ℓ) (c : Dev nD)

theorem host_lhs_at (x3 : Vec Ideal S16384x1024 .f32) (i : Fin 16384) (j : Fin 1024) :
    host_lhs x3 (ix2 i j) = of2 x3 i j := by
  rfl

theorem V_lhs : V m c main_v0 = host_lhs (m ((c : Thread nD τ).loc main_arg3)) := by
  unfold_abbrev_sides
  after_results
  rfl

theorem lhs_eq : lhs m c = of2 (m ((c : Thread nD τ).loc main_arg3)) := by
  funext i j
  unfold lhs
  rw [V_lhs]
  exact host_lhs_at _ _ _

theorem host_rhs_at (x2 : Vec Ideal S4096x1024 .f32) (i : Fin 4096) (j : Fin 1024) :
    host_rhs x2 (ix2 i j) = (of2 x2) i j := by
  rfl

theorem V_rhs : V m c main_v1 = host_rhs (m ((c : Thread nD τ).loc main_arg2)) := by
  unfold_abbrev_sides
  after_results
  rfl

theorem rhs_eq : rhs m c = tr (of2 (m ((c : Thread nD τ).loc main_arg2))) := by
  funext i j
  unfold rhs
  rw [V_rhs]
  exact host_rhs_at _ _ _

theorem host_up_at (x0 : Vec Ideal S16384x1024 .f32) (x1 : Vec Ideal S1024x4096 .f32) (i : Fin 16384) (j : Fin 4096) :
    host_up x0 x1 (ix2 i j) = mul2 (of2 x0) (of2 x1) i j := by
  unfold host_up mul2 of2
  pointwise!

theorem V_up : V m c main_v3 = host_up (m ((c : Thread nD τ).loc main_arg0)) (m ((c : Thread nD τ).loc main_arg1)) := by
  unfold_abbrev_sides
  after_results
  rfl

theorem up_eq : up m c = mul2 (of2 (m ((c : Thread nD τ).loc main_arg0))) (of2 (m ((c : Thread nD τ).loc main_arg1))) := by
  funext i j
  unfold up
  rw [V_up]
  exact host_up_at _ _ _ _

theorem scaled_eq : scaled m c = dHidden (of2 (m ((c : Thread nD τ).loc main_arg0))) (of2 (m ((c : Thread nD τ).loc main_arg1))) (of2 (m ((c : Thread nD τ).loc main_arg2))) (of2 (m ((c : Thread nD τ).loc main_arg3))) := by
  show (fun i j => dSqRelu (up m c i j) (mul2 (lhs m c) (rhs m c) i j)) = _
  rw [lhs_eq, rhs_eq, up_eq]
  rfl

end Kernel

section Reference

open Cert.DUpRefIdeal Cert.DUpRefIdeal.Gen

variable (x0 : Vec Ideal S16384x1024 .f32) (x1 : Vec Ideal S1024x4096 .f32) (x2 : Vec Ideal S4096x1024 .f32) (x3 : Vec Ideal S16384x1024 .f32)

section Plain

variable {F : FTy → Type} [FloatOps F]

/-- The reference's value. -/
def plain_scaled (x0 : Vec F S16384x1024 .f32) (x1 : Vec F S1024x4096 .f32) (x2 : Vec F S4096x1024 .f32) (x3 : Vec F S16384x1024 .f32) : Vec F S16384x4096 .bf16 :=
  truncf .bf16 (select (cmpf .ogt (Host.dotGeneral dot_S16384x1024_S1024x4096_S16384x4096_1_0_0_1_n_n none x0 x1) (broadcastInDim S16384x4096 ![] bcast_S_S16384x4096 (constant S_ .f32 0x00000000#32))) (mulf (Host.dotGeneral dot_S16384x1024_S4096x1024_S16384x4096_1_1_0_0_n_n none x3 x2) (mulf (broadcastInDim S16384x4096 ![] bcast_S_S16384x4096 (constant S_ .f32 0x40000000#32)) (maximumf (Host.dotGeneral dot_S16384x1024_S1024x4096_S16384x4096_1_0_0_1_n_n none x0 x1) (broadcastInDim S16384x4096 ![] bcast_S_S16384x4096 (constant S_ .f32 0x00000000#32))))) (broadcastInDim S16384x4096 ![] bcast_S_S16384x4096 (constant S_ .f32 0x00000000#32))) bitsLt_bf16_f32

end Plain

set_option maxRecDepth 200000 in
theorem scaled_ref : plain_scaled x0 x1 x2 x3 =
    arr2 (φ := .bf16) (dHidden (of2 x0) (of2 x1) (of2 x2) (of2 x3)) := by
  refine eq_arr2 _ _ fun i j => ?_
  unfold plain_scaled dHidden tr mul2 of2
  pointwise!
  exact select_eq _ _

end Reference

theorem quiescent_ref : Cert.quiescent_DUpRefIdeal := fun m ρ _ =>
  (θ_run Cert.DUpRefIdeal.defs _ _).mono (fun r h =>
      ⟨fun c => (h c).2, Idealize.ShloMosaic.sem_eq_zero_of_no_sems (by decide) r.2⟩)
    (Cert.DUpRefIdeal.Value.run (F := Ideal) m ρ)

theorem algebraic : Cert.algebraic_DUpIdeal_DUpRefIdeal := fun m ρ m' ρ' _ hag =>
  ⟨fun c => arr2 (φ := .bf16) (dHidden (of2 (m ((c : Thread Cert.DUpIdeal.nD Cert.DUpIdeal.τ).loc Cert.DUpIdeal.main_arg0))) (of2 (m ((c : Thread Cert.DUpIdeal.nD Cert.DUpIdeal.τ).loc Cert.DUpIdeal.main_arg1))) (of2 (m ((c : Thread Cert.DUpIdeal.nD Cert.DUpIdeal.τ).loc Cert.DUpIdeal.main_arg2))) (of2 (m ((c : Thread Cert.DUpIdeal.nD Cert.DUpIdeal.τ).loc Cert.DUpIdeal.main_arg3)))),
    (θ_run Cert.DUpIdeal.defs _ _).mono (fun _ h c => ⟨(h c).1.trans ((final3 m c).trans (congrArg _ (scaled_eq m c))), (h c).2⟩)
      (Cert.DUpIdeal.Value.run_blocks (F := Ideal) m ρ),
    (θ_run Cert.DUpRefIdeal.defs _ _).mono (fun _ h c => by
        obtain ⟨h0, h1, h2, h3⟩ := hag c
        exact ⟨(h c).1.trans ((scaled_ref (m' ((c : Thread Cert.DUpRefIdeal.nD Cert.DUpRefIdeal.τ).loc Cert.DUpRefIdeal.main_arg0)) (m' ((c : Thread Cert.DUpRefIdeal.nD Cert.DUpRefIdeal.τ).loc Cert.DUpRefIdeal.main_arg1)) (m' ((c : Thread Cert.DUpRefIdeal.nD Cert.DUpRefIdeal.τ).loc Cert.DUpRefIdeal.main_arg2)) (m' ((c : Thread Cert.DUpRefIdeal.nD Cert.DUpRefIdeal.τ).loc Cert.DUpRefIdeal.main_arg3))).trans (by rw [h0, h1, h2, h3])), (h c).2⟩)
      (Cert.DUpRefIdeal.Value.run (F := Ideal) m' ρ')⟩

end Cert.Proof.DUp
-- ==== Proof.DwDownValue.lean ====
/- The gradient of the second weight of the feed-forward block: what the blocked product leaves in its result. -/
module

public import proofs.«01_k».proof.Proof.Product
public import proofs.«01_k».proof.Proof.Gen.DwDownIdeal.Value

@[expose] public section

set_option maxRecDepth 16384

noncomputable section

namespace Cert.Proof.DwDown

open Cert.DwDownIdeal Cert.DwDownIdeal.Gen
open Idealize.ShloMosaic Idealize.ShloMosaic.TcCoe Idealize.ShloMosaic.Pointwise Idealize.ShloMosaic.StableHlo

section Pieces

variable {F : FTy → Type} [FloatOps F]
variable (c : Dev nD) (i : grid0.Coords) (arg3 : Memref sig .tc .vmem S1024x1024 .bf16) (harg3 : arg3.IsWhole)
    (arg4 : Memref sig .tc .vmem S1024x1024 .bf16) (harg4 : arg4.IsWhole) (arg5 : Memref sig .tc .vmem S1024x1024 .f32)
    (harg5 : arg5.IsWhole) (arg6 : Memref sig .tc .vmem S1024x1024 .f32) (harg6 : arg6.IsWhole)
    (x0 : Vec F S1024x1024 .bf16) (x1 : Vec F S1024x1024 .bf16) (xs0 : Vec F S1024x1024 .f32)

/-- A run's first point starts the sum. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_junk_eq_canon]
  unfold kernelRun0_A
  dsimp only
  sl_unfold_words
  simp only [View.readAt_eq_ld, harg3.read_unread, harg4.read_unread]
  rw [View.canon_unit_zero zeros]
  simp only [View.ld_unit_zero (S := S1024x1024) zeros, View.ld_unit_zero (S := S1024x1024) zeros]
  exact shapeCast_self _ _

/-- Its middle points add to it. -/
theorem middle (hc0 : ¬cond0_0 i) (hc1 : cond0_1 i) (hc2 : ¬cond0_2 i) :
    sout0_B_0 c i arg3 harg3 arg4 harg4 arg5 harg5 arg6 harg6 hc0 hc1 hc2 x0 x1 xs0 = k0_pay4 x0 x1 xs0 := by
  unfold sout0_B_0
  rw [View.read_writes_junk_eq_canon]
  unfold kernelRun0_B
  dsimp only
  sl_unfold_words
  simp only [View.readAt_eq_ld, harg3.read_unread, harg4.read_unread, harg6.read_unread]
  rw [View.canon_unit_zero zeros]
  simp only [View.ld_unit_zero (S := S1024x1024) zeros, View.ld_unit_zero (S := S1024x1024) zeros, View.ld_unit_zero (S := S1024x1024) zeros]
  exact shapeCast_self _ _

/-- Its last point writes the sum out. -/
theorem last (hc0 : ¬cond0_0 i) (hc1 : ¬cond0_1 i) (hc2 : cond0_2 i) :
    out0_C_2 c i arg3 harg3 arg4 harg4 arg5 harg5 arg6 harg6 hc0 hc1 hc2 x0 x1 xs0 = k0_pay4 x0 x1 xs0 := by
  unfold out0_C_2
  rw [View.read_writes_junk_eq_canon]
  unfold kernelRun0_C
  dsimp only
  sl_unfold_words
  simp only [View.readAt_eq_ld, harg3.read_unread, harg4.read_unread, harg6.read_unread]
  rw [View.canon_unit_zero zeros]
  simp only [View.ld_unit_zero (S := S1024x1024) zeros, View.ld_unit_zero (S := S1024x1024) zeros, View.ld_unit_zero (S := S1024x1024) zeros]

end Pieces

theorem part_at (x0 : Vec Ideal S1024x1024 .bf16) (x1 : Vec Ideal S1024x1024 .bf16) (a : Fin 1024) (b : Fin 1024) :
    k0_pay1 x0 x1 (ix2 a b) = ∑ κ : Fin 1024, x0 (ix2 κ a) * x1 (ix2 κ b) := by
  unfold k0_pay1
  pointwise!

theorem sum_at (x0 : Vec Ideal S1024x1024 .bf16) (x1 : Vec Ideal S1024x1024 .bf16) (x : Vec Ideal S1024x1024 .f32)
    (a : Fin 1024) (b : Fin 1024) : k0_pay4 x0 x1 x (ix2 a b) = x (ix2 a b) + k0_pay1 x0 x1 (ix2 a b) := rfl

variable (m : (ℓ : Loc nD τ sig) → Buf (Elt Ideal) ℓ) (c : Dev nD)

/-- The left factor. -/
def lhs : Fin 4096 → Fin 16384 → EReal := fun i k => V m c main_v3 (ix2 k i)

/-- The right factor. -/
def rhs : Fin 16384 → Fin 1024 → EReal := fun k j => V m c main_v4 (ix2 k j)

/-- Which blocks a grid point takes and writes. -/
theorem idx : ∀ t : Fin cfg0.N,
    (win0_0.index t (0 : Fin 2) = t.val % 16 ∧ win0_0.index t (1 : Fin 2) = t.val / 16)
    ∧ (win0_1.index t (0 : Fin 2) = t.val % 16 ∧ win0_1.index t (1 : Fin 2) = 0)
    ∧ (win0_2.index t (0 : Fin 2) = t.val / 16 ∧ win0_2.index t (1 : Fin 2) = 0) :=
  (by decide +kernel : ∀ t : Fin grid0.N, _)

theorem lt_N (t : Fin cfg0.N) : t.val < 64 := lt_of_lt_of_eq t.isLt N_0

theorem lhs_block (t : Fin cfg0.N) (a : Fin 1024) (κ : Fin 1024) :
    iblk m c 0 t (ix2 κ a) = mat (lhs m c) (1024 * (t.val / 16) + a.val) (1024 * (t.val % 16) + κ.val) := by
  have ht := lt_N t
  rw [mat_of (lhs m c) (by omega) (by omega)]
  refine congrArg (V m c main_v3) (funext fun x => Fin.ext ?_)
  match x with
  | ⟨0, _⟩ =>
    show win0_0.index t (0 : Fin 2) * 1024 + 1 * κ.val = 1024 * (t.val % 16) + κ.val
    rw [(idx t).1.1]; omega
  | ⟨1, _⟩ =>
    show win0_0.index t (1 : Fin 2) * 1024 + 1 * a.val = 1024 * (t.val / 16) + a.val
    rw [(idx t).1.2]; omega

theorem rhs_block (t : Fin cfg0.N) (κ : Fin 1024) (b : Fin 1024) :
    iblk m c 1 t (ix2 κ b) = mat (rhs m c) (1024 * (t.val % 16) + κ.val) (b.val) := by
  have ht := lt_N t
  rw [mat_of (rhs m c) (by omega) (by omega)]
  refine congrArg (V m c main_v4) (funext fun x => Fin.ext ?_)
  match x with
  | ⟨0, _⟩ =>
    show win0_1.index t (0 : Fin 2) * 1024 + 1 * κ.val = 1024 * (t.val % 16) + κ.val
    rw [(idx t).2.1.1]; omega
  | ⟨1, _⟩ =>
    show win0_1.index t (1 : Fin 2) * 1024 + 1 * b.val = b.val
    rw [(idx t).2.1.2]; omega

/-- The products summed at an element of a run's block. -/
def term (a : Fin 1024) (b : Fin 1024) (r k : ℕ) : EReal :=
  mat (lhs m c) (1024 * (r) + a.val) k * mat (rhs m c) k (b.val)

theorem part_eq (t : Fin cfg0.N) (a : Fin 1024) (b : Fin 1024) :
    k0_pay1 (iblk m c 0 t) (iblk m c 1 t) (ix2 a b) =
      ∑ κ : Fin 1024, term m c a b (t.val / 16) (1024 * (t.val % 16) + κ.val) :=
  (part_at _ _ a b).trans (Finset.sum_congr rfl fun κ _ => congrArg₂ (· * ·) (lhs_block m c t a κ) (rhs_block m c t κ b))

/-- What the accumulator holds before a run's last point. -/
theorem scratch (n : ℕ) (h : n < cfg0.N) (hq : n % 16 + 1 < 16) (a : Fin 1024) (b : Fin 1024) :
    (outsAt0 m c n h).2 (ix2 a b) = ∑ k ∈ Finset.range (1024 * (n % 16 + 1)), term m c a b (n / 16) k := by
  refine accumulated cfg0.N 16 1024 (term m c a b) (fun n h => (outsAt0 m c n h).2 (ix2 a b)) (fun n h h0 => ?_)
    (fun n h h0 h1 => ?_) n h hq
  · rw [outsAt0_A m c ⟨n, h⟩ h0 (by dsimp only; omega) (by dsimp only; omega)]
    dsimp only
    rw [first]
    exact part_eq m c ⟨n, h⟩ a b
  · rw [outsAt0_B m c ⟨n, h⟩ (by dsimp only; omega) (by dsimp only; omega) (by dsimp only; omega)]
    dsimp only
    rw [middle, sum_at]
    exact congrArg _ (part_eq m c ⟨n, h⟩ a b)

/-- The whole product. -/
def prod : Fin 4096 → Fin 1024 → EReal := fun i j => ∑ k : Fin 16384, lhs m c i k * rhs m c k j

theorem term_sum (a : Fin 1024) (b : Fin 1024) (r : ℕ) (hi : 1024 * (r) + a.val < 4096) (hj : b.val < 1024) :
    ∑ k ∈ Finset.range 16384, term m c a b r k = prod m c ⟨_, hi⟩ ⟨_, hj⟩ := sum_mat (lhs m c) (rhs m c) hi hj

theorem out_emb (t : Fin cfg0.N) (a : Fin 1024) (b : Fin 1024) :
    ((cfg0.win 2).blk t).view.emb (ix2 a b) =
      ix2 (⟨1024 * (t.val / 16) + a.val, by have := lt_N t; omega⟩ : Fin 4096) (⟨b.val, by omega⟩ : Fin 1024) := by
  refine funext fun x => Fin.ext ?_
  match x with
  | ⟨0, _⟩ =>
    show win0_2.index t (0 : Fin 2) * 1024 + 1 * a.val = 1024 * (t.val / 16) + a.val
    rw [(idx t).2.2.1]; omega
  | ⟨1, _⟩ =>
    show win0_2.index t (1 : Fin 2) * 1024 + 1 * b.val = b.val
    rw [(idx t).2.2.2]; omega

theorem flushes : ∀ t : Fin cfg0.N, ((cfg0.win 2).flush t = true ↔ t.val % 16 = 15) :=
  (by decide +kernel : ∀ t : Fin grid0.N, _)

theorem out_block (t : Fin cfg0.N) (ht : t.val % 16 = 15) :
    (outsAt0 m c t.val t.isLt).1 = fun y => arr2 (φ := .f32) (prod m c) (((cfg0.win 2).blk t).view.emb y) := by
  funext y
  obtain ⟨a, b, rfl⟩ : ∃ a b, y = ix2 a b := ⟨y 0, y 1, (ix2_eta y).symm⟩
  have hN := lt_N t
  rw [out_emb, arr2_at, outsAt0_C m c t (by omega) (by omega) ht]
  dsimp only
  rw [last, sum_at, scratch m c _ _ (by omega), part_eq, show (t.val - 1) / 16 = t.val / 16 by omega,
    show (t.val - 1) % 16 + 1 = t.val % 16 by omega, sum_last_block, ht, show 1024 * (15 + 1) = 16384 by norm_num]
  exact term_sum m c a b _ _ _

theorem cover (y : S4096x1024.Idx) : ∃ t : Fin cfg0.N, (cfg0.win 2).flush t = true ∧ y ∈ ((cfg0.win 2).blk t).view.set := by
  obtain ⟨i, j, rfl⟩ : ∃ i j, y = ix2 i j := ⟨y 0, y 1, (ix2_eta y).symm⟩
  have hN : cfg0.N = 64 := N_0
  refine ⟨⟨16 * (i.val / 1024) + 15, by omega⟩, (flushes _).mpr (by dsimp only; omega), ?_⟩
  have e := out_emb ⟨16 * (i.val / 1024) + 15, by omega⟩ ⟨i.val % 1024, by omega⟩ ⟨j.val % 1024, by omega⟩
  have e' : ix2 i j = _ := (congrArg₂ ix2 (Fin.ext (by dsimp only; omega)) (Fin.ext (by dsimp only; omega))).trans e.symm
  rw [e']
  exact View.emb_mem_set _ _

theorem read_block (t : Fin cfg0.N) (G : Vec Ideal S4096x1024 .f32) :
    (cfg0.win 2).cut (grid0.coords t) (fun y => G (((cfg0.win 2).blk t).view.emb y)) =
      ((cfg0.win 2).blk t).view.read (Elt Ideal) G := rfl

/-- The result after the run. -/
theorem final : (dats m 0 c).arrAt 2 cfg0.N = arr2 (φ := .f32) (prod m c) := by
  refine (dats m 0 c).arrAt_eq_of_cover 2 _ (fun t hf => ?_) cover
  rw [Value.flushed2, out_block m c t ((flushes t).mp hf)]
  exact read_block t _

end Cert.Proof.DwDown
-- ==== Proof.DwDownFinal.lean ====
/- The gradient of the second weight of the feed-forward block: the programs' results beside each other. -/
module

public import proofs.«01_k».proof.Defs
public import proofs.«01_k».proof.Proof.Mlp
public import proofs.«01_k».proof.Proof.DwDownValue
public import proofs.«01_k».proof.Proof.Gen.DwDownRefIdeal.Run

@[expose] public section

set_option maxRecDepth 16384

noncomputable section

namespace Cert.Proof.DwDown

open Idealize.ShloMosaic Idealize.ShloMosaic.TcCoe Idealize.ShloMosaic.Pointwise Idealize.ShloMosaic.StableHlo Idealize.SL.Sem

section Kernel

open Cert.DwDownIdeal Cert.DwDownIdeal.Gen

section Host

variable {F : FTy → Type} [FloatOps F]

/-- The left factor as the host prepares it. -/
def host_lhs (x0 : Vec F S16384x1024 .f32) (x1 : Vec F S1024x4096 .f32) : Vec F S16384x4096 .bf16 :=
  truncf .bf16 (mulf (maximumf (Host.dotGeneral dot_S16384x1024_S1024x4096_S16384x4096_1_0_0_1_n_n none x0 x1) (broadcastInDim S16384x4096 ![] bcast_S_S16384x4096 (constant S_ .f32 0x00000000#32))) (maximumf (Host.dotGeneral dot_S16384x1024_S1024x4096_S16384x4096_1_0_0_1_n_n none x0 x1) (broadcastInDim S16384x4096 ![] bcast_S_S16384x4096 (constant S_ .f32 0x00000000#32)))) bitsLt_bf16_f32

/-- The right factor as the host prepares it. -/
def host_rhs (x3 : Vec F S16384x1024 .f32) : Vec F S16384x1024 .bf16 :=
  truncf .bf16 x3 bitsLt_bf16_f32

end Host

variable (m : (ℓ : Loc nD τ sig) → Buf (Elt Ideal) ℓ) (c : Dev nD)

theorem host_lhs_at (x0 : Vec Ideal S16384x1024 .f32) (x1 : Vec Ideal S1024x4096 .f32) (i : Fin 16384) (j : Fin 4096) :
    host_lhs x0 x1 (ix2 i j) = (activation (of2 x0) (of2 x1)) i j := by
  unfold host_lhs activation sqRelu mul2 of2
  pointwise!

theorem V_lhs : V m c main_v3 = host_lhs (m ((c : Thread nD τ).loc main_arg0)) (m ((c : Thread nD τ).loc main_arg1)) := by
  unfold_abbrev_sides
  simp only [List.flatten_cons, List.flatten_nil, hostOps0, hostOps0_1, hostOps0_2, List.cons_append, List.nil_append, List.append_nil, TRef.binary, TRef.nullary, TRef.unary, TRef.toBuf, TRef.ofBuf, cast_eq]
  after_results
  rfl

theorem lhs_eq : lhs m c = tr (activation (of2 (m ((c : Thread nD τ).loc main_arg0))) (of2 (m ((c : Thread nD τ).loc main_arg1)))) := by
  funext i j
  unfold lhs
  rw [V_lhs]
  exact host_lhs_at _ _ _ _

theorem host_rhs_at (x3 : Vec Ideal S16384x1024 .f32) (i : Fin 16384) (j : Fin 1024) :
    host_rhs x3 (ix2 i j) = of2 x3 i j := by
  rfl

theorem V_rhs : V m c main_v4 = host_rhs (m ((c : Thread nD τ).loc main_arg3)) := by
  unfold_abbrev_sides
  simp only [List.flatten_cons, List.flatten_nil, hostOps0, hostOps0_1, hostOps0_2, List.cons_append, List.nil_append, List.append_nil, TRef.binary, TRef.nullary, TRef.unary, TRef.toBuf, TRef.ofBuf, cast_eq]
  after_results
  rfl

theorem rhs_eq : rhs m c = of2 (m ((c : Thread nD τ).loc main_arg3)) := by
  funext i j
  unfold rhs
  rw [V_rhs]
  exact host_rhs_at _ _ _

theorem prod_eq : prod m c = mul2 (tr (activation (of2 (m ((c : Thread nD τ).loc main_arg0))) (of2 (m ((c : Thread nD τ).loc main_arg1))))) (of2 (m ((c : Thread nD τ).loc main_arg3))) := by
  show mul2 (lhs m c) (rhs m c) = _
  rw [lhs_eq, rhs_eq]

end Kernel

section Reference

open Cert.DwDownRefIdeal Cert.DwDownRefIdeal.Gen

variable (x0 : Vec Ideal S16384x1024 .f32) (x1 : Vec Ideal S1024x4096 .f32) (x2 : Vec Ideal S4096x1024 .f32) (x3 : Vec Ideal S16384x1024 .f32)

section Plain

variable {F : FTy → Type} [FloatOps F]

/-- The reference's value. -/
def plain_prod (x0 : Vec F S16384x1024 .f32) (x1 : Vec F S1024x4096 .f32) (x3 : Vec F S16384x1024 .f32) : Vec F S4096x1024 .f32 :=
  transpose S4096x1024 [1, 0] (Host.dotGeneral dot_S16384x1024_S16384x4096_S1024x4096_0_0_1_1_n_n none x3 (mulf (maximumf (Host.dotGeneral dot_S16384x1024_S1024x4096_S16384x4096_1_0_0_1_n_n none x0 x1) (broadcastInDim S16384x4096 ![] bcast_S_S16384x4096 (constant S_ .f32 0x00000000#32))) (maximumf (Host.dotGeneral dot_S16384x1024_S1024x4096_S16384x4096_1_0_0_1_n_n none x0 x1) (broadcastInDim S16384x4096 ![] bcast_S_S16384x4096 (constant S_ .f32 0x00000000#32))))) transposes_S1024x4096_S4096x1024_1_0

end Plain

set_option maxRecDepth 200000 in
theorem prod_ref : plain_prod x0 x1 x3 =
    arr2 (φ := .f32) (mul2 (tr (activation (of2 x0) (of2 x1))) (of2 x3)) := by
  refine eq_arr2 _ _ fun i j => ?_
  unfold plain_prod activation sqRelu tr mul2 of2
  pointwise!

end Reference

theorem quiescent_ref : Cert.quiescent_DwDownRefIdeal := fun m ρ _ =>
  (θ_run Cert.DwDownRefIdeal.defs _ _).mono (fun r h =>
      ⟨fun c => (h c).2, Idealize.ShloMosaic.sem_eq_zero_of_no_sems (by decide) r.2⟩)
    (Cert.DwDownRefIdeal.Value.run (F := Ideal) m ρ)

theorem algebraic : Cert.algebraic_DwDownIdeal_DwDownRefIdeal := fun m ρ m' ρ' _ hag =>
  ⟨fun c => arr2 (φ := .f32) (mul2 (tr (activation (of2 (m ((c : Thread Cert.DwDownIdeal.nD Cert.DwDownIdeal.τ).loc Cert.DwDownIdeal.main_arg0))) (of2 (m ((c : Thread Cert.DwDownIdeal.nD Cert.DwDownIdeal.τ).loc Cert.DwDownIdeal.main_arg1))))) (of2 (m ((c : Thread Cert.DwDownIdeal.nD Cert.DwDownIdeal.τ).loc Cert.DwDownIdeal.main_arg3)))),
    (θ_run Cert.DwDownIdeal.defs _ _).mono (fun _ h c => ⟨(h c).1.trans ((final m c).trans (congrArg _ (prod_eq m c))), (h c).2⟩)
      (Cert.DwDownIdeal.Value.run_blocks (F := Ideal) m ρ),
    (θ_run Cert.DwDownRefIdeal.defs _ _).mono (fun _ h c => by
        obtain ⟨h0, h1, h2, h3⟩ := hag c
        exact ⟨(h c).1.trans ((prod_ref (m' ((c : Thread Cert.DwDownRefIdeal.nD Cert.DwDownRefIdeal.τ).loc Cert.DwDownRefIdeal.main_arg0)) (m' ((c : Thread Cert.DwDownRefIdeal.nD Cert.DwDownRefIdeal.τ).loc Cert.DwDownRefIdeal.main_arg1)) (m' ((c : Thread Cert.DwDownRefIdeal.nD Cert.DwDownRefIdeal.τ).loc Cert.DwDownRefIdeal.main_arg3))).trans (by rw [h0, h1, h3])), (h c).2⟩)
      (Cert.DwDownRefIdeal.Value.run (F := Ideal) m' ρ')⟩

end Cert.Proof.DwDown
-- ==== Proof.DwUpValue.lean ====
/- The gradient of the first weight of the feed-forward block: what the blocked product leaves in its result. -/
module

public import proofs.«01_k».proof.Proof.Product
public import proofs.«01_k».proof.Proof.Gen.DwUpIdeal.Value

@[expose] public section

set_option maxRecDepth 16384

noncomputable section

namespace Cert.Proof.DwUp

open Cert.DwUpIdeal Cert.DwUpIdeal.Gen
open Idealize.ShloMosaic Idealize.ShloMosaic.TcCoe Idealize.ShloMosaic.Pointwise Idealize.ShloMosaic.StableHlo

section Pieces

variable {F : FTy → Type} [FloatOps F]
variable (c : Dev nD) (i : grid0.Coords) (arg3 : Memref sig .tc .vmem S1024x1024 .bf16) (harg3 : arg3.IsWhole)
    (arg4 : Memref sig .tc .vmem S1024x2048 .bf16) (harg4 : arg4.IsWhole) (arg5 : Memref sig .tc .vmem S1024x2048 .f32)
    (harg5 : arg5.IsWhole) (arg6 : Memref sig .tc .vmem S1024x2048 .f32) (harg6 : arg6.IsWhole)
    (x0 : Vec F S1024x1024 .bf16) (x1 : Vec F S1024x2048 .bf16) (xs0 : Vec F S1024x2048 .f32)

/-- A run's first point starts the sum. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_junk_eq_canon]
  unfold kernelRun0_A
  dsimp only
  sl_unfold_words
  simp only [View.readAt_eq_ld, harg3.read_unread, harg4.read_unread]
  rw [View.canon_unit_zero zeros]
  simp only [View.ld_unit_zero (S := S1024x1024) zeros, View.ld_unit_zero (S := S1024x2048) zeros]
  exact shapeCast_self _ _

/-- Its middle points add to it. -/
theorem middle (hc0 : ¬cond0_0 i) (hc1 : cond0_1 i) (hc2 : ¬cond0_2 i) :
    sout0_B_0 c i arg3 harg3 arg4 harg4 arg5 harg5 arg6 harg6 hc0 hc1 hc2 x0 x1 xs0 = k0_pay4 x0 x1 xs0 := by
  unfold sout0_B_0
  rw [View.read_writes_junk_eq_canon]
  unfold kernelRun0_B
  dsimp only
  sl_unfold_words
  simp only [View.readAt_eq_ld, harg3.read_unread, harg4.read_unread, harg6.read_unread]
  rw [View.canon_unit_zero zeros]
  simp only [View.ld_unit_zero (S := S1024x1024) zeros, View.ld_unit_zero (S := S1024x2048) zeros, View.ld_unit_zero (S := S1024x2048) zeros]
  exact shapeCast_self _ _

/-- Its last point writes the sum out. -/
theorem last (hc0 : ¬cond0_0 i) (hc1 : ¬cond0_1 i) (hc2 : cond0_2 i) :
    out0_C_2 c i arg3 harg3 arg4 harg4 arg5 harg5 arg6 harg6 hc0 hc1 hc2 x0 x1 xs0 = k0_pay4 x0 x1 xs0 := by
  unfold out0_C_2
  rw [View.read_writes_junk_eq_canon]
  unfold kernelRun0_C
  dsimp only
  sl_unfold_words
  simp only [View.readAt_eq_ld, harg3.read_unread, harg4.read_unread, harg6.read_unread]
  rw [View.canon_unit_zero zeros]
  simp only [View.ld_unit_zero (S := S1024x1024) zeros, View.ld_unit_zero (S := S1024x2048) zeros, View.ld_unit_zero (S := S1024x2048) zeros]

end Pieces

theorem part_at (x0 : Vec Ideal S1024x1024 .bf16) (x1 : Vec Ideal S1024x2048 .bf16) (a : Fin 1024) (b : Fin 2048) :
    k0_pay1 x0 x1 (ix2 a b) = ∑ κ : Fin 1024, x0 (ix2 κ a) * x1 (ix2 κ b) := by
  unfold k0_pay1
  pointwise!

theorem sum_at (x0 : Vec Ideal S1024x1024 .bf16) (x1 : Vec Ideal S1024x2048 .bf16) (x : Vec Ideal S1024x2048 .f32)
    (a : Fin 1024) (b : Fin 2048) : k0_pay4 x0 x1 x (ix2 a b) = x (ix2 a b) + k0_pay1 x0 x1 (ix2 a b) := rfl

variable (m : (ℓ : Loc nD τ sig) → Buf (Elt Ideal) ℓ) (c : Dev nD)

/-- The left factor. -/
def lhs : Fin 1024 → Fin 16384 → EReal := fun i k => V m c main_v0 (ix2 k i)

/-- The right factor. -/
def rhs : Fin 16384 → Fin 4096 → EReal := fun k j => V m c main_v14 (ix2 k j)

/-- Which blocks a grid point takes and writes. -/
theorem idx : ∀ t : Fin cfg0.N,
    (win0_0.index t (0 : Fin 2) = t.val % 16 ∧ win0_0.index t (1 : Fin 2) = t.val / 16 / 2)
    ∧ (win0_1.index t (0 : Fin 2) = t.val % 16 ∧ win0_1.index t (1 : Fin 2) = t.val / 16 % 2)
    ∧ (win0_2.index t (0 : Fin 2) = t.val / 16 / 2 ∧ win0_2.index t (1 : Fin 2) = t.val / 16 % 2) :=
  (by decide +kernel : ∀ t : Fin grid0.N, _)

theorem lt_N (t : Fin cfg0.N) : t.val < 32 := lt_of_lt_of_eq t.isLt N_0

theorem lhs_block (t : Fin cfg0.N) (a : Fin 1024) (κ : Fin 1024) :
    iblk m c 0 t (ix2 κ a) = mat (lhs m c) (1024 * (t.val / 16 / 2) + a.val) (1024 * (t.val % 16) + κ.val) := by
  have ht := lt_N t
  rw [mat_of (lhs m c) (by omega) (by omega)]
  refine congrArg (V m c main_v0) (funext fun x => Fin.ext ?_)
  match x with
  | ⟨0, _⟩ =>
    show win0_0.index t (0 : Fin 2) * 1024 + 1 * κ.val = 1024 * (t.val % 16) + κ.val
    rw [(idx t).1.1]; omega
  | ⟨1, _⟩ =>
    show win0_0.index t (1 : Fin 2) * 1024 + 1 * a.val = 1024 * (t.val / 16 / 2) + a.val
    rw [(idx t).1.2]; omega

theorem rhs_block (t : Fin cfg0.N) (κ : Fin 1024) (b : Fin 2048) :
    iblk m c 1 t (ix2 κ b) = mat (rhs m c) (1024 * (t.val % 16) + κ.val) (2048 * (t.val / 16 % 2) + b.val) := by
  have ht := lt_N t
  rw [mat_of (rhs m c) (by omega) (by omega)]
  refine congrArg (V m c main_v14) (funext fun x => Fin.ext ?_)
  match x with
  | ⟨0, _⟩ =>
    show win0_1.index t (0 : Fin 2) * 1024 + 1 * κ.val = 1024 * (t.val % 16) + κ.val
    rw [(idx t).2.1.1]; omega
  | ⟨1, _⟩ =>
    show win0_1.index t (1 : Fin 2) * 2048 + 1 * b.val = 2048 * (t.val / 16 % 2) + b.val
    rw [(idx t).2.1.2]; omega

/-- The products summed at an element of a run's block. -/
def term (a : Fin 1024) (b : Fin 2048) (r k : ℕ) : EReal :=
  mat (lhs m c) (1024 * (r / 2) + a.val) k * mat (rhs m c) k (2048 * (r % 2) + b.val)

theorem part_eq (t : Fin cfg0.N) (a : Fin 1024) (b : Fin 2048) :
    k0_pay1 (iblk m c 0 t) (iblk m c 1 t) (ix2 a b) =
      ∑ κ : Fin 1024, term m c a b (t.val / 16) (1024 * (t.val % 16) + κ.val) :=
  (part_at _ _ a b).trans (Finset.sum_congr rfl fun κ _ => congrArg₂ (· * ·) (lhs_block m c t a κ) (rhs_block m c t κ b))

/-- What the accumulator holds before a run's last point. -/
theorem scratch (n : ℕ) (h : n < cfg0.N) (hq : n % 16 + 1 < 16) (a : Fin 1024) (b : Fin 2048) :
    (outsAt0 m c n h).2 (ix2 a b) = ∑ k ∈ Finset.range (1024 * (n % 16 + 1)), term m c a b (n / 16) k := by
  refine accumulated cfg0.N 16 1024 (term m c a b) (fun n h => (outsAt0 m c n h).2 (ix2 a b)) (fun n h h0 => ?_)
    (fun n h h0 h1 => ?_) n h hq
  · rw [outsAt0_A m c ⟨n, h⟩ h0 (by dsimp only; omega) (by dsimp only; omega)]
    dsimp only
    rw [first]
    exact part_eq m c ⟨n, h⟩ a b
  · rw [outsAt0_B m c ⟨n, h⟩ (by dsimp only; omega) (by dsimp only; omega) (by dsimp only; omega)]
    dsimp only
    rw [middle, sum_at]
    exact congrArg _ (part_eq m c ⟨n, h⟩ a b)

/-- The whole product. -/
def prod : Fin 1024 → Fin 4096 → EReal := fun i j => ∑ k : Fin 16384, lhs m c i k * rhs m c k j

theorem term_sum (a : Fin 1024) (b : Fin 2048) (r : ℕ) (hi : 1024 * (r / 2) + a.val < 1024) (hj : 2048 * (r % 2) + b.val < 4096) :
    ∑ k ∈ Finset.range 16384, term m c a b r k = prod m c ⟨_, hi⟩ ⟨_, hj⟩ := sum_mat (lhs m c) (rhs m c) hi hj

theorem out_emb (t : Fin cfg0.N) (a : Fin 1024) (b : Fin 2048) :
    ((cfg0.win 2).blk t).view.emb (ix2 a b) =
      ix2 (⟨1024 * (t.val / 16 / 2) + a.val, by have := lt_N t; omega⟩ : Fin 1024) (⟨2048 * (t.val / 16 % 2) + b.val, by omega⟩ : Fin 4096) := by
  refine funext fun x => Fin.ext ?_
  match x with
  | ⟨0, _⟩ =>
    show win0_2.index t (0 : Fin 2) * 1024 + 1 * a.val = 1024 * (t.val / 16 / 2) + a.val
    rw [(idx t).2.2.1]; omega
  | ⟨1, _⟩ =>
    show win0_2.index t (1 : Fin 2) * 2048 + 1 * b.val = 2048 * (t.val / 16 % 2) + b.val
    rw [(idx t).2.2.2]; omega

theorem flushes : ∀ t : Fin cfg0.N, ((cfg0.win 2).flush t = true ↔ t.val % 16 = 15) :=
  (by decide +kernel : ∀ t : Fin grid0.N, _)

theorem out_block (t : Fin cfg0.N) (ht : t.val % 16 = 15) :
    (outsAt0 m c t.val t.isLt).1 = fun y => arr2 (φ := .f32) (prod m c) (((cfg0.win 2).blk t).view.emb y) := by
  funext y
  obtain ⟨a, b, rfl⟩ : ∃ a b, y = ix2 a b := ⟨y 0, y 1, (ix2_eta y).symm⟩
  have hN := lt_N t
  rw [out_emb, arr2_at, outsAt0_C m c t (by omega) (by omega) ht]
  dsimp only
  rw [last, sum_at, scratch m c _ _ (by omega), part_eq, show (t.val - 1) / 16 = t.val / 16 by omega,
    show (t.val - 1) % 16 + 1 = t.val % 16 by omega, sum_last_block, ht, show 1024 * (15 + 1) = 16384 by norm_num]
  exact term_sum m c a b _ _ _

theorem cover (y : S1024x4096.Idx) : ∃ t : Fin cfg0.N, (cfg0.win 2).flush t = true ∧ y ∈ ((cfg0.win 2).blk t).view.set := by
  obtain ⟨i, j, rfl⟩ : ∃ i j, y = ix2 i j := ⟨y 0, y 1, (ix2_eta y).symm⟩
  have hN : cfg0.N = 32 := N_0
  refine ⟨⟨16 * (2 * (i.val / 1024) + j.val / 2048) + 15, by omega⟩, (flushes _).mpr (by dsimp only; omega), ?_⟩
  have e := out_emb ⟨16 * (2 * (i.val / 1024) + j.val / 2048) + 15, by omega⟩ ⟨i.val % 1024, by omega⟩ ⟨j.val % 2048, by omega⟩
  have e' : ix2 i j = _ := (congrArg₂ ix2 (Fin.ext (by dsimp only; omega)) (Fin.ext (by dsimp only; omega))).trans e.symm
  rw [e']
  exact View.emb_mem_set _ _

theorem read_block (t : Fin cfg0.N) (G : Vec Ideal S1024x4096 .f32) :
    (cfg0.win 2).cut (grid0.coords t) (fun y => G (((cfg0.win 2).blk t).view.emb y)) =
      ((cfg0.win 2).blk t).view.read (Elt Ideal) G := rfl

/-- The result after the run. -/
theorem final : (dats m 0 c).arrAt 2 cfg0.N = arr2 (φ := .f32) (prod m c) := by
  refine (dats m 0 c).arrAt_eq_of_cover 2 _ (fun t hf => ?_) cover
  rw [Value.flushed2, out_block m c t ((flushes t).mp hf)]
  exact read_block t _

end Cert.Proof.DwUp
-- ==== Proof.DwUpFinal.lean ====
/- The gradient of the first weight of the feed-forward block: the programs' results beside each other. -/
module

public import proofs.«01_k».proof.Defs
public import proofs.«01_k».proof.Proof.Mlp
public import proofs.«01_k».proof.Proof.DwUpValue
public import proofs.«01_k».proof.Proof.Gen.DwUpRefIdeal.Run

@[expose] public section

set_option maxRecDepth 16384

noncomputable section

namespace Cert.Proof.DwUp

open Idealize.ShloMosaic Idealize.ShloMosaic.TcCoe Idealize.ShloMosaic.Pointwise Idealize.ShloMosaic.StableHlo Idealize.SL.Sem

section Kernel

open Cert.DwUpIdeal Cert.DwUpIdeal.Gen

section Host

variable {F : FTy → Type} [FloatOps F]

/-- The left factor as the host prepares it. -/
def host_lhs (x0 : Vec F S16384x1024 .f32) : Vec F S16384x1024 .bf16 :=
  truncf .bf16 x0 bitsLt_bf16_f32

/-- The right factor as the host prepares it. -/
def host_rhs (x0 : Vec F S16384x1024 .f32) (x1 : Vec F S1024x4096 .f32) (x2 : Vec F S4096x1024 .f32) (x3 : Vec F S16384x1024 .f32) : Vec F S16384x4096 .bf16 :=
  truncf .bf16 (select (cmpf .ogt (Host.dotGeneral dot_S16384x1024_S1024x4096_S16384x4096_1_0_0_1_n_n none x0 x1) (broadcastInDim S16384x4096 ![] bcast_S_S16384x4096 (constant S_ .f32 0x00000000#32))) (mulf (Host.dotGeneral dot_S16384x1024_S4096x1024_S16384x4096_1_1_0_0_n_n none x3 x2) (mulf (broadcastInDim S16384x4096 ![] bcast_S_S16384x4096 (constant S_ .f32 0x40000000#32)) (maximumf (Host.dotGeneral dot_S16384x1024_S1024x4096_S16384x4096_1_0_0_1_n_n none x0 x1) (broadcastInDim S16384x4096 ![] bcast_S_S16384x4096 (constant S_ .f32 0x00000000#32))))) (broadcastInDim S16384x4096 ![] bcast_S_S16384x4096 (constant S_ .f32 0x00000000#32))) bitsLt_bf16_f32

end Host

variable (m : (ℓ : Loc nD τ sig) → Buf (Elt Ideal) ℓ) (c : Dev nD)

theorem host_lhs_at (x0 : Vec Ideal S16384x1024 .f32) (i : Fin 16384) (j : Fin 1024) :
    host_lhs x0 (ix2 i j) = (of2 x0) i j := by
  rfl

theorem V_lhs : V m c main_v0 = host_lhs (m ((c : Thread nD τ).loc main_arg0)) := by
  unfold_abbrev_sides
  simp only [List.flatten_cons, List.flatten_nil, hostOps0, hostOps0_1, hostOps0_2, List.cons_append, List.nil_append, List.append_nil, TRef.binary, TRef.nullary, TRef.unary, TRef.toBuf, TRef.ofBuf, cast_eq]
  after_results
  rfl

theorem lhs_eq : lhs m c = tr (of2 (m ((c : Thread nD τ).loc main_arg0))) := by
  funext i j
  unfold lhs
  rw [V_lhs]
  exact host_lhs_at _ _ _

theorem host_rhs_at (x0 : Vec Ideal S16384x1024 .f32) (x1 : Vec Ideal S1024x4096 .f32) (x2 : Vec Ideal S4096x1024 .f32) (x3 : Vec Ideal S16384x1024 .f32) (i : Fin 16384) (j : Fin 4096) :
    host_rhs x0 x1 x2 x3 (ix2 i j) = (dHidden (of2 x0) (of2 x1) (of2 x2) (of2 x3)) i j := by
  unfold host_rhs dHidden tr mul2 of2
  pointwise!
  exact select_eq _ _

theorem V_rhs : V m c main_v14 = host_rhs (m ((c : Thread nD τ).loc main_arg0)) (m ((c : Thread nD τ).loc main_arg1)) (m ((c : Thread nD τ).loc main_arg2)) (m ((c : Thread nD τ).loc main_arg3)) := by
  unfold_abbrev_sides
  simp only [List.flatten_cons, List.flatten_nil, hostOps0, hostOps0_1, hostOps0_2, List.cons_append, List.nil_append, List.append_nil, TRef.binary, TRef.nullary, TRef.unary, TRef.toBuf, TRef.ofBuf, cast_eq]
  after_results
  rfl

theorem rhs_eq : rhs m c = (dHidden (of2 (m ((c : Thread nD τ).loc main_arg0))) (of2 (m ((c : Thread nD τ).loc main_arg1))) (of2 (m ((c : Thread nD τ).loc main_arg2))) (of2 (m ((c : Thread nD τ).loc main_arg3)))) := by
  funext i j
  unfold rhs
  rw [V_rhs]
  exact host_rhs_at _ _ _ _ _ _

theorem prod_eq : prod m c = mul2 (tr (of2 (m ((c : Thread nD τ).loc main_arg0)))) (dHidden (of2 (m ((c : Thread nD τ).loc main_arg0))) (of2 (m ((c : Thread nD τ).loc main_arg1))) (of2 (m ((c : Thread nD τ).loc main_arg2))) (of2 (m ((c : Thread nD τ).loc main_arg3)))) := by
  show mul2 (lhs m c) (rhs m c) = _
  rw [lhs_eq, rhs_eq]

end Kernel

section Reference

open Cert.DwUpRefIdeal Cert.DwUpRefIdeal.Gen

variable (x0 : Vec Ideal S16384x1024 .f32) (x1 : Vec Ideal S1024x4096 .f32) (x2 : Vec Ideal S4096x1024 .f32) (x3 : Vec Ideal S16384x1024 .f32)

section Plain

variable {F : FTy → Type} [FloatOps F]

/-- The reference's value. -/
def plain_prod (x0 : Vec F S16384x1024 .f32) (x1 : Vec F S1024x4096 .f32) (x2 : Vec F S4096x1024 .f32) (x3 : Vec F S16384x1024 .f32) : Vec F S1024x4096 .f32 :=
  transpose S1024x4096 [1, 0] (Host.dotGeneral dot_S16384x4096_S16384x1024_S4096x1024_0_0_1_1_n_n none (select (cmpf .ogt (Host.dotGeneral dot_S16384x1024_S1024x4096_S16384x4096_1_0_0_1_n_n none x0 x1) (broadcastInDim S16384x4096 ![] bcast_S_S16384x4096 (constant S_ .f32 0x00000000#32))) (mulf (Host.dotGeneral dot_S16384x1024_S4096x1024_S16384x4096_1_1_0_0_n_n none x3 x2) (mulf (broadcastInDim S16384x4096 ![] bcast_S_S16384x4096 (constant S_ .f32 0x40000000#32)) (maximumf (Host.dotGeneral dot_S16384x1024_S1024x4096_S16384x4096_1_0_0_1_n_n none x0 x1) (broadcastInDim S16384x4096 ![] bcast_S_S16384x4096 (constant S_ .f32 0x00000000#32))))) (broadcastInDim S16384x4096 ![] bcast_S_S16384x4096 (constant S_ .f32 0x00000000#32))) x0) transposes_S4096x1024_S1024x4096_1_0

end Plain

set_option maxRecDepth 200000 in
theorem prod_ref : plain_prod x0 x1 x2 x3 =
    arr2 (φ := .f32) (mul2 (tr (of2 x0)) (dHidden (of2 x0) (of2 x1) (of2 x2) (of2 x3))) := by
  refine eq_arr2 _ _ fun i j => ?_
  unfold plain_prod dHidden tr mul2 of2
  pointwise!
  exact Finset.sum_congr rfl fun k _ => (mul_comm _ _).trans (congrArg (_ * ·) (select_eq _ _))

end Reference

theorem quiescent_ref : Cert.quiescent_DwUpRefIdeal := fun m ρ _ =>
  (θ_run Cert.DwUpRefIdeal.defs _ _).mono (fun r h =>
      ⟨fun c => (h c).2, Idealize.ShloMosaic.sem_eq_zero_of_no_sems (by decide) r.2⟩)
    (Cert.DwUpRefIdeal.Value.run (F := Ideal) m ρ)

theorem algebraic : Cert.algebraic_DwUpIdeal_DwUpRefIdeal := fun m ρ m' ρ' _ hag =>
  ⟨fun c => arr2 (φ := .f32) (mul2 (tr (of2 (m ((c : Thread Cert.DwUpIdeal.nD Cert.DwUpIdeal.τ).loc Cert.DwUpIdeal.main_arg0)))) (dHidden (of2 (m ((c : Thread Cert.DwUpIdeal.nD Cert.DwUpIdeal.τ).loc Cert.DwUpIdeal.main_arg0))) (of2 (m ((c : Thread Cert.DwUpIdeal.nD Cert.DwUpIdeal.τ).loc Cert.DwUpIdeal.main_arg1))) (of2 (m ((c : Thread Cert.DwUpIdeal.nD Cert.DwUpIdeal.τ).loc Cert.DwUpIdeal.main_arg2))) (of2 (m ((c : Thread Cert.DwUpIdeal.nD Cert.DwUpIdeal.τ).loc Cert.DwUpIdeal.main_arg3))))),
    (θ_run Cert.DwUpIdeal.defs _ _).mono (fun _ h c => ⟨(h c).1.trans ((final m c).trans (congrArg _ (prod_eq m c))), (h c).2⟩)
      (Cert.DwUpIdeal.Value.run_blocks (F := Ideal) m ρ),
    (θ_run Cert.DwUpRefIdeal.defs _ _).mono (fun _ h c => by
        obtain ⟨h0, h1, h2, h3⟩ := hag c
        exact ⟨(h c).1.trans ((prod_ref (m' ((c : Thread Cert.DwUpRefIdeal.nD Cert.DwUpRefIdeal.τ).loc Cert.DwUpRefIdeal.main_arg0)) (m' ((c : Thread Cert.DwUpRefIdeal.nD Cert.DwUpRefIdeal.τ).loc Cert.DwUpRefIdeal.main_arg1)) (m' ((c : Thread Cert.DwUpRefIdeal.nD Cert.DwUpRefIdeal.τ).loc Cert.DwUpRefIdeal.main_arg2)) (m' ((c : Thread Cert.DwUpRefIdeal.nD Cert.DwUpRefIdeal.τ).loc Cert.DwUpRefIdeal.main_arg3))).trans (by rw [h0, h1, h2, h3])), (h c).2⟩)
      (Cert.DwUpRefIdeal.Value.run (F := Ideal) m' ρ')⟩

end Cert.Proof.DwUp
-- ==== Proof.DhValue.lean ====
/- The cotangent of the feed-forward block's input: what the blocked product leaves in its result. -/
module

public import proofs.«01_k».proof.Proof.Product
public import proofs.«01_k».proof.Proof.Gen.DhIdeal.Value

@[expose] public section

set_option maxRecDepth 16384

noncomputable section

namespace Cert.Proof.Dh

open Cert.DhIdeal Cert.DhIdeal.Gen
open Idealize.ShloMosaic Idealize.ShloMosaic.TcCoe Idealize.ShloMosaic.Pointwise Idealize.ShloMosaic.StableHlo

section Pieces

variable {F : FTy → Type} [FloatOps F]
variable (c : Dev nD) (i : grid0.Coords) (arg3 : Memref sig .tc .vmem S2048x1024 .bf16) (harg3 : arg3.IsWhole)
    (arg4 : Memref sig .tc .vmem S1024x1024 .bf16) (harg4 : arg4.IsWhole) (arg5 : Memref sig .tc .vmem S2048x1024 .f32)
    (harg5 : arg5.IsWhole) (arg6 : Memref sig .tc .vmem S2048x1024 .f32) (harg6 : arg6.IsWhole)
    (x0 : Vec F S2048x1024 .bf16) (x1 : Vec F S1024x1024 .bf16) (xs0 : Vec F S2048x1024 .f32)

/-- A run's first point starts the sum. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_junk_eq_canon]
  unfold kernelRun0_A
  dsimp only
  sl_unfold_words
  simp only [View.readAt_eq_ld, harg3.read_unread, harg4.read_unread]
  rw [View.canon_unit_zero zeros]
  simp only [View.ld_unit_zero (S := S2048x1024) zeros, View.ld_unit_zero (S := S1024x1024) zeros]
  exact shapeCast_self _ _

/-- Its middle points add to it. -/
theorem middle (hc0 : ¬cond0_0 i) (hc1 : cond0_1 i) (hc2 : ¬cond0_2 i) :
    sout0_B_0 c i arg3 harg3 arg4 harg4 arg5 harg5 arg6 harg6 hc0 hc1 hc2 x0 x1 xs0 = k0_pay4 x0 x1 xs0 := by
  unfold sout0_B_0
  rw [View.read_writes_junk_eq_canon]
  unfold kernelRun0_B
  dsimp only
  sl_unfold_words
  simp only [View.readAt_eq_ld, harg3.read_unread, harg4.read_unread, harg6.read_unread]
  rw [View.canon_unit_zero zeros]
  simp only [View.ld_unit_zero (S := S2048x1024) zeros, View.ld_unit_zero (S := S1024x1024) zeros, View.ld_unit_zero (S := S2048x1024) zeros]
  exact shapeCast_self _ _

/-- Its last point writes the sum out. -/
theorem last (hc0 : ¬cond0_0 i) (hc1 : ¬cond0_1 i) (hc2 : cond0_2 i) :
    out0_C_2 c i arg3 harg3 arg4 harg4 arg5 harg5 arg6 harg6 hc0 hc1 hc2 x0 x1 xs0 = k0_pay4 x0 x1 xs0 := by
  unfold out0_C_2
  rw [View.read_writes_junk_eq_canon]
  unfold kernelRun0_C
  dsimp only
  sl_unfold_words
  simp only [View.readAt_eq_ld, harg3.read_unread, harg4.read_unread, harg6.read_unread]
  rw [View.canon_unit_zero zeros]
  simp only [View.ld_unit_zero (S := S2048x1024) zeros, View.ld_unit_zero (S := S1024x1024) zeros, View.ld_unit_zero (S := S2048x1024) zeros]

end Pieces

theorem part_at (x0 : Vec Ideal S2048x1024 .bf16) (x1 : Vec Ideal S1024x1024 .bf16) (a : Fin 2048) (b : Fin 1024) :
    k0_pay1 x0 x1 (ix2 a b) = ∑ κ : Fin 1024, x0 (ix2 a κ) * x1 (ix2 b κ) := by
  unfold k0_pay1
  pointwise!

theorem sum_at (x0 : Vec Ideal S2048x1024 .bf16) (x1 : Vec Ideal S1024x1024 .bf16) (x : Vec Ideal S2048x1024 .f32)
    (a : Fin 2048) (b : Fin 1024) : k0_pay4 x0 x1 x (ix2 a b) = x (ix2 a b) + k0_pay1 x0 x1 (ix2 a b) := rfl

variable (m : (ℓ : Loc nD τ sig) → Buf (Elt Ideal) ℓ) (c : Dev nD)

/-- The left factor. -/
def lhs : Fin 16384 → Fin 4096 → EReal := fun i k => V m c main_v13 (ix2 i k)

/-- The right factor. -/
def rhs : Fin 4096 → Fin 1024 → EReal := fun k j => V m c main_v14 (ix2 j k)

/-- Which blocks a grid point takes and writes. -/
theorem idx : ∀ t : Fin cfg0.N,
    (win0_0.index t (0 : Fin 2) = t.val / 4 ∧ win0_0.index t (1 : Fin 2) = t.val % 4)
    ∧ (win0_1.index t (0 : Fin 2) = 0 ∧ win0_1.index t (1 : Fin 2) = t.val % 4)
    ∧ (win0_2.index t (0 : Fin 2) = t.val / 4 ∧ win0_2.index t (1 : Fin 2) = 0) :=
  (by decide +kernel : ∀ t : Fin grid0.N, _)

theorem lt_N (t : Fin cfg0.N) : t.val < 32 := lt_of_lt_of_eq t.isLt N_0

theorem lhs_block (t : Fin cfg0.N) (a : Fin 2048) (κ : Fin 1024) :
    iblk m c 0 t (ix2 a κ) = mat (lhs m c) (2048 * (t.val / 4) + a.val) (1024 * (t.val % 4) + κ.val) := by
  have ht := lt_N t
  rw [mat_of (lhs m c) (by omega) (by omega)]
  refine congrArg (V m c main_v13) (funext fun x => Fin.ext ?_)
  match x with
  | ⟨0, _⟩ =>
    show win0_0.index t (0 : Fin 2) * 2048 + 1 * a.val = 2048 * (t.val / 4) + a.val
    rw [(idx t).1.1]; omega
  | ⟨1, _⟩ =>
    show win0_0.index t (1 : Fin 2) * 1024 + 1 * κ.val = 1024 * (t.val % 4) + κ.val
    rw [(idx t).1.2]; omega

theorem rhs_block (t : Fin cfg0.N) (κ : Fin 1024) (b : Fin 1024) :
    iblk m c 1 t (ix2 b κ) = mat (rhs m c) (1024 * (t.val % 4) + κ.val) (b.val) := by
  have ht := lt_N t
  rw [mat_of (rhs m c) (by omega) (by omega)]
  refine congrArg (V m c main_v14) (funext fun x => Fin.ext ?_)
  match x with
  | ⟨0, _⟩ =>
    show win0_1.index t (0 : Fin 2) * 1024 + 1 * b.val = b.val
    rw [(idx t).2.1.1]; omega
  | ⟨1, _⟩ =>
    show win0_1.index t (1 : Fin 2) * 1024 + 1 * κ.val = 1024 * (t.val % 4) + κ.val
    rw [(idx t).2.1.2]; omega

/-- The products summed at an element of a run's block. -/
def term (a : Fin 2048) (b : Fin 1024) (r k : ℕ) : EReal :=
  mat (lhs m c) (2048 * (r) + a.val) k * mat (rhs m c) k (b.val)

theorem part_eq (t : Fin cfg0.N) (a : Fin 2048) (b : Fin 1024) :
    k0_pay1 (iblk m c 0 t) (iblk m c 1 t) (ix2 a b) =
      ∑ κ : Fin 1024, term m c a b (t.val / 4) (1024 * (t.val % 4) + κ.val) :=
  (part_at _ _ a b).trans (Finset.sum_congr rfl fun κ _ => congrArg₂ (· * ·) (lhs_block m c t a κ) (rhs_block m c t κ b))

/-- What the accumulator holds before a run's last point. -/
theorem scratch (n : ℕ) (h : n < cfg0.N) (hq : n % 4 + 1 < 4) (a : Fin 2048) (b : Fin 1024) :
    (outsAt0 m c n h).2 (ix2 a b) = ∑ k ∈ Finset.range (1024 * (n % 4 + 1)), term m c a b (n / 4) k := by
  refine accumulated cfg0.N 4 1024 (term m c a b) (fun n h => (outsAt0 m c n h).2 (ix2 a b)) (fun n h h0 => ?_)
    (fun n h h0 h1 => ?_) n h hq
  · rw [outsAt0_A m c ⟨n, h⟩ h0 (by dsimp only; omega) (by dsimp only; omega)]
    dsimp only
    rw [first]
    exact part_eq m c ⟨n, h⟩ a b
  · rw [outsAt0_B m c ⟨n, h⟩ (by dsimp only; omega) (by dsimp only; omega) (by dsimp only; omega)]
    dsimp only
    rw [middle, sum_at]
    exact congrArg _ (part_eq m c ⟨n, h⟩ a b)

/-- The whole product. -/
def prod : Fin 16384 → Fin 1024 → EReal := fun i j => ∑ k : Fin 4096, lhs m c i k * rhs m c k j

theorem term_sum (a : Fin 2048) (b : Fin 1024) (r : ℕ) (hi : 2048 * (r) + a.val < 16384) (hj : b.val < 1024) :
    ∑ k ∈ Finset.range 4096, term m c a b r k = prod m c ⟨_, hi⟩ ⟨_, hj⟩ := sum_mat (lhs m c) (rhs m c) hi hj

theorem out_emb (t : Fin cfg0.N) (a : Fin 2048) (b : Fin 1024) :
    ((cfg0.win 2).blk t).view.emb (ix2 a b) =
      ix2 (⟨2048 * (t.val / 4) + a.val, by have := lt_N t; omega⟩ : Fin 16384) (⟨b.val, by omega⟩ : Fin 1024) := by
  refine funext fun x => Fin.ext ?_
  match x with
  | ⟨0, _⟩ =>
    show win0_2.index t (0 : Fin 2) * 2048 + 1 * a.val = 2048 * (t.val / 4) + a.val
    rw [(idx t).2.2.1]; omega
  | ⟨1, _⟩ =>
    show win0_2.index t (1 : Fin 2) * 1024 + 1 * b.val = b.val
    rw [(idx t).2.2.2]; omega

theorem flushes : ∀ t : Fin cfg0.N, ((cfg0.win 2).flush t = true ↔ t.val % 4 = 3) :=
  (by decide +kernel : ∀ t : Fin grid0.N, _)

theorem out_block (t : Fin cfg0.N) (ht : t.val % 4 = 3) :
    (outsAt0 m c t.val t.isLt).1 = fun y => arr2 (φ := .f32) (prod m c) (((cfg0.win 2).blk t).view.emb y) := by
  funext y
  obtain ⟨a, b, rfl⟩ : ∃ a b, y = ix2 a b := ⟨y 0, y 1, (ix2_eta y).symm⟩
  have hN := lt_N t
  rw [out_emb, arr2_at, outsAt0_C m c t (by omega) (by omega) ht]
  dsimp only
  rw [last, sum_at, scratch m c _ _ (by omega), part_eq, show (t.val - 1) / 4 = t.val / 4 by omega,
    show (t.val - 1) % 4 + 1 = t.val % 4 by omega, sum_last_block, ht, show 1024 * (3 + 1) = 4096 by norm_num]
  exact term_sum m c a b _ _ _

theorem cover (y : S16384x1024.Idx) : ∃ t : Fin cfg0.N, (cfg0.win 2).flush t = true ∧ y ∈ ((cfg0.win 2).blk t).view.set := by
  obtain ⟨i, j, rfl⟩ : ∃ i j, y = ix2 i j := ⟨y 0, y 1, (ix2_eta y).symm⟩
  have hN : cfg0.N = 32 := N_0
  refine ⟨⟨4 * (i.val / 2048) + 3, by omega⟩, (flushes _).mpr (by dsimp only; omega), ?_⟩
  have e := out_emb ⟨4 * (i.val / 2048) + 3, by omega⟩ ⟨i.val % 2048, by omega⟩ ⟨j.val % 1024, by omega⟩
  have e' : ix2 i j = _ := (congrArg₂ ix2 (Fin.ext (by dsimp only; omega)) (Fin.ext (by dsimp only; omega))).trans e.symm
  rw [e']
  exact View.emb_mem_set _ _

theorem read_block (t : Fin cfg0.N) (G : Vec Ideal S16384x1024 .f32) :
    (cfg0.win 2).cut (grid0.coords t) (fun y => G (((cfg0.win 2).blk t).view.emb y)) =
      ((cfg0.win 2).blk t).view.read (Elt Ideal) G := rfl

/-- The result after the run. -/
theorem final : (dats m 0 c).arrAt 2 cfg0.N = arr2 (φ := .f32) (prod m c) := by
  refine (dats m 0 c).arrAt_eq_of_cover 2 _ (fun t hf => ?_) cover
  rw [Value.flushed2, out_block m c t ((flushes t).mp hf)]
  exact read_block t _

end Cert.Proof.Dh
-- ==== Proof.DhFinal.lean ====
/- The cotangent of the feed-forward block's input: the programs' results beside each other. -/
module

public import proofs.«01_k».proof.Defs
public import proofs.«01_k».proof.Proof.Mlp
public import proofs.«01_k».proof.Proof.DhValue
public import proofs.«01_k».proof.Proof.Gen.DhRefIdeal.Run

@[expose] public section

set_option maxRecDepth 16384

noncomputable section

namespace Cert.Proof.Dh

open Idealize.ShloMosaic Idealize.ShloMosaic.TcCoe Idealize.ShloMosaic.Pointwise Idealize.ShloMosaic.StableHlo Idealize.SL.Sem

section Kernel

open Cert.DhIdeal Cert.DhIdeal.Gen

section Host

variable {F : FTy → Type} [FloatOps F]

/-- The left factor as the host prepares it. -/
def host_lhs (x0 : Vec F S16384x1024 .f32) (x1 : Vec F S1024x4096 .f32) (x2 : Vec F S4096x1024 .f32) (x3 : Vec F S16384x1024 .f32) : Vec F S16384x4096 .bf16 :=
  truncf .bf16 (select (cmpf .ogt (Host.dotGeneral dot_S16384x1024_S1024x4096_S16384x4096_1_0_0_1_n_n none x0 x1) (broadcastInDim S16384x4096 ![] bcast_S_S16384x4096 (constant S_ .f32 0x00000000#32))) (mulf (Host.dotGeneral dot_S16384x1024_S4096x1024_S16384x4096_1_1_0_0_n_n none x3 x2) (mulf (broadcastInDim S16384x4096 ![] bcast_S_S16384x4096 (constant S_ .f32 0x40000000#32)) (maximumf (Host.dotGeneral dot_S16384x1024_S1024x4096_S16384x4096_1_0_0_1_n_n none x0 x1) (broadcastInDim S16384x4096 ![] bcast_S_S16384x4096 (constant S_ .f32 0x00000000#32))))) (broadcastInDim S16384x4096 ![] bcast_S_S16384x4096 (constant S_ .f32 0x00000000#32))) bitsLt_bf16_f32

/-- The right factor as the host prepares it. -/
def host_rhs (x1 : Vec F S1024x4096 .f32) : Vec F S1024x4096 .bf16 :=
  truncf .bf16 x1 bitsLt_bf16_f32

end Host

variable (m : (ℓ : Loc nD τ sig) → Buf (Elt Ideal) ℓ) (c : Dev nD)

theorem host_lhs_at (x0 : Vec Ideal S16384x1024 .f32) (x1 : Vec Ideal S1024x4096 .f32) (x2 : Vec Ideal S4096x1024 .f32) (x3 : Vec Ideal S16384x1024 .f32) (i : Fin 16384) (j : Fin 4096) :
    host_lhs x0 x1 x2 x3 (ix2 i j) = (dHidden (of2 x0) (of2 x1) (of2 x2) (of2 x3)) i j := by
  unfold host_lhs dHidden tr mul2 of2
  pointwise!
  exact select_eq _ _

theorem V_lhs : V m c main_v13 = host_lhs (m ((c : Thread nD τ).loc main_arg0)) (m ((c : Thread nD τ).loc main_arg1)) (m ((c : Thread nD τ).loc main_arg2)) (m ((c : Thread nD τ).loc main_arg3)) := by
  unfold_abbrev_sides
  simp only [List.flatten_cons, List.flatten_nil, hostOps0, hostOps0_1, hostOps0_2, List.cons_append, List.nil_append, List.append_nil, TRef.binary, TRef.nullary, TRef.unary, TRef.toBuf, TRef.ofBuf, cast_eq]
  after_results
  rfl

theorem lhs_eq : lhs m c = (dHidden (of2 (m ((c : Thread nD τ).loc main_arg0))) (of2 (m ((c : Thread nD τ).loc main_arg1))) (of2 (m ((c : Thread nD τ).loc main_arg2))) (of2 (m ((c : Thread nD τ).loc main_arg3)))) := by
  funext i j
  unfold lhs
  rw [V_lhs]
  exact host_lhs_at _ _ _ _ _ _

theorem host_rhs_at (x1 : Vec Ideal S1024x4096 .f32) (i : Fin 1024) (j : Fin 4096) :
    host_rhs x1 (ix2 i j) = (of2 x1) i j := by
  rfl

theorem V_rhs : V m c main_v14 = host_rhs (m ((c : Thread nD τ).loc main_arg1)) := by
  unfold_abbrev_sides
  simp only [List.flatten_cons, List.flatten_nil, hostOps0, hostOps0_1, hostOps0_2, List.cons_append, List.nil_append, List.append_nil, TRef.binary, TRef.nullary, TRef.unary, TRef.toBuf, TRef.ofBuf, cast_eq]
  after_results
  rfl

theorem rhs_eq : rhs m c = tr (of2 (m ((c : Thread nD τ).loc main_arg1))) := by
  funext i j
  unfold rhs
  rw [V_rhs]
  exact host_rhs_at _ _ _

theorem prod_eq : prod m c = mul2 (dHidden (of2 (m ((c : Thread nD τ).loc main_arg0))) (of2 (m ((c : Thread nD τ).loc main_arg1))) (of2 (m ((c : Thread nD τ).loc main_arg2))) (of2 (m ((c : Thread nD τ).loc main_arg3)))) (tr (of2 (m ((c : Thread nD τ).loc main_arg1)))) := by
  show mul2 (lhs m c) (rhs m c) = _
  rw [lhs_eq, rhs_eq]

end Kernel

section Reference

open Cert.DhRefIdeal Cert.DhRefIdeal.Gen

variable (x0 : Vec Ideal S16384x1024 .f32) (x1 : Vec Ideal S1024x4096 .f32) (x2 : Vec Ideal S4096x1024 .f32) (x3 : Vec Ideal S16384x1024 .f32)

section Plain

variable {F : FTy → Type} [FloatOps F]

/-- The reference's value. -/
def plain_prod (x0 : Vec F S16384x1024 .f32) (x1 : Vec F S1024x4096 .f32) (x2 : Vec F S4096x1024 .f32) (x3 : Vec F S16384x1024 .f32) : Vec F S16384x1024 .f32 :=
  Host.dotGeneral dot_S16384x4096_S1024x4096_S16384x1024_1_1_0_0_n_n none (select (cmpf .ogt (Host.dotGeneral dot_S16384x1024_S1024x4096_S16384x4096_1_0_0_1_n_n none x0 x1) (broadcastInDim S16384x4096 ![] bcast_S_S16384x4096 (constant S_ .f32 0x00000000#32))) (mulf (Host.dotGeneral dot_S16384x1024_S4096x1024_S16384x4096_1_1_0_0_n_n none x3 x2) (mulf (broadcastInDim S16384x4096 ![] bcast_S_S16384x4096 (constant S_ .f32 0x40000000#32)) (maximumf (Host.dotGeneral dot_S16384x1024_S1024x4096_S16384x4096_1_0_0_1_n_n none x0 x1) (broadcastInDim S16384x4096 ![] bcast_S_S16384x4096 (constant S_ .f32 0x00000000#32))))) (broadcastInDim S16384x4096 ![] bcast_S_S16384x4096 (constant S_ .f32 0x00000000#32))) x1

end Plain

set_option maxRecDepth 200000 in
theorem prod_ref : plain_prod x0 x1 x2 x3 =
    arr2 (φ := .f32) (mul2 (dHidden (of2 x0) (of2 x1) (of2 x2) (of2 x3)) (tr (of2 x1))) := by
  refine eq_arr2 _ _ fun i j => ?_
  unfold plain_prod dHidden tr mul2 of2
  pointwise!
  exact Finset.sum_congr rfl fun k _ => congrArg (· * _) (select_eq _ _)

end Reference

theorem quiescent_ref : Cert.quiescent_DhRefIdeal := fun m ρ _ =>
  (θ_run Cert.DhRefIdeal.defs _ _).mono (fun r h =>
      ⟨fun c => (h c).2, Idealize.ShloMosaic.sem_eq_zero_of_no_sems (by decide) r.2⟩)
    (Cert.DhRefIdeal.Value.run (F := Ideal) m ρ)

theorem algebraic : Cert.algebraic_DhIdeal_DhRefIdeal := fun m ρ m' ρ' _ hag =>
  ⟨fun c => arr2 (φ := .f32) (mul2 (dHidden (of2 (m ((c : Thread Cert.DhIdeal.nD Cert.DhIdeal.τ).loc Cert.DhIdeal.main_arg0))) (of2 (m ((c : Thread Cert.DhIdeal.nD Cert.DhIdeal.τ).loc Cert.DhIdeal.main_arg1))) (of2 (m ((c : Thread Cert.DhIdeal.nD Cert.DhIdeal.τ).loc Cert.DhIdeal.main_arg2))) (of2 (m ((c : Thread Cert.DhIdeal.nD Cert.DhIdeal.τ).loc Cert.DhIdeal.main_arg3)))) (tr (of2 (m ((c : Thread Cert.DhIdeal.nD Cert.DhIdeal.τ).loc Cert.DhIdeal.main_arg1))))),
    (θ_run Cert.DhIdeal.defs _ _).mono (fun _ h c => ⟨(h c).1.trans ((final m c).trans (congrArg _ (prod_eq m c))), (h c).2⟩)
      (Cert.DhIdeal.Value.run_blocks (F := Ideal) m ρ),
    (θ_run Cert.DhRefIdeal.defs _ _).mono (fun _ h c => by
        obtain ⟨h0, h1, h2, h3⟩ := hag c
        exact ⟨(h c).1.trans ((prod_ref (m' ((c : Thread Cert.DhRefIdeal.nD Cert.DhRefIdeal.τ).loc Cert.DhRefIdeal.main_arg0)) (m' ((c : Thread Cert.DhRefIdeal.nD Cert.DhRefIdeal.τ).loc Cert.DhRefIdeal.main_arg1)) (m' ((c : Thread Cert.DhRefIdeal.nD Cert.DhRefIdeal.τ).loc Cert.DhRefIdeal.main_arg2)) (m' ((c : Thread Cert.DhRefIdeal.nD Cert.DhRefIdeal.τ).loc Cert.DhRefIdeal.main_arg3))).trans (by rw [h0, h1, h2, h3])), (h c).2⟩)
      (Cert.DhRefIdeal.Value.run (F := Ideal) m' ρ')⟩

end Cert.Proof.Dh
-- ==== Proof.LinearValue.lean ====
/- A square projection: what the blocked product leaves in its result. -/
module

public import proofs.«01_k».proof.Proof.Product
public import proofs.«01_k».proof.Proof.Gen.LinearIdeal.Value

@[expose] public section

set_option maxRecDepth 16384

noncomputable section

namespace Cert.Proof.Linear

open Cert.LinearIdeal Cert.LinearIdeal.Gen
open Idealize.ShloMosaic Idealize.ShloMosaic.TcCoe Idealize.ShloMosaic.Pointwise Idealize.ShloMosaic.StableHlo

variable (m : (ℓ : Loc nD τ sig) → Buf (Elt Ideal) ℓ) (c : Dev nD)

/-- The left factor. -/
def lhs : Fin 16384 → Fin 1024 → EReal := fun i k => V m c main_v0 (ix2 i k)

/-- The right factor. -/
def rhs : Fin 1024 → Fin 1024 → EReal := fun k j => V m c main_v1 (ix2 k j)

/-- The product. -/
def prod : Fin 16384 → Fin 1024 → EReal := fun i j => ∑ k : Fin 1024, lhs m c i k * rhs m c k j

/-- Which blocks a grid point takes and writes. -/
theorem idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem lt_N (t : Fin cfg0.N) : t.val < 8 := lt_of_lt_of_eq t.isLt N_0

theorem lhs_block (t : Fin cfg0.N) (a : Fin 2048) (κ : Fin 1024) :
    iblk m c 0 t (ix2 a κ) = lhs m c (⟨2048 * (t.val) + a.val, by have := lt_N t; omega⟩ : Fin 16384) κ := by
  refine congrArg (V m c main_v0) (funext fun x => Fin.ext ?_)
  match x with
  | ⟨0, _⟩ =>
    show win0_0.index t (0 : Fin 2) * 2048 + 1 * a.val = 2048 * (t.val) + a.val
    rw [(idx t).1.1]; omega
  | ⟨1, _⟩ =>
    show win0_0.index t (1 : Fin 2) * 1024 + 1 * κ.val = κ.val
    rw [(idx t).1.2]; omega

theorem rhs_block (t : Fin cfg0.N) (κ : Fin 1024) (b : Fin 1024) :
    iblk m c 1 t (ix2 κ b) = rhs m c κ (⟨b.val, by omega⟩ : Fin 1024) := by
  refine congrArg (V m c main_v1) (funext fun x => Fin.ext ?_)
  match x with
  | ⟨0, _⟩ =>
    show win0_1.index t (0 : Fin 2) * 1024 + 1 * κ.val = κ.val
    rw [(idx t).2.1.1]; omega
  | ⟨1, _⟩ =>
    show win0_1.index t (1 : Fin 2) * 1024 + 1 * b.val = b.val
    rw [(idx t).2.1.2]; omega

/-- A block's product at an element. -/
def dot (x0 : Vec Ideal S2048x1024 .bf16) (x1 : Vec Ideal S1024x1024 .bf16) (a : Fin 2048) (b : Fin 1024) : EReal :=
  ∑ κ : Fin 1024, x0 (ix2 a κ) * x1 (ix2 κ b)

theorem block_sum (t : Fin cfg0.N) (a : Fin 2048) (b : Fin 1024) :
    dot (iblk m c 0 t) (iblk m c 1 t) a b = prod m c (⟨2048 * (t.val) + a.val, by have := lt_N t; omega⟩ : Fin 16384) (⟨b.val, by omega⟩ : Fin 1024) :=
  Finset.sum_congr rfl fun κ _ => congrArg₂ (· * ·) (lhs_block m c t a κ) (rhs_block m c t κ b)

theorem emb2 (t : Fin cfg0.N) (a : Fin 2048) (b : Fin 1024) :
    ((cfg0.win 2).blk t).view.emb (ix2 a b) = ix2 (⟨2048 * (t.val) + a.val, by have := lt_N t; omega⟩ : Fin 16384) (⟨b.val, by omega⟩ : Fin 1024) := by
  refine funext fun x => Fin.ext ?_
  match x with
  | ⟨0, _⟩ =>
    show win0_2.index t (0 : Fin 2) * 2048 + 1 * a.val = 2048 * (t.val) + a.val
    rw [(idx t).2.2.1]; omega
  | ⟨1, _⟩ =>
    show win0_2.index t (1 : Fin 2) * 1024 + 1 * b.val = b.val
    rw [(idx t).2.2.2]; omega

theorem part_at (x0 : Vec Ideal S2048x1024 .bf16) (x1 : Vec Ideal S1024x1024 .bf16) (a : Fin 2048) (b : Fin 1024) :
    k0_pay1 x0 x1 (ix2 a b) = dot x0 x1 a b := by
  unfold k0_pay1 dot
  pointwise!

theorem whole2 (x0 : Vec Ideal S2048x1024 .bf16) (x1 : Vec Ideal S1024x1024 .bf16) : out0_2 x0 x1 = k0_pay1 x0 x1 := by
  unfold out0_2
  rw [View.canon_unit_zero zeros]
  simp only [View.ld_unit_zero (S := S2048x1024) zeros, View.ld_unit_zero (S := S1024x1024) zeros]

theorem flushes2 : ∀ t : Fin cfg0.N, (cfg0.win 2).flush t = true := (by decide +kernel : ∀ t : Fin grid0.N, _)

theorem out_block2 (t : Fin cfg0.N) :
    out0_2 (iblk m c 0 t) (iblk m c 1 t) = fun y => arr2 (φ := .f32) (prod m c) (((cfg0.win 2).blk t).view.emb y) := by
  funext y
  obtain ⟨a, b, rfl⟩ : ∃ a b, y = ix2 a b := ⟨y 0, y 1, (ix2_eta y).symm⟩
  rw [emb2, arr2_at, whole2]
  exact (part_at _ _ a b).trans (block_sum m c t a b)

theorem cover2 (y : S16384x1024.Idx) : ∃ t : Fin cfg0.N, (cfg0.win 2).flush t = true ∧ y ∈ ((cfg0.win 2).blk t).view.set := by
  obtain ⟨i, j, rfl⟩ : ∃ i j, y = ix2 i j := ⟨y 0, y 1, (ix2_eta y).symm⟩
  have hN : cfg0.N = 8 := N_0
  refine ⟨⟨i.val / 2048, by omega⟩, flushes2 _, ?_⟩
  have e := emb2 ⟨i.val / 2048, by omega⟩ ⟨i.val % 2048, by omega⟩ ⟨j.val % 1024, by omega⟩
  have e' : ix2 i j = _ := (congrArg₂ ix2 (Fin.ext (by dsimp only; omega)) (Fin.ext (by dsimp only; omega))).trans e.symm
  rw [e']
  exact View.emb_mem_set _ _

theorem read_block2 (t : Fin cfg0.N) (G : Vec Ideal S16384x1024 .f32) :
    (cfg0.win 2).cut (grid0.coords t) (fun y => G (((cfg0.win 2).blk t).view.emb y)) =
      ((cfg0.win 2).blk t).view.read (Elt Ideal) G := rfl

/-- The result after the run. -/
theorem final2 : (dats m 0 c).arrAt 2 cfg0.N = arr2 (φ := .f32) (prod m c) := by
  refine (dats m 0 c).arrAt_eq_of_cover 2 _ (fun t _ => ?_) cover2
  rw [Value.flushed2, out_block2 m c t]
  exact read_block2 t _

end Cert.Proof.Linear
-- ==== Proof.LinearFinal.lean ====
/- A square projection: the programs' results beside each other. -/
module

public import proofs.«01_k».proof.Defs
public import proofs.«01_k».proof.Proof.Mlp
public import proofs.«01_k».proof.Proof.LinearValue
public import proofs.«01_k».proof.Proof.Gen.LinearRefIdeal.Run

@[expose] public section

set_option maxRecDepth 16384

noncomputable section

namespace Cert.Proof.Linear

open Idealize.ShloMosaic Idealize.ShloMosaic.TcCoe Idealize.ShloMosaic.Pointwise Idealize.ShloMosaic.StableHlo Idealize.SL.Sem

section Kernel

open Cert.LinearIdeal Cert.LinearIdeal.Gen

section Host

variable {F : FTy → Type} [FloatOps F]

/-- The left factor as the host prepares it. -/
def host_lhs (x0 : Vec F S16384x1024 .f32) : Vec F S16384x1024 .bf16 :=
  truncf .bf16 x0 bitsLt_bf16_f32

/-- The right factor as the host prepares it. -/
def host_rhs (x1 : Vec F S1024x1024 .f32) : Vec F S1024x1024 .bf16 :=
  truncf .bf16 x1 bitsLt_bf16_f32

end Host

variable (m : (ℓ : Loc nD τ sig) → Buf (Elt Ideal) ℓ) (c : Dev nD)

theorem host_lhs_at (x0 : Vec Ideal S16384x1024 .f32) (i : Fin 16384) (j : Fin 1024) :
    host_lhs x0 (ix2 i j) = of2 x0 i j := by
  rfl

theorem V_lhs : V m c main_v0 = host_lhs (m ((c : Thread nD τ).loc main_arg0)) := by
  unfold_abbrev_sides
  after_results
  rfl

theorem lhs_eq : lhs m c = of2 (m ((c : Thread nD τ).loc main_arg0)) := by
  funext i j
  unfold lhs
  rw [V_lhs]
  exact host_lhs_at _ _ _

theorem host_rhs_at (x1 : Vec Ideal S1024x1024 .f32) (i : Fin 1024) (j : Fin 1024) :
    host_rhs x1 (ix2 i j) = of2 x1 i j := by
  rfl

theorem V_rhs : V m c main_v1 = host_rhs (m ((c : Thread nD τ).loc main_arg1)) := by
  unfold_abbrev_sides
  after_results
  rfl

theorem rhs_eq : rhs m c = of2 (m ((c : Thread nD τ).loc main_arg1)) := by
  funext i j
  unfold rhs
  rw [V_rhs]
  exact host_rhs_at _ _ _

theorem prod_eq : prod m c = mul2 (of2 (m ((c : Thread nD τ).loc main_arg0))) (of2 (m ((c : Thread nD τ).loc main_arg1))) := by
  show mul2 (lhs m c) (rhs m c) = _
  rw [lhs_eq, rhs_eq]

end Kernel

section Reference

open Cert.LinearRefIdeal Cert.LinearRefIdeal.Gen

variable (x0 : Vec Ideal S16384x1024 .f32) (x1 : Vec Ideal S1024x1024 .f32)

section Plain

variable {F : FTy → Type} [FloatOps F]

/-- The reference's value. -/
def plain_prod (x0 : Vec F S16384x1024 .f32) (x1 : Vec F S1024x1024 .f32) : Vec F S16384x1024 .f32 :=
  Host.dotGeneral dot_S16384x1024_S1024x1024_S16384x1024_1_0_0_1_n_n none x0 x1

end Plain

set_option maxRecDepth 200000 in
theorem prod_ref : plain_prod x0 x1 =
    arr2 (φ := .f32) (mul2 (of2 x0) (of2 x1)) := by
  refine eq_arr2 _ _ fun i j => ?_
  unfold plain_prod mul2 of2
  pointwise!

end Reference

theorem quiescent_ref : Cert.quiescent_LinearRefIdeal := fun m ρ _ =>
  (θ_run Cert.LinearRefIdeal.defs _ _).mono (fun r h =>
      ⟨fun c => (h c).2, Idealize.ShloMosaic.sem_eq_zero_of_no_sems (by decide) r.2⟩)
    (Cert.LinearRefIdeal.Value.run (F := Ideal) m ρ)

theorem algebraic : Cert.algebraic_LinearIdeal_LinearRefIdeal := fun m ρ m' ρ' _ hag =>
  ⟨fun c => arr2 (φ := .f32) (mul2 (of2 (m ((c : Thread Cert.LinearIdeal.nD Cert.LinearIdeal.τ).loc Cert.LinearIdeal.main_arg0))) (of2 (m ((c : Thread Cert.LinearIdeal.nD Cert.LinearIdeal.τ).loc Cert.LinearIdeal.main_arg1)))),
    (θ_run Cert.LinearIdeal.defs _ _).mono (fun _ h c => ⟨(h c).1.trans ((final2 m c).trans (congrArg _ (prod_eq m c))), (h c).2⟩)
      (Cert.LinearIdeal.Value.run_blocks (F := Ideal) m ρ),
    (θ_run Cert.LinearRefIdeal.defs _ _).mono (fun _ h c => by
        obtain ⟨h0, h1⟩ := hag c
        exact ⟨(h c).1.trans ((prod_ref (m' ((c : Thread Cert.LinearRefIdeal.nD Cert.LinearRefIdeal.τ).loc Cert.LinearRefIdeal.main_arg0)) (m' ((c : Thread Cert.LinearRefIdeal.nD Cert.LinearRefIdeal.τ).loc Cert.LinearRefIdeal.main_arg1))).trans (by rw [h0, h1])), (h c).2⟩)
      (Cert.LinearRefIdeal.Value.run (F := Ideal) m' ρ')⟩

end Cert.Proof.Linear
-- ==== Proof.LinearDxValue.lean ====
/- The cotangent of a square projection's input: what the blocked product leaves in its result. -/
module

public import proofs.«01_k».proof.Proof.Product
public import proofs.«01_k».proof.Proof.Gen.LinearDxIdeal.Value

@[expose] public section

set_option maxRecDepth 16384

noncomputable section

namespace Cert.Proof.LinearDx

open Cert.LinearDxIdeal Cert.LinearDxIdeal.Gen
open Idealize.ShloMosaic Idealize.ShloMosaic.TcCoe Idealize.ShloMosaic.Pointwise Idealize.ShloMosaic.StableHlo

variable (m : (ℓ : Loc nD τ sig) → Buf (Elt Ideal) ℓ) (c : Dev nD)

/-- The left factor. -/
def lhs : Fin 16384 → Fin 1024 → EReal := fun i k => V m c main_v0 (ix2 i k)

/-- The right factor. -/
def rhs : Fin 1024 → Fin 1024 → EReal := fun k j => V m c main_v1 (ix2 j k)

/-- The product. -/
def prod : Fin 16384 → Fin 1024 → EReal := fun i j => ∑ k : Fin 1024, lhs m c i k * rhs m c k j

/-- Which blocks a grid point takes and writes. -/
theorem idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem lt_N (t : Fin cfg0.N) : t.val < 8 := lt_of_lt_of_eq t.isLt N_0

theorem lhs_block (t : Fin cfg0.N) (a : Fin 2048) (κ : Fin 1024) :
    iblk m c 0 t (ix2 a κ) = lhs m c (⟨2048 * (t.val) + a.val, by have := lt_N t; omega⟩ : Fin 16384) κ := by
  refine congrArg (V m c main_v0) (funext fun x => Fin.ext ?_)
  match x with
  | ⟨0, _⟩ =>
    show win0_0.index t (0 : Fin 2) * 2048 + 1 * a.val = 2048 * (t.val) + a.val
    rw [(idx t).1.1]; omega
  | ⟨1, _⟩ =>
    show win0_0.index t (1 : Fin 2) * 1024 + 1 * κ.val = κ.val
    rw [(idx t).1.2]; omega

theorem rhs_block (t : Fin cfg0.N) (κ : Fin 1024) (b : Fin 1024) :
    iblk m c 1 t (ix2 b κ) = rhs m c κ (⟨b.val, by omega⟩ : Fin 1024) := by
  refine congrArg (V m c main_v1) (funext fun x => Fin.ext ?_)
  match x with
  | ⟨0, _⟩ =>
    show win0_1.index t (0 : Fin 2) * 1024 + 1 * b.val = b.val
    rw [(idx t).2.1.1]; omega
  | ⟨1, _⟩ =>
    show win0_1.index t (1 : Fin 2) * 1024 + 1 * κ.val = κ.val
    rw [(idx t).2.1.2]; omega

/-- A block's product at an element. -/
def dot (x0 : Vec Ideal S2048x1024 .bf16) (x1 : Vec Ideal S1024x1024 .bf16) (a : Fin 2048) (b : Fin 1024) : EReal :=
  ∑ κ : Fin 1024, x0 (ix2 a κ) * x1 (ix2 b κ)

theorem block_sum (t : Fin cfg0.N) (a : Fin 2048) (b : Fin 1024) :
    dot (iblk m c 0 t) (iblk m c 1 t) a b = prod m c (⟨2048 * (t.val) + a.val, by have := lt_N t; omega⟩ : Fin 16384) (⟨b.val, by omega⟩ : Fin 1024) :=
  Finset.sum_congr rfl fun κ _ => congrArg₂ (· * ·) (lhs_block m c t a κ) (rhs_block m c t κ b)

theorem emb2 (t : Fin cfg0.N) (a : Fin 2048) (b : Fin 1024) :
    ((cfg0.win 2).blk t).view.emb (ix2 a b) = ix2 (⟨2048 * (t.val) + a.val, by have := lt_N t; omega⟩ : Fin 16384) (⟨b.val, by omega⟩ : Fin 1024) := by
  refine funext fun x => Fin.ext ?_
  match x with
  | ⟨0, _⟩ =>
    show win0_2.index t (0 : Fin 2) * 2048 + 1 * a.val = 2048 * (t.val) + a.val
    rw [(idx t).2.2.1]; omega
  | ⟨1, _⟩ =>
    show win0_2.index t (1 : Fin 2) * 1024 + 1 * b.val = b.val
    rw [(idx t).2.2.2]; omega

theorem part_at (x0 : Vec Ideal S2048x1024 .bf16) (x1 : Vec Ideal S1024x1024 .bf16) (a : Fin 2048) (b : Fin 1024) :
    k0_pay1 x0 x1 (ix2 a b) = dot x0 x1 a b := by
  unfold k0_pay1 dot
  pointwise!

theorem whole2 (x0 : Vec Ideal S2048x1024 .bf16) (x1 : Vec Ideal S1024x1024 .bf16) : out0_2 x0 x1 = k0_pay1 x0 x1 := by
  unfold out0_2
  rw [View.canon_unit_zero zeros]
  simp only [View.ld_unit_zero (S := S2048x1024) zeros, View.ld_unit_zero (S := S1024x1024) zeros]

theorem flushes2 : ∀ t : Fin cfg0.N, (cfg0.win 2).flush t = true := (by decide +kernel : ∀ t : Fin grid0.N, _)

theorem out_block2 (t : Fin cfg0.N) :
    out0_2 (iblk m c 0 t) (iblk m c 1 t) = fun y => arr2 (φ := .f32) (prod m c) (((cfg0.win 2).blk t).view.emb y) := by
  funext y
  obtain ⟨a, b, rfl⟩ : ∃ a b, y = ix2 a b := ⟨y 0, y 1, (ix2_eta y).symm⟩
  rw [emb2, arr2_at, whole2]
  exact (part_at _ _ a b).trans (block_sum m c t a b)

theorem cover2 (y : S16384x1024.Idx) : ∃ t : Fin cfg0.N, (cfg0.win 2).flush t = true ∧ y ∈ ((cfg0.win 2).blk t).view.set := by
  obtain ⟨i, j, rfl⟩ : ∃ i j, y = ix2 i j := ⟨y 0, y 1, (ix2_eta y).symm⟩
  have hN : cfg0.N = 8 := N_0
  refine ⟨⟨i.val / 2048, by omega⟩, flushes2 _, ?_⟩
  have e := emb2 ⟨i.val / 2048, by omega⟩ ⟨i.val % 2048, by omega⟩ ⟨j.val % 1024, by omega⟩
  have e' : ix2 i j = _ := (congrArg₂ ix2 (Fin.ext (by dsimp only; omega)) (Fin.ext (by dsimp only; omega))).trans e.symm
  rw [e']
  exact View.emb_mem_set _ _

theorem read_block2 (t : Fin cfg0.N) (G : Vec Ideal S16384x1024 .f32) :
    (cfg0.win 2).cut (grid0.coords t) (fun y => G (((cfg0.win 2).blk t).view.emb y)) =
      ((cfg0.win 2).blk t).view.read (Elt Ideal) G := rfl

/-- The result after the run. -/
theorem final2 : (dats m 0 c).arrAt 2 cfg0.N = arr2 (φ := .f32) (prod m c) := by
  refine (dats m 0 c).arrAt_eq_of_cover 2 _ (fun t _ => ?_) cover2
  rw [Value.flushed2, out_block2 m c t]
  exact read_block2 t _

end Cert.Proof.LinearDx
-- ==== Proof.LinearDxFinal.lean ====
/- The cotangent of a square projection's input: the programs' results beside each other. -/
module

public import proofs.«01_k».proof.Defs
public import proofs.«01_k».proof.Proof.Mlp
public import proofs.«01_k».proof.Proof.LinearDxValue
public import proofs.«01_k».proof.Proof.Gen.LinearDxRefIdeal.Run

@[expose] public section

set_option maxRecDepth 16384

noncomputable section

namespace Cert.Proof.LinearDx

open Idealize.ShloMosaic Idealize.ShloMosaic.TcCoe Idealize.ShloMosaic.Pointwise Idealize.ShloMosaic.StableHlo Idealize.SL.Sem

section Kernel

open Cert.LinearDxIdeal Cert.LinearDxIdeal.Gen

section Host

variable {F : FTy → Type} [FloatOps F]

/-- The left factor as the host prepares it. -/
def host_lhs (x2 : Vec F S16384x1024 .f32) : Vec F S16384x1024 .bf16 :=
  truncf .bf16 x2 bitsLt_bf16_f32

/-- The right factor as the host prepares it. -/
def host_rhs (x1 : Vec F S1024x1024 .f32) : Vec F S1024x1024 .bf16 :=
  truncf .bf16 x1 bitsLt_bf16_f32

end Host

variable (m : (ℓ : Loc nD τ sig) → Buf (Elt Ideal) ℓ) (c : Dev nD)

theorem host_lhs_at (x2 : Vec Ideal S16384x1024 .f32) (i : Fin 16384) (j : Fin 1024) :
    host_lhs x2 (ix2 i j) = of2 x2 i j := by
  rfl

theorem V_lhs : V m c main_v0 = host_lhs (m ((c : Thread nD τ).loc main_arg2)) := by
  unfold_abbrev_sides
  after_results
  rfl

theorem lhs_eq : lhs m c = of2 (m ((c : Thread nD τ).loc main_arg2)) := by
  funext i j
  unfold lhs
  rw [V_lhs]
  exact host_lhs_at _ _ _

theorem host_rhs_at (x1 : Vec Ideal S1024x1024 .f32) (i : Fin 1024) (j : Fin 1024) :
    host_rhs x1 (ix2 i j) = (of2 x1) i j := by
  rfl

theorem V_rhs : V m c main_v1 = host_rhs (m ((c : Thread nD τ).loc main_arg1)) := by
  unfold_abbrev_sides
  after_results
  rfl

theorem rhs_eq : rhs m c = tr (of2 (m ((c : Thread nD τ).loc main_arg1))) := by
  funext i j
  unfold rhs
  rw [V_rhs]
  exact host_rhs_at _ _ _

theorem prod_eq : prod m c = mul2 (of2 (m ((c : Thread nD τ).loc main_arg2))) (tr (of2 (m ((c : Thread nD τ).loc main_arg1)))) := by
  show mul2 (lhs m c) (rhs m c) = _
  rw [lhs_eq, rhs_eq]

end Kernel

section Reference

open Cert.LinearDxRefIdeal Cert.LinearDxRefIdeal.Gen

variable (x0 : Vec Ideal S16384x1024 .f32) (x1 : Vec Ideal S1024x1024 .f32) (x2 : Vec Ideal S16384x1024 .f32)

section Plain

variable {F : FTy → Type} [FloatOps F]

/-- The reference's value. -/
def plain_prod (x1 : Vec F S1024x1024 .f32) (x2 : Vec F S16384x1024 .f32) : Vec F S16384x1024 .f32 :=
  Host.dotGeneral dot_S16384x1024_S1024x1024_S16384x1024_1_1_0_0_n_n none x2 x1

end Plain

set_option maxRecDepth 200000 in
theorem prod_ref : plain_prod x1 x2 =
    arr2 (φ := .f32) (mul2 (of2 x2) (tr (of2 x1))) := by
  refine eq_arr2 _ _ fun i j => ?_
  unfold plain_prod tr mul2 of2
  pointwise!

end Reference

theorem quiescent_ref : Cert.quiescent_LinearDxRefIdeal := fun m ρ _ =>
  (θ_run Cert.LinearDxRefIdeal.defs _ _).mono (fun r h =>
      ⟨fun c => (h c).2, Idealize.ShloMosaic.sem_eq_zero_of_no_sems (by decide) r.2⟩)
    (Cert.LinearDxRefIdeal.Value.run (F := Ideal) m ρ)

theorem algebraic : Cert.algebraic_LinearDxIdeal_LinearDxRefIdeal := fun m ρ m' ρ' _ hag =>
  ⟨fun c => arr2 (φ := .f32) (mul2 (of2 (m ((c : Thread Cert.LinearDxIdeal.nD Cert.LinearDxIdeal.τ).loc Cert.LinearDxIdeal.main_arg2))) (tr (of2 (m ((c : Thread Cert.LinearDxIdeal.nD Cert.LinearDxIdeal.τ).loc Cert.LinearDxIdeal.main_arg1))))),
    (θ_run Cert.LinearDxIdeal.defs _ _).mono (fun _ h c => ⟨(h c).1.trans ((final2 m c).trans (congrArg _ (prod_eq m c))), (h c).2⟩)
      (Cert.LinearDxIdeal.Value.run_blocks (F := Ideal) m ρ),
    (θ_run Cert.LinearDxRefIdeal.defs _ _).mono (fun _ h c => by
        obtain ⟨h0, h1, h2⟩ := hag c
        exact ⟨(h c).1.trans ((prod_ref (m' ((c : Thread Cert.LinearDxRefIdeal.nD Cert.LinearDxRefIdeal.τ).loc Cert.LinearDxRefIdeal.main_arg1)) (m' ((c : Thread Cert.LinearDxRefIdeal.nD Cert.LinearDxRefIdeal.τ).loc Cert.LinearDxRefIdeal.main_arg2))).trans (by rw [h1, h2])), (h c).2⟩)
      (Cert.LinearDxRefIdeal.Value.run (F := Ideal) m' ρ')⟩

end Cert.Proof.LinearDx
-- ==== Proof.LinearDwValue.lean ====
/- The gradient of a square projection's weight: what the blocked product leaves in its result. -/
module

public import proofs.«01_k».proof.Proof.Product
public import proofs.«01_k».proof.Proof.Gen.LinearDwIdeal.Value

@[expose] public section

set_option maxRecDepth 16384

noncomputable section

namespace Cert.Proof.LinearDw

open Cert.LinearDwIdeal Cert.LinearDwIdeal.Gen
open Idealize.ShloMosaic Idealize.ShloMosaic.TcCoe Idealize.ShloMosaic.Pointwise Idealize.ShloMosaic.StableHlo

section Pieces

variable {F : FTy → Type} [FloatOps F]
variable (c : Dev nD) (i : grid0.Coords) (arg3 : Memref sig .tc .vmem S1024x1024 .bf16) (harg3 : arg3.IsWhole)
    (arg4 : Memref sig .tc .vmem S1024x1024 .bf16) (harg4 : arg4.IsWhole) (arg5 : Memref sig .tc .vmem S1024x1024 .f32)
    (harg5 : arg5.IsWhole) (arg6 : Memref sig .tc .vmem S1024x1024 .f32) (harg6 : arg6.IsWhole)
    (x0 : Vec F S1024x1024 .bf16) (x1 : Vec F S1024x1024 .bf16) (xs0 : Vec F S1024x1024 .f32)

/-- A run's first point starts the sum. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_junk_eq_canon]
  unfold kernelRun0_A
  dsimp only
  sl_unfold_words
  simp only [View.readAt_eq_ld, harg3.read_unread, harg4.read_unread]
  rw [View.canon_unit_zero zeros]
  simp only [View.ld_unit_zero (S := S1024x1024) zeros, View.ld_unit_zero (S := S1024x1024) zeros]
  exact shapeCast_self _ _

/-- Its middle points add to it. -/
theorem middle (hc0 : ¬cond0_0 i) (hc1 : cond0_1 i) (hc2 : ¬cond0_2 i) :
    sout0_B_0 c i arg3 harg3 arg4 harg4 arg5 harg5 arg6 harg6 hc0 hc1 hc2 x0 x1 xs0 = k0_pay4 x0 x1 xs0 := by
  unfold sout0_B_0
  rw [View.read_writes_junk_eq_canon]
  unfold kernelRun0_B
  dsimp only
  sl_unfold_words
  simp only [View.readAt_eq_ld, harg3.read_unread, harg4.read_unread, harg6.read_unread]
  rw [View.canon_unit_zero zeros]
  simp only [View.ld_unit_zero (S := S1024x1024) zeros, View.ld_unit_zero (S := S1024x1024) zeros, View.ld_unit_zero (S := S1024x1024) zeros]
  exact shapeCast_self _ _

/-- Its last point writes the sum out. -/
theorem last (hc0 : ¬cond0_0 i) (hc1 : ¬cond0_1 i) (hc2 : cond0_2 i) :
    out0_C_2 c i arg3 harg3 arg4 harg4 arg5 harg5 arg6 harg6 hc0 hc1 hc2 x0 x1 xs0 = k0_pay4 x0 x1 xs0 := by
  unfold out0_C_2
  rw [View.read_writes_junk_eq_canon]
  unfold kernelRun0_C
  dsimp only
  sl_unfold_words
  simp only [View.readAt_eq_ld, harg3.read_unread, harg4.read_unread, harg6.read_unread]
  rw [View.canon_unit_zero zeros]
  simp only [View.ld_unit_zero (S := S1024x1024) zeros, View.ld_unit_zero (S := S1024x1024) zeros, View.ld_unit_zero (S := S1024x1024) zeros]

end Pieces

theorem part_at (x0 : Vec Ideal S1024x1024 .bf16) (x1 : Vec Ideal S1024x1024 .bf16) (a : Fin 1024) (b : Fin 1024) :
    k0_pay1 x0 x1 (ix2 a b) = ∑ κ : Fin 1024, x0 (ix2 κ a) * x1 (ix2 κ b) := by
  unfold k0_pay1
  pointwise!

theorem sum_at (x0 : Vec Ideal S1024x1024 .bf16) (x1 : Vec Ideal S1024x1024 .bf16) (x : Vec Ideal S1024x1024 .f32)
    (a : Fin 1024) (b : Fin 1024) : k0_pay4 x0 x1 x (ix2 a b) = x (ix2 a b) + k0_pay1 x0 x1 (ix2 a b) := rfl

variable (m : (ℓ : Loc nD τ sig) → Buf (Elt Ideal) ℓ) (c : Dev nD)

/-- The left factor. -/
def lhs : Fin 1024 → Fin 16384 → EReal := fun i k => V m c main_v0 (ix2 k i)

/-- The right factor. -/
def rhs : Fin 16384 → Fin 1024 → EReal := fun k j => V m c main_v1 (ix2 k j)

/-- Which blocks a grid point takes and writes. -/
theorem idx : ∀ t : Fin cfg0.N,
    (win0_0.index t (0 : Fin 2) = t.val % 16 ∧ win0_0.index t (1 : Fin 2) = t.val / 16)
    ∧ (win0_1.index t (0 : Fin 2) = t.val % 16 ∧ win0_1.index t (1 : Fin 2) = 0)
    ∧ (win0_2.index t (0 : Fin 2) = t.val / 16 ∧ win0_2.index t (1 : Fin 2) = 0) :=
  (by decide +kernel : ∀ t : Fin grid0.N, _)

theorem lt_N (t : Fin cfg0.N) : t.val < 16 := lt_of_lt_of_eq t.isLt N_0

theorem lhs_block (t : Fin cfg0.N) (a : Fin 1024) (κ : Fin 1024) :
    iblk m c 0 t (ix2 κ a) = mat (lhs m c) (1024 * (t.val / 16) + a.val) (1024 * (t.val % 16) + κ.val) := by
  have ht := lt_N t
  rw [mat_of (lhs m c) (by omega) (by omega)]
  refine congrArg (V m c main_v0) (funext fun x => Fin.ext ?_)
  match x with
  | ⟨0, _⟩ =>
    show win0_0.index t (0 : Fin 2) * 1024 + 1 * κ.val = 1024 * (t.val % 16) + κ.val
    rw [(idx t).1.1]; omega
  | ⟨1, _⟩ =>
    show win0_0.index t (1 : Fin 2) * 1024 + 1 * a.val = 1024 * (t.val / 16) + a.val
    rw [(idx t).1.2]; omega

theorem rhs_block (t : Fin cfg0.N) (κ : Fin 1024) (b : Fin 1024) :
    iblk m c 1 t (ix2 κ b) = mat (rhs m c) (1024 * (t.val % 16) + κ.val) (b.val) := by
  have ht := lt_N t
  rw [mat_of (rhs m c) (by omega) (by omega)]
  refine congrArg (V m c main_v1) (funext fun x => Fin.ext ?_)
  match x with
  | ⟨0, _⟩ =>
    show win0_1.index t (0 : Fin 2) * 1024 + 1 * κ.val = 1024 * (t.val % 16) + κ.val
    rw [(idx t).2.1.1]; omega
  | ⟨1, _⟩ =>
    show win0_1.index t (1 : Fin 2) * 1024 + 1 * b.val = b.val
    rw [(idx t).2.1.2]; omega

/-- The products summed at an element of a run's block. -/
def term (a : Fin 1024) (b : Fin 1024) (r k : ℕ) : EReal :=
  mat (lhs m c) (1024 * (r) + a.val) k * mat (rhs m c) k (b.val)

theorem part_eq (t : Fin cfg0.N) (a : Fin 1024) (b : Fin 1024) :
    k0_pay1 (iblk m c 0 t) (iblk m c 1 t) (ix2 a b) =
      ∑ κ : Fin 1024, term m c a b (t.val / 16) (1024 * (t.val % 16) + κ.val) :=
  (part_at _ _ a b).trans (Finset.sum_congr rfl fun κ _ => congrArg₂ (· * ·) (lhs_block m c t a κ) (rhs_block m c t κ b))

/-- What the accumulator holds before a run's last point. -/
theorem scratch (n : ℕ) (h : n < cfg0.N) (hq : n % 16 + 1 < 16) (a : Fin 1024) (b : Fin 1024) :
    (outsAt0 m c n h).2 (ix2 a b) = ∑ k ∈ Finset.range (1024 * (n % 16 + 1)), term m c a b (n / 16) k := by
  refine accumulated cfg0.N 16 1024 (term m c a b) (fun n h => (outsAt0 m c n h).2 (ix2 a b)) (fun n h h0 => ?_)
    (fun n h h0 h1 => ?_) n h hq
  · rw [outsAt0_A m c ⟨n, h⟩ h0 (by dsimp only; omega) (by dsimp only; omega)]
    dsimp only
    rw [first]
    exact part_eq m c ⟨n, h⟩ a b
  · rw [outsAt0_B m c ⟨n, h⟩ (by dsimp only; omega) (by dsimp only; omega) (by dsimp only; omega)]
    dsimp only
    rw [middle, sum_at]
    exact congrArg _ (part_eq m c ⟨n, h⟩ a b)

/-- The whole product. -/
def prod : Fin 1024 → Fin 1024 → EReal := fun i j => ∑ k : Fin 16384, lhs m c i k * rhs m c k j

theorem term_sum (a : Fin 1024) (b : Fin 1024) (r : ℕ) (hi : 1024 * (r) + a.val < 1024) (hj : b.val < 1024) :
    ∑ k ∈ Finset.range 16384, term m c a b r k = prod m c ⟨_, hi⟩ ⟨_, hj⟩ := sum_mat (lhs m c) (rhs m c) hi hj

theorem out_emb (t : Fin cfg0.N) (a : Fin 1024) (b : Fin 1024) :
    ((cfg0.win 2).blk t).view.emb (ix2 a b) =
      ix2 (⟨1024 * (t.val / 16) + a.val, by have := lt_N t; omega⟩ : Fin 1024) (⟨b.val, by omega⟩ : Fin 1024) := by
  refine funext fun x => Fin.ext ?_
  match x with
  | ⟨0, _⟩ =>
    show win0_2.index t (0 : Fin 2) * 1024 + 1 * a.val = 1024 * (t.val / 16) + a.val
    rw [(idx t).2.2.1]; omega
  | ⟨1, _⟩ =>
    show win0_2.index t (1 : Fin 2) * 1024 + 1 * b.val = b.val
    rw [(idx t).2.2.2]; omega

theorem flushes : ∀ t : Fin cfg0.N, ((cfg0.win 2).flush t = true ↔ t.val % 16 = 15) :=
  (by decide +kernel : ∀ t : Fin grid0.N, _)

theorem out_block (t : Fin cfg0.N) (ht : t.val % 16 = 15) :
    (outsAt0 m c t.val t.isLt).1 = fun y => arr2 (φ := .f32) (prod m c) (((cfg0.win 2).blk t).view.emb y) := by
  funext y
  obtain ⟨a, b, rfl⟩ : ∃ a b, y = ix2 a b := ⟨y 0, y 1, (ix2_eta y).symm⟩
  have hN := lt_N t
  rw [out_emb, arr2_at, outsAt0_C m c t (by omega) (by omega) ht]
  dsimp only
  rw [last, sum_at, scratch m c _ _ (by omega), part_eq, show (t.val - 1) / 16 = t.val / 16 by omega,
    show (t.val - 1) % 16 + 1 = t.val % 16 by omega, sum_last_block, ht, show 1024 * (15 + 1) = 16384 by norm_num]
  exact term_sum m c a b _ _ _

theorem cover (y : S1024x1024.Idx) : ∃ t : Fin cfg0.N, (cfg0.win 2).flush t = true ∧ y ∈ ((cfg0.win 2).blk t).view.set := by
  obtain ⟨i, j, rfl⟩ : ∃ i j, y = ix2 i j := ⟨y 0, y 1, (ix2_eta y).symm⟩
  have hN : cfg0.N = 16 := N_0
  refine ⟨⟨16 * (i.val / 1024) + 15, by omega⟩, (flushes _).mpr (by dsimp only; omega), ?_⟩
  have e := out_emb ⟨16 * (i.val / 1024) + 15, by omega⟩ ⟨i.val % 1024, by omega⟩ ⟨j.val % 1024, by omega⟩
  have e' : ix2 i j = _ := (congrArg₂ ix2 (Fin.ext (by dsimp only; omega)) (Fin.ext (by dsimp only; omega))).trans e.symm
  rw [e']
  exact View.emb_mem_set _ _

theorem read_block (t : Fin cfg0.N) (G : Vec Ideal S1024x1024 .f32) :
    (cfg0.win 2).cut (grid0.coords t) (fun y => G (((cfg0.win 2).blk t).view.emb y)) =
      ((cfg0.win 2).blk t).view.read (Elt Ideal) G := rfl

/-- The result after the run. -/
theorem final : (dats m 0 c).arrAt 2 cfg0.N = arr2 (φ := .f32) (prod m c) := by
  refine (dats m 0 c).arrAt_eq_of_cover 2 _ (fun t hf => ?_) cover
  rw [Value.flushed2, out_block m c t ((flushes t).mp hf)]
  exact read_block t _

end Cert.Proof.LinearDw
-- ==== Proof.LinearDwFinal.lean ====
/- The gradient of a square projection's weight: the programs' results beside each other. -/
module

public import proofs.«01_k».proof.Defs
public import proofs.«01_k».proof.Proof.Mlp
public import proofs.«01_k».proof.Proof.LinearDwValue
public import proofs.«01_k».proof.Proof.Gen.LinearDwRefIdeal.Run

@[expose] public section

set_option maxRecDepth 16384

noncomputable section

namespace Cert.Proof.LinearDw

open Idealize.ShloMosaic Idealize.ShloMosaic.TcCoe Idealize.ShloMosaic.Pointwise Idealize.ShloMosaic.StableHlo Idealize.SL.Sem

section Kernel

open Cert.LinearDwIdeal Cert.LinearDwIdeal.Gen

section Host

variable {F : FTy → Type} [FloatOps F]

/-- The left factor as the host prepares it. -/
def host_lhs (x0 : Vec F S16384x1024 .f32) : Vec F S16384x1024 .bf16 :=
  truncf .bf16 x0 bitsLt_bf16_f32

/-- The right factor as the host prepares it. -/
def host_rhs (x2 : Vec F S16384x1024 .f32) : Vec F S16384x1024 .bf16 :=
  truncf .bf16 x2 bitsLt_bf16_f32

end Host

variable (m : (ℓ : Loc nD τ sig) → Buf (Elt Ideal) ℓ) (c : Dev nD)

theorem host_lhs_at (x0 : Vec Ideal S16384x1024 .f32) (i : Fin 16384) (j : Fin 1024) :
    host_lhs x0 (ix2 i j) = (of2 x0) i j := by
  rfl

theorem V_lhs : V m c main_v0 = host_lhs (m ((c : Thread nD τ).loc main_arg0)) := by
  unfold_abbrev_sides
  after_results
  rfl

theorem lhs_eq : lhs m c = tr (of2 (m ((c : Thread nD τ).loc main_arg0))) := by
  funext i j
  unfold lhs
  rw [V_lhs]
  exact host_lhs_at _ _ _

theorem host_rhs_at (x2 : Vec Ideal S16384x1024 .f32) (i : Fin 16384) (j : Fin 1024) :
    host_rhs x2 (ix2 i j) = of2 x2 i j := by
  rfl

theorem V_rhs : V m c main_v1 = host_rhs (m ((c : Thread nD τ).loc main_arg2)) := by
  unfold_abbrev_sides
  after_results
  rfl

theorem rhs_eq : rhs m c = of2 (m ((c : Thread nD τ).loc main_arg2)) := by
  funext i j
  unfold rhs
  rw [V_rhs]
  exact host_rhs_at _ _ _

theorem prod_eq : prod m c = mul2 (tr (of2 (m ((c : Thread nD τ).loc main_arg0)))) (of2 (m ((c : Thread nD τ).loc main_arg2))) := by
  show mul2 (lhs m c) (rhs m c) = _
  rw [lhs_eq, rhs_eq]

end Kernel

section Reference

open Cert.LinearDwRefIdeal Cert.LinearDwRefIdeal.Gen

variable (x0 : Vec Ideal S16384x1024 .f32) (x1 : Vec Ideal S1024x1024 .f32) (x2 : Vec Ideal S16384x1024 .f32)

section Plain

variable {F : FTy → Type} [FloatOps F]

/-- The reference's value. -/
def plain_prod (x0 : Vec F S16384x1024 .f32) (x2 : Vec F S16384x1024 .f32) : Vec F S1024x1024 .f32 :=
  transpose S1024x1024 [1, 0] (Host.dotGeneral dot_S16384x1024_S16384x1024_S1024x1024_0_0_1_1_n_n none x2 x0) transposes_S1024x1024_S1024x1024_1_0

end Plain

set_option maxRecDepth 200000 in
theorem prod_ref : plain_prod x0 x2 =
    arr2 (φ := .f32) (mul2 (tr (of2 x0)) (of2 x2)) := by
  refine eq_arr2 _ _ fun i j => ?_
  unfold plain_prod tr mul2 of2
  pointwise!

end Reference

theorem quiescent_ref : Cert.quiescent_LinearDwRefIdeal := fun m ρ _ =>
  (θ_run Cert.LinearDwRefIdeal.defs _ _).mono (fun r h =>
      ⟨fun c => (h c).2, Idealize.ShloMosaic.sem_eq_zero_of_no_sems (by decide) r.2⟩)
    (Cert.LinearDwRefIdeal.Value.run (F := Ideal) m ρ)

theorem algebraic : Cert.algebraic_LinearDwIdeal_LinearDwRefIdeal := fun m ρ m' ρ' _ hag =>
  ⟨fun c => arr2 (φ := .f32) (mul2 (tr (of2 (m ((c : Thread Cert.LinearDwIdeal.nD Cert.LinearDwIdeal.τ).loc Cert.LinearDwIdeal.main_arg0)))) (of2 (m ((c : Thread Cert.LinearDwIdeal.nD Cert.LinearDwIdeal.τ).loc Cert.LinearDwIdeal.main_arg2)))),
    (θ_run Cert.LinearDwIdeal.defs _ _).mono (fun _ h c => ⟨(h c).1.trans ((final m c).trans (congrArg _ (prod_eq m c))), (h c).2⟩)
      (Cert.LinearDwIdeal.Value.run_blocks (F := Ideal) m ρ),
    (θ_run Cert.LinearDwRefIdeal.defs _ _).mono (fun _ h c => by
        obtain ⟨h0, h1, h2⟩ := hag c
        exact ⟨(h c).1.trans ((prod_ref (m' ((c : Thread Cert.LinearDwRefIdeal.nD Cert.LinearDwRefIdeal.τ).loc Cert.LinearDwRefIdeal.main_arg0)) (m' ((c : Thread Cert.LinearDwRefIdeal.nD Cert.LinearDwRefIdeal.τ).loc Cert.LinearDwRefIdeal.main_arg2))).trans (by rw [h0, h2])), (h c).2⟩)
      (Cert.LinearDwRefIdeal.Value.run (F := Ideal) m' ρ')⟩

end Cert.Proof.LinearDw
-- ==== Proof.LinearAValue.lean ====
/- The projection of the first mixer's input: what the blocked product leaves in its result. -/
module

public import proofs.«01_k».proof.Proof.Product
public import proofs.«01_k».proof.Proof.Gen.LinearAIdeal.Value

@[expose] public section

set_option maxRecDepth 16384

noncomputable section

namespace Cert.Proof.LinearA

open Cert.LinearAIdeal Cert.LinearAIdeal.Gen
open Idealize.ShloMosaic Idealize.ShloMosaic.TcCoe Idealize.ShloMosaic.Pointwise Idealize.ShloMosaic.StableHlo

variable (m : (ℓ : Loc nD τ sig) → Buf (Elt Ideal) ℓ) (c : Dev nD)

/-- The left factor. -/
def lhs : Fin 16384 → Fin 1024 → EReal := fun i k => V m c main_v0 (ix2 i k)

/-- The right factor. -/
def rhs : Fin 1024 → Fin 3456 → EReal := fun k j => V m c main_v1 (ix2 k j)

/-- The product. -/
def prod : Fin 16384 → Fin 3456 → EReal := fun i j => ∑ k : Fin 1024, lhs m c i k * rhs m c k j

/-- Which blocks a grid point takes and writes. -/
theorem idx : ∀ t : Fin cfg0.N,
    (win0_0.index t (0 : Fin 2) = t.val / 3 ∧ win0_0.index t (1 : Fin 2) = 0)
    ∧ (win0_1.index t (0 : Fin 2) = 0 ∧ win0_1.index t (1 : Fin 2) = t.val % 3)
    ∧ (win0_2.index t (0 : Fin 2) = t.val / 3 ∧ win0_2.index t (1 : Fin 2) = t.val % 3) :=
  (by decide +kernel : ∀ t : Fin grid0.N, _)

theorem lt_N (t : Fin cfg0.N) : t.val < 24 := lt_of_lt_of_eq t.isLt N_0

theorem lhs_block (t : Fin cfg0.N) (a : Fin 2048) (κ : Fin 1024) :
    iblk m c 0 t (ix2 a κ) = lhs m c (⟨2048 * (t.val / 3) + a.val, by have := lt_N t; omega⟩ : Fin 16384) κ := by
  refine congrArg (V m c main_v0) (funext fun x => Fin.ext ?_)
  match x with
  | ⟨0, _⟩ =>
    show win0_0.index t (0 : Fin 2) * 2048 + 1 * a.val = 2048 * (t.val / 3) + a.val
    rw [(idx t).1.1]; omega
  | ⟨1, _⟩ =>
    show win0_0.index t (1 : Fin 2) * 1024 + 1 * κ.val = κ.val
    rw [(idx t).1.2]; omega

theorem rhs_block (t : Fin cfg0.N) (κ : Fin 1024) (b : Fin 1152) :
    iblk m c 1 t (ix2 κ b) = rhs m c κ (⟨1152 * (t.val % 3) + b.val, by omega⟩ : Fin 3456) := by
  refine congrArg (V m c main_v1) (funext fun x => Fin.ext ?_)
  match x with
  | ⟨0, _⟩ =>
    show win0_1.index t (0 : Fin 2) * 1024 + 1 * κ.val = κ.val
    rw [(idx t).2.1.1]; omega
  | ⟨1, _⟩ =>
    show win0_1.index t (1 : Fin 2) * 1152 + 1 * b.val = 1152 * (t.val % 3) + b.val
    rw [(idx t).2.1.2]; omega

/-- A block's product at an element. -/
def dot (x0 : Vec Ideal S2048x1024 .bf16) (x1 : Vec Ideal S1024x1152 .bf16) (a : Fin 2048) (b : Fin 1152) : EReal :=
  ∑ κ : Fin 1024, x0 (ix2 a κ) * x1 (ix2 κ b)

theorem block_sum (t : Fin cfg0.N) (a : Fin 2048) (b : Fin 1152) :
    dot (iblk m c 0 t) (iblk m c 1 t) a b = prod m c (⟨2048 * (t.val / 3) + a.val, by have := lt_N t; omega⟩ : Fin 16384) (⟨1152 * (t.val % 3) + b.val, by omega⟩ : Fin 3456) :=
  Finset.sum_congr rfl fun κ _ => congrArg₂ (· * ·) (lhs_block m c t a κ) (rhs_block m c t κ b)

theorem emb2 (t : Fin cfg0.N) (a : Fin 2048) (b : Fin 1152) :
    ((cfg0.win 2).blk t).view.emb (ix2 a b) = ix2 (⟨2048 * (t.val / 3) + a.val, by have := lt_N t; omega⟩ : Fin 16384) (⟨1152 * (t.val % 3) + b.val, by omega⟩ : Fin 3456) := by
  refine funext fun x => Fin.ext ?_
  match x with
  | ⟨0, _⟩ =>
    show win0_2.index t (0 : Fin 2) * 2048 + 1 * a.val = 2048 * (t.val / 3) + a.val
    rw [(idx t).2.2.1]; omega
  | ⟨1, _⟩ =>
    show win0_2.index t (1 : Fin 2) * 1152 + 1 * b.val = 1152 * (t.val % 3) + b.val
    rw [(idx t).2.2.2]; omega

theorem part_at (x0 : Vec Ideal S2048x1024 .bf16) (x1 : Vec Ideal S1024x1152 .bf16) (a : Fin 2048) (b : Fin 1152) :
    k0_pay1 x0 x1 (ix2 a b) = dot x0 x1 a b := by
  unfold k0_pay1 dot
  pointwise!

theorem whole2 (x0 : Vec Ideal S2048x1024 .bf16) (x1 : Vec Ideal S1024x1152 .bf16) : out0_2 x0 x1 = k0_pay1 x0 x1 := by
  unfold out0_2
  rw [View.canon_unit_zero zeros]
  simp only [View.ld_unit_zero (S := S2048x1024) zeros, View.ld_unit_zero (S := S1024x1152) zeros]

theorem flushes2 : ∀ t : Fin cfg0.N, (cfg0.win 2).flush t = true := (by decide +kernel : ∀ t : Fin grid0.N, _)

theorem out_block2 (t : Fin cfg0.N) :
    out0_2 (iblk m c 0 t) (iblk m c 1 t) = fun y => arr2 (φ := .f32) (prod m c) (((cfg0.win 2).blk t).view.emb y) := by
  funext y
  obtain ⟨a, b, rfl⟩ : ∃ a b, y = ix2 a b := ⟨y 0, y 1, (ix2_eta y).symm⟩
  rw [emb2, arr2_at, whole2]
  exact (part_at _ _ a b).trans (block_sum m c t a b)

theorem cover2 (y : S16384x3456.Idx) : ∃ t : Fin cfg0.N, (cfg0.win 2).flush t = true ∧ y ∈ ((cfg0.win 2).blk t).view.set := by
  obtain ⟨i, j, rfl⟩ : ∃ i j, y = ix2 i j := ⟨y 0, y 1, (ix2_eta y).symm⟩
  have hN : cfg0.N = 24 := N_0
  refine ⟨⟨3 * (i.val / 2048) + j.val / 1152, by omega⟩, flushes2 _, ?_⟩
  have e := emb2 ⟨3 * (i.val / 2048) + j.val / 1152, by omega⟩ ⟨i.val % 2048, by omega⟩ ⟨j.val % 1152, by omega⟩
  have e' : ix2 i j = _ := (congrArg₂ ix2 (Fin.ext (by dsimp only; omega)) (Fin.ext (by dsimp only; omega))).trans e.symm
  rw [e']
  exact View.emb_mem_set _ _

theorem read_block2 (t : Fin cfg0.N) (G : Vec Ideal S16384x3456 .f32) :
    (cfg0.win 2).cut (grid0.coords t) (fun y => G (((cfg0.win 2).blk t).view.emb y)) =
      ((cfg0.win 2).blk t).view.read (Elt Ideal) G := rfl

/-- The result after the run. -/
theorem final2 : (dats m 0 c).arrAt 2 cfg0.N = arr2 (φ := .f32) (prod m c) := by
  refine (dats m 0 c).arrAt_eq_of_cover 2 _ (fun t _ => ?_) cover2
  rw [Value.flushed2, out_block2 m c t]
  exact read_block2 t _

end Cert.Proof.LinearA
-- ==== Proof.LinearAFinal.lean ====
/- The projection of the first mixer's input: the programs' results beside each other. -/
module

public import proofs.«01_k».proof.Defs
public import proofs.«01_k».proof.Proof.Mlp
public import proofs.«01_k».proof.Proof.LinearAValue
public import proofs.«01_k».proof.Proof.Gen.LinearARefIdeal.Run

@[expose] public section

set_option maxRecDepth 16384

noncomputable section

namespace Cert.Proof.LinearA

open Idealize.ShloMosaic Idealize.ShloMosaic.TcCoe Idealize.ShloMosaic.Pointwise Idealize.ShloMosaic.StableHlo Idealize.SL.Sem

section Kernel

open Cert.LinearAIdeal Cert.LinearAIdeal.Gen

section Host

variable {F : FTy → Type} [FloatOps F]

/-- The left factor as the host prepares it. -/
def host_lhs (x0 : Vec F S16384x1024 .f32) : Vec F S16384x1024 .bf16 :=
  truncf .bf16 x0 bitsLt_bf16_f32

/-- The right factor as the host prepares it. -/
def host_rhs (x1 : Vec F S1024x3456 .f32) : Vec F S1024x3456 .bf16 :=
  truncf .bf16 x1 bitsLt_bf16_f32

end Host

variable (m : (ℓ : Loc nD τ sig) → Buf (Elt Ideal) ℓ) (c : Dev nD)

theorem host_lhs_at (x0 : Vec Ideal S16384x1024 .f32) (i : Fin 16384) (j : Fin 1024) :
    host_lhs x0 (ix2 i j) = of2 x0 i j := by
  rfl

theorem V_lhs : V m c main_v0 = host_lhs (m ((c : Thread nD τ).loc main_arg0)) := by
  unfold_abbrev_sides
  after_results
  rfl

theorem lhs_eq : lhs m c = of2 (m ((c : Thread nD τ).loc main_arg0)) := by
  funext i j
  unfold lhs
  rw [V_lhs]
  exact host_lhs_at _ _ _

theorem host_rhs_at (x1 : Vec Ideal S1024x3456 .f32) (i : Fin 1024) (j : Fin 3456) :
    host_rhs x1 (ix2 i j) = of2 x1 i j := by
  rfl

theorem V_rhs : V m c main_v1 = host_rhs (m ((c : Thread nD τ).loc main_arg1)) := by
  unfold_abbrev_sides
  after_results
  rfl

theorem rhs_eq : rhs m c = of2 (m ((c : Thread nD τ).loc main_arg1)) := by
  funext i j
  unfold rhs
  rw [V_rhs]
  exact host_rhs_at _ _ _

theorem prod_eq : prod m c = mul2 (of2 (m ((c : Thread nD τ).loc main_arg0))) (of2 (m ((c : Thread nD τ).loc main_arg1))) := by
  show mul2 (lhs m c) (rhs m c) = _
  rw [lhs_eq, rhs_eq]

end Kernel

section Reference

open Cert.LinearARefIdeal Cert.LinearARefIdeal.Gen

variable (x0 : Vec Ideal S16384x1024 .f32) (x1 : Vec Ideal S1024x3456 .f32)

section Plain

variable {F : FTy → Type} [FloatOps F]

/-- The reference's value. -/
def plain_prod (x0 : Vec F S16384x1024 .f32) (x1 : Vec F S1024x3456 .f32) : Vec F S16384x3456 .f32 :=
  Host.dotGeneral dot_S16384x1024_S1024x3456_S16384x3456_1_0_0_1_n_n none x0 x1

end Plain

set_option maxRecDepth 200000 in
theorem prod_ref : plain_prod x0 x1 =
    arr2 (φ := .f32) (mul2 (of2 x0) (of2 x1)) := by
  refine eq_arr2 _ _ fun i j => ?_
  unfold plain_prod mul2 of2
  pointwise!

end Reference

theorem quiescent_ref : Cert.quiescent_LinearARefIdeal := fun m ρ _ =>
  (θ_run Cert.LinearARefIdeal.defs _ _).mono (fun r h =>
      ⟨fun c => (h c).2, Idealize.ShloMosaic.sem_eq_zero_of_no_sems (by decide) r.2⟩)
    (Cert.LinearARefIdeal.Value.run (F := Ideal) m ρ)

theorem algebraic : Cert.algebraic_LinearAIdeal_LinearARefIdeal := fun m ρ m' ρ' _ hag =>
  ⟨fun c => arr2 (φ := .f32) (mul2 (of2 (m ((c : Thread Cert.LinearAIdeal.nD Cert.LinearAIdeal.τ).loc Cert.LinearAIdeal.main_arg0))) (of2 (m ((c : Thread Cert.LinearAIdeal.nD Cert.LinearAIdeal.τ).loc Cert.LinearAIdeal.main_arg1)))),
    (θ_run Cert.LinearAIdeal.defs _ _).mono (fun _ h c => ⟨(h c).1.trans ((final2 m c).trans (congrArg _ (prod_eq m c))), (h c).2⟩)
      (Cert.LinearAIdeal.Value.run_blocks (F := Ideal) m ρ),
    (θ_run Cert.LinearARefIdeal.defs _ _).mono (fun _ h c => by
        obtain ⟨h0, h1⟩ := hag c
        exact ⟨(h c).1.trans ((prod_ref (m' ((c : Thread Cert.LinearARefIdeal.nD Cert.LinearARefIdeal.τ).loc Cert.LinearARefIdeal.main_arg0)) (m' ((c : Thread Cert.LinearARefIdeal.nD Cert.LinearARefIdeal.τ).loc Cert.LinearARefIdeal.main_arg1))).trans (by rw [h0, h1])), (h c).2⟩)
      (Cert.LinearARefIdeal.Value.run (F := Ideal) m' ρ')⟩

end Cert.Proof.LinearA
-- ==== Proof.LinearADxValue.lean ====
/- The cotangent of the first mixer's input: what the blocked product leaves in its result. -/
module

public import proofs.«01_k».proof.Proof.Product
public import proofs.«01_k».proof.Proof.Gen.LinearADxIdeal.Value

@[expose] public section

set_option maxRecDepth 16384

noncomputable section

namespace Cert.Proof.LinearADx

open Cert.LinearADxIdeal Cert.LinearADxIdeal.Gen
open Idealize.ShloMosaic Idealize.ShloMosaic.TcCoe Idealize.ShloMosaic.Pointwise Idealize.ShloMosaic.StableHlo

section Pieces

variable {F : FTy → Type} [FloatOps F]
variable (c : Dev nD) (i : grid0.Coords) (arg3 : Memref sig .tc .vmem S2048x1152 .bf16) (harg3 : arg3.IsWhole)
    (arg4 : Memref sig .tc .vmem S1024x1152 .bf16) (harg4 : arg4.IsWhole) (arg5 : Memref sig .tc .vmem S2048x1024 .f32)
    (harg5 : arg5.IsWhole) (arg6 : Memref sig .tc .vmem S2048x1024 .f32) (harg6 : arg6.IsWhole)
    (x0 : Vec F S2048x1152 .bf16) (x1 : Vec F S1024x1152 .bf16) (xs0 : Vec F S2048x1024 .f32)

/-- A run's first point starts the sum. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_junk_eq_canon]
  unfold kernelRun0_A
  dsimp only
  sl_unfold_words
  simp only [View.readAt_eq_ld, harg3.read_unread, harg4.read_unread]
  rw [View.canon_unit_zero zeros]
  simp only [View.ld_unit_zero (S := S2048x1152) zeros, View.ld_unit_zero (S := S1024x1152) zeros]
  exact shapeCast_self _ _

/-- Its middle points add to it. -/
theorem middle (hc0 : ¬cond0_0 i) (hc1 : cond0_1 i) (hc2 : ¬cond0_2 i) :
    sout0_B_0 c i arg3 harg3 arg4 harg4 arg5 harg5 arg6 harg6 hc0 hc1 hc2 x0 x1 xs0 = k0_pay4 x0 x1 xs0 := by
  unfold sout0_B_0
  rw [View.read_writes_junk_eq_canon]
  unfold kernelRun0_B
  dsimp only
  sl_unfold_words
  simp only [View.readAt_eq_ld, harg3.read_unread, harg4.read_unread, harg6.read_unread]
  rw [View.canon_unit_zero zeros]
  simp only [View.ld_unit_zero (S := S2048x1152) zeros, View.ld_unit_zero (S := S1024x1152) zeros, View.ld_unit_zero (S := S2048x1024) zeros]
  exact shapeCast_self _ _

/-- Its last point writes the sum out. -/
theorem last (hc0 : ¬cond0_0 i) (hc1 : ¬cond0_1 i) (hc2 : cond0_2 i) :
    out0_C_2 c i arg3 harg3 arg4 harg4 arg5 harg5 arg6 harg6 hc0 hc1 hc2 x0 x1 xs0 = k0_pay4 x0 x1 xs0 := by
  unfold out0_C_2
  rw [View.read_writes_junk_eq_canon]
  unfold kernelRun0_C
  dsimp only
  sl_unfold_words
  simp only [View.readAt_eq_ld, harg3.read_unread, harg4.read_unread, harg6.read_unread]
  rw [View.canon_unit_zero zeros]
  simp only [View.ld_unit_zero (S := S2048x1152) zeros, View.ld_unit_zero (S := S1024x1152) zeros, View.ld_unit_zero (S := S2048x1024) zeros]

end Pieces

theorem part_at (x0 : Vec Ideal S2048x1152 .bf16) (x1 : Vec Ideal S1024x1152 .bf16) (a : Fin 2048) (b : Fin 1024) :
    k0_pay1 x0 x1 (ix2 a b) = ∑ κ : Fin 1152, x0 (ix2 a κ) * x1 (ix2 b κ) := by
  unfold k0_pay1
  pointwise!

theorem sum_at (x0 : Vec Ideal S2048x1152 .bf16) (x1 : Vec Ideal S1024x1152 .bf16) (x : Vec Ideal S2048x1024 .f32)
    (a : Fin 2048) (b : Fin 1024) : k0_pay4 x0 x1 x (ix2 a b) = x (ix2 a b) + k0_pay1 x0 x1 (ix2 a b) := rfl

variable (m : (ℓ : Loc nD τ sig) → Buf (Elt Ideal) ℓ) (c : Dev nD)

/-- The left factor. -/
def lhs : Fin 16384 → Fin 3456 → EReal := fun i k => V m c main_v0 (ix2 i k)

/-- The right factor. -/
def rhs : Fin 3456 → Fin 1024 → EReal := fun k j => V m c main_v1 (ix2 j k)

/-- Which blocks a grid point takes and writes. -/
theorem idx : ∀ t : Fin cfg0.N,
    (win0_0.index t (0 : Fin 2) = t.val / 3 ∧ win0_0.index t (1 : Fin 2) = t.val % 3)
    ∧ (win0_1.index t (0 : Fin 2) = 0 ∧ win0_1.index t (1 : Fin 2) = t.val % 3)
    ∧ (win0_2.index t (0 : Fin 2) = t.val / 3 ∧ win0_2.index t (1 : Fin 2) = 0) :=
  (by decide +kernel : ∀ t : Fin grid0.N, _)

theorem lt_N (t : Fin cfg0.N) : t.val < 24 := lt_of_lt_of_eq t.isLt N_0

theorem lhs_block (t : Fin cfg0.N) (a : Fin 2048) (κ : Fin 1152) :
    iblk m c 0 t (ix2 a κ) = mat (lhs m c) (2048 * (t.val / 3) + a.val) (1152 * (t.val % 3) + κ.val) := by
  have ht := lt_N t
  rw [mat_of (lhs m c) (by omega) (by omega)]
  refine congrArg (V m c main_v0) (funext fun x => Fin.ext ?_)
  match x with
  | ⟨0, _⟩ =>
    show win0_0.index t (0 : Fin 2) * 2048 + 1 * a.val = 2048 * (t.val / 3) + a.val
    rw [(idx t).1.1]; omega
  | ⟨1, _⟩ =>
    show win0_0.index t (1 : Fin 2) * 1152 + 1 * κ.val = 1152 * (t.val % 3) + κ.val
    rw [(idx t).1.2]; omega

theorem rhs_block (t : Fin cfg0.N) (κ : Fin 1152) (b : Fin 1024) :
    iblk m c 1 t (ix2 b κ) = mat (rhs m c) (1152 * (t.val % 3) + κ.val) (b.val) := by
  have ht := lt_N t
  rw [mat_of (rhs m c) (by omega) (by omega)]
  refine congrArg (V m c main_v1) (funext fun x => Fin.ext ?_)
  match x with
  | ⟨0, _⟩ =>
    show win0_1.index t (0 : Fin 2) * 1024 + 1 * b.val = b.val
    rw [(idx t).2.1.1]; omega
  | ⟨1, _⟩ =>
    show win0_1.index t (1 : Fin 2) * 1152 + 1 * κ.val = 1152 * (t.val % 3) + κ.val
    rw [(idx t).2.1.2]; omega

/-- The products summed at an element of a run's block. -/
def term (a : Fin 2048) (b : Fin 1024) (r k : ℕ) : EReal :=
  mat (lhs m c) (2048 * (r) + a.val) k * mat (rhs m c) k (b.val)

theorem part_eq (t : Fin cfg0.N) (a : Fin 2048) (b : Fin 1024) :
    k0_pay1 (iblk m c 0 t) (iblk m c 1 t) (ix2 a b) =
      ∑ κ : Fin 1152, term m c a b (t.val / 3) (1152 * (t.val % 3) + κ.val) :=
  (part_at _ _ a b).trans (Finset.sum_congr rfl fun κ _ => congrArg₂ (· * ·) (lhs_block m c t a κ) (rhs_block m c t κ b))

/-- What the accumulator holds before a run's last point. -/
theorem scratch (n : ℕ) (h : n < cfg0.N) (hq : n % 3 + 1 < 3) (a : Fin 2048) (b : Fin 1024) :
    (outsAt0 m c n h).2 (ix2 a b) = ∑ k ∈ Finset.range (1152 * (n % 3 + 1)), term m c a b (n / 3) k := by
  refine accumulated cfg0.N 3 1152 (term m c a b) (fun n h => (outsAt0 m c n h).2 (ix2 a b)) (fun n h h0 => ?_)
    (fun n h h0 h1 => ?_) n h hq
  · rw [outsAt0_A m c ⟨n, h⟩ h0 (by dsimp only; omega) (by dsimp only; omega)]
    dsimp only
    rw [first]
    exact part_eq m c ⟨n, h⟩ a b
  · rw [outsAt0_B m c ⟨n, h⟩ (by dsimp only; omega) (by dsimp only; omega) (by dsimp only; omega)]
    dsimp only
    rw [middle, sum_at]
    exact congrArg _ (part_eq m c ⟨n, h⟩ a b)

/-- The whole product. -/
def prod : Fin 16384 → Fin 1024 → EReal := fun i j => ∑ k : Fin 3456, lhs m c i k * rhs m c k j

theorem term_sum (a : Fin 2048) (b : Fin 1024) (r : ℕ) (hi : 2048 * (r) + a.val < 16384) (hj : b.val < 1024) :
    ∑ k ∈ Finset.range 3456, term m c a b r k = prod m c ⟨_, hi⟩ ⟨_, hj⟩ := sum_mat (lhs m c) (rhs m c) hi hj

theorem out_emb (t : Fin cfg0.N) (a : Fin 2048) (b : Fin 1024) :
    ((cfg0.win 2).blk t).view.emb (ix2 a b) =
      ix2 (⟨2048 * (t.val / 3) + a.val, by have := lt_N t; omega⟩ : Fin 16384) (⟨b.val, by omega⟩ : Fin 1024) := by
  refine funext fun x => Fin.ext ?_
  match x with
  | ⟨0, _⟩ =>
    show win0_2.index t (0 : Fin 2) * 2048 + 1 * a.val = 2048 * (t.val / 3) + a.val
    rw [(idx t).2.2.1]; omega
  | ⟨1, _⟩ =>
    show win0_2.index t (1 : Fin 2) * 1024 + 1 * b.val = b.val
    rw [(idx t).2.2.2]; omega

theorem flushes : ∀ t : Fin cfg0.N, ((cfg0.win 2).flush t = true ↔ t.val % 3 = 2) :=
  (by decide +kernel : ∀ t : Fin grid0.N, _)

theorem out_block (t : Fin cfg0.N) (ht : t.val % 3 = 2) :
    (outsAt0 m c t.val t.isLt).1 = fun y => arr2 (φ := .f32) (prod m c) (((cfg0.win 2).blk t).view.emb y) := by
  funext y
  obtain ⟨a, b, rfl⟩ : ∃ a b, y = ix2 a b := ⟨y 0, y 1, (ix2_eta y).symm⟩
  have hN := lt_N t
  rw [out_emb, arr2_at, outsAt0_C m c t (by omega) (by omega) ht]
  dsimp only
  rw [last, sum_at, scratch m c _ _ (by omega), part_eq, show (t.val - 1) / 3 = t.val / 3 by omega,
    show (t.val - 1) % 3 + 1 = t.val % 3 by omega, sum_last_block, ht, show 1152 * (2 + 1) = 3456 by norm_num]
  exact term_sum m c a b _ _ _

theorem cover (y : S16384x1024.Idx) : ∃ t : Fin cfg0.N, (cfg0.win 2).flush t = true ∧ y ∈ ((cfg0.win 2).blk t).view.set := by
  obtain ⟨i, j, rfl⟩ : ∃ i j, y = ix2 i j := ⟨y 0, y 1, (ix2_eta y).symm⟩
  have hN : cfg0.N = 24 := N_0
  refine ⟨⟨3 * (i.val / 2048) + 2, by omega⟩, (flushes _).mpr (by dsimp only; omega), ?_⟩
  have e := out_emb ⟨3 * (i.val / 2048) + 2, by omega⟩ ⟨i.val % 2048, by omega⟩ ⟨j.val % 1024, by omega⟩
  have e' : ix2 i j = _ := (congrArg₂ ix2 (Fin.ext (by dsimp only; omega)) (Fin.ext (by dsimp only; omega))).trans e.symm
  rw [e']
  exact View.emb_mem_set _ _

theorem read_block (t : Fin cfg0.N) (G : Vec Ideal S16384x1024 .f32) :
    (cfg0.win 2).cut (grid0.coords t) (fun y => G (((cfg0.win 2).blk t).view.emb y)) =
      ((cfg0.win 2).blk t).view.read (Elt Ideal) G := rfl

/-- The result after the run. -/
theorem final : (dats m 0 c).arrAt 2 cfg0.N = arr2 (φ := .f32) (prod m c) := by
  refine (dats m 0 c).arrAt_eq_of_cover 2 _ (fun t hf => ?_) cover
  rw [Value.flushed2, out_block m c t ((flushes t).mp hf)]
  exact read_block t _

end Cert.Proof.LinearADx
-- ==== Proof.LinearADxFinal.lean ====
/- The cotangent of the first mixer's input: the programs' results beside each other. -/
module

public import proofs.«01_k».proof.Defs
public import proofs.«01_k».proof.Proof.Mlp
public import proofs.«01_k».proof.Proof.LinearADxValue
public import proofs.«01_k».proof.Proof.Gen.LinearADxRefIdeal.Run

@[expose] public section

set_option maxRecDepth 16384

noncomputable section

namespace Cert.Proof.LinearADx

open Idealize.ShloMosaic Idealize.ShloMosaic.TcCoe Idealize.ShloMosaic.Pointwise Idealize.ShloMosaic.StableHlo Idealize.SL.Sem

section Kernel

open Cert.LinearADxIdeal Cert.LinearADxIdeal.Gen

section Host

variable {F : FTy → Type} [FloatOps F]

/-- The left factor as the host prepares it. -/
def host_lhs (x2 : Vec F S16384x3456 .f32) : Vec F S16384x3456 .bf16 :=
  truncf .bf16 x2 bitsLt_bf16_f32

/-- The right factor as the host prepares it. -/
def host_rhs (x1 : Vec F S1024x3456 .f32) : Vec F S1024x3456 .bf16 :=
  truncf .bf16 x1 bitsLt_bf16_f32

end Host

variable (m : (ℓ : Loc nD τ sig) → Buf (Elt Ideal) ℓ) (c : Dev nD)

theorem host_lhs_at (x2 : Vec Ideal S16384x3456 .f32) (i : Fin 16384) (j : Fin 3456) :
    host_lhs x2 (ix2 i j) = of2 x2 i j := by
  rfl

theorem V_lhs : V m c main_v0 = host_lhs (m ((c : Thread nD τ).loc main_arg2)) := by
  unfold_abbrev_sides
  after_results
  rfl

theorem lhs_eq : lhs m c = of2 (m ((c : Thread nD τ).loc main_arg2)) := by
  funext i j
  unfold lhs
  rw [V_lhs]
  exact host_lhs_at _ _ _

theorem host_rhs_at (x1 : Vec Ideal S1024x3456 .f32) (i : Fin 1024) (j : Fin 3456) :
    host_rhs x1 (ix2 i j) = (of2 x1) i j := by
  rfl

theorem V_rhs : V m c main_v1 = host_rhs (m ((c : Thread nD τ).loc main_arg1)) := by
  unfold_abbrev_sides
  after_results
  rfl

theorem rhs_eq : rhs m c = tr (of2 (m ((c : Thread nD τ).loc main_arg1))) := by
  funext i j
  unfold rhs
  rw [V_rhs]
  exact host_rhs_at _ _ _

theorem prod_eq : prod m c = mul2 (of2 (m ((c : Thread nD τ).loc main_arg2))) (tr (of2 (m ((c : Thread nD τ).loc main_arg1)))) := by
  show mul2 (lhs m c) (rhs m c) = _
  rw [lhs_eq, rhs_eq]

end Kernel

section Reference

open Cert.LinearADxRefIdeal Cert.LinearADxRefIdeal.Gen

variable (x0 : Vec Ideal S16384x1024 .f32) (x1 : Vec Ideal S1024x3456 .f32) (x2 : Vec Ideal S16384x3456 .f32)

section Plain

variable {F : FTy → Type} [FloatOps F]

/-- The reference's value. -/
def plain_prod (x1 : Vec F S1024x3456 .f32) (x2 : Vec F S16384x3456 .f32) : Vec F S16384x1024 .f32 :=
  Host.dotGeneral dot_S16384x3456_S1024x3456_S16384x1024_1_1_0_0_n_n none x2 x1

end Plain

set_option maxRecDepth 200000 in
theorem prod_ref : plain_prod x1 x2 =
    arr2 (φ := .f32) (mul2 (of2 x2) (tr (of2 x1))) := by
  refine eq_arr2 _ _ fun i j => ?_
  unfold plain_prod tr mul2 of2
  pointwise!

end Reference

theorem quiescent_ref : Cert.quiescent_LinearADxRefIdeal := fun m ρ _ =>
  (θ_run Cert.LinearADxRefIdeal.defs _ _).mono (fun r h =>
      ⟨fun c => (h c).2, Idealize.ShloMosaic.sem_eq_zero_of_no_sems (by decide) r.2⟩)
    (Cert.LinearADxRefIdeal.Value.run (F := Ideal) m ρ)

theorem algebraic : Cert.algebraic_LinearADxIdeal_LinearADxRefIdeal := fun m ρ m' ρ' _ hag =>
  ⟨fun c => arr2 (φ := .f32) (mul2 (of2 (m ((c : Thread Cert.LinearADxIdeal.nD Cert.LinearADxIdeal.τ).loc Cert.LinearADxIdeal.main_arg2))) (tr (of2 (m ((c : Thread Cert.LinearADxIdeal.nD Cert.LinearADxIdeal.τ).loc Cert.LinearADxIdeal.main_arg1))))),
    (θ_run Cert.LinearADxIdeal.defs _ _).mono (fun _ h c => ⟨(h c).1.trans ((final m c).trans (congrArg _ (prod_eq m c))), (h c).2⟩)
      (Cert.LinearADxIdeal.Value.run_blocks (F := Ideal) m ρ),
    (θ_run Cert.LinearADxRefIdeal.defs _ _).mono (fun _ h c => by
        obtain ⟨h0, h1, h2⟩ := hag c
        exact ⟨(h c).1.trans ((prod_ref (m' ((c : Thread Cert.LinearADxRefIdeal.nD Cert.LinearADxRefIdeal.τ).loc Cert.LinearADxRefIdeal.main_arg1)) (m' ((c : Thread Cert.LinearADxRefIdeal.nD Cert.LinearADxRefIdeal.τ).loc Cert.LinearADxRefIdeal.main_arg2))).trans (by rw [h1, h2])), (h c).2⟩)
      (Cert.LinearADxRefIdeal.Value.run (F := Ideal) m' ρ')⟩

end Cert.Proof.LinearADx
-- ==== Proof.LinearADwValue.lean ====
/- The gradient of the weight of the first mixer's input: what the blocked product leaves in its result. -/
module

public import proofs.«01_k».proof.Proof.Product
public import proofs.«01_k».proof.Proof.Gen.LinearADwIdeal.Value

@[expose] public section

set_option maxRecDepth 16384

noncomputable section

namespace Cert.Proof.LinearADw

open Cert.LinearADwIdeal Cert.LinearADwIdeal.Gen
open Idealize.ShloMosaic Idealize.ShloMosaic.TcCoe Idealize.ShloMosaic.Pointwise Idealize.ShloMosaic.StableHlo

section Pieces

variable {F : FTy → Type} [FloatOps F]
variable (c : Dev nD) (i : grid0.Coords) (arg3 : Memref sig .tc .vmem S1024x1024 .bf16) (harg3 : arg3.IsWhole)
    (arg4 : Memref sig .tc .vmem S1024x1152 .bf16) (harg4 : arg4.IsWhole) (arg5 : Memref sig .tc .vmem S1024x1152 .f32)
    (harg5 : arg5.IsWhole) (arg6 : Memref sig .tc .vmem S1024x1152 .f32) (harg6 : arg6.IsWhole)
    (x0 : Vec F S1024x1024 .bf16) (x1 : Vec F S1024x1152 .bf16) (xs0 : Vec F S1024x1152 .f32)

/-- A run's first point starts the sum. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_junk_eq_canon]
  unfold kernelRun0_A
  dsimp only
  sl_unfold_words
  simp only [View.readAt_eq_ld, harg3.read_unread, harg4.read_unread]
  rw [View.canon_unit_zero zeros]
  simp only [View.ld_unit_zero (S := S1024x1024) zeros, View.ld_unit_zero (S := S1024x1152) zeros]
  exact shapeCast_self _ _

/-- Its middle points add to it. -/
theorem middle (hc0 : ¬cond0_0 i) (hc1 : cond0_1 i) (hc2 : ¬cond0_2 i) :
    sout0_B_0 c i arg3 harg3 arg4 harg4 arg5 harg5 arg6 harg6 hc0 hc1 hc2 x0 x1 xs0 = k0_pay4 x0 x1 xs0 := by
  unfold sout0_B_0
  rw [View.read_writes_junk_eq_canon]
  unfold kernelRun0_B
  dsimp only
  sl_unfold_words
  simp only [View.readAt_eq_ld, harg3.read_unread, harg4.read_unread, harg6.read_unread]
  rw [View.canon_unit_zero zeros]
  simp only [View.ld_unit_zero (S := S1024x1024) zeros, View.ld_unit_zero (S := S1024x1152) zeros, View.ld_unit_zero (S := S1024x1152) zeros]
  exact shapeCast_self _ _

/-- Its last point writes the sum out. -/
theorem last (hc0 : ¬cond0_0 i) (hc1 : ¬cond0_1 i) (hc2 : cond0_2 i) :
    out0_C_2 c i arg3 harg3 arg4 harg4 arg5 harg5 arg6 harg6 hc0 hc1 hc2 x0 x1 xs0 = k0_pay4 x0 x1 xs0 := by
  unfold out0_C_2
  rw [View.read_writes_junk_eq_canon]
  unfold kernelRun0_C
  dsimp only
  sl_unfold_words
  simp only [View.readAt_eq_ld, harg3.read_unread, harg4.read_unread, harg6.read_unread]
  rw [View.canon_unit_zero zeros]
  simp only [View.ld_unit_zero (S := S1024x1024) zeros, View.ld_unit_zero (S := S1024x1152) zeros, View.ld_unit_zero (S := S1024x1152) zeros]

end Pieces

theorem part_at (x0 : Vec Ideal S1024x1024 .bf16) (x1 : Vec Ideal S1024x1152 .bf16) (a : Fin 1024) (b : Fin 1152) :
    k0_pay1 x0 x1 (ix2 a b) = ∑ κ : Fin 1024, x0 (ix2 κ a) * x1 (ix2 κ b) := by
  unfold k0_pay1
  pointwise!

theorem sum_at (x0 : Vec Ideal S1024x1024 .bf16) (x1 : Vec Ideal S1024x1152 .bf16) (x : Vec Ideal S1024x1152 .f32)
    (a : Fin 1024) (b : Fin 1152) : k0_pay4 x0 x1 x (ix2 a b) = x (ix2 a b) + k0_pay1 x0 x1 (ix2 a b) := rfl

variable (m : (ℓ : Loc nD τ sig) → Buf (Elt Ideal) ℓ) (c : Dev nD)

/-- The left factor. -/
def lhs : Fin 1024 → Fin 16384 → EReal := fun i k => V m c main_v0 (ix2 k i)

/-- The right factor. -/
def rhs : Fin 16384 → Fin 3456 → EReal := fun k j => V m c main_v1 (ix2 k j)

/-- Which blocks a grid point takes and writes. -/
theorem idx : ∀ t : Fin cfg0.N,
    (win0_0.index t (0 : Fin 2) = t.val % 16 ∧ win0_0.index t (1 : Fin 2) = t.val / 16 / 3)
    ∧ (win0_1.index t (0 : Fin 2) = t.val % 16 ∧ win0_1.index t (1 : Fin 2) = t.val / 16 % 3)
    ∧ (win0_2.index t (0 : Fin 2) = t.val / 16 / 3 ∧ win0_2.index t (1 : Fin 2) = t.val / 16 % 3) :=
  (by decide +kernel : ∀ t : Fin grid0.N, _)

theorem lt_N (t : Fin cfg0.N) : t.val < 48 := lt_of_lt_of_eq t.isLt N_0

theorem lhs_block (t : Fin cfg0.N) (a : Fin 1024) (κ : Fin 1024) :
    iblk m c 0 t (ix2 κ a) = mat (lhs m c) (1024 * (t.val / 16 / 3) + a.val) (1024 * (t.val % 16) + κ.val) := by
  have ht := lt_N t
  rw [mat_of (lhs m c) (by omega) (by omega)]
  refine congrArg (V m c main_v0) (funext fun x => Fin.ext ?_)
  match x with
  | ⟨0, _⟩ =>
    show win0_0.index t (0 : Fin 2) * 1024 + 1 * κ.val = 1024 * (t.val % 16) + κ.val
    rw [(idx t).1.1]; omega
  | ⟨1, _⟩ =>
    show win0_0.index t (1 : Fin 2) * 1024 + 1 * a.val = 1024 * (t.val / 16 / 3) + a.val
    rw [(idx t).1.2]; omega

theorem rhs_block (t : Fin cfg0.N) (κ : Fin 1024) (b : Fin 1152) :
    iblk m c 1 t (ix2 κ b) = mat (rhs m c) (1024 * (t.val % 16) + κ.val) (1152 * (t.val / 16 % 3) + b.val) := by
  have ht := lt_N t
  rw [mat_of (rhs m c) (by omega) (by omega)]
  refine congrArg (V m c main_v1) (funext fun x => Fin.ext ?_)
  match x with
  | ⟨0, _⟩ =>
    show win0_1.index t (0 : Fin 2) * 1024 + 1 * κ.val = 1024 * (t.val % 16) + κ.val
    rw [(idx t).2.1.1]; omega
  | ⟨1, _⟩ =>
    show win0_1.index t (1 : Fin 2) * 1152 + 1 * b.val = 1152 * (t.val / 16 % 3) + b.val
    rw [(idx t).2.1.2]; omega

/-- The products summed at an element of a run's block. -/
def term (a : Fin 1024) (b : Fin 1152) (r k : ℕ) : EReal :=
  mat (lhs m c) (1024 * (r / 3) + a.val) k * mat (rhs m c) k (1152 * (r % 3) + b.val)

theorem part_eq (t : Fin cfg0.N) (a : Fin 1024) (b : Fin 1152) :
    k0_pay1 (iblk m c 0 t) (iblk m c 1 t) (ix2 a b) =
      ∑ κ : Fin 1024, term m c a b (t.val / 16) (1024 * (t.val % 16) + κ.val) :=
  (part_at _ _ a b).trans (Finset.sum_congr rfl fun κ _ => congrArg₂ (· * ·) (lhs_block m c t a κ) (rhs_block m c t κ b))

/-- What the accumulator holds before a run's last point. -/
theorem scratch (n : ℕ) (h : n < cfg0.N) (hq : n % 16 + 1 < 16) (a : Fin 1024) (b : Fin 1152) :
    (outsAt0 m c n h).2 (ix2 a b) = ∑ k ∈ Finset.range (1024 * (n % 16 + 1)), term m c a b (n / 16) k := by
  refine accumulated cfg0.N 16 1024 (term m c a b) (fun n h => (outsAt0 m c n h).2 (ix2 a b)) (fun n h h0 => ?_)
    (fun n h h0 h1 => ?_) n h hq
  · rw [outsAt0_A m c ⟨n, h⟩ h0 (by dsimp only; omega) (by dsimp only; omega)]
    dsimp only
    rw [first]
    exact part_eq m c ⟨n, h⟩ a b
  · rw [outsAt0_B m c ⟨n, h⟩ (by dsimp only; omega) (by dsimp only; omega) (by dsimp only; omega)]
    dsimp only
    rw [middle, sum_at]
    exact congrArg _ (part_eq m c ⟨n, h⟩ a b)

/-- The whole product. -/
def prod : Fin 1024 → Fin 3456 → EReal := fun i j => ∑ k : Fin 16384, lhs m c i k * rhs m c k j

theorem term_sum (a : Fin 1024) (b : Fin 1152) (r : ℕ) (hi : 1024 * (r / 3) + a.val < 1024) (hj : 1152 * (r % 3) + b.val < 3456) :
    ∑ k ∈ Finset.range 16384, term m c a b r k = prod m c ⟨_, hi⟩ ⟨_, hj⟩ := sum_mat (lhs m c) (rhs m c) hi hj

theorem out_emb (t : Fin cfg0.N) (a : Fin 1024) (b : Fin 1152) :
    ((cfg0.win 2).blk t).view.emb (ix2 a b) =
      ix2 (⟨1024 * (t.val / 16 / 3) + a.val, by have := lt_N t; omega⟩ : Fin 1024) (⟨1152 * (t.val / 16 % 3) + b.val, by omega⟩ : Fin 3456) := by
  refine funext fun x => Fin.ext ?_
  match x with
  | ⟨0, _⟩ =>
    show win0_2.index t (0 : Fin 2) * 1024 + 1 * a.val = 1024 * (t.val / 16 / 3) + a.val
    rw [(idx t).2.2.1]; omega
  | ⟨1, _⟩ =>
    show win0_2.index t (1 : Fin 2) * 1152 + 1 * b.val = 1152 * (t.val / 16 % 3) + b.val
    rw [(idx t).2.2.2]; omega

theorem flushes : ∀ t : Fin cfg0.N, ((cfg0.win 2).flush t = true ↔ t.val % 16 = 15) :=
  (by decide +kernel : ∀ t : Fin grid0.N, _)

theorem out_block (t : Fin cfg0.N) (ht : t.val % 16 = 15) :
    (outsAt0 m c t.val t.isLt).1 = fun y => arr2 (φ := .f32) (prod m c) (((cfg0.win 2).blk t).view.emb y) := by
  funext y
  obtain ⟨a, b, rfl⟩ : ∃ a b, y = ix2 a b := ⟨y 0, y 1, (ix2_eta y).symm⟩
  have hN := lt_N t
  rw [out_emb, arr2_at, outsAt0_C m c t (by omega) (by omega) ht]
  dsimp only
  rw [last, sum_at, scratch m c _ _ (by omega), part_eq, show (t.val - 1) / 16 = t.val / 16 by omega,
    show (t.val - 1) % 16 + 1 = t.val % 16 by omega, sum_last_block, ht, show 1024 * (15 + 1) = 16384 by norm_num]
  exact term_sum m c a b _ _ _

theorem cover (y : S1024x3456.Idx) : ∃ t : Fin cfg0.N, (cfg0.win 2).flush t = true ∧ y ∈ ((cfg0.win 2).blk t).view.set := by
  obtain ⟨i, j, rfl⟩ : ∃ i j, y = ix2 i j := ⟨y 0, y 1, (ix2_eta y).symm⟩
  have hN : cfg0.N = 48 := N_0
  refine ⟨⟨16 * (3 * (i.val / 1024) + j.val / 1152) + 15, by omega⟩, (flushes _).mpr (by dsimp only; omega), ?_⟩
  have e := out_emb ⟨16 * (3 * (i.val / 1024) + j.val / 1152) + 15, by omega⟩ ⟨i.val % 1024, by omega⟩ ⟨j.val % 1152, by omega⟩
  have e' : ix2 i j = _ := (congrArg₂ ix2 (Fin.ext (by dsimp only; omega)) (Fin.ext (by dsimp only; omega))).trans e.symm
  rw [e']
  exact View.emb_mem_set _ _

theorem read_block (t : Fin cfg0.N) (G : Vec Ideal S1024x3456 .f32) :
    (cfg0.win 2).cut (grid0.coords t) (fun y => G (((cfg0.win 2).blk t).view.emb y)) =
      ((cfg0.win 2).blk t).view.read (Elt Ideal) G := rfl

/-- The result after the run. -/
theorem final : (dats m 0 c).arrAt 2 cfg0.N = arr2 (φ := .f32) (prod m c) := by
  refine (dats m 0 c).arrAt_eq_of_cover 2 _ (fun t hf => ?_) cover
  rw [Value.flushed2, out_block m c t ((flushes t).mp hf)]
  exact read_block t _

end Cert.Proof.LinearADw
-- ==== Proof.LinearADwFinal.lean ====
/- The gradient of the weight of the first mixer's input: the programs' results beside each other. -/
module

public import proofs.«01_k».proof.Defs
public import proofs.«01_k».proof.Proof.Mlp
public import proofs.«01_k».proof.Proof.LinearADwValue
public import proofs.«01_k».proof.Proof.Gen.LinearADwRefIdeal.Run

@[expose] public section

set_option maxRecDepth 16384

noncomputable section

namespace Cert.Proof.LinearADw

open Idealize.ShloMosaic Idealize.ShloMosaic.TcCoe Idealize.ShloMosaic.Pointwise Idealize.ShloMosaic.StableHlo Idealize.SL.Sem

section Kernel

open Cert.LinearADwIdeal Cert.LinearADwIdeal.Gen

section Host

variable {F : FTy → Type} [FloatOps F]

/-- The left factor as the host prepares it. -/
def host_lhs (x0 : Vec F S16384x1024 .f32) : Vec F S16384x1024 .bf16 :=
  truncf .bf16 x0 bitsLt_bf16_f32

/-- The right factor as the host prepares it. -/
def host_rhs (x2 : Vec F S16384x3456 .f32) : Vec F S16384x3456 .bf16 :=
  truncf .bf16 x2 bitsLt_bf16_f32

end Host

variable (m : (ℓ : Loc nD τ sig) → Buf (Elt Ideal) ℓ) (c : Dev nD)

theorem host_lhs_at (x0 : Vec Ideal S16384x1024 .f32) (i : Fin 16384) (j : Fin 1024) :
    host_lhs x0 (ix2 i j) = (of2 x0) i j := by
  rfl

theorem V_lhs : V m c main_v0 = host_lhs (m ((c : Thread nD τ).loc main_arg0)) := by
  unfold_abbrev_sides
  after_results
  rfl

theorem lhs_eq : lhs m c = tr (of2 (m ((c : Thread nD τ).loc main_arg0))) := by
  funext i j
  unfold lhs
  rw [V_lhs]
  exact host_lhs_at _ _ _

theorem host_rhs_at (x2 : Vec Ideal S16384x3456 .f32) (i : Fin 16384) (j : Fin 3456) :
    host_rhs x2 (ix2 i j) = of2 x2 i j := by
  rfl

theorem V_rhs : V m c main_v1 = host_rhs (m ((c : Thread nD τ).loc main_arg2)) := by
  unfold_abbrev_sides
  after_results
  rfl

theorem rhs_eq : rhs m c = of2 (m ((c : Thread nD τ).loc main_arg2)) := by
  funext i j
  unfold rhs
  rw [V_rhs]
  exact host_rhs_at _ _ _

theorem prod_eq : prod m c = mul2 (tr (of2 (m ((c : Thread nD τ).loc main_arg0)))) (of2 (m ((c : Thread nD τ).loc main_arg2))) := by
  show mul2 (lhs m c) (rhs m c) = _
  rw [lhs_eq, rhs_eq]

end Kernel

section Reference

open Cert.LinearADwRefIdeal Cert.LinearADwRefIdeal.Gen

variable (x0 : Vec Ideal S16384x1024 .f32) (x1 : Vec Ideal S1024x3456 .f32) (x2 : Vec Ideal S16384x3456 .f32)

section Plain

variable {F : FTy → Type} [FloatOps F]

/-- The reference's value. -/
def plain_prod (x0 : Vec F S16384x1024 .f32) (x2 : Vec F S16384x3456 .f32) : Vec F S1024x3456 .f32 :=
  transpose S1024x3456 [1, 0] (Host.dotGeneral dot_S16384x3456_S16384x1024_S3456x1024_0_0_1_1_n_n none x2 x0) transposes_S3456x1024_S1024x3456_1_0

end Plain

set_option maxRecDepth 200000 in
theorem prod_ref : plain_prod x0 x2 =
    arr2 (φ := .f32) (mul2 (tr (of2 x0)) (of2 x2)) := by
  refine eq_arr2 _ _ fun i j => ?_
  unfold plain_prod tr mul2 of2
  pointwise!

end Reference

theorem quiescent_ref : Cert.quiescent_LinearADwRefIdeal := fun m ρ _ =>
  (θ_run Cert.LinearADwRefIdeal.defs _ _).mono (fun r h =>
      ⟨fun c => (h c).2, Idealize.ShloMosaic.sem_eq_zero_of_no_sems (by decide) r.2⟩)
    (Cert.LinearADwRefIdeal.Value.run (F := Ideal) m ρ)

theorem algebraic : Cert.algebraic_LinearADwIdeal_LinearADwRefIdeal := fun m ρ m' ρ' _ hag =>
  ⟨fun c => arr2 (φ := .f32) (mul2 (tr (of2 (m ((c : Thread Cert.LinearADwIdeal.nD Cert.LinearADwIdeal.τ).loc Cert.LinearADwIdeal.main_arg0)))) (of2 (m ((c : Thread Cert.LinearADwIdeal.nD Cert.LinearADwIdeal.τ).loc Cert.LinearADwIdeal.main_arg2)))),
    (θ_run Cert.LinearADwIdeal.defs _ _).mono (fun _ h c => ⟨(h c).1.trans ((final m c).trans (congrArg _ (prod_eq m c))), (h c).2⟩)
      (Cert.LinearADwIdeal.Value.run_blocks (F := Ideal) m ρ),
    (θ_run Cert.LinearADwRefIdeal.defs _ _).mono (fun _ h c => by
        obtain ⟨h0, h1, h2⟩ := hag c
        exact ⟨(h c).1.trans ((prod_ref (m' ((c : Thread Cert.LinearADwRefIdeal.nD Cert.LinearADwRefIdeal.τ).loc Cert.LinearADwRefIdeal.main_arg0)) (m' ((c : Thread Cert.LinearADwRefIdeal.nD Cert.LinearADwRefIdeal.τ).loc Cert.LinearADwRefIdeal.main_arg2))).trans (by rw [h0, h2])), (h c).2⟩)
      (Cert.LinearADwRefIdeal.Value.run (F := Ideal) m' ρ')⟩

end Cert.Proof.LinearADw
-- ==== Proof.LinearKvValue.lean ====
/- The projection to the shared keys and values: what the blocked product leaves in its result. -/
module

public import proofs.«01_k».proof.Proof.Product
public import proofs.«01_k».proof.Proof.Gen.LinearKvIdeal.Value

@[expose] public section

set_option maxRecDepth 16384

noncomputable section

namespace Cert.Proof.LinearKv

open Cert.LinearKvIdeal Cert.LinearKvIdeal.Gen
open Idealize.ShloMosaic Idealize.ShloMosaic.TcCoe Idealize.ShloMosaic.Pointwise Idealize.ShloMosaic.StableHlo

variable (m : (ℓ : Loc nD τ sig) → Buf (Elt Ideal) ℓ) (c : Dev nD)

/-- The left factor. -/
def lhs : Fin 16384 → Fin 1024 → EReal := fun i k => V m c main_v0 (ix2 i k)

/-- The right factor. -/
def rhs : Fin 1024 → Fin 256 → EReal := fun k j => V m c main_v1 (ix2 k j)

/-- The product. -/
def prod : Fin 16384 → Fin 256 → EReal := fun i j => ∑ k : Fin 1024, lhs m c i k * rhs m c k j

/-- Which blocks a grid point takes and writes. -/
theorem idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem lt_N (t : Fin cfg0.N) : t.val < 8 := lt_of_lt_of_eq t.isLt N_0

theorem lhs_block (t : Fin cfg0.N) (a : Fin 2048) (κ : Fin 1024) :
    iblk m c 0 t (ix2 a κ) = lhs m c (⟨2048 * (t.val) + a.val, by have := lt_N t; omega⟩ : Fin 16384) κ := by
  refine congrArg (V m c main_v0) (funext fun x => Fin.ext ?_)
  match x with
  | ⟨0, _⟩ =>
    show win0_0.index t (0 : Fin 2) * 2048 + 1 * a.val = 2048 * (t.val) + a.val
    rw [(idx t).1.1]; omega
  | ⟨1, _⟩ =>
    show win0_0.index t (1 : Fin 2) * 1024 + 1 * κ.val = κ.val
    rw [(idx t).1.2]; omega

theorem rhs_block (t : Fin cfg0.N) (κ : Fin 1024) (b : Fin 256) :
    iblk m c 1 t (ix2 κ b) = rhs m c κ (⟨b.val, by omega⟩ : Fin 256) := by
  refine congrArg (V m c main_v1) (funext fun x => Fin.ext ?_)
  match x with
  | ⟨0, _⟩ =>
    show win0_1.index t (0 : Fin 2) * 1024 + 1 * κ.val = κ.val
    rw [(idx t).2.1.1]; omega
  | ⟨1, _⟩ =>
    show win0_1.index t (1 : Fin 2) * 256 + 1 * b.val = b.val
    rw [(idx t).2.1.2]; omega

/-- A block's product at an element. -/
def dot (x0 : Vec Ideal S2048x1024 .bf16) (x1 : Vec Ideal S1024x256 .bf16) (a : Fin 2048) (b : Fin 256) : EReal :=
  ∑ κ : Fin 1024, x0 (ix2 a κ) * x1 (ix2 κ b)

theorem block_sum (t : Fin cfg0.N) (a : Fin 2048) (b : Fin 256) :
    dot (iblk m c 0 t) (iblk m c 1 t) a b = prod m c (⟨2048 * (t.val) + a.val, by have := lt_N t; omega⟩ : Fin 16384) (⟨b.val, by omega⟩ : Fin 256) :=
  Finset.sum_congr rfl fun κ _ => congrArg₂ (· * ·) (lhs_block m c t a κ) (rhs_block m c t κ b)

theorem emb2 (t : Fin cfg0.N) (a : Fin 2048) (b : Fin 256) :
    ((cfg0.win 2).blk t).view.emb (ix2 a b) = ix2 (⟨2048 * (t.val) + a.val, by have := lt_N t; omega⟩ : Fin 16384) (⟨b.val, by omega⟩ : Fin 256) := by
  refine funext fun x => Fin.ext ?_
  match x with
  | ⟨0, _⟩ =>
    show win0_2.index t (0 : Fin 2) * 2048 + 1 * a.val = 2048 * (t.val) + a.val
    rw [(idx t).2.2.1]; omega
  | ⟨1, _⟩ =>
    show win0_2.index t (1 : Fin 2) * 256 + 1 * b.val = b.val
    rw [(idx t).2.2.2]; omega

theorem part_at (x0 : Vec Ideal S2048x1024 .bf16) (x1 : Vec Ideal S1024x256 .bf16) (a : Fin 2048) (b : Fin 256) :
    k0_pay1 x0 x1 (ix2 a b) = dot x0 x1 a b := by
  unfold k0_pay1 dot
  pointwise!

theorem whole2 (x0 : Vec Ideal S2048x1024 .bf16) (x1 : Vec Ideal S1024x256 .bf16) : out0_2 x0 x1 = k0_pay1 x0 x1 := by
  unfold out0_2
  rw [View.canon_unit_zero zeros]
  simp only [View.ld_unit_zero (S := S2048x1024) zeros, View.ld_unit_zero (S := S1024x256) zeros]

theorem flushes2 : ∀ t : Fin cfg0.N, (cfg0.win 2).flush t = true := (by decide +kernel : ∀ t : Fin grid0.N, _)

theorem out_block2 (t : Fin cfg0.N) :
    out0_2 (iblk m c 0 t) (iblk m c 1 t) = fun y => arr2 (φ := .f32) (prod m c) (((cfg0.win 2).blk t).view.emb y) := by
  funext y
  obtain ⟨a, b, rfl⟩ : ∃ a b, y = ix2 a b := ⟨y 0, y 1, (ix2_eta y).symm⟩
  rw [emb2, arr2_at, whole2]
  exact (part_at _ _ a b).trans (block_sum m c t a b)

theorem cover2 (y : S16384x256.Idx) : ∃ t : Fin cfg0.N, (cfg0.win 2).flush t = true ∧ y ∈ ((cfg0.win 2).blk t).view.set := by
  obtain ⟨i, j, rfl⟩ : ∃ i j, y = ix2 i j := ⟨y 0, y 1, (ix2_eta y).symm⟩
  have hN : cfg0.N = 8 := N_0
  refine ⟨⟨i.val / 2048, by omega⟩, flushes2 _, ?_⟩
  have e := emb2 ⟨i.val / 2048, by omega⟩ ⟨i.val % 2048, by omega⟩ ⟨j.val % 256, by omega⟩
  have e' : ix2 i j = _ := (congrArg₂ ix2 (Fin.ext (by dsimp only; omega)) (Fin.ext (by dsimp only; omega))).trans e.symm
  rw [e']
  exact View.emb_mem_set _ _

theorem read_block2 (t : Fin cfg0.N) (G : Vec Ideal S16384x256 .f32) :
    (cfg0.win 2).cut (grid0.coords t) (fun y => G (((cfg0.win 2).blk t).view.emb y)) =
      ((cfg0.win 2).blk t).view.read (Elt Ideal) G := rfl

/-- The result after the run. -/
theorem final2 : (dats m 0 c).arrAt 2 cfg0.N = arr2 (φ := .f32) (prod m c) := by
  refine (dats m 0 c).arrAt_eq_of_cover 2 _ (fun t _ => ?_) cover2
  rw [Value.flushed2, out_block2 m c t]
  exact read_block2 t _

end Cert.Proof.LinearKv
-- ==== Proof.LinearKvFinal.lean ====
/- The projection to the shared keys and values: the programs' results beside each other. -/
module

public import proofs.«01_k».proof.Defs
public import proofs.«01_k».proof.Proof.Mlp
public import proofs.«01_k».proof.Proof.LinearKvValue
public import proofs.«01_k».proof.Proof.Gen.LinearKvRefIdeal.Run

@[expose] public section

set_option maxRecDepth 16384

noncomputable section

namespace Cert.Proof.LinearKv

open Idealize.ShloMosaic Idealize.ShloMosaic.TcCoe Idealize.ShloMosaic.Pointwise Idealize.ShloMosaic.StableHlo Idealize.SL.Sem

section Kernel

open Cert.LinearKvIdeal Cert.LinearKvIdeal.Gen

section Host

variable {F : FTy → Type} [FloatOps F]

/-- The left factor as the host prepares it. -/
def host_lhs (x0 : Vec F S16384x1024 .f32) : Vec F S16384x1024 .bf16 :=
  truncf .bf16 x0 bitsLt_bf16_f32

/-- The right factor as the host prepares it. -/
def host_rhs (x1 : Vec F S1024x256 .f32) : Vec F S1024x256 .bf16 :=
  truncf .bf16 x1 bitsLt_bf16_f32

end Host

variable (m : (ℓ : Loc nD τ sig) → Buf (Elt Ideal) ℓ) (c : Dev nD)

theorem host_lhs_at (x0 : Vec Ideal S16384x1024 .f32) (i : Fin 16384) (j : Fin 1024) :
    host_lhs x0 (ix2 i j) = of2 x0 i j := by
  rfl

theorem V_lhs : V m c main_v0 = host_lhs (m ((c : Thread nD τ).loc main_arg0)) := by
  unfold_abbrev_sides
  after_results
  rfl

theorem lhs_eq : lhs m c = of2 (m ((c : Thread nD τ).loc main_arg0)) := by
  funext i j
  unfold lhs
  rw [V_lhs]
  exact host_lhs_at _ _ _

theorem host_rhs_at (x1 : Vec Ideal S1024x256 .f32) (i : Fin 1024) (j : Fin 256) :
    host_rhs x1 (ix2 i j) = of2 x1 i j := by
  rfl

theorem V_rhs : V m c main_v1 = host_rhs (m ((c : Thread nD τ).loc main_arg1)) := by
  unfold_abbrev_sides
  after_results
  rfl

theorem rhs_eq : rhs m c = of2 (m ((c : Thread nD τ).loc main_arg1)) := by
  funext i j
  unfold rhs
  rw [V_rhs]
  exact host_rhs_at _ _ _

theorem prod_eq : prod m c = mul2 (of2 (m ((c : Thread nD τ).loc main_arg0))) (of2 (m ((c : Thread nD τ).loc main_arg1))) := by
  show mul2 (lhs m c) (rhs m c) = _
  rw [lhs_eq, rhs_eq]

end Kernel

section Reference

open Cert.LinearKvRefIdeal Cert.LinearKvRefIdeal.Gen

variable (x0 : Vec Ideal S16384x1024 .f32) (x1 : Vec Ideal S1024x256 .f32)

section Plain

variable {F : FTy → Type} [FloatOps F]

/-- The reference's value. -/
def plain_prod (x0 : Vec F S16384x1024 .f32) (x1 : Vec F S1024x256 .f32) : Vec F S16384x256 .f32 :=
  Host.dotGeneral dot_S16384x1024_S1024x256_S16384x256_1_0_0_1_n_n none x0 x1

end Plain

set_option maxRecDepth 200000 in
theorem prod_ref : plain_prod x0 x1 =
    arr2 (φ := .f32) (mul2 (of2 x0) (of2 x1)) := by
  refine eq_arr2 _ _ fun i j => ?_
  unfold plain_prod mul2 of2
  pointwise!

end Reference

theorem quiescent_ref : Cert.quiescent_LinearKvRefIdeal := fun m ρ _ =>
  (θ_run Cert.LinearKvRefIdeal.defs _ _).mono (fun r h =>
      ⟨fun c => (h c).2, Idealize.ShloMosaic.sem_eq_zero_of_no_sems (by decide) r.2⟩)
    (Cert.LinearKvRefIdeal.Value.run (F := Ideal) m ρ)

theorem algebraic : Cert.algebraic_LinearKvIdeal_LinearKvRefIdeal := fun m ρ m' ρ' _ hag =>
  ⟨fun c => arr2 (φ := .f32) (mul2 (of2 (m ((c : Thread Cert.LinearKvIdeal.nD Cert.LinearKvIdeal.τ).loc Cert.LinearKvIdeal.main_arg0))) (of2 (m ((c : Thread Cert.LinearKvIdeal.nD Cert.LinearKvIdeal.τ).loc Cert.LinearKvIdeal.main_arg1)))),
    (θ_run Cert.LinearKvIdeal.defs _ _).mono (fun _ h c => ⟨(h c).1.trans ((final2 m c).trans (congrArg _ (prod_eq m c))), (h c).2⟩)
      (Cert.LinearKvIdeal.Value.run_blocks (F := Ideal) m ρ),
    (θ_run Cert.LinearKvRefIdeal.defs _ _).mono (fun _ h c => by
        obtain ⟨h0, h1⟩ := hag c
        exact ⟨(h c).1.trans ((prod_ref (m' ((c : Thread Cert.LinearKvRefIdeal.nD Cert.LinearKvRefIdeal.τ).loc Cert.LinearKvRefIdeal.main_arg0)) (m' ((c : Thread Cert.LinearKvRefIdeal.nD Cert.LinearKvRefIdeal.τ).loc Cert.LinearKvRefIdeal.main_arg1))).trans (by rw [h0, h1])), (h c).2⟩)
      (Cert.LinearKvRefIdeal.Value.run (F := Ideal) m' ρ')⟩

end Cert.Proof.LinearKv
-- ==== Proof.LinearKvDxValue.lean ====
/- The cotangent of the input of the projection to the shared keys and values: what the blocked product leaves in its result. -/
module

public import proofs.«01_k».proof.Proof.Product
public import proofs.«01_k».proof.Proof.Gen.LinearKvDxIdeal.Value

@[expose] public section

set_option maxRecDepth 16384

noncomputable section

namespace Cert.Proof.LinearKvDx

open Cert.LinearKvDxIdeal Cert.LinearKvDxIdeal.Gen
open Idealize.ShloMosaic Idealize.ShloMosaic.TcCoe Idealize.ShloMosaic.Pointwise Idealize.ShloMosaic.StableHlo

variable (m : (ℓ : Loc nD τ sig) → Buf (Elt Ideal) ℓ) (c : Dev nD)

/-- The left factor. -/
def lhs : Fin 16384 → Fin 256 → EReal := fun i k => V m c main_v0 (ix2 i k)

/-- The right factor. -/
def rhs : Fin 256 → Fin 1024 → EReal := fun k j => V m c main_v1 (ix2 j k)

/-- The product. -/
def prod : Fin 16384 → Fin 1024 → EReal := fun i j => ∑ k : Fin 256, lhs m c i k * rhs m c k j

/-- Which blocks a grid point takes and writes. -/
theorem idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem lt_N (t : Fin cfg0.N) : t.val < 8 := lt_of_lt_of_eq t.isLt N_0

theorem lhs_block (t : Fin cfg0.N) (a : Fin 2048) (κ : Fin 256) :
    iblk m c 0 t (ix2 a κ) = lhs m c (⟨2048 * (t.val) + a.val, by have := lt_N t; omega⟩ : Fin 16384) κ := by
  refine congrArg (V m c main_v0) (funext fun x => Fin.ext ?_)
  match x with
  | ⟨0, _⟩ =>
    show win0_0.index t (0 : Fin 2) * 2048 + 1 * a.val = 2048 * (t.val) + a.val
    rw [(idx t).1.1]; omega
  | ⟨1, _⟩ =>
    show win0_0.index t (1 : Fin 2) * 256 + 1 * κ.val = κ.val
    rw [(idx t).1.2]; omega

theorem rhs_block (t : Fin cfg0.N) (κ : Fin 256) (b : Fin 1024) :
    iblk m c 1 t (ix2 b κ) = rhs m c κ (⟨b.val, by omega⟩ : Fin 1024) := by
  refine congrArg (V m c main_v1) (funext fun x => Fin.ext ?_)
  match x with
  | ⟨0, _⟩ =>
    show win0_1.index t (0 : Fin 2) * 1024 + 1 * b.val = b.val
    rw [(idx t).2.1.1]; omega
  | ⟨1, _⟩ =>
    show win0_1.index t (1 : Fin 2) * 256 + 1 * κ.val = κ.val
    rw [(idx t).2.1.2]; omega

/-- A block's product at an element. -/
def dot (x0 : Vec Ideal S2048x256 .bf16) (x1 : Vec Ideal S1024x256 .bf16) (a : Fin 2048) (b : Fin 1024) : EReal :=
  ∑ κ : Fin 256, x0 (ix2 a κ) * x1 (ix2 b κ)

theorem block_sum (t : Fin cfg0.N) (a : Fin 2048) (b : Fin 1024) :
    dot (iblk m c 0 t) (iblk m c 1 t) a b = prod m c (⟨2048 * (t.val) + a.val, by have := lt_N t; omega⟩ : Fin 16384) (⟨b.val, by omega⟩ : Fin 1024) :=
  Finset.sum_congr rfl fun κ _ => congrArg₂ (· * ·) (lhs_block m c t a κ) (rhs_block m c t κ b)

theorem emb2 (t : Fin cfg0.N) (a : Fin 2048) (b : Fin 1024) :
    ((cfg0.win 2).blk t).view.emb (ix2 a b) = ix2 (⟨2048 * (t.val) + a.val, by have := lt_N t; omega⟩ : Fin 16384) (⟨b.val, by omega⟩ : Fin 1024) := by
  refine funext fun x => Fin.ext ?_
  match x with
  | ⟨0, _⟩ =>
    show win0_2.index t (0 : Fin 2) * 2048 + 1 * a.val = 2048 * (t.val) + a.val
    rw [(idx t).2.2.1]; omega
  | ⟨1, _⟩ =>
    show win0_2.index t (1 : Fin 2) * 1024 + 1 * b.val = b.val
    rw [(idx t).2.2.2]; omega

theorem part_at (x0 : Vec Ideal S2048x256 .bf16) (x1 : Vec Ideal S1024x256 .bf16) (a : Fin 2048) (b : Fin 1024) :
    k0_pay1 x0 x1 (ix2 a b) = dot x0 x1 a b := by
  unfold k0_pay1 dot
  pointwise!

theorem whole2 (x0 : Vec Ideal S2048x256 .bf16) (x1 : Vec Ideal S1024x256 .bf16) : out0_2 x0 x1 = k0_pay1 x0 x1 := by
  unfold out0_2
  rw [View.canon_unit_zero zeros]
  simp only [View.ld_unit_zero (S := S2048x256) zeros, View.ld_unit_zero (S := S1024x256) zeros]

theorem flushes2 : ∀ t : Fin cfg0.N, (cfg0.win 2).flush t = true := (by decide +kernel : ∀ t : Fin grid0.N, _)

theorem out_block2 (t : Fin cfg0.N) :
    out0_2 (iblk m c 0 t) (iblk m c 1 t) = fun y => arr2 (φ := .f32) (prod m c) (((cfg0.win 2).blk t).view.emb y) := by
  funext y
  obtain ⟨a, b, rfl⟩ : ∃ a b, y = ix2 a b := ⟨y 0, y 1, (ix2_eta y).symm⟩
  rw [emb2, arr2_at, whole2]
  exact (part_at _ _ a b).trans (block_sum m c t a b)

theorem cover2 (y : S16384x1024.Idx) : ∃ t : Fin cfg0.N, (cfg0.win 2).flush t = true ∧ y ∈ ((cfg0.win 2).blk t).view.set := by
  obtain ⟨i, j, rfl⟩ : ∃ i j, y = ix2 i j := ⟨y 0, y 1, (ix2_eta y).symm⟩
  have hN : cfg0.N = 8 := N_0
  refine ⟨⟨i.val / 2048, by omega⟩, flushes2 _, ?_⟩
  have e := emb2 ⟨i.val / 2048, by omega⟩ ⟨i.val % 2048, by omega⟩ ⟨j.val % 1024, by omega⟩
  have e' : ix2 i j = _ := (congrArg₂ ix2 (Fin.ext (by dsimp only; omega)) (Fin.ext (by dsimp only; omega))).trans e.symm
  rw [e']
  exact View.emb_mem_set _ _

theorem read_block2 (t : Fin cfg0.N) (G : Vec Ideal S16384x1024 .f32) :
    (cfg0.win 2).cut (grid0.coords t) (fun y => G (((cfg0.win 2).blk t).view.emb y)) =
      ((cfg0.win 2).blk t).view.read (Elt Ideal) G := rfl

/-- The result after the run. -/
theorem final2 : (dats m 0 c).arrAt 2 cfg0.N = arr2 (φ := .f32) (prod m c) := by
  refine (dats m 0 c).arrAt_eq_of_cover 2 _ (fun t _ => ?_) cover2
  rw [Value.flushed2, out_block2 m c t]
  exact read_block2 t _

end Cert.Proof.LinearKvDx
-- ==== Proof.LinearKvDxFinal.lean ====
/- The cotangent of the input of the projection to the shared keys and values: the programs' results beside each other. -/
module

public import proofs.«01_k».proof.Defs
public import proofs.«01_k».proof.Proof.Mlp
public import proofs.«01_k».proof.Proof.LinearKvDxValue
public import proofs.«01_k».proof.Proof.Gen.LinearKvDxRefIdeal.Run

@[expose] public section

set_option maxRecDepth 16384

noncomputable section

namespace Cert.Proof.LinearKvDx

open Idealize.ShloMosaic Idealize.ShloMosaic.TcCoe Idealize.ShloMosaic.Pointwise Idealize.ShloMosaic.StableHlo Idealize.SL.Sem

section Kernel

open Cert.LinearKvDxIdeal Cert.LinearKvDxIdeal.Gen

section Host

variable {F : FTy → Type} [FloatOps F]

/-- The left factor as the host prepares it. -/
def host_lhs (x2 : Vec F S16384x256 .f32) : Vec F S16384x256 .bf16 :=
  truncf .bf16 x2 bitsLt_bf16_f32

/-- The right factor as the host prepares it. -/
def host_rhs (x1 : Vec F S1024x256 .f32) : Vec F S1024x256 .bf16 :=
  truncf .bf16 x1 bitsLt_bf16_f32

end Host

variable (m : (ℓ : Loc nD τ sig) → Buf (Elt Ideal) ℓ) (c : Dev nD)

theorem host_lhs_at (x2 : Vec Ideal S16384x256 .f32) (i : Fin 16384) (j : Fin 256) :
    host_lhs x2 (ix2 i j) = of2 x2 i j := by
  rfl

theorem V_lhs : V m c main_v0 = host_lhs (m ((c : Thread nD τ).loc main_arg2)) := by
  unfold_abbrev_sides
  after_results
  rfl

theorem lhs_eq : lhs m c = of2 (m ((c : Thread nD τ).loc main_arg2)) := by
  funext i j
  unfold lhs
  rw [V_lhs]
  exact host_lhs_at _ _ _

theorem host_rhs_at (x1 : Vec Ideal S1024x256 .f32) (i : Fin 1024) (j : Fin 256) :
    host_rhs x1 (ix2 i j) = (of2 x1) i j := by
  rfl

theorem V_rhs : V m c main_v1 = host_rhs (m ((c : Thread nD τ).loc main_arg1)) := by
  unfold_abbrev_sides
  after_results
  rfl

theorem rhs_eq : rhs m c = tr (of2 (m ((c : Thread nD τ).loc main_arg1))) := by
  funext i j
  unfold rhs
  rw [V_rhs]
  exact host_rhs_at _ _ _

theorem prod_eq : prod m c = mul2 (of2 (m ((c : Thread nD τ).loc main_arg2))) (tr (of2 (m ((c : Thread nD τ).loc main_arg1)))) := by
  show mul2 (lhs m c) (rhs m c) = _
  rw [lhs_eq, rhs_eq]

end Kernel

section Reference

open Cert.LinearKvDxRefIdeal Cert.LinearKvDxRefIdeal.Gen

variable (x0 : Vec Ideal S16384x1024 .f32) (x1 : Vec Ideal S1024x256 .f32) (x2 : Vec Ideal S16384x256 .f32)

section Plain

variable {F : FTy → Type} [FloatOps F]

/-- The reference's value. -/
def plain_prod (x1 : Vec F S1024x256 .f32) (x2 : Vec F S16384x256 .f32) : Vec F S16384x1024 .f32 :=
  Host.dotGeneral dot_S16384x256_S1024x256_S16384x1024_1_1_0_0_n_n none x2 x1

end Plain

set_option maxRecDepth 200000 in
theorem prod_ref : plain_prod x1 x2 =
    arr2 (φ := .f32) (mul2 (of2 x2) (tr (of2 x1))) := by
  refine eq_arr2 _ _ fun i j => ?_
  unfold plain_prod tr mul2 of2
  pointwise!

end Reference

theorem quiescent_ref : Cert.quiescent_LinearKvDxRefIdeal := fun m ρ _ =>
  (θ_run Cert.LinearKvDxRefIdeal.defs _ _).mono (fun r h =>
      ⟨fun c => (h c).2, Idealize.ShloMosaic.sem_eq_zero_of_no_sems (by decide) r.2⟩)
    (Cert.LinearKvDxRefIdeal.Value.run (F := Ideal) m ρ)

theorem algebraic : Cert.algebraic_LinearKvDxIdeal_LinearKvDxRefIdeal := fun m ρ m' ρ' _ hag =>
  ⟨fun c => arr2 (φ := .f32) (mul2 (of2 (m ((c : Thread Cert.LinearKvDxIdeal.nD Cert.LinearKvDxIdeal.τ).loc Cert.LinearKvDxIdeal.main_arg2))) (tr (of2 (m ((c : Thread Cert.LinearKvDxIdeal.nD Cert.LinearKvDxIdeal.τ).loc Cert.LinearKvDxIdeal.main_arg1))))),
    (θ_run Cert.LinearKvDxIdeal.defs _ _).mono (fun _ h c => ⟨(h c).1.trans ((final2 m c).trans (congrArg _ (prod_eq m c))), (h c).2⟩)
      (Cert.LinearKvDxIdeal.Value.run_blocks (F := Ideal) m ρ),
    (θ_run Cert.LinearKvDxRefIdeal.defs _ _).mono (fun _ h c => by
        obtain ⟨h0, h1, h2⟩ := hag c
        exact ⟨(h c).1.trans ((prod_ref (m' ((c : Thread Cert.LinearKvDxRefIdeal.nD Cert.LinearKvDxRefIdeal.τ).loc Cert.LinearKvDxRefIdeal.main_arg1)) (m' ((c : Thread Cert.LinearKvDxRefIdeal.nD Cert.LinearKvDxRefIdeal.τ).loc Cert.LinearKvDxRefIdeal.main_arg2))).trans (by rw [h1, h2])), (h c).2⟩)
      (Cert.LinearKvDxRefIdeal.Value.run (F := Ideal) m' ρ')⟩

end Cert.Proof.LinearKvDx
-- ==== Proof.LinearKvDwValue.lean ====
/- The gradient of the weight of the shared keys and values: what the blocked product leaves in its result. -/
module

public import proofs.«01_k».proof.Proof.Product
public import proofs.«01_k».proof.Proof.Gen.LinearKvDwIdeal.Value

@[expose] public section

set_option maxRecDepth 16384

noncomputable section

namespace Cert.Proof.LinearKvDw

open Cert.LinearKvDwIdeal Cert.LinearKvDwIdeal.Gen
open Idealize.ShloMosaic Idealize.ShloMosaic.TcCoe Idealize.ShloMosaic.Pointwise Idealize.ShloMosaic.StableHlo

section Pieces

variable {F : FTy → Type} [FloatOps F]
variable (c : Dev nD) (i : grid0.Coords) (arg3 : Memref sig .tc .vmem S1024x1024 .bf16) (harg3 : arg3.IsWhole)
    (arg4 : Memref sig .tc .vmem S1024x256 .bf16) (harg4 : arg4.IsWhole) (arg5 : Memref sig .tc .vmem S1024x256 .f32)
    (harg5 : arg5.IsWhole) (arg6 : Memref sig .tc .vmem S1024x256 .f32) (harg6 : arg6.IsWhole)
    (x0 : Vec F S1024x1024 .bf16) (x1 : Vec F S1024x256 .bf16) (xs0 : Vec F S1024x256 .f32)

/-- A run's first point starts the sum. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_junk_eq_canon]
  unfold kernelRun0_A
  dsimp only
  sl_unfold_words
  simp only [View.readAt_eq_ld, harg3.read_unread, harg4.read_unread]
  rw [View.canon_unit_zero zeros]
  simp only [View.ld_unit_zero (S := S1024x1024) zeros, View.ld_unit_zero (S := S1024x256) zeros]
  exact shapeCast_self _ _

/-- Its middle points add to it. -/
theorem middle (hc0 : ¬cond0_0 i) (hc1 : cond0_1 i) (hc2 : ¬cond0_2 i) :
    sout0_B_0 c i arg3 harg3 arg4 harg4 arg5 harg5 arg6 harg6 hc0 hc1 hc2 x0 x1 xs0 = k0_pay4 x0 x1 xs0 := by
  unfold sout0_B_0
  rw [View.read_writes_junk_eq_canon]
  unfold kernelRun0_B
  dsimp only
  sl_unfold_words
  simp only [View.readAt_eq_ld, harg3.read_unread, harg4.read_unread, harg6.read_unread]
  rw [View.canon_unit_zero zeros]
  simp only [View.ld_unit_zero (S := S1024x1024) zeros, View.ld_unit_zero (S := S1024x256) zeros, View.ld_unit_zero (S := S1024x256) zeros]
  exact shapeCast_self _ _

/-- Its last point writes the sum out. -/
theorem last (hc0 : ¬cond0_0 i) (hc1 : ¬cond0_1 i) (hc2 : cond0_2 i) :
    out0_C_2 c i arg3 harg3 arg4 harg4 arg5 harg5 arg6 harg6 hc0 hc1 hc2 x0 x1 xs0 = k0_pay4 x0 x1 xs0 := by
  unfold out0_C_2
  rw [View.read_writes_junk_eq_canon]
  unfold kernelRun0_C
  dsimp only
  sl_unfold_words
  simp only [View.readAt_eq_ld, harg3.read_unread, harg4.read_unread, harg6.read_unread]
  rw [View.canon_unit_zero zeros]
  simp only [View.ld_unit_zero (S := S1024x1024) zeros, View.ld_unit_zero (S := S1024x256) zeros, View.ld_unit_zero (S := S1024x256) zeros]

end Pieces

theorem part_at (x0 : Vec Ideal S1024x1024 .bf16) (x1 : Vec Ideal S1024x256 .bf16) (a : Fin 1024) (b : Fin 256) :
    k0_pay1 x0 x1 (ix2 a b) = ∑ κ : Fin 1024, x0 (ix2 κ a) * x1 (ix2 κ b) := by
  unfold k0_pay1
  pointwise!

theorem sum_at (x0 : Vec Ideal S1024x1024 .bf16) (x1 : Vec Ideal S1024x256 .bf16) (x : Vec Ideal S1024x256 .f32)
    (a : Fin 1024) (b : Fin 256) : k0_pay4 x0 x1 x (ix2 a b) = x (ix2 a b) + k0_pay1 x0 x1 (ix2 a b) := rfl

variable (m : (ℓ : Loc nD τ sig) → Buf (Elt Ideal) ℓ) (c : Dev nD)

/-- The left factor. -/
def lhs : Fin 1024 → Fin 16384 → EReal := fun i k => V m c main_v0 (ix2 k i)

/-- The right factor. -/
def rhs : Fin 16384 → Fin 256 → EReal := fun k j => V m c main_v1 (ix2 k j)

/-- Which blocks a grid point takes and writes. -/
theorem idx : ∀ t : Fin cfg0.N,
    (win0_0.index t (0 : Fin 2) = t.val % 16 ∧ win0_0.index t (1 : Fin 2) = t.val / 16)
    ∧ (win0_1.index t (0 : Fin 2) = t.val % 16 ∧ win0_1.index t (1 : Fin 2) = 0)
    ∧ (win0_2.index t (0 : Fin 2) = t.val / 16 ∧ win0_2.index t (1 : Fin 2) = 0) :=
  (by decide +kernel : ∀ t : Fin grid0.N, _)

theorem lt_N (t : Fin cfg0.N) : t.val < 16 := lt_of_lt_of_eq t.isLt N_0

theorem lhs_block (t : Fin cfg0.N) (a : Fin 1024) (κ : Fin 1024) :
    iblk m c 0 t (ix2 κ a) = mat (lhs m c) (1024 * (t.val / 16) + a.val) (1024 * (t.val % 16) + κ.val) := by
  have ht := lt_N t
  rw [mat_of (lhs m c) (by omega) (by omega)]
  refine congrArg (V m c main_v0) (funext fun x => Fin.ext ?_)
  match x with
  | ⟨0, _⟩ =>
    show win0_0.index t (0 : Fin 2) * 1024 + 1 * κ.val = 1024 * (t.val % 16) + κ.val
    rw [(idx t).1.1]; omega
  | ⟨1, _⟩ =>
    show win0_0.index t (1 : Fin 2) * 1024 + 1 * a.val = 1024 * (t.val / 16) + a.val
    rw [(idx t).1.2]; omega

theorem rhs_block (t : Fin cfg0.N) (κ : Fin 1024) (b : Fin 256) :
    iblk m c 1 t (ix2 κ b) = mat (rhs m c) (1024 * (t.val % 16) + κ.val) (b.val) := by
  have ht := lt_N t
  rw [mat_of (rhs m c) (by omega) (by omega)]
  refine congrArg (V m c main_v1) (funext fun x => Fin.ext ?_)
  match x with
  | ⟨0, _⟩ =>
    show win0_1.index t (0 : Fin 2) * 1024 + 1 * κ.val = 1024 * (t.val % 16) + κ.val
    rw [(idx t).2.1.1]; omega
  | ⟨1, _⟩ =>
    show win0_1.index t (1 : Fin 2) * 256 + 1 * b.val = b.val
    rw [(idx t).2.1.2]; omega

/-- The products summed at an element of a run's block. -/
def term (a : Fin 1024) (b : Fin 256) (r k : ℕ) : EReal :=
  mat (lhs m c) (1024 * (r) + a.val) k * mat (rhs m c) k (b.val)

theorem part_eq (t : Fin cfg0.N) (a : Fin 1024) (b : Fin 256) :
    k0_pay1 (iblk m c 0 t) (iblk m c 1 t) (ix2 a b) =
      ∑ κ : Fin 1024, term m c a b (t.val / 16) (1024 * (t.val % 16) + κ.val) :=
  (part_at _ _ a b).trans (Finset.sum_congr rfl fun κ _ => congrArg₂ (· * ·) (lhs_block m c t a κ) (rhs_block m c t κ b))

/-- What the accumulator holds before a run's last point. -/
theorem scratch (n : ℕ) (h : n < cfg0.N) (hq : n % 16 + 1 < 16) (a : Fin 1024) (b : Fin 256) :
    (outsAt0 m c n h).2 (ix2 a b) = ∑ k ∈ Finset.range (1024 * (n % 16 + 1)), term m c a b (n / 16) k := by
  refine accumulated cfg0.N 16 1024 (term m c a b) (fun n h => (outsAt0 m c n h).2 (ix2 a b)) (fun n h h0 => ?_)
    (fun n h h0 h1 => ?_) n h hq
  · rw [outsAt0_A m c ⟨n, h⟩ h0 (by dsimp only; omega) (by dsimp only; omega)]
    dsimp only
    rw [first]
    exact part_eq m c ⟨n, h⟩ a b
  · rw [outsAt0_B m c ⟨n, h⟩ (by dsimp only; omega) (by dsimp only; omega) (by dsimp only; omega)]
    dsimp only
    rw [middle, sum_at]
    exact congrArg _ (part_eq m c ⟨n, h⟩ a b)

/-- The whole product. -/
def prod : Fin 1024 → Fin 256 → EReal := fun i j => ∑ k : Fin 16384, lhs m c i k * rhs m c k j

theorem term_sum (a : Fin 1024) (b : Fin 256) (r : ℕ) (hi : 1024 * (r) + a.val < 1024) (hj : b.val < 256) :
    ∑ k ∈ Finset.range 16384, term m c a b r k = prod m c ⟨_, hi⟩ ⟨_, hj⟩ := sum_mat (lhs m c) (rhs m c) hi hj

theorem out_emb (t : Fin cfg0.N) (a : Fin 1024) (b : Fin 256) :
    ((cfg0.win 2).blk t).view.emb (ix2 a b) =
      ix2 (⟨1024 * (t.val / 16) + a.val, by have := lt_N t; omega⟩ : Fin 1024) (⟨b.val, by omega⟩ : Fin 256) := by
  refine funext fun x => Fin.ext ?_
  match x with
  | ⟨0, _⟩ =>
    show win0_2.index t (0 : Fin 2) * 1024 + 1 * a.val = 1024 * (t.val / 16) + a.val
    rw [(idx t).2.2.1]; omega
  | ⟨1, _⟩ =>
    show win0_2.index t (1 : Fin 2) * 256 + 1 * b.val = b.val
    rw [(idx t).2.2.2]; omega

theorem flushes : ∀ t : Fin cfg0.N, ((cfg0.win 2).flush t = true ↔ t.val % 16 = 15) :=
  (by decide +kernel : ∀ t : Fin grid0.N, _)

theorem out_block (t : Fin cfg0.N) (ht : t.val % 16 = 15) :
    (outsAt0 m c t.val t.isLt).1 = fun y => arr2 (φ := .f32) (prod m c) (((cfg0.win 2).blk t).view.emb y) := by
  funext y
  obtain ⟨a, b, rfl⟩ : ∃ a b, y = ix2 a b := ⟨y 0, y 1, (ix2_eta y).symm⟩
  have hN := lt_N t
  rw [out_emb, arr2_at, outsAt0_C m c t (by omega) (by omega) ht]
  dsimp only
  rw [last, sum_at, scratch m c _ _ (by omega), part_eq, show (t.val - 1) / 16 = t.val / 16 by omega,
    show (t.val - 1) % 16 + 1 = t.val % 16 by omega, sum_last_block, ht, show 1024 * (15 + 1) = 16384 by norm_num]
  exact term_sum m c a b _ _ _

theorem cover (y : S1024x256.Idx) : ∃ t : Fin cfg0.N, (cfg0.win 2).flush t = true ∧ y ∈ ((cfg0.win 2).blk t).view.set := by
  obtain ⟨i, j, rfl⟩ : ∃ i j, y = ix2 i j := ⟨y 0, y 1, (ix2_eta y).symm⟩
  have hN : cfg0.N = 16 := N_0
  refine ⟨⟨16 * (i.val / 1024) + 15, by omega⟩, (flushes _).mpr (by dsimp only; omega), ?_⟩
  have e := out_emb ⟨16 * (i.val / 1024) + 15, by omega⟩ ⟨i.val % 1024, by omega⟩ ⟨j.val % 256, by omega⟩
  have e' : ix2 i j = _ := (congrArg₂ ix2 (Fin.ext (by dsimp only; omega)) (Fin.ext (by dsimp only; omega))).trans e.symm
  rw [e']
  exact View.emb_mem_set _ _

theorem read_block (t : Fin cfg0.N) (G : Vec Ideal S1024x256 .f32) :
    (cfg0.win 2).cut (grid0.coords t) (fun y => G (((cfg0.win 2).blk t).view.emb y)) =
      ((cfg0.win 2).blk t).view.read (Elt Ideal) G := rfl

/-- The result after the run. -/
theorem final : (dats m 0 c).arrAt 2 cfg0.N = arr2 (φ := .f32) (prod m c) := by
  refine (dats m 0 c).arrAt_eq_of_cover 2 _ (fun t hf => ?_) cover
  rw [Value.flushed2, out_block m c t ((flushes t).mp hf)]
  exact read_block t _

end Cert.Proof.LinearKvDw
-- ==== Proof.LinearKvDwFinal.lean ====
/- The gradient of the weight of the shared keys and values: the programs' results beside each other. -/
module

public import proofs.«01_k».proof.Defs
public import proofs.«01_k».proof.Proof.Mlp
public import proofs.«01_k».proof.Proof.LinearKvDwValue
public import proofs.«01_k».proof.Proof.Gen.LinearKvDwRefIdeal.Run

@[expose] public section

set_option maxRecDepth 16384

noncomputable section

namespace Cert.Proof.LinearKvDw

open Idealize.ShloMosaic Idealize.ShloMosaic.TcCoe Idealize.ShloMosaic.Pointwise Idealize.ShloMosaic.StableHlo Idealize.SL.Sem

section Kernel

open Cert.LinearKvDwIdeal Cert.LinearKvDwIdeal.Gen

section Host

variable {F : FTy → Type} [FloatOps F]

/-- The left factor as the host prepares it. -/
def host_lhs (x0 : Vec F S16384x1024 .f32) : Vec F S16384x1024 .bf16 :=
  truncf .bf16 x0 bitsLt_bf16_f32

/-- The right factor as the host prepares it. -/
def host_rhs (x2 : Vec F S16384x256 .f32) : Vec F S16384x256 .bf16 :=
  truncf .bf16 x2 bitsLt_bf16_f32

end Host

variable (m : (ℓ : Loc nD τ sig) → Buf (Elt Ideal) ℓ) (c : Dev nD)

theorem host_lhs_at (x0 : Vec Ideal S16384x1024 .f32) (i : Fin 16384) (j : Fin 1024) :
    host_lhs x0 (ix2 i j) = (of2 x0) i j := by
  rfl

theorem V_lhs : V m c main_v0 = host_lhs (m ((c : Thread nD τ).loc main_arg0)) := by
  unfold_abbrev_sides
  after_results
  rfl

theorem lhs_eq : lhs m c = tr (of2 (m ((c : Thread nD τ).loc main_arg0))) := by
  funext i j
  unfold lhs
  rw [V_lhs]
  exact host_lhs_at _ _ _

theorem host_rhs_at (x2 : Vec Ideal S16384x256 .f32) (i : Fin 16384) (j : Fin 256) :
    host_rhs x2 (ix2 i j) = of2 x2 i j := by
  rfl

theorem V_rhs : V m c main_v1 = host_rhs (m ((c : Thread nD τ).loc main_arg2)) := by
  unfold_abbrev_sides
  after_results
  rfl

theorem rhs_eq : rhs m c = of2 (m ((c : Thread nD τ).loc main_arg2)) := by
  funext i j
  unfold rhs
  rw [V_rhs]
  exact host_rhs_at _ _ _

theorem prod_eq : prod m c = mul2 (tr (of2 (m ((c : Thread nD τ).loc main_arg0)))) (of2 (m ((c : Thread nD τ).loc main_arg2))) := by
  show mul2 (lhs m c) (rhs m c) = _
  rw [lhs_eq, rhs_eq]

end Kernel

section Reference

open Cert.LinearKvDwRefIdeal Cert.LinearKvDwRefIdeal.Gen

variable (x0 : Vec Ideal S16384x1024 .f32) (x1 : Vec Ideal S1024x256 .f32) (x2 : Vec Ideal S16384x256 .f32)

section Plain

variable {F : FTy → Type} [FloatOps F]

/-- The reference's value. -/
def plain_prod (x0 : Vec F S16384x1024 .f32) (x2 : Vec F S16384x256 .f32) : Vec F S1024x256 .f32 :=
  transpose S1024x256 [1, 0] (Host.dotGeneral dot_S16384x256_S16384x1024_S256x1024_0_0_1_1_n_n none x2 x0) transposes_S256x1024_S1024x256_1_0

end Plain

set_option maxRecDepth 200000 in
theorem prod_ref : plain_prod x0 x2 =
    arr2 (φ := .f32) (mul2 (tr (of2 x0)) (of2 x2)) := by
  refine eq_arr2 _ _ fun i j => ?_
  unfold plain_prod tr mul2 of2
  pointwise!

end Reference

theorem quiescent_ref : Cert.quiescent_LinearKvDwRefIdeal := fun m ρ _ =>
  (θ_run Cert.LinearKvDwRefIdeal.defs _ _).mono (fun r h =>
      ⟨fun c => (h c).2, Idealize.ShloMosaic.sem_eq_zero_of_no_sems (by decide) r.2⟩)
    (Cert.LinearKvDwRefIdeal.Value.run (F := Ideal) m ρ)

theorem algebraic : Cert.algebraic_LinearKvDwIdeal_LinearKvDwRefIdeal := fun m ρ m' ρ' _ hag =>
  ⟨fun c => arr2 (φ := .f32) (mul2 (tr (of2 (m ((c : Thread Cert.LinearKvDwIdeal.nD Cert.LinearKvDwIdeal.τ).loc Cert.LinearKvDwIdeal.main_arg0)))) (of2 (m ((c : Thread Cert.LinearKvDwIdeal.nD Cert.LinearKvDwIdeal.τ).loc Cert.LinearKvDwIdeal.main_arg2)))),
    (θ_run Cert.LinearKvDwIdeal.defs _ _).mono (fun _ h c => ⟨(h c).1.trans ((final m c).trans (congrArg _ (prod_eq m c))), (h c).2⟩)
      (Cert.LinearKvDwIdeal.Value.run_blocks (F := Ideal) m ρ),
    (θ_run Cert.LinearKvDwRefIdeal.defs _ _).mono (fun _ h c => by
        obtain ⟨h0, h1, h2⟩ := hag c
        exact ⟨(h c).1.trans ((prod_ref (m' ((c : Thread Cert.LinearKvDwRefIdeal.nD Cert.LinearKvDwRefIdeal.τ).loc Cert.LinearKvDwRefIdeal.main_arg0)) (m' ((c : Thread Cert.LinearKvDwRefIdeal.nD Cert.LinearKvDwRefIdeal.τ).loc Cert.LinearKvDwRefIdeal.main_arg2))).trans (by rw [h0, h2])), (h c).2⟩)
      (Cert.LinearKvDwRefIdeal.Value.run (F := Ideal) m' ρ')⟩

end Cert.Proof.LinearKvDw
-- ==== Proof.LinearMemValue.lean ====
/- The projection of the memory: what the blocked product leaves in its result. -/
module

public import proofs.«01_k».proof.Proof.Product
public import proofs.«01_k».proof.Proof.Gen.LinearMemIdeal.Value

@[expose] public section

set_option maxRecDepth 16384

noncomputable section

namespace Cert.Proof.LinearMem

open Cert.LinearMemIdeal Cert.LinearMemIdeal.Gen
open Idealize.ShloMosaic Idealize.ShloMosaic.TcCoe Idealize.ShloMosaic.Pointwise Idealize.ShloMosaic.StableHlo

variable (m : (ℓ : Loc nD τ sig) → Buf (Elt Ideal) ℓ) (c : Dev nD)

/-- The left factor. -/
def lhs : Fin 256 → Fin 1024 → EReal := fun i k => V m c main_v0 (ix2 i k)

/-- The right factor. -/
def rhs : Fin 1024 → Fin 512 → EReal := fun k j => V m c main_v1 (ix2 k j)

/-- The product. -/
def prod : Fin 256 → Fin 512 → EReal := fun i j => ∑ k : Fin 1024, lhs m c i k * rhs m c k j

/-- Which blocks a grid point takes and writes. -/
theorem idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem lt_N (t : Fin cfg0.N) : t.val < 1 := lt_of_lt_of_eq t.isLt N_0

theorem lhs_block (t : Fin cfg0.N) (a : Fin 256) (κ : Fin 1024) :
    iblk m c 0 t (ix2 a κ) = lhs m c (⟨256 * (t.val) + a.val, by have := lt_N t; omega⟩ : Fin 256) κ := by
  refine congrArg (V m c main_v0) (funext fun x => Fin.ext ?_)
  match x with
  | ⟨0, _⟩ =>
    show win0_0.index t (0 : Fin 2) * 256 + 1 * a.val = 256 * (t.val) + a.val
    rw [(idx t).1.1]; omega
  | ⟨1, _⟩ =>
    show win0_0.index t (1 : Fin 2) * 1024 + 1 * κ.val = κ.val
    rw [(idx t).1.2]; omega

theorem rhs_block (t : Fin cfg0.N) (κ : Fin 1024) (b : Fin 512) :
    iblk m c 1 t (ix2 κ b) = rhs m c κ (⟨b.val, by omega⟩ : Fin 512) := by
  refine congrArg (V m c main_v1) (funext fun x => Fin.ext ?_)
  match x with
  | ⟨0, _⟩ =>
    show win0_1.index t (0 : Fin 2) * 1024 + 1 * κ.val = κ.val
    rw [(idx t).2.1.1]; omega
  | ⟨1, _⟩ =>
    show win0_1.index t (1 : Fin 2) * 512 + 1 * b.val = b.val
    rw [(idx t).2.1.2]; omega

/-- A block's product at an element. -/
def dot (x0 : Vec Ideal S256x1024 .bf16) (x1 : Vec Ideal S1024x512 .bf16) (a : Fin 256) (b : Fin 512) : EReal :=
  ∑ κ : Fin 1024, x0 (ix2 a κ) * x1 (ix2 κ b)

theorem block_sum (t : Fin cfg0.N) (a : Fin 256) (b : Fin 512) :
    dot (iblk m c 0 t) (iblk m c 1 t) a b = prod m c (⟨256 * (t.val) + a.val, by have := lt_N t; omega⟩ : Fin 256) (⟨b.val, by omega⟩ : Fin 512) :=
  Finset.sum_congr rfl fun κ _ => congrArg₂ (· * ·) (lhs_block m c t a κ) (rhs_block m c t κ b)

theorem emb2 (t : Fin cfg0.N) (a : Fin 256) (b : Fin 512) :
    ((cfg0.win 2).blk t).view.emb (ix2 a b) = ix2 (⟨256 * (t.val) + a.val, by have := lt_N t; omega⟩ : Fin 256) (⟨b.val, by omega⟩ : Fin 512) := by
  refine funext fun x => Fin.ext ?_
  match x with
  | ⟨0, _⟩ =>
    show win0_2.index t (0 : Fin 2) * 256 + 1 * a.val = 256 * (t.val) + a.val
    rw [(idx t).2.2.1]; omega
  | ⟨1, _⟩ =>
    show win0_2.index t (1 : Fin 2) * 512 + 1 * b.val = b.val
    rw [(idx t).2.2.2]; omega

theorem part_at (x0 : Vec Ideal S256x1024 .bf16) (x1 : Vec Ideal S1024x512 .bf16) (a : Fin 256) (b : Fin 512) :
    k0_pay1 x0 x1 (ix2 a b) = dot x0 x1 a b := by
  unfold k0_pay1 dot
  pointwise!

theorem whole2 (x0 : Vec Ideal S256x1024 .bf16) (x1 : Vec Ideal S1024x512 .bf16) : out0_2 x0 x1 = k0_pay1 x0 x1 := by
  unfold out0_2
  rw [View.canon_unit_zero zeros]
  simp only [View.ld_unit_zero (S := S256x1024) zeros, View.ld_unit_zero (S := S1024x512) zeros]

theorem flushes2 : ∀ t : Fin cfg0.N, (cfg0.win 2).flush t = true := (by decide +kernel : ∀ t : Fin grid0.N, _)

theorem out_block2 (t : Fin cfg0.N) :
    out0_2 (iblk m c 0 t) (iblk m c 1 t) = fun y => arr2 (φ := .f32) (prod m c) (((cfg0.win 2).blk t).view.emb y) := by
  funext y
  obtain ⟨a, b, rfl⟩ : ∃ a b, y = ix2 a b := ⟨y 0, y 1, (ix2_eta y).symm⟩
  rw [emb2, arr2_at, whole2]
  exact (part_at _ _ a b).trans (block_sum m c t a b)

theorem cover2 (y : S256x512.Idx) : ∃ t : Fin cfg0.N, (cfg0.win 2).flush t = true ∧ y ∈ ((cfg0.win 2).blk t).view.set := by
  obtain ⟨i, j, rfl⟩ : ∃ i j, y = ix2 i j := ⟨y 0, y 1, (ix2_eta y).symm⟩
  have hN : cfg0.N = 1 := N_0
  refine ⟨⟨i.val / 256, by omega⟩, flushes2 _, ?_⟩
  have e := emb2 ⟨i.val / 256, by omega⟩ ⟨i.val % 256, by omega⟩ ⟨j.val % 512, by omega⟩
  have e' : ix2 i j = _ := (congrArg₂ ix2 (Fin.ext (by dsimp only; omega)) (Fin.ext (by dsimp only; omega))).trans e.symm
  rw [e']
  exact View.emb_mem_set _ _

theorem read_block2 (t : Fin cfg0.N) (G : Vec Ideal S256x512 .f32) :
    (cfg0.win 2).cut (grid0.coords t) (fun y => G (((cfg0.win 2).blk t).view.emb y)) =
      ((cfg0.win 2).blk t).view.read (Elt Ideal) G := rfl

/-- The result after the run. -/
theorem final2 : (dats m 0 c).arrAt 2 cfg0.N = arr2 (φ := .f32) (prod m c) := by
  refine (dats m 0 c).arrAt_eq_of_cover 2 _ (fun t _ => ?_) cover2
  rw [Value.flushed2, out_block2 m c t]
  exact read_block2 t _

end Cert.Proof.LinearMem
-- ==== Proof.LinearMemFinal.lean ====
/- The projection of the memory: the programs' results beside each other. -/
module

public import proofs.«01_k».proof.Defs
public import proofs.«01_k».proof.Proof.Mlp
public import proofs.«01_k».proof.Proof.LinearMemValue
public import proofs.«01_k».proof.Proof.Gen.LinearMemRefIdeal.Run

@[expose] public section

set_option maxRecDepth 16384

noncomputable section

namespace Cert.Proof.LinearMem

open Idealize.ShloMosaic Idealize.ShloMosaic.TcCoe Idealize.ShloMosaic.Pointwise Idealize.ShloMosaic.StableHlo Idealize.SL.Sem

section Kernel

open Cert.LinearMemIdeal Cert.LinearMemIdeal.Gen

section Host

variable {F : FTy → Type} [FloatOps F]

/-- The left factor as the host prepares it. -/
def host_lhs (x0 : Vec F S256x1024 .f32) : Vec F S256x1024 .bf16 :=
  truncf .bf16 x0 bitsLt_bf16_f32

/-- The right factor as the host prepares it. -/
def host_rhs (x1 : Vec F S1024x512 .f32) : Vec F S1024x512 .bf16 :=
  truncf .bf16 x1 bitsLt_bf16_f32

end Host

variable (m : (ℓ : Loc nD τ sig) → Buf (Elt Ideal) ℓ) (c : Dev nD)

theorem host_lhs_at (x0 : Vec Ideal S256x1024 .f32) (i : Fin 256) (j : Fin 1024) :
    host_lhs x0 (ix2 i j) = of2 x0 i j := by
  rfl

theorem V_lhs : V m c main_v0 = host_lhs (m ((c : Thread nD τ).loc main_arg0)) := by
  unfold_abbrev_sides
  after_results
  rfl

theorem lhs_eq : lhs m c = of2 (m ((c : Thread nD τ).loc main_arg0)) := by
  funext i j
  unfold lhs
  rw [V_lhs]
  exact host_lhs_at _ _ _

theorem host_rhs_at (x1 : Vec Ideal S1024x512 .f32) (i : Fin 1024) (j : Fin 512) :
    host_rhs x1 (ix2 i j) = of2 x1 i j := by
  rfl

theorem V_rhs : V m c main_v1 = host_rhs (m ((c : Thread nD τ).loc main_arg1)) := by
  unfold_abbrev_sides
  after_results
  rfl

theorem rhs_eq : rhs m c = of2 (m ((c : Thread nD τ).loc main_arg1)) := by
  funext i j
  unfold rhs
  rw [V_rhs]
  exact host_rhs_at _ _ _

theorem prod_eq : prod m c = mul2 (of2 (m ((c : Thread nD τ).loc main_arg0))) (of2 (m ((c : Thread nD τ).loc main_arg1))) := by
  show mul2 (lhs m c) (rhs m c) = _
  rw [lhs_eq, rhs_eq]

end Kernel

section Reference

open Cert.LinearMemRefIdeal Cert.LinearMemRefIdeal.Gen

variable (x0 : Vec Ideal S256x1024 .f32) (x1 : Vec Ideal S1024x512 .f32)

section Plain

variable {F : FTy → Type} [FloatOps F]

/-- The reference's value. -/
def plain_prod (x0 : Vec F S256x1024 .f32) (x1 : Vec F S1024x512 .f32) : Vec F S256x512 .f32 :=
  Host.dotGeneral dot_S256x1024_S1024x512_S256x512_1_0_0_1_n_n none x0 x1

end Plain

set_option maxRecDepth 200000 in
theorem prod_ref : plain_prod x0 x1 =
    arr2 (φ := .f32) (mul2 (of2 x0) (of2 x1)) := by
  refine eq_arr2 _ _ fun i j => ?_
  unfold plain_prod mul2 of2
  pointwise!

end Reference

theorem quiescent_ref : Cert.quiescent_LinearMemRefIdeal := fun m ρ _ =>
  (θ_run Cert.LinearMemRefIdeal.defs _ _).mono (fun r h =>
      ⟨fun c => (h c).2, Idealize.ShloMosaic.sem_eq_zero_of_no_sems (by decide) r.2⟩)
    (Cert.LinearMemRefIdeal.Value.run (F := Ideal) m ρ)

theorem algebraic : Cert.algebraic_LinearMemIdeal_LinearMemRefIdeal := fun m ρ m' ρ' _ hag =>
  ⟨fun c => arr2 (φ := .f32) (mul2 (of2 (m ((c : Thread Cert.LinearMemIdeal.nD Cert.LinearMemIdeal.τ).loc Cert.LinearMemIdeal.main_arg0))) (of2 (m ((c : Thread Cert.LinearMemIdeal.nD Cert.LinearMemIdeal.τ).loc Cert.LinearMemIdeal.main_arg1)))),
    (θ_run Cert.LinearMemIdeal.defs _ _).mono (fun _ h c => ⟨(h c).1.trans ((final2 m c).trans (congrArg _ (prod_eq m c))), (h c).2⟩)
      (Cert.LinearMemIdeal.Value.run_blocks (F := Ideal) m ρ),
    (θ_run Cert.LinearMemRefIdeal.defs _ _).mono (fun _ h c => by
        obtain ⟨h0, h1⟩ := hag c
        exact ⟨(h c).1.trans ((prod_ref (m' ((c : Thread Cert.LinearMemRefIdeal.nD Cert.LinearMemRefIdeal.τ).loc Cert.LinearMemRefIdeal.main_arg0)) (m' ((c : Thread Cert.LinearMemRefIdeal.nD Cert.LinearMemRefIdeal.τ).loc Cert.LinearMemRefIdeal.main_arg1))).trans (by rw [h0, h1])), (h c).2⟩)
      (Cert.LinearMemRefIdeal.Value.run (F := Ideal) m' ρ')⟩

end Cert.Proof.LinearMem
-- ==== Proof.LinearMemDwValue.lean ====
/- The gradient of the weight of the memory: what the blocked product leaves in its result. -/
module

public import proofs.«01_k».proof.Proof.Product
public import proofs.«01_k».proof.Proof.Gen.LinearMemDwIdeal.Value

@[expose] public section

set_option maxRecDepth 16384

noncomputable section

namespace Cert.Proof.LinearMemDw

open Cert.LinearMemDwIdeal Cert.LinearMemDwIdeal.Gen
open Idealize.ShloMosaic Idealize.ShloMosaic.TcCoe Idealize.ShloMosaic.Pointwise Idealize.ShloMosaic.StableHlo

variable (m : (ℓ : Loc nD τ sig) → Buf (Elt Ideal) ℓ) (c : Dev nD)

/-- The left factor. -/
def lhs : Fin 1024 → Fin 256 → EReal := fun i k => V m c main_v0 (ix2 k i)

/-- The right factor. -/
def rhs : Fin 256 → Fin 512 → EReal := fun k j => V m c main_v1 (ix2 k j)

/-- The product. -/
def prod : Fin 1024 → Fin 512 → EReal := fun i j => ∑ k : Fin 256, lhs m c i k * rhs m c k j

/-- Which blocks a grid point takes and writes. -/
theorem idx : ∀ t : Fin cfg0.N,
    (win0_0.index t (0 : Fin 2) = 0 ∧ win0_0.index t (1 : Fin 2) = t.val)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem lt_N (t : Fin cfg0.N) : t.val < 1 := lt_of_lt_of_eq t.isLt N_0

theorem lhs_block (t : Fin cfg0.N) (a : Fin 1024) (κ : Fin 256) :
    iblk m c 0 t (ix2 κ a) = lhs m c (⟨1024 * (t.val) + a.val, by have := lt_N t; omega⟩ : Fin 1024) κ := by
  refine congrArg (V m c main_v0) (funext fun x => Fin.ext ?_)
  match x with
  | ⟨0, _⟩ =>
    show win0_0.index t (0 : Fin 2) * 256 + 1 * κ.val = κ.val
    rw [(idx t).1.1]; omega
  | ⟨1, _⟩ =>
    show win0_0.index t (1 : Fin 2) * 1024 + 1 * a.val = 1024 * (t.val) + a.val
    rw [(idx t).1.2]; omega

theorem rhs_block (t : Fin cfg0.N) (κ : Fin 256) (b : Fin 512) :
    iblk m c 1 t (ix2 κ b) = rhs m c κ (⟨b.val, by omega⟩ : Fin 512) := by
  refine congrArg (V m c main_v1) (funext fun x => Fin.ext ?_)
  match x with
  | ⟨0, _⟩ =>
    show win0_1.index t (0 : Fin 2) * 256 + 1 * κ.val = κ.val
    rw [(idx t).2.1.1]; omega
  | ⟨1, _⟩ =>
    show win0_1.index t (1 : Fin 2) * 512 + 1 * b.val = b.val
    rw [(idx t).2.1.2]; omega

/-- A block's product at an element. -/
def dot (x0 : Vec Ideal S256x1024 .bf16) (x1 : Vec Ideal S256x512 .bf16) (a : Fin 1024) (b : Fin 512) : EReal :=
  ∑ κ : Fin 256, x0 (ix2 κ a) * x1 (ix2 κ b)

theorem block_sum (t : Fin cfg0.N) (a : Fin 1024) (b : Fin 512) :
    dot (iblk m c 0 t) (iblk m c 1 t) a b = prod m c (⟨1024 * (t.val) + a.val, by have := lt_N t; omega⟩ : Fin 1024) (⟨b.val, by omega⟩ : Fin 512) :=
  Finset.sum_congr rfl fun κ _ => congrArg₂ (· * ·) (lhs_block m c t a κ) (rhs_block m c t κ b)

theorem emb2 (t : Fin cfg0.N) (a : Fin 1024) (b : Fin 512) :
    ((cfg0.win 2).blk t).view.emb (ix2 a b) = ix2 (⟨1024 * (t.val) + a.val, by have := lt_N t; omega⟩ : Fin 1024) (⟨b.val, by omega⟩ : Fin 512) := by
  refine funext fun x => Fin.ext ?_
  match x with
  | ⟨0, _⟩ =>
    show win0_2.index t (0 : Fin 2) * 1024 + 1 * a.val = 1024 * (t.val) + a.val
    rw [(idx t).2.2.1]; omega
  | ⟨1, _⟩ =>
    show win0_2.index t (1 : Fin 2) * 512 + 1 * b.val = b.val
    rw [(idx t).2.2.2]; omega

theorem part_at (x0 : Vec Ideal S256x1024 .bf16) (x1 : Vec Ideal S256x512 .bf16) (a : Fin 1024) (b : Fin 512) :
    k0_pay1 x0 x1 (ix2 a b) = dot x0 x1 a b := by
  unfold k0_pay1 dot
  pointwise!

theorem whole2 (x0 : Vec Ideal S256x1024 .bf16) (x1 : Vec Ideal S256x512 .bf16) : out0_2 x0 x1 = k0_pay1 x0 x1 := by
  unfold out0_2
  rw [View.canon_unit_zero zeros]
  simp only [View.ld_unit_zero (S := S256x1024) zeros, View.ld_unit_zero (S := S256x512) zeros]

theorem flushes2 : ∀ t : Fin cfg0.N, (cfg0.win 2).flush t = true := (by decide +kernel : ∀ t : Fin grid0.N, _)

theorem out_block2 (t : Fin cfg0.N) :
    out0_2 (iblk m c 0 t) (iblk m c 1 t) = fun y => arr2 (φ := .f32) (prod m c) (((cfg0.win 2).blk t).view.emb y) := by
  funext y
  obtain ⟨a, b, rfl⟩ : ∃ a b, y = ix2 a b := ⟨y 0, y 1, (ix2_eta y).symm⟩
  rw [emb2, arr2_at, whole2]
  exact (part_at _ _ a b).trans (block_sum m c t a b)

theorem cover2 (y : S1024x512.Idx) : ∃ t : Fin cfg0.N, (cfg0.win 2).flush t = true ∧ y ∈ ((cfg0.win 2).blk t).view.set := by
  obtain ⟨i, j, rfl⟩ : ∃ i j, y = ix2 i j := ⟨y 0, y 1, (ix2_eta y).symm⟩
  have hN : cfg0.N = 1 := N_0
  refine ⟨⟨i.val / 1024, by omega⟩, flushes2 _, ?_⟩
  have e := emb2 ⟨i.val / 1024, by omega⟩ ⟨i.val % 1024, by omega⟩ ⟨j.val % 512, by omega⟩
  have e' : ix2 i j = _ := (congrArg₂ ix2 (Fin.ext (by dsimp only; omega)) (Fin.ext (by dsimp only; omega))).trans e.symm
  rw [e']
  exact View.emb_mem_set _ _

theorem read_block2 (t : Fin cfg0.N) (G : Vec Ideal S1024x512 .f32) :
    (cfg0.win 2).cut (grid0.coords t) (fun y => G (((cfg0.win 2).blk t).view.emb y)) =
      ((cfg0.win 2).blk t).view.read (Elt Ideal) G := rfl

/-- The result after the run. -/
theorem final2 : (dats m 0 c).arrAt 2 cfg0.N = arr2 (φ := .f32) (prod m c) := by
  refine (dats m 0 c).arrAt_eq_of_cover 2 _ (fun t _ => ?_) cover2
  rw [Value.flushed2, out_block2 m c t]
  exact read_block2 t _

end Cert.Proof.LinearMemDw
-- ==== Proof.LinearMemDwFinal.lean ====
/- The gradient of the weight of the memory: the programs' results beside each other. -/
module

public import proofs.«01_k».proof.Defs
public import proofs.«01_k».proof.Proof.Mlp
public import proofs.«01_k».proof.Proof.LinearMemDwValue
public import proofs.«01_k».proof.Proof.Gen.LinearMemDwRefIdeal.Run

@[expose] public section

set_option maxRecDepth 16384

noncomputable section

namespace Cert.Proof.LinearMemDw

open Idealize.ShloMosaic Idealize.ShloMosaic.TcCoe Idealize.ShloMosaic.Pointwise Idealize.ShloMosaic.StableHlo Idealize.SL.Sem

section Kernel

open Cert.LinearMemDwIdeal Cert.LinearMemDwIdeal.Gen

section Host

variable {F : FTy → Type} [FloatOps F]

/-- The left factor as the host prepares it. -/
def host_lhs (x0 : Vec F S256x1024 .f32) : Vec F S256x1024 .bf16 :=
  truncf .bf16 x0 bitsLt_bf16_f32

/-- The right factor as the host prepares it. -/
def host_rhs (x2 : Vec F S256x512 .f32) : Vec F S256x512 .bf16 :=
  truncf .bf16 x2 bitsLt_bf16_f32

end Host

variable (m : (ℓ : Loc nD τ sig) → Buf (Elt Ideal) ℓ) (c : Dev nD)

theorem host_lhs_at (x0 : Vec Ideal S256x1024 .f32) (i : Fin 256) (j : Fin 1024) :
    host_lhs x0 (ix2 i j) = (of2 x0) i j := by
  rfl

theorem V_lhs : V m c main_v0 = host_lhs (m ((c : Thread nD τ).loc main_arg0)) := by
  unfold_abbrev_sides
  after_results
  rfl

theorem lhs_eq : lhs m c = tr (of2 (m ((c : Thread nD τ).loc main_arg0))) := by
  funext i j
  unfold lhs
  rw [V_lhs]
  exact host_lhs_at _ _ _

theorem host_rhs_at (x2 : Vec Ideal S256x512 .f32) (i : Fin 256) (j : Fin 512) :
    host_rhs x2 (ix2 i j) = of2 x2 i j := by
  rfl

theorem V_rhs : V m c main_v1 = host_rhs (m ((c : Thread nD τ).loc main_arg2)) := by
  unfold_abbrev_sides
  after_results
  rfl

theorem rhs_eq : rhs m c = of2 (m ((c : Thread nD τ).loc main_arg2)) := by
  funext i j
  unfold rhs
  rw [V_rhs]
  exact host_rhs_at _ _ _

theorem prod_eq : prod m c = mul2 (tr (of2 (m ((c : Thread nD τ).loc main_arg0)))) (of2 (m ((c : Thread nD τ).loc main_arg2))) := by
  show mul2 (lhs m c) (rhs m c) = _
  rw [lhs_eq, rhs_eq]

end Kernel

section Reference

open Cert.LinearMemDwRefIdeal Cert.LinearMemDwRefIdeal.Gen

variable (x0 : Vec Ideal S256x1024 .f32) (x1 : Vec Ideal S1024x512 .f32) (x2 : Vec Ideal S256x512 .f32)

section Plain

variable {F : FTy → Type} [FloatOps F]

/-- The reference's value. -/
def plain_prod (x0 : Vec F S256x1024 .f32) (x2 : Vec F S256x512 .f32) : Vec F S1024x512 .f32 :=
  transpose S1024x512 [1, 0] (Host.dotGeneral dot_S256x512_S256x1024_S512x1024_0_0_1_1_n_n none x2 x0) transposes_S512x1024_S1024x512_1_0

end Plain

set_option maxRecDepth 200000 in
theorem prod_ref : plain_prod x0 x2 =
    arr2 (φ := .f32) (mul2 (tr (of2 x0)) (of2 x2)) := by
  refine eq_arr2 _ _ fun i j => ?_
  unfold plain_prod tr mul2 of2
  pointwise!

end Reference

theorem quiescent_ref : Cert.quiescent_LinearMemDwRefIdeal := fun m ρ _ =>
  (θ_run Cert.LinearMemDwRefIdeal.defs _ _).mono (fun r h =>
      ⟨fun c => (h c).2, Idealize.ShloMosaic.sem_eq_zero_of_no_sems (by decide) r.2⟩)
    (Cert.LinearMemDwRefIdeal.Value.run (F := Ideal) m ρ)

theorem algebraic : Cert.algebraic_LinearMemDwIdeal_LinearMemDwRefIdeal := fun m ρ m' ρ' _ hag =>
  ⟨fun c => arr2 (φ := .f32) (mul2 (tr (of2 (m ((c : Thread Cert.LinearMemDwIdeal.nD Cert.LinearMemDwIdeal.τ).loc Cert.LinearMemDwIdeal.main_arg0)))) (of2 (m ((c : Thread Cert.LinearMemDwIdeal.nD Cert.LinearMemDwIdeal.τ).loc Cert.LinearMemDwIdeal.main_arg2)))),
    (θ_run Cert.LinearMemDwIdeal.defs _ _).mono (fun _ h c => ⟨(h c).1.trans ((final2 m c).trans (congrArg _ (prod_eq m c))), (h c).2⟩)
      (Cert.LinearMemDwIdeal.Value.run_blocks (F := Ideal) m ρ),
    (θ_run Cert.LinearMemDwRefIdeal.defs _ _).mono (fun _ h c => by
        obtain ⟨h0, h1, h2⟩ := hag c
        exact ⟨(h c).1.trans ((prod_ref (m' ((c : Thread Cert.LinearMemDwRefIdeal.nD Cert.LinearMemDwRefIdeal.τ).loc Cert.LinearMemDwRefIdeal.main_arg0)) (m' ((c : Thread Cert.LinearMemDwRefIdeal.nD Cert.LinearMemDwRefIdeal.τ).loc Cert.LinearMemDwRefIdeal.main_arg2))).trans (by rw [h0, h2])), (h c).2⟩)
      (Cert.LinearMemDwRefIdeal.Value.run (F := Ideal) m' ρ')⟩

end Cert.Proof.LinearMemDw
-- ==== Proof.Update.lean ====
/- The optimiser's update of one weight, and the sum of the four chips' gradients. -/
module

public import proofs.«01_k».proof.Proof.Mlp

@[expose] public section

noncomputable section

namespace Cert.Proof

open Idealize.ShloMosaic Idealize.ShloMosaic.Pointwise

section Scalar

variable {F : FTy → Type} [FloatOps F]

/-- The new first moment, from the gradient and the old one. -/
def firstMoment (g mo : F .f32) : F .f32 :=
  FloatOps.addf (FloatOps.mulf (Scalar.ofBits .f32 0x3F666666#32) mo) (FloatOps.mulf (Scalar.ofBits .f32 0x3DCCCCCD#32) g)

/-- The new second moment, from the gradient and the old one. -/
def secondMoment (g va : F .f32) : F .f32 :=
  FloatOps.addf (FloatOps.mulf (Scalar.ofBits .f32 0x3F7FBE77#32) va)
    (FloatOps.mulf (Scalar.ofBits .f32 0x3A83126F#32) (FloatOps.mulf g g))

/-- The change of a weight: the corrected first moment over the root of the corrected second, with the weight's decay. -/
def change (w g mo va : F .f32) : F .f32 :=
  FloatOps.mulf (Scalar.ofBits .f32 0xBA83126F#32)
    (FloatOps.addf
      (FloatOps.divf (FloatOps.divf (firstMoment g mo) (Scalar.ofBits .f32 0x3F26BD02#32))
        (FloatOps.addf (FloatOps.sqrt (FloatOps.divf (secondMoment g va) (Scalar.ofBits .f32 0x3C231ACC#32)))
          (Scalar.ofBits .f32 0x322BCC77#32)))
      (FloatOps.mulf (Scalar.ofBits .f32 0x3C23D70A#32) w))

/-- The new first moments of an array of weights. -/
def firstMoments {s : Shape} (g mo : Vec F s .f32) : Vec F s .f32 := fun i => firstMoment (g i) (mo i)

/-- The new second moments of an array of weights. -/
def secondMoments {s : Shape} (g va : Vec F s .f32) : Vec F s .f32 := fun i => secondMoment (g i) (va i)

/-- The changes of an array of weights. -/
def changes {s : Shape} (w g mo va : Vec F s .f32) : Vec F s .f32 := fun i => change (w i) (g i) (mo i) (va i)

end Scalar

/-- The sum of four matrices. -/
def sum4 {M N : ℕ} (p : Fin 4 → Fin M → Fin N → EReal) : Fin M → Fin N → EReal := fun i j => ∑ k : Fin 4, p k i j

theorem sum4_pairs {M N : ℕ} (p : Fin 4 → Fin M → Fin N → EReal) (i : Fin M) (j : Fin N) :
    (p 0 i j + p 1 i j) + (p 2 i j + p 3 i j) = sum4 p i j := by
  unfold sum4
  rw [Fin.sum_univ_four, ← add_assoc]

/-- An array of three axes as a family of matrices. -/
def of3 {K M N : ℕ} {φ : EltTy} (x : Vec Ideal ⟨3, ![K, M, N]⟩ φ) : Fin K → Fin M → Fin N → Elt Ideal φ :=
  fun k i j => x (ix3 k i j)

end Cert.Proof
-- ==== Proof.SumChipsFinal.lean ====
/- The sum of the chips' gradients: the programs' results beside each other. -/
module

public import proofs.«01_k».proof.Defs
public import proofs.«01_k».proof.Proof.Update
public import proofs.«01_k».proof.Proof.Gen.SumChipsIdeal.Value
public import proofs.«01_k».proof.Proof.Gen.SumChipsRefIdeal.Run

@[expose] public section

set_option maxRecDepth 16384

noncomputable section

namespace Cert.Proof.SumChips

open Idealize.ShloMosaic Idealize.ShloMosaic.TcCoe Idealize.ShloMosaic.Pointwise Idealize.ShloMosaic.StableHlo Idealize.SL.Sem

section Kernel

open Cert.SumChipsIdeal Cert.SumChipsIdeal.Gen

variable (m : (ℓ : Loc nD τ sig) → Buf (Elt Ideal) ℓ) (c : Dev nD)

/-- Which blocks a grid point takes and writes. -/
theorem idx : ∀ t : Fin cfg0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0) :=
  (by decide +kernel : ∀ t : Fin grid0.N, _)

theorem lt_N (t : Fin cfg0.N) : t.val < 24 := lt_of_lt_of_eq t.isLt N_0

theorem part_block (t : Fin cfg0.N) (k : Fin 4) (a : Fin 256) (b : Fin 1024) :
    iblk m c 0 t (ix3 k a b) = of3 (V m c main_arg0) k (⟨256 * t.val + a.val, by have := lt_N t; omega⟩ : Fin 6144) b := by
  refine congrArg (V m c main_arg0) (funext fun x => Fin.ext ?_)
  match x with
  | ⟨0, _⟩ =>
    show win0_0.index t (0 : Fin 3) * 4 + 1 * k.val = k.val
    rw [(idx t).1.1]; omega
  | ⟨1, _⟩ =>
    show win0_0.index t (1 : Fin 3) * 256 + 1 * a.val = 256 * t.val + a.val
    rw [(idx t).1.2.1]; omega
  | ⟨2, _⟩ =>
    show win0_0.index t (2 : Fin 3) * 1024 + 1 * b.val = b.val
    rw [(idx t).1.2.2]; omega

theorem emb (t : Fin cfg0.N) (a : Fin 256) (b : Fin 1024) :
    ((cfg0.win 1).blk t).view.emb (ix2 a b) = ix2 (⟨256 * t.val + a.val, by have := lt_N t; omega⟩ : Fin 6144) b := by
  refine funext fun x => Fin.ext ?_
  match x with
  | ⟨0, _⟩ =>
    show win0_1.index t (0 : Fin 2) * 256 + 1 * a.val = 256 * t.val + a.val
    rw [(idx t).2.1]; omega
  | ⟨1, _⟩ =>
    show win0_1.index t (1 : Fin 2) * 1024 + 1 * b.val = b.val
    rw [(idx t).2.2]; omega

theorem load0 (x0 : Vec Ideal S4x256x1024 .bf16) (a : Fin 256) (b : Fin 1024) :
    View.ld x0 r0_0 (ix3 0 a b) = of3 x0 0 a b := by
  refine congrArg x0 (funext fun x => Fin.ext ?_)
  match x with
  | ⟨0, _⟩ => rfl
  | ⟨1, _⟩ => show 0 + 1 * a.val = a.val; omega
  | ⟨2, _⟩ => show 0 + 1 * b.val = b.val; omega

theorem load1 (x0 : Vec Ideal S4x256x1024 .bf16) (a : Fin 256) (b : Fin 1024) :
    View.ld x0 r0_1 (ix3 0 a b) = of3 x0 1 a b := by
  refine congrArg x0 (funext fun x => Fin.ext ?_)
  match x with
  | ⟨0, _⟩ => rfl
  | ⟨1, _⟩ => show 0 + 1 * a.val = a.val; omega
  | ⟨2, _⟩ => show 0 + 1 * b.val = b.val; omega

theorem load2 (x0 : Vec Ideal S4x256x1024 .bf16) (a : Fin 256) (b : Fin 1024) :
    View.ld x0 r0_2 (ix3 0 a b) = of3 x0 2 a b := by
  refine congrArg x0 (funext fun x => Fin.ext ?_)
  match x with
  | ⟨0, _⟩ => rfl
  | ⟨1, _⟩ => show 0 + 1 * a.val = a.val; omega
  | ⟨2, _⟩ => show 0 + 1 * b.val = b.val; omega

theorem load3 (x0 : Vec Ideal S4x256x1024 .bf16) (a : Fin 256) (b : Fin 1024) :
    View.ld x0 r0_3 (ix3 0 a b) = of3 x0 3 a b := by
  refine congrArg x0 (funext fun x => Fin.ext ?_)
  match x with
  | ⟨0, _⟩ => rfl
  | ⟨1, _⟩ => show 0 + 1 * a.val = a.val; omega
  | ⟨2, _⟩ => show 0 + 1 * b.val = b.val; omega

theorem sum_at (x0 x1 x2 x3 : Vec Ideal S1x256x1024 .bf16) (a : Fin 256) (b : Fin 1024) :
    k0_pay1 x0 x1 x2 x3 (ix2 a b) =
      (x0 (ix3 0 a b) + x1 (ix3 0 a b)) + (x2 (ix3 0 a b) + x3 (ix3 0 a b)) := by
  unfold k0_pay1
  pointwise!

theorem whole_at (x0 : Vec Ideal S4x256x1024 .bf16) (a : Fin 256) (b : Fin 1024) :
    out0_1 x0 (ix2 a b) = sum4 (of3 x0) a b := by
  unfold out0_1
  rw [View.canon_unit_zero zeros, sum_at, load0, load1, load2, load3]
  exact sum4_pairs (of3 x0) a b

theorem flushes : ∀ t : Fin cfg0.N, (cfg0.win 1).flush t = true := (by decide +kernel : ∀ t : Fin grid0.N, _)

theorem out_block (t : Fin cfg0.N) :
    out0_1 (iblk m c 0 t) =
      fun y => arr2 (φ := .f32) (sum4 (of3 (V m c main_arg0))) (((cfg0.win 1).blk t).view.emb y) := by
  funext y
  obtain ⟨a, b, rfl⟩ : ∃ a b, y = ix2 a b := ⟨y 0, y 1, (ix2_eta y).symm⟩
  rw [emb, whole_at, arr2_at]
  exact Finset.sum_congr rfl fun k _ => part_block m c t k a b

theorem cover (y : S6144x1024.Idx) : ∃ t : Fin cfg0.N, (cfg0.win 1).flush t = true ∧ y ∈ ((cfg0.win 1).blk t).view.set := by
  obtain ⟨i, j, rfl⟩ : ∃ i j, y = ix2 i j := ⟨y 0, y 1, (ix2_eta y).symm⟩
  have hN : cfg0.N = 24 := N_0
  refine ⟨⟨i.val / 256, by omega⟩, flushes _, ?_⟩
  have e := emb ⟨i.val / 256, by omega⟩ ⟨i.val % 256, by omega⟩ j
  have e' : ix2 i j = _ := (congrArg₂ ix2 (Fin.ext (by dsimp only; omega)) rfl).trans e.symm
  rw [e']
  exact View.emb_mem_set _ _

theorem read_block (t : Fin cfg0.N) (G : Vec Ideal S6144x1024 .f32) :
    (cfg0.win 1).cut (grid0.coords t) (fun y => G (((cfg0.win 1).blk t).view.emb y)) =
      ((cfg0.win 1).blk t).view.read (Elt Ideal) G := rfl

/-- The result after the run. -/
theorem final : (dats m 0 c).arrAt 1 cfg0.N = arr2 (φ := .f32) (sum4 (of3 (m ((c : Thread nD τ).loc main_arg0)))) := by
  rw [← V_main_arg0 m c]
  refine (dats m 0 c).arrAt_eq_of_cover 1 _ (fun t _ => ?_) cover
  rw [Value.flushed1, out_block m c t]
  exact read_block t _

end Kernel

section Reference

open Cert.SumChipsRefIdeal Cert.SumChipsRefIdeal.Gen

section Plain

variable {F : FTy → Type} [FloatOps F]

/-- The reference's value. -/
def plain_sum (x0 : Vec F S4x6144x1024 .bf16) : Vec F S6144x1024 .f32 :=
  Host.reduceAdd (extf .f32 x0 bitsLt_bf16_f32) (constant S_ .f32 0x00000000#32) reducesTo_S4x6144x1024_S6144x1024_d0 h_S_

end Plain

theorem sum_ref (x0 : Vec Ideal S4x6144x1024 .bf16) : plain_sum x0 = arr2 (φ := .f32) (sum4 (of3 x0)) := by
  refine eq_arr2 _ _ fun i j => ?_
  unfold plain_sum sum4 of3
  pointwise!

end Reference

theorem quiescent_ref : Cert.quiescent_SumChipsRefIdeal := fun m ρ _ =>
  (θ_run Cert.SumChipsRefIdeal.defs _ _).mono (fun r h =>
      ⟨fun c => (h c).2, Idealize.ShloMosaic.sem_eq_zero_of_no_sems (by decide) r.2⟩)
    (Cert.SumChipsRefIdeal.Value.run (F := Ideal) m ρ)

theorem algebraic : Cert.algebraic_SumChipsIdeal_SumChipsRefIdeal := fun m ρ m' ρ' _ hag =>
  ⟨fun c => arr2 (φ := .f32) (sum4 (of3 (m ((c : Thread Cert.SumChipsIdeal.nD Cert.SumChipsIdeal.τ).loc Cert.SumChipsIdeal.main_arg0)))),
    (θ_run Cert.SumChipsIdeal.defs _ _).mono (fun _ h c => ⟨(h c).1.trans (final m c), (h c).2⟩)
      (Cert.SumChipsIdeal.Value.run_blocks (F := Ideal) m ρ),
    (θ_run Cert.SumChipsRefIdeal.defs _ _).mono (fun _ h c => by
        have h0 := hag c
        exact ⟨(h c).1.trans ((sum_ref (m' ((c : Thread Cert.SumChipsRefIdeal.nD Cert.SumChipsRefIdeal.τ).loc Cert.SumChipsRefIdeal.main_arg0))).trans (by rw [h0])), (h c).2⟩)
      (Cert.SumChipsRefIdeal.Value.run (F := Ideal) m' ρ')⟩

end Cert.Proof.SumChips
-- ==== Proof.AdamFinal.lean ====
/- The optimiser's update of the packed weights: the programs' results beside each other. -/
module

public import proofs.«01_k».proof.Defs
public import proofs.«01_k».proof.Proof.Update
public import proofs.«01_k».proof.Proof.Gen.AdamIdeal.Value
public import proofs.«01_k».proof.Proof.Gen.AdamRefIdeal.Run

@[expose] public section

set_option maxRecDepth 16384

noncomputable section

namespace Cert.Proof.Adam

open Idealize.ShloMosaic Idealize.ShloMosaic.TcCoe Idealize.ShloMosaic.Pointwise Idealize.ShloMosaic.StableHlo Idealize.SL.Sem

section Reference

open Cert.AdamRefIdeal Cert.AdamRefIdeal.Gen

section Plain

variable {F : FTy → Type} [FloatOps F]

/-- The reference's new first moments. -/
def plain_first (g mo : Vec F S12288x1024 .f32) : Vec F S12288x1024 .f32 :=
  addf (mulf (broadcastInDim S12288x1024 ![] bcast_S_S12288x1024 (constant S_ .f32 0x3F666666#32)) mo) (mulf (broadcastInDim S12288x1024 ![] bcast_S_S12288x1024 (constant S_ .f32 0x3DCCCCCD#32)) g)

/-- The reference's new second moments. -/
def plain_second (g va : Vec F S12288x1024 .f32) : Vec F S12288x1024 .f32 :=
  addf (mulf (broadcastInDim S12288x1024 ![] bcast_S_S12288x1024 (constant S_ .f32 0x3F7FBE77#32)) va) (mulf (broadcastInDim S12288x1024 ![] bcast_S_S12288x1024 (constant S_ .f32 0x3A83126F#32)) (mulf g g))

/-- The reference's changes. -/
def plain_change (w g mo va : Vec F S12288x1024 .f32) : Vec F S12288x1024 .f32 :=
  mulf (broadcastInDim S12288x1024 ![] bcast_S_S12288x1024 (constant S_ .f32 0xBA83126F#32)) (addf (Host.divf (Host.divf (plain_first g mo) (broadcastInDim S12288x1024 ![] bcast_S_S12288x1024 (constant S_ .f32 0x3F26BD02#32)))
    (addf (Host.sqrt (Host.divf (plain_second g va) (broadcastInDim S12288x1024 ![] bcast_S_S12288x1024 (constant S_ .f32 0x3C231ACC#32)))) (broadcastInDim S12288x1024 ![] bcast_S_S12288x1024 (constant S_ .f32 0x322BCC77#32))))
    (mulf (broadcastInDim S12288x1024 ![] bcast_S_S12288x1024 (constant S_ .f32 0x3C23D70A#32)) w))

end Plain

theorem first_ref (g mo : Vec Ideal S12288x1024 .f32) : plain_first g mo = firstMoments g mo := rfl

theorem second_ref (g va : Vec Ideal S12288x1024 .f32) : plain_second g va = secondMoments g va := rfl

theorem change_ref (w g mo va : Vec Ideal S12288x1024 .f32) : plain_change w g mo va = changes w g mo va := rfl

end Reference

section Kernel

open Cert.AdamIdeal Cert.AdamIdeal.Gen

theorem first_kernel (g mo : Vec Ideal S12288x1024 .f32) : Value.G5 (F := Ideal) g mo = firstMoments g mo := rfl

theorem second_kernel (g va : Vec Ideal S12288x1024 .f32) : Value.G6 (F := Ideal) g va = secondMoments g va := rfl

theorem change_kernel (w g mo va : Vec Ideal S12288x1024 .f32) : Value.G4 (F := Ideal) g mo va w = changes w g mo va := rfl

end Kernel

theorem quiescent_ref : Cert.quiescent_AdamRefIdeal := fun m ρ _ =>
  (θ_run Cert.AdamRefIdeal.defs _ _).mono (fun r h =>
      ⟨fun c => (h c).2.2.2, Idealize.ShloMosaic.sem_eq_zero_of_no_sems (by decide) r.2⟩)
    (Cert.AdamRefIdeal.Value.run (F := Ideal) m ρ)

theorem algebraic : Cert.algebraic_AdamIdeal_AdamRefIdeal := fun m ρ m' ρ' _ hag =>
  ⟨fun c => changes (m ((c : Thread Cert.AdamIdeal.nD Cert.AdamIdeal.τ).loc Cert.AdamIdeal.main_arg0)) (m ((c : Thread Cert.AdamIdeal.nD Cert.AdamIdeal.τ).loc Cert.AdamIdeal.main_arg1)) (m ((c : Thread Cert.AdamIdeal.nD Cert.AdamIdeal.τ).loc Cert.AdamIdeal.main_arg2)) (m ((c : Thread Cert.AdamIdeal.nD Cert.AdamIdeal.τ).loc Cert.AdamIdeal.main_arg3)),
    fun c => firstMoments (m ((c : Thread Cert.AdamIdeal.nD Cert.AdamIdeal.τ).loc Cert.AdamIdeal.main_arg1)) (m ((c : Thread Cert.AdamIdeal.nD Cert.AdamIdeal.τ).loc Cert.AdamIdeal.main_arg2)),
    fun c => secondMoments (m ((c : Thread Cert.AdamIdeal.nD Cert.AdamIdeal.τ).loc Cert.AdamIdeal.main_arg1)) (m ((c : Thread Cert.AdamIdeal.nD Cert.AdamIdeal.τ).loc Cert.AdamIdeal.main_arg3)),
    (θ_run Cert.AdamIdeal.defs _ _).mono (fun _ h c => ⟨(h c).1.trans (change_kernel _ _ _ _),
        (h c).2.1.trans (first_kernel _ _),
        (h c).2.2.1.trans (second_kernel _ _), (h c).2.2.2⟩)
      (Cert.AdamIdeal.Value.run (F := Ideal) m ρ),
    (θ_run Cert.AdamRefIdeal.defs _ _).mono (fun _ h c => by
        obtain ⟨h0, h1, h2, h3⟩ := hag c
        exact ⟨(h c).1.trans ((change_ref (m' ((c : Thread Cert.AdamRefIdeal.nD Cert.AdamRefIdeal.τ).loc Cert.AdamRefIdeal.main_arg0)) (m' ((c : Thread Cert.AdamRefIdeal.nD Cert.AdamRefIdeal.τ).loc Cert.AdamRefIdeal.main_arg1)) (m' ((c : Thread Cert.AdamRefIdeal.nD Cert.AdamRefIdeal.τ).loc Cert.AdamRefIdeal.main_arg2)) (m' ((c : Thread Cert.AdamRefIdeal.nD Cert.AdamRefIdeal.τ).loc Cert.AdamRefIdeal.main_arg3))).trans (by rw [h0, h1, h2, h3])),
          (h c).2.1.trans ((first_ref (m' ((c : Thread Cert.AdamRefIdeal.nD Cert.AdamRefIdeal.τ).loc Cert.AdamRefIdeal.main_arg1)) (m' ((c : Thread Cert.AdamRefIdeal.nD Cert.AdamRefIdeal.τ).loc Cert.AdamRefIdeal.main_arg2))).trans (by rw [h1, h2])),
          (h c).2.2.1.trans ((second_ref (m' ((c : Thread Cert.AdamRefIdeal.nD Cert.AdamRefIdeal.τ).loc Cert.AdamRefIdeal.main_arg1)) (m' ((c : Thread Cert.AdamRefIdeal.nD Cert.AdamRefIdeal.τ).loc Cert.AdamRefIdeal.main_arg3))).trans (by rw [h1, h3])), (h c).2.2.2⟩)
      (Cert.AdamRefIdeal.Value.run (F := Ideal) m' ρ')⟩

end Cert.Proof.Adam
-- ==== Proof.AdamAValue.lean ====
/- The update of the first mixer's input weights: the kernel's results after its run. -/
module

public import proofs.«01_k».proof.Proof.Update
public import proofs.«01_k».proof.Proof.Gen.AdamAIdeal.Value

@[expose] public section

set_option maxRecDepth 16384

noncomputable section

namespace Cert.Proof.AdamA

open Idealize.ShloMosaic Idealize.ShloMosaic.TcCoe Idealize.ShloMosaic.Pointwise Idealize.SL.Sem
open Cert.AdamAIdeal Cert.AdamAIdeal.Gen

variable (m : (ℓ : Loc nD τ sig) → Buf (Elt Ideal) ℓ) (c : Dev nD)

/-- Which blocks a grid point takes and writes. -/
theorem idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

theorem lt_N (t : Fin cfg0.N) : t.val < 16 := lt_of_lt_of_eq t.isLt N_0

theorem emb0 (t : Fin cfg0.N) (a : Fin 128) (b : Fin 835) :
    ((cfg0.win 0).blk t).view.emb (ix2 a b) = ix2 (⟨128 * t.val + a.val, by have := lt_N t; omega⟩ : Fin 2048) b := by
  refine funext fun x => Fin.ext ?_
  match x with
  | ⟨0, _⟩ =>
    show win0_0.index t (0 : Fin 2) * 128 + 1 * a.val = 128 * t.val + a.val
    rw [(idx t).1.1]; omega
  | ⟨1, _⟩ =>
    show win0_0.index t (1 : Fin 2) * 835 + 1 * b.val = b.val
    rw [(idx t).1.2]; omega

theorem emb1 (t : Fin cfg0.N) (a : Fin 128) (b : Fin 835) :
    ((cfg0.win 1).blk t).view.emb (ix2 a b) = ix2 (⟨128 * t.val + a.val, by have := lt_N t; omega⟩ : Fin 2048) b := by
  refine funext fun x => Fin.ext ?_
  match x with
  | ⟨0, _⟩ =>
    show win0_1.index t (0 : Fin 2) * 128 + 1 * a.val = 128 * t.val + a.val
    rw [(idx t).2.1.1]; omega
  | ⟨1, _⟩ =>
    show win0_1.index t (1 : Fin 2) * 835 + 1 * b.val = b.val
    rw [(idx t).2.1.2]; omega

theorem emb2 (t : Fin cfg0.N) (a : Fin 128) (b : Fin 835) :
    ((cfg0.win 2).blk t).view.emb (ix2 a b) = ix2 (⟨128 * t.val + a.val, by have := lt_N t; omega⟩ : Fin 2048) b := by
  refine funext fun x => Fin.ext ?_
  match x with
  | ⟨0, _⟩ =>
    show win0_2.index t (0 : Fin 2) * 128 + 1 * a.val = 128 * t.val + a.val
    rw [(idx t).2.2.1.1]; omega
  | ⟨1, _⟩ =>
    show win0_2.index t (1 : Fin 2) * 835 + 1 * b.val = b.val
    rw [(idx t).2.2.1.2]; omega

theorem emb3 (t : Fin cfg0.N) (a : Fin 128) (b : Fin 835) :
    ((cfg0.win 3).blk t).view.emb (ix2 a b) = ix2 (⟨128 * t.val + a.val, by have := lt_N t; omega⟩ : Fin 2048) b := by
  refine funext fun x => Fin.ext ?_
  match x with
  | ⟨0, _⟩ =>
    show win0_3.index t (0 : Fin 2) * 128 + 1 * a.val = 128 * t.val + a.val
    rw [(idx t).2.2.2.1.1]; omega
  | ⟨1, _⟩ =>
    show win0_3.index t (1 : Fin 2) * 835 + 1 * b.val = b.val
    rw [(idx t).2.2.2.1.2]; omega

theorem emb4 (t : Fin cfg0.N) (a : Fin 128) (b : Fin 835) :
    ((cfg0.win 4).blk t).view.emb (ix2 a b) = ix2 (⟨128 * t.val + a.val, by have := lt_N t; omega⟩ : Fin 2048) b := by
  refine funext fun x => Fin.ext ?_
  match x with
  | ⟨0, _⟩ =>
    show win0_4.index t (0 : Fin 2) * 128 + 1 * a.val = 128 * t.val + a.val
    rw [(idx t).2.2.2.2.1.1]; omega
  | ⟨1, _⟩ =>
    show win0_4.index t (1 : Fin 2) * 835 + 1 * b.val = b.val
    rw [(idx t).2.2.2.2.1.2]; omega

theorem emb5 (t : Fin cfg0.N) (a : Fin 128) (b : Fin 835) :
    ((cfg0.win 5).blk t).view.emb (ix2 a b) = ix2 (⟨128 * t.val + a.val, by have := lt_N t; omega⟩ : Fin 2048) b := by
  refine funext fun x => Fin.ext ?_
  match x with
  | ⟨0, _⟩ =>
    show win0_5.index t (0 : Fin 2) * 128 + 1 * a.val = 128 * t.val + a.val
    rw [(idx t).2.2.2.2.2.1.1]; omega
  | ⟨1, _⟩ =>
    show win0_5.index t (1 : Fin 2) * 835 + 1 * b.val = b.val
    rw [(idx t).2.2.2.2.2.1.2]; omega

theorem emb6 (t : Fin cfg0.N) (a : Fin 128) (b : Fin 835) :
    ((cfg0.win 6).blk t).view.emb (ix2 a b) = ix2 (⟨128 * t.val + a.val, by have := lt_N t; omega⟩ : Fin 2048) b := by
  refine funext fun x => Fin.ext ?_
  match x with
  | ⟨0, _⟩ =>
    show win0_6.index t (0 : Fin 2) * 128 + 1 * a.val = 128 * t.val + a.val
    rw [(idx t).2.2.2.2.2.2.1]; omega
  | ⟨1, _⟩ =>
    show win0_6.index t (1 : Fin 2) * 835 + 1 * b.val = b.val
    rw [(idx t).2.2.2.2.2.2.2]; omega

theorem block0 (t : Fin cfg0.N) (a : Fin 128) (b : Fin 835) :
    (iblk m c 0 t : Vec Ideal S128x835 .f32) (ix2 a b) = V m c main_v0 (ix2 (⟨128 * t.val + a.val, by have := lt_N t; omega⟩ : Fin 2048) b) :=
  congrArg (V m c main_v0) (emb0 t a b)

theorem block1 (t : Fin cfg0.N) (a : Fin 128) (b : Fin 835) :
    (iblk m c 1 t : Vec Ideal S128x835 .f32) (ix2 a b) = V m c main_v1 (ix2 (⟨128 * t.val + a.val, by have := lt_N t; omega⟩ : Fin 2048) b) :=
  congrArg (V m c main_v1) (emb1 t a b)

theorem block2 (t : Fin cfg0.N) (a : Fin 128) (b : Fin 835) :
    (iblk m c 2 t : Vec Ideal S128x835 .f32) (ix2 a b) = V m c main_v2 (ix2 (⟨128 * t.val + a.val, by have := lt_N t; omega⟩ : Fin 2048) b) :=
  congrArg (V m c main_v2) (emb2 t a b)

theorem block3 (t : Fin cfg0.N) (a : Fin 128) (b : Fin 835) :
    (iblk m c 3 t : Vec Ideal S128x835 .f32) (ix2 a b) = V m c main_v3 (ix2 (⟨128 * t.val + a.val, by have := lt_N t; omega⟩ : Fin 2048) b) :=
  congrArg (V m c main_v3) (emb3 t a b)

theorem whole4 (x0 x1 x2 x3 : Vec Ideal S128x835 .f32) : out0_4 x0 x1 x2 x3 = changes x1 x0 x2 x3 := by
  unfold out0_4
  rw [View.canon_unit_zero zeros]
  simp only [View.ld_unit_zero (S := S128x835) zeros]
  unfold k0_pay4 k0_pay3 k0_pay2 k0_pay1
  simp only [shapeCast_id]
  rfl

theorem flushes4 : ∀ t : Fin cfg0.N, (cfg0.win 4).flush t = true := (by decide +kernel : ∀ t : Fin grid0.N, _)

theorem out_block4 (t : Fin cfg0.N) :
    out0_4 (iblk m c 0 t) (iblk m c 1 t) (iblk m c 2 t) (iblk m c 3 t) =
      fun y => changes (V m c main_v1) (V m c main_v0) (V m c main_v2) (V m c main_v3) (((cfg0.win 4).blk t).view.emb y) := by
  funext y
  obtain ⟨a, b, rfl⟩ : ∃ a b, y = ix2 a b := ⟨y 0, y 1, (ix2_eta y).symm⟩
  rw [emb4, whole4]
  exact congr (congr (congrArg₂ (fun x y z u : EReal => change (F := Ideal) x y z u) (block1 m c t a b) (block0 m c t a b)) (block2 m c t a b)) (block3 m c t a b)

theorem cover4 (y : S2048x835.Idx) : ∃ t : Fin cfg0.N, (cfg0.win 4).flush t = true ∧ y ∈ ((cfg0.win 4).blk t).view.set := by
  obtain ⟨i, j, rfl⟩ : ∃ i j, y = ix2 i j := ⟨y 0, y 1, (ix2_eta y).symm⟩
  have hN : cfg0.N = 16 := N_0
  refine ⟨⟨i.val / 128, by omega⟩, flushes4 _, ?_⟩
  have e := emb4 ⟨i.val / 128, by omega⟩ ⟨i.val % 128, by omega⟩ j
  have e' : ix2 i j = _ := (congrArg₂ ix2 (Fin.ext (by dsimp only; omega)) rfl).trans e.symm
  rw [e']
  exact View.emb_mem_set _ _

theorem read_block4 (t : Fin cfg0.N) (G : Vec Ideal S2048x835 .f32) :
    (cfg0.win 4).cut (grid0.coords t) (fun y => G (((cfg0.win 4).blk t).view.emb y)) =
      ((cfg0.win 4).blk t).view.read (Elt Ideal) G := rfl

/-- The result after the run. -/
theorem final4 : (dats m 0 c).arrAt 4 cfg0.N = changes (V m c main_v1) (V m c main_v0) (V m c main_v2) (V m c main_v3) := by
  refine (dats m 0 c).arrAt_eq_of_cover 4 _ (fun t _ => ?_) cover4
  rw [Value.flushed4, out_block4 m c t]
  exact read_block4 t _

theorem whole5 (x0 x1 x2 x3 : Vec Ideal S128x835 .f32) : out0_5 x0 x1 x2 x3 = firstMoments x0 x2 := by
  unfold out0_5
  rw [View.canon_unit_zero zeros]
  simp only [View.ld_unit_zero (S := S128x835) zeros]
  unfold k0_pay2 k0_pay1
  simp only [shapeCast_id]
  rfl

theorem flushes5 : ∀ t : Fin cfg0.N, (cfg0.win 5).flush t = true := (by decide +kernel : ∀ t : Fin grid0.N, _)

theorem out_block5 (t : Fin cfg0.N) :
    out0_5 (iblk m c 0 t) (iblk m c 1 t) (iblk m c 2 t) (iblk m c 3 t) =
      fun y => firstMoments (V m c main_v0) (V m c main_v2) (((cfg0.win 5).blk t).view.emb y) := by
  funext y
  obtain ⟨a, b, rfl⟩ : ∃ a b, y = ix2 a b := ⟨y 0, y 1, (ix2_eta y).symm⟩
  rw [emb5, whole5]
  exact congrArg₂ (fun x y : EReal => firstMoment (F := Ideal) x y) (block0 m c t a b) (block2 m c t a b)

theorem cover5 (y : S2048x835.Idx) : ∃ t : Fin cfg0.N, (cfg0.win 5).flush t = true ∧ y ∈ ((cfg0.win 5).blk t).view.set := by
  obtain ⟨i, j, rfl⟩ : ∃ i j, y = ix2 i j := ⟨y 0, y 1, (ix2_eta y).symm⟩
  have hN : cfg0.N = 16 := N_0
  refine ⟨⟨i.val / 128, by omega⟩, flushes5 _, ?_⟩
  have e := emb5 ⟨i.val / 128, by omega⟩ ⟨i.val % 128, by omega⟩ j
  have e' : ix2 i j = _ := (congrArg₂ ix2 (Fin.ext (by dsimp only; omega)) rfl).trans e.symm
  rw [e']
  exact View.emb_mem_set _ _

theorem read_block5 (t : Fin cfg0.N) (G : Vec Ideal S2048x835 .f32) :
    (cfg0.win 5).cut (grid0.coords t) (fun y => G (((cfg0.win 5).blk t).view.emb y)) =
      ((cfg0.win 5).blk t).view.read (Elt Ideal) G := rfl

/-- The result after the run. -/
theorem final5 : (dats m 0 c).arrAt 5 cfg0.N = firstMoments (V m c main_v0) (V m c main_v2) := by
  refine (dats m 0 c).arrAt_eq_of_cover 5 _ (fun t _ => ?_) cover5
  rw [Value.flushed5, out_block5 m c t]
  exact read_block5 t _

theorem whole6 (x0 x1 x2 x3 : Vec Ideal S128x835 .f32) : out0_6 x0 x1 x2 x3 = secondMoments x0 x3 := by
  unfold out0_6
  rw [View.canon_unit_zero zeros]
  simp only [View.ld_unit_zero (S := S128x835) zeros]
  unfold k0_pay3 k0_pay1
  simp only [shapeCast_id]
  rfl

theorem flushes6 : ∀ t : Fin cfg0.N, (cfg0.win 6).flush t = true := (by decide +kernel : ∀ t : Fin grid0.N, _)

theorem out_block6 (t : Fin cfg0.N) :
    out0_6 (iblk m c 0 t) (iblk m c 1 t) (iblk m c 2 t) (iblk m c 3 t) =
      fun y => secondMoments (V m c main_v0) (V m c main_v3) (((cfg0.win 6).blk t).view.emb y) := by
  funext y
  obtain ⟨a, b, rfl⟩ : ∃ a b, y = ix2 a b := ⟨y 0, y 1, (ix2_eta y).symm⟩
  rw [emb6, whole6]
  exact congrArg₂ (fun x y : EReal => secondMoment (F := Ideal) x y) (block0 m c t a b) (block3 m c t a b)

theorem cover6 (y : S2048x835.Idx) : ∃ t : Fin cfg0.N, (cfg0.win 6).flush t = true ∧ y ∈ ((cfg0.win 6).blk t).view.set := by
  obtain ⟨i, j, rfl⟩ : ∃ i j, y = ix2 i j := ⟨y 0, y 1, (ix2_eta y).symm⟩
  have hN : cfg0.N = 16 := N_0
  refine ⟨⟨i.val / 128, by omega⟩, flushes6 _, ?_⟩
  have e := emb6 ⟨i.val / 128, by omega⟩ ⟨i.val % 128, by omega⟩ j
  have e' : ix2 i j = _ := (congrArg₂ ix2 (Fin.ext (by dsimp only; omega)) rfl).trans e.symm
  rw [e']
  exact View.emb_mem_set _ _

theorem read_block6 (t : Fin cfg0.N) (G : Vec Ideal S2048x835 .f32) :
    (cfg0.win 6).cut (grid0.coords t) (fun y => G (((cfg0.win 6).blk t).view.emb y)) =
      ((cfg0.win 6).blk t).view.read (Elt Ideal) G := rfl

/-- The result after the run. -/
theorem final6 : (dats m 0 c).arrAt 6 cfg0.N = secondMoments (V m c main_v0) (V m c main_v3) := by
  refine (dats m 0 c).arrAt_eq_of_cover 6 _ (fun t _ => ?_) cover6
  rw [Value.flushed6, out_block6 m c t]
  exact read_block6 t _

end Cert.Proof.AdamA
-- ==== Proof.AdamAFinal.lean ====
/- The optimiser's update of the first mixer's input weights: the programs' results beside each other. -/
module

public import proofs.«01_k».proof.Defs
public import proofs.«01_k».proof.Proof.Update
public import proofs.«01_k».proof.Proof.AdamAValue
public import proofs.«01_k».proof.Proof.Gen.AdamAIdeal.Value
public import proofs.«01_k».proof.Proof.Gen.AdamARefIdeal.Run

@[expose] public section

set_option maxRecDepth 16384

noncomputable section

namespace Cert.Proof.AdamA

open Idealize.ShloMosaic Idealize.ShloMosaic.TcCoe Idealize.ShloMosaic.Pointwise Idealize.ShloMosaic.StableHlo Idealize.SL.Sem

section Reference

open Cert.AdamARefIdeal Cert.AdamARefIdeal.Gen

section Plain

variable {F : FTy → Type} [FloatOps F]

/-- The reference's new first moments. -/
def plain_first (g mo : Vec F S2x1024x835 .f32) : Vec F S2x1024x835 .f32 :=
  addf (mulf (broadcastInDim S2x1024x835 ![] bcast_S_S2x1024x835 (constant S_ .f32 0x3F666666#32)) mo) (mulf (broadcastInDim S2x1024x835 ![] bcast_S_S2x1024x835 (constant S_ .f32 0x3DCCCCCD#32)) g)

/-- The reference's new second moments. -/
def plain_second (g va : Vec F S2x1024x835 .f32) : Vec F S2x1024x835 .f32 :=
  addf (mulf (broadcastInDim S2x1024x835 ![] bcast_S_S2x1024x835 (constant S_ .f32 0x3F7FBE77#32)) va) (mulf (broadcastInDim S2x1024x835 ![] bcast_S_S2x1024x835 (constant S_ .f32 0x3A83126F#32)) (mulf g g))

/-- The reference's changes. -/
def plain_change (w g mo va : Vec F S2x1024x835 .f32) : Vec F S2x1024x835 .f32 :=
  mulf (broadcastInDim S2x1024x835 ![] bcast_S_S2x1024x835 (constant S_ .f32 0xBA83126F#32)) (addf (Host.divf (Host.divf (plain_first g mo) (broadcastInDim S2x1024x835 ![] bcast_S_S2x1024x835 (constant S_ .f32 0x3F26BD02#32)))
    (addf (Host.sqrt (Host.divf (plain_second g va) (broadcastInDim S2x1024x835 ![] bcast_S_S2x1024x835 (constant S_ .f32 0x3C231ACC#32)))) (broadcastInDim S2x1024x835 ![] bcast_S_S2x1024x835 (constant S_ .f32 0x322BCC77#32))))
    (mulf (broadcastInDim S2x1024x835 ![] bcast_S_S2x1024x835 (constant S_ .f32 0x3C23D70A#32)) w))

end Plain

theorem first_ref (g mo : Vec Ideal S2x1024x835 .f32) : plain_first g mo = firstMoments g mo := rfl

theorem second_ref (g va : Vec Ideal S2x1024x835 .f32) : plain_second g va = secondMoments g va := rfl

theorem change_ref (w g mo va : Vec Ideal S2x1024x835 .f32) : plain_change w g mo va = changes w g mo va := rfl

end Reference

section Kernel

open Cert.AdamAIdeal Cert.AdamAIdeal.Gen

/-- A weight's array with its first two axes as one. -/
abbrev rows (x : Vec Ideal S2x1024x835 .f32) : Vec Ideal S2048x835 .f32 :=
  shapeCast S2048x835 x shapeCasts_S2x1024x835_S2048x835

variable (m : (ℓ : Loc nD τ sig) → Buf (Elt Ideal) ℓ) (c : Dev nD)

theorem V_0 : V m c main_v0 = rows (m ((c : Thread nD τ).loc main_arg1)) := by
  unfold_abbrev_sides
  after_results
  rfl

theorem V_1 : V m c main_v1 = rows (m ((c : Thread nD τ).loc main_arg0)) := by
  unfold_abbrev_sides
  after_results
  rfl

theorem V_2 : V m c main_v2 = rows (m ((c : Thread nD τ).loc main_arg2)) := by
  unfold_abbrev_sides
  after_results
  rfl

theorem V_3 : V m c main_v3 = rows (m ((c : Thread nD τ).loc main_arg3)) := by
  unfold_abbrev_sides
  after_results
  rfl

theorem first_rows (g mo : Vec Ideal S2x1024x835 .f32) : firstMoments (rows g) (rows mo) = rows (firstMoments g mo) := rfl

theorem second_rows (g va : Vec Ideal S2x1024x835 .f32) : secondMoments (rows g) (rows va) = rows (secondMoments g va) := rfl

theorem change_rows (w g mo va : Vec Ideal S2x1024x835 .f32) :
    changes (rows w) (rows g) (rows mo) (rows va) = rows (changes w g mo va) := rfl

end Kernel

theorem quiescent_ref : Cert.quiescent_AdamARefIdeal := fun m ρ _ =>
  (θ_run Cert.AdamARefIdeal.defs _ _).mono (fun r h =>
      ⟨fun c => (h c).2.2.2, Idealize.ShloMosaic.sem_eq_zero_of_no_sems (by decide) r.2⟩)
    (Cert.AdamARefIdeal.Value.run (F := Ideal) m ρ)

theorem algebraic : Cert.algebraic_AdamAIdeal_AdamARefIdeal := fun m ρ m' ρ' _ hag =>
  ⟨fun c => rows (changes (m ((c : Thread Cert.AdamAIdeal.nD Cert.AdamAIdeal.τ).loc Cert.AdamAIdeal.main_arg0)) (m ((c : Thread Cert.AdamAIdeal.nD Cert.AdamAIdeal.τ).loc Cert.AdamAIdeal.main_arg1)) (m ((c : Thread Cert.AdamAIdeal.nD Cert.AdamAIdeal.τ).loc Cert.AdamAIdeal.main_arg2)) (m ((c : Thread Cert.AdamAIdeal.nD Cert.AdamAIdeal.τ).loc Cert.AdamAIdeal.main_arg3))),
    fun c => rows (firstMoments (m ((c : Thread Cert.AdamAIdeal.nD Cert.AdamAIdeal.τ).loc Cert.AdamAIdeal.main_arg1)) (m ((c : Thread Cert.AdamAIdeal.nD Cert.AdamAIdeal.τ).loc Cert.AdamAIdeal.main_arg2))),
    fun c => rows (secondMoments (m ((c : Thread Cert.AdamAIdeal.nD Cert.AdamAIdeal.τ).loc Cert.AdamAIdeal.main_arg1)) (m ((c : Thread Cert.AdamAIdeal.nD Cert.AdamAIdeal.τ).loc Cert.AdamAIdeal.main_arg3))),
    (θ_run Cert.AdamAIdeal.defs _ _).mono (fun _ h c => ⟨(h c).1.trans ((final4 m c).trans (by rw [V_0, V_1, V_2, V_3]; exact change_rows _ _ _ _)),
        (h c).2.1.trans ((final5 m c).trans (by rw [V_0, V_2]; exact first_rows _ _)),
        (h c).2.2.1.trans ((final6 m c).trans (by rw [V_0, V_3]; exact second_rows _ _)), (h c).2.2.2⟩)
      (Cert.AdamAIdeal.Value.run_blocks (F := Ideal) m ρ),
    (θ_run Cert.AdamARefIdeal.defs _ _).mono (fun _ h c => by
        obtain ⟨h0, h1, h2, h3⟩ := hag c
        exact ⟨(h c).1.trans ((congrArg rows (change_ref (m' ((c : Thread Cert.AdamARefIdeal.nD Cert.AdamARefIdeal.τ).loc Cert.AdamARefIdeal.main_arg0)) (m' ((c : Thread Cert.AdamARefIdeal.nD Cert.AdamARefIdeal.τ).loc Cert.AdamARefIdeal.main_arg1)) (m' ((c : Thread Cert.AdamARefIdeal.nD Cert.AdamARefIdeal.τ).loc Cert.AdamARefIdeal.main_arg2)) (m' ((c : Thread Cert.AdamARefIdeal.nD Cert.AdamARefIdeal.τ).loc Cert.AdamARefIdeal.main_arg3)))).trans (by rw [h0, h1, h2, h3])),
          (h c).2.1.trans ((congrArg rows (first_ref (m' ((c : Thread Cert.AdamARefIdeal.nD Cert.AdamARefIdeal.τ).loc Cert.AdamARefIdeal.main_arg1)) (m' ((c : Thread Cert.AdamARefIdeal.nD Cert.AdamARefIdeal.τ).loc Cert.AdamARefIdeal.main_arg2)))).trans (by rw [h1, h2])),
          (h c).2.2.1.trans ((congrArg rows (second_ref (m' ((c : Thread Cert.AdamARefIdeal.nD Cert.AdamARefIdeal.τ).loc Cert.AdamARefIdeal.main_arg1)) (m' ((c : Thread Cert.AdamARefIdeal.nD Cert.AdamARefIdeal.τ).loc Cert.AdamARefIdeal.main_arg3)))).trans (by rw [h1, h3])), (h c).2.2.2⟩)
      (Cert.AdamARefIdeal.Value.run (F := Ideal) m' ρ')⟩

end Cert.Proof.AdamA
-- ==== Proof.LayerNorm.lean ====
/- The layer norm of a row, as a function of the row. -/
module

public import proofs.«01_k».proof.Proof.Real

@[expose] public section

noncomputable section

namespace Cert.Proof

open Idealize.ShloMosaic

/-- The row's length, as the programs write it. -/
def width : EReal := Ideal.ofBits FTy.f32 0x44800000#32

/-- What the variance is raised by, as the programs write it. -/
def eps : EReal := Ideal.ofBits FTy.f32 0x3727C5AC#32

/-- The scale of the residual stream, as the programs write it. -/
def alpha : EReal := Ideal.ofBits FTy.f32 0x3FD744FD#32

/-- The residual stream with the block's output added. -/
def residual (h mix : Fin 1024 → EReal) (k : Fin 1024) : EReal := alpha * h k + mix k

/-- The mean of a row. -/
def mean (x : Fin 1024 → EReal) : EReal := Ideal.div (∑ k : Fin 1024, x k) width

/-- The row less its mean. -/
def centred (x : Fin 1024 → EReal) (k : Fin 1024) : EReal := x k - mean x

/-- The variance, raised. -/
def raised (x : Fin 1024 → EReal) : EReal := mean (fun k => centred x k * centred x k) + eps

/-- The reciprocal of the deviation. -/
def rstd (x : Fin 1024 → EReal) : EReal := Ideal.rsqrt (raised x)

/-- The normalised row. -/
def normal (x : Fin 1024 → EReal) (k : Fin 1024) : EReal := centred x k * rstd x

end Cert.Proof
-- ==== Proof.LnFwdFinal.lean ====
/- The layer norm forward: the programs' results beside each other. -/
module

public import proofs.«01_k».proof.Defs
public import proofs.«01_k».proof.Proof.Mlp
public import proofs.«01_k».proof.Proof.LayerNorm
public import proofs.«01_k».proof.Proof.Gen.LnFwdIdeal.Value
public import proofs.«01_k».proof.Proof.Gen.LnFwdRefIdeal.Run

@[expose] public section

set_option maxRecDepth 16384

noncomputable section

namespace Cert.Proof.LnFwd

open Idealize.ShloMosaic Idealize.ShloMosaic.TcCoe Idealize.ShloMosaic.Pointwise Idealize.ShloMosaic.StableHlo Idealize.SL.Sem

/-- A row of the sum of the residual stream and the block's output. -/
abbrev row {n : ℕ} (h mix : Vec Ideal ⟨2, ![n, 1024]⟩ .f32) (i : Fin n) : Fin 1024 → EReal := residual (of2 h i) (of2 mix i)

section Kernel

open Cert.LnFwdIdeal Cert.LnFwdIdeal.Gen

variable (h mix : Vec Ideal S512x1024 .f32) (g b : Vec Ideal S1x1024 .f32) (i : Fin 512) (j : Fin 1024)

theorem centred_at : k0_pay1 h mix (ix2 i j) = centred (row h mix i) j := by
  unfold k0_pay1 centred mean row residual of2
  pointwise!

theorem rstd_at : k0_pay2 h mix (ix2 i 0) = rstd (row h mix i) := by
  unfold k0_pay2
  pointwise
  simp only [centred_at]
  rfl

theorem normal_at : k0_pay3 h mix (ix2 i j) = normal (row h mix i) j := by
  unfold k0_pay3
  pointwise
  rw [centred_at, rstd_at]
  rfl

theorem scaled_at : k0_pay4 h mix g b (ix2 i j) = normal (row h mix i) j * g (ix2 0 j) + b (ix2 0 j) := by
  unfold k0_pay4
  pointwise
  rw [normal_at]

variable (m : (ℓ : Loc nD τ sig) → Buf (Elt Ideal) ℓ) (c : Dev nD)

/-- Which blocks a grid point takes and writes. -/
theorem idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem lt_N (t : Fin cfg0.N) : t.val < 32 := lt_of_lt_of_eq t.isLt N_0

/-- The array's row that is row `a` of point `t`'s block. -/
def at_row (t : Fin cfg0.N) (a : Fin 512) : Fin 16384 := ⟨512 * t.val + a.val, by have := lt_N t; omega⟩

theorem h_block (t : Fin cfg0.N) (a : Fin 512) (k : Fin 1024) :
    iblk m c 0 t (ix2 a k) = m ((c : Thread nD τ).loc main_arg0) (ix2 (at_row t a) k) := by
  rw [← V_main_arg0 m c]
  refine congrArg (V m c main_arg0) (funext fun x => Fin.ext ?_)
  match x with
  | ⟨0, _⟩ =>
    show win0_0.index t (0 : Fin 2) * 512 + 1 * a.val = 512 * t.val + a.val
    rw [(idx t).1.1]; omega
  | ⟨1, _⟩ =>
    show win0_0.index t (1 : Fin 2) * 1024 + 1 * k.val = k.val
    rw [(idx t).1.2]; omega

theorem mix_block (t : Fin cfg0.N) (a : Fin 512) (k : Fin 1024) :
    iblk m c 1 t (ix2 a k) = m ((c : Thread nD τ).loc main_arg1) (ix2 (at_row t a) k) := by
  rw [← V_main_arg1 m c]
  refine congrArg (V m c main_arg1) (funext fun x => Fin.ext ?_)
  match x with
  | ⟨0, _⟩ =>
    show win0_1.index t (0 : Fin 2) * 512 + 1 * a.val = 512 * t.val + a.val
    rw [(idx t).2.1.1]; omega
  | ⟨1, _⟩ =>
    show win0_1.index t (1 : Fin 2) * 1024 + 1 * k.val = k.val
    rw [(idx t).2.1.2]; omega

section Host

variable {F : FTy → Type} [FloatOps F]

/-- A vector as a row. -/
def host_row (x : Vec F S1024 .f32) : Vec F S1x1024 .f32 := broadcastInDim S1x1024 ![1] bcast_S1024_S1x1024_1 x

end Host

theorem V_g : V m c main_v0 = host_row (m ((c : Thread nD τ).loc main_arg2)) := by
  unfold_abbrev_sides
  after_results
  rfl

theorem V_b : V m c main_v1 = host_row (m ((c : Thread nD τ).loc main_arg3)) := by
  unfold_abbrev_sides
  after_results
  rfl

theorem host_row_at (x : Vec Ideal S1024 .f32) (k : Fin 1024) : host_row x (ix2 0 k) = x (ix1 k) := by
  unfold host_row
  pointwise!

theorem g_block (t : Fin cfg0.N) (k : Fin 1024) :
    iblk m c 2 t (ix2 0 k) = m ((c : Thread nD τ).loc main_arg2) (ix1 k) := by
  refine Eq.trans ?_ ((congrFun (V_g m c) _).trans (host_row_at _ k))
  refine congrArg (V m c main_v0) (funext fun x => Fin.ext ?_)
  match x with
  | ⟨0, _⟩ =>
    show win0_2.index t (0 : Fin 2) * 1 + 1 * 0 = 0
    rw [(idx t).2.2.1.1]
  | ⟨1, _⟩ =>
    show win0_2.index t (1 : Fin 2) * 1024 + 1 * k.val = k.val
    rw [(idx t).2.2.1.2]; omega

theorem b_block (t : Fin cfg0.N) (k : Fin 1024) :
    iblk m c 3 t (ix2 0 k) = m ((c : Thread nD τ).loc main_arg3) (ix1 k) := by
  refine Eq.trans ?_ ((congrFun (V_b m c) _).trans (host_row_at _ k))
  refine congrArg (V m c main_v1) (funext fun x => Fin.ext ?_)
  match x with
  | ⟨0, _⟩ =>
    show win0_3.index t (0 : Fin 2) * 1 + 1 * 0 = 0
    rw [(idx t).2.2.2.1.1]
  | ⟨1, _⟩ =>
    show win0_3.index t (1 : Fin 2) * 1024 + 1 * k.val = k.val
    rw [(idx t).2.2.2.1.2]; omega

/-- The rows of the arguments. -/
def rows (i : Fin 16384) : Fin 1024 → EReal :=
  row (m ((c : Thread nD τ).loc main_arg0)) (m ((c : Thread nD τ).loc main_arg1)) i

/-- The normalised rows, scaled and shifted. -/
def scaled (i : Fin 16384) (j : Fin 1024) : EReal :=
  normal (rows m c i) j * m ((c : Thread nD τ).loc main_arg2) (ix1 j) + m ((c : Thread nD τ).loc main_arg3) (ix1 j)

theorem rows_block (t : Fin cfg0.N) (a : Fin 512) :
    row (iblk m c 0 t) (iblk m c 1 t) a = rows m c (at_row t a) := by
  funext k
  show alpha * _ + _ = alpha * _ + _
  exact congrArg₂ (fun x y : EReal => alpha * x + y) (h_block m c t a k) (mix_block m c t a k)

theorem scaled_block (t : Fin cfg0.N) (a : Fin 512) (j : Fin 1024) :
    normal (row (iblk m c 0 t) (iblk m c 1 t) a) j * iblk m c 2 t (ix2 0 j) + iblk m c 3 t (ix2 0 j) =
      scaled m c (at_row t a) j := by
  rw [rows_block]
  exact congrArg₂ (fun x y : EReal => normal (rows m c (at_row t a)) j * x + y) (g_block m c t j) (b_block m c t j)

theorem emb4 (t : Fin cfg0.N) (a : Fin 512) (j : Fin 1024) :
    ((cfg0.win 4).blk t).view.emb (ix2 a j) = ix2 (at_row t a) j := by
  refine funext fun x => Fin.ext ?_
  match x with
  | ⟨0, _⟩ =>
    show win0_4.index t (0 : Fin 2) * 512 + 1 * a.val = 512 * t.val + a.val
    rw [(idx t).2.2.2.2.1.1]; omega
  | ⟨1, _⟩ =>
    show win0_4.index t (1 : Fin 2) * 1024 + 1 * j.val = j.val
    rw [(idx t).2.2.2.2.1.2]; omega

omit i j in
theorem whole4 : out0_4 h mix g b = k0_pay4 h mix g b := by
  unfold out0_4
  rw [View.canon_unit_zero zeros]
  simp only [View.ld_unit_zero (S := S512x1024) zeros, View.ld_unit_zero (S := S1x1024) zeros]

theorem flushes4 : ∀ t : Fin cfg0.N, (cfg0.win 4).flush t = true := (by decide +kernel : ∀ t : Fin grid0.N, _)

theorem out_block4 (t : Fin cfg0.N) :
    out0_4 (iblk m c 0 t) (iblk m c 1 t) (iblk m c 2 t) (iblk m c 3 t) =
      fun y => arr2 (φ := .f32) (scaled m c) (((cfg0.win 4).blk t).view.emb y) := by
  funext y
  obtain ⟨a, j, rfl⟩ : ∃ a j, y = ix2 a j := ⟨y 0, y 1, (ix2_eta y).symm⟩
  rw [emb4, arr2_at, whole4]
  exact (scaled_at _ _ _ _ a j).trans (scaled_block m c t a j)

theorem cover4 (y : S16384x1024.Idx) : ∃ t : Fin cfg0.N, (cfg0.win 4).flush t = true ∧ y ∈ ((cfg0.win 4).blk t).view.set := by
  obtain ⟨i, j, rfl⟩ : ∃ i j, y = ix2 i j := ⟨y 0, y 1, (ix2_eta y).symm⟩
  have hN : cfg0.N = 32 := N_0
  refine ⟨⟨i.val / 512, by omega⟩, flushes4 _, ?_⟩
  have e := emb4 ⟨i.val / 512, by omega⟩ ⟨i.val % 512, by omega⟩ j
  have e' : ix2 i j = _ := (congrArg₂ ix2 (Fin.ext (by unfold at_row; dsimp only; omega)) rfl).trans e.symm
  rw [e']
  exact View.emb_mem_set _ _

theorem read_block4 (t : Fin cfg0.N) (G : Vec Ideal S16384x1024 .f32) :
    (cfg0.win 4).cut (grid0.coords t) (fun y => G (((cfg0.win 4).blk t).view.emb y)) =
      ((cfg0.win 4).blk t).view.read (Elt Ideal) G := rfl

/-- The result in float32 after the run. -/
theorem final4 : (dats m 0 c).arrAt 4 cfg0.N = arr2 (φ := .f32) (scaled m c) := by
  refine (dats m 0 c).arrAt_eq_of_cover 4 _ (fun t _ => ?_) cover4
  rw [Value.flushed4, out_block4 m c t]
  exact read_block4 t _

theorem emb5 (t : Fin cfg0.N) (a : Fin 512) (j : Fin 1024) :
    ((cfg0.win 5).blk t).view.emb (ix2 a j) = ix2 (at_row t a) j := by
  refine funext fun x => Fin.ext ?_
  match x with
  | ⟨0, _⟩ =>
    show win0_5.index t (0 : Fin 2) * 512 + 1 * a.val = 512 * t.val + a.val
    rw [(idx t).2.2.2.2.2.1.1]; omega
  | ⟨1, _⟩ =>
    show win0_5.index t (1 : Fin 2) * 1024 + 1 * j.val = j.val
    rw [(idx t).2.2.2.2.2.1.2]; omega

omit i j in
theorem whole5 : out0_5 h mix g b = k0_pay5 h mix g b := by
  unfold out0_5
  rw [View.canon_unit_zero zeros]
  simp only [View.ld_unit_zero (S := S512x1024) zeros, View.ld_unit_zero (S := S1x1024) zeros]

theorem flushes5 : ∀ t : Fin cfg0.N, (cfg0.win 5).flush t = true := (by decide +kernel : ∀ t : Fin grid0.N, _)

theorem out_block5 (t : Fin cfg0.N) :
    out0_5 (iblk m c 0 t) (iblk m c 1 t) (iblk m c 2 t) (iblk m c 3 t) =
      fun y => arr2 (φ := .bf16) (scaled m c) (((cfg0.win 5).blk t).view.emb y) := by
  funext y
  obtain ⟨a, j, rfl⟩ : ∃ a j, y = ix2 a j := ⟨y 0, y 1, (ix2_eta y).symm⟩
  rw [emb5, arr2_at, whole5]
  exact (scaled_at _ _ _ _ a j).trans (scaled_block m c t a j)

theorem cover5 (y : S16384x1024.Idx) : ∃ t : Fin cfg0.N, (cfg0.win 5).flush t = true ∧ y ∈ ((cfg0.win 5).blk t).view.set := by
  obtain ⟨i, j, rfl⟩ : ∃ i j, y = ix2 i j := ⟨y 0, y 1, (ix2_eta y).symm⟩
  have hN : cfg0.N = 32 := N_0
  refine ⟨⟨i.val / 512, by omega⟩, flushes5 _, ?_⟩
  have e := emb5 ⟨i.val / 512, by omega⟩ ⟨i.val % 512, by omega⟩ j
  have e' : ix2 i j = _ := (congrArg₂ ix2 (Fin.ext (by unfold at_row; dsimp only; omega)) rfl).trans e.symm
  rw [e']
  exact View.emb_mem_set _ _

theorem read_block5 (t : Fin cfg0.N) (G : Vec Ideal S16384x1024 .bf16) :
    (cfg0.win 5).cut (grid0.coords t) (fun y => G (((cfg0.win 5).blk t).view.emb y)) =
      ((cfg0.win 5).blk t).view.read (Elt Ideal) G := rfl

/-- The result in bf16 after the run. -/
theorem final5 : (dats m 0 c).arrAt 5 cfg0.N = arr2 (φ := .bf16) (scaled m c) := by
  refine (dats m 0 c).arrAt_eq_of_cover 5 _ (fun t _ => ?_) cover5
  rw [Value.flushed5, out_block5 m c t]
  exact read_block5 t _

theorem emb6 (t : Fin cfg0.N) (a : Fin 512) (j : Fin 1024) :
    ((cfg0.win 6).blk t).view.emb (ix2 a j) = ix2 (at_row t a) j := by
  refine funext fun x => Fin.ext ?_
  match x with
  | ⟨0, _⟩ =>
    show win0_6.index t (0 : Fin 2) * 512 + 1 * a.val = 512 * t.val + a.val
    rw [(idx t).2.2.2.2.2.2.1.1]; omega
  | ⟨1, _⟩ =>
    show win0_6.index t (1 : Fin 2) * 1024 + 1 * j.val = j.val
    rw [(idx t).2.2.2.2.2.2.1.2]; omega

omit i j in
theorem whole6 : out0_6 h mix g b = k0_pay3 h mix := by
  unfold out0_6
  rw [View.canon_unit_zero zeros]
  simp only [View.ld_unit_zero (S := S512x1024) zeros]

theorem flushes6 : ∀ t : Fin cfg0.N, (cfg0.win 6).flush t = true := (by decide +kernel : ∀ t : Fin grid0.N, _)

theorem out_block6 (t : Fin cfg0.N) :
    out0_6 (iblk m c 0 t) (iblk m c 1 t) (iblk m c 2 t) (iblk m c 3 t) =
      fun y => arr2 (φ := .f32) (fun i j => normal (rows m c i) j) (((cfg0.win 6).blk t).view.emb y) := by
  funext y
  obtain ⟨a, j, rfl⟩ : ∃ a j, y = ix2 a j := ⟨y 0, y 1, (ix2_eta y).symm⟩
  rw [emb6, arr2_at, whole6]
  exact (normal_at _ _ a j).trans (congrArg (fun x => normal x j) (rows_block m c t a))

theorem cover6 (y : S16384x1024.Idx) : ∃ t : Fin cfg0.N, (cfg0.win 6).flush t = true ∧ y ∈ ((cfg0.win 6).blk t).view.set := by
  obtain ⟨i, j, rfl⟩ : ∃ i j, y = ix2 i j := ⟨y 0, y 1, (ix2_eta y).symm⟩
  have hN : cfg0.N = 32 := N_0
  refine ⟨⟨i.val / 512, by omega⟩, flushes6 _, ?_⟩
  have e := emb6 ⟨i.val / 512, by omega⟩ ⟨i.val % 512, by omega⟩ j
  have e' : ix2 i j = _ := (congrArg₂ ix2 (Fin.ext (by unfold at_row; dsimp only; omega)) rfl).trans e.symm
  rw [e']
  exact View.emb_mem_set _ _

theorem read_block6 (t : Fin cfg0.N) (G : Vec Ideal S16384x1024 .f32) :
    (cfg0.win 6).cut (grid0.coords t) (fun y => G (((cfg0.win 6).blk t).view.emb y)) =
      ((cfg0.win 6).blk t).view.read (Elt Ideal) G := rfl

/-- The normalised rows after the run. -/
theorem final6 : (dats m 0 c).arrAt 6 cfg0.N = arr2 (φ := .f32) (fun i j => normal (rows m c i) j) := by
  refine (dats m 0 c).arrAt_eq_of_cover 6 _ (fun t _ => ?_) cover6
  rw [Value.flushed6, out_block6 m c t]
  exact read_block6 t _

theorem emb7 (t : Fin cfg0.N) (a : Fin 512) (j : Fin 1) :
    ((cfg0.win 7).blk t).view.emb (ix2 a j) = ix2 (at_row t a) j := by
  refine funext fun x => Fin.ext ?_
  match x with
  | ⟨0, _⟩ =>
    show win0_7.index t (0 : Fin 2) * 512 + 1 * a.val = 512 * t.val + a.val
    rw [(idx t).2.2.2.2.2.2.2.1]; omega
  | ⟨1, _⟩ =>
    show win0_7.index t (1 : Fin 2) * 1 + 1 * j.val = j.val
    rw [(idx t).2.2.2.2.2.2.2.2]; omega

omit i j in
theorem whole7 : out0_7 h mix g b = k0_pay2 h mix := by
  unfold out0_7
  rw [View.canon_unit_zero zeros]
  simp only [View.ld_unit_zero (S := S512x1024) zeros]

theorem flushes7 : ∀ t : Fin cfg0.N, (cfg0.win 7).flush t = true := (by decide +kernel : ∀ t : Fin grid0.N, _)

theorem out_block7 (t : Fin cfg0.N) :
    out0_7 (iblk m c 0 t) (iblk m c 1 t) (iblk m c 2 t) (iblk m c 3 t) =
      fun y => arr2 (φ := .f32) (fun i _ => rstd (rows m c i)) (((cfg0.win 7).blk t).view.emb y) := by
  funext y
  obtain ⟨a, j, rfl⟩ : ∃ a j, y = ix2 a j := ⟨y 0, y 1, (ix2_eta y).symm⟩
  rw [emb7, arr2_at, whole7]
  exact (by obtain rfl : j = 0 := Subsingleton.elim _ _; exact (rstd_at _ _ a).trans (congrArg rstd (rows_block m c t a)))

theorem cover7 (y : S16384x1.Idx) : ∃ t : Fin cfg0.N, (cfg0.win 7).flush t = true ∧ y ∈ ((cfg0.win 7).blk t).view.set := by
  obtain ⟨i, j, rfl⟩ : ∃ i j, y = ix2 i j := ⟨y 0, y 1, (ix2_eta y).symm⟩
  have hN : cfg0.N = 32 := N_0
  refine ⟨⟨i.val / 512, by omega⟩, flushes7 _, ?_⟩
  have e := emb7 ⟨i.val / 512, by omega⟩ ⟨i.val % 512, by omega⟩ j
  have e' : ix2 i j = _ := (congrArg₂ ix2 (Fin.ext (by unfold at_row; dsimp only; omega)) rfl).trans e.symm
  rw [e']
  exact View.emb_mem_set _ _

theorem read_block7 (t : Fin cfg0.N) (G : Vec Ideal S16384x1 .f32) :
    (cfg0.win 7).cut (grid0.coords t) (fun y => G (((cfg0.win 7).blk t).view.emb y)) =
      ((cfg0.win 7).blk t).view.read (Elt Ideal) G := rfl

/-- The reciprocals of the deviations after the run. -/
theorem final7 : (dats m 0 c).arrAt 7 cfg0.N = arr2 (φ := .f32) (fun i _ => rstd (rows m c i)) := by
  refine (dats m 0 c).arrAt_eq_of_cover 7 _ (fun t _ => ?_) cover7
  rw [Value.flushed7, out_block7 m c t]
  exact read_block7 t _

end Kernel

section Reference

open Cert.LnFwdRefIdeal Cert.LnFwdRefIdeal.Gen

section Plain

variable {F : FTy → Type} [FloatOps F] (h mix : Vec F S16384x1024 .f32) (g b : Vec F S1024 .f32)

/-- The reference's rows. -/
def plain_row : Vec F S16384x1024 .f32 :=
  addf (mulf (broadcastInDim S16384x1024 ![] bcast_S_S16384x1024 (constant S_ .f32 0x3FD744FD#32)) h) mix

/-- The rows less their means. -/
def plain_centred : Vec F S16384x1024 .f32 :=
  subf (plain_row h mix) (broadcastInDim S16384x1024 ![0, 1] bcast_S16384x1_S16384x1024_0_1
    (Host.divf (broadcastInDim S16384x1 ![0] bcast_S16384_S16384x1_0
      (Host.reduceAdd (plain_row h mix) (constant S_ .f32 0x00000000#32) reducesTo_S16384x1024_S16384_d1 h_S_))
      (broadcastInDim S16384x1 ![] bcast_S_S16384x1 (constant S_ .f32 0x44800000#32))))

/-- The reciprocals of the deviations. -/
def plain_rstd : Vec F S16384x1 .f32 :=
  Host.rsqrt (addf (Host.divf (broadcastInDim S16384x1 ![0] bcast_S16384_S16384x1_0
      (Host.reduceAdd (mulf (plain_centred h mix) (plain_centred h mix)) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x3727C5AC#32)))

/-- The normalised rows. -/
def plain_normal : Vec F S16384x1024 .f32 :=
  mulf (plain_centred h mix) (broadcastInDim S16384x1024 ![0, 1] bcast_S16384x1_S16384x1024_0_1 (plain_rstd h mix))

/-- The normalised rows, scaled and shifted. -/
def plain_scaled : Vec F S16384x1024 .f32 :=
  addf (mulf (plain_normal h mix) (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 b))

end Plain

variable (h mix : Vec Ideal S16384x1024 .f32) (g b : Vec Ideal S1024 .f32) (i : Fin 16384) (j : Fin 1024)

theorem centred_ref : plain_centred h mix (ix2 i j) = centred (row h mix i) j := by
  unfold plain_centred plain_row centred mean row residual of2
  pointwise!

theorem rstd_ref : plain_rstd h mix (ix2 i 0) = rstd (row h mix i) := by
  unfold plain_rstd
  pointwise
  simp only [centred_ref]
  rfl

theorem normal_ref : plain_normal h mix (ix2 i j) = normal (row h mix i) j := by
  unfold plain_normal
  pointwise
  rw [centred_ref, rstd_ref]
  rfl

theorem scaled_ref : plain_scaled h mix g b (ix2 i j) = normal (row h mix i) j * g (ix1 j) + b (ix1 j) := by
  unfold plain_scaled
  pointwise
  rw [normal_ref]

end Reference

theorem quiescent_ref : Cert.quiescent_LnFwdRefIdeal := fun m ρ _ =>
  (θ_run Cert.LnFwdRefIdeal.defs _ _).mono (fun r h =>
      ⟨fun c => (h c).2.2.2.2, Idealize.ShloMosaic.sem_eq_zero_of_no_sems (by decide) r.2⟩)
    (Cert.LnFwdRefIdeal.Value.run (F := Ideal) m ρ)

theorem algebraic : Cert.algebraic_LnFwdIdeal_LnFwdRefIdeal := fun m ρ m' ρ' _ hag =>
  ⟨fun c => arr2 (φ := .f32) (scaled m c), fun c => arr2 (φ := .bf16) (scaled m c),
    fun c => arr2 (φ := .f32) fun i j => normal (rows m c i) j, fun c => arr2 (φ := .f32) fun i _ => rstd (rows m c i),
    (θ_run Cert.LnFwdIdeal.defs _ _).mono (fun _ h c => ⟨(h c).1.trans (final4 m c),
        (h c).2.1.trans (final5 m c), (h c).2.2.1.trans (final6 m c), (h c).2.2.2.1.trans (final7 m c), (h c).2.2.2.2⟩)
      (Cert.LnFwdIdeal.Value.run_blocks (F := Ideal) m ρ),
    (θ_run Cert.LnFwdRefIdeal.defs _ _).mono (fun _ h c => by
        obtain ⟨h0, h1, h2, h3⟩ := hag c
        have e0 : scaled m c = fun i j => plain_scaled (m' ((c : Thread Cert.LnFwdRefIdeal.nD Cert.LnFwdRefIdeal.τ).loc Cert.LnFwdRefIdeal.main_arg0)) (m' ((c : Thread Cert.LnFwdRefIdeal.nD Cert.LnFwdRefIdeal.τ).loc Cert.LnFwdRefIdeal.main_arg1)) (m' ((c : Thread Cert.LnFwdRefIdeal.nD Cert.LnFwdRefIdeal.τ).loc Cert.LnFwdRefIdeal.main_arg2)) (m' ((c : Thread Cert.LnFwdRefIdeal.nD Cert.LnFwdRefIdeal.τ).loc Cert.LnFwdRefIdeal.main_arg3)) (ix2 i j) := by
          funext i j
          rw [scaled_ref, h0, h1, h2, h3]
          rfl
        have e1 : (fun i j => normal (rows m c i) j) = fun i j => plain_normal (m' ((c : Thread Cert.LnFwdRefIdeal.nD Cert.LnFwdRefIdeal.τ).loc Cert.LnFwdRefIdeal.main_arg0)) (m' ((c : Thread Cert.LnFwdRefIdeal.nD Cert.LnFwdRefIdeal.τ).loc Cert.LnFwdRefIdeal.main_arg1)) (ix2 i j) := by
          funext i j
          rw [normal_ref, h0, h1]
          rfl
        have e2 : (fun i (j : Fin 1) => rstd (rows m c i)) = fun i j => plain_rstd (m' ((c : Thread Cert.LnFwdRefIdeal.nD Cert.LnFwdRefIdeal.τ).loc Cert.LnFwdRefIdeal.main_arg0)) (m' ((c : Thread Cert.LnFwdRefIdeal.nD Cert.LnFwdRefIdeal.τ).loc Cert.LnFwdRefIdeal.main_arg1)) (ix2 i j) := by
          funext i j
          obtain rfl : j = 0 := Subsingleton.elim _ _
          rw [rstd_ref, h0, h1]
          rfl
        exact ⟨(h c).1.trans (eq_arr2 _ _ fun i j => (congrFun (congrFun e0 i) j).symm),
          (h c).2.1.trans (eq_arr2 _ _ fun i j => (congrFun (congrFun e0 i) j).symm),
          (h c).2.2.1.trans (eq_arr2 _ _ fun i j => (congrFun (congrFun e1 i) j).symm),
          (h c).2.2.2.1.trans (eq_arr2 _ _ fun i j => (congrFun (congrFun e2 i) j).symm), (h c).2.2.2.2⟩)
      (Cert.LnFwdRefIdeal.Value.run (F := Ideal) m' ρ')⟩

end Cert.Proof.LnFwd
-- ==== Proof.LayerNormGrad.lean ====
/- The backward pass of a row's layer norm, in two forms, equal where the cotangent is finite. -/
module

public import proofs.«01_k».proof.Proof.Mlp
public import proofs.«01_k».proof.Proof.LayerNorm

@[expose] public section

noncomputable section

namespace Cert.Proof

open Idealize.ShloMosaic

variable (x p : Fin 1024 → EReal)

/-- The derivative of the row from the normalised row, `p` the cotangent of the normalised row. -/
def slope (k : Fin 1024) : EReal :=
  rstd x * ((p k - mean p) - normal x k * mean fun k => p k * normal x k)

/-- The cotangent of the variance, over the row's length. -/
def ofVariance : EReal :=
  Ideal.div ((∑ k : Fin 1024, centred x k * p k) * (Ideal.ofBits FTy.f32 0xBF000000#32 * Ideal.div (rstd x) (raised x))) width

/-- The cotangent of the mean, over the row's length. -/
def ofMean : EReal :=
  Ideal.div ((∑ k : Fin 1024, -(p k * rstd x)) + ∑ k : Fin 1024, -(ofVariance x p * (two * centred x k))) width

/-- The derivative of the row step by step: through the scaling, through the variance and through the mean. -/
def steps (k : Fin 1024) : EReal :=
  (p k * rstd x + ofVariance x p * (two * centred x k)) + ofMean x p

theorem width_eq : width = ((1024 : ℝ) : EReal) := by
  unfold width
  simp [Ideal.ofBits, Ideal.ieee]
  rw [← EReal.coe_mul]
  norm_num

theorem two_eq : two = ((2 : ℝ) : EReal) := by
  unfold two
  simp [Ideal.ofBits, Ideal.ieee]
  rw [← EReal.coe_mul]
  norm_num

theorem half_eq : Ideal.ofBits FTy.f32 0xBF000000#32 = ((-1 / 2 : ℝ) : EReal) := by
  simp [Ideal.ofBits, Ideal.ieee]
  rw [← EReal.coe_mul]
  norm_num

theorem eps_pos : ∃ e : ℝ, 0 < e ∧ eps = (e : EReal) := by
  unfold eps
  refine ⟨_, ?_, by simp [Ideal.ofBits, Ideal.ieee]; rfl⟩
  positivity

/-- A quotient of numbers is theirs. -/
theorem div_real {a b : ℝ} (h : b ≠ 0) : Ideal.div (a : EReal) (b : EReal) = ((a / b : ℝ) : EReal) := by
  rw [Ideal.div_coe h, ← EReal.coe_mul]
  exact congrArg _ (mul_one_div a b)

/-- The row's mean among the numbers. -/
theorem mean_real (r : Fin 1024 → ℝ) : mean (fun k => (r k : EReal)) = ((((∑ k, r k) / 1024 : ℝ)) : EReal) := by
  unfold mean
  rw [← coe_sum, width_eq, div_real (by norm_num)]

/-- Both forms among the numbers: `c` the row less its mean, `v` its variance raised, `s` the reciprocal of the deviation. -/
theorem forms_real (c q : Fin 1024 → ℝ) (v s : ℝ) (hc : ∑ k, c k = 0) (hv : v ≠ 0) (hs : s * s * v = 1) (k : Fin 1024) :
    (q k * s + (∑ k, c k * q k) * (-1 / 2 * (s / v)) / 1024 * (2 * c k))
        + ((∑ k, -(q k * s)) + ∑ j, -((∑ k, c k * q k) * (-1 / 2 * (s / v)) / 1024 * (2 * c j))) / 1024 =
      s * ((q k - (∑ k, q k) / 1024) - c k * s * ((∑ k, q k * (c k * s)) / 1024)) := by
  have e : s / v = s * s * s := by
    rw [div_eq_iff hv]
    linear_combination -s * hs
  have h1 : ∑ k, -(q k * s) = -(s * ∑ k, q k) := by
    rw [Finset.sum_neg_distrib, Finset.mul_sum]
    exact congrArg _ (Finset.sum_congr rfl fun k _ => mul_comm _ _)
  have h2 : ∑ j, -((∑ k, c k * q k) * (-1 / 2 * (s / v)) / 1024 * (2 * c j)) = 0 := by
    rw [Finset.sum_neg_distrib, ← Finset.mul_sum, ← Finset.mul_sum, hc]
    ring
  have h3 : ∑ k, q k * (c k * s) = s * ∑ k, c k * q k := by
    rw [Finset.mul_sum]
    exact Finset.sum_congr rfl fun k _ => by ring
  rw [h1, h2, h3, e]
  ring

theorem centred_sum (r : Fin 1024 → ℝ) : ∑ k, (r k - (∑ k, r k) / 1024) = 0 := by
  rw [Finset.sum_sub_distrib, Finset.sum_const, Finset.card_univ, Fintype.card_fin, nsmul_eq_mul]
  push_cast
  ring

/-- On finite rows the two forms agree. -/
theorem steps_finite (hx : ∀ k, IsReal (x k)) (hp : ∀ k, IsReal (p k)) (k : Fin 1024) : steps x p k = slope x p k := by
  choose r hr using hx
  choose q hq using hp
  obtain rfl : x = fun k => (r k : EReal) := funext hr
  obtain rfl : p = fun k => (q k : EReal) := funext hq
  obtain ⟨e, he, hee⟩ := eps_pos
  have hc : ∀ k, centred (fun k => (r k : EReal)) k = ((r k - (∑ k, r k) / 1024 : ℝ) : EReal) := fun k => by
    unfold centred
    rw [mean_real, ← EReal.coe_sub]
  obtain ⟨c, hcd⟩ : ∃ c : Fin 1024 → ℝ, c = fun k => r k - (∑ k, r k) / 1024 := ⟨_, rfl⟩
  have hc' : ∀ k, centred (fun k => (r k : EReal)) k = (c k : EReal) := fun k => by rw [hc, hcd]
  have hsum : ∑ k, c k = 0 := by rw [hcd]; exact centred_sum r
  obtain ⟨v, hvd⟩ : ∃ v : ℝ, v = (∑ k, c k * c k) / 1024 + e := ⟨_, rfl⟩
  have hv : raised (fun k => (r k : EReal)) = (v : EReal) := by
    unfold raised
    simp only [hc', ← EReal.coe_mul]
    rw [mean_real, hee, ← EReal.coe_add, hvd]
  have hpos : 0 < v := by
    rw [hvd]
    have : 0 ≤ ∑ k, c k * c k := Finset.sum_nonneg fun k _ => mul_self_nonneg _
    positivity
  have hs : rstd (fun k => (r k : EReal)) = (((Real.sqrt v)⁻¹ : ℝ) : EReal) := by
    unfold rstd
    rw [hv, Ideal.rsqrt_coe, if_neg (not_lt.mpr hpos.le), if_neg hpos.ne']
  have hss : (Real.sqrt v)⁻¹ * (Real.sqrt v)⁻¹ * v = 1 := by
    rw [← mul_inv, Real.mul_self_sqrt hpos.le, inv_mul_cancel₀ hpos.ne']
  have ht : ofVariance (fun k => (r k : EReal)) (fun k => (q k : EReal)) =
      (((∑ k, c k * q k) * (-1 / 2 * ((Real.sqrt v)⁻¹ / v)) / 1024 : ℝ) : EReal) := by
    unfold ofVariance
    simp only [hc', ← EReal.coe_mul, ← coe_sum]
    rw [hs, hv, half_eq, div_real hpos.ne', ← EReal.coe_mul, ← EReal.coe_mul, width_eq, div_real (by norm_num)]
  have hu := forms_real c q v (Real.sqrt v)⁻¹ hsum hpos.ne' hss k
  unfold steps slope ofMean normal
  rw [ht]
  simp only [hc', hs, two_eq, ← EReal.coe_mul, ← EReal.coe_neg, ← coe_sum, ← EReal.coe_add, mean_real, ← EReal.coe_sub]
  rw [width_eq, div_real (by norm_num), ← EReal.coe_add, hu]

theorem parts_real {x y : EReal} (h : IsReal (x + y)) : IsReal x ∧ IsReal y := by
  obtain ⟨r, hr⟩ := h
  induction x with
  | bot => simp at hr
  | top =>
    induction y with
    | bot => simp at hr
    | top => simp at hr
    | coe y => simp at hr
  | coe x =>
    induction y with
    | bot => simp at hr
    | top => simp at hr
    | coe y => exact ⟨⟨x, rfl⟩, ⟨y, rfl⟩⟩

theorem terms_real {ι : Type} [DecidableEq ι] (s : Finset ι) (f : ι → EReal) : IsReal (∑ i ∈ s, f i) → ∀ i ∈ s, IsReal (f i) := by
  induction s using Finset.induction_on with
  | empty => intro _ i hi; simp at hi
  | insert a s ha ih =>
    intro h i hi
    rw [Finset.sum_insert ha] at h
    obtain ⟨h1, h2⟩ := parts_real h
    rcases Finset.mem_insert.mp hi with rfl | hi
    · exact h1
    · exact ih h2 i hi

theorem infinite {x : EReal} (h : ¬IsReal x) : x = ⊤ ∨ x = ⊥ := by
  induction x with
  | bot => exact .inr rfl
  | top => exact .inl rfl
  | coe x => exact absurd ⟨x, rfl⟩ h

/-- Where an entry of the row is infinite, all of the row less its mean is. -/
theorem centred_infinite (hx : ¬∀ k, IsReal (x k)) (k : Fin 1024) : centred x k = ⊤ ∨ centred x k = ⊥ := by
  have hs : ¬IsReal (∑ k : Fin 1024, x k) := fun h => hx fun k => terms_real Finset.univ x h k (Finset.mem_univ k)
  have hm : mean x = ⊤ ∨ mean x = ⊥ := by
    unfold mean
    rw [width_eq, Ideal.div_coe (by norm_num)]
    rcases infinite hs with h | h
    · exact .inl (by rw [h, EReal.top_mul_coe_of_pos (by norm_num)])
    · exact .inr (by rw [h, EReal.bot_mul_coe_of_pos (by norm_num)])
  unfold centred
  rcases hm with h | h
  · rw [h]
    exact .inr (by rw [EReal.sub_top])
  · rw [h]
    generalize x k = y
    induction y with
    | bot => exact .inr (by simp)
    | top => exact .inl (by simp)
    | coe y => exact .inl (by simp)

/-- Such a row's deviation is infinite. -/
theorem raised_infinite (hx : ¬∀ k, IsReal (x k)) : raised x = ⊤ := by
  obtain ⟨e, -, hee⟩ := eps_pos
  have hq : ∀ k, centred x k * centred x k = ⊤ := fun k => by
    rcases centred_infinite x hx k with h | h <;> rw [h]
    · exact EReal.top_mul_top
    · exact EReal.bot_mul_bot
  unfold raised mean
  simp only [hq]
  have hs : ∑ _k : Fin 1024, (⊤ : EReal) = ⊤ := by
    rw [Finset.sum_const, Finset.card_univ, Fintype.card_fin, succ_nsmul]
    have : (1023 • (⊤ : EReal)) ≠ ⊥ := by
      have : (0 : EReal) ≤ 1023 • (⊤ : EReal) := nsmul_nonneg le_top _
      exact ne_bot_of_gt (lt_of_lt_of_le EReal.bot_lt_zero this)
    exact EReal.add_top_of_ne_bot this
  rw [hs, width_eq, Ideal.div_coe (by norm_num), EReal.top_mul_coe_of_pos (by norm_num), hee, EReal.top_add_coe]

/-- On a row with an infinite entry both forms are zero. -/
theorem steps_infinite (hx : ¬∀ k, IsReal (x k)) (k : Fin 1024) : steps x p k = slope x p k := by
  have hv := raised_infinite x hx
  have hr : rstd x = 0 := by
    unfold rstd
    rw [hv]
    rfl
  have ho : ofVariance x p = 0 := by
    unfold ofVariance
    rw [hr, hv, width_eq, Ideal.div_coe (by norm_num)]
    have : Ideal.div 0 ⊤ = 0 := by simp [Ideal.div]
    rw [this]
    simp
  have hm : ofMean x p = 0 := by
    unfold ofMean
    rw [hr, ho, width_eq, Ideal.div_coe (by norm_num)]
    simp
  unfold steps slope
  rw [hm, ho, hr]
  simp

/-- Where the cotangent is finite the two forms agree. -/
theorem steps_eq (hp : ∀ k, IsReal (p k)) (k : Fin 1024) : steps x p k = slope x p k := by
  by_cases hx : ∀ k, IsReal (x k)
  · exact steps_finite x p hx hp k
  · exact steps_infinite x p hx k

end Cert.Proof
-- ==== Proof.LnBwdValue.lean ====
/- The layer norm backward: what the kernel leaves in its results. -/
module

public import proofs.«01_k».proof.Proof.LayerNormGrad
public import proofs.«01_k».proof.Proof.LnFwdFinal
public import proofs.«01_k».proof.Proof.Gen.LnBwdIdeal.Value

@[expose] public section

set_option maxRecDepth 16384

noncomputable section

namespace Cert.Proof.LnBwd

open Cert.LnBwdIdeal Cert.LnBwdIdeal.Gen
open Idealize.ShloMosaic Idealize.ShloMosaic.TcCoe Idealize.ShloMosaic.Pointwise Idealize.ShloMosaic.StableHlo

section Pieces

variable {F : FTy → Type} [FloatOps F]
variable (c : Dev nD) (i : grid0.Coords) (arg1 : Memref sig .tc .vmem S512x1024 .f32) (harg1 : arg1.IsWhole)
    (arg2 : Memref sig .tc .vmem S512x1024 .f32) (harg2 : arg2.IsWhole) (arg3 : Memref sig .tc .vmem S512x1 .f32)
    (harg3 : arg3.IsWhole) (arg4 : Memref sig .tc .vmem S1x1024 .f32) (harg4 : arg4.IsWhole)
    (arg5 : Memref sig .tc .vmem S512x1024 .f32) (harg5 : arg5.IsWhole) (arg6 : Memref sig .tc .vmem S1x1024 .f32)
    (harg6 : arg6.IsWhole) (arg7 : Memref sig .tc .vmem S1x1024 .f32) (harg7 : arg7.IsWhole)
    (x0 x1 : Vec F S512x1024 .f32) (x2 : Vec F S512x1 .f32) (x3 xo5 xo6 : Vec F S1x1024 .f32)

/-- The first point's share of the derivative of the rows. -/
theorem first_dz (hc0 : cond0_0 i) :
    out0_A_4 c i arg1 harg1 arg2 harg2 arg3 harg3 arg4 harg4 arg5 harg5 arg6 harg6 arg7 harg7 hc0 x0 x1 x2 x3 = k0_pay5 x0 x1 x3 x2 := by
  unfold out0_A_4
  rw [View.read_writes_junk_eq_canon]
  unfold kernelRun0_A
  dsimp only
  sl_unfold_words
  simp only [View.readAt_eq_ld, harg1.read_unread, harg2.read_unread, harg3.read_unread, harg4.read_unread, harg6.read_unread, harg7.read_unread, View.readCov_unit_zero (S := S1x1024) _ zeros]
  rw [View.canon_cons_unit_zero zeros]
  simp only [View.ld_unit_zero (S := S512x1024) zeros, View.ld_unit_zero (S := S512x1) zeros, View.ld_unit_zero (S := S1x1024) zeros]

/-- A later point's share of the derivative of the rows. -/
theorem next_dz (hc0 : ¬cond0_0 i) :
    out0_B_4 c i arg1 harg1 arg2 harg2 arg3 harg3 arg4 harg4 arg5 harg5 arg6 harg6 arg7 harg7 hc0 x0 x1 x2 x3 xo5 xo6 = k0_pay5 x0 x1 x3 x2 := by
  unfold out0_B_4
  rw [View.read_writes_junk_eq_canon]
  unfold kernelRun0_B
  dsimp only
  sl_unfold_words
  simp only [View.readAt_eq_ld, harg1.read_unread, harg2.read_unread, harg3.read_unread, harg4.read_unread, harg6.read_unread, harg7.read_unread, View.readCov_unit_zero (S := S1x1024) _ zeros]
  rw [View.canon_cons_unit_zero zeros]
  simp only [View.ld_unit_zero (S := S512x1024) zeros, View.ld_unit_zero (S := S512x1) zeros, View.ld_unit_zero (S := S1x1024) zeros]

/-- The first point starts the sum for the scale from zero. -/
theorem first_dg (hc0 : cond0_0 i) :
    out0_A_5 c i arg1 harg1 arg2 harg2 arg3 harg3 arg4 harg4 arg5 harg5 arg6 harg6 arg7 harg7 hc0 x0 x1 x2 x3 = k0_pay6 x0 x1 k0_pay2 := by
  unfold out0_A_5
  rw [View.read_writes_junk_eq_canon]
  unfold kernelRun0_A
  dsimp only
  sl_unfold_words
  simp only [View.readAt_eq_ld, harg1.read_unread, harg2.read_unread, harg3.read_unread, harg4.read_unread, harg6.read_unread, harg7.read_unread, View.readCov_unit_zero (S := S1x1024) _ zeros]
  rw [View.canon_cons_unit_zero zeros]
  simp only [View.ld_unit_zero (S := S512x1024) zeros, View.ld_unit_zero (S := S512x1) zeros, View.ld_unit_zero (S := S1x1024) zeros]

/-- A later point adds to the sum for the scale. -/
theorem next_dg (hc0 : ¬cond0_0 i) :
    out0_B_5 c i arg1 harg1 arg2 harg2 arg3 harg3 arg4 harg4 arg5 harg5 arg6 harg6 arg7 harg7 hc0 x0 x1 x2 x3 xo5 xo6 = k0_pay6 x0 x1 xo5 := by
  unfold out0_B_5
  rw [View.read_writes_junk_eq_canon]
  unfold kernelRun0_B
  dsimp only
  sl_unfold_words
  simp only [View.readAt_eq_ld, harg1.read_unread, harg2.read_unread, harg3.read_unread, harg4.read_unread, harg6.read_unread, harg7.read_unread, View.readCov_unit_zero (S := S1x1024) _ zeros]
  rw [View.canon_cons_unit_zero zeros]
  simp only [View.ld_unit_zero (S := S512x1024) zeros, View.ld_unit_zero (S := S512x1) zeros, View.ld_unit_zero (S := S1x1024) zeros]

/-- The first point starts the sum for the shift from zero. -/
theorem first_db (hc0 : cond0_0 i) :
    out0_A_6 c i arg1 harg1 arg2 harg2 arg3 harg3 arg4 harg4 arg5 harg5 arg6 harg6 arg7 harg7 hc0 x0 x1 x2 x3 = k0_pay1 x0 k0_pay3 := by
  unfold out0_A_6
  rw [View.read_writes_junk_eq_canon]
  unfold kernelRun0_A
  dsimp only
  sl_unfold_words
  simp only [View.readAt_eq_ld, harg1.read_unread, harg2.read_unread, harg3.read_unread, harg4.read_unread, harg6.read_unread, harg7.read_unread, View.readCov_unit_zero (S := S1x1024) _ zeros]
  rw [View.canon_cons_unit_zero zeros]
  simp only [View.ld_unit_zero (S := S512x1024) zeros, View.ld_unit_zero (S := S512x1) zeros, View.ld_unit_zero (S := S1x1024) zeros]

/-- A later point adds to the sum for the shift. -/
theorem next_db (hc0 : ¬cond0_0 i) :
    out0_B_6 c i arg1 harg1 arg2 harg2 arg3 harg3 arg4 harg4 arg5 harg5 arg6 harg6 arg7 harg7 hc0 x0 x1 x2 x3 xo5 xo6 = k0_pay1 x0 xo6 := by
  unfold out0_B_6
  rw [View.read_writes_junk_eq_canon]
  unfold kernelRun0_B
  dsimp only
  sl_unfold_words
  simp only [View.readAt_eq_ld, harg1.read_unread, harg2.read_unread, harg3.read_unread, harg4.read_unread, harg6.read_unread, harg7.read_unread, View.readCov_unit_zero (S := S1x1024) _ zeros]
  rw [View.canon_cons_unit_zero zeros]
  simp only [View.ld_unit_zero (S := S512x1024) zeros, View.ld_unit_zero (S := S512x1) zeros, View.ld_unit_zero (S := S1x1024) zeros]

end Pieces

section Payloads

variable (dy xhat : Vec Ideal S512x1024 .f32) (rs : Vec Ideal S512x1 .f32) (g acc : Vec Ideal S1x1024 .f32)
    (i : Fin 512) (j : Fin 1024)

theorem dz_at : k0_pay5 dy xhat g rs (ix2 i j) =
    rs (ix2 i 0) * ((dy (ix2 i j) * g (ix2 0 j) - mean fun k => dy (ix2 i k) * g (ix2 0 k))
      - xhat (ix2 i j) * mean fun k => dy (ix2 i k) * g (ix2 0 k) * xhat (ix2 i k)) := by
  unfold k0_pay5 k0_pay4 mean
  pointwise!

theorem dg_at : k0_pay6 dy xhat acc (ix2 0 j) = acc (ix2 0 j) + ∑ a : Fin 512, dy (ix2 a j) * xhat (ix2 a j) := by
  unfold k0_pay6 k0_pay4
  pointwise!

theorem db_at : k0_pay1 dy acc (ix2 0 j) = acc (ix2 0 j) + ∑ a : Fin 512, dy (ix2 a j) := by
  unfold k0_pay1
  pointwise!

theorem zero_dg : (k0_pay2 : FVec Ideal S1x1024 .f32) (ix2 0 j) = 0 := by
  unfold k0_pay2
  pointwise!

theorem zero_db : (k0_pay3 : FVec Ideal S1x1024 .f32) (ix2 0 j) = 0 := by
  unfold k0_pay3
  pointwise!

end Payloads

variable (m : (ℓ : Loc nD τ sig) → Buf (Elt Ideal) ℓ) (c : Dev nD)

/-- The rows that were normalised. -/
def rows (i : Fin 16384) : Fin 1024 → EReal :=
  LnFwd.row (m ((c : Thread nD τ).loc main_arg0)) (m ((c : Thread nD τ).loc main_arg1)) i

/-- The cotangent of the layer norm. -/
def cot (i : Fin 16384) (j : Fin 1024) : EReal := m ((c : Thread nD τ).loc main_arg4) (ix2 i j)

/-- The scale. -/
def scale (j : Fin 1024) : EReal := m ((c : Thread nD τ).loc main_arg2) (ix1 j)

theorem V_rstd : V m c main_v16 = LnFwd.plain_rstd (m ((c : Thread nD τ).loc main_arg0)) (m ((c : Thread nD τ).loc main_arg1)) := by
  unfold_abbrev_sides
  after_results
  rfl

theorem V_normal : V m c main_v20 = LnFwd.plain_normal (m ((c : Thread nD τ).loc main_arg0)) (m ((c : Thread nD τ).loc main_arg1)) := by
  unfold_abbrev_sides
  after_results
  rfl

theorem V_g : V m c main_v21 = LnFwd.host_row (m ((c : Thread nD τ).loc main_arg2)) := by
  unfold_abbrev_sides
  after_results
  rfl

/-- Which blocks a grid point takes and writes. -/
theorem idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

theorem lt_N (t : Fin cfg0.N) : t.val < 32 := lt_of_lt_of_eq t.isLt N_0

/-- The array's row that is row `a` of point `t`'s block. -/
def at_row (t : Fin cfg0.N) (a : Fin 512) : Fin 16384 := ⟨512 * t.val + a.val, by have := lt_N t; omega⟩

/-- A point's rows of the cotangent. -/
abbrev dyB (t : Fin cfg0.N) : Vec Ideal S512x1024 .f32 := iblk m c 0 t

/-- A point's normalised rows. -/
abbrev xhatB (t : Fin cfg0.N) : Vec Ideal S512x1024 .f32 := iblk m c 1 t

/-- A point's reciprocals of the deviations. -/
abbrev rstdB (t : Fin cfg0.N) : Vec Ideal S512x1 .f32 := iblk m c 2 t

/-- The scale as a point reads it. -/
abbrev gB (t : Fin cfg0.N) : Vec Ideal S1x1024 .f32 := iblk m c 3 t

theorem cot_block (t : Fin cfg0.N) (a : Fin 512) (k : Fin 1024) : dyB m c t (ix2 a k) = cot m c (at_row t a) k := by
  unfold cot
  rw [← V_main_arg4 m c]
  refine congrArg (V m c main_arg4) (funext fun x => Fin.ext ?_)
  match x with
  | ⟨0, _⟩ =>
    show win0_0.index t (0 : Fin 2) * 512 + 1 * a.val = 512 * t.val + a.val
    rw [(idx t).1.1]; omega
  | ⟨1, _⟩ =>
    show win0_0.index t (1 : Fin 2) * 1024 + 1 * k.val = k.val
    rw [(idx t).1.2]; omega

theorem normal_block (t : Fin cfg0.N) (a : Fin 512) (k : Fin 1024) :
    xhatB m c t (ix2 a k) = normal (rows m c (at_row t a)) k := by
  refine Eq.trans ?_ ((congrFun (V_normal m c) _).trans (LnFwd.normal_ref _ _ (at_row t a) k))
  refine congrArg (V m c main_v20) (funext fun x => Fin.ext ?_)
  match x with
  | ⟨0, _⟩ =>
    show win0_1.index t (0 : Fin 2) * 512 + 1 * a.val = 512 * t.val + a.val
    rw [(idx t).2.1.1]; omega
  | ⟨1, _⟩ =>
    show win0_1.index t (1 : Fin 2) * 1024 + 1 * k.val = k.val
    rw [(idx t).2.1.2]; omega

theorem rstd_block (t : Fin cfg0.N) (a : Fin 512) : rstdB m c t (ix2 a 0) = rstd (rows m c (at_row t a)) := by
  refine Eq.trans ?_ ((congrFun (V_rstd m c) _).trans (LnFwd.rstd_ref _ _ (at_row t a)))
  refine congrArg (V m c main_v16) (funext fun x => Fin.ext ?_)
  match x with
  | ⟨0, _⟩ =>
    show win0_2.index t (0 : Fin 2) * 512 + 1 * a.val = 512 * t.val + a.val
    rw [(idx t).2.2.1.1]; omega
  | ⟨1, _⟩ =>
    show win0_2.index t (1 : Fin 2) * 1 + 1 * 0 = 0
    rw [(idx t).2.2.1.2]

theorem scale_block (t : Fin cfg0.N) (k : Fin 1024) : gB m c t (ix2 0 k) = scale m c k := by
  refine Eq.trans ?_ ((congrFun (V_g m c) _).trans (LnFwd.host_row_at _ k))
  refine congrArg (V m c main_v21) (funext fun x => Fin.ext ?_)
  match x with
  | ⟨0, _⟩ =>
    show win0_3.index t (0 : Fin 2) * 1 + 1 * 0 = 0
    rw [(idx t).2.2.2.1.1]
  | ⟨1, _⟩ =>
    show win0_3.index t (1 : Fin 2) * 1024 + 1 * k.val = k.val
    rw [(idx t).2.2.2.1.2]; omega

/-- The derivative of the rows. -/
def dz (i : Fin 16384) (j : Fin 1024) : EReal := slope (rows m c i) (fun k => cot m c i k * scale m c k) j

theorem dz_eq (t : Fin cfg0.N) (a : Fin 512) (j : Fin 1024) :
    k0_pay5 (dyB m c t) (xhatB m c t) (gB m c t) (rstdB m c t) (ix2 a j) = dz m c (at_row t a) j := by
  refine (dz_at _ _ _ _ a j).trans ?_
  have e0 : ∀ k, dyB m c t (ix2 a k) * gB m c t (ix2 0 k) = cot m c (at_row t a) k * scale m c k := fun k =>
    congrArg₂ (fun x y : EReal => x * y) (cot_block m c t a k) (scale_block m c t k)
  have e1 : ∀ k, xhatB m c t (ix2 a k) = normal (rows m c (at_row t a)) k := normal_block m c t a
  have e2 : rstdB m c t (ix2 a 0) = rstd (rows m c (at_row t a)) := rstd_block m c t a
  have f0 : (fun k => dyB m c t (ix2 a k) * gB m c t (ix2 0 k)) = fun k => cot m c (at_row t a) k * scale m c k := funext e0
  have f1 : (fun k => dyB m c t (ix2 a k) * gB m c t (ix2 0 k) * xhatB m c t (ix2 a k)) =
      fun k => cot m c (at_row t a) k * scale m c k * normal (rows m c (at_row t a)) k :=
    funext fun k => congrArg₂ (fun x y : EReal => x * y) (e0 k) (e1 k)
  exact congrArg₂ (fun x y : EReal => x * y) e2 (congrArg₂ (fun x y : EReal => x - y) (congrArg₂ (fun x y : EReal => x - y) (e0 j) (congrArg mean f0))
    (congrArg₂ (fun x y : EReal => x * y) (e1 j) (congrArg mean f1)))

theorem emb4 (t : Fin cfg0.N) (a : Fin 512) (j : Fin 1024) :
    ((cfg0.win 4).blk t).view.emb (ix2 a j) = ix2 (at_row t a) j := by
  refine funext fun x => Fin.ext ?_
  match x with
  | ⟨0, _⟩ =>
    show win0_4.index t (0 : Fin 2) * 512 + 1 * a.val = 512 * t.val + a.val
    rw [(idx t).2.2.2.2.1.1]; omega
  | ⟨1, _⟩ =>
    show win0_4.index t (1 : Fin 2) * 1024 + 1 * j.val = j.val
    rw [(idx t).2.2.2.2.1.2]; omega

theorem flushes4 : ∀ t : Fin cfg0.N, (cfg0.win 4).flush t = true := (by decide +kernel : ∀ t : Fin grid0.N, _)

theorem out4 (t : Fin cfg0.N) :
    (outsAt0 m c t.val t.isLt).1 = k0_pay5 (iblk m c 0 t) (iblk m c 1 t) (iblk m c 3 t) (iblk m c 2 t) := by
  by_cases h0 : t.val % 32 = 0
  · rw [outsAt0_A m c t h0]
    dsimp only
    rw [first_dz]
  · rw [outsAt0_B m c t h0]
    dsimp only
    rw [next_dz]

theorem out_block4 (t : Fin cfg0.N) :
    (outsAt0 m c t.val t.isLt).1 = fun y => arr2 (φ := .f32) (dz m c) (((cfg0.win 4).blk t).view.emb y) := by
  funext y
  obtain ⟨a, j, rfl⟩ : ∃ a j, y = ix2 a j := ⟨y 0, y 1, (ix2_eta y).symm⟩
  rw [emb4, arr2_at, out4]
  exact dz_eq m c t a j

theorem cover4 (y : S16384x1024.Idx) : ∃ t : Fin cfg0.N, (cfg0.win 4).flush t = true ∧ y ∈ ((cfg0.win 4).blk t).view.set := by
  obtain ⟨i, j, rfl⟩ : ∃ i j, y = ix2 i j := ⟨y 0, y 1, (ix2_eta y).symm⟩
  have hN : cfg0.N = 32 := N_0
  refine ⟨⟨i.val / 512, by omega⟩, flushes4 _, ?_⟩
  have e := emb4 ⟨i.val / 512, by omega⟩ ⟨i.val % 512, by omega⟩ j
  have e' : ix2 i j = _ := (congrArg₂ ix2 (Fin.ext (by unfold at_row; dsimp only; omega)) rfl).trans e.symm
  rw [e']
  exact View.emb_mem_set _ _

theorem read_block4 (t : Fin cfg0.N) (G : Vec Ideal S16384x1024 .f32) :
    (cfg0.win 4).cut (grid0.coords t) (fun y => G (((cfg0.win 4).blk t).view.emb y)) =
      ((cfg0.win 4).blk t).view.read (Elt Ideal) G := rfl

/-- The derivative of the rows after the run. -/
theorem final4 : (dats m 0 c).arrAt 4 cfg0.N = arr2 (φ := .f32) (dz m c) := by
  refine (dats m 0 c).arrAt_eq_of_cover 4 _ (fun t _ => ?_) cover4
  rw [Value.flushed4, out_block4 m c t]
  exact read_block4 t _

/-- What the rows add to the derivative of the scale. -/
def dg_row (i : Fin 16384) (j : Fin 1024) : EReal := cot m c i j * normal (rows m c i) j

theorem dg_part (t : Fin cfg0.N) (j : Fin 1024) :
    ∑ a : Fin 512, dyB m c t (ix2 a j) * xhatB m c t (ix2 a j) =
      ∑ a : Fin 512, mat (dg_row m c) (512 * t.val + a.val) j.val :=
  Finset.sum_congr rfl fun a _ => by
    refine Eq.trans ?_ (mat_of (dg_row m c) (at_row t a).isLt j.isLt).symm
    exact congrArg₂ (fun x y : EReal => x * y) (cot_block m c t a j) (normal_block m c t a j)

/-- The sum for the scale after a point: over the rows so far. -/
theorem dg_sum (n : ℕ) (h : n < cfg0.N) (j : Fin 1024) :
    (outsAt0 m c n h).2.1 (ix2 0 j) = ∑ k ∈ Finset.range (512 * (n + 1)), mat (dg_row m c) k j.val := by
  have hN : cfg0.N = 32 := N_0
  induction n with
  | zero =>
    rw [outsAt0_A m c ⟨0, h⟩ rfl]
    dsimp only
    rw [first_dg]
    refine (dg_at _ _ _ j).trans ?_
    rw [zero_dg, ← sum_last_block, mul_zero, Finset.sum_range_zero]
    exact congrArg _ (dg_part m c ⟨0, h⟩ j)
  | succ n ih =>
    rw [outsAt0_B m c ⟨n + 1, h⟩ (by dsimp only; omega)]
    dsimp only
    rw [next_dg]
    refine (dg_at _ _ _ j).trans ?_
    rw [← sum_last_block]
    exact congrArg₂ (fun x y : EReal => x + y) (ih (Nat.lt_of_succ_lt h)) (dg_part m c ⟨n + 1, h⟩ j)

/-- The derivative of the scale. -/
def dg (j : Fin 1024) : EReal := ∑ i : Fin 16384, dg_row m c i j

theorem emb5 (t : Fin cfg0.N) (j : Fin 1024) : ((cfg0.win 5).blk t).view.emb (ix2 0 j) = ix2 (0 : Fin 1) j := by
  refine funext fun x => Fin.ext ?_
  match x with
  | ⟨0, _⟩ =>
    show win0_5.index t (0 : Fin 2) * 1 + 1 * 0 = 0
    rw [(idx t).2.2.2.2.2.1.1]
  | ⟨1, _⟩ =>
    show win0_5.index t (1 : Fin 2) * 1024 + 1 * j.val = j.val
    rw [(idx t).2.2.2.2.2.1.2]; omega

theorem flushes5 : ∀ t : Fin cfg0.N, ((cfg0.win 5).flush t = true ↔ t.val = 31) := (by decide +kernel : ∀ t : Fin grid0.N, _)

theorem out_block5 (t : Fin cfg0.N) (ht : t.val = 31) :
    (outsAt0 m c t.val t.isLt).2.1 = fun y => arr2 (φ := .f32) (fun _ : Fin 1 => dg m c) (((cfg0.win 5).blk t).view.emb y) := by
  funext y
  obtain ⟨a, j, rfl⟩ : ∃ a j, y = ix2 a j := ⟨y 0, y 1, (ix2_eta y).symm⟩
  obtain rfl : a = 0 := Subsingleton.elim _ _
  rw [emb5, arr2_at, dg_sum, ht, Finset.sum_range]
  exact Finset.sum_congr rfl fun i _ => mat_of (dg_row m c) i.isLt j.isLt

theorem cover5 (y : S1x1024.Idx) : ∃ t : Fin cfg0.N, (cfg0.win 5).flush t = true ∧ y ∈ ((cfg0.win 5).blk t).view.set := by
  obtain ⟨a, j, rfl⟩ : ∃ a j, y = ix2 a j := ⟨y 0, y 1, (ix2_eta y).symm⟩
  obtain rfl : a = 0 := Subsingleton.elim _ _
  have hN : cfg0.N = 32 := N_0
  refine ⟨⟨31, by omega⟩, (flushes5 _).mpr rfl, ?_⟩
  have e : ix2 (0 : Fin 1) j = _ := (emb5 ⟨31, by omega⟩ j).symm
  rw [e]
  exact View.emb_mem_set _ _

theorem read_block5 (t : Fin cfg0.N) (G : Vec Ideal S1x1024 .f32) :
    (cfg0.win 5).cut (grid0.coords t) (fun y => G (((cfg0.win 5).blk t).view.emb y)) =
      ((cfg0.win 5).blk t).view.read (Elt Ideal) G := rfl

/-- The derivative of the scale after the run. -/
theorem final5 : (dats m 0 c).arrAt 5 cfg0.N = arr2 (φ := .f32) fun _ : Fin 1 => dg m c := by
  refine (dats m 0 c).arrAt_eq_of_cover 5 _ (fun t hf => ?_) cover5
  rw [Value.flushed5, out_block5 m c t ((flushes5 t).mp hf)]
  exact read_block5 t _

theorem db_part (t : Fin cfg0.N) (j : Fin 1024) :
    ∑ a : Fin 512, dyB m c t (ix2 a j) =
      ∑ a : Fin 512, mat (cot m c) (512 * t.val + a.val) j.val :=
  Finset.sum_congr rfl fun a _ => by
    refine Eq.trans ?_ (mat_of (cot m c) (at_row t a).isLt j.isLt).symm
    exact cot_block m c t a j

/-- The sum for the shift after a point: over the rows so far. -/
theorem db_sum (n : ℕ) (h : n < cfg0.N) (j : Fin 1024) :
    (outsAt0 m c n h).2.2 (ix2 0 j) = ∑ k ∈ Finset.range (512 * (n + 1)), mat (cot m c) k j.val := by
  have hN : cfg0.N = 32 := N_0
  induction n with
  | zero =>
    rw [outsAt0_A m c ⟨0, h⟩ rfl]
    dsimp only
    rw [first_db]
    refine (db_at _ _ j).trans ?_
    rw [zero_db, ← sum_last_block, mul_zero, Finset.sum_range_zero]
    exact congrArg _ (db_part m c ⟨0, h⟩ j)
  | succ n ih =>
    rw [outsAt0_B m c ⟨n + 1, h⟩ (by dsimp only; omega)]
    dsimp only
    rw [next_db]
    refine (db_at _ _ j).trans ?_
    rw [← sum_last_block]
    exact congrArg₂ (fun x y : EReal => x + y) (ih (Nat.lt_of_succ_lt h)) (db_part m c ⟨n + 1, h⟩ j)

/-- The derivative of the shift. -/
def db (j : Fin 1024) : EReal := ∑ i : Fin 16384, cot m c i j

theorem emb6 (t : Fin cfg0.N) (j : Fin 1024) : ((cfg0.win 6).blk t).view.emb (ix2 0 j) = ix2 (0 : Fin 1) j := by
  refine funext fun x => Fin.ext ?_
  match x with
  | ⟨0, _⟩ =>
    show win0_6.index t (0 : Fin 2) * 1 + 1 * 0 = 0
    rw [(idx t).2.2.2.2.2.2.1]
  | ⟨1, _⟩ =>
    show win0_6.index t (1 : Fin 2) * 1024 + 1 * j.val = j.val
    rw [(idx t).2.2.2.2.2.2.2]; omega

theorem flushes6 : ∀ t : Fin cfg0.N, ((cfg0.win 6).flush t = true ↔ t.val = 31) := (by decide +kernel : ∀ t : Fin grid0.N, _)

theorem out_block6 (t : Fin cfg0.N) (ht : t.val = 31) :
    (outsAt0 m c t.val t.isLt).2.2 = fun y => arr2 (φ := .f32) (fun _ : Fin 1 => db m c) (((cfg0.win 6).blk t).view.emb y) := by
  funext y
  obtain ⟨a, j, rfl⟩ : ∃ a j, y = ix2 a j := ⟨y 0, y 1, (ix2_eta y).symm⟩
  obtain rfl : a = 0 := Subsingleton.elim _ _
  rw [emb6, arr2_at, db_sum, ht, Finset.sum_range]
  exact Finset.sum_congr rfl fun i _ => mat_of (cot m c) i.isLt j.isLt

theorem cover6 (y : S1x1024.Idx) : ∃ t : Fin cfg0.N, (cfg0.win 6).flush t = true ∧ y ∈ ((cfg0.win 6).blk t).view.set := by
  obtain ⟨a, j, rfl⟩ : ∃ a j, y = ix2 a j := ⟨y 0, y 1, (ix2_eta y).symm⟩
  obtain rfl : a = 0 := Subsingleton.elim _ _
  have hN : cfg0.N = 32 := N_0
  refine ⟨⟨31, by omega⟩, (flushes6 _).mpr rfl, ?_⟩
  have e : ix2 (0 : Fin 1) j = _ := (emb6 ⟨31, by omega⟩ j).symm
  rw [e]
  exact View.emb_mem_set _ _

theorem read_block6 (t : Fin cfg0.N) (G : Vec Ideal S1x1024 .f32) :
    (cfg0.win 6).cut (grid0.coords t) (fun y => G (((cfg0.win 6).blk t).view.emb y)) =
      ((cfg0.win 6).blk t).view.read (Elt Ideal) G := rfl

/-- The derivative of the shift after the run. -/
theorem final6 : (dats m 0 c).arrAt 6 cfg0.N = arr2 (φ := .f32) fun _ : Fin 1 => db m c := by
  refine (dats m 0 c).arrAt_eq_of_cover 6 _ (fun t hf => ?_) cover6
  rw [Value.flushed6, out_block6 m c t ((flushes6 t).mp hf)]
  exact read_block6 t _

end Cert.Proof.LnBwd
-- ==== Proof.LnBwdFinal.lean ====
/- The layer norm backward: the programs' results beside each other. -/
module

public import proofs.«01_k».proof.Proof.LnBwdValue
public import proofs.«01_k».proof.Proof.Finite
public import proofs.«01_k».proof.Proof.Gen.Pre_ln_finite
public import proofs.«01_k».proof.Proof.Gen.LnBwdRefIdeal.Run

@[expose] public section

set_option maxRecDepth 16384

noncomputable section

namespace Cert.Proof.LnBwd

open Idealize.ShloMosaic Idealize.ShloMosaic.TcCoe Idealize.ShloMosaic.Pointwise Idealize.ShloMosaic.StableHlo Idealize.SL.Sem

section Reference

open Cert.LnBwdRefIdeal Cert.LnBwdRefIdeal.Gen
open LnFwd (plain_centred plain_rstd plain_normal centred_ref rstd_ref normal_ref)

section Plain

variable {F : FTy → Type} [FloatOps F] (h mix dy : Vec F S16384x1024 .f32) (g : Vec F S1024 .f32)

/-- The variances, raised. -/
def plain_raised : Vec F S16384x1 .f32 :=
  addf (Host.divf (broadcastInDim S16384x1 ![0] bcast_S16384_S16384x1_0
      (Host.reduceAdd (mulf (plain_centred h mix) (plain_centred h mix)) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x3727C5AC#32))

/-- The cotangent of the layer norm, reshaped to itself. -/
def plain_dy : Vec F S16384x1024 .f32 := shapeCast S16384x1024 dy shapeCasts_S16384x1024_S16384x1024

/-- The cotangent of the normalised rows. -/
def plain_cot : Vec F S16384x1024 .f32 :=
  mulf (plain_dy dy) (broadcastInDim S16384x1024 ![0, 1] bcast_S1x1024_S16384x1024_0_1 (broadcastInDim S1x1024 ![1] bcast_S1024_S1x1024_1 g))

/-- The cotangents of the variances, over the length. -/
def plain_ofVariance : Vec F S16384x1 .f32 :=
  Host.divf (mulf (shapeCast S16384x1 (Host.reduceAdd (mulf (plain_centred h mix) (plain_cot dy g)) (constant S_ .f32 0x00000000#32) reducesTo_S16384x1024_S16384_d1 h_S_) shapeCasts_S16384_S16384x1)
      (mulf (broadcastInDim S16384x1 ![] bcast_S_S16384x1 (constant S_ .f32 0xBF000000#32)) (Host.divf (plain_rstd h mix) (plain_raised h mix))))
    (broadcastInDim S16384x1 ![] bcast_S_S16384x1 (constant S_ .f32 0x44800000#32))

/-- What goes through the scaling. -/
def plain_scaling : Vec F S16384x1024 .f32 :=
  mulf (plain_cot dy g) (broadcastInDim S16384x1024 ![0, 1] bcast_S16384x1_S16384x1024_0_1 (plain_rstd h mix))

/-- What goes through the variances. -/
def plain_squares : Vec F S16384x1024 .f32 :=
  mulf (broadcastInDim S16384x1024 ![0] bcast_S16384_S16384x1024_0
      (Host.reduceAdd (plain_ofVariance h mix dy g) (constant S_ .f32 0x00000000#32) reducesTo_S16384x1_S16384_d1 h_S_))
    (mulf (broadcastInDim S16384x1024 ![] bcast_S_S16384x1024 (constant S_ .f32 0x40000000#32)) (plain_centred h mix))

/-- The cotangents of the means, over the length. -/
def plain_ofMean : Vec F S16384x1 .f32 :=
  Host.divf (addf
      (shapeCast S16384x1 (Host.reduceAdd (Host.negf (plain_scaling h mix dy g)) (constant S_ .f32 0x00000000#32) reducesTo_S16384x1024_S16384_d1 h_S_) shapeCasts_S16384_S16384x1)
      (shapeCast S16384x1 (Host.reduceAdd (Host.negf (plain_squares h mix dy g)) (constant S_ .f32 0x00000000#32) reducesTo_S16384x1024_S16384_d1 h_S_) shapeCasts_S16384_S16384x1))
    (broadcastInDim S16384x1 ![] bcast_S_S16384x1 (constant S_ .f32 0x44800000#32))

/-- The reference's derivative of the rows. -/
def plain_dz : Vec F S16384x1024 .f32 :=
  addf (addf (plain_scaling h mix dy g) (plain_squares h mix dy g))
    (broadcastInDim S16384x1024 ![0] bcast_S16384_S16384x1024_0
      (Host.reduceAdd (plain_ofMean h mix dy g) (constant S_ .f32 0x00000000#32) reducesTo_S16384x1_S16384_d1 h_S_))

/-- The reference's derivative of the scale. -/
def plain_dg : Vec F S1x1024 .f32 :=
  broadcastInDim S1x1024 ![1] bcast_S1024_S1x1024_1 (Host.reduceAdd (shapeCast S1x1024
    (Host.reduceAdd (mulf (plain_normal h mix) (plain_dy dy)) (constant S_ .f32 0x00000000#32) reducesTo_S16384x1024_S1024_d0 h_S_) shapeCasts_S1024_S1x1024)
    (constant S_ .f32 0x00000000#32) reducesTo_S1x1024_S1024_d0 h_S_)

/-- The reference's derivative of the shift. -/
def plain_db : Vec F S1x1024 .f32 :=
  broadcastInDim S1x1024 ![1] bcast_S1024_S1x1024_1 (Host.reduceAdd (shapeCast S1x1024
    (Host.reduceAdd dy (constant S_ .f32 0x00000000#32) reducesTo_S16384x1024_S1024_d0 h_S_) shapeCasts_S1024_S1x1024)
    (constant S_ .f32 0x00000000#32) reducesTo_S1x1024_S1024_d0 h_S_)

end Plain

variable (h mix dy : Vec Ideal S16384x1024 .f32) (g : Vec Ideal S1024 .f32) (i : Fin 16384) (j : Fin 1024)

/-- A row of the cotangent of the normalised rows. -/
abbrev cotRow (k : Fin 1024) : EReal := dy (ix2 i k) * g (ix1 k)

theorem raised_ref : plain_raised h mix (ix2 i 0) = raised (LnFwd.row h mix i) := by
  unfold plain_raised
  pointwise
  simp only [centred_ref]
  rfl

theorem dy_ref : plain_dy dy (ix2 i j) = dy (ix2 i j) := by
  unfold plain_dy
  pointwise!

theorem cot_ref : plain_cot dy g (ix2 i j) = cotRow dy g i j := by
  unfold plain_cot
  pointwise
  rw [dy_ref]

theorem ofVariance_ref : plain_ofVariance h mix dy g (ix2 i 0) = ofVariance (LnFwd.row h mix i) (cotRow dy g i) := by
  unfold plain_ofVariance
  pointwise
  simp only [centred_ref, cot_ref, rstd_ref, raised_ref]
  rfl

theorem scaling_ref : plain_scaling h mix dy g (ix2 i j) = cotRow dy g i j * rstd (LnFwd.row h mix i) := by
  unfold plain_scaling
  pointwise
  rw [cot_ref, rstd_ref]

theorem squares_ref : plain_squares h mix dy g (ix2 i j) =
    ofVariance (LnFwd.row h mix i) (cotRow dy g i) * (two * centred (LnFwd.row h mix i) j) := by
  unfold plain_squares
  pointwise
  simp only [centred_ref, Fin.sum_univ_one, ofVariance_ref]
  rfl

theorem ofMean_ref : plain_ofMean h mix dy g (ix2 i 0) = ofMean (LnFwd.row h mix i) (cotRow dy g i) := by
  unfold plain_ofMean
  pointwise
  simp only [scaling_ref, squares_ref]
  rfl

theorem dz_ref : plain_dz h mix dy g (ix2 i j) = steps (LnFwd.row h mix i) (cotRow dy g i) j := by
  unfold plain_dz
  pointwise
  simp only [scaling_ref, squares_ref, Fin.sum_univ_one, ofMean_ref]
  rfl

theorem dg_ref : plain_dg h mix dy (ix2 0 j) = ∑ i : Fin 16384, normal (LnFwd.row h mix i) j * dy (ix2 i j) := by
  unfold plain_dg
  pointwise
  simp only [normal_ref, dy_ref, Fin.sum_univ_one]

theorem db_ref : plain_db dy (ix2 0 j) = ∑ i : Fin 16384, dy (ix2 i j) := by
  unfold plain_db
  pointwise
  simp only [Fin.sum_univ_one]

set_option maxRecDepth 100000 in
theorem result_dz (m : (ℓ : Loc nD τ sig) → Buf (Elt Ideal) ℓ) (c : Dev nD) : Value.res_out0 m c =
    plain_dz (m ((c : Thread nD τ).loc main_arg0)) (m ((c : Thread nD τ).loc main_arg1)) (m ((c : Thread nD τ).loc main_arg4))
      (m ((c : Thread nD τ).loc main_arg2)) := by
  unfold Value.res_out0 Value.res_main_v65
  rfl

end Reference

theorem quiescent_ref : Cert.quiescent_LnBwdRefIdeal := fun m ρ _ =>
  (θ_run Cert.LnBwdRefIdeal.defs _ _).mono (fun r h =>
      ⟨fun c => (h c).2.2.2, Idealize.ShloMosaic.sem_eq_zero_of_no_sems (by decide) r.2⟩)
    (Cert.LnBwdRefIdeal.Value.run (F := Ideal) m ρ)

section Compare

open Cert.LnBwdIdeal

variable (m : (ℓ : Loc nD τ sig) → Buf (Elt Ideal) ℓ) (c : Dev nD)

/-- Where the cotangent and the scale are finite the two derivatives of the rows agree. -/
theorem dz_steps (hpre : Cert.Pre_LnBwdIdeal_ln_finite m) (i : Fin 16384) (j : Fin 1024) :
    steps (rows m c i) (fun k => cot m c i k * scale m c k) j = dz m c i j := by
  obtain ⟨h2, h3⟩ := hpre c
  refine steps_eq _ _ (fun k => .mul ?_ ?_) j
  · exact isReal_of_cmp _ _ h3 _ rfl
  · exact isReal_of_cmp _ _ h2 _ rfl

end Compare

theorem algebraic : Cert.algebraic_LnBwdIdeal_LnBwdRefIdeal_pre_ln_finite := fun m ρ m' ρ' hpre hag =>
  ⟨fun c => arr2 (φ := .f32) (dz m c), fun c => arr2 (φ := .f32) fun _ : Fin 1 => dg m c,
    fun c => arr2 (φ := .f32) fun _ : Fin 1 => db m c,
    (θ_run Cert.LnBwdIdeal.defs _ _).mono (fun _ h c => ⟨(h c).1.trans (final4 m c),
        (h c).2.1.trans (final5 m c), (h c).2.2.1.trans (final6 m c), (h c).2.2.2⟩)
      (Cert.LnBwdIdeal.Value.run_blocks (F := Ideal) m ρ),
    (θ_run Cert.LnBwdRefIdeal.defs _ _).mono (fun _ h c => by
        obtain ⟨h0, h1, h2, h3, h4⟩ := hag c
        have e0 : ∀ i j, Cert.LnBwdRefIdeal.Value.res_out0 m' c (ix2 i j) = dz m c i j := fun i j => by
          rw [result_dz, dz_ref, h0, h1, h2, h4]
          exact dz_steps m c hpre i j
        have e1 : ∀ (i : Fin 1) (j : Fin 1024), plain_dg (m' ((c : Thread Cert.LnBwdRefIdeal.nD Cert.LnBwdRefIdeal.τ).loc Cert.LnBwdRefIdeal.main_arg0))
            (m' ((c : Thread Cert.LnBwdRefIdeal.nD Cert.LnBwdRefIdeal.τ).loc Cert.LnBwdRefIdeal.main_arg1))
            (m' ((c : Thread Cert.LnBwdRefIdeal.nD Cert.LnBwdRefIdeal.τ).loc Cert.LnBwdRefIdeal.main_arg4)) (ix2 i j) = dg m c j := fun i j => by
          obtain rfl : i = 0 := Subsingleton.elim _ _
          rw [dg_ref, h0, h1, h4]
          exact Finset.sum_congr rfl fun i _ => mul_comm _ _
        have e2 : ∀ (i : Fin 1) (j : Fin 1024), plain_db (m' ((c : Thread Cert.LnBwdRefIdeal.nD Cert.LnBwdRefIdeal.τ).loc Cert.LnBwdRefIdeal.main_arg4)) (ix2 i j) = db m c j := fun i j => by
          obtain rfl : i = 0 := Subsingleton.elim _ _
          rw [db_ref, h4]
          rfl
        exact ⟨(h c).1.trans (eq_arr2 _ _ e0), (h c).2.1.trans (eq_arr2 _ _ e1), (h c).2.2.1.trans (eq_arr2 _ _ e2), (h c).2.2.2⟩)
      (Cert.LnBwdRefIdeal.Value.run (F := Ideal) m' ρ')⟩

end Cert.Proof.LnBwd
-- ==== Proof.Gate.lean ====
/- The gate of the recurrence's output: one head's row, normalised, scaled and gated. -/
module

public import proofs.«01_k».proof.Proof.Mlp
public import proofs.«01_k».proof.Proof.KernelBlock

@[expose] public section

noncomputable section

namespace Cert.Proof

open Idealize.ShloMosaic Idealize.ShloMosaic.TcCoe Idealize.ShloMosaic.Pointwise

/-- The length of a head's row, as the programs write it. -/
def headWidth : EReal := Ideal.ofBits FTy.f32 0x43000000#32

/-- What the mean of the squares is raised by, as the programs write it. -/
def headEps : EReal := Ideal.ofBits FTy.f32 0x358637BD#32

/-- The mean of a head's row. -/
def headMean (o : Fin 128 → EReal) : EReal := Ideal.div (∑ k : Fin 128, o k) headWidth

/-- The mean of the squares, raised. -/
def headRaised (o : Fin 128 → EReal) : EReal := headMean (fun k => o k * o k) + headEps

/-- The reciprocal of the root of the mean square. -/
def headScale (o : Fin 128 → EReal) : EReal := Ideal.rsqrt (headRaised o)

/-- The gate of an entry. -/
def silu (z : EReal) : EReal := z * Ideal.logistic z

/-- A head's row, normalised, scaled and gated. -/
def gated (o z w : Fin 128 → EReal) (k : Fin 128) : EReal := o k * headScale o * w k * silu (z k)

/-- A head's part of a row of the six heads. -/
def headPart (x : Fin 768 → EReal) (h : Fin 6) (k : Fin 128) : EReal := x ⟨128 * h.val + k.val, by omega⟩

/-- The head a column belongs to, and its place there. -/
def headOf (j : Fin 768) : Fin 6 := ⟨j.val / 128, by omega⟩
def placeOf (j : Fin 768) : Fin 128 := ⟨j.val % 128, by omega⟩

/-- A row of the six heads, each normalised, scaled and gated. -/
def gatedRow (o z : Fin 768 → EReal) (w : Fin 128 → EReal) (j : Fin 768) : EReal :=
  gated (headPart o (headOf j)) (headPart z (headOf j)) w (placeOf j)

theorem headOf_col (h : Fin 6) (k : Fin 128) : headOf (col h k) = h :=
  Fin.ext (show (128 * h.val + k.val) / 128 = h.val by omega)

theorem placeOf_col (h : Fin 6) (k : Fin 128) : placeOf (col h k) = k :=
  Fin.ext (show (128 * h.val + k.val) % 128 = k.val by omega)

theorem col_headOf (j : Fin 768) : col (headOf j) (placeOf j) = j :=
  Fin.ext (show 128 * (j.val / 128) + j.val % 128 = j.val by omega)

/-- A block of rows of the six heads, and of one head. -/
abbrev RowsBlock : Shape := ⟨2, ![1024, 768]⟩
abbrev HeadBlock : Shape := ⟨2, ![1024, 128]⟩

theorem inbG (h : Fin 6) : ∀ a, (![0, 128 * h.val] : Fin 2 → ℕ) a + HeadBlock.size a ≤ RowsBlock.size a := by
  revert h
  decide

/-- The columns of a head, of a block of rows. -/
abbrev rG (h : Fin 6) : Rect RowsBlock := .unit ![0, 128 * h.val] HeadBlock.size (inbG h)

theorem embG (h : Fin 6) (i : Fin 1024) (k : Fin 128) : (rG h).emb (ix2 i k) = ix2 i (col h k) := by
  refine funext fun x => Fin.ext ?_
  match x with
  | ⟨0, _⟩ => show 0 + 1 * i.val = i.val; omega
  | ⟨1, _⟩ => show 128 * h.val + 1 * k.val = 128 * h.val + k.val; omega

theorem ldG_at {φ : EltTy} (h : Fin 6) (x : Vec Ideal RowsBlock φ) (i : Fin 1024) (k : Fin 128) :
    View.ld x (rG h) (ix2 i k) = x (ix2 i (col h k)) := congrArg x (embG h i k)

/-- Heads in the order of their stores, the last store first. -/
def heads : List (Fin 6) := [5, 4, 3, 2, 1, 0]

theorem mem_heads (h : Fin 6) : h ∈ heads := by
  revert h
  decide

/-- A store for each head leaves the block its values say. -/
theorem canonG {F : FTy → Type} [FloatOps F] {φ : EltTy} (f : Fin 6 → HeadBlock.Idx → Elt F φ) (G : RowsBlock.Idx → Elt F φ)
    (hG : ∀ h i k, f h (ix2 i k) = G (ix2 i (col h k))) :
    View.canon (heads.map fun h => (⟨rG h, f h⟩ : View.Piece (Elt F) RowsBlock φ)) = G := by
  refine canon_pieces heads (fun h => rG h) (fun h => f h) G (fun h x => ?_) fun y => ?_
  · obtain ⟨i, k, rfl⟩ : ∃ i k, x = ix2 i k := ⟨x 0, x 1, (ix2_eta x).symm⟩
    exact (hG _ i k).trans (congrArg G (embG _ i k).symm)
  · obtain ⟨r, l, rfl⟩ : ∃ r l, y = ix2 r l := ⟨y 0, y 1, (ix2_eta y).symm⟩
    exact ⟨headOf l, mem_heads _, ix2 r (placeOf l), (embG _ _ _).trans (congrArg (ix2 r) (col_headOf l))⟩

end Cert.Proof

end
-- ==== Proof.GateFwdFinal.lean ====
/- The gate forward: the programs' results beside each other. -/
module

public import proofs.«01_k».proof.Defs
public import proofs.«01_k».proof.Proof.Gate
public import proofs.«01_k».proof.Proof.Gen.GateFwdIdeal.Value
public import proofs.«01_k».proof.Proof.Gen.GateFwdRefIdeal.Run

@[expose] public section

set_option maxRecDepth 16384

noncomputable section

namespace Cert.Proof.GateFwd

open Idealize.ShloMosaic Idealize.ShloMosaic.TcCoe Idealize.ShloMosaic.Pointwise Idealize.ShloMosaic.StableHlo Idealize.SL.Sem

section Kernel

open Cert.GateFwdIdeal Cert.GateFwdIdeal.Gen

section Block

variable {F : FTy → Type} [FloatOps F]

/-- A grid point's block, a store for each head. -/
theorem out_heads (o z : Vec F S1024x768 .f32) (w : Vec F S1x128 .f32) :
    out0_3 o z w = View.canon (heads.map fun h =>
      (⟨rG h, k0_pay2 (View.ld o (rG h)) (View.ld z (rG h)) (View.ld w r0_1)⟩ : View.Piece (Elt F) S1024x768 .f32)) := rfl

end Block

theorem head_at (o z : Vec Ideal S1024x128 .f32) (w : Vec Ideal S1x128 .f32) (i : Fin 1024) (k : Fin 128) :
    k0_pay2 o z w (ix2 i k) = gated (of2 o i) (of2 z i) (of2 w 0) k := by
  unfold k0_pay2
  pointwise
  rfl

/-- A grid point's block at an index. -/
theorem out_at (o z : Vec Ideal S1024x768 .f32) (w : Vec Ideal S1x128 .f32) (i : Fin 1024) (j : Fin 768) :
    out0_3 o z w (ix2 i j) = gatedRow (of2 o i) (of2 z i) (of2 w 0) j := by
  rw [out_heads]
  refine congrFun (canonG (F := Ideal) (φ := .f32) (fun h => k0_pay2 (View.ld o (rG h)) (View.ld z (rG h)) (View.ld w r0_1))
    (fun y => gatedRow (of2 o (y 0)) (of2 z (y 0)) (of2 w 0) (y 1)) fun h a k => ?_) (ix2 i j)
  rw [head_at]
  show _ = gatedRow (of2 o a) (of2 z a) (of2 w 0) (col h k)
  unfold gatedRow
  rw [headOf_col, placeOf_col, View.ld_unit_zero (S := S1x128) zeros]
  congr 1 <;> (funext l; exact ldG_at h _ a l)

variable (m : (ℓ : Loc nD τ sig) → Buf (Elt Ideal) ℓ) (c : Dev nD)

/-- Which blocks a grid point takes and writes. -/
theorem idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem lt_N (t : Fin cfg0.N) : t.val < 16 := lt_of_lt_of_eq t.isLt N_0

/-- The array's row that is row `a` of point `t`'s block. -/
def at_row (t : Fin cfg0.N) (a : Fin 1024) : Fin 16384 := ⟨1024 * t.val + a.val, by have := lt_N t; omega⟩

theorem o_block (t : Fin cfg0.N) (a : Fin 1024) (k : Fin 768) :
    iblk m c 0 t (ix2 a k) = m ((c : Thread nD τ).loc main_arg0) (ix2 (at_row t a) k) := by
  rw [← V_main_arg0 m c]
  refine congrArg (V m c main_arg0) (funext fun x => Fin.ext ?_)
  match x with
  | ⟨0, _⟩ =>
    show win0_0.index t (0 : Fin 2) * 1024 + 1 * a.val = 1024 * t.val + a.val
    rw [(idx t).1.1]; omega
  | ⟨1, _⟩ =>
    show win0_0.index t (1 : Fin 2) * 768 + 1 * k.val = k.val
    rw [(idx t).1.2]; omega

theorem z_block (t : Fin cfg0.N) (a : Fin 1024) (k : Fin 768) :
    iblk m c 1 t (ix2 a k) = m ((c : Thread nD τ).loc main_arg1) (ix2 (at_row t a) k) := by
  rw [← V_main_arg1 m c]
  refine congrArg (V m c main_arg1) (funext fun x => Fin.ext ?_)
  match x with
  | ⟨0, _⟩ =>
    show win0_1.index t (0 : Fin 2) * 1024 + 1 * a.val = 1024 * t.val + a.val
    rw [(idx t).2.1.1]; omega
  | ⟨1, _⟩ =>
    show win0_1.index t (1 : Fin 2) * 768 + 1 * k.val = k.val
    rw [(idx t).2.1.2]; omega

section Host

variable {F : FTy → Type} [FloatOps F]

/-- A vector as a row. -/
def host_row (x : Vec F S128 .f32) : Vec F S1x128 .f32 := broadcastInDim S1x128 ![1] bcast_S128_S1x128_1 x

end Host

theorem V_w : V m c main_v0 = host_row (m ((c : Thread nD τ).loc main_arg2)) := by
  unfold_abbrev_sides
  after_results
  rfl

theorem host_row_at (x : Vec Ideal S128 .f32) (k : Fin 128) : host_row x (ix2 0 k) = x (ix1 k) := by
  unfold host_row
  pointwise!

theorem w_block (t : Fin cfg0.N) (k : Fin 128) :
    iblk m c 2 t (ix2 0 k) = m ((c : Thread nD τ).loc main_arg2) (ix1 k) := by
  refine Eq.trans ?_ ((congrFun (V_w m c) _).trans (host_row_at _ k))
  refine congrArg (V m c main_v0) (funext fun x => Fin.ext ?_)
  match x with
  | ⟨0, _⟩ =>
    show win0_2.index t (0 : Fin 2) * 1 + 1 * 0 = 0
    rw [(idx t).2.2.1.1]
  | ⟨1, _⟩ =>
    show win0_2.index t (1 : Fin 2) * 128 + 1 * k.val = k.val
    rw [(idx t).2.2.1.2]; omega

/-- The rows, gated. -/
def result (i : Fin 16384) (j : Fin 768) : EReal :=
  gatedRow (of2 (m ((c : Thread nD τ).loc main_arg0) : Vec Ideal S16384x768 .f32) i)
    (of2 (m ((c : Thread nD τ).loc main_arg1) : Vec Ideal S16384x768 .f32) i)
    (fun k => m ((c : Thread nD τ).loc main_arg2) (ix1 k)) j

theorem emb (t : Fin cfg0.N) (a : Fin 1024) (j : Fin 768) :
    ((cfg0.win 3).blk t).view.emb (ix2 a j) = ix2 (at_row t a) j := by
  refine funext fun x => Fin.ext ?_
  match x with
  | ⟨0, _⟩ =>
    show win0_3.index t (0 : Fin 2) * 1024 + 1 * a.val = 1024 * t.val + a.val
    rw [(idx t).2.2.2.1]; omega
  | ⟨1, _⟩ =>
    show win0_3.index t (1 : Fin 2) * 768 + 1 * j.val = j.val
    rw [(idx t).2.2.2.2]; omega

theorem flushes : ∀ t : Fin cfg0.N, (cfg0.win 3).flush t = true := (by decide +kernel : ∀ t : Fin grid0.N, _)

theorem out_block (t : Fin cfg0.N) :
    out0_3 (iblk m c 0 t) (iblk m c 1 t) (iblk m c 2 t) =
      fun y => arr2 (φ := .f32) (result m c) (((cfg0.win 3).blk t).view.emb y) := by
  funext y
  obtain ⟨a, j, rfl⟩ : ∃ a j, y = ix2 a j := ⟨y 0, y 1, (ix2_eta y).symm⟩
  rw [emb, arr2_at]
  refine (out_at _ _ _ a j).trans ?_
  unfold result
  congr 1
  · funext k; exact o_block m c t a k
  · funext k; exact z_block m c t a k
  · funext k; exact w_block m c t k

theorem cover (y : S16384x768.Idx) : ∃ t : Fin cfg0.N, (cfg0.win 3).flush t = true ∧ y ∈ ((cfg0.win 3).blk t).view.set := by
  obtain ⟨i, j, rfl⟩ : ∃ i j, y = ix2 i j := ⟨y 0, y 1, (ix2_eta y).symm⟩
  have hN : cfg0.N = 16 := N_0
  refine ⟨⟨i.val / 1024, by omega⟩, flushes _, ?_⟩
  have e := emb ⟨i.val / 1024, by omega⟩ ⟨i.val % 1024, by omega⟩ j
  have e' : ix2 i j = _ := (congrArg₂ ix2 (Fin.ext (by unfold at_row; dsimp only; omega)) rfl).trans e.symm
  rw [e']
  exact View.emb_mem_set _ _

theorem read_block (t : Fin cfg0.N) (G : Vec Ideal S16384x768 .f32) :
    (cfg0.win 3).cut (grid0.coords t) (fun y => G (((cfg0.win 3).blk t).view.emb y)) =
      ((cfg0.win 3).blk t).view.read (Elt Ideal) G := rfl

/-- The gated rows after the run. -/
theorem final : (dats m 0 c).arrAt 3 cfg0.N = arr2 (φ := .f32) (result m c) := by
  refine (dats m 0 c).arrAt_eq_of_cover 3 _ (fun t _ => ?_) cover
  rw [Value.flushed3, out_block m c t]
  exact read_block t _

end Kernel

section Reference

open Cert.GateFwdRefIdeal Cert.GateFwdRefIdeal.Gen

section Plain

variable {F : FTy → Type} [FloatOps F] (o z : Vec F S16384x768 .f32) (w : Vec F S128 .f32)

/-- The six heads of the rows. -/
def plain_heads : Vec F S16384x6x128 .f32 := shapeCast S16384x6x128 o shapeCasts_S16384x768_S16384x6x128

/-- The reciprocals of the roots of the mean squares. -/
def plain_scale : Vec F S16384x6x1 .f32 :=
  Host.rsqrt (addf (Host.divf (broadcastInDim S16384x6x1 ![0, 1] bcast_S16384x6_S16384x6x1_0_1
      (Host.reduceAdd (mulf (plain_heads o) (plain_heads o)) (constant S_ .f32 0x00000000#32) reducesTo_S16384x6x128_S16384x6_d2 h_S_))
      (broadcastInDim S16384x6x1 ![] bcast_S_S16384x6x1 (constant S_ .f32 0x43000000#32)))
    (broadcastInDim S16384x6x1 ![] bcast_S_S16384x6x1 (constant S_ .f32 0x358637BD#32)))

/-- The gates. -/
def plain_silu : Vec F S16384x6x128 .f32 :=
  mulf (plain_heads z) (Host.divf (broadcastInDim S16384x6x128 ![] bcast_S_S16384x6x128 (constant S_ .f32 0x3F800000#32))
    (addf (broadcastInDim S16384x6x128 ![] bcast_S_S16384x6x128 (constant S_ .f32 0x3F800000#32)) (Host.exp (Host.negf (plain_heads z)))))

/-- The heads, gated. -/
def plain_gated : Vec F S16384x6x128 .f32 :=
  mulf (mulf (mulf (plain_heads o) (broadcastInDim S16384x6x128 ![0, 1, 2] bcast_S16384x6x1_S16384x6x128_0_1_2 (plain_scale o)))
    (broadcastInDim S16384x6x128 ![0, 1, 2] bcast_S1x1x128_S16384x6x128_0_1_2 (broadcastInDim S1x1x128 ![2] bcast_S128_S1x1x128_2 w)))
    (plain_silu z)

/-- The rows, gated. -/
def plain : Vec F S16384x768 .f32 := shapeCast S16384x768 (plain_gated o z w) shapeCasts_S16384x6x128_S16384x768

end Plain

variable (o z : Vec Ideal S16384x768 .f32) (w : Vec Ideal S128 .f32) (i : Fin 16384) (h : Fin 6) (k : Fin 128)

theorem heads_ref : plain_heads o (ix3 i h k) = o (ix2 i (col h k)) := by
  unfold plain_heads
  pointwise
  refine congrArg o (congrArg₂ ix2 (Fin.ext ?_) (Fin.ext ?_)) <;> simp only [col] <;> omega

theorem scale_ref : plain_scale o (ix3 i h 0) = headScale (headPart (of2 o i) h) := by
  unfold plain_scale
  pointwise
  simp only [heads_ref]
  rfl

theorem silu_ref : plain_silu z (ix3 i h k) = silu (z (ix2 i (col h k))) := by
  unfold plain_silu
  pointwise
  simp only [heads_ref]
  rfl

theorem gated_ref : plain_gated o z w (ix3 i h k) =
    gated (headPart (of2 o i) h) (headPart (of2 z i) h) (fun k => w (ix1 k)) k := by
  unfold plain_gated
  pointwise
  rw [heads_ref, scale_ref, silu_ref]
  rfl

theorem plain_ref (j : Fin 768) : plain o z w (ix2 i j) = gatedRow (of2 o i) (of2 z i) (fun k => w (ix1 k)) j := by
  unfold plain
  pointwise
  refine Eq.trans ?_ (gated_ref o z w i (headOf j) (placeOf j))
  refine congrArg (plain_gated o z w) (funext fun x => Fin.ext ?_)
  match x with
  | ⟨0, _⟩ => simp
  | ⟨1, _⟩ => simp [headOf]
  | ⟨2, _⟩ => simp [placeOf]

end Reference

theorem quiescent_ref : Cert.quiescent_GateFwdRefIdeal := fun m ρ _ =>
  (θ_run Cert.GateFwdRefIdeal.defs _ _).mono (fun r h =>
      ⟨fun c => (h c).2, Idealize.ShloMosaic.sem_eq_zero_of_no_sems (by decide) r.2⟩)
    (Cert.GateFwdRefIdeal.Value.run (F := Ideal) m ρ)

theorem algebraic : Cert.algebraic_GateFwdIdeal_GateFwdRefIdeal := fun m ρ m' ρ' _ hag =>
  ⟨fun c => arr2 (φ := .f32) (result m c),
    (θ_run Cert.GateFwdIdeal.defs _ _).mono (fun _ h c => ⟨(h c).1.trans (final m c), (h c).2⟩)
      (Cert.GateFwdIdeal.Value.run_blocks (F := Ideal) m ρ),
    (θ_run Cert.GateFwdRefIdeal.defs _ _).mono (fun _ h c => by
        obtain ⟨h0, h1, h2⟩ := hag c
        have e : result m c = fun i j => plain (m' ((c : Thread Cert.GateFwdRefIdeal.nD Cert.GateFwdRefIdeal.τ).loc Cert.GateFwdRefIdeal.main_arg0)) (m' ((c : Thread Cert.GateFwdRefIdeal.nD Cert.GateFwdRefIdeal.τ).loc Cert.GateFwdRefIdeal.main_arg1)) (m' ((c : Thread Cert.GateFwdRefIdeal.nD Cert.GateFwdRefIdeal.τ).loc Cert.GateFwdRefIdeal.main_arg2)) (ix2 i j) := by
          funext i j
          rw [plain_ref, h0, h1, h2]
          rfl
        exact ⟨(h c).1.trans (eq_arr2 _ _ fun i j => (congrFun (congrFun e i) j).symm), (h c).2⟩)
      (Cert.GateFwdRefIdeal.Value.run (F := Ideal) m' ρ')⟩

end Cert.Proof.GateFwd
-- ==== Proof.GateGrad.lean ====
/- The backward pass of the gate of a head's row, in two forms. -/
module

public import proofs.«01_k».proof.Proof.LayerNormGrad
public import proofs.«01_k».proof.Proof.Gate

@[expose] public section

noncomputable section

namespace Cert.Proof

open Idealize.ShloMosaic

/-- The derivative of the gate's argument, `t` the cotangent of the gate. -/
def gateSlope (z t : EReal) : EReal := t * (Ideal.logistic z * (1 + z * (1 - Ideal.logistic z)))

/-- The same through the product and through the logistic function. -/
def gateSteps (z t : EReal) : EReal := t * Ideal.logistic z + z * t * (Ideal.logistic z * (1 - Ideal.logistic z))

/-- Where the cotangent is finite the two agree. -/
theorem gateSteps_eq (z t : EReal) (ht : IsReal t) : gateSteps z t = gateSlope z t := by
  obtain ⟨t, rfl⟩ := ht
  unfold gateSteps gateSlope
  induction z with
  | bot => simp
  | top =>
    have : (1 : EReal) - 1 = 0 := by rw [← EReal.coe_one, ← EReal.coe_sub]; simp
    simp [this]
  | coe z =>
    rw [Ideal.logistic_coe, ← EReal.coe_one]
    simp only [← EReal.coe_mul, ← EReal.coe_sub, ← EReal.coe_add]
    refine congrArg _ ?_
    ring

variable (o p : Fin 128 → EReal)

/-- A head's row, normalised. -/
def headNormal (k : Fin 128) : EReal := o k * headScale o

/-- The derivative of a head's row from the normalised one, `p` the cotangent of that. -/
def headSlope (k : Fin 128) : EReal := headScale o * (p k - headNormal o k * headMean fun k => p k * headNormal o k)

/-- The cotangent of the mean square, over the row's length. -/
def ofSquares : EReal :=
  Ideal.div ((∑ k : Fin 128, o k * p k) * (Ideal.ofBits FTy.f32 0xBF000000#32 * Ideal.div (headScale o) (headRaised o))) headWidth

/-- The derivative of a head's row step by step: through the scaling and through the two factors of the squares. -/
def headSteps (k : Fin 128) : EReal := p k * headScale o + (o k * ofSquares o p + ofSquares o p * o k)

theorem headWidth_eq : headWidth = ((128 : ℝ) : EReal) := by
  unfold headWidth
  simp [Ideal.ofBits, Ideal.ieee]
  rw [← EReal.coe_mul]
  norm_num

theorem headEps_pos : ∃ e : ℝ, 0 < e ∧ headEps = (e : EReal) := by
  unfold headEps
  refine ⟨_, ?_, by simp [Ideal.ofBits, Ideal.ieee]; rfl⟩
  positivity

theorem real_of_square {x : EReal} (h : IsReal (x * x)) : IsReal x := by
  obtain ⟨r, hr⟩ := h
  induction x with
  | bot => rw [EReal.bot_mul_bot] at hr; simp at hr
  | top => rw [EReal.top_mul_top] at hr; simp at hr
  | coe x => exact ⟨x, rfl⟩

theorem square_nonneg (x : EReal) : 0 ≤ x * x := by
  induction x with
  | bot => rw [EReal.bot_mul_bot]; exact le_top
  | top => rw [EReal.top_mul_top]; exact le_top
  | coe x => rw [← EReal.coe_mul]; exact_mod_cast mul_self_nonneg x

/-- Where an entry of the row is infinite, so is the mean square. -/
theorem headRaised_infinite (ho : ¬∀ k, IsReal (o k)) : headRaised o = ⊤ := by
  obtain ⟨e, -, hee⟩ := headEps_pos
  have hs : ¬IsReal (∑ k : Fin 128, o k * o k) := fun h =>
    ho fun k => real_of_square (terms_real Finset.univ _ h k (Finset.mem_univ k))
  have h0 : 0 ≤ ∑ k : Fin 128, o k * o k := Finset.sum_nonneg fun k _ => square_nonneg (o k)
  have ht : ∑ k : Fin 128, o k * o k = ⊤ := by
    rcases infinite hs with h | h
    · exact h
    · rw [h] at h0; simp at h0
  unfold headRaised headMean
  rw [ht, headWidth_eq, Ideal.div_coe (by norm_num), EReal.top_mul_coe_of_pos (by norm_num), hee, EReal.top_add_coe]

theorem headScale_infinite (ho : ¬∀ k, IsReal (o k)) : headScale o = 0 := by
  unfold headScale
  rw [headRaised_infinite o ho]
  rfl

/-- A finite row's mean square is a positive number, and its root's reciprocal another. -/
theorem headScale_finite (ho : ∀ k, IsReal (o k)) :
    ∃ v s : ℝ, 0 < v ∧ 0 < s ∧ s * s * v = 1 ∧ headRaised o = (v : EReal) ∧ headScale o = (s : EReal) := by
  choose r hr using ho
  obtain rfl : o = fun k => (r k : EReal) := funext hr
  obtain ⟨e, he, hee⟩ := headEps_pos
  obtain ⟨v, hvd⟩ : ∃ v : ℝ, v = (∑ k, r k * r k) / 128 + e := ⟨_, rfl⟩
  have hv : headRaised (fun k => (r k : EReal)) = (v : EReal) := by
    unfold headRaised headMean
    simp only [← EReal.coe_mul]
    rw [← coe_sum, headWidth_eq, div_real (by norm_num), hee, ← EReal.coe_add, hvd]
  have hpos : 0 < v := by
    rw [hvd]
    have : 0 ≤ ∑ k, r k * r k := Finset.sum_nonneg fun k _ => mul_self_nonneg _
    positivity
  refine ⟨v, (Real.sqrt v)⁻¹, hpos, inv_pos.mpr (Real.sqrt_pos.mpr hpos), ?_, hv, ?_⟩
  · rw [← mul_inv, Real.mul_self_sqrt hpos.le, inv_mul_cancel₀ hpos.ne']
  · unfold headScale
    rw [hv, Ideal.rsqrt_coe, if_neg (not_lt.mpr hpos.le), if_neg hpos.ne']

/-- The normalised row is finite whatever the row. -/
theorem headNormal_real (k : Fin 128) : IsReal (headNormal o k) := by
  unfold headNormal
  by_cases ho : ∀ k, IsReal (o k)
  · obtain ⟨_, s, _, _, _, _, hs⟩ := headScale_finite o ho
    rw [hs]
    exact .mul (ho k) ⟨s, rfl⟩
  · rw [headScale_infinite o ho, mul_zero]
    exact .zero

theorem twice (x : EReal) (a : ℝ) : x * (a : EReal) + x * (a : EReal) = x * ((2 * a : ℝ) : EReal) := by
  induction x with
  | coe x => rw [← EReal.coe_mul, ← EReal.coe_mul, ← EReal.coe_add]; exact congrArg _ (by ring)
  | top =>
    rcases lt_trichotomy a 0 with h | rfl | h
    · rw [EReal.top_mul_coe_of_neg h, EReal.top_mul_coe_of_neg (by linarith)]; rfl
    · simp
    · rw [EReal.top_mul_coe_of_pos h, EReal.top_mul_coe_of_pos (by linarith)]; rfl
  | bot =>
    rcases lt_trichotomy a 0 with h | rfl | h
    · rw [EReal.bot_mul_coe_of_neg h, EReal.bot_mul_coe_of_neg (by linarith)]; rfl
    · simp
    · rw [EReal.bot_mul_coe_of_pos h, EReal.bot_mul_coe_of_pos (by linarith)]; rfl

theorem scaled_sum {ι : Type} [DecidableEq ι] (s : Finset ι) (f : ι → EReal) (a : ℝ) (ha : 0 ≤ a) :
    (a : EReal) * ∑ i ∈ s, f i = ∑ i ∈ s, (a : EReal) * f i := by
  induction s using Finset.induction_on with
  | empty => simp
  | insert i s hi ih => rw [Finset.sum_insert hi, Finset.sum_insert hi,
      EReal.left_distrib_of_nonneg_of_ne_top (EReal.coe_nonneg.mpr ha) (EReal.coe_ne_top a), ih]

/-- The two forms agree, whatever the row and the cotangent. -/
theorem headSteps_eq (k : Fin 128) : headSteps o p k = headSlope o p k := by
  by_cases ho : ∀ k, IsReal (o k)
  · obtain ⟨v, s, hv, hs, hss, hvr, hsr⟩ := headScale_finite o ho
    choose r hr using ho
    obtain ⟨A, hA⟩ : ∃ A, A = ∑ k : Fin 128, o k * p k := ⟨_, rfl⟩
    have hM : (∑ k : Fin 128, p k * (o k * (s : EReal))) = (s : EReal) * A := by
      rw [hA, scaled_sum _ _ s hs.le]
      exact Finset.sum_congr rfl fun k _ => by rw [mul_comm (p k), mul_comm (o k), mul_assoc]
    have hu : ofSquares o p = A * ((-1 / 2 * (s / v) / 128 : ℝ) : EReal) := by
      unfold ofSquares
      rw [← hA, hsr, hvr, half_eq, div_real hv.ne', ← EReal.coe_mul, headWidth_eq, Ideal.div_coe (by norm_num), mul_assoc,
        ← EReal.coe_mul]
      exact congrArg (fun a : ℝ => A * (a : EReal)) (by ring)
    have e : s / v = s * s * s := by
      rw [div_eq_iff hv.ne']
      linear_combination -s * hss
    unfold headSteps headSlope headNormal headMean
    rw [hu, hsr, hM, headWidth_eq, Ideal.div_coe (by norm_num), hr k, sub_eq_add_neg,
      EReal.left_distrib_of_nonneg_of_ne_top (EReal.coe_nonneg.mpr hs.le) (EReal.coe_ne_top s),
      mul_comm (p k)]
    refine congrArg _ ?_
    rw [mul_comm (r k : EReal), mul_assoc, ← EReal.coe_mul, twice, e]
    rw [mul_neg]
    rw [show (s : EReal) * ((r k : EReal) * (s : EReal) * ((s : EReal) * A * ((1 / 128 : ℝ) : EReal))) =
      A * ((s * (r k * s) * (s * (1 / 128)) : ℝ) : EReal) by
        simp only [EReal.coe_mul]
        ac_rfl]
    rw [← mul_neg, ← EReal.coe_neg]
    exact congrArg (fun a : ℝ => A * (a : EReal)) (by ring)
  · have hs := headScale_infinite o ho
    have hu : ofSquares o p = 0 := by
      unfold ofSquares
      have : Ideal.div 0 ⊤ = 0 := by simp [Ideal.div]
      rw [hs, headRaised_infinite o ho, this, headWidth_eq, Ideal.div_coe (by norm_num)]
      simp
    unfold headSteps headSlope
    rw [hs, hu]
    simp

end Cert.Proof

end
-- ==== Proof.GateBwdValue.lean ====
/- The gate backward: what the kernel leaves in its results. -/
module

public import proofs.«01_k».proof.Proof.GateGrad
public import proofs.«01_k».proof.Proof.GateFwdFinal
public import proofs.«01_k».proof.Proof.Gen.GateBwdIdeal.Value

@[expose] public section

set_option maxRecDepth 16384

noncomputable section

namespace Cert.Proof.GateBwd

open Cert.GateBwdIdeal Cert.GateBwdIdeal.Gen
open Idealize.ShloMosaic Idealize.ShloMosaic.TcCoe Idealize.ShloMosaic.Pointwise Idealize.ShloMosaic.StableHlo

section Pieces

variable {F : FTy → Type} [FloatOps F]

/-- A load of a whole buffer reads what the last store of the whole left, whatever was stored before. -/
theorem readCov_last {sp : Space} (v : View sig .tc sp S1x128 .f32) (x : Vec F S1x128 .f32)
    (ps : List (View.Piece (Elt F) S1x128 .f32)) (inb : ∀ a, (![0, 0] : Fin 2 → ℕ) a + (![1, 128] : Fin 2 → ℕ) a ≤ S1x128.size a) :
    v.readCov ((⟨.unit ![0, 0] ![1, 128] inb, x⟩ : View.Piece (Elt F) S1x128 .f32) :: ps)
      (Rect.unit (s := S1x128) ![0, 0] ![1, 128] inb).toLoadRect = x := by
  have h0 : (![0, 0] : Fin S1x128.rank → ℕ) = fun _ => 0 := zeros
  have hc : ∀ y : S1x128.Idx, ∃ p ∈ (⟨.unit ![0, 0] ![1, 128] inb, x⟩ : View.Piece (Elt F) S1x128 .f32) :: ps, y ∈ p.1.set := fun y =>
    ⟨(⟨.unit ![0, 0] ![1, 128] inb, x⟩ : View.Piece (Elt F) S1x128 .f32), List.mem_cons_self, View.mem_set_unit_zero h0 inb y⟩
  rw [View.readCov_eq_canon_ld _ _ _ hc]
  refine (congrArg (fun z => View.ld z (Rect.unit (s := S1x128) ![0, 0] ![1, 128] inb))
    (View.canon_cons_unit_zero h0 inb x ps)).trans ?_
  exact View.ld_unit_zero h0 inb x

/-- A head's derivative of the rows. -/
def doV (o z y : Vec F S1024x128 .f32) (w : Vec F S1x128 .f32) : FVec F S1024x128 .f32 :=
  k0_pay10 (k0_pay3 o) (k0_pay5 o) (k0_pay8 z y w) (k0_pay9 z y o w)

/-- A head's derivative of the gate's argument. -/
def dzV (o z y : Vec F S1024x128 .f32) (w : Vec F S1x128 .f32) : FVec F S1024x128 .f32 := k0_pay7 z y o w

/-- The sum for the scale with a head's share added. -/
def dwV (o z y : Vec F S1024x128 .f32) (acc : Vec F S1x128 .f32) : FVec F S1x128 .f32 :=
  k0_pay11 y (k0_pay5 o) (k0_pay6 z) acc

/-- The sum for the scale with the six heads' shares added. -/
def dwAll (o z y : Vec F S1024x768 .f32) (acc : Vec F S1x128 .f32) : Vec F S1x128 .f32 :=
  heads.foldr (fun h a => dwV (View.ld o (rG h)) (View.ld z (rG h)) (View.ld y (rG h)) a) acc

variable (c : Dev nD) (i : grid0.Coords) (arg1 : Memref sig .tc .vmem S1024x768 .f32) (harg1 : arg1.IsWhole)
    (arg2 : Memref sig .tc .vmem S1024x768 .f32) (harg2 : arg2.IsWhole) (arg3 : Memref sig .tc .vmem S1x128 .f32)
    (harg3 : arg3.IsWhole) (arg4 : Memref sig .tc .vmem S1024x768 .f32) (harg4 : arg4.IsWhole)
    (arg5 : Memref sig .tc .vmem S1024x768 .f32) (harg5 : arg5.IsWhole) (arg6 : Memref sig .tc .vmem S1024x768 .f32)
    (harg6 : arg6.IsWhole) (arg7 : Memref sig .tc .vmem S1x128 .f32) (harg7 : arg7.IsWhole)
    (x0 x1 x3 : Vec F S1024x768 .f32) (x2 xo6 : Vec F S1x128 .f32)

/-- The first point's share of the derivative of the rows. -/
theorem first_do (hc0 : cond0_0 i) :
    out0_A_4 c i arg1 harg1 arg2 harg2 arg3 harg3 arg4 harg4 arg5 harg5 arg6 harg6 arg7 harg7 hc0 x0 x1 x2 x3 =
      View.canon (heads.map fun h => (⟨rG h, doV (View.ld x0 (rG h)) (View.ld x1 (rG h)) (View.ld x3 (rG h)) x2⟩ :
        View.Piece (Elt F) S1024x768 .f32)) := by
  unfold out0_A_4
  rw [View.read_writes_junk_eq_canon]
  unfold kernelRun0_A
  dsimp only
  sl_unfold_words
  simp only [View.readAt_eq_ld, harg1.read_unread, harg2.read_unread, harg3.read_unread, harg4.read_unread,
    View.ld_unit_zero (S := S1x128) zeros]
  rfl

/-- The first point's share of the derivative of the gate's argument. -/
theorem first_dz (hc0 : cond0_0 i) :
    out0_A_5 c i arg1 harg1 arg2 harg2 arg3 harg3 arg4 harg4 arg5 harg5 arg6 harg6 arg7 harg7 hc0 x0 x1 x2 x3 =
      View.canon (heads.map fun h => (⟨rG h, dzV (View.ld x0 (rG h)) (View.ld x1 (rG h)) (View.ld x3 (rG h)) x2⟩ :
        View.Piece (Elt F) S1024x768 .f32)) := by
  unfold out0_A_5
  rw [View.read_writes_junk_eq_canon]
  unfold kernelRun0_A
  dsimp only
  sl_unfold_words
  simp only [View.readAt_eq_ld, harg1.read_unread, harg2.read_unread, harg3.read_unread, harg4.read_unread,
    View.ld_unit_zero (S := S1x128) zeros]
  rfl

/-- The first point starts the sum for the scale from zero. -/
theorem first_dw (hc0 : cond0_0 i) :
    out0_A_6 c i arg1 harg1 arg2 harg2 arg3 harg3 arg4 harg4 arg5 harg5 arg6 harg6 arg7 harg7 hc0 x0 x1 x2 x3 = dwAll x0 x1 x3 k0_pay2 := by
  unfold out0_A_6
  rw [View.read_writes_junk_eq_canon]
  unfold kernelRun0_A
  dsimp only
  sl_unfold_words
  simp only [View.readAt_eq_ld, harg1.read_unread, harg2.read_unread, harg3.read_unread, harg4.read_unread, harg7.read_unread,
    readCov_last, View.ld_unit_zero (S := S1x128) zeros]
  rw [View.canon_cons_unit_zero zeros]
  rfl

/-- A later point's share of the derivative of the rows. -/
theorem next_do (hc0 : ¬cond0_0 i) :
    out0_B_4 c i arg1 harg1 arg2 harg2 arg3 harg3 arg4 harg4 arg5 harg5 arg6 harg6 arg7 harg7 hc0 x0 x1 x2 x3 xo6 =
      View.canon (heads.map fun h => (⟨rG h, doV (View.ld x0 (rG h)) (View.ld x1 (rG h)) (View.ld x3 (rG h)) x2⟩ :
        View.Piece (Elt F) S1024x768 .f32)) := by
  unfold out0_B_4
  rw [View.read_writes_junk_eq_canon]
  unfold kernelRun0_B
  dsimp only
  sl_unfold_words
  simp only [View.readAt_eq_ld, harg1.read_unread, harg2.read_unread, harg3.read_unread, harg4.read_unread,
    View.ld_unit_zero (S := S1x128) zeros]
  rfl

/-- A later point's share of the derivative of the gate's argument. -/
theorem next_dz (hc0 : ¬cond0_0 i) :
    out0_B_5 c i arg1 harg1 arg2 harg2 arg3 harg3 arg4 harg4 arg5 harg5 arg6 harg6 arg7 harg7 hc0 x0 x1 x2 x3 xo6 =
      View.canon (heads.map fun h => (⟨rG h, dzV (View.ld x0 (rG h)) (View.ld x1 (rG h)) (View.ld x3 (rG h)) x2⟩ :
        View.Piece (Elt F) S1024x768 .f32)) := by
  unfold out0_B_5
  rw [View.read_writes_junk_eq_canon]
  unfold kernelRun0_B
  dsimp only
  sl_unfold_words
  simp only [View.readAt_eq_ld, harg1.read_unread, harg2.read_unread, harg3.read_unread, harg4.read_unread,
    View.ld_unit_zero (S := S1x128) zeros]
  rfl

/-- A later point adds to the sum for the scale. -/
theorem next_dw (hc0 : ¬cond0_0 i) :
    out0_B_6 c i arg1 harg1 arg2 harg2 arg3 harg3 arg4 harg4 arg5 harg5 arg6 harg6 arg7 harg7 hc0 x0 x1 x2 x3 xo6 = dwAll x0 x1 x3 xo6 := by
  unfold out0_B_6
  rw [View.read_writes_junk_eq_canon]
  unfold kernelRun0_B
  dsimp only
  sl_unfold_words
  simp only [View.readAt_eq_ld, harg1.read_unread, harg2.read_unread, harg3.read_unread, harg4.read_unread, harg7.read_unread,
    readCov_last, View.ld_unit_zero (S := S1x128) zeros]
  rw [View.canon_cons_unit_zero zeros]
  rfl

end Pieces

section Payloads

variable (o z y : Vec Ideal S1024x128 .f32) (w acc : Vec Ideal S1x128 .f32) (i : Fin 1024) (k : Fin 128)

theorem do_at : doV o z y w (ix2 i k) =
    headSlope (of2 o i) (fun k => y (ix2 i k) * w (ix2 0 k) * silu (z (ix2 i k))) k := by
  unfold doV k0_pay10 k0_pay9 k0_pay8 k0_pay5 k0_pay3
  pointwise
  rfl

theorem dz_at : dzV o z y w (ix2 i k) =
    gateSlope (z (ix2 i k)) (y (ix2 i k) * headNormal (of2 o i) k * w (ix2 0 k)) := by
  unfold dzV k0_pay7 k0_pay5 k0_pay4 k0_pay3
  pointwise
  rfl

theorem dw_at : dwV o z y acc (ix2 0 k) =
    acc (ix2 0 k) + ∑ i : Fin 1024, y (ix2 i k) * headNormal (of2 o i) k * silu (z (ix2 i k)) := by
  unfold dwV k0_pay11 k0_pay6 k0_pay5 k0_pay4 k0_pay3
  pointwise
  rfl

theorem zero_dw : (k0_pay2 : FVec Ideal S1x128 .f32) (ix2 0 k) = 0 := by
  unfold k0_pay2
  pointwise!

end Payloads

theorem part_ld (x : Vec Ideal S1024x768 .f32) (h : Fin 6) (a : Fin 1024) :
    of2 (View.ld x (rG h) : Vec Ideal S1024x128 .f32) a = headPart (of2 x a) h := by
  funext k
  exact ldG_at h x a k

section Blocks

variable (o z y : Vec Ideal S1024x768 .f32) (w acc : Vec Ideal S1x128 .f32)

/-- A row of the derivative of the rows. -/
def doRow (o z y : Fin 768 → EReal) (w : Fin 128 → EReal) (j : Fin 768) : EReal :=
  headSlope (headPart o (headOf j))
    (fun k => headPart y (headOf j) k * w k * silu (headPart z (headOf j) k)) (placeOf j)

/-- A row of the derivative of the gate's argument. -/
def dzRow (o z y : Fin 768 → EReal) (w : Fin 128 → EReal) (j : Fin 768) : EReal :=
  gateSlope (headPart z (headOf j) (placeOf j))
    (headPart y (headOf j) (placeOf j) * headNormal (headPart o (headOf j)) (placeOf j) * w (placeOf j))

/-- What a row adds to the derivative of the scale. -/
def dwRow (o z y : Fin 768 → EReal) (k : Fin 128) : EReal :=
  ∑ h : Fin 6, headPart y h k * headNormal (headPart o h) k * silu (headPart z h k)

theorem do_block : View.canon (heads.map fun h => (⟨rG h, doV (View.ld o (rG h)) (View.ld z (rG h)) (View.ld y (rG h)) w⟩ :
    View.Piece (Elt Ideal) S1024x768 .f32)) = fun x => doRow (of2 o (x 0)) (of2 z (x 0)) (of2 y (x 0)) (of2 w 0) (x 1) := by
  refine canonG (F := Ideal) (φ := .f32) (fun h => doV (View.ld o (rG h)) (View.ld z (rG h)) (View.ld y (rG h)) w) _ fun h a k => ?_
  rw [do_at]
  show _ = doRow (of2 o a) (of2 z a) (of2 y a) (of2 w 0) (col h k)
  unfold doRow
  rw [headOf_col, placeOf_col, part_ld]
  refine congrArg (fun p => headSlope _ p k) (funext fun l => ?_)
  rw [ldG_at, ldG_at]
  rfl

theorem dz_block : View.canon (heads.map fun h => (⟨rG h, dzV (View.ld o (rG h)) (View.ld z (rG h)) (View.ld y (rG h)) w⟩ :
    View.Piece (Elt Ideal) S1024x768 .f32)) = fun x => dzRow (of2 o (x 0)) (of2 z (x 0)) (of2 y (x 0)) (of2 w 0) (x 1) := by
  refine canonG (F := Ideal) (φ := .f32) (fun h => dzV (View.ld o (rG h)) (View.ld z (rG h)) (View.ld y (rG h)) w) _ fun h a k => ?_
  rw [dz_at]
  show _ = dzRow (of2 o a) (of2 z a) (of2 y a) (of2 w 0) (col h k)
  unfold dzRow
  rw [headOf_col, placeOf_col, part_ld, ldG_at, ldG_at]
  rfl

theorem dw_head (h : Fin 6) (k : Fin 128) : dwV (View.ld o (rG h)) (View.ld z (rG h)) (View.ld y (rG h)) acc (ix2 0 k) =
    acc (ix2 0 k) + ∑ a : Fin 1024, headPart (of2 y a) h k * headNormal (headPart (of2 o a) h) k * silu (headPart (of2 z a) h k) := by
  refine (dw_at _ _ _ _ k).trans (congrArg _ (Finset.sum_congr rfl fun a _ => ?_))
  rw [part_ld, ldG_at, ldG_at]
  rfl

theorem dwAll_at (k : Fin 128) : dwAll o z y acc (ix2 0 k) =
    acc (ix2 0 k) + ∑ a : Fin 1024, dwRow (of2 o a) (of2 z a) (of2 y a) k := by
  unfold dwAll heads dwRow
  simp only [List.foldr, dw_head]
  rw [Finset.sum_comm, Fin.sum_univ_six]
  simp only [add_assoc]

end Blocks

variable (m : (ℓ : Loc nD τ sig) → Buf (Elt Ideal) ℓ) (c : Dev nD)

/-- The rows, the gate's arguments, the scale and the cotangent. -/
def rowsO (i : Fin 16384) : Fin 768 → EReal := of2 (m ((c : Thread nD τ).loc main_arg0) : Vec Ideal S16384x768 .f32) i
def rowsZ (i : Fin 16384) : Fin 768 → EReal := of2 (m ((c : Thread nD τ).loc main_arg1) : Vec Ideal S16384x768 .f32) i
def scale (k : Fin 128) : EReal := m ((c : Thread nD τ).loc main_arg2) (ix1 k)
def cot (i : Fin 16384) : Fin 768 → EReal := of2 (m ((c : Thread nD τ).loc main_arg3) : Vec Ideal S16384x768 .f32) i

theorem V_w : V m c main_v0 = GateFwd.host_row (m ((c : Thread nD τ).loc main_arg2)) := by
  unfold_abbrev_sides
  after_results
  rfl

/-- Which blocks a grid point takes and writes. -/
theorem idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

theorem lt_N (t : Fin cfg0.N) : t.val < 16 := lt_of_lt_of_eq t.isLt N_0

/-- The array's row that is row `a` of point `t`'s block. -/
def at_row (t : Fin cfg0.N) (a : Fin 1024) : Fin 16384 := ⟨1024 * t.val + a.val, by have := lt_N t; omega⟩

/-- A point's rows, gate's arguments, scale and cotangent. -/
abbrev oB (t : Fin cfg0.N) : Vec Ideal S1024x768 .f32 := iblk m c 0 t
abbrev zB (t : Fin cfg0.N) : Vec Ideal S1024x768 .f32 := iblk m c 1 t
abbrev wB (t : Fin cfg0.N) : Vec Ideal S1x128 .f32 := iblk m c 2 t
abbrev yB (t : Fin cfg0.N) : Vec Ideal S1024x768 .f32 := iblk m c 3 t

theorem o_block (t : Fin cfg0.N) (a : Fin 1024) : of2 (oB m c t) a = rowsO m c (at_row t a) := by
  funext k
  unfold rowsO
  rw [← V_main_arg0 m c]
  refine congrArg (V m c main_arg0) (funext fun x => Fin.ext ?_)
  match x with
  | ⟨0, _⟩ =>
    show win0_0.index t (0 : Fin 2) * 1024 + 1 * a.val = 1024 * t.val + a.val
    rw [(idx t).1.1]; omega
  | ⟨1, _⟩ =>
    show win0_0.index t (1 : Fin 2) * 768 + 1 * k.val = k.val
    rw [(idx t).1.2]; omega

theorem z_block (t : Fin cfg0.N) (a : Fin 1024) : of2 (zB m c t) a = rowsZ m c (at_row t a) := by
  funext k
  unfold rowsZ
  rw [← V_main_arg1 m c]
  refine congrArg (V m c main_arg1) (funext fun x => Fin.ext ?_)
  match x with
  | ⟨0, _⟩ =>
    show win0_1.index t (0 : Fin 2) * 1024 + 1 * a.val = 1024 * t.val + a.val
    rw [(idx t).2.1.1]; omega
  | ⟨1, _⟩ =>
    show win0_1.index t (1 : Fin 2) * 768 + 1 * k.val = k.val
    rw [(idx t).2.1.2]; omega

theorem y_block (t : Fin cfg0.N) (a : Fin 1024) : of2 (yB m c t) a = cot m c (at_row t a) := by
  funext k
  unfold cot
  rw [← V_main_arg3 m c]
  refine congrArg (V m c main_arg3) (funext fun x => Fin.ext ?_)
  match x with
  | ⟨0, _⟩ =>
    show win0_3.index t (0 : Fin 2) * 1024 + 1 * a.val = 1024 * t.val + a.val
    rw [(idx t).2.2.2.1.1]; omega
  | ⟨1, _⟩ =>
    show win0_3.index t (1 : Fin 2) * 768 + 1 * k.val = k.val
    rw [(idx t).2.2.2.1.2]; omega

theorem w_block (t : Fin cfg0.N) : of2 (wB m c t) 0 = scale m c := by
  funext k
  refine Eq.trans ?_ ((congrFun (V_w m c) _).trans (GateFwd.host_row_at _ k))
  refine congrArg (V m c main_v0) (funext fun x => Fin.ext ?_)
  match x with
  | ⟨0, _⟩ =>
    show win0_2.index t (0 : Fin 2) * 1 + 1 * 0 = 0
    rw [(idx t).2.2.1.1]
  | ⟨1, _⟩ =>
    show win0_2.index t (1 : Fin 2) * 128 + 1 * k.val = k.val
    rw [(idx t).2.2.1.2]; omega

/-- The derivative of the rows. -/
def dO (i : Fin 16384) (j : Fin 768) : EReal := doRow (rowsO m c i) (rowsZ m c i) (cot m c i) (scale m c) j

/-- The derivative of the gate's argument. -/
def dZ (i : Fin 16384) (j : Fin 768) : EReal := dzRow (rowsO m c i) (rowsZ m c i) (cot m c i) (scale m c) j

theorem emb4 (t : Fin cfg0.N) (a : Fin 1024) (j : Fin 768) :
    ((cfg0.win 4).blk t).view.emb (ix2 a j) = ix2 (at_row t a) j := by
  refine funext fun x => Fin.ext ?_
  match x with
  | ⟨0, _⟩ =>
    show win0_4.index t (0 : Fin 2) * 1024 + 1 * a.val = 1024 * t.val + a.val
    rw [(idx t).2.2.2.2.1.1]; omega
  | ⟨1, _⟩ =>
    show win0_4.index t (1 : Fin 2) * 768 + 1 * j.val = j.val
    rw [(idx t).2.2.2.2.1.2]; omega

theorem flushes4 : ∀ t : Fin cfg0.N, (cfg0.win 4).flush t = true := (by decide +kernel : ∀ t : Fin grid0.N, _)

theorem out4 (t : Fin cfg0.N) :
    (outsAt0 m c t.val t.isLt).1 = fun x => doRow (of2 (oB m c t) (x 0)) (of2 (zB m c t) (x 0)) (of2 (yB m c t) (x 0))
      (of2 (wB m c t) 0) (x 1) := by
  by_cases h0 : t.val % 16 = 0
  · rw [outsAt0_A m c t h0]
    dsimp only
    rw [first_do]
    exact do_block (oB m c t) (zB m c t) (yB m c t) (wB m c t)
  · rw [outsAt0_B m c t h0]
    dsimp only
    rw [next_do]
    exact do_block (oB m c t) (zB m c t) (yB m c t) (wB m c t)

theorem out_block4 (t : Fin cfg0.N) :
    (outsAt0 m c t.val t.isLt).1 = fun y => arr2 (φ := .f32) (dO m c) (((cfg0.win 4).blk t).view.emb y) := by
  funext y
  obtain ⟨a, j, rfl⟩ : ∃ a j, y = ix2 a j := ⟨y 0, y 1, (ix2_eta y).symm⟩
  rw [emb4, arr2_at, out4]
  show doRow (of2 (oB m c t) a) (of2 (zB m c t) a) (of2 (yB m c t) a) (of2 (wB m c t) 0) j = _
  rw [o_block, z_block, y_block, w_block]
  rfl

theorem cover4 (y : S16384x768.Idx) : ∃ t : Fin cfg0.N, (cfg0.win 4).flush t = true ∧ y ∈ ((cfg0.win 4).blk t).view.set := by
  obtain ⟨i, j, rfl⟩ : ∃ i j, y = ix2 i j := ⟨y 0, y 1, (ix2_eta y).symm⟩
  have hN : cfg0.N = 16 := N_0
  refine ⟨⟨i.val / 1024, by omega⟩, flushes4 _, ?_⟩
  have e := emb4 ⟨i.val / 1024, by omega⟩ ⟨i.val % 1024, by omega⟩ j
  have e' : ix2 i j = _ := (congrArg₂ ix2 (Fin.ext (by unfold at_row; dsimp only; omega)) rfl).trans e.symm
  rw [e']
  exact View.emb_mem_set _ _

theorem read_block4 (t : Fin cfg0.N) (G : Vec Ideal S16384x768 .f32) :
    (cfg0.win 4).cut (grid0.coords t) (fun y => G (((cfg0.win 4).blk t).view.emb y)) =
      ((cfg0.win 4).blk t).view.read (Elt Ideal) G := rfl

/-- The derivative of the rows after the run. -/
theorem final4 : (dats m 0 c).arrAt 4 cfg0.N = arr2 (φ := .f32) (dO m c) := by
  refine (dats m 0 c).arrAt_eq_of_cover 4 _ (fun t _ => ?_) cover4
  rw [Value.flushed4, out_block4 m c t]
  exact read_block4 t _

theorem emb5 (t : Fin cfg0.N) (a : Fin 1024) (j : Fin 768) :
    ((cfg0.win 5).blk t).view.emb (ix2 a j) = ix2 (at_row t a) j := by
  refine funext fun x => Fin.ext ?_
  match x with
  | ⟨0, _⟩ =>
    show win0_5.index t (0 : Fin 2) * 1024 + 1 * a.val = 1024 * t.val + a.val
    rw [(idx t).2.2.2.2.2.1.1]; omega
  | ⟨1, _⟩ =>
    show win0_5.index t (1 : Fin 2) * 768 + 1 * j.val = j.val
    rw [(idx t).2.2.2.2.2.1.2]; omega

theorem flushes5 : ∀ t : Fin cfg0.N, (cfg0.win 5).flush t = true := (by decide +kernel : ∀ t : Fin grid0.N, _)

theorem out5 (t : Fin cfg0.N) :
    (outsAt0 m c t.val t.isLt).2.1 = fun x => dzRow (of2 (oB m c t) (x 0)) (of2 (zB m c t) (x 0)) (of2 (yB m c t) (x 0))
      (of2 (wB m c t) 0) (x 1) := by
  by_cases h0 : t.val % 16 = 0
  · rw [outsAt0_A m c t h0]
    dsimp only
    rw [first_dz]
    exact dz_block (oB m c t) (zB m c t) (yB m c t) (wB m c t)
  · rw [outsAt0_B m c t h0]
    dsimp only
    rw [next_dz]
    exact dz_block (oB m c t) (zB m c t) (yB m c t) (wB m c t)

theorem out_block5 (t : Fin cfg0.N) :
    (outsAt0 m c t.val t.isLt).2.1 = fun y => arr2 (φ := .f32) (dZ m c) (((cfg0.win 5).blk t).view.emb y) := by
  funext y
  obtain ⟨a, j, rfl⟩ : ∃ a j, y = ix2 a j := ⟨y 0, y 1, (ix2_eta y).symm⟩
  rw [emb5, arr2_at, out5]
  show dzRow (of2 (oB m c t) a) (of2 (zB m c t) a) (of2 (yB m c t) a) (of2 (wB m c t) 0) j = _
  rw [o_block, z_block, y_block, w_block]
  rfl

theorem cover5 (y : S16384x768.Idx) : ∃ t : Fin cfg0.N, (cfg0.win 5).flush t = true ∧ y ∈ ((cfg0.win 5).blk t).view.set := by
  obtain ⟨i, j, rfl⟩ : ∃ i j, y = ix2 i j := ⟨y 0, y 1, (ix2_eta y).symm⟩
  have hN : cfg0.N = 16 := N_0
  refine ⟨⟨i.val / 1024, by omega⟩, flushes5 _, ?_⟩
  have e := emb5 ⟨i.val / 1024, by omega⟩ ⟨i.val % 1024, by omega⟩ j
  have e' : ix2 i j = _ := (congrArg₂ ix2 (Fin.ext (by unfold at_row; dsimp only; omega)) rfl).trans e.symm
  rw [e']
  exact View.emb_mem_set _ _

theorem read_block5 (t : Fin cfg0.N) (G : Vec Ideal S16384x768 .f32) :
    (cfg0.win 5).cut (grid0.coords t) (fun y => G (((cfg0.win 5).blk t).view.emb y)) =
      ((cfg0.win 5).blk t).view.read (Elt Ideal) G := rfl

/-- The derivative of the gate's argument after the run. -/
theorem final5 : (dats m 0 c).arrAt 5 cfg0.N = arr2 (φ := .f32) (dZ m c) := by
  refine (dats m 0 c).arrAt_eq_of_cover 5 _ (fun t _ => ?_) cover5
  rw [Value.flushed5, out_block5 m c t]
  exact read_block5 t _

/-- What the rows add to the derivative of the scale. -/
def dw_row (i : Fin 16384) (k : Fin 128) : EReal := dwRow (rowsO m c i) (rowsZ m c i) (cot m c i) k

theorem dw_part (t : Fin cfg0.N) (k : Fin 128) :
    ∑ a : Fin 1024, dwRow (of2 (oB m c t) a) (of2 (zB m c t) a) (of2 (yB m c t) a) k =
      ∑ a : Fin 1024, mat (dw_row m c) (1024 * t.val + a.val) k.val :=
  Finset.sum_congr rfl fun a _ => by
    refine Eq.trans ?_ (mat_of (dw_row m c) (at_row t a).isLt k.isLt).symm
    rw [o_block, z_block, y_block]
    rfl

/-- The sum for the scale after a point: over the rows so far. -/
theorem dw_sum (n : ℕ) (h : n < cfg0.N) (k : Fin 128) :
    (outsAt0 m c n h).2.2 (ix2 0 k) = ∑ i ∈ Finset.range (1024 * (n + 1)), mat (dw_row m c) i k.val := by
  have hN : cfg0.N = 16 := N_0
  induction n with
  | zero =>
    rw [outsAt0_A m c ⟨0, h⟩ rfl]
    dsimp only
    rw [first_dw]
    refine (dwAll_at _ _ _ _ k).trans ?_
    rw [zero_dw, ← sum_last_block, mul_zero, Finset.sum_range_zero]
    exact congrArg _ (dw_part m c ⟨0, h⟩ k)
  | succ n ih =>
    rw [outsAt0_B m c ⟨n + 1, h⟩ (by dsimp only; omega)]
    dsimp only
    rw [next_dw]
    refine (dwAll_at _ _ _ _ k).trans ?_
    rw [← sum_last_block]
    exact congrArg₂ (fun x y : EReal => x + y) (ih (Nat.lt_of_succ_lt h)) (dw_part m c ⟨n + 1, h⟩ k)

/-- The derivative of the scale. -/
def dW (k : Fin 128) : EReal := ∑ i : Fin 16384, dw_row m c i k

theorem emb6 (t : Fin cfg0.N) (k : Fin 128) : ((cfg0.win 6).blk t).view.emb (ix2 0 k) = ix2 (0 : Fin 1) k := by
  refine funext fun x => Fin.ext ?_
  match x with
  | ⟨0, _⟩ =>
    show win0_6.index t (0 : Fin 2) * 1 + 1 * 0 = 0
    rw [(idx t).2.2.2.2.2.2.1]
  | ⟨1, _⟩ =>
    show win0_6.index t (1 : Fin 2) * 128 + 1 * k.val = k.val
    rw [(idx t).2.2.2.2.2.2.2]; omega

theorem flushes6 : ∀ t : Fin cfg0.N, ((cfg0.win 6).flush t = true ↔ t.val = 15) := (by decide +kernel : ∀ t : Fin grid0.N, _)

theorem out_block6 (t : Fin cfg0.N) (ht : t.val = 15) :
    (outsAt0 m c t.val t.isLt).2.2 = fun y => arr2 (φ := .f32) (fun _ : Fin 1 => dW m c) (((cfg0.win 6).blk t).view.emb y) := by
  funext y
  obtain ⟨a, k, rfl⟩ : ∃ a k, y = ix2 a k := ⟨y 0, y 1, (ix2_eta y).symm⟩
  obtain rfl : a = 0 := Subsingleton.elim _ _
  rw [emb6, arr2_at, dw_sum, ht, Finset.sum_range]
  exact Finset.sum_congr rfl fun i _ => mat_of (dw_row m c) i.isLt k.isLt

theorem cover6 (y : S1x128.Idx) : ∃ t : Fin cfg0.N, (cfg0.win 6).flush t = true ∧ y ∈ ((cfg0.win 6).blk t).view.set := by
  obtain ⟨a, k, rfl⟩ : ∃ a k, y = ix2 a k := ⟨y 0, y 1, (ix2_eta y).symm⟩
  obtain rfl : a = 0 := Subsingleton.elim _ _
  have hN : cfg0.N = 16 := N_0
  refine ⟨⟨15, by omega⟩, (flushes6 _).mpr rfl, ?_⟩
  have e : ix2 (0 : Fin 1) k = _ := (emb6 ⟨15, by omega⟩ k).symm
  rw [e]
  exact View.emb_mem_set _ _

theorem read_block6 (t : Fin cfg0.N) (G : Vec Ideal S1x128 .f32) :
    (cfg0.win 6).cut (grid0.coords t) (fun y => G (((cfg0.win 6).blk t).view.emb y)) =
      ((cfg0.win 6).blk t).view.read (Elt Ideal) G := rfl

/-- The derivative of the scale after the run. -/
theorem final6 : (dats m 0 c).arrAt 6 cfg0.N = arr2 (φ := .f32) fun _ : Fin 1 => dW m c := by
  refine (dats m 0 c).arrAt_eq_of_cover 6 _ (fun t hf => ?_) cover6
  rw [Value.flushed6, out_block6 m c t ((flushes6 t).mp hf)]
  exact read_block6 t _

end Cert.Proof.GateBwd
-- ==== Proof.GateBwdFinal.lean ====
/- The gate backward: the programs' results beside each other. -/
module

public import proofs.«01_k».proof.Proof.GateBwdValue
public import proofs.«01_k».proof.Proof.Finite
public import proofs.«01_k».proof.Proof.Gen.Pre_gate_finite
public import proofs.«01_k».proof.Proof.Gen.GateBwdRefIdeal.Run

@[expose] public section

set_option maxRecDepth 16384

noncomputable section

namespace Cert.Proof.GateBwd

open Idealize.ShloMosaic Idealize.ShloMosaic.TcCoe Idealize.ShloMosaic.Pointwise Idealize.ShloMosaic.StableHlo Idealize.SL.Sem

section Sums

variable {n0 n1 n2 : ℕ}

/-- The indices that agree on the last axis. -/
theorem fiber (h : (⟨3, ![n0, n1, n2]⟩ : Shape).ReducesTo [0, 1] ⟨1, ![n2]⟩) (k : Fin n2) (i : (⟨3, ![n0, n1, n2]⟩ : Shape).Idx) :
    h.drop i = ix1 k ↔ ∃ p : Fin n0 × Fin n1, ix3 p.1 p.2 k = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, Nat.zero_lt_one⟩)).symm
  · rintro ⟨p, rfl⟩
    funext b
    apply Fin.ext
    match b with
    | ⟨0, _⟩ => rfl

/-- A sum over the first two of three axes, from zero. -/
theorem sum_first (h : (⟨3, ![n0, n1, n2]⟩ : Shape).ReducesTo [0, 1] ⟨1, ![n2]⟩)
    (x : (⟨3, ![n0, n1, n2]⟩ : Shape).Idx → EReal) (k : Fin n2) :
    Ideal.hostReduceAdd h x 0 (ix1 k) = ∑ i : Fin n0, ∑ j : Fin n1, x (ix3 i j k) := by
  unfold Ideal.hostReduceAdd
  rw [zero_add]
  refine (Finset.sum_filter_eq_sum_of_fiber _ (fun p : Fin n0 × Fin n1 => ix3 p.1 p.2 k)
    (fun _ _ e => Prod.ext (congrFun e 0) (congrFun e 1)) (fiber h k) x).trans ?_
  simp only [Fintype.sum_prod_type]

end Sums

section Reference

open Cert.GateBwdRefIdeal Cert.GateBwdRefIdeal.Gen
open GateFwd (plain_heads plain_scale plain_silu heads_ref scale_ref silu_ref)

section Plain

variable {F : FTy → Type} [FloatOps F] (o z y : Vec F S16384x768 .f32) (w : Vec F S128 .f32)

/-- The mean squares, raised. -/
def plain_raised : Vec F S16384x6x1 .f32 :=
  addf (Host.divf (broadcastInDim S16384x6x1 ![0, 1] bcast_S16384x6_S16384x6x1_0_1
      (Host.reduceAdd (mulf (plain_heads o) (plain_heads o)) (constant S_ .f32 0x00000000#32) reducesTo_S16384x6x128_S16384x6_d2 h_S_))
      (broadcastInDim S16384x6x1 ![] bcast_S_S16384x6x1 (constant S_ .f32 0x43000000#32)))
    (broadcastInDim S16384x6x1 ![] bcast_S_S16384x6x1 (constant S_ .f32 0x358637BD#32))

/-- The logistic function of the gate's arguments. -/
def plain_logistic : Vec F S16384x6x128 .f32 :=
  Host.divf (broadcastInDim S16384x6x128 ![] bcast_S_S16384x6x128 (constant S_ .f32 0x3F800000#32))
    (addf (broadcastInDim S16384x6x128 ![] bcast_S_S16384x6x128 (constant S_ .f32 0x3F800000#32)) (Host.exp (Host.negf (plain_heads z))))

/-- The heads, normalised. -/
def plain_normal : Vec F S16384x6x128 .f32 :=
  mulf (plain_heads o) (broadcastInDim S16384x6x128 ![0, 1, 2] bcast_S16384x6x1_S16384x6x128_0_1_2 (plain_scale o))

/-- The scale for each row of each head. -/
def plain_w : Vec F S16384x6x128 .f32 :=
  broadcastInDim S16384x6x128 ![0, 1, 2] bcast_S1x1x128_S16384x6x128_0_1_2 (broadcastInDim S1x1x128 ![2] bcast_S128_S1x1x128_2 w)

/-- The cotangent of the normalised heads. -/
def plain_cot : Vec F S16384x6x128 .f32 := mulf (mulf (plain_heads y) (plain_silu z)) (plain_w w)

/-- The cotangents of the mean squares, over the length. -/
def plain_ofSquares : Vec F S16384x6x1 .f32 :=
  Host.divf (mulf (shapeCast S16384x6x1 (Host.reduceAdd (mulf (plain_heads o) (plain_cot z y w)) (constant S_ .f32 0x00000000#32) reducesTo_S16384x6x128_S16384x6_d2 h_S_) shapeCasts_S16384x6_S16384x6x1)
      (mulf (broadcastInDim S16384x6x1 ![] bcast_S_S16384x6x1 (constant S_ .f32 0xBF000000#32)) (Host.divf (plain_scale o) (plain_raised o))))
    (broadcastInDim S16384x6x1 ![] bcast_S_S16384x6x1 (constant S_ .f32 0x43000000#32))

/-- The same for each entry of the heads. -/
def plain_t : Vec F S16384x6x128 .f32 :=
  broadcastInDim S16384x6x128 ![0, 1] bcast_S16384x6_S16384x6x128_0_1
    (Host.reduceAdd (plain_ofSquares o z y w) (constant S_ .f32 0x00000000#32) reducesTo_S16384x6x1_S16384x6_d2 h_S_)

/-- The derivative of the heads. -/
def plain_doHeads : Vec F S16384x6x128 .f32 :=
  addf (addf (mulf (plain_cot z y w) (broadcastInDim S16384x6x128 ![0, 1, 2] bcast_S16384x6x1_S16384x6x128_0_1_2 (plain_scale o)))
    (mulf (plain_heads o) (plain_t o z y w))) (mulf (plain_t o z y w) (plain_heads o))

/-- The reference's derivative of the rows. -/
def plain_do : Vec F S16384x768 .f32 := shapeCast S16384x768 (plain_doHeads o z y w) shapeCasts_S16384x6x128_S16384x768

/-- The cotangent of the gate. -/
def plain_ofGate : Vec F S16384x6x128 .f32 := mulf (mulf (plain_normal o) (plain_w w)) (plain_heads y)

/-- The derivative of the gate's arguments, head by head. -/
def plain_dzHeads : Vec F S16384x6x128 .f32 :=
  addf (mulf (plain_ofGate o y w) (plain_logistic z))
    (mulf (mulf (plain_heads z) (plain_ofGate o y w))
      (mulf (plain_logistic z) (subf (broadcastInDim S16384x6x128 ![] bcast_S_S16384x6x128 (constant S_ .f32 0x3F800000#32)) (plain_logistic z))))

/-- The reference's derivative of the gate's arguments. -/
def plain_dz : Vec F S16384x768 .f32 := shapeCast S16384x768 (plain_dzHeads o z y w) shapeCasts_S16384x6x128_S16384x768

/-- The reference's derivative of the scale. -/
def plain_dw : Vec F S1x128 .f32 :=
  broadcastInDim S1x128 ![1] bcast_S128_S1x128_1 (Host.reduceAdd (shapeCast S1x1x128
    (Host.reduceAdd (mulf (plain_normal o) (mulf (plain_heads y) (plain_silu z))) (constant S_ .f32 0x00000000#32) reducesTo_S16384x6x128_S128_d0_1 h_S_)
      shapeCasts_S128_S1x1x128)
    (constant S_ .f32 0x00000000#32) reducesTo_S1x1x128_S128_d0_1 h_S_)

end Plain

variable (o z y : Vec Ideal S16384x768 .f32) (w : Vec Ideal S128 .f32) (i : Fin 16384) (h : Fin 6) (k : Fin 128) (j : Fin 768)

/-- The cotangent of a normalised head's row. -/
abbrev cotHead (k : Fin 128) : EReal := y (ix2 i (col h k)) * silu (z (ix2 i (col h k))) * w (ix1 k)

theorem raised_ref : plain_raised o (ix3 i h 0) = headRaised (headPart (of2 o i) h) := by
  unfold plain_raised
  pointwise
  simp only [heads_ref]
  rfl

theorem logistic_ref : plain_logistic z (ix3 i h k) = Ideal.logistic (z (ix2 i (col h k))) := by
  unfold plain_logistic
  pointwise
  simp only [heads_ref]
  rfl

theorem normal_ref : plain_normal o (ix3 i h k) = headNormal (headPart (of2 o i) h) k := by
  unfold plain_normal
  pointwise
  rw [heads_ref, scale_ref]
  rfl

theorem w_ref : plain_w w (ix3 i h k) = w (ix1 k) := by
  unfold plain_w
  pointwise!

theorem cot_ref : plain_cot z y w (ix3 i h k) = cotHead z y w i h k := by
  unfold plain_cot
  pointwise
  rw [heads_ref, silu_ref, w_ref]

theorem ofSquares_ref : plain_ofSquares o z y w (ix3 i h 0) = ofSquares (headPart (of2 o i) h) (cotHead z y w i h) := by
  unfold plain_ofSquares
  pointwise
  simp only [heads_ref, cot_ref, scale_ref, raised_ref]
  rfl

theorem t_ref : plain_t o z y w (ix3 i h k) = ofSquares (headPart (of2 o i) h) (cotHead z y w i h) := by
  unfold plain_t
  pointwise
  simp only [Fin.sum_univ_one, ofSquares_ref]

theorem doHeads_ref : plain_doHeads o z y w (ix3 i h k) = headSteps (headPart (of2 o i) h) (cotHead z y w i h) k := by
  unfold plain_doHeads
  pointwise
  rw [cot_ref, scale_ref, heads_ref, t_ref, add_assoc]
  rfl

theorem ofGate_ref : plain_ofGate o y w (ix3 i h k) = headNormal (headPart (of2 o i) h) k * w (ix1 k) * y (ix2 i (col h k)) := by
  unfold plain_ofGate
  pointwise
  rw [normal_ref, w_ref, heads_ref]

theorem dzHeads_ref : plain_dzHeads o z y w (ix3 i h k) =
    gateSteps (z (ix2 i (col h k))) (headNormal (headPart (of2 o i) h) k * w (ix1 k) * y (ix2 i (col h k))) := by
  unfold plain_dzHeads
  pointwise
  rw [ofGate_ref, logistic_ref, heads_ref]
  rfl

theorem flat_at (x : Vec Ideal S16384x6x128 .f32) :
    (shapeCast S16384x768 x shapeCasts_S16384x6x128_S16384x768 : Vec Ideal S16384x768 .f32) (ix2 i j) = x (ix3 i (headOf j) (placeOf j)) := by
  pointwise
  refine congrArg x (funext fun a => Fin.ext ?_)
  match a with
  | ⟨0, _⟩ => simp
  | ⟨1, _⟩ => simp [headOf]
  | ⟨2, _⟩ => simp [placeOf]

theorem do_ref : plain_do o z y w (ix2 i j) =
    headSteps (headPart (of2 o i) (headOf j)) (cotHead z y w i (headOf j)) (placeOf j) :=
  (flat_at i j _).trans (doHeads_ref o z y w i (headOf j) (placeOf j))

theorem dz_ref : plain_dz o z y w (ix2 i j) = gateSteps (z (ix2 i (col (headOf j) (placeOf j))))
    (headNormal (headPart (of2 o i) (headOf j)) (placeOf j) * w (ix1 (placeOf j)) * y (ix2 i (col (headOf j) (placeOf j)))) :=
  (flat_at i j _).trans (dzHeads_ref o z y w i (headOf j) (placeOf j))

theorem dw_ref : plain_dw o z y (ix2 0 k) = ∑ i : Fin 16384, ∑ h : Fin 6,
    headNormal (headPart (of2 o i) h) k * (y (ix2 i (col h k)) * silu (z (ix2 i (col h k)))) := by
  unfold plain_dw
  pointwise
  rw [sum_first, Fin.sum_univ_one, Fin.sum_univ_one]
  pointwise
  rw [sum_first]
  pointwise
  simp only [normal_ref, heads_ref, silu_ref]

set_option maxRecDepth 100000 in
theorem result_do (m : (ℓ : Loc nD τ sig) → Buf (Elt Ideal) ℓ) (c : Dev nD) : Value.res_out0 m c =
    plain_do (m ((c : Thread nD τ).loc main_arg0)) (m ((c : Thread nD τ).loc main_arg1)) (m ((c : Thread nD τ).loc main_arg3))
      (m ((c : Thread nD τ).loc main_arg2)) := by
  unfold Value.res_out0 Value.res_main_v46
  rfl

end Reference

theorem quiescent_ref : Cert.quiescent_GateBwdRefIdeal := fun m ρ _ =>
  (θ_run Cert.GateBwdRefIdeal.defs _ _).mono (fun r h =>
      ⟨fun c => (h c).2.2.2, Idealize.ShloMosaic.sem_eq_zero_of_no_sems (by decide) r.2⟩)
    (Cert.GateBwdRefIdeal.Value.run (F := Ideal) m ρ)

section Compare

open Cert.GateBwdIdeal

variable (m : (ℓ : Loc nD τ sig) → Buf (Elt Ideal) ℓ) (c : Dev nD)

/-- The two derivatives of the rows agree. -/
theorem do_steps (o z y : Vec Ideal S16384x768 .f32) (w : Vec Ideal S128 .f32) (i : Fin 16384) (j : Fin 768) :
    plain_do o z y w (ix2 i j) = doRow (of2 o i) (of2 z i) (of2 y i) (fun k => w (ix1 k)) j := by
  rw [do_ref, headSteps_eq]
  unfold doRow
  refine congrArg (fun p => headSlope _ p _) (funext fun k => ?_)
  exact mul_right_comm _ _ _

/-- Where the cotangent and the scale are finite the two derivatives of the gate's argument agree. -/
theorem dz_steps (o z y : Vec Ideal S16384x768 .f32) (w : Vec Ideal S128 .f32) (hy : ∀ x, IsReal (y x)) (hw : ∀ x, IsReal (w x))
    (i : Fin 16384) (j : Fin 768) :
    plain_dz o z y w (ix2 i j) = dzRow (of2 o i) (of2 z i) (of2 y i) (fun k => w (ix1 k)) j := by
  rw [dz_ref, gateSteps_eq _ _ (.mul (.mul (headNormal_real _ _) (hw _)) (hy _))]
  unfold dzRow
  refine congrArg (gateSlope _) ?_
  rw [mul_comm, ← mul_assoc]
  rfl

/-- The two derivatives of the scale agree. -/
theorem dw_steps (o z y : Vec Ideal S16384x768 .f32) (k : Fin 128) :
    plain_dw o z y (ix2 0 k) = ∑ i : Fin 16384, dwRow (of2 o i) (of2 z i) (of2 y i) k := by
  rw [dw_ref]
  refine Finset.sum_congr rfl fun i _ => Finset.sum_congr rfl fun h _ => ?_
  rw [← mul_assoc, mul_comm (headNormal _ _)]
  rfl

end Compare

theorem algebraic : Cert.algebraic_GateBwdIdeal_GateBwdRefIdeal_pre_gate_finite := fun m ρ m' ρ' hpre hag =>
  ⟨fun c => arr2 (φ := .f32) (dO m c), fun c => arr2 (φ := .f32) (dZ m c), fun c => arr2 (φ := .f32) fun _ : Fin 1 => dW m c,
    (θ_run Cert.GateBwdIdeal.defs _ _).mono (fun _ h c => ⟨(h c).1.trans (final4 m c),
        (h c).2.1.trans (final5 m c), (h c).2.2.1.trans (final6 m c), (h c).2.2.2⟩)
      (Cert.GateBwdIdeal.Value.run_blocks (F := Ideal) m ρ),
    (θ_run Cert.GateBwdRefIdeal.defs _ _).mono (fun _ h c => by
        obtain ⟨h0, h1, h2, h3⟩ := hag c
        obtain ⟨hw, hy⟩ := hpre c
        have e0 : ∀ i j, Cert.GateBwdRefIdeal.Value.res_out0 m' c (ix2 i j) = dO m c i j := fun i j => by
          rw [result_do, h0, h1, h2, h3]
          exact do_steps _ _ _ _ i j
        have e1 : ∀ i j, plain_dz (m' ((c : Thread Cert.GateBwdRefIdeal.nD Cert.GateBwdRefIdeal.τ).loc Cert.GateBwdRefIdeal.main_arg0))
            (m' ((c : Thread Cert.GateBwdRefIdeal.nD Cert.GateBwdRefIdeal.τ).loc Cert.GateBwdRefIdeal.main_arg1))
            (m' ((c : Thread Cert.GateBwdRefIdeal.nD Cert.GateBwdRefIdeal.τ).loc Cert.GateBwdRefIdeal.main_arg3))
            (m' ((c : Thread Cert.GateBwdRefIdeal.nD Cert.GateBwdRefIdeal.τ).loc Cert.GateBwdRefIdeal.main_arg2)) (ix2 i j) = dZ m c i j := fun i j => by
          rw [h0, h1, h2, h3]
          exact dz_steps _ _ _ _ (fun x => isReal_of_cmp _ _ hy x rfl) (fun x => isReal_of_cmp _ _ hw x rfl) i j
        have e2 : ∀ (i : Fin 1) (k : Fin 128), plain_dw (m' ((c : Thread Cert.GateBwdRefIdeal.nD Cert.GateBwdRefIdeal.τ).loc Cert.GateBwdRefIdeal.main_arg0))
            (m' ((c : Thread Cert.GateBwdRefIdeal.nD Cert.GateBwdRefIdeal.τ).loc Cert.GateBwdRefIdeal.main_arg1))
            (m' ((c : Thread Cert.GateBwdRefIdeal.nD Cert.GateBwdRefIdeal.τ).loc Cert.GateBwdRefIdeal.main_arg3)) (ix2 i k) = dW m c k := fun i k => by
          obtain rfl : i = 0 := Subsingleton.elim _ _
          rw [h0, h1, h3]
          exact dw_steps _ _ _ k
        exact ⟨(h c).1.trans (eq_arr2 _ _ e0), (h c).2.1.trans (eq_arr2 _ _ e1), (h c).2.2.1.trans (eq_arr2 _ _ e2), (h c).2.2.2⟩)
      (Cert.GateBwdRefIdeal.Value.run (F := Ideal) m' ρ')⟩

end Cert.Proof.GateBwd
-- ==== Proof.lean ====
/- The claims' proofs put together. `Cert.Claim` is, for the recurrence's backward pass, for each of seventeen products of
   matrices, for the sum of the chips' gradients, for the optimiser's two updates and for the layer norm and the gate
   forward and backward, the frames of the kernel, of its idealization and of the reference, the idealization, and the
   kernel's arrays against the reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.RefFinal
public import proofs.«01_k».proof.Proof.Finite
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DUp.Frame
public import proofs.«01_k».proof.Proof.Gen.DUpIdeal.Frame
public import proofs.«01_k».proof.Proof.Gen.DUpIdeal.Value
public import proofs.«01_k».proof.Proof.Gen.DUpRefIdeal.Run
public import proofs.«01_k».proof.Proof.Gen.DwDown.Frame
public import proofs.«01_k».proof.Proof.Gen.DwDownIdeal.Frame
public import proofs.«01_k».proof.Proof.Gen.DwDownIdeal.Value
public import proofs.«01_k».proof.Proof.Gen.DwDownRefIdeal.Run
public import proofs.«01_k».proof.Proof.Gen.DwUp.Frame
public import proofs.«01_k».proof.Proof.Gen.DwUpIdeal.Frame
public import proofs.«01_k».proof.Proof.Gen.DwUpIdeal.Value
public import proofs.«01_k».proof.Proof.Gen.DwUpRefIdeal.Run
public import proofs.«01_k».proof.Proof.Gen.Dh.Frame
public import proofs.«01_k».proof.Proof.Gen.DhIdeal.Frame
public import proofs.«01_k».proof.Proof.Gen.DhIdeal.Value
public import proofs.«01_k».proof.Proof.Gen.DhRefIdeal.Run
public import proofs.«01_k».proof.Proof.Gen.Linear.Frame
public import proofs.«01_k».proof.Proof.Gen.LinearIdeal.Frame
public import proofs.«01_k».proof.Proof.Gen.LinearIdeal.Value
public import proofs.«01_k».proof.Proof.Gen.LinearRefIdeal.Run
public import proofs.«01_k».proof.Proof.Gen.LinearDx.Frame
public import proofs.«01_k».proof.Proof.Gen.LinearDxIdeal.Frame
public import proofs.«01_k».proof.Proof.Gen.LinearDxIdeal.Value
public import proofs.«01_k».proof.Proof.Gen.LinearDxRefIdeal.Run
public import proofs.«01_k».proof.Proof.Gen.LinearDw.Frame
public import proofs.«01_k».proof.Proof.Gen.LinearDwIdeal.Frame
public import proofs.«01_k».proof.Proof.Gen.LinearDwIdeal.Value
public import proofs.«01_k».proof.Proof.Gen.LinearDwRefIdeal.Run
public import proofs.«01_k».proof.Proof.Gen.LinearA.Frame
public import proofs.«01_k».proof.Proof.Gen.LinearAIdeal.Frame
public import proofs.«01_k».proof.Proof.Gen.LinearAIdeal.Value
public import proofs.«01_k».proof.Proof.Gen.LinearARefIdeal.Run
public import proofs.«01_k».proof.Proof.Gen.LinearADx.Frame
public import proofs.«01_k».proof.Proof.Gen.LinearADxIdeal.Frame
public import proofs.«01_k».proof.Proof.Gen.LinearADxIdeal.Value
public import proofs.«01_k».proof.Proof.Gen.LinearADxRefIdeal.Run
public import proofs.«01_k».proof.Proof.Gen.LinearADw.Frame
public import proofs.«01_k».proof.Proof.Gen.LinearADwIdeal.Frame
public import proofs.«01_k».proof.Proof.Gen.LinearADwIdeal.Value
public import proofs.«01_k».proof.Proof.Gen.LinearADwRefIdeal.Run
public import proofs.«01_k».proof.Proof.Gen.LinearKv.Frame
public import proofs.«01_k».proof.Proof.Gen.LinearKvIdeal.Frame
public import proofs.«01_k».proof.Proof.Gen.LinearKvIdeal.Value
public import proofs.«01_k».proof.Proof.Gen.LinearKvRefIdeal.Run
public import proofs.«01_k».proof.Proof.Gen.LinearKvDx.Frame
public import proofs.«01_k».proof.Proof.Gen.LinearKvDxIdeal.Frame
public import proofs.«01_k».proof.Proof.Gen.LinearKvDxIdeal.Value
public import proofs.«01_k».proof.Proof.Gen.LinearKvDxRefIdeal.Run
public import proofs.«01_k».proof.Proof.Gen.LinearKvDw.Frame
public import proofs.«01_k».proof.Proof.Gen.LinearKvDwIdeal.Frame
public import proofs.«01_k».proof.Proof.Gen.LinearKvDwIdeal.Value
public import proofs.«01_k».proof.Proof.Gen.LinearKvDwRefIdeal.Run
public import proofs.«01_k».proof.Proof.Gen.LinearMem.Frame
public import proofs.«01_k».proof.Proof.Gen.LinearMemIdeal.Frame
public import proofs.«01_k».proof.Proof.Gen.LinearMemIdeal.Value
public import proofs.«01_k».proof.Proof.Gen.LinearMemRefIdeal.Run
public import proofs.«01_k».proof.Proof.Gen.LinearMemDw.Frame
public import proofs.«01_k».proof.Proof.Gen.LinearMemDwIdeal.Frame
public import proofs.«01_k».proof.Proof.Gen.LinearMemDwIdeal.Value
public import proofs.«01_k».proof.Proof.Gen.LinearMemDwRefIdeal.Run
public import proofs.«01_k».proof.Proof.Gen.SumChips.Frame
public import proofs.«01_k».proof.Proof.Gen.SumChipsIdeal.Frame
public import proofs.«01_k».proof.Proof.Gen.SumChipsIdeal.Value
public import proofs.«01_k».proof.Proof.Gen.SumChipsRefIdeal.Run
public import proofs.«01_k».proof.Proof.Gen.Adam.Frame
public import proofs.«01_k».proof.Proof.Gen.AdamIdeal.Frame
public import proofs.«01_k».proof.Proof.Gen.AdamIdeal.Value
public import proofs.«01_k».proof.Proof.Gen.AdamRefIdeal.Run
public import proofs.«01_k».proof.Proof.Gen.AdamA.Frame
public import proofs.«01_k».proof.Proof.Gen.AdamAIdeal.Frame
public import proofs.«01_k».proof.Proof.Gen.AdamAIdeal.Value
public import proofs.«01_k».proof.Proof.Gen.AdamARefIdeal.Run
public import proofs.«01_k».proof.Proof.Gen.LnFwd.Frame
public import proofs.«01_k».proof.Proof.Gen.LnFwdIdeal.Frame
public import proofs.«01_k».proof.Proof.Gen.LnFwdIdeal.Value
public import proofs.«01_k».proof.Proof.Gen.LnFwdRefIdeal.Run
public import proofs.«01_k».proof.Proof.Gen.LnBwd.Frame
public import proofs.«01_k».proof.Proof.Gen.LnBwdIdeal.Frame
public import proofs.«01_k».proof.Proof.Gen.LnBwdIdeal.Value
public import proofs.«01_k».proof.Proof.Gen.LnBwdRefIdeal.Run
public import proofs.«01_k».proof.Proof.Gen.GateFwd.Frame
public import proofs.«01_k».proof.Proof.Gen.GateFwdIdeal.Frame
public import proofs.«01_k».proof.Proof.Gen.GateFwdIdeal.Value
public import proofs.«01_k».proof.Proof.Gen.GateFwdRefIdeal.Run
public import proofs.«01_k».proof.Proof.Gen.GateBwd.Frame
public import proofs.«01_k».proof.Proof.Gen.GateBwdIdeal.Frame
public import proofs.«01_k».proof.Proof.Gen.GateBwdIdeal.Value
public import proofs.«01_k».proof.Proof.Gen.GateBwdRefIdeal.Run
public import proofs.«01_k».proof.Proof.Gen.Pre_gate_finite
public import proofs.«01_k».proof.Proof.Gen.Pre_ln_finite
public import proofs.«01_k».proof.Proof.UpFinal
public import proofs.«01_k».proof.Proof.DownFinal
public import proofs.«01_k».proof.Proof.DUpFinal
public import proofs.«01_k».proof.Proof.DwDownFinal
public import proofs.«01_k».proof.Proof.DwUpFinal
public import proofs.«01_k».proof.Proof.DhFinal
public import proofs.«01_k».proof.Proof.LinearFinal
public import proofs.«01_k».proof.Proof.LinearDxFinal
public import proofs.«01_k».proof.Proof.LinearDwFinal
public import proofs.«01_k».proof.Proof.LinearAFinal
public import proofs.«01_k».proof.Proof.LinearADxFinal
public import proofs.«01_k».proof.Proof.LinearADwFinal
public import proofs.«01_k».proof.Proof.LinearKvFinal
public import proofs.«01_k».proof.Proof.LinearKvDxFinal
public import proofs.«01_k».proof.Proof.LinearKvDwFinal
public import proofs.«01_k».proof.Proof.LinearMemFinal
public import proofs.«01_k».proof.Proof.LinearMemDwFinal
public import proofs.«01_k».proof.Proof.SumChipsFinal
public import proofs.«01_k».proof.Proof.AdamFinal
public import proofs.«01_k».proof.Proof.AdamAFinal
public import proofs.«01_k».proof.Proof.LnFwdFinal
public import proofs.«01_k».proof.Proof.LnBwdFinal
public import proofs.«01_k».proof.Proof.GateFwdFinal
public import proofs.«01_k».proof.Proof.GateBwdFinal
public import Idealize.ShloMosaic.Adequacy
public import Idealize.ShloMosaic.Init

@[expose] public section

noncomputable section

namespace Cert.Proof

open Idealize.ShloMosaic Idealize.SL.Sem

theorem frame_reference : Cert.quiescent_ReferenceIdeal := fun m ρ _ =>
  (θ_run Cert.ReferenceIdeal.defs _ _).mono (fun r h =>
      ⟨fun c => (h c).2.2.2.2.2.2, Idealize.ShloMosaic.sem_eq_zero_of_no_sems (by decide) r.2⟩)
    (Cert.ReferenceIdeal.Value.run (F := Ideal) m ρ)

theorem algebraic_scan : Cert.algebraic_KernelIdeal_ReferenceIdeal_pre_finite := fun m ρ m' ρ' hpre hag =>
  have hI : ∀ c, (argsOf m c).Finite := fun c => finite_args m hpre c
  have hR : ∀ c, refArgs m' c = argsOf m c := fun c => by
    obtain ⟨h0, h1, h2, h3, h4, h5, h6, h7⟩ := hag c
    unfold refArgs argsOf
    rw [h0, h1, h2, h3, h4, h5, h6, h7]
  ⟨fun c => tokArr (argsOf m c).du, fun c => tokArr (argsOf m c).dw, fun c => tokArr (argsOf m c).dqd,
    fun c => tokArr (argsOf m c).dkd, fun c => sqArr (argsOf m c).dintra, fun c => laneArr (argsOf m c).dg,
    (θ_run Cert.KernelIdeal.defs _ _).mono (fun _ h c =>
        ⟨(h c).1.trans (final8 m c (hI c)), (h c).2.1.trans (final9 m c (hI c)), (h c).2.2.1.trans (final10 m c (hI c)),
          (h c).2.2.2.1.trans (final11 m c (hI c)), (h c).2.2.2.2.1.trans (final12 m c (hI c)),
          (h c).2.2.2.2.2.1.trans (final13 m c (hI c)), (h c).2.2.2.2.2.2⟩)
      (Cert.KernelIdeal.Value.run_blocks (F := Ideal) m ρ),
    (θ_run Cert.ReferenceIdeal.defs _ _).mono (fun _ h c =>
        ⟨(h c).1.trans ((result_du m' c).trans (by rw [hR])), (h c).2.1.trans ((result_dw m' c).trans (by rw [hR])),
          (h c).2.2.1.trans ((result_dqd m' c).trans (by rw [hR])),
          (h c).2.2.2.1.trans ((result_dkd m' c).trans (by rw [hR])),
          (h c).2.2.2.2.1.trans ((result_dintra m' c).trans (by rw [hR])),
          (h c).2.2.2.2.2.1.trans ((result_dg m' c).trans (by rw [hR])), (h c).2.2.2.2.2.2⟩)
      (Cert.ReferenceIdeal.Value.run (F := Ideal) m' ρ')⟩

theorem claim : Cert.Claim :=
  ⟨Cert.Kernel.Gen.facts, Cert.KernelIdeal.Gen.facts, Cert.ReferenceIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.DUp.Gen.facts, Cert.DUpIdeal.Gen.facts, Cert.DUpRefIdeal.Gen.facts,
    Cert.DwDown.Gen.facts, Cert.DwDownIdeal.Gen.facts, Cert.DwDownRefIdeal.Gen.facts,
    Cert.DwUp.Gen.facts, Cert.DwUpIdeal.Gen.facts, Cert.DwUpRefIdeal.Gen.facts,
    Cert.Dh.Gen.facts, Cert.DhIdeal.Gen.facts, Cert.DhRefIdeal.Gen.facts,
    Cert.Linear.Gen.facts, Cert.LinearIdeal.Gen.facts, Cert.LinearRefIdeal.Gen.facts,
    Cert.LinearDx.Gen.facts, Cert.LinearDxIdeal.Gen.facts, Cert.LinearDxRefIdeal.Gen.facts,
    Cert.LinearDw.Gen.facts, Cert.LinearDwIdeal.Gen.facts, Cert.LinearDwRefIdeal.Gen.facts,
    Cert.LinearA.Gen.facts, Cert.LinearAIdeal.Gen.facts, Cert.LinearARefIdeal.Gen.facts,
    Cert.LinearADx.Gen.facts, Cert.LinearADxIdeal.Gen.facts, Cert.LinearADxRefIdeal.Gen.facts,
    Cert.LinearADw.Gen.facts, Cert.LinearADwIdeal.Gen.facts, Cert.LinearADwRefIdeal.Gen.facts,
    Cert.LinearKv.Gen.facts, Cert.LinearKvIdeal.Gen.facts, Cert.LinearKvRefIdeal.Gen.facts,
    Cert.LinearKvDx.Gen.facts, Cert.LinearKvDxIdeal.Gen.facts, Cert.LinearKvDxRefIdeal.Gen.facts,
    Cert.LinearKvDw.Gen.facts, Cert.LinearKvDwIdeal.Gen.facts, Cert.LinearKvDwRefIdeal.Gen.facts,
    Cert.LinearMem.Gen.facts, Cert.LinearMemIdeal.Gen.facts, Cert.LinearMemRefIdeal.Gen.facts,
    Cert.LinearMemDw.Gen.facts, Cert.LinearMemDwIdeal.Gen.facts, Cert.LinearMemDwRefIdeal.Gen.facts,
    Cert.SumChips.Gen.facts, Cert.SumChipsIdeal.Gen.facts, Cert.SumChipsRefIdeal.Gen.facts,
    Cert.Adam.Gen.facts, Cert.AdamIdeal.Gen.facts, Cert.AdamRefIdeal.Gen.facts,
    Cert.AdamA.Gen.facts, Cert.AdamAIdeal.Gen.facts, Cert.AdamARefIdeal.Gen.facts,
    Cert.LnFwd.Gen.facts, Cert.LnFwdIdeal.Gen.facts, Cert.LnFwdRefIdeal.Gen.facts,
    Cert.LnBwd.Gen.facts, Cert.LnBwdIdeal.Gen.facts, Cert.LnBwdRefIdeal.Gen.facts,
    Cert.GateFwd.Gen.facts, Cert.GateFwdIdeal.Gen.facts, Cert.GateFwdRefIdeal.Gen.facts,
    Cert.GateBwd.Gen.facts, Cert.GateBwdIdeal.Gen.facts, Cert.GateBwdRefIdeal.Gen.facts,
    Cert.Pre_finite.Gen.facts, Cert.Pre_ln_finite.Gen.facts, Cert.Pre_gate_finite.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Up.Gen.frame m ρ, fun m ρ _ => Cert.UpIdeal.Gen.frame m ρ, Up.quiescent_ref,
    fun m ρ _ => Cert.Down.Gen.frame m ρ, fun m ρ _ => Cert.DownIdeal.Gen.frame m ρ, Down.quiescent_ref,
    fun m ρ _ => Cert.DUp.Gen.frame m ρ, fun m ρ _ => Cert.DUpIdeal.Gen.frame m ρ, DUp.quiescent_ref,
    fun m ρ _ => Cert.DwDown.Gen.frame m ρ, fun m ρ _ => Cert.DwDownIdeal.Gen.frame m ρ, DwDown.quiescent_ref,
    fun m ρ _ => Cert.DwUp.Gen.frame m ρ, fun m ρ _ => Cert.DwUpIdeal.Gen.frame m ρ, DwUp.quiescent_ref,
    fun m ρ _ => Cert.Dh.Gen.frame m ρ, fun m ρ _ => Cert.DhIdeal.Gen.frame m ρ, Dh.quiescent_ref,
    fun m ρ _ => Cert.Linear.Gen.frame m ρ, fun m ρ _ => Cert.LinearIdeal.Gen.frame m ρ, Linear.quiescent_ref,
    fun m ρ _ => Cert.LinearDx.Gen.frame m ρ, fun m ρ _ => Cert.LinearDxIdeal.Gen.frame m ρ, LinearDx.quiescent_ref,
    fun m ρ _ => Cert.LinearDw.Gen.frame m ρ, fun m ρ _ => Cert.LinearDwIdeal.Gen.frame m ρ, LinearDw.quiescent_ref,
    fun m ρ _ => Cert.LinearA.Gen.frame m ρ, fun m ρ _ => Cert.LinearAIdeal.Gen.frame m ρ, LinearA.quiescent_ref,
    fun m ρ _ => Cert.LinearADx.Gen.frame m ρ, fun m ρ _ => Cert.LinearADxIdeal.Gen.frame m ρ, LinearADx.quiescent_ref,
    fun m ρ _ => Cert.LinearADw.Gen.frame m ρ, fun m ρ _ => Cert.LinearADwIdeal.Gen.frame m ρ, LinearADw.quiescent_ref,
    fun m ρ _ => Cert.LinearKv.Gen.frame m ρ, fun m ρ _ => Cert.LinearKvIdeal.Gen.frame m ρ, LinearKv.quiescent_ref,
    fun m ρ _ => Cert.LinearKvDx.Gen.frame m ρ, fun m ρ _ => Cert.LinearKvDxIdeal.Gen.frame m ρ, LinearKvDx.quiescent_ref,
    fun m ρ _ => Cert.LinearKvDw.Gen.frame m ρ, fun m ρ _ => Cert.LinearKvDwIdeal.Gen.frame m ρ, LinearKvDw.quiescent_ref,
    fun m ρ _ => Cert.LinearMem.Gen.frame m ρ, fun m ρ _ => Cert.LinearMemIdeal.Gen.frame m ρ, LinearMem.quiescent_ref,
    fun m ρ _ => Cert.LinearMemDw.Gen.frame m ρ, fun m ρ _ => Cert.LinearMemDwIdeal.Gen.frame m ρ, LinearMemDw.quiescent_ref,
    fun m ρ _ => Cert.SumChips.Gen.frame m ρ, fun m ρ _ => Cert.SumChipsIdeal.Gen.frame m ρ, SumChips.quiescent_ref,
    fun m ρ _ => Cert.Adam.Gen.frame m ρ, fun m ρ _ => Cert.AdamIdeal.Gen.frame m ρ, Adam.quiescent_ref,
    fun m ρ _ => Cert.AdamA.Gen.frame m ρ, fun m ρ _ => Cert.AdamAIdeal.Gen.frame m ρ, AdamA.quiescent_ref,
    fun m ρ _ => Cert.LnFwd.Gen.frame m ρ, fun m ρ _ => Cert.LnFwdIdeal.Gen.frame m ρ, LnFwd.quiescent_ref,
    fun m ρ _ => Cert.LnBwd.Gen.frame m ρ, fun m ρ _ => Cert.LnBwdIdeal.Gen.frame m ρ,
    fun m ρ _ => Cert.LnBwdIdeal.Gen.frame m ρ, LnBwd.quiescent_ref, fun m ρ _ => LnBwd.quiescent_ref m ρ trivial,
    fun m ρ _ => Cert.GateFwd.Gen.frame m ρ, fun m ρ _ => Cert.GateFwdIdeal.Gen.frame m ρ, GateFwd.quiescent_ref,
    fun m ρ _ => Cert.GateBwd.Gen.frame m ρ, fun m ρ _ => Cert.GateBwdIdeal.Gen.frame m ρ,
    fun m ρ _ => Cert.GateBwdIdeal.Gen.frame m ρ, GateBwd.quiescent_ref, fun m ρ _ => GateBwd.quiescent_ref m ρ trivial,
    trivial, algebraic_scan,
    trivial, Up.algebraic,
    trivial, Down.algebraic,
    trivial, DUp.algebraic,
    trivial, DwDown.algebraic,
    trivial, DwUp.algebraic,
    trivial, Dh.algebraic,
    trivial, Linear.algebraic,
    trivial, LinearDx.algebraic,
    trivial, LinearDw.algebraic,
    trivial, LinearA.algebraic,
    trivial, LinearADx.algebraic,
    trivial, LinearADw.algebraic,
    trivial, LinearKv.algebraic,
    trivial, LinearKvDx.algebraic,
    trivial, LinearKvDw.algebraic,
    trivial, LinearMem.algebraic,
    trivial, LinearMemDw.algebraic,
    trivial, SumChips.algebraic,
    trivial, Adam.algebraic,
    trivial, AdamA.algebraic,
    trivial, LnFwd.algebraic,
    trivial, LnBwd.algebraic,
    trivial, GateFwd.algebraic,
    trivial, GateBwd.algebraic⟩

end Cert.Proof

end
